-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_gates [hPre_finite_gates : Cert.Pre_finite_gates.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_gates.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_gates [hPre_finite_gates : Cert.Pre_finite_gates.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_gates.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_norm [hPre_finite_norm : Cert.Pre_finite_norm.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_norm.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_norm [hPre_finite_norm : Cert.Pre_finite_norm.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_norm.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_mixer [hPre_finite_mixer : Cert.Pre_finite_mixer.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_mixer.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_mixer [hPre_finite_mixer : Cert.Pre_finite_mixer.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_mixer.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_prep [hPre_finite_prep : Cert.Pre_finite_prep.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_prep.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_prep [hPre_finite_prep : Cert.Pre_finite_prep.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_prep.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite_gates [hKernel5Ideal : Cert.Kernel5Ideal.Facts] [hPre_finite_gates : Cert.Pre_finite_gates.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_gates m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite_gates [hReference5Ideal : Cert.Reference5Ideal.Facts] [hPre_finite_gates : Cert.Pre_finite_gates.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_gates m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite_norm [hKernel6Ideal : Cert.Kernel6Ideal.Facts] [hPre_finite_norm : Cert.Pre_finite_norm.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_norm m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite_norm [hReference6Ideal : Cert.Reference6Ideal.Facts] [hPre_finite_norm : Cert.Pre_finite_norm.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_norm m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite_mixer [hKernel7Ideal : Cert.Kernel7Ideal.Facts] [hPre_finite_mixer : Cert.Pre_finite_mixer.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_mixer m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite_mixer [hReference7Ideal : Cert.Reference7Ideal.Facts] [hPre_finite_mixer : Cert.Pre_finite_mixer.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_mixer m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Kernel8Ideal_pre_finite_prep [hKernel8Ideal : Cert.Kernel8Ideal.Facts] [hPre_finite_prep : Cert.Pre_finite_prep.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_prep m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Reference8Ideal_pre_finite_prep [hReference8Ideal : Cert.Reference8Ideal.Facts] [hPre_finite_prep : Cert.Pre_finite_prep.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_prep m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11)
      ∧ r.2.mem ((c.tc : Thread Cert.Kernel9.nD Cert.Kernel9.τ).loc Cert.Kernel9.main_arg12) = m ((c.tc : Thread Cert.Kernel9.nD Cert.Kernel9.τ).loc Cert.Kernel9.main_arg12)
      ∧ r.2.mem ((c.tc : Thread Cert.Kernel9.nD Cert.Kernel9.τ).loc Cert.Kernel9.main_arg13) = m ((c.tc : Thread Cert.Kernel9.nD Cert.Kernel9.τ).loc Cert.Kernel9.main_arg13)
      ∧ r.2.mem ((c.tc : Thread Cert.Kernel9.nD Cert.Kernel9.τ).loc Cert.Kernel9.main_arg14) = m ((c.tc : Thread Cert.Kernel9.nD Cert.Kernel9.τ).loc Cert.Kernel9.main_arg14)
      ∧ r.2.mem ((c.tc : Thread Cert.Kernel9.nD Cert.Kernel9.τ).loc Cert.Kernel9.main_arg15) = m ((c.tc : Thread Cert.Kernel9.nD Cert.Kernel9.τ).loc Cert.Kernel9.main_arg15)
      ∧ r.2.mem ((c.tc : Thread Cert.Kernel9.nD Cert.Kernel9.τ).loc Cert.Kernel9.main_arg16) = m ((c.tc : Thread Cert.Kernel9.nD Cert.Kernel9.τ).loc Cert.Kernel9.main_arg16)
      ∧ r.2.mem ((c.tc : Thread Cert.Kernel9.nD Cert.Kernel9.τ).loc Cert.Kernel9.main_arg17) = m ((c.tc : Thread Cert.Kernel9.nD Cert.Kernel9.τ).loc Cert.Kernel9.main_arg17)
      ∧ r.2.mem ((c.tc : Thread Cert.Kernel9.nD Cert.Kernel9.τ).loc Cert.Kernel9.main_arg18) = m ((c.tc : Thread Cert.Kernel9.nD Cert.Kernel9.τ).loc Cert.Kernel9.main_arg18)
      ∧ r.2.mem ((c.tc : Thread Cert.Kernel9.nD Cert.Kernel9.τ).loc Cert.Kernel9.main_arg19) = m ((c.tc : Thread Cert.Kernel9.nD Cert.Kernel9.τ).loc Cert.Kernel9.main_arg19)
      ∧ r.2.mem ((c.tc : Thread Cert.Kernel9.nD Cert.Kernel9.τ).loc Cert.Kernel9.main_arg20) = m ((c.tc : Thread Cert.Kernel9.nD Cert.Kernel9.τ).loc Cert.Kernel9.main_arg20)
      ∧ r.2.mem ((c.tc : Thread Cert.Kernel9.nD Cert.Kernel9.τ).loc Cert.Kernel9.main_arg21) = m ((c.tc : Thread Cert.Kernel9.nD Cert.Kernel9.τ).loc Cert.Kernel9.main_arg21)
      ∧ r.2.mem ((c.tc : Thread Cert.Kernel9.nD Cert.Kernel9.τ).loc Cert.Kernel9.main_arg22) = m ((c.tc : Thread Cert.Kernel9.nD Cert.Kernel9.τ).loc Cert.Kernel9.main_arg22)
      ∧ r.2.mem ((c.tc : Thread Cert.Kernel9.nD Cert.Kernel9.τ).loc Cert.Kernel9.main_arg23) = m ((c.tc : Thread Cert.Kernel9.nD Cert.Kernel9.τ).loc Cert.Kernel9.main_arg23)
      ∧ r.2.mem ((c.tc : Thread Cert.Kernel9.nD Cert.Kernel9.τ).loc Cert.Kernel9.main_arg24) = m ((c.tc : Thread Cert.Kernel9.nD Cert.Kernel9.τ).loc Cert.Kernel9.main_arg24)
      ∧ r.2.mem ((c.tc : Thread Cert.Kernel9.nD Cert.Kernel9.τ).loc Cert.Kernel9.main_arg25) = m ((c.tc : Thread Cert.Kernel9.nD Cert.Kernel9.τ).loc Cert.Kernel9.main_arg25)
      ∧ r.2.mem ((c.tc : Thread Cert.Kernel9.nD Cert.Kernel9.τ).loc Cert.Kernel9.main_arg26) = m ((c.tc : Thread Cert.Kernel9.nD Cert.Kernel9.τ).loc Cert.Kernel9.main_arg26)
      ∧ r.2.mem ((c.tc : Thread Cert.Kernel9.nD Cert.Kernel9.τ).loc Cert.Kernel9.main_arg27) = m ((c.tc : Thread Cert.Kernel9.nD Cert.Kernel9.τ).loc Cert.Kernel9.main_arg27))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
      ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
      ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
      ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14)
      ∧ r.2.mem ((c.tc : Thread Cert.Kernel9Ideal.nD Cert.Kernel9Ideal.τ).loc Cert.Kernel9Ideal.main_arg15) = m ((c.tc : Thread Cert.Kernel9Ideal.nD Cert.Kernel9Ideal.τ).loc Cert.Kernel9Ideal.main_arg15)
      ∧ r.2.mem ((c.tc : Thread Cert.Kernel9Ideal.nD Cert.Kernel9Ideal.τ).loc Cert.Kernel9Ideal.main_arg16) = m ((c.tc : Thread Cert.Kernel9Ideal.nD Cert.Kernel9Ideal.τ).loc Cert.Kernel9Ideal.main_arg16)
      ∧ r.2.mem ((c.tc : Thread Cert.Kernel9Ideal.nD Cert.Kernel9Ideal.τ).loc Cert.Kernel9Ideal.main_arg17) = m ((c.tc : Thread Cert.Kernel9Ideal.nD Cert.Kernel9Ideal.τ).loc Cert.Kernel9Ideal.main_arg17)
      ∧ r.2.mem ((c.tc : Thread Cert.Kernel9Ideal.nD Cert.Kernel9Ideal.τ).loc Cert.Kernel9Ideal.main_arg18) = m ((c.tc : Thread Cert.Kernel9Ideal.nD Cert.Kernel9Ideal.τ).loc Cert.Kernel9Ideal.main_arg18)
      ∧ r.2.mem ((c.tc : Thread Cert.Kernel9Ideal.nD Cert.Kernel9Ideal.τ).loc Cert.Kernel9Ideal.main_arg19) = m ((c.tc : Thread Cert.Kernel9Ideal.nD Cert.Kernel9Ideal.τ).loc Cert.Kernel9Ideal.main_arg19)
      ∧ r.2.mem ((c.tc : Thread Cert.Kernel9Ideal.nD Cert.Kernel9Ideal.τ).loc Cert.Kernel9Ideal.main_arg20) = m ((c.tc : Thread Cert.Kernel9Ideal.nD Cert.Kernel9Ideal.τ).loc Cert.Kernel9Ideal.main_arg20)
      ∧ r.2.mem ((c.tc : Thread Cert.Kernel9Ideal.nD Cert.Kernel9Ideal.τ).loc Cert.Kernel9Ideal.main_arg21) = m ((c.tc : Thread Cert.Kernel9Ideal.nD Cert.Kernel9Ideal.τ).loc Cert.Kernel9Ideal.main_arg21)
      ∧ r.2.mem ((c.tc : Thread Cert.Kernel9Ideal.nD Cert.Kernel9Ideal.τ).loc Cert.Kernel9Ideal.main_arg22) = m ((c.tc : Thread Cert.Kernel9Ideal.nD Cert.Kernel9Ideal.τ).loc Cert.Kernel9Ideal.main_arg22)
      ∧ r.2.mem ((c.tc : Thread Cert.Kernel9Ideal.nD Cert.Kernel9Ideal.τ).loc Cert.Kernel9Ideal.main_arg23) = m ((c.tc : Thread Cert.Kernel9Ideal.nD Cert.Kernel9Ideal.τ).loc Cert.Kernel9Ideal.main_arg23)
      ∧ r.2.mem ((c.tc : Thread Cert.Kernel9Ideal.nD Cert.Kernel9Ideal.τ).loc Cert.Kernel9Ideal.main_arg24) = m ((c.tc : Thread Cert.Kernel9Ideal.nD Cert.Kernel9Ideal.τ).loc Cert.Kernel9Ideal.main_arg24)
      ∧ r.2.mem ((c.tc : Thread Cert.Kernel9Ideal.nD Cert.Kernel9Ideal.τ).loc Cert.Kernel9Ideal.main_arg25) = m ((c.tc : Thread Cert.Kernel9Ideal.nD Cert.Kernel9Ideal.τ).loc Cert.Kernel9Ideal.main_arg25)
      ∧ r.2.mem ((c.tc : Thread Cert.Kernel9Ideal.nD Cert.Kernel9Ideal.τ).loc Cert.Kernel9Ideal.main_arg26) = m ((c.tc : Thread Cert.Kernel9Ideal.nD Cert.Kernel9Ideal.τ).loc Cert.Kernel9Ideal.main_arg26)
      ∧ r.2.mem ((c.tc : Thread Cert.Kernel9Ideal.nD Cert.Kernel9Ideal.τ).loc Cert.Kernel9Ideal.main_arg27) = m ((c.tc : Thread Cert.Kernel9Ideal.nD Cert.Kernel9Ideal.τ).loc Cert.Kernel9Ideal.main_arg27))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11)
      ∧ r.2.mem ((c.tc : Thread Cert.Reference9Ideal.nD Cert.Reference9Ideal.τ).loc Cert.Reference9Ideal.main_arg12) = m ((c.tc : Thread Cert.Reference9Ideal.nD Cert.Reference9Ideal.τ).loc Cert.Reference9Ideal.main_arg12)
      ∧ r.2.mem ((c.tc : Thread Cert.Reference9Ideal.nD Cert.Reference9Ideal.τ).loc Cert.Reference9Ideal.main_arg13) = m ((c.tc : Thread Cert.Reference9Ideal.nD Cert.Reference9Ideal.τ).loc Cert.Reference9Ideal.main_arg13)
      ∧ r.2.mem ((c.tc : Thread Cert.Reference9Ideal.nD Cert.Reference9Ideal.τ).loc Cert.Reference9Ideal.main_arg14) = m ((c.tc : Thread Cert.Reference9Ideal.nD Cert.Reference9Ideal.τ).loc Cert.Reference9Ideal.main_arg14)
      ∧ r.2.mem ((c.tc : Thread Cert.Reference9Ideal.nD Cert.Reference9Ideal.τ).loc Cert.Reference9Ideal.main_arg15) = m ((c.tc : Thread Cert.Reference9Ideal.nD Cert.Reference9Ideal.τ).loc Cert.Reference9Ideal.main_arg15)
      ∧ r.2.mem ((c.tc : Thread Cert.Reference9Ideal.nD Cert.Reference9Ideal.τ).loc Cert.Reference9Ideal.main_arg16) = m ((c.tc : Thread Cert.Reference9Ideal.nD Cert.Reference9Ideal.τ).loc Cert.Reference9Ideal.main_arg16)
      ∧ r.2.mem ((c.tc : Thread Cert.Reference9Ideal.nD Cert.Reference9Ideal.τ).loc Cert.Reference9Ideal.main_arg17) = m ((c.tc : Thread Cert.Reference9Ideal.nD Cert.Reference9Ideal.τ).loc Cert.Reference9Ideal.main_arg17)
      ∧ r.2.mem ((c.tc : Thread Cert.Reference9Ideal.nD Cert.Reference9Ideal.τ).loc Cert.Reference9Ideal.main_arg18) = m ((c.tc : Thread Cert.Reference9Ideal.nD Cert.Reference9Ideal.τ).loc Cert.Reference9Ideal.main_arg18)
      ∧ r.2.mem ((c.tc : Thread Cert.Reference9Ideal.nD Cert.Reference9Ideal.τ).loc Cert.Reference9Ideal.main_arg19) = m ((c.tc : Thread Cert.Reference9Ideal.nD Cert.Reference9Ideal.τ).loc Cert.Reference9Ideal.main_arg19)
      ∧ r.2.mem ((c.tc : Thread Cert.Reference9Ideal.nD Cert.Reference9Ideal.τ).loc Cert.Reference9Ideal.main_arg20) = m ((c.tc : Thread Cert.Reference9Ideal.nD Cert.Reference9Ideal.τ).loc Cert.Reference9Ideal.main_arg20)
      ∧ r.2.mem ((c.tc : Thread Cert.Reference9Ideal.nD Cert.Reference9Ideal.τ).loc Cert.Reference9Ideal.main_arg21) = m ((c.tc : Thread Cert.Reference9Ideal.nD Cert.Reference9Ideal.τ).loc Cert.Reference9Ideal.main_arg21)
      ∧ r.2.mem ((c.tc : Thread Cert.Reference9Ideal.nD Cert.Reference9Ideal.τ).loc Cert.Reference9Ideal.main_arg22) = m ((c.tc : Thread Cert.Reference9Ideal.nD Cert.Reference9Ideal.τ).loc Cert.Reference9Ideal.main_arg22)
      ∧ r.2.mem ((c.tc : Thread Cert.Reference9Ideal.nD Cert.Reference9Ideal.τ).loc Cert.Reference9Ideal.main_arg23) = m ((c.tc : Thread Cert.Reference9Ideal.nD Cert.Reference9Ideal.τ).loc Cert.Reference9Ideal.main_arg23)
      ∧ r.2.mem ((c.tc : Thread Cert.Reference9Ideal.nD Cert.Reference9Ideal.τ).loc Cert.Reference9Ideal.main_arg24) = m ((c.tc : Thread Cert.Reference9Ideal.nD Cert.Reference9Ideal.τ).loc Cert.Reference9Ideal.main_arg24)
      ∧ r.2.mem ((c.tc : Thread Cert.Reference9Ideal.nD Cert.Reference9Ideal.τ).loc Cert.Reference9Ideal.main_arg25) = m ((c.tc : Thread Cert.Reference9Ideal.nD Cert.Reference9Ideal.τ).loc Cert.Reference9Ideal.main_arg25)
      ∧ r.2.mem ((c.tc : Thread Cert.Reference9Ideal.nD Cert.Reference9Ideal.τ).loc Cert.Reference9Ideal.main_arg26) = m ((c.tc : Thread Cert.Reference9Ideal.nD Cert.Reference9Ideal.τ).loc Cert.Reference9Ideal.main_arg26)
      ∧ r.2.mem ((c.tc : Thread Cert.Reference9Ideal.nD Cert.Reference9Ideal.τ).loc Cert.Reference9Ideal.main_arg27) = m ((c.tc : Thread Cert.Reference9Ideal.nD Cert.Reference9Ideal.τ).loc Cert.Reference9Ideal.main_arg27))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v1)) (v2 : (c : Dev Cert.Kernel2Ideal.nD) → Buf (Elt Ideal) ((c.tc : Thread Cert.Kernel2Ideal.nD Cert.Kernel2Ideal.τ).loc Cert.Kernel2Ideal.main_v2_0)) (v3 : (c : Dev Cert.Kernel2Ideal.nD) → Buf (Elt Ideal) ((c.tc : Thread Cert.Kernel2Ideal.nD Cert.Kernel2Ideal.τ).loc Cert.Kernel2Ideal.main_v4)) (v4 : (c : Dev Cert.Kernel2Ideal.nD) → Buf (Elt Ideal) ((c.tc : Thread Cert.Kernel2Ideal.nD Cert.Kernel2Ideal.τ).loc Cert.Kernel2Ideal.main_v5_0)) (v5 : (c : Dev Cert.Kernel2Ideal.nD) → Buf (Elt Ideal) ((c.tc : Thread Cert.Kernel2Ideal.nD Cert.Kernel2Ideal.τ).loc Cert.Kernel2Ideal.main_v5_1)) (v6 : (c : Dev Cert.Kernel2Ideal.nD) → Buf (Elt Ideal) ((c.tc : Thread Cert.Kernel2Ideal.nD Cert.Kernel2Ideal.τ).loc Cert.Kernel2Ideal.main_v3_0)) (v7 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v1) = v1 c
          ∧ r.2.mem ((c.tc : Thread Cert.Kernel2Ideal.nD Cert.Kernel2Ideal.τ).loc Cert.Kernel2Ideal.main_v2_0) = v2 c
          ∧ r.2.mem ((c.tc : Thread Cert.Kernel2Ideal.nD Cert.Kernel2Ideal.τ).loc Cert.Kernel2Ideal.main_v4) = v3 c
          ∧ r.2.mem ((c.tc : Thread Cert.Kernel2Ideal.nD Cert.Kernel2Ideal.τ).loc Cert.Kernel2Ideal.main_v5_0) = v4 c
          ∧ r.2.mem ((c.tc : Thread Cert.Kernel2Ideal.nD Cert.Kernel2Ideal.τ).loc Cert.Kernel2Ideal.main_v5_1) = v5 c
          ∧ r.2.mem ((c.tc : Thread Cert.Kernel2Ideal.nD Cert.Kernel2Ideal.τ).loc Cert.Kernel2Ideal.main_v3_0) = v6 c
          ∧ r.2.mem ((c.tc : Thread Cert.Kernel2Ideal.nD Cert.Kernel2Ideal.τ).loc Cert.Kernel2Ideal.main_v3_1) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_v5) = v1 c
          ∧ r.2.mem ((c.tc : Thread Cert.Reference2Ideal.nD Cert.Reference2Ideal.τ).loc Cert.Reference2Ideal.main_v10) = v2 c
          ∧ r.2.mem ((c.tc : Thread Cert.Reference2Ideal.nD Cert.Reference2Ideal.τ).loc Cert.Reference2Ideal.main_v14) = v3 c
          ∧ r.2.mem ((c.tc : Thread Cert.Reference2Ideal.nD Cert.Reference2Ideal.τ).loc Cert.Reference2Ideal.main_v13) = v4 c
          ∧ r.2.mem ((c.tc : Thread Cert.Reference2Ideal.nD Cert.Reference2Ideal.τ).loc Cert.Reference2Ideal.main_v15) = v5 c
          ∧ r.2.mem ((c.tc : Thread Cert.Reference2Ideal.nD Cert.Reference2Ideal.τ).loc Cert.Reference2Ideal.main_v8) = v6 c
          ∧ r.2.mem ((c.tc : Thread Cert.Reference2Ideal.nD Cert.Reference2Ideal.τ).loc Cert.Reference2Ideal.main_v16) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)) (v1 : (c : Dev Cert.Kernel3Ideal.nD) → Buf (Elt Ideal) ((c.tc : Thread Cert.Kernel3Ideal.nD Cert.Kernel3Ideal.τ).loc Cert.Kernel3Ideal.main_v1)) (v2 : (c : Dev Cert.Kernel3Ideal.nD) → Buf (Elt Ideal) ((c.tc : Thread Cert.Kernel3Ideal.nD Cert.Kernel3Ideal.τ).loc Cert.Kernel3Ideal.main_v2_0)) (v3 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_v1) = v1 c
          ∧ r.2.mem ((c.tc : Thread Cert.Kernel3Ideal.nD Cert.Kernel3Ideal.τ).loc Cert.Kernel3Ideal.main_v2_0) = v2 c
          ∧ r.2.mem ((c.tc : Thread Cert.Kernel3Ideal.nD Cert.Kernel3Ideal.τ).loc Cert.Kernel3Ideal.main_v2_1) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_v6) = v1 c
          ∧ r.2.mem ((c.tc : Thread Cert.Reference3Ideal.nD Cert.Reference3Ideal.τ).loc Cert.Reference3Ideal.main_v8) = v2 c
          ∧ r.2.mem ((c.tc : Thread Cert.Reference3Ideal.nD Cert.Reference3Ideal.τ).loc Cert.Reference3Ideal.main_v9) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)) (v1 : (c : Dev Cert.Kernel4Ideal.nD) → Buf (Elt Ideal) ((c.tc : Thread Cert.Kernel4Ideal.nD Cert.Kernel4Ideal.τ).loc Cert.Kernel4Ideal.main_v0_0)) (v2 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_v0_0) = v1 c
          ∧ r.2.mem ((c.tc : Thread Cert.Kernel4Ideal.nD Cert.Kernel4Ideal.τ).loc Cert.Kernel4Ideal.main_v0_1) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_v8) = v1 c
          ∧ r.2.mem ((c.tc : Thread Cert.Reference4Ideal.nD Cert.Reference4Ideal.τ).loc Cert.Reference4Ideal.main_v9) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite_gates [hKernel5Ideal : Cert.Kernel5Ideal.Facts] [hReference5Ideal : Cert.Reference5Ideal.Facts] [hPre_finite_gates : Cert.Pre_finite_gates.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_gates m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v43) = v0 c
          ∧ r.2.mem ((c.tc : Thread Cert.Reference5Ideal.nD Cert.Reference5Ideal.τ).loc Cert.Reference5Ideal.main_v44) = v1 c
          ∧ r.2.mem ((c.tc : Thread Cert.Reference5Ideal.nD Cert.Reference5Ideal.τ).loc Cert.Reference5Ideal.main_v45) = v2 c
          ∧ r.2.mem ((c.tc : Thread Cert.Reference5Ideal.nD Cert.Reference5Ideal.τ).loc Cert.Reference5Ideal.main_v46) = v3 c
          ∧ r.2.mem ((c.tc : Thread Cert.Reference5Ideal.nD Cert.Reference5Ideal.τ).loc Cert.Reference5Ideal.main_v47) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite_norm [hKernel6Ideal : Cert.Kernel6Ideal.Facts] [hReference6Ideal : Cert.Reference6Ideal.Facts] [hPre_finite_norm : Cert.Pre_finite_norm.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_norm m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_v38) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal_pre_finite_mixer [hKernel7Ideal : Cert.Kernel7Ideal.Facts] [hReference7Ideal : Cert.Reference7Ideal.Facts] [hPre_finite_mixer : Cert.Pre_finite_mixer.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_mixer m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0_1)) (v1 : (c : Dev Cert.Kernel7Ideal.nD) → Buf (Elt Ideal) ((c.tc : Thread Cert.Kernel7Ideal.nD Cert.Kernel7Ideal.τ).loc Cert.Kernel7Ideal.main_v1_0)) (v2 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_1) = v0 c
          ∧ r.2.mem ((c.tc : Thread Cert.Kernel7Ideal.nD Cert.Kernel7Ideal.τ).loc Cert.Kernel7Ideal.main_v1_0) = v1 c
          ∧ r.2.mem ((c.tc : Thread Cert.Kernel7Ideal.nD Cert.Kernel7Ideal.τ).loc Cert.Kernel7Ideal.main_v1_1) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v75) = v0 c
          ∧ r.2.mem ((c.tc : Thread Cert.Reference7Ideal.nD Cert.Reference7Ideal.τ).loc Cert.Reference7Ideal.main_v80) = v1 c
          ∧ r.2.mem ((c.tc : Thread Cert.Reference7Ideal.nD Cert.Reference7Ideal.τ).loc Cert.Reference7Ideal.main_v81) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite_prep [hKernel8Ideal : Cert.Kernel8Ideal.Facts] [hReference8Ideal : Cert.Reference8Ideal.Facts] [hPre_finite_prep : Cert.Pre_finite_prep.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_prep m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v20_0)) (v1 : (c : Dev Cert.Kernel8Ideal.nD) → Buf (Elt Ideal) ((c.tc : Thread Cert.Kernel8Ideal.nD Cert.Kernel8Ideal.τ).loc Cert.Kernel8Ideal.main_v20_1)) (v2 : (c : Dev Cert.Kernel8Ideal.nD) → Buf (Elt Ideal) ((c.tc : Thread Cert.Kernel8Ideal.nD Cert.Kernel8Ideal.τ).loc Cert.Kernel8Ideal.main_v20_2)) (v3 : (c : Dev Cert.Kernel8Ideal.nD) → Buf (Elt Ideal) ((c.tc : Thread Cert.Kernel8Ideal.nD Cert.Kernel8Ideal.τ).loc Cert.Kernel8Ideal.main_v20_3)) (v4 : (c : Dev Cert.Kernel8Ideal.nD) → Buf (Elt Ideal) ((c.tc : Thread Cert.Kernel8Ideal.nD Cert.Kernel8Ideal.τ).loc Cert.Kernel8Ideal.main_v20_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v20_0) = v0 c
          ∧ r.2.mem ((c.tc : Thread Cert.Kernel8Ideal.nD Cert.Kernel8Ideal.τ).loc Cert.Kernel8Ideal.main_v20_1) = v1 c
          ∧ r.2.mem ((c.tc : Thread Cert.Kernel8Ideal.nD Cert.Kernel8Ideal.τ).loc Cert.Kernel8Ideal.main_v20_2) = v2 c
          ∧ r.2.mem ((c.tc : Thread Cert.Kernel8Ideal.nD Cert.Kernel8Ideal.τ).loc Cert.Kernel8Ideal.main_v20_3) = v3 c
          ∧ r.2.mem ((c.tc : Thread Cert.Kernel8Ideal.nD Cert.Kernel8Ideal.τ).loc Cert.Kernel8Ideal.main_v20_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v147) = v0 c
          ∧ r.2.mem ((c.tc : Thread Cert.Reference8Ideal.nD Cert.Reference8Ideal.τ).loc Cert.Reference8Ideal.main_v136) = v1 c
          ∧ r.2.mem ((c.tc : Thread Cert.Reference8Ideal.nD Cert.Reference8Ideal.τ).loc Cert.Reference8Ideal.main_v148) = v2 c
          ∧ r.2.mem ((c.tc : Thread Cert.Reference8Ideal.nD Cert.Reference8Ideal.τ).loc Cert.Reference8Ideal.main_v150) = v3 c
          ∧ r.2.mem ((c.tc : Thread Cert.Reference8Ideal.nD Cert.Reference8Ideal.τ).loc Cert.Reference8Ideal.main_v152) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)
      ∧ m' ((c.tc : Thread Cert.Reference9Ideal.nD Cert.Reference9Ideal.τ).loc Cert.Reference9Ideal.main_arg12) = m ((c.tc : Thread Cert.Kernel9Ideal.nD Cert.Kernel9Ideal.τ).loc Cert.Kernel9Ideal.main_arg12)
      ∧ m' ((c.tc : Thread Cert.Reference9Ideal.nD Cert.Reference9Ideal.τ).loc Cert.Reference9Ideal.main_arg13) = m ((c.tc : Thread Cert.Kernel9Ideal.nD Cert.Kernel9Ideal.τ).loc Cert.Kernel9Ideal.main_arg13)
      ∧ m' ((c.tc : Thread Cert.Reference9Ideal.nD Cert.Reference9Ideal.τ).loc Cert.Reference9Ideal.main_arg14) = m ((c.tc : Thread Cert.Kernel9Ideal.nD Cert.Kernel9Ideal.τ).loc Cert.Kernel9Ideal.main_arg14)
      ∧ m' ((c.tc : Thread Cert.Reference9Ideal.nD Cert.Reference9Ideal.τ).loc Cert.Reference9Ideal.main_arg15) = m ((c.tc : Thread Cert.Kernel9Ideal.nD Cert.Kernel9Ideal.τ).loc Cert.Kernel9Ideal.main_arg15)
      ∧ m' ((c.tc : Thread Cert.Reference9Ideal.nD Cert.Reference9Ideal.τ).loc Cert.Reference9Ideal.main_arg16) = m ((c.tc : Thread Cert.Kernel9Ideal.nD Cert.Kernel9Ideal.τ).loc Cert.Kernel9Ideal.main_arg16)
      ∧ m' ((c.tc : Thread Cert.Reference9Ideal.nD Cert.Reference9Ideal.τ).loc Cert.Reference9Ideal.main_arg17) = m ((c.tc : Thread Cert.Kernel9Ideal.nD Cert.Kernel9Ideal.τ).loc Cert.Kernel9Ideal.main_arg17)
      ∧ m' ((c.tc : Thread Cert.Reference9Ideal.nD Cert.Reference9Ideal.τ).loc Cert.Reference9Ideal.main_arg18) = m ((c.tc : Thread Cert.Kernel9Ideal.nD Cert.Kernel9Ideal.τ).loc Cert.Kernel9Ideal.main_arg18)
      ∧ m' ((c.tc : Thread Cert.Reference9Ideal.nD Cert.Reference9Ideal.τ).loc Cert.Reference9Ideal.main_arg19) = m ((c.tc : Thread Cert.Kernel9Ideal.nD Cert.Kernel9Ideal.τ).loc Cert.Kernel9Ideal.main_arg19)
      ∧ m' ((c.tc : Thread Cert.Reference9Ideal.nD Cert.Reference9Ideal.τ).loc Cert.Reference9Ideal.main_arg20) = m ((c.tc : Thread Cert.Kernel9Ideal.nD Cert.Kernel9Ideal.τ).loc Cert.Kernel9Ideal.main_arg20)
      ∧ m' ((c.tc : Thread Cert.Reference9Ideal.nD Cert.Reference9Ideal.τ).loc Cert.Reference9Ideal.main_arg21) = m ((c.tc : Thread Cert.Kernel9Ideal.nD Cert.Kernel9Ideal.τ).loc Cert.Kernel9Ideal.main_arg21)
      ∧ m' ((c.tc : Thread Cert.Reference9Ideal.nD Cert.Reference9Ideal.τ).loc Cert.Reference9Ideal.main_arg22) = m ((c.tc : Thread Cert.Kernel9Ideal.nD Cert.Kernel9Ideal.τ).loc Cert.Kernel9Ideal.main_arg22)
      ∧ m' ((c.tc : Thread Cert.Reference9Ideal.nD Cert.Reference9Ideal.τ).loc Cert.Reference9Ideal.main_arg23) = m ((c.tc : Thread Cert.Kernel9Ideal.nD Cert.Kernel9Ideal.τ).loc Cert.Kernel9Ideal.main_arg23)
      ∧ m' ((c.tc : Thread Cert.Reference9Ideal.nD Cert.Reference9Ideal.τ).loc Cert.Reference9Ideal.main_arg24) = m ((c.tc : Thread Cert.Kernel9Ideal.nD Cert.Kernel9Ideal.τ).loc Cert.Kernel9Ideal.main_arg24)
      ∧ m' ((c.tc : Thread Cert.Reference9Ideal.nD Cert.Reference9Ideal.τ).loc Cert.Reference9Ideal.main_arg25) = m ((c.tc : Thread Cert.Kernel9Ideal.nD Cert.Kernel9Ideal.τ).loc Cert.Kernel9Ideal.main_arg25)
      ∧ m' ((c.tc : Thread Cert.Reference9Ideal.nD Cert.Reference9Ideal.τ).loc Cert.Reference9Ideal.main_arg26) = m ((c.tc : Thread Cert.Kernel9Ideal.nD Cert.Kernel9Ideal.τ).loc Cert.Kernel9Ideal.main_arg26)
      ∧ m' ((c.tc : Thread Cert.Reference9Ideal.nD Cert.Reference9Ideal.τ).loc Cert.Reference9Ideal.main_arg27) = m ((c.tc : Thread Cert.Kernel9Ideal.nD Cert.Kernel9Ideal.τ).loc Cert.Kernel9Ideal.main_arg27)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v1_0)) (v4 : (c : Dev Cert.Kernel9Ideal.nD) → Buf (Elt Ideal) ((c.tc : Thread Cert.Kernel9Ideal.nD Cert.Kernel9Ideal.τ).loc Cert.Kernel9Ideal.main_v1_1)) (v5 : (c : Dev Cert.Kernel9Ideal.nD) → Buf (Elt Ideal) ((c.tc : Thread Cert.Kernel9Ideal.nD Cert.Kernel9Ideal.τ).loc Cert.Kernel9Ideal.main_v1_2)) (v6 : (c : Dev Cert.Kernel9Ideal.nD) → Buf (Elt Ideal) ((c.tc : Thread Cert.Kernel9Ideal.nD Cert.Kernel9Ideal.τ).loc Cert.Kernel9Ideal.main_v2_0)) (v7 : (c : Dev Cert.Kernel9Ideal.nD) → Buf (Elt Ideal) ((c.tc : Thread Cert.Kernel9Ideal.nD Cert.Kernel9Ideal.τ).loc Cert.Kernel9Ideal.main_v2_1)) (v8 : (c : Dev Cert.Kernel9Ideal.nD) → Buf (Elt Ideal) ((c.tc : Thread Cert.Kernel9Ideal.nD Cert.Kernel9Ideal.τ).loc Cert.Kernel9Ideal.main_v2_2)) (v9 : (c : Dev Cert.Kernel9Ideal.nD) → Buf (Elt Ideal) ((c.tc : Thread Cert.Kernel9Ideal.nD Cert.Kernel9Ideal.τ).loc Cert.Kernel9Ideal.main_v3_0)) (v10 : (c : Dev Cert.Kernel9Ideal.nD) → Buf (Elt Ideal) ((c.tc : Thread Cert.Kernel9Ideal.nD Cert.Kernel9Ideal.τ).loc Cert.Kernel9Ideal.main_v3_1)) (v11 : (c : Dev Cert.Kernel9Ideal.nD) → Buf (Elt Ideal) ((c.tc : Thread Cert.Kernel9Ideal.nD Cert.Kernel9Ideal.τ).loc Cert.Kernel9Ideal.main_v3_2)) (v12 : (c : Dev Cert.Kernel9Ideal.nD) → Buf (Elt Ideal) ((c.tc : Thread Cert.Kernel9Ideal.nD Cert.Kernel9Ideal.τ).loc Cert.Kernel9Ideal.main_v4_0)) (v13 : (c : Dev Cert.Kernel9Ideal.nD) → Buf (Elt Ideal) ((c.tc : Thread Cert.Kernel9Ideal.nD Cert.Kernel9Ideal.τ).loc Cert.Kernel9Ideal.main_v4_1)) (v14 : (c : Dev Cert.Kernel9Ideal.nD) → Buf (Elt Ideal) ((c.tc : Thread Cert.Kernel9Ideal.nD Cert.Kernel9Ideal.τ).loc Cert.Kernel9Ideal.main_v4_2)) (v15 : (c : Dev Cert.Kernel9Ideal.nD) → Buf (Elt Ideal) ((c.tc : Thread Cert.Kernel9Ideal.nD Cert.Kernel9Ideal.τ).loc Cert.Kernel9Ideal.main_v5_0)) (v16 : (c : Dev Cert.Kernel9Ideal.nD) → Buf (Elt Ideal) ((c.tc : Thread Cert.Kernel9Ideal.nD Cert.Kernel9Ideal.τ).loc Cert.Kernel9Ideal.main_v5_1)) (v17 : (c : Dev Cert.Kernel9Ideal.nD) → Buf (Elt Ideal) ((c.tc : Thread Cert.Kernel9Ideal.nD Cert.Kernel9Ideal.τ).loc Cert.Kernel9Ideal.main_v5_2)) (v18 : (c : Dev Cert.Kernel9Ideal.nD) → Buf (Elt Ideal) ((c.tc : Thread Cert.Kernel9Ideal.nD Cert.Kernel9Ideal.τ).loc Cert.Kernel9Ideal.main_v6_0)) (v19 : (c : Dev Cert.Kernel9Ideal.nD) → Buf (Elt Ideal) ((c.tc : Thread Cert.Kernel9Ideal.nD Cert.Kernel9Ideal.τ).loc Cert.Kernel9Ideal.main_v6_1)) (v20 : (c : Dev Cert.Kernel9Ideal.nD) → Buf (Elt Ideal) ((c.tc : Thread Cert.Kernel9Ideal.nD Cert.Kernel9Ideal.τ).loc Cert.Kernel9Ideal.main_v6_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v1_0) = v3 c
          ∧ r.2.mem ((c.tc : Thread Cert.Kernel9Ideal.nD Cert.Kernel9Ideal.τ).loc Cert.Kernel9Ideal.main_v1_1) = v4 c
          ∧ r.2.mem ((c.tc : Thread Cert.Kernel9Ideal.nD Cert.Kernel9Ideal.τ).loc Cert.Kernel9Ideal.main_v1_2) = v5 c
          ∧ r.2.mem ((c.tc : Thread Cert.Kernel9Ideal.nD Cert.Kernel9Ideal.τ).loc Cert.Kernel9Ideal.main_v2_0) = v6 c
          ∧ r.2.mem ((c.tc : Thread Cert.Kernel9Ideal.nD Cert.Kernel9Ideal.τ).loc Cert.Kernel9Ideal.main_v2_1) = v7 c
          ∧ r.2.mem ((c.tc : Thread Cert.Kernel9Ideal.nD Cert.Kernel9Ideal.τ).loc Cert.Kernel9Ideal.main_v2_2) = v8 c
          ∧ r.2.mem ((c.tc : Thread Cert.Kernel9Ideal.nD Cert.Kernel9Ideal.τ).loc Cert.Kernel9Ideal.main_v3_0) = v9 c
          ∧ r.2.mem ((c.tc : Thread Cert.Kernel9Ideal.nD Cert.Kernel9Ideal.τ).loc Cert.Kernel9Ideal.main_v3_1) = v10 c
          ∧ r.2.mem ((c.tc : Thread Cert.Kernel9Ideal.nD Cert.Kernel9Ideal.τ).loc Cert.Kernel9Ideal.main_v3_2) = v11 c
          ∧ r.2.mem ((c.tc : Thread Cert.Kernel9Ideal.nD Cert.Kernel9Ideal.τ).loc Cert.Kernel9Ideal.main_v4_0) = v12 c
          ∧ r.2.mem ((c.tc : Thread Cert.Kernel9Ideal.nD Cert.Kernel9Ideal.τ).loc Cert.Kernel9Ideal.main_v4_1) = v13 c
          ∧ r.2.mem ((c.tc : Thread Cert.Kernel9Ideal.nD Cert.Kernel9Ideal.τ).loc Cert.Kernel9Ideal.main_v4_2) = v14 c
          ∧ r.2.mem ((c.tc : Thread Cert.Kernel9Ideal.nD Cert.Kernel9Ideal.τ).loc Cert.Kernel9Ideal.main_v5_0) = v15 c
          ∧ r.2.mem ((c.tc : Thread Cert.Kernel9Ideal.nD Cert.Kernel9Ideal.τ).loc Cert.Kernel9Ideal.main_v5_1) = v16 c
          ∧ r.2.mem ((c.tc : Thread Cert.Kernel9Ideal.nD Cert.Kernel9Ideal.τ).loc Cert.Kernel9Ideal.main_v5_2) = v17 c
          ∧ r.2.mem ((c.tc : Thread Cert.Kernel9Ideal.nD Cert.Kernel9Ideal.τ).loc Cert.Kernel9Ideal.main_v6_0) = v18 c
          ∧ r.2.mem ((c.tc : Thread Cert.Kernel9Ideal.nD Cert.Kernel9Ideal.τ).loc Cert.Kernel9Ideal.main_v6_1) = v19 c
          ∧ r.2.mem ((c.tc : Thread Cert.Kernel9Ideal.nD Cert.Kernel9Ideal.τ).loc Cert.Kernel9Ideal.main_v6_2) = v20 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
          ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
          ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
          ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14)
          ∧ r.2.mem ((c.tc : Thread Cert.Kernel9Ideal.nD Cert.Kernel9Ideal.τ).loc Cert.Kernel9Ideal.main_arg15) = m ((c.tc : Thread Cert.Kernel9Ideal.nD Cert.Kernel9Ideal.τ).loc Cert.Kernel9Ideal.main_arg15)
          ∧ r.2.mem ((c.tc : Thread Cert.Kernel9Ideal.nD Cert.Kernel9Ideal.τ).loc Cert.Kernel9Ideal.main_arg16) = m ((c.tc : Thread Cert.Kernel9Ideal.nD Cert.Kernel9Ideal.τ).loc Cert.Kernel9Ideal.main_arg16)
          ∧ r.2.mem ((c.tc : Thread Cert.Kernel9Ideal.nD Cert.Kernel9Ideal.τ).loc Cert.Kernel9Ideal.main_arg17) = m ((c.tc : Thread Cert.Kernel9Ideal.nD Cert.Kernel9Ideal.τ).loc Cert.Kernel9Ideal.main_arg17)
          ∧ r.2.mem ((c.tc : Thread Cert.Kernel9Ideal.nD Cert.Kernel9Ideal.τ).loc Cert.Kernel9Ideal.main_arg18) = m ((c.tc : Thread Cert.Kernel9Ideal.nD Cert.Kernel9Ideal.τ).loc Cert.Kernel9Ideal.main_arg18)
          ∧ r.2.mem ((c.tc : Thread Cert.Kernel9Ideal.nD Cert.Kernel9Ideal.τ).loc Cert.Kernel9Ideal.main_arg19) = m ((c.tc : Thread Cert.Kernel9Ideal.nD Cert.Kernel9Ideal.τ).loc Cert.Kernel9Ideal.main_arg19)
          ∧ r.2.mem ((c.tc : Thread Cert.Kernel9Ideal.nD Cert.Kernel9Ideal.τ).loc Cert.Kernel9Ideal.main_arg20) = m ((c.tc : Thread Cert.Kernel9Ideal.nD Cert.Kernel9Ideal.τ).loc Cert.Kernel9Ideal.main_arg20)
          ∧ r.2.mem ((c.tc : Thread Cert.Kernel9Ideal.nD Cert.Kernel9Ideal.τ).loc Cert.Kernel9Ideal.main_arg21) = m ((c.tc : Thread Cert.Kernel9Ideal.nD Cert.Kernel9Ideal.τ).loc Cert.Kernel9Ideal.main_arg21)
          ∧ r.2.mem ((c.tc : Thread Cert.Kernel9Ideal.nD Cert.Kernel9Ideal.τ).loc Cert.Kernel9Ideal.main_arg22) = m ((c.tc : Thread Cert.Kernel9Ideal.nD Cert.Kernel9Ideal.τ).loc Cert.Kernel9Ideal.main_arg22)
          ∧ r.2.mem ((c.tc : Thread Cert.Kernel9Ideal.nD Cert.Kernel9Ideal.τ).loc Cert.Kernel9Ideal.main_arg23) = m ((c.tc : Thread Cert.Kernel9Ideal.nD Cert.Kernel9Ideal.τ).loc Cert.Kernel9Ideal.main_arg23)
          ∧ r.2.mem ((c.tc : Thread Cert.Kernel9Ideal.nD Cert.Kernel9Ideal.τ).loc Cert.Kernel9Ideal.main_arg24) = m ((c.tc : Thread Cert.Kernel9Ideal.nD Cert.Kernel9Ideal.τ).loc Cert.Kernel9Ideal.main_arg24)
          ∧ r.2.mem ((c.tc : Thread Cert.Kernel9Ideal.nD Cert.Kernel9Ideal.τ).loc Cert.Kernel9Ideal.main_arg25) = m ((c.tc : Thread Cert.Kernel9Ideal.nD Cert.Kernel9Ideal.τ).loc Cert.Kernel9Ideal.main_arg25)
          ∧ r.2.mem ((c.tc : Thread Cert.Kernel9Ideal.nD Cert.Kernel9Ideal.τ).loc Cert.Kernel9Ideal.main_arg26) = m ((c.tc : Thread Cert.Kernel9Ideal.nD Cert.Kernel9Ideal.τ).loc Cert.Kernel9Ideal.main_arg26)
          ∧ r.2.mem ((c.tc : Thread Cert.Kernel9Ideal.nD Cert.Kernel9Ideal.τ).loc Cert.Kernel9Ideal.main_arg27) = m ((c.tc : Thread Cert.Kernel9Ideal.nD Cert.Kernel9Ideal.τ).loc Cert.Kernel9Ideal.main_arg27))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_v47) = v3 c
          ∧ r.2.mem ((c.tc : Thread Cert.Reference9Ideal.nD Cert.Reference9Ideal.τ).loc Cert.Reference9Ideal.main_v28) = v4 c
          ∧ r.2.mem ((c.tc : Thread Cert.Reference9Ideal.nD Cert.Reference9Ideal.τ).loc Cert.Reference9Ideal.main_v34) = v5 c
          ∧ r.2.mem ((c.tc : Thread Cert.Reference9Ideal.nD Cert.Reference9Ideal.τ).loc Cert.Reference9Ideal.main_v71) = v6 c
          ∧ r.2.mem ((c.tc : Thread Cert.Reference9Ideal.nD Cert.Reference9Ideal.τ).loc Cert.Reference9Ideal.main_v52) = v7 c
          ∧ r.2.mem ((c.tc : Thread Cert.Reference9Ideal.nD Cert.Reference9Ideal.τ).loc Cert.Reference9Ideal.main_v58) = v8 c
          ∧ r.2.mem ((c.tc : Thread Cert.Reference9Ideal.nD Cert.Reference9Ideal.τ).loc Cert.Reference9Ideal.main_v95) = v9 c
          ∧ r.2.mem ((c.tc : Thread Cert.Reference9Ideal.nD Cert.Reference9Ideal.τ).loc Cert.Reference9Ideal.main_v76) = v10 c
          ∧ r.2.mem ((c.tc : Thread Cert.Reference9Ideal.nD Cert.Reference9Ideal.τ).loc Cert.Reference9Ideal.main_v82) = v11 c
          ∧ r.2.mem ((c.tc : Thread Cert.Reference9Ideal.nD Cert.Reference9Ideal.τ).loc Cert.Reference9Ideal.main_v119) = v12 c
          ∧ r.2.mem ((c.tc : Thread Cert.Reference9Ideal.nD Cert.Reference9Ideal.τ).loc Cert.Reference9Ideal.main_v100) = v13 c
          ∧ r.2.mem ((c.tc : Thread Cert.Reference9Ideal.nD Cert.Reference9Ideal.τ).loc Cert.Reference9Ideal.main_v106) = v14 c
          ∧ r.2.mem ((c.tc : Thread Cert.Reference9Ideal.nD Cert.Reference9Ideal.τ).loc Cert.Reference9Ideal.main_v143) = v15 c
          ∧ r.2.mem ((c.tc : Thread Cert.Reference9Ideal.nD Cert.Reference9Ideal.τ).loc Cert.Reference9Ideal.main_v124) = v16 c
          ∧ r.2.mem ((c.tc : Thread Cert.Reference9Ideal.nD Cert.Reference9Ideal.τ).loc Cert.Reference9Ideal.main_v130) = v17 c
          ∧ r.2.mem ((c.tc : Thread Cert.Reference9Ideal.nD Cert.Reference9Ideal.τ).loc Cert.Reference9Ideal.main_v167) = v18 c
          ∧ r.2.mem ((c.tc : Thread Cert.Reference9Ideal.nD Cert.Reference9Ideal.τ).loc Cert.Reference9Ideal.main_v148) = v19 c
          ∧ r.2.mem ((c.tc : Thread Cert.Reference9Ideal.nD Cert.Reference9Ideal.τ).loc Cert.Reference9Ideal.main_v154) = v20 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11)
          ∧ r.2.mem ((c.tc : Thread Cert.Reference9Ideal.nD Cert.Reference9Ideal.τ).loc Cert.Reference9Ideal.main_arg12) = m' ((c.tc : Thread Cert.Reference9Ideal.nD Cert.Reference9Ideal.τ).loc Cert.Reference9Ideal.main_arg12)
          ∧ r.2.mem ((c.tc : Thread Cert.Reference9Ideal.nD Cert.Reference9Ideal.τ).loc Cert.Reference9Ideal.main_arg13) = m' ((c.tc : Thread Cert.Reference9Ideal.nD Cert.Reference9Ideal.τ).loc Cert.Reference9Ideal.main_arg13)
          ∧ r.2.mem ((c.tc : Thread Cert.Reference9Ideal.nD Cert.Reference9Ideal.τ).loc Cert.Reference9Ideal.main_arg14) = m' ((c.tc : Thread Cert.Reference9Ideal.nD Cert.Reference9Ideal.τ).loc Cert.Reference9Ideal.main_arg14)
          ∧ r.2.mem ((c.tc : Thread Cert.Reference9Ideal.nD Cert.Reference9Ideal.τ).loc Cert.Reference9Ideal.main_arg15) = m' ((c.tc : Thread Cert.Reference9Ideal.nD Cert.Reference9Ideal.τ).loc Cert.Reference9Ideal.main_arg15)
          ∧ r.2.mem ((c.tc : Thread Cert.Reference9Ideal.nD Cert.Reference9Ideal.τ).loc Cert.Reference9Ideal.main_arg16) = m' ((c.tc : Thread Cert.Reference9Ideal.nD Cert.Reference9Ideal.τ).loc Cert.Reference9Ideal.main_arg16)
          ∧ r.2.mem ((c.tc : Thread Cert.Reference9Ideal.nD Cert.Reference9Ideal.τ).loc Cert.Reference9Ideal.main_arg17) = m' ((c.tc : Thread Cert.Reference9Ideal.nD Cert.Reference9Ideal.τ).loc Cert.Reference9Ideal.main_arg17)
          ∧ r.2.mem ((c.tc : Thread Cert.Reference9Ideal.nD Cert.Reference9Ideal.τ).loc Cert.Reference9Ideal.main_arg18) = m' ((c.tc : Thread Cert.Reference9Ideal.nD Cert.Reference9Ideal.τ).loc Cert.Reference9Ideal.main_arg18)
          ∧ r.2.mem ((c.tc : Thread Cert.Reference9Ideal.nD Cert.Reference9Ideal.τ).loc Cert.Reference9Ideal.main_arg19) = m' ((c.tc : Thread Cert.Reference9Ideal.nD Cert.Reference9Ideal.τ).loc Cert.Reference9Ideal.main_arg19)
          ∧ r.2.mem ((c.tc : Thread Cert.Reference9Ideal.nD Cert.Reference9Ideal.τ).loc Cert.Reference9Ideal.main_arg20) = m' ((c.tc : Thread Cert.Reference9Ideal.nD Cert.Reference9Ideal.τ).loc Cert.Reference9Ideal.main_arg20)
          ∧ r.2.mem ((c.tc : Thread Cert.Reference9Ideal.nD Cert.Reference9Ideal.τ).loc Cert.Reference9Ideal.main_arg21) = m' ((c.tc : Thread Cert.Reference9Ideal.nD Cert.Reference9Ideal.τ).loc Cert.Reference9Ideal.main_arg21)
          ∧ r.2.mem ((c.tc : Thread Cert.Reference9Ideal.nD Cert.Reference9Ideal.τ).loc Cert.Reference9Ideal.main_arg22) = m' ((c.tc : Thread Cert.Reference9Ideal.nD Cert.Reference9Ideal.τ).loc Cert.Reference9Ideal.main_arg22)
          ∧ r.2.mem ((c.tc : Thread Cert.Reference9Ideal.nD Cert.Reference9Ideal.τ).loc Cert.Reference9Ideal.main_arg23) = m' ((c.tc : Thread Cert.Reference9Ideal.nD Cert.Reference9Ideal.τ).loc Cert.Reference9Ideal.main_arg23)
          ∧ r.2.mem ((c.tc : Thread Cert.Reference9Ideal.nD Cert.Reference9Ideal.τ).loc Cert.Reference9Ideal.main_arg24) = m' ((c.tc : Thread Cert.Reference9Ideal.nD Cert.Reference9Ideal.τ).loc Cert.Reference9Ideal.main_arg24)
          ∧ r.2.mem ((c.tc : Thread Cert.Reference9Ideal.nD Cert.Reference9Ideal.τ).loc Cert.Reference9Ideal.main_arg25) = m' ((c.tc : Thread Cert.Reference9Ideal.nD Cert.Reference9Ideal.τ).loc Cert.Reference9Ideal.main_arg25)
          ∧ r.2.mem ((c.tc : Thread Cert.Reference9Ideal.nD Cert.Reference9Ideal.τ).loc Cert.Reference9Ideal.main_arg26) = m' ((c.tc : Thread Cert.Reference9Ideal.nD Cert.Reference9Ideal.τ).loc Cert.Reference9Ideal.main_arg26)
          ∧ r.2.mem ((c.tc : Thread Cert.Reference9Ideal.nD Cert.Reference9Ideal.τ).loc Cert.Reference9Ideal.main_arg27) = m' ((c.tc : Thread Cert.Reference9Ideal.nD Cert.Reference9Ideal.τ).loc Cert.Reference9Ideal.main_arg27))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v12_0)) (v1 : (c : Dev Cert.Kernel10Ideal.nD) → Buf (Elt Ideal) ((c.tc : Thread Cert.Kernel10Ideal.nD Cert.Kernel10Ideal.τ).loc Cert.Kernel10Ideal.main_v12_1)) (v2 : (c : Dev Cert.Kernel10Ideal.nD) → Buf (Elt Ideal) ((c.tc : Thread Cert.Kernel10Ideal.nD Cert.Kernel10Ideal.τ).loc Cert.Kernel10Ideal.main_v12_2)) (v3 : (c : Dev Cert.Kernel10Ideal.nD) → Buf (Elt Ideal) ((c.tc : Thread Cert.Kernel10Ideal.nD Cert.Kernel10Ideal.τ).loc Cert.Kernel10Ideal.main_v12_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v12_0) = v0 c
          ∧ r.2.mem ((c.tc : Thread Cert.Kernel10Ideal.nD Cert.Kernel10Ideal.τ).loc Cert.Kernel10Ideal.main_v12_1) = v1 c
          ∧ r.2.mem ((c.tc : Thread Cert.Kernel10Ideal.nD Cert.Kernel10Ideal.τ).loc Cert.Kernel10Ideal.main_v12_2) = v2 c
          ∧ r.2.mem ((c.tc : Thread Cert.Kernel10Ideal.nD Cert.Kernel10Ideal.τ).loc Cert.Kernel10Ideal.main_v12_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v41) = v0 c
          ∧ r.2.mem ((c.tc : Thread Cert.Reference10Ideal.nD Cert.Reference10Ideal.τ).loc Cert.Reference10Ideal.main_v43) = v1 c
          ∧ r.2.mem ((c.tc : Thread Cert.Reference10Ideal.nD Cert.Reference10Ideal.τ).loc Cert.Reference10Ideal.main_v45) = v2 c
          ∧ r.2.mem ((c.tc : Thread Cert.Reference10Ideal.nD Cert.Reference10Ideal.τ).loc Cert.Reference10Ideal.main_v47) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_inputs : Cert.Pre_finite_inputs.Facts) (hPre_finite_gates : Cert.Pre_finite_gates.Facts) (hPre_finite_norm : Cert.Pre_finite_norm.Facts) (hPre_finite_mixer : Cert.Pre_finite_mixer.Facts) (hPre_finite_prep : Cert.Pre_finite_prep.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_gates (hKernel5Ideal := hKernel5Ideal) (hPre_finite_gates := hPre_finite_gates)
    ∧ quiescent_Reference5Ideal (hReference5Ideal := hReference5Ideal)
    ∧ quiescent_Reference5Ideal_pre_finite_gates (hReference5Ideal := hReference5Ideal) (hPre_finite_gates := hPre_finite_gates)
    ∧ quiescent_Kernel6 (hKernel6 := hKernel6)
    ∧ quiescent_Kernel6Ideal (hKernel6Ideal := hKernel6Ideal)
    ∧ quiescent_Kernel6Ideal_pre_finite_norm (hKernel6Ideal := hKernel6Ideal) (hPre_finite_norm := hPre_finite_norm)
    ∧ quiescent_Reference6Ideal (hReference6Ideal := hReference6Ideal)
    ∧ quiescent_Reference6Ideal_pre_finite_norm (hReference6Ideal := hReference6Ideal) (hPre_finite_norm := hPre_finite_norm)
    ∧ quiescent_Kernel7 (hKernel7 := hKernel7)
    ∧ quiescent_Kernel7Ideal (hKernel7Ideal := hKernel7Ideal)
    ∧ quiescent_Kernel7Ideal_pre_finite_mixer (hKernel7Ideal := hKernel7Ideal) (hPre_finite_mixer := hPre_finite_mixer)
    ∧ quiescent_Reference7Ideal (hReference7Ideal := hReference7Ideal)
    ∧ quiescent_Reference7Ideal_pre_finite_mixer (hReference7Ideal := hReference7Ideal) (hPre_finite_mixer := hPre_finite_mixer)
    ∧ quiescent_Kernel8 (hKernel8 := hKernel8)
    ∧ quiescent_Kernel8Ideal (hKernel8Ideal := hKernel8Ideal)
    ∧ quiescent_Kernel8Ideal_pre_finite_prep (hKernel8Ideal := hKernel8Ideal) (hPre_finite_prep := hPre_finite_prep)
    ∧ quiescent_Reference8Ideal (hReference8Ideal := hReference8Ideal)
    ∧ quiescent_Reference8Ideal_pre_finite_prep (hReference8Ideal := hReference8Ideal) (hPre_finite_prep := hPre_finite_prep)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_gates (hKernel5Ideal := hKernel5Ideal) (hReference5Ideal := hReference5Ideal) (hPre_finite_gates := hPre_finite_gates)
    ∧ preserves_Kernel6_Kernel6Ideal
    ∧ algebraic_Kernel6Ideal_Reference6Ideal_pre_finite_norm (hKernel6Ideal := hKernel6Ideal) (hReference6Ideal := hReference6Ideal) (hPre_finite_norm := hPre_finite_norm)
    ∧ preserves_Kernel7_Kernel7Ideal
    ∧ algebraic_Kernel7Ideal_Reference7Ideal_pre_finite_mixer (hKernel7Ideal := hKernel7Ideal) (hReference7Ideal := hReference7Ideal) (hPre_finite_mixer := hPre_finite_mixer)
    ∧ preserves_Kernel8_Kernel8Ideal
    ∧ algebraic_Kernel8Ideal_Reference8Ideal_pre_finite_prep (hKernel8Ideal := hKernel8Ideal) (hReference8Ideal := hReference8Ideal) (hPre_finite_prep := hPre_finite_prep)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite_gates.lean ====
abbrev S4096x2048 : Shape := ⟨2, ![4096, 2048]⟩
abbrev S4096x1024 : Shape := ⟨2, ![4096, 1024]⟩
abbrev S4096x4096 : Shape := ⟨2, ![4096, 4096]⟩
abbrev S1x1024 : Shape := ⟨2, ![1, 1024]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S4096x2048 .f32) (main_arg1 : FVec F S4096x1024 .f32) (main_arg2 : FVec F S4096x4096 .f32) (main_arg3 : FVec F S4096x2048 .f32) (main_arg4 : FVec F S1x1024 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x2048 .f32 := Host.absf main_arg3
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S1x1024 .f32 := Host.absf main_arg4
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Pre_finite_inputs.lean ====
abbrev S4096x1024 : Shape := ⟨2, ![4096, 1024]⟩
abbrev S4x256x256 : Shape := ⟨3, ![4, 256, 256]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4x256x256 : S_.BroadcastsInDim S4x256x256 (![] : Fin 0 → Fin S4x256x256.rank)
  reducesTo_S4x256x256_S_d0_1_2 : S4x256x256.ReducesTo [0, 1, 2] S_

variable [Facts]

def fn {F : FTy → Type} [FloatOps F] (main_arg0 : FVec F S4096x1024 .bf16) (main_arg1 : FVec F S4x256x256 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4x256x256 .f32 := (extf .f32 · bitsLt_bf16_f32) main_arg1
  let main_v6 : FVec F S4x256x256 .f32 := Host.absf main_v5
  let main_cst_0 : FVec F S_ .f32 := constant S_ .f32 0x7F800000#32
  let main_v7 : FVec F S4x256x256 .f32 := broadcastInDim S4x256x256 ![] bcast_S_S4x256x256 main_cst_0
  let main_v8 : IVec S4x256x256 1 := cmpf .olt main_v6 main_v7
  let main_c_1 : IVec S_ 1 := constantI S_ 1 1#1
  let main_v9 : IVec S_ 1 := (fun x v => Host.reduce IntOp.andi x v reducesTo_S4x256x256_S_d0_1_2 h_S_) main_v8 main_c_1
  let main_v10 : IVec S_ 1 := andi main_v4 main_v9
  main_v10
-- ==== Pre_finite_mixer.lean ====
abbrev S4096x4096 : Shape := ⟨2, ![4096, 4096]⟩
abbrev S4x256x256 : Shape := ⟨3, ![4, 256, 256]⟩
abbrev S4096x1024 : Shape := ⟨2, ![4096, 1024]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4x256x256 .bf16) (main_arg2 : FVec F S4096x1024 .bf16) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  main_v3
-- ==== Pre_finite_norm.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn {F : FTy → Type} [FloatOps F] (main_arg0 : FVec F S4096x2048 .f32) (main_arg1 : FVec F S4096x2048 .f32) (main_arg2 : FVec F S4096x2048 .f32) (main_arg3 : FVec F S1x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  main_v13
-- ==== Pre_finite_prep.lean ====
abbrev S64x64 : Shape := ⟨2, ![64, 64]⟩
abbrev S64 : Shape := ⟨1, ![64]⟩
abbrev S64x64x16 : Shape := ⟨3, ![64, 64, 16]⟩
abbrev S1024x64 : Shape := ⟨2, ![1024, 64]⟩
abbrev S_ : Shape := ⟨0, ![]⟩

class Facts : Prop where
  bcast_S_S64x64 : S_.BroadcastsInDim S64x64 (![] : Fin 0 → Fin S64x64.rank)
  reducesTo_S64x64_S_d0_1 : S64x64.ReducesTo [0, 1] S_
  h_S_ : 0 < S_.numel
  bcast_S_S64 : S_.BroadcastsInDim S64 (![] : Fin 0 → Fin S64.rank)
  reducesTo_S64_S_d0 : S64.ReducesTo [0] S_
  bcast_S_S64x64x16 : S_.BroadcastsInDim S64x64x16 (![] : Fin 0 → Fin S64x64x16.rank)
  reducesTo_S64x64x16_S_d0_1_2 : S64x64x16.ReducesTo [0, 1, 2] S_
  bcast_S_S1024x64 : S_.BroadcastsInDim S1024x64 (![] : Fin 0 → Fin S1024x64.rank)
  reducesTo_S1024x64_S_d0_1 : S1024x64.ReducesTo [0, 1] S_

variable [Facts]

def fn_part2 {F : FTy → Type} [FloatOps F] (main_arg8 : FVec F S1024x64 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1024x64 .f32 := Host.absf main_arg8
  let main_cst_14 : FVec F S_ .f32 := constant S_ .f32 0x7F800000#32
  let main_v33 : FVec F S1024x64 .f32 := broadcastInDim S1024x64 ![] bcast_S_S1024x64 main_cst_14
  let main_v34 : IVec S1024x64 1 := cmpf .olt main_v32 main_v33
  let main_c_15 : IVec S_ 1 := constantI S_ 1 1#1
  let main_v35 : IVec S_ 1 := (fun x v => Host.reduce IntOp.andi x v reducesTo_S1024x64_S_d0_1 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S64x64x16 .f32) (main_arg5 : FVec F S64x64 .f32) (main_arg6 : FVec F S64x64 .f32) (main_arg7 : FVec F S1024x64 .f32) (main_arg8 : FVec F S1024x64 .f32) (main_v3 : IVec S_ 1) (main_v7 : IVec S_ 1) (main_v11 : IVec S_ 1) (main_v15 : IVec S_ 1) : IVec S_ 1 :=
  let main_v16 : FVec F S64x64x16 .f32 := Host.absf main_arg4
  let main_cst_6 : FVec F S_ .f32 := constant S_ .f32 0x7F800000#32
  let main_v17 : FVec F S64x64x16 .f32 := broadcastInDim S64x64x16 ![] bcast_S_S64x64x16 main_cst_6
  let main_v18 : IVec S64x64x16 1 := cmpf .olt main_v16 main_v17
  let main_c_7 : IVec S_ 1 := constantI S_ 1 1#1
  let main_v19 : IVec S_ 1 := (fun x v => Host.reduce IntOp.andi x v reducesTo_S64x64x16_S_d0_1_2 h_S_) main_v18 main_c_7
  let main_v20 : FVec F S64x64 .f32 := Host.absf main_arg5
  let main_cst_8 : FVec F S_ .f32 := constant S_ .f32 0x7F800000#32
  let main_v21 : FVec F S64x64 .f32 := broadcastInDim S64x64 ![] bcast_S_S64x64 main_cst_8
  let main_v22 : IVec S64x64 1 := cmpf .olt main_v20 main_v21
  let main_c_9 : IVec S_ 1 := constantI S_ 1 1#1
  let main_v23 : IVec S_ 1 := (fun x v => Host.reduce IntOp.andi x v reducesTo_S64x64_S_d0_1 h_S_) main_v22 main_c_9
  let main_v24 : FVec F S64x64 .f32 := Host.absf main_arg6
  let main_cst_10 : FVec F S_ .f32 := constant S_ .f32 0x7F800000#32
  let main_v25 : FVec F S64x64 .f32 := broadcastInDim S64x64 ![] bcast_S_S64x64 main_cst_10
  let main_v26 : IVec S64x64 1 := cmpf .olt main_v24 main_v25
  let main_c_11 : IVec S_ 1 := constantI S_ 1 1#1
  let main_v27 : IVec S_ 1 := (fun x v => Host.reduce IntOp.andi x v reducesTo_S64x64_S_d0_1 h_S_) main_v26 main_c_11
  let main_v28 : FVec F S1024x64 .f32 := Host.absf main_arg7
  let main_cst_12 : FVec F S_ .f32 := constant S_ .f32 0x7F800000#32
  let main_v29 : FVec F S1024x64 .f32 := broadcastInDim S1024x64 ![] bcast_S_S1024x64 main_cst_12
  let main_v30 : IVec S1024x64 1 := cmpf .olt main_v28 main_v29
  let main_c_13 : IVec S_ 1 := constantI S_ 1 1#1
  let main_v31 : IVec S_ 1 := (fun x v => Host.reduce IntOp.andi x v reducesTo_S1024x64_S_d0_1 h_S_) main_v30 main_c_13
  fn_part2 (F := F) main_arg8 main_v3 main_v7 main_v11 main_v15 main_v19 main_v23 main_v27 main_v31

def fn {F : FTy → Type} [FloatOps F] (main_arg0 : FVec F S64x64 .f32) (main_arg1 : FVec F S64x64 .f32) (main_arg2 : FVec F S64 .f32) (main_arg3 : FVec F S64x64x16 .f32) (main_arg4 : FVec F S64x64x16 .f32) (main_arg5 : FVec F S64x64 .f32) (main_arg6 : FVec F S64x64 .f32) (main_arg7 : FVec F S1024x64 .f32) (main_arg8 : FVec F S1024x64 .f32) : IVec S_ 1 :=
  let main_v0 : FVec F S64x64 .f32 := Host.absf main_arg0
  let main_cst : FVec F S_ .f32 := constant S_ .f32 0x7F800000#32
  let main_v1 : FVec F S64x64 .f32 := broadcastInDim S64x64 ![] bcast_S_S64x64 main_cst
  let main_v2 : IVec S64x64 1 := cmpf .olt main_v0 main_v1
  let main_c : IVec S_ 1 := constantI S_ 1 1#1
  let main_v3 : IVec S_ 1 := (fun x v => Host.reduce IntOp.andi x v reducesTo_S64x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : FVec F S64 .f32 := Host.absf main_arg2
  let main_cst_2 : FVec F S_ .f32 := constant S_ .f32 0x7F800000#32
  let main_v9 : FVec F S64 .f32 := broadcastInDim S64 ![] bcast_S_S64 main_cst_2
  let main_v10 : IVec S64 1 := cmpf .olt main_v8 main_v9
  let main_c_3 : IVec S_ 1 := constantI S_ 1 1#1
  let main_v11 : IVec S_ 1 := (fun x v => Host.reduce IntOp.andi x v reducesTo_S64_S_d0 h_S_) main_v10 main_c_3
  let main_v12 : FVec F S64x64x16 .f32 := Host.absf main_arg3
  let main_cst_4 : FVec F S_ .f32 := constant S_ .f32 0x7F800000#32
  let main_v13 : FVec F S64x64x16 .f32 := broadcastInDim S64x64x16 ![] bcast_S_S64x64x16 main_cst_4
  let main_v14 : IVec S64x64x16 1 := cmpf .olt main_v12 main_v13
  let main_c_5 : IVec S_ 1 := constantI S_ 1 1#1
  let main_v15 : IVec S_ 1 := (fun x v => Host.reduce IntOp.andi x v reducesTo_S64x64x16_S_d0_1_2 h_S_) main_v14 main_c_5
  fn_part1 (F := F) main_arg4 main_arg5 main_arg6 main_arg7 main_arg8 main_v3 main_v7 main_v11 main_v15
-- ==== Kernel.lean ====
abbrev S4096x1024 : Shape := ⟨2, ![4096, 1024]⟩
abbrev S4x256x256 : Shape := ⟨3, ![4, 256, 256]⟩
abbrev S256x1024 : Shape := ⟨2, ![256, 1024]⟩
abbrev S16x1024 : Shape := ⟨2, ![16, 1024]⟩
abbrev S272x1024 : Shape := ⟨2, ![272, 1024]⟩
abbrev S256x256 : Shape := ⟨2, ![256, 256]⟩
abbrev S16x256 : Shape := ⟨2, ![16, 256]⟩
abbrev S1x256x256 : Shape := ⟨3, ![1, 256, 256]⟩

abbrev nBuf : Space → Nat
  | .hbm => 3
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4x256x256, .bf16⟩
  | .hbm, ⟨2, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S4x256x256, .bf16⟩
  | .local _ .vmem, ⟨5, _⟩ => ⟨S256x1024, .bf16⟩
  | .local _ .vmem, ⟨6, _⟩ => ⟨S256x1024, .bf16⟩
  | .local _ .vmem, ⟨7, _⟩ => ⟨S272x1024, .f32⟩
  | .local _ .vmem, ⟨8, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4096x1024 : Shape := ⟨2, ![4096, 1024]⟩
abbrev S4x256x256 : Shape := ⟨3, ![4, 256, 256]⟩
abbrev S4096 : Shape := ⟨1, ![4096]⟩
abbrev S_ : Shape := ⟨0, ![]⟩
abbrev S2x256 : Shape := ⟨2, ![2, 256]⟩
abbrev S4096x1 : Shape := ⟨2, ![4096, 1]⟩
abbrev S4x256 : Shape := ⟨2, ![4, 256]⟩
abbrev S8x256 : Shape := ⟨2, ![8, 256]⟩
abbrev S16x256 : Shape := ⟨2, ![16, 256]⟩
abbrev S4096x4x256 : Shape := ⟨3, ![4096, 4, 256]⟩
abbrev S4x256x4096 : Shape := ⟨3, ![4, 256, 4096]⟩
abbrev S4x4096x256 : Shape := ⟨3, ![4, 4096, 256]⟩
abbrev S4096x1x256 : Shape := ⟨3, ![4096, 1, 256]⟩
abbrev S4096x256 : Shape := ⟨2, ![4096, 256]⟩
abbrev S4080x256 : Shape := ⟨2, ![4080, 256]⟩
abbrev S4088x256 : Shape := ⟨2, ![4088, 256]⟩
abbrev S4092x256 : Shape := ⟨2, ![4092, 256]⟩
abbrev S4094x256 : Shape := ⟨2, ![4094, 256]⟩

abbrev nBuf : Space → Nat
  | .hbm => 126
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x256x256, .bf16⟩
  | .hbm, ⟨2, _⟩ => ⟨S4096x1024, .f32⟩
  | .hbm, ⟨3, _⟩ => ⟨S4096, .i32⟩
  | .hbm, ⟨4, _⟩ => ⟨S_, .f32⟩
  | .hbm, ⟨5, _⟩ => ⟨S2x256, .f32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4x256, .f32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S8x256, .f32⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S16x256, .f32⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .f32⟩
  | .hbm, ⟨43, _⟩ => ⟨S4096x1, .f32⟩
  | .hbm, ⟨44, _⟩ => ⟨S4x256x256, .f32⟩
  | .hbm, ⟨45, _⟩ => ⟨S4096x4x256, .f32⟩
  | .hbm, ⟨46, _⟩ => ⟨S4x256x4096, .f32⟩
  | .hbm, ⟨47, _⟩ => ⟨S4x4096x256, .f32⟩
  | .hbm, ⟨48, _⟩ => ⟨S4096x4x256, .f32⟩
  | .hbm, ⟨49, _⟩ => ⟨S4096x1x256, .f32⟩
  | .hbm, ⟨50, _⟩ => ⟨S4096x256, .f32⟩
  | .hbm, ⟨51, _⟩ => ⟨S4096x1x256, .f32⟩
  | .hbm, ⟨52, _⟩ => ⟨S4096x256, .f32⟩
  | .hbm, ⟨53, _⟩ => ⟨S4096x1x256, .f32⟩
  | .hbm, ⟨54, _⟩ => ⟨S4096x256, .f32⟩
  | .hbm, ⟨55, _⟩ => ⟨S4096x1x256, .f32⟩
  | .hbm, ⟨56, _⟩ => ⟨S4096x256, .f32⟩
  | .hbm, ⟨57, _⟩ => ⟨S4096x256, .f32⟩
  | .hbm, ⟨58, _⟩ => ⟨S4096x256, .f32⟩
  | .hbm, ⟨59, _⟩ => ⟨S4096x256, .f32⟩
  | .hbm, ⟨60, _⟩ => ⟨S4096x256, .f32⟩
  | .hbm, ⟨61, _⟩ => ⟨S16x256, .f32⟩
  | .hbm, ⟨62, _⟩ => ⟨S4080x256, .f32⟩
  | .hbm, ⟨63, _⟩ => ⟨S_, .f32⟩
  | .hbm, ⟨64, _⟩ => ⟨S4096x256, .f32⟩
  | .hbm, ⟨65, _⟩ => ⟨S4096x256, .f32⟩
  | .hbm, ⟨66, _⟩ => ⟨S_, .f32⟩
  | .hbm, ⟨67, _⟩ => ⟨S_, .f32⟩
  | .hbm, ⟨68, _⟩ => ⟨S4096x256, .f32⟩
  | .hbm, ⟨69, _⟩ => ⟨S4096x256, .f32⟩
  | .hbm, ⟨70, _⟩ => ⟨S4096x1x256, .f32⟩
  | .hbm, ⟨71, _⟩ => ⟨S_, .f32⟩
  | .hbm, ⟨72, _⟩ => ⟨S4096x4x256, .f32⟩
  | .hbm, ⟨73, _⟩ => ⟨S4096x256, .f32⟩
  | .hbm, ⟨74, _⟩ => ⟨S4096x256, .f32⟩
  | .hbm, ⟨75, _⟩ => ⟨S4096x256, .f32⟩
  | .hbm, ⟨76, _⟩ => ⟨S4096x256, .f32⟩
  | .hbm, ⟨77, _⟩ => ⟨S8x256, .f32⟩
  | .hbm, ⟨78, _⟩ => ⟨S4088x256, .f32⟩
  | .hbm, ⟨79, _⟩ => ⟨S_, .f32⟩
  | .hbm, ⟨80, _⟩ => ⟨S4096x256, .f32⟩
  | .hbm, ⟨81, _⟩ => ⟨S4096x256, .f32⟩
  | .hbm, ⟨82, _⟩ => ⟨S_, .f32⟩
  | .hbm, ⟨83, _⟩ => ⟨S_, .f32⟩
  | .hbm, ⟨84, _⟩ => ⟨S4096x256, .f32⟩
  | .hbm, ⟨85, _⟩ => ⟨S4096x256, .f32⟩
  | .hbm, ⟨86, _⟩ => ⟨S4096x1x256, .f32⟩
  | .hbm, ⟨87, _⟩ => ⟨S_, .f32⟩
  | .hbm, ⟨88, _⟩ => ⟨S4096x4x256, .f32⟩
  | .hbm, ⟨89, _⟩ => ⟨S4096x4x256, .f32⟩
  | .hbm, ⟨90, _⟩ => ⟨S4096x256, .f32⟩
  | .hbm, ⟨91, _⟩ => ⟨S4096x256, .f32⟩
  | .hbm, ⟨92, _⟩ => ⟨S4096x256, .f32⟩
  | .hbm, ⟨93, _⟩ => ⟨S4096x256, .f32⟩
  | .hbm, ⟨94, _⟩ => ⟨S4x256, .f32⟩
  | .hbm, ⟨95, _⟩ => ⟨S4092x256, .f32⟩
  | .hbm, ⟨96, _⟩ => ⟨S_, .f32⟩
  | .hbm, ⟨97, _⟩ => ⟨S4096x256, .f32⟩
  | .hbm, ⟨98, _⟩ => ⟨S4096x256, .f32⟩
  | .hbm, ⟨99, _⟩ => ⟨S_, .f32⟩
  | .hbm, ⟨100, _⟩ => ⟨S_, .f32⟩
  | .hbm, ⟨101, _⟩ => ⟨S4096x256, .f32⟩
  | .hbm, ⟨102, _⟩ => ⟨S4096x256, .f32⟩
  | .hbm, ⟨103, _⟩ => ⟨S4096x1x256, .f32⟩
  | .hbm, ⟨104, _⟩ => ⟨S_, .f32⟩
  | .hbm, ⟨105, _⟩ => ⟨S4096x4x256, .f32⟩
  | .hbm, ⟨106, _⟩ => ⟨S4096x4x256, .f32⟩
  | .hbm, ⟨107, _⟩ => ⟨S4096x256, .f32⟩
  | .hbm, ⟨108, _⟩ => ⟨S4096x256, .f32⟩
  | .hbm, ⟨109, _⟩ => ⟨S4096x256, .f32⟩
  | .hbm, ⟨110, _⟩ => ⟨S4096x256, .f32⟩
  | .hbm, ⟨111, _⟩ => ⟨S2x256, .f32⟩
  | .hbm, ⟨112, _⟩ => ⟨S4094x256, .f32⟩
  | .hbm, ⟨113, _⟩ => ⟨S_, .f32⟩
  | .hbm, ⟨114, _⟩ => ⟨S4096x256, .f32⟩
  | .hbm, ⟨115, _⟩ => ⟨S4096x256, .f32⟩
  | .hbm, ⟨116, _⟩ => ⟨S_, .f32⟩
  | .hbm, ⟨117, _⟩ => ⟨S_, .f32⟩
  | .hbm, ⟨118, _⟩ => ⟨S4096x256, .f32⟩
  | .hbm, ⟨119, _⟩ => ⟨S4096x256, .f32⟩
  | .hbm, ⟨120, _⟩ => ⟨S4096x1x256, .f32⟩
  | .hbm, ⟨121, _⟩ => ⟨S_, .f32⟩
  | .hbm, ⟨122, _⟩ => ⟨S4096x4x256, .f32⟩
  | .hbm, ⟨123, _⟩ => ⟨S4096x4x256, .f32⟩
  | .hbm, ⟨124, _⟩ => ⟨S4096x1024, .f32⟩
  | .hbm, ⟨125, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_c_5 : Ref sig .tc := ⟨.hbm, 26, rfl⟩
abbrev main_v17 : Ref sig .tc := ⟨.hbm, 27, rfl⟩
abbrev main_v18 : Ref sig .tc := ⟨.hbm, 28, rfl⟩
abbrev main_c_6 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_c_8 : Ref sig .tc := ⟨.hbm, 36, rfl⟩
abbrev main_v24 : Ref sig .tc := ⟨.hbm, 37, rfl⟩
abbrev main_v25 : Ref sig .tc := ⟨.hbm, 38, rfl⟩
abbrev main_c_9 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_call4_call0_cst : Ref sig .tc := ⟨.hbm, 66, rfl⟩
abbrev main_call4_call0_v0 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_12 : Ref sig .tc := ⟨.hbm, 79, rfl⟩
abbrev main_v61 : Ref sig .tc := ⟨.hbm, 80, rfl⟩
abbrev main_v62 : Ref sig .tc := ⟨.hbm, 81, rfl⟩
abbrev main_call5_call0_cst : Ref sig .tc := ⟨.hbm, 82, rfl⟩
abbrev main_call5_call0_v0 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_13 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_14 : Ref sig .tc := ⟨.hbm, 96, rfl⟩
abbrev main_v74 : Ref sig .tc := ⟨.hbm, 97, rfl⟩
abbrev main_v75 : Ref sig .tc := ⟨.hbm, 98, rfl⟩
abbrev main_call6_call0_cst : Ref sig .tc := ⟨.hbm, 99, rfl⟩
abbrev main_call6_call0_v0 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_15 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_16 : Ref sig .tc := ⟨.hbm, 113, rfl⟩
abbrev main_v87 : Ref sig .tc := ⟨.hbm, 114, rfl⟩
abbrev main_v88 : Ref sig .tc := ⟨.hbm, 115, rfl⟩
abbrev main_call7_call0_cst : Ref sig .tc := ⟨.hbm, 116, rfl⟩
abbrev main_call7_call0_v0 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_17 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩

abbrev nD : Nat := 1
abbrev τ : Topo := Topo.v7x

variable {F : FTy → Type} [FloatOps F]
-- ==== Kernel2.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S4096x1024 : Shape := ⟨2, ![4096, 1024]⟩

abbrev nBuf : Space → Nat
  | .hbm => 16
  | .vmem => 46
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048x2048, .bf16⟩
  | .hbm, ⟨3, _⟩ => ⟨S2048x2048, .bf16⟩
  | .hbm, ⟨4, _⟩ => ⟨S4096x2048, .f32⟩
  | .hbm, ⟨5, _⟩ => ⟨S4096x2048, .bf16⟩
  | .hbm, ⟨6, _⟩ => ⟨S4096x2048, .f32⟩
  | .hbm, ⟨7, _⟩ => ⟨S4096x2048, .bf16⟩
  | .hbm, ⟨8, _⟩ => ⟨S4096x2048, .f32⟩
  | .hbm, ⟨9, _⟩ => ⟨S4096x2048, .f32⟩
  | .hbm, ⟨10, _⟩ => ⟨S4096x2048, .bf16⟩
  | .hbm, ⟨11, _⟩ => ⟨S2048x2048, .f32⟩
  | .hbm, ⟨12, _⟩ => ⟨S2048x2048, .bf16⟩
  | .hbm, ⟨13, _⟩ => ⟨S4096x2048, .f32⟩
  | .hbm, ⟨14, _⟩ => ⟨S2048x2048, .f32⟩
  | .hbm, ⟨15, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1024x2048, .f32⟩
  | .local _ .vmem, ⟨14, _⟩ => ⟨S1024x2048, .f32⟩
  | .local _ .vmem, ⟨15, _⟩ => ⟨S1024x2048, .bf16⟩
  | .local _ .vmem, ⟨16, _⟩ => ⟨S1024x2048, .bf16⟩
  | .local _ .vmem, ⟨17, _⟩ => ⟨S1024x2048, .bf16⟩
  | .local _ .vmem, ⟨18, _⟩ => ⟨S1024x2048, .bf16⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | .local _ .vmem, ⟨23, _⟩ => ⟨S1024x1024, .bf16⟩
  | .local _ .vmem, ⟨24, _⟩ => ⟨S1024x1024, .bf16⟩
  | .local _ .vmem, ⟨25, _⟩ => ⟨S4096x1024, .bf16⟩
  | .local _ .vmem, ⟨26, _⟩ => ⟨S4096x1024, .bf16⟩
  | .local _ .vmem, ⟨27, _⟩ => ⟨S4096x1024, .bf16⟩
  | .local _ .vmem, ⟨28, _⟩ => ⟨S4096x1024, .bf16⟩
  | .local _ .vmem, ⟨29, _⟩ => ⟨S1024x1024, .f32⟩
  | .local _ .vmem, ⟨30, _⟩ => ⟨S1024x1024, .f32⟩
  | .local _ .vmem, ⟨31, _⟩ => ⟨S1024x1024, .bf16⟩
  | .local _ .vmem, ⟨32, _⟩ => ⟨S1024x1024, .bf16⟩
  | .local _ .vmem, ⟨33, _⟩ => ⟨S1024x2048, .bf16⟩
  | .local _ .vmem, ⟨34, _⟩ => ⟨S1024x2048, .bf16⟩
  | .local _ .vmem, ⟨35, _⟩ => ⟨S2048x2048, .bf16⟩
  | .local _ .vmem, ⟨36, _⟩ => ⟨S1024x2048, .f32⟩
  | .local _ .vmem, ⟨37, _⟩ => ⟨S1024x2048, .f32⟩
  | .local _ .vmem, ⟨38, _⟩ => ⟨S4096x1024, .bf16⟩
  | .local _ .vmem, ⟨39, _⟩ => ⟨S4096x1024, .bf16⟩
  | .local _ .vmem, ⟨40, _⟩ => ⟨S4096x1024, .bf16⟩
  | .local _ .vmem, ⟨41, _⟩ => ⟨S4096x1024, .bf16⟩
  | .local _ .vmem, ⟨42, _⟩ => ⟨S1024x1024, .f32⟩
  | .local _ .vmem, ⟨43, _⟩ => ⟨S1024x1024, .f32⟩
  | .local _ .vmem, ⟨44, _⟩ => ⟨S1024x1024, .bf16⟩
  | .local _ .vmem, ⟨45, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg2_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc5_stg3_0 : Ref sig .tc := ⟨.vmem, 44, rfl⟩
abbrev cc5_stg3_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem3_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem2_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc5_sem3_0 : DmaSem sig := 44
abbrev cc5_sem3_1 : DmaSem sig := 45

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 2 → Memref sig .tc .vmem S1024x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev grid3 : Pipeline.Grid := ⟨3, ![2, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4096x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1024x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![4, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S2048x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S4096x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev stage5_3 : Fin 2 → Memref sig .tc .vmem S1024x1024 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]
-- ==== Reference2Ideal.lean ====
abbrev S4096x2048 : Shape := ⟨2, ![4096, 2048]⟩
abbrev S2048x2048 : Shape := ⟨2, ![2048, 2048]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048x2048, .bf16⟩
  | .hbm, ⟨3, _⟩ => ⟨S2048x2048, .bf16⟩
  | .hbm, ⟨4, _⟩ => ⟨S4096x2048, .f32⟩
  | .hbm, ⟨5, _⟩ => ⟨S4096x2048, .bf16⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S2048x2048, .f32⟩
  | .hbm, ⟨14, _⟩ => ⟨S2048x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S2048x2048, .f32⟩
  | .hbm, ⟨19, _⟩ => ⟨S2048x2048, .f32⟩
  | .hbm, ⟨20, _⟩ => ⟨S4096x2048, .f32⟩
  | .hbm, ⟨21, _⟩ => ⟨S2048x2048, .bf16⟩
  | .hbm, ⟨22, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel3.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩
abbrev S4x1024x512 : Shape := ⟨3, ![4, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 7
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .bf16⟩
  | .hbm, ⟨3, _⟩ => ⟨S4096x2048, .f32⟩
  | .hbm, ⟨4, _⟩ => ⟨S4096x1024, .f32⟩
  | .hbm, ⟨5, _⟩ => ⟨S4x1024x512, .f32⟩
  | .hbm, ⟨6, _⟩ => ⟨S4x1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .f32⟩
  | .local _ .vmem, ⟨4, _⟩ => ⟨S1024x2048, .f32⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x1024, .f32⟩
  | .local _ .vmem, ⟨9, _⟩ => ⟨S1024x1024, .f32⟩
  | .local _ .vmem, ⟨10, _⟩ => ⟨S4096x1024, .bf16⟩
  | .local _ .vmem, ⟨11, _⟩ => ⟨S4096x512, .bf16⟩
  | .local _ .vmem, ⟨12, _⟩ => ⟨S4096x512, .bf16⟩
  | .local _ .vmem, ⟨13, _⟩ => ⟨S1x1024x512, .f32⟩
  | .local _ .vmem, ⟨14, _⟩ => ⟨S1x1024x512, .f32⟩
  | .local _ .vmem, ⟨15, _⟩ => ⟨S1x1024x512, .bf16⟩
  | .local _ .vmem, ⟨16, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage2_0 : Fin 1 → Memref sig .tc .vmem S4096x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1x1024x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]
-- ==== Reference3Ideal.lean ====
abbrev S4096x1024 : Shape := ⟨2, ![4096, 1024]⟩
abbrev S1024x2048 : Shape := ⟨2, ![1024, 2048]⟩
abbrev S4096x2048 : Shape := ⟨2, ![4096, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .bf16⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S4096x1024, .f32⟩
  | .hbm, ⟨10, _⟩ => ⟨S1024x4x512, .f32⟩
  | .hbm, ⟨11, _⟩ => ⟨S4x1024x512, .f32⟩
  | .hbm, ⟨12, _⟩ => ⟨S4x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel4.lean ====
abbrev S4096x2048 : Shape := ⟨2, ![4096, 2048]⟩
abbrev S2048x4096 : Shape := ⟨2, ![2048, 4096]⟩
abbrev S4096x4096 : Shape := ⟨2, ![4096, 4096]⟩
abbrev S4x2048x1024 : Shape := ⟨3, ![4, 2048, 1024]⟩
abbrev S4096x1024 : Shape := ⟨2, ![4096, 1024]⟩
abbrev S1x1024x1024 : Shape := ⟨3, ![1, 1024, 1024]⟩
abbrev S1024x1024 : Shape := ⟨2, ![1024, 1024]⟩
abbrev S1024x4096 : Shape := ⟨2, ![1024, 4096]⟩

abbrev nBuf : Space → Nat
  | .hbm => 6
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x4096, .bf16⟩
  | .hbm, ⟨3, _⟩ => ⟨S4x2048x1024, .f32⟩
  | .hbm, ⟨4, _⟩ => ⟨S4x2048x1024, .bf16⟩
  | .hbm, ⟨5, _⟩ => ⟨S4096x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1024x4096, .bf16⟩
  | .local _ .vmem, ⟨9, _⟩ => ⟨S1024x4096, .bf16⟩
  | .local _ .vmem, ⟨10, _⟩ => ⟨S1024x4096, .bf16⟩
  | .local _ .vmem, ⟨11, _⟩ => ⟨S1024x4096, .bf16⟩
  | .local _ .vmem, ⟨12, _⟩ => ⟨S1024x1024, .f32⟩
  | .local _ .vmem, ⟨13, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference4Ideal.lean ====
abbrev S4096x2048 : Shape := ⟨2, ![4096, 2048]⟩
abbrev S2048x4096 : Shape := ⟨2, ![2048, 4096]⟩
abbrev S4096x4096 : Shape := ⟨2, ![4096, 4096]⟩
abbrev S2048x4x1024 : Shape := ⟨3, ![2048, 4, 1024]⟩
abbrev S4x2048x1024 : Shape := ⟨3, ![4, 2048, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x4096, .bf16⟩
  | .hbm, ⟨3, _⟩ => ⟨S4096x2048, .f32⟩
  | .hbm, ⟨4, _⟩ => ⟨S2048x4096, .f32⟩
  | .hbm, ⟨5, _⟩ => ⟨S4096x4096, .f32⟩
  | .hbm, ⟨6, _⟩ => ⟨S4096x4096, .f32⟩
  | .hbm, ⟨7, _⟩ => ⟨S4096x2048, .f32⟩
  | .hbm, ⟨8, _⟩ => ⟨S2048x4096, .f32⟩
  | .hbm, ⟨9, _⟩ => ⟨S4096x2048, .f32⟩
  | .hbm, ⟨10, _⟩ => ⟨S2048x4x1024, .f32⟩
  | .hbm, ⟨11, _⟩ => ⟨S4x2048x1024, .f32⟩
  | .hbm, ⟨12, _⟩ => ⟨S4x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel5.lean ====
abbrev S4096x2048 : Shape := ⟨2, ![4096, 2048]⟩
abbrev S4096x1024 : Shape := ⟨2, ![4096, 1024]⟩
abbrev S4096x4096 : Shape := ⟨2, ![4096, 4096]⟩
abbrev S1x1024 : Shape := ⟨2, ![1, 1024]⟩
abbrev S256x1024 : Shape := ⟨2, ![256, 1024]⟩
abbrev S256x2048 : Shape := ⟨2, ![256, 2048]⟩
abbrev S3x256x2048 : Shape := ⟨3, ![3, 256, 2048]⟩
abbrev S3x256x1024 : Shape := ⟨3, ![3, 256, 1024]⟩
abbrev S5x3 : Shape := ⟨2, ![5, 3]⟩
abbrev S1x1 : Shape := ⟨2, ![1, 1]⟩
abbrev S_ : Shape := ⟨0, ![]⟩
abbrev S1x256x2048 : Shape := ⟨3, ![1, 256, 2048]⟩
abbrev S1x256x1024 : Shape := ⟨3, ![1, 256, 1024]⟩
abbrev S1024 : Shape := ⟨1, ![1024]⟩

abbrev nBuf : Space → Nat
  | .hbm => 10
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x4096, .f32⟩
  | .hbm, ⟨3, _⟩ => ⟨S4096x2048, .f32⟩
  | .hbm, ⟨4, _⟩ => ⟨S1x1024, .f32⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x2048, .bf16⟩
  | .hbm, ⟨9, _⟩ => ⟨S1x1024, .f32⟩
  | .local _ .vmem, ⟨0, _⟩ => ⟨S1x1024, .f32⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x2048, .bf16⟩
  | .local _ .vmem, ⟨8, _⟩ => ⟨S256x2048, .bf16⟩
  | .local _ .vmem, ⟨9, _⟩ => ⟨S1x1024, .f32⟩
  | .local _ .vmem, ⟨10, _⟩ => ⟨S3x256x2048, .f32⟩
  | .local _ .vmem, ⟨11, _⟩ => ⟨S3x256x1024, .f32⟩
  | .local _ .vmem, ⟨12, _⟩ => ⟨S3x256x1024, .f32⟩
  | .local _ .vmem, ⟨13, _⟩ => ⟨S3x256x1024, .f32⟩
  | .local _ .vmem, ⟨14, _⟩ => ⟨S3x256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_mult1 : BitVec 32 :=
  let c0_i32_122 : BitVec 32 := 0#32
  c0_i32_122
def k0_mult2 : BitVec 32 :=
  let c0_i32_129 : BitVec 32 := 0#32
  c0_i32_129
def k0_mult3 : BitVec 32 :=
  let c0_i32_136 : BitVec 32 := 0#32
  c0_i32_136
def k0_mult4 : BitVec 32 :=
  let c0_i32_143 : BitVec 32 := 0#32
  c0_i32_143
def k0_mult5 : BitVec 32 :=
  let c0_i32_150 : BitVec 32 := 0#32
  c0_i32_150
def k0_mult6 : BitVec 32 :=
  let c256_i32_157 : BitVec 32 := 256#32
  c256_i32_157
def k0_mult7 : BitVec 32 :=
  let c256_i32_164 : BitVec 32 := 256#32
  c256_i32_164
def k0_mult8 : BitVec 32 :=
  let c256_i32_171 : BitVec 32 := 256#32
  c256_i32_171
def k0_mult9 : BitVec 32 :=
  let c256_i32_178 : BitVec 32 := 256#32
  c256_i32_178
def k0_mult10 : BitVec 32 :=
  let c256_i32_185 : BitVec 32 := 256#32
  c256_i32_185
def k0_cond3 (i : grid0.Coords) : BitVec 1 :=
  let arg0 : BitVec 32 := BitVec.ofNat 32 (i 0).val
  let c3_i32 : BitVec 32 := 3#32
  let v6 : BitVec 32 := Scalar.addi arg0 c3_i32
  let c1_i32 : BitVec 32 := 1#32
  let v7 : BitVec 32 := Scalar.subi v6 c1_i32
  let c16_i32 : BitVec 32 := 16#32
  let v8 : BitVec 1 := Scalar.cmpi .slt v7 c16_i32
  let v9 : BitVec 32 := Scalar.extui v8
  let c0_i32_3 : BitVec 32 := 0#32
  let v10 : BitVec 1 := Scalar.cmpi .ne v9 c0_i32_3
  v10

def k0_mult11 (i : grid0.Coords) : BitVec 32 :=
  let arg0 : BitVec 32 := BitVec.ofNat 32 (i 0).val
  let c3_i32_122 : BitVec 32 := 3#32
  let v235 : BitVec 32 := Scalar.addi arg0 c3_i32_122
  let c1_i32_123 : BitVec 32 := 1#32
  let v236 : BitVec 32 := Scalar.subi v235 c1_i32_123
  let c256_i32_130 : BitVec 32 := 256#32
  let v247 : BitVec 32 := Scalar.muli v236 c256_i32_130
  v247
def k0_off1 (i : grid0.Coords) : Fin 2 → Nat :=
  let c0_i32_131 : BitVec 32 := 0#32
  let arg0 : BitVec 32 := BitVec.ofNat 32 (i 0).val
  let c3_i32_122 : BitVec 32 := 3#32
  let v235 : BitVec 32 := Scalar.addi arg0 c3_i32_122
  let c1_i32_123 : BitVec 32 := 1#32
  let v236 : BitVec 32 := Scalar.subi v235 c1_i32_123
  let c3_i32_124 : BitVec 32 := 3#32
  let c0_i32_125 : BitVec 32 := 0#32
  let v237 : BitVec 1 := Scalar.cmpi .eq c3_i32_124 c0_i32_125
  let c1_i32_126 : BitVec 32 := 1#32
  let v238 : BitVec 32 := Scalar.select v237 c1_i32_126 c3_i32_124
  let v239 : BitVec 32 := Scalar.remsi v236 v238
  let c0_i32_128 : BitVec 32 := 0#32
  let v241 : BitVec 1 := Scalar.cmpi .slt v239 c0_i32_128
  let c0_i32_129 : BitVec 32 := 0#32
  let v242 : BitVec 1 := Scalar.cmpi .slt v238 c0_i32_129
  let v243 : BitVec 1 := Scalar.xori v241 v242
  let c0_i32_127 : BitVec 32 := 0#32
  let v240 : BitVec 1 := Scalar.cmpi .ne v239 c0_i32_127
  let v244 : BitVec 1 := Scalar.andi v243 v240
  let v245 : BitVec 32 := Scalar.addi v239 v238
  let v246 : BitVec 32 := Scalar.select v244 v245 v239
  ![0, v246.toNat]
def k0_off2 (i : grid0.Coords) : Fin 3 → Nat :=
  let arg0 : BitVec 32 := BitVec.ofNat 32 (i 0).val
  let c3_i32_122 : BitVec 32 := 3#32
  let v235 : BitVec 32 := Scalar.addi arg0 c3_i32_122
  let c1_i32_123 : BitVec 32 := 1#32
  let v236 : BitVec 32 := Scalar.subi v235 c1_i32_123
  let c3_i32_124 : BitVec 32 := 3#32
  let c0_i32_125 : BitVec 32 := 0#32
  let v237 : BitVec 1 := Scalar.cmpi .eq c3_i32_124 c0_i32_125
  let c1_i32_126 : BitVec 32 := 1#32
  let v238 : BitVec 32 := Scalar.select v237 c1_i32_126 c3_i32_124
  let v239 : BitVec 32 := Scalar.remsi v236 v238
  let c0_i32_128 : BitVec 32 := 0#32
  let v241 : BitVec 1 := Scalar.cmpi .slt v239 c0_i32_128
  let c0_i32_129 : BitVec 32 := 0#32
  let v242 : BitVec 1 := Scalar.cmpi .slt v238 c0_i32_129
  let v243 : BitVec 1 := Scalar.xori v241 v242
  let c0_i32_127 : BitVec 32 := 0#32
  let v240 : BitVec 1 := Scalar.cmpi .ne v239 c0_i32_127
  let v244 : BitVec 1 := Scalar.andi v243 v240
  let v245 : BitVec 32 := Scalar.addi v239 v238
  let v246 : BitVec 32 := Scalar.select v244 v245 v239
  let c0_i32_132 : BitVec 32 := 0#32
  let c0_i32_133 : BitVec 32 := 0#32
  ![v246.toNat, 0, 0]
def k0_off3 (i : grid0.Coords) : Fin 2 → Nat :=
  let arg0 : BitVec 32 := BitVec.ofNat 32 (i 0).val
  let c3_i32_122 : BitVec 32 := 3#32
  let v235 : BitVec 32 := Scalar.addi arg0 c3_i32_122
  let c1_i32_123 : BitVec 32 := 1#32
  let v236 : BitVec 32 := Scalar.subi v235 c1_i32_123
  let c256_i32_130 : BitVec 32 := 256#32
  let v247 : BitVec 32 := Scalar.muli v236 c256_i32_130
  let v248 : BitVec 32 := v247
  let c0_i32_134 : BitVec 32 := 0#32
  ![v248.toNat, 0]
def k0_mult12 (i : grid0.Coords) : BitVec 32 :=
  let arg0 : BitVec 32 := BitVec.ofNat 32 (i 0).val
  let c3_i32_135 : BitVec 32 := 3#32
  let v254 : BitVec 32 := Scalar.addi arg0 c3_i32_135
  let c1_i32_136 : BitVec 32 := 1#32
  let v255 : BitVec 32 := Scalar.subi v254 c1_i32_136
  let c256_i32_143 : BitVec 32 := 256#32
  let v266 : BitVec 32 := Scalar.muli v255 c256_i32_143
  v266
def k0_off4 (i : grid0.Coords) : Fin 2 → Nat :=
  let c1_i32_144 : BitVec 32 := 1#32
  let arg0 : BitVec 32 := BitVec.ofNat 32 (i 0).val
  let c3_i32_135 : BitVec 32 := 3#32
  let v254 : BitVec 32 := Scalar.addi arg0 c3_i32_135
  let c1_i32_136 : BitVec 32 := 1#32
  let v255 : BitVec 32 := Scalar.subi v254 c1_i32_136
  let c3_i32_137 : BitVec 32 := 3#32
  let c0_i32_138 : BitVec 32 := 0#32
  let v256 : BitVec 1 := Scalar.cmpi .eq c3_i32_137 c0_i32_138
  let c1_i32_139 : BitVec 32 := 1#32
  let v257 : BitVec 32 := Scalar.select v256 c1_i32_139 c3_i32_137
  let v258 : BitVec 32 := Scalar.remsi v255 v257
  let c0_i32_141 : BitVec 32 := 0#32
  let v260 : BitVec 1 := Scalar.cmpi .slt v258 c0_i32_141
  let c0_i32_142 : BitVec 32 := 0#32
  let v261 : BitVec 1 := Scalar.cmpi .slt v257 c0_i32_142
  let v262 : BitVec 1 := Scalar.xori v260 v261
  let c0_i32_140 : BitVec 32 := 0#32
  let v259 : BitVec 1 := Scalar.cmpi .ne v258 c0_i32_140
  let v263 : BitVec 1 := Scalar.andi v262 v259
  let v264 : BitVec 32 := Scalar.addi v258 v257
  let v265 : BitVec 32 := Scalar.select v263 v264 v258
  ![1, v265.toNat]
def k0_off5 (i : grid0.Coords) : Fin 3 → Nat :=
  let arg0 : BitVec 32 := BitVec.ofNat 32 (i 0).val
  let c3_i32_135 : BitVec 32 := 3#32
  let v254 : BitVec 32 := Scalar.addi arg0 c3_i32_135
  let c1_i32_136 : BitVec 32 := 1#32
  let v255 : BitVec 32 := Scalar.subi v254 c1_i32_136
  let c3_i32_137 : BitVec 32 := 3#32
  let c0_i32_138 : BitVec 32 := 0#32
  let v256 : BitVec 1 := Scalar.cmpi .eq c3_i32_137 c0_i32_138
  let c1_i32_139 : BitVec 32 := 1#32
  let v257 : BitVec 32 := Scalar.select v256 c1_i32_139 c3_i32_137
  let v258 : BitVec 32 := Scalar.remsi v255 v257
  let c0_i32_141 : BitVec 32 := 0#32
  let v260 : BitVec 1 := Scalar.cmpi .slt v258 c0_i32_141
  let c0_i32_142 : BitVec 32 := 0#32
  let v261 : BitVec 1 := Scalar.cmpi .slt v257 c0_i32_142
  let v262 : BitVec 1 := Scalar.xori v260 v261
  let c0_i32_140 : BitVec 32 := 0#32
  let v259 : BitVec 1 := Scalar.cmpi .ne v258 c0_i32_140
  let v263 : BitVec 1 := Scalar.andi v262 v259
  let v264 : BitVec 32 := Scalar.addi v258 v257
  let v265 : BitVec 32 := Scalar.select v263 v264 v258
  let c0_i32_145 : BitVec 32 := 0#32
  let c0_i32_146 : BitVec 32 := 0#32
  ![v265.toNat, 0, 0]
def k0_off6 (i : grid0.Coords) : Fin 2 → Nat :=
  let arg0 : BitVec 32 := BitVec.ofNat 32 (i 0).val
  let c3_i32_135 : BitVec 32 := 3#32
  let v254 : BitVec 32 := Scalar.addi arg0 c3_i32_135
  let c1_i32_136 : BitVec 32 := 1#32
  let v255 : BitVec 32 := Scalar.subi v254 c1_i32_136
  let c256_i32_143 : BitVec 32 := 256#32
  let v266 : BitVec 32 := Scalar.muli v255 c256_i32_143
  let v267 : BitVec 32 := v266
  let c0_i32_147 : BitVec 32 := 0#32
  ![v267.toNat, 0]
def k0_mult13 (i : grid0.Coords) : BitVec 32 :=
  let arg0 : BitVec 32 := BitVec.ofNat 32 (i 0).val
  let c3_i32_148 : BitVec 32 := 3#32
  let v273 : BitVec 32 := Scalar.addi arg0 c3_i32_148
  let c1_i32_149 : BitVec 32 := 1#32
  let v274 : BitVec 32 := Scalar.subi v273 c1_i32_149
  let c256_i32_156 : BitVec 32 := 256#32
  let v285 : BitVec 32 := Scalar.muli v274 c256_i32_156
  v285
def k0_off7 (i : grid0.Coords) : Fin 2 → Nat :=
  let c2_i32_157 : BitVec 32 := 2#32
  let arg0 : BitVec 32 := BitVec.ofNat 32 (i 0).val
  let c3_i32_148 : BitVec 32 := 3#32
  let v273 : BitVec 32 := Scalar.addi arg0 c3_i32_148
  let c1_i32_149 : BitVec 32 := 1#32
  let v274 : BitVec 32 := Scalar.subi v273 c1_i32_149
  let c3_i32_150 : BitVec 32 := 3#32
  let c0_i32_151 : BitVec 32 := 0#32
  let v275 : BitVec 1 := Scalar.cmpi .eq c3_i32_150 c0_i32_151
  let c1_i32_152 : BitVec 32 := 1#32
  let v276 : BitVec 32 := Scalar.select v275 c1_i32_152 c3_i32_150
  let v277 : BitVec 32 := Scalar.remsi v274 v276
  let c0_i32_154 : BitVec 32 := 0#32
  let v279 : BitVec 1 := Scalar.cmpi .slt v277 c0_i32_154
  let c0_i32_155 : BitVec 32 := 0#32
  let v280 : BitVec 1 := Scalar.cmpi .slt v276 c0_i32_155
  let v281 : BitVec 1 := Scalar.xori v279 v280
  let c0_i32_153 : BitVec 32 := 0#32
  let v278 : BitVec 1 := Scalar.cmpi .ne v277 c0_i32_153
  let v282 : BitVec 1 := Scalar.andi v281 v278
  let v283 : BitVec 32 := Scalar.addi v277 v276
  let v284 : BitVec 32 := Scalar.select v282 v283 v277
  ![2, v284.toNat]
def k0_off8 (i : grid0.Coords) : Fin 2 → Nat :=
  let arg0 : BitVec 32 := BitVec.ofNat 32 (i 0).val
  let c3_i32_148 : BitVec 32 := 3#32
  let v273 : BitVec 32 := Scalar.addi arg0 c3_i32_148
  let c1_i32_149 : BitVec 32 := 1#32
  let v274 : BitVec 32 := Scalar.subi v273 c1_i32_149
  let c256_i32_156 : BitVec 32 := 256#32
  let v285 : BitVec 32 := Scalar.muli v274 c256_i32_156
  let v286 : BitVec 32 := v285
  let c1024_i32_160 : BitVec 32 := 1024#32
  ![v286.toNat, 1024]
def k0_mult14 (i : grid0.Coords) : BitVec 32 :=
  let arg0 : BitVec 32 := BitVec.ofNat 32 (i 0).val
  let c3_i32_161 : BitVec 32 := 3#32
  let v292 : BitVec 32 := Scalar.addi arg0 c3_i32_161
  let c1_i32_162 : BitVec 32 := 1#32
  let v293 : BitVec 32 := Scalar.subi v292 c1_i32_162
  let c256_i32_169 : BitVec 32 := 256#32
  let v304 : BitVec 32 := Scalar.muli v293 c256_i32_169
  v304
def k0_off9 (i : grid0.Coords) : Fin 2 → Nat :=
  let c3_i32_170 : BitVec 32 := 3#32
  let arg0 : BitVec 32 := BitVec.ofNat 32 (i 0).val
  let c3_i32_161 : BitVec 32 := 3#32
  let v292 : BitVec 32 := Scalar.addi arg0 c3_i32_161
  let c1_i32_162 : BitVec 32 := 1#32
  let v293 : BitVec 32 := Scalar.subi v292 c1_i32_162
  let c3_i32_163 : BitVec 32 := 3#32
  let c0_i32_164 : BitVec 32 := 0#32
  let v294 : BitVec 1 := Scalar.cmpi .eq c3_i32_163 c0_i32_164
  let c1_i32_165 : BitVec 32 := 1#32
  let v295 : BitVec 32 := Scalar.select v294 c1_i32_165 c3_i32_163
  let v296 : BitVec 32 := Scalar.remsi v293 v295
  let c0_i32_167 : BitVec 32 := 0#32
  let v298 : BitVec 1 := Scalar.cmpi .slt v296 c0_i32_167
  let c0_i32_168 : BitVec 32 := 0#32
  let v299 : BitVec 1 := Scalar.cmpi .slt v295 c0_i32_168
  let v300 : BitVec 1 := Scalar.xori v298 v299
  let c0_i32_166 : BitVec 32 := 0#32
  let v297 : BitVec 1 := Scalar.cmpi .ne v296 c0_i32_166
  let v301 : BitVec 1 := Scalar.andi v300 v297
  let v302 : BitVec 32 := Scalar.addi v296 v295
  let v303 : BitVec 32 := Scalar.select v301 v302 v296
  ![3, v303.toNat]
def k0_off10 (i : grid0.Coords) : Fin 2 → Nat :=
  let arg0 : BitVec 32 := BitVec.ofNat 32 (i 0).val
  let c3_i32_161 : BitVec 32 := 3#32
  let v292 : BitVec 32 := Scalar.addi arg0 c3_i32_161
  let c1_i32_162 : BitVec 32 := 1#32
  let v293 : BitVec 32 := Scalar.subi v292 c1_i32_162
  let c256_i32_169 : BitVec 32 := 256#32
  let v304 : BitVec 32 := Scalar.muli v293 c256_i32_169
  let v305 : BitVec 32 := v304
  let c3072_i32_173 : BitVec 32 := 3072#32
  ![v305.toNat, 3072]
def k0_mult15 (i : grid0.Coords) : BitVec 32 :=
  let arg0 : BitVec 32 := BitVec.ofNat 32 (i 0).val
  let c3_i32_174 : BitVec 32 := 3#32
  let v311 : BitVec 32 := Scalar.addi arg0 c3_i32_174
  let c1_i32_175 : BitVec 32 := 1#32
  let v312 : BitVec 32 := Scalar.subi v311 c1_i32_175
  let c256_i32_182 : BitVec 32 := 256#32
  let v323 : BitVec 32 := Scalar.muli v312 c256_i32_182
  v323
def k0_off11 (i : grid0.Coords) : Fin 2 → Nat :=
  let c4_i32_183 : BitVec 32 := 4#32
  let arg0 : BitVec 32 := BitVec.ofNat 32 (i 0).val
  let c3_i32_174 : BitVec 32 := 3#32
  let v311 : BitVec 32 := Scalar.addi arg0 c3_i32_174
  let c1_i32_175 : BitVec 32 := 1#32
  let v312 : BitVec 32 := Scalar.subi v311 c1_i32_175
  let c3_i32_176 : BitVec 32 := 3#32
  let c0_i32_177 : BitVec 32 := 0#32
  let v313 : BitVec 1 := Scalar.cmpi .eq c3_i32_176 c0_i32_177
  let c1_i32_178 : BitVec 32 := 1#32
  let v314 : BitVec 32 := Scalar.select v313 c1_i32_178 c3_i32_176
  let v315 : BitVec 32 := Scalar.remsi v312 v314
  let c0_i32_180 : BitVec 32 := 0#32
  let v317 : BitVec 1 := Scalar.cmpi .slt v315 c0_i32_180
  let c0_i32_181 : BitVec 32 := 0#32
  let v318 : BitVec 1 := Scalar.cmpi .slt v314 c0_i32_181
  let v319 : BitVec 1 := Scalar.xori v317 v318
  let c0_i32_179 : BitVec 32 := 0#32
  let v316 : BitVec 1 := Scalar.cmpi .ne v315 c0_i32_179
  let v320 : BitVec 1 := Scalar.andi v319 v316
  let v321 : BitVec 32 := Scalar.addi v315 v314
  let v322 : BitVec 32 := Scalar.select v320 v321 v315
  ![4, v322.toNat]
def k0_mult16 (i : grid0.Coords) : BitVec 32 :=
  let arg0 : BitVec 32 := BitVec.ofNat 32 (i 0).val
  let c256_i32 : BitVec 32 := 256#32
  let v21 : BitVec 32 := Scalar.muli arg0 c256_i32
  v21
def k0_off12 (i : grid0.Coords) : Fin 2 → Nat :=
  let c0_i32_10 : BitVec 32 := 0#32
  let arg0 : BitVec 32 := BitVec.ofNat 32 (i 0).val
  let c3_i32_4 : BitVec 32 := 3#32
  let c0_i32_5 : BitVec 32 := 0#32
  let v11 : BitVec 1 := Scalar.cmpi .eq c3_i32_4 c0_i32_5
  let c1_i32_6 : BitVec 32 := 1#32
  let v12 : BitVec 32 := Scalar.select v11 c1_i32_6 c3_i32_4
  let v13 : BitVec 32 := Scalar.remsi arg0 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  ![0, v20.toNat]
def k0_off13 (i : grid0.Coords) : Fin 3 → Nat :=
  let arg0 : BitVec 32 := BitVec.ofNat 32 (i 0).val
  let c3_i32_4 : BitVec 32 := 3#32
  let c0_i32_5 : BitVec 32 := 0#32
  let v11 : BitVec 1 := Scalar.cmpi .eq c3_i32_4 c0_i32_5
  let c1_i32_6 : BitVec 32 := 1#32
  let v12 : BitVec 32 := Scalar.select v11 c1_i32_6 c3_i32_4
  let v13 : BitVec 32 := Scalar.remsi arg0 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let c0_i32_11 : BitVec 32 := 0#32
  let c0_i32_12 : BitVec 32 := 0#32
  ![v20.toNat, 0, 0]
def k0_off14 (i : grid0.Coords) : Fin 2 → Nat :=
  let arg0 : BitVec 32 := BitVec.ofNat 32 (i 0).val
  let c256_i32 : BitVec 32 := 256#32
  let v21 : BitVec 32 := Scalar.muli arg0 c256_i32
  let v22 : BitVec 32 := v21
  let c0_i32_13 : BitVec 32 := 0#32
  ![v22.toNat, 0]
def k0_mult17 (i : grid0.Coords) : BitVec 32 :=
  let arg0 : BitVec 32 := BitVec.ofNat 32 (i 0).val
  let c256_i32_20 : BitVec 32 := 256#32
  let v38 : BitVec 32 := Scalar.muli arg0 c256_i32_20
  v38
def k0_off15 (i : grid0.Coords) : Fin 2 → Nat :=
  let c1_i32_21 : BitVec 32 := 1#32
  let arg0 : BitVec 32 := BitVec.ofNat 32 (i 0).val
  let c3_i32_14 : BitVec 32 := 3#32
  let c0_i32_15 : BitVec 32 := 0#32
  let v28 : BitVec 1 := Scalar.cmpi .eq c3_i32_14 c0_i32_15
  let c1_i32_16 : BitVec 32 := 1#32
  let v29 : BitVec 32 := Scalar.select v28 c1_i32_16 c3_i32_14
  let v30 : BitVec 32 := Scalar.remsi arg0 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  ![1, v37.toNat]
def k0_off16 (i : grid0.Coords) : Fin 3 → Nat :=
  let arg0 : BitVec 32 := BitVec.ofNat 32 (i 0).val
  let c3_i32_14 : BitVec 32 := 3#32
  let c0_i32_15 : BitVec 32 := 0#32
  let v28 : BitVec 1 := Scalar.cmpi .eq c3_i32_14 c0_i32_15
  let c1_i32_16 : BitVec 32 := 1#32
  let v29 : BitVec 32 := Scalar.select v28 c1_i32_16 c3_i32_14
  let v30 : BitVec 32 := Scalar.remsi arg0 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c0_i32_22 : BitVec 32 := 0#32
  let c0_i32_23 : BitVec 32 := 0#32
  ![v37.toNat, 0, 0]
def k0_off17 (i : grid0.Coords) : Fin 2 → Nat :=
  let arg0 : BitVec 32 := BitVec.ofNat 32 (i 0).val
  let c256_i32_20 : BitVec 32 := 256#32
  let v38 : BitVec 32 := Scalar.muli arg0 c256_i32_20
  let v39 : BitVec 32 := v38
  let c0_i32_24 : BitVec 32 := 0#32
  ![v39.toNat, 0]
def k0_mult18 (i : grid0.Coords) : BitVec 32 :=
  let arg0 : BitVec 32 := BitVec.ofNat 32 (i 0).val
  let c256_i32_31 : BitVec 32 := 256#32
  let v55 : BitVec 32 := Scalar.muli arg0 c256_i32_31
  v55
def k0_off18 (i : grid0.Coords) : Fin 2 → Nat :=
  let c2_i32 : BitVec 32 := 2#32
  let arg0 : BitVec 32 := BitVec.ofNat 32 (i 0).val
  let c3_i32_25 : BitVec 32 := 3#32
  let c0_i32_26 : BitVec 32 := 0#32
  let v45 : BitVec 1 := Scalar.cmpi .eq c3_i32_25 c0_i32_26
  let c1_i32_27 : BitVec 32 := 1#32
  let v46 : BitVec 32 := Scalar.select v45 c1_i32_27 c3_i32_25
  let v47 : BitVec 32 := Scalar.remsi arg0 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  ![2, v54.toNat]
def k0_off19 (i : grid0.Coords) : Fin 2 → Nat :=
  let arg0 : BitVec 32 := BitVec.ofNat 32 (i 0).val
  let c256_i32_31 : BitVec 32 := 256#32
  let v55 : BitVec 32 := Scalar.muli arg0 c256_i32_31
  let v56 : BitVec 32 := v55
  let c1024_i32 : BitVec 32 := 1024#32
  ![v56.toNat, 1024]
def k0_mult19 (i : grid0.Coords) : BitVec 32 :=
  let arg0 : BitVec 32 := BitVec.ofNat 32 (i 0).val
  let c256_i32_40 : BitVec 32 := 256#32
  let v72 : BitVec 32 := Scalar.muli arg0 c256_i32_40
  v72
def k0_off20 (i : grid0.Coords) : Fin 2 → Nat :=
  let c3_i32_41 : BitVec 32 := 3#32
  let arg0 : BitVec 32 := BitVec.ofNat 32 (i 0).val
  let c3_i32_34 : BitVec 32 := 3#32
  let c0_i32_35 : BitVec 32 := 0#32
  let v62 : BitVec 1 := Scalar.cmpi .eq c3_i32_34 c0_i32_35
  let c1_i32_36 : BitVec 32 := 1#32
  let v63 : BitVec 32 := Scalar.select v62 c1_i32_36 c3_i32_34
  let v64 : BitVec 32 := Scalar.remsi arg0 v63
  let c0_i32_38 : BitVec 32 := 0#32
  let v66 : BitVec 1 := Scalar.cmpi .slt v64 c0_i32_38
  let c0_i32_39 : BitVec 32 := 0#32
  let v67 : BitVec 1 := Scalar.cmpi .slt v63 c0_i32_39
  let v68 : BitVec 1 := Scalar.xori v66 v67
  let c0_i32_37 : BitVec 32 := 0#32
  let v65 : BitVec 1 := Scalar.cmpi .ne v64 c0_i32_37
  let v69 : BitVec 1 := Scalar.andi v68 v65
  let v70 : BitVec 32 := Scalar.addi v64 v63
  let v71 : BitVec 32 := Scalar.select v69 v70 v64
  ![3, v71.toNat]
def k0_off21 (i : grid0.Coords) : Fin 2 → Nat :=
  let arg0 : BitVec 32 := BitVec.ofNat 32 (i 0).val
  let c256_i32_40 : BitVec 32 := 256#32
  let v72 : BitVec 32 := Scalar.muli arg0 c256_i32_40
  let v73 : BitVec 32 := v72
  let c3072_i32 : BitVec 32 := 3072#32
  ![v73.toNat, 3072]
def k0_mult20 (i : grid0.Coords) : BitVec 32 :=
  let arg0 : BitVec 32 := BitVec.ofNat 32 (i 0).val
  let c256_i32_50 : BitVec 32 := 256#32
  let v89 : BitVec 32 := Scalar.muli arg0 c256_i32_50
  v89
def k0_off22 (i : grid0.Coords) : Fin 2 → Nat :=
  let c4_i32 : BitVec 32 := 4#32
  let arg0 : BitVec 32 := BitVec.ofNat 32 (i 0).val
  let c3_i32_44 : BitVec 32 := 3#32
  let c0_i32_45 : BitVec 32 := 0#32
  let v79 : BitVec 1 := Scalar.cmpi .eq c3_i32_44 c0_i32_45
  let c1_i32_46 : BitVec 32 := 1#32
  let v80 : BitVec 32 := Scalar.select v79 c1_i32_46 c3_i32_44
  let v81 : BitVec 32 := Scalar.remsi arg0 v80
  let c0_i32_48 : BitVec 32 := 0#32
  let v83 : BitVec 1 := Scalar.cmpi .slt v81 c0_i32_48
  let c0_i32_49 : BitVec 32 := 0#32
  let v84 : BitVec 1 := Scalar.cmpi .slt v80 c0_i32_49
  let v85 : BitVec 1 := Scalar.xori v83 v84
  let c0_i32_47 : BitVec 32 := 0#32
  let v82 : BitVec 1 := Scalar.cmpi .ne v81 c0_i32_47
  let v86 : BitVec 1 := Scalar.andi v85 v82
  let v87 : BitVec 32 := Scalar.addi v81 v80
  let v88 : BitVec 32 := Scalar.select v86 v87 v81
  ![4, v88.toNat]
def k0_off23 (i : grid0.Coords) : Fin 3 → Nat :=
  let arg0 : BitVec 32 := BitVec.ofNat 32 (i 0).val
  let c3_i32_54 : BitVec 32 := 3#32
  let c0_i32_55 : BitVec 32 := 0#32
  let v96 : BitVec 1 := Scalar.cmpi .eq c3_i32_54 c0_i32_55
  let c1_i32_56 : BitVec 32 := 1#32
  let v97 : BitVec 32 := Scalar.select v96 c1_i32_56 c3_i32_54
  let v98 : BitVec 32 := Scalar.remsi arg0 v97
  let c0_i32_58 : BitVec 32 := 0#32
  let v100 : BitVec 1 := Scalar.cmpi .slt v98 c0_i32_58
  let c0_i32_59 : BitVec 32 := 0#32
  let v101 : BitVec 1 := Scalar.cmpi .slt v97 c0_i32_59
  let v102 : BitVec 1 := Scalar.xori v100 v101
  let c0_i32_57 : BitVec 32 := 0#32
  let v99 : BitVec 1 := Scalar.cmpi .ne v98 c0_i32_57
  let v103 : BitVec 1 := Scalar.andi v102 v99
  let v104 : BitVec 32 := Scalar.addi v98 v97
  let v105 : BitVec 32 := Scalar.select v103 v104 v98
  let v146 : Index := Scalar.indexCast v105
  let c0 : Index := 0#32
  let c0_84 : Index := 0#32
  ![v146.toNat, 0, 0]
def k0_off24 (i : grid0.Coords) : Fin 3 → Nat :=
  let arg0 : BitVec 32 := BitVec.ofNat 32 (i 0).val
  let c3_i32_66 : BitVec 32 := 3#32
  let c0_i32_67 : BitVec 32 := 0#32
  let v116 : BitVec 1 := Scalar.cmpi .eq c3_i32_66 c0_i32_67
  let c1_i32_68 : BitVec 32 := 1#32
  let v117 : BitVec 32 := Scalar.select v116 c1_i32_68 c3_i32_66
  let v118 : BitVec 32 := Scalar.remsi arg0 v117
  let c0_i32_70 : BitVec 32 := 0#32
  let v120 : BitVec 1 := Scalar.cmpi .slt v118 c0_i32_70
  let c0_i32_71 : BitVec 32 := 0#32
  let v121 : BitVec 1 := Scalar.cmpi .slt v117 c0_i32_71
  let v122 : BitVec 1 := Scalar.xori v120 v121
  let c0_i32_69 : BitVec 32 := 0#32
  let v119 : BitVec 1 := Scalar.cmpi .ne v118 c0_i32_69
  let v123 : BitVec 1 := Scalar.andi v122 v119
  let v124 : BitVec 32 := Scalar.addi v118 v117
  let v125 : BitVec 32 := Scalar.select v123 v124 v118
  let v151 : Index := Scalar.indexCast v125
  let c0_85 : Index := 0#32
  let c0_86 : Index := 0#32
  ![v151.toNat, 0, 0]
def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference5Ideal.lean ====
abbrev S4096x2048 : Shape := ⟨2, ![4096, 2048]⟩
abbrev S4096x1024 : Shape := ⟨2, ![4096, 1024]⟩
abbrev S4096x4096 : Shape := ⟨2, ![4096, 4096]⟩
abbrev S1x1024 : Shape := ⟨2, ![1, 1024]⟩
abbrev S1024 : Shape := ⟨1, ![1024]⟩
abbrev S_ : Shape := ⟨0, ![]⟩

abbrev nBuf : Space → Nat
  | .hbm => 90
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x4096, .f32⟩
  | .hbm, ⟨3, _⟩ => ⟨S4096x2048, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x2048, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S4096x2048, .f32⟩
  | .hbm, ⟨82, _⟩ => ⟨S_, .f32⟩
  | .hbm, ⟨83, _⟩ => ⟨S4096x2048, .f32⟩
  | .hbm, ⟨84, _⟩ => ⟨S4096x2048, .f32⟩
  | .hbm, ⟨85, _⟩ => ⟨S4096x1024, .bf16⟩
  | .hbm, ⟨86, _⟩ => ⟨S4096x1024, .bf16⟩
  | .hbm, ⟨87, _⟩ => ⟨S4096x1024, .bf16⟩
  | .hbm, ⟨88, _⟩ => ⟨S4096x2048, .bf16⟩
  | .hbm, ⟨89, _⟩ => ⟨S1x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v18_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v18_1 : Ref sig .tc := ⟨.hbm, 37, rfl⟩
abbrev main_v18_0 : Ref sig .tc := ⟨.hbm, 38, rfl⟩
abbrev main_v19 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_v20_2 : Ref sig .tc := ⟨.hbm, 47, rfl⟩
abbrev main_call1_cst_1 : Ref sig .tc := ⟨.hbm, 48, rfl⟩
abbrev main_call1_v6 : Ref sig .tc := ⟨.hbm, 49, rfl⟩
abbrev main_call1_v7 : Ref sig .tc := ⟨.hbm, 50, rfl⟩
abbrev main_v20_1 : Ref sig .tc := ⟨.hbm, 51, rfl⟩
abbrev main_v20_0 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_v30 : Ref sig .tc := ⟨.hbm, 68, rfl⟩
abbrev main_v31 : Ref sig .tc := ⟨.hbm, 69, rfl⟩
abbrev main_cst_2 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_cst_3 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_4 : Ref sig .tc := ⟨.hbm, 80, rfl⟩
abbrev main_v40 : Ref sig .tc := ⟨.hbm, 81, rfl⟩
abbrev main_cst_5 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩

abbrev nD : Nat := 1
abbrev τ : Topo := Topo.v7x

variable {F : FTy → Type} [FloatOps F]
-- ==== Kernel6.lean ====
abbrev S4096x2048 : Shape := ⟨2, ![4096, 2048]⟩
abbrev S1x2048 : Shape := ⟨2, ![1, 2048]⟩
abbrev S256x2048 : Shape := ⟨2, ![256, 2048]⟩
abbrev S3x256x2048 : Shape := ⟨3, ![3, 256, 2048]⟩
abbrev S3x3 : Shape := ⟨2, ![3, 3]⟩
abbrev S1x1 : Shape := ⟨2, ![1, 1]⟩
abbrev S_ : Shape := ⟨0, ![]⟩
abbrev S1x256x2048 : Shape := ⟨3, ![1, 256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S1x2048, .f32⟩
  | .local _ .vmem, ⟨0, _⟩ => ⟨S1x2048, .f32⟩
  | .local _ .vmem, ⟨1, _⟩ => ⟨S256x2048, .f32⟩
  | .local _ .vmem, ⟨2, _⟩ => ⟨S256x2048, .f32⟩
  | .local _ .vmem, ⟨3, _⟩ => ⟨S1x2048, .f32⟩
  | .local _ .vmem, ⟨4, _⟩ => ⟨S3x256x2048, .f32⟩
  | .local _ .vmem, ⟨5, _⟩ => ⟨S3x256x2048, .f32⟩
  | .local _ .vmem, ⟨6, _⟩ => ⟨S3x256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_mult1 : BitVec 32 :=
  let c0_i32_71 : BitVec 32 := 0#32
  c0_i32_71
def k0_mult2 : BitVec 32 :=
  let c0_i32_78 : BitVec 32 := 0#32
  c0_i32_78
def k0_mult3 : BitVec 32 :=
  let c0_i32_85 : BitVec 32 := 0#32
  c0_i32_85
def k0_mult4 : BitVec 32 :=
  let c256_i32_92 : BitVec 32 := 256#32
  c256_i32_92
def k0_mult5 : BitVec 32 :=
  let c256_i32_99 : BitVec 32 := 256#32
  c256_i32_99
def k0_mult6 : BitVec 32 :=
  let c256_i32_106 : BitVec 32 := 256#32
  c256_i32_106
def k0_cond3 (i : grid0.Coords) : BitVec 1 :=
  let arg0 : BitVec 32 := BitVec.ofNat 32 (i 0).val
  let c3_i32 : BitVec 32 := 3#32
  let v6 : BitVec 32 := Scalar.addi arg0 c3_i32
  let c1_i32 : BitVec 32 := 1#32
  let v7 : BitVec 32 := Scalar.subi v6 c1_i32
  let c16_i32 : BitVec 32 := 16#32
  let v8 : BitVec 1 := Scalar.cmpi .slt v7 c16_i32
  let v9 : BitVec 32 := Scalar.extui v8
  let c0_i32_3 : BitVec 32 := 0#32
  let v10 : BitVec 1 := Scalar.cmpi .ne v9 c0_i32_3
  v10

def k0_mult7 (i : grid0.Coords) : BitVec 32 :=
  let arg0 : BitVec 32 := BitVec.ofNat 32 (i 0).val
  let c3_i32_71 : BitVec 32 := 3#32
  let v133 : BitVec 32 := Scalar.addi arg0 c3_i32_71
  let c1_i32_72 : BitVec 32 := 1#32
  let v134 : BitVec 32 := Scalar.subi v133 c1_i32_72
  let c256_i32_79 : BitVec 32 := 256#32
  let v145 : BitVec 32 := Scalar.muli v134 c256_i32_79
  v145
def k0_off1 (i : grid0.Coords) : Fin 2 → Nat :=
  let c0_i32_80 : BitVec 32 := 0#32
  let arg0 : BitVec 32 := BitVec.ofNat 32 (i 0).val
  let c3_i32_71 : BitVec 32 := 3#32
  let v133 : BitVec 32 := Scalar.addi arg0 c3_i32_71
  let c1_i32_72 : BitVec 32 := 1#32
  let v134 : BitVec 32 := Scalar.subi v133 c1_i32_72
  let c3_i32_73 : BitVec 32 := 3#32
  let c0_i32_74 : BitVec 32 := 0#32
  let v135 : BitVec 1 := Scalar.cmpi .eq c3_i32_73 c0_i32_74
  let c1_i32_75 : BitVec 32 := 1#32
  let v136 : BitVec 32 := Scalar.select v135 c1_i32_75 c3_i32_73
  let v137 : BitVec 32 := Scalar.remsi v134 v136
  let c0_i32_77 : BitVec 32 := 0#32
  let v139 : BitVec 1 := Scalar.cmpi .slt v137 c0_i32_77
  let c0_i32_78 : BitVec 32 := 0#32
  let v140 : BitVec 1 := Scalar.cmpi .slt v136 c0_i32_78
  let v141 : BitVec 1 := Scalar.xori v139 v140
  let c0_i32_76 : BitVec 32 := 0#32
  let v138 : BitVec 1 := Scalar.cmpi .ne v137 c0_i32_76
  let v142 : BitVec 1 := Scalar.andi v141 v138
  let v143 : BitVec 32 := Scalar.addi v137 v136
  let v144 : BitVec 32 := Scalar.select v142 v143 v137
  ![0, v144.toNat]
def k0_off2 (i : grid0.Coords) : Fin 3 → Nat :=
  let arg0 : BitVec 32 := BitVec.ofNat 32 (i 0).val
  let c3_i32_71 : BitVec 32 := 3#32
  let v133 : BitVec 32 := Scalar.addi arg0 c3_i32_71
  let c1_i32_72 : BitVec 32 := 1#32
  let v134 : BitVec 32 := Scalar.subi v133 c1_i32_72
  let c3_i32_73 : BitVec 32 := 3#32
  let c0_i32_74 : BitVec 32 := 0#32
  let v135 : BitVec 1 := Scalar.cmpi .eq c3_i32_73 c0_i32_74
  let c1_i32_75 : BitVec 32 := 1#32
  let v136 : BitVec 32 := Scalar.select v135 c1_i32_75 c3_i32_73
  let v137 : BitVec 32 := Scalar.remsi v134 v136
  let c0_i32_77 : BitVec 32 := 0#32
  let v139 : BitVec 1 := Scalar.cmpi .slt v137 c0_i32_77
  let c0_i32_78 : BitVec 32 := 0#32
  let v140 : BitVec 1 := Scalar.cmpi .slt v136 c0_i32_78
  let v141 : BitVec 1 := Scalar.xori v139 v140
  let c0_i32_76 : BitVec 32 := 0#32
  let v138 : BitVec 1 := Scalar.cmpi .ne v137 c0_i32_76
  let v142 : BitVec 1 := Scalar.andi v141 v138
  let v143 : BitVec 32 := Scalar.addi v137 v136
  let v144 : BitVec 32 := Scalar.select v142 v143 v137
  let c0_i32_81 : BitVec 32 := 0#32
  let c0_i32_82 : BitVec 32 := 0#32
  ![v144.toNat, 0, 0]
def k0_off3 (i : grid0.Coords) : Fin 2 → Nat :=
  let arg0 : BitVec 32 := BitVec.ofNat 32 (i 0).val
  let c3_i32_71 : BitVec 32 := 3#32
  let v133 : BitVec 32 := Scalar.addi arg0 c3_i32_71
  let c1_i32_72 : BitVec 32 := 1#32
  let v134 : BitVec 32 := Scalar.subi v133 c1_i32_72
  let c256_i32_79 : BitVec 32 := 256#32
  let v145 : BitVec 32 := Scalar.muli v134 c256_i32_79
  let v146 : BitVec 32 := v145
  let c0_i32_83 : BitVec 32 := 0#32
  ![v146.toNat, 0]
def k0_mult8 (i : grid0.Coords) : BitVec 32 :=
  let arg0 : BitVec 32 := BitVec.ofNat 32 (i 0).val
  let c3_i32_84 : BitVec 32 := 3#32
  let v152 : BitVec 32 := Scalar.addi arg0 c3_i32_84
  let c1_i32_85 : BitVec 32 := 1#32
  let v153 : BitVec 32 := Scalar.subi v152 c1_i32_85
  let c256_i32_92 : BitVec 32 := 256#32
  let v164 : BitVec 32 := Scalar.muli v153 c256_i32_92
  v164
def k0_off4 (i : grid0.Coords) : Fin 2 → Nat :=
  let c1_i32_93 : BitVec 32 := 1#32
  let arg0 : BitVec 32 := BitVec.ofNat 32 (i 0).val
  let c3_i32_84 : BitVec 32 := 3#32
  let v152 : BitVec 32 := Scalar.addi arg0 c3_i32_84
  let c1_i32_85 : BitVec 32 := 1#32
  let v153 : BitVec 32 := Scalar.subi v152 c1_i32_85
  let c3_i32_86 : BitVec 32 := 3#32
  let c0_i32_87 : BitVec 32 := 0#32
  let v154 : BitVec 1 := Scalar.cmpi .eq c3_i32_86 c0_i32_87
  let c1_i32_88 : BitVec 32 := 1#32
  let v155 : BitVec 32 := Scalar.select v154 c1_i32_88 c3_i32_86
  let v156 : BitVec 32 := Scalar.remsi v153 v155
  let c0_i32_90 : BitVec 32 := 0#32
  let v158 : BitVec 1 := Scalar.cmpi .slt v156 c0_i32_90
  let c0_i32_91 : BitVec 32 := 0#32
  let v159 : BitVec 1 := Scalar.cmpi .slt v155 c0_i32_91
  let v160 : BitVec 1 := Scalar.xori v158 v159
  let c0_i32_89 : BitVec 32 := 0#32
  let v157 : BitVec 1 := Scalar.cmpi .ne v156 c0_i32_89
  let v161 : BitVec 1 := Scalar.andi v160 v157
  let v162 : BitVec 32 := Scalar.addi v156 v155
  let v163 : BitVec 32 := Scalar.select v161 v162 v156
  ![1, v163.toNat]
def k0_mult9 (i : grid0.Coords) : BitVec 32 :=
  let arg0 : BitVec 32 := BitVec.ofNat 32 (i 0).val
  let c3_i32_97 : BitVec 32 := 3#32
  let v171 : BitVec 32 := Scalar.addi arg0 c3_i32_97
  let c1_i32_98 : BitVec 32 := 1#32
  let v172 : BitVec 32 := Scalar.subi v171 c1_i32_98
  let c256_i32_105 : BitVec 32 := 256#32
  let v183 : BitVec 32 := Scalar.muli v172 c256_i32_105
  v183
def k0_off5 (i : grid0.Coords) : Fin 2 → Nat :=
  let c2_i32_106 : BitVec 32 := 2#32
  let arg0 : BitVec 32 := BitVec.ofNat 32 (i 0).val
  let c3_i32_97 : BitVec 32 := 3#32
  let v171 : BitVec 32 := Scalar.addi arg0 c3_i32_97
  let c1_i32_98 : BitVec 32 := 1#32
  let v172 : BitVec 32 := Scalar.subi v171 c1_i32_98
  let c3_i32_99 : BitVec 32 := 3#32
  let c0_i32_100 : BitVec 32 := 0#32
  let v173 : BitVec 1 := Scalar.cmpi .eq c3_i32_99 c0_i32_100
  let c1_i32_101 : BitVec 32 := 1#32
  let v174 : BitVec 32 := Scalar.select v173 c1_i32_101 c3_i32_99
  let v175 : BitVec 32 := Scalar.remsi v172 v174
  let c0_i32_103 : BitVec 32 := 0#32
  let v177 : BitVec 1 := Scalar.cmpi .slt v175 c0_i32_103
  let c0_i32_104 : BitVec 32 := 0#32
  let v178 : BitVec 1 := Scalar.cmpi .slt v174 c0_i32_104
  let v179 : BitVec 1 := Scalar.xori v177 v178
  let c0_i32_102 : BitVec 32 := 0#32
  let v176 : BitVec 1 := Scalar.cmpi .ne v175 c0_i32_102
  let v180 : BitVec 1 := Scalar.andi v179 v176
  let v181 : BitVec 32 := Scalar.addi v175 v174
  let v182 : BitVec 32 := Scalar.select v180 v181 v175
  ![2, v182.toNat]
def k0_mult10 (i : grid0.Coords) : BitVec 32 :=
  let arg0 : BitVec 32 := BitVec.ofNat 32 (i 0).val
  let c256_i32 : BitVec 32 := 256#32
  let v21 : BitVec 32 := Scalar.muli arg0 c256_i32
  v21
def k0_off6 (i : grid0.Coords) : Fin 2 → Nat :=
  let c0_i32_10 : BitVec 32 := 0#32
  let arg0 : BitVec 32 := BitVec.ofNat 32 (i 0).val
  let c3_i32_4 : BitVec 32 := 3#32
  let c0_i32_5 : BitVec 32 := 0#32
  let v11 : BitVec 1 := Scalar.cmpi .eq c3_i32_4 c0_i32_5
  let c1_i32_6 : BitVec 32 := 1#32
  let v12 : BitVec 32 := Scalar.select v11 c1_i32_6 c3_i32_4
  let v13 : BitVec 32 := Scalar.remsi arg0 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  ![0, v20.toNat]
def k0_off7 (i : grid0.Coords) : Fin 3 → Nat :=
  let arg0 : BitVec 32 := BitVec.ofNat 32 (i 0).val
  let c3_i32_4 : BitVec 32 := 3#32
  let c0_i32_5 : BitVec 32 := 0#32
  let v11 : BitVec 1 := Scalar.cmpi .eq c3_i32_4 c0_i32_5
  let c1_i32_6 : BitVec 32 := 1#32
  let v12 : BitVec 32 := Scalar.select v11 c1_i32_6 c3_i32_4
  let v13 : BitVec 32 := Scalar.remsi arg0 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let c0_i32_11 : BitVec 32 := 0#32
  let c0_i32_12 : BitVec 32 := 0#32
  ![v20.toNat, 0, 0]
def k0_off8 (i : grid0.Coords) : Fin 2 → Nat :=
  let arg0 : BitVec 32 := BitVec.ofNat 32 (i 0).val
  let c256_i32 : BitVec 32 := 256#32
  let v21 : BitVec 32 := Scalar.muli arg0 c256_i32
  let v22 : BitVec 32 := v21
  let c0_i32_13 : BitVec 32 := 0#32
  ![v22.toNat, 0]
def k0_mult11 (i : grid0.Coords) : BitVec 32 :=
  let arg0 : BitVec 32 := BitVec.ofNat 32 (i 0).val
  let c256_i32_20 : BitVec 32 := 256#32
  let v38 : BitVec 32 := Scalar.muli arg0 c256_i32_20
  v38
def k0_off9 (i : grid0.Coords) : Fin 2 → Nat :=
  let c1_i32_21 : BitVec 32 := 1#32
  let arg0 : BitVec 32 := BitVec.ofNat 32 (i 0).val
  let c3_i32_14 : BitVec 32 := 3#32
  let c0_i32_15 : BitVec 32 := 0#32
  let v28 : BitVec 1 := Scalar.cmpi .eq c3_i32_14 c0_i32_15
  let c1_i32_16 : BitVec 32 := 1#32
  let v29 : BitVec 32 := Scalar.select v28 c1_i32_16 c3_i32_14
  let v30 : BitVec 32 := Scalar.remsi arg0 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  ![1, v37.toNat]
def k0_mult12 (i : grid0.Coords) : BitVec 32 :=
  let arg0 : BitVec 32 := BitVec.ofNat 32 (i 0).val
  let c256_i32_31 : BitVec 32 := 256#32
  let v55 : BitVec 32 := Scalar.muli arg0 c256_i32_31
  v55
def k0_off10 (i : grid0.Coords) : Fin 2 → Nat :=
  let c2_i32 : BitVec 32 := 2#32
  let arg0 : BitVec 32 := BitVec.ofNat 32 (i 0).val
  let c3_i32_25 : BitVec 32 := 3#32
  let c0_i32_26 : BitVec 32 := 0#32
  let v45 : BitVec 1 := Scalar.cmpi .eq c3_i32_25 c0_i32_26
  let c1_i32_27 : BitVec 32 := 1#32
  let v46 : BitVec 32 := Scalar.select v45 c1_i32_27 c3_i32_25
  let v47 : BitVec 32 := Scalar.remsi arg0 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  ![2, v54.toNat]
def k0_off11 (i : grid0.Coords) : Fin 3 → Nat :=
  let arg0 : BitVec 32 := BitVec.ofNat 32 (i 0).val
  let c3_i32_35 : BitVec 32 := 3#32
  let c0_i32_36 : BitVec 32 := 0#32
  let v62 : BitVec 1 := Scalar.cmpi .eq c3_i32_35 c0_i32_36
  let c1_i32_37 : BitVec 32 := 1#32
  let v63 : BitVec 32 := Scalar.select v62 c1_i32_37 c3_i32_35
  let v64 : BitVec 32 := Scalar.remsi arg0 v63
  let c0_i32_39 : BitVec 32 := 0#32
  let v66 : BitVec 1 := Scalar.cmpi .slt v64 c0_i32_39
  let c0_i32_40 : BitVec 32 := 0#32
  let v67 : BitVec 1 := Scalar.cmpi .slt v63 c0_i32_40
  let v68 : BitVec 1 := Scalar.xori v66 v67
  let c0_i32_38 : BitVec 32 := 0#32
  let v65 : BitVec 1 := Scalar.cmpi .ne v64 c0_i32_38
  let v69 : BitVec 1 := Scalar.andi v68 v65
  let v70 : BitVec 32 := Scalar.addi v64 v63
  let v71 : BitVec 32 := Scalar.select v69 v70 v64
  let v92 : Index := Scalar.indexCast v71
  let c0 : Index := 0#32
  let c0_53 : Index := 0#32
  ![v92.toNat, 0, 0]
def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference6Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel7.lean ====
abbrev S4096x4096 : Shape := ⟨2, ![4096, 4096]⟩
abbrev S4x256x256 : Shape := ⟨3, ![4, 256, 256]⟩
abbrev S4096x1024 : Shape := ⟨2, ![4096, 1024]⟩
abbrev S256x1024 : Shape := ⟨2, ![256, 1024]⟩
abbrev S16x1024 : Shape := ⟨2, ![16, 1024]⟩
abbrev S272x1024 : Shape := ⟨2, ![272, 1024]⟩
abbrev S256x256 : Shape := ⟨2, ![256, 256]⟩
abbrev S1x256x256 : Shape := ⟨3, ![1, 256, 256]⟩
abbrev S4096x256 : Shape := ⟨2, ![4096, 256]⟩

abbrev nBuf : Space → Nat
  | .hbm => 7
  | .vmem => 18
  | .smem => 0
  | _ => 0

abbrev bufTy : (tb : Table) → Fin (tcTables nBuf tb) → BufTy
  | .hbm, ⟨0, _⟩ => ⟨S4096x4096, .f32⟩
  | .hbm, ⟨1, _⟩ => ⟨S4x256x256, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4x256x256, .f32⟩
  | .hbm, ⟨6, _⟩ => ⟨S4x256x256, .bf16⟩
  | .local _ .vmem, ⟨0, _⟩ => ⟨S256x1024, .f32⟩
  | .local _ .vmem, ⟨1, _⟩ => ⟨S256x1024, .f32⟩
  | .local _ .vmem, ⟨2, _⟩ => ⟨S16x1024, .f32⟩
  | .local _ .vmem, ⟨3, _⟩ => ⟨S16x1024, .f32⟩
  | .local _ .vmem, ⟨4, _⟩ => ⟨S4x256x256, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .f32⟩
  | .local _ .vmem, ⟨8, _⟩ => ⟨S256x1024, .f32⟩
  | .local _ .vmem, ⟨9, _⟩ => ⟨S272x1024, .f32⟩
  | .local _ .vmem, ⟨10, _⟩ => ⟨S4096x256, .bf16⟩
  | .local _ .vmem, ⟨11, _⟩ => ⟨S4096x256, .bf16⟩
  | .local _ .vmem, ⟨12, _⟩ => ⟨S4096x256, .bf16⟩
  | .local _ .vmem, ⟨13, _⟩ => ⟨S4096x256, .bf16⟩
  | .local _ .vmem, ⟨14, _⟩ => ⟨S1x256x256, .f32⟩
  | .local _ .vmem, ⟨15, _⟩ => ⟨S1x256x256, .f32⟩
  | .local _ .vmem, ⟨16, _⟩ => ⟨S1x256x256, .bf16⟩
  | .local _ .vmem, ⟨17, _⟩ => ⟨S1x256x256, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x256x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]
-- ==== Reference7Ideal.lean ====
abbrev S4096x4096 : Shape := ⟨2, ![4096, 4096]⟩
abbrev S4x256x256 : Shape := ⟨3, ![4, 256, 256]⟩
abbrev S4096x1024 : Shape := ⟨2, ![4096, 1024]⟩
abbrev S4096x4x256 : Shape := ⟨3, ![4096, 4, 256]⟩
abbrev S4096 : Shape := ⟨1, ![4096]⟩
abbrev S4096x1x256 : Shape := ⟨3, ![4096, 1, 256]⟩
abbrev S4096x256 : Shape := ⟨2, ![4096, 256]⟩
abbrev S_ : Shape := ⟨0, ![]⟩
abbrev S2x256 : Shape := ⟨2, ![2, 256]⟩
abbrev S4094x256 : Shape := ⟨2, ![4094, 256]⟩
abbrev S4096x1 : Shape := ⟨2, ![4096, 1]⟩
abbrev S4x256 : Shape := ⟨2, ![4, 256]⟩
abbrev S4092x256 : Shape := ⟨2, ![4092, 256]⟩
abbrev S8x256 : Shape := ⟨2, ![8, 256]⟩
abbrev S4088x256 : Shape := ⟨2, ![4088, 256]⟩
abbrev S16x256 : Shape := ⟨2, ![16, 256]⟩
abbrev S4080x256 : Shape := ⟨2, ![4080, 256]⟩
abbrev S4x256x4096 : Shape := ⟨3, ![4, 256, 4096]⟩

abbrev nBuf : Space → Nat
  | .hbm => 105
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4x256x256, .bf16⟩
  | .hbm, ⟨2, _⟩ => ⟨S4096x1024, .bf16⟩
  | .hbm, ⟨3, _⟩ => ⟨S4096x1024, .f32⟩
  | .hbm, ⟨4, _⟩ => ⟨S4x256x256, .f32⟩
  | .hbm, ⟨5, _⟩ => ⟨S4096x4x256, .f32⟩
  | .hbm, ⟨6, _⟩ => ⟨S4096, .i32⟩
  | .hbm, ⟨7, _⟩ => ⟨S4096x1x256, .f32⟩
  | .hbm, ⟨8, _⟩ => ⟨S4096x256, .f32⟩
  | .hbm, ⟨9, _⟩ => ⟨S_, .f32⟩
  | .hbm, ⟨10, _⟩ => ⟨S_, .f32⟩
  | .hbm, ⟨11, _⟩ => ⟨S4096x256, .f32⟩
  | .hbm, ⟨12, _⟩ => ⟨S_, .f32⟩
  | .hbm, ⟨13, _⟩ => ⟨S2x256, .f32⟩
  | .hbm, ⟨14, _⟩ => ⟨S4094x256, .f32⟩
  | .hbm, ⟨15, _⟩ => ⟨S4096x256, .f32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .f32⟩
  | .hbm, ⟨23, _⟩ => ⟨S4096x1, .f32⟩
  | .hbm, ⟨24, _⟩ => ⟨S4096x256, .f32⟩
  | .hbm, ⟨25, _⟩ => ⟨S4096x256, .f32⟩
  | .hbm, ⟨26, _⟩ => ⟨S4096x256, .f32⟩
  | .hbm, ⟨27, _⟩ => ⟨S4096x256, .f32⟩
  | .hbm, ⟨28, _⟩ => ⟨S4096x1x256, .f32⟩
  | .hbm, ⟨29, _⟩ => ⟨S4096x256, .f32⟩
  | .hbm, ⟨30, _⟩ => ⟨S_, .f32⟩
  | .hbm, ⟨31, _⟩ => ⟨S_, .f32⟩
  | .hbm, ⟨32, _⟩ => ⟨S4096x256, .f32⟩
  | .hbm, ⟨33, _⟩ => ⟨S_, .f32⟩
  | .hbm, ⟨34, _⟩ => ⟨S4x256, .f32⟩
  | .hbm, ⟨35, _⟩ => ⟨S4092x256, .f32⟩
  | .hbm, ⟨36, _⟩ => ⟨S4096x256, .f32⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .f32⟩
  | .hbm, ⟨44, _⟩ => ⟨S4096x1, .f32⟩
  | .hbm, ⟨45, _⟩ => ⟨S4096x256, .f32⟩
  | .hbm, ⟨46, _⟩ => ⟨S4096x256, .f32⟩
  | .hbm, ⟨47, _⟩ => ⟨S4096x256, .f32⟩
  | .hbm, ⟨48, _⟩ => ⟨S4096x256, .f32⟩
  | .hbm, ⟨49, _⟩ => ⟨S4096x1x256, .f32⟩
  | .hbm, ⟨50, _⟩ => ⟨S4096x256, .f32⟩
  | .hbm, ⟨51, _⟩ => ⟨S_, .f32⟩
  | .hbm, ⟨52, _⟩ => ⟨S_, .f32⟩
  | .hbm, ⟨53, _⟩ => ⟨S4096x256, .f32⟩
  | .hbm, ⟨54, _⟩ => ⟨S_, .f32⟩
  | .hbm, ⟨55, _⟩ => ⟨S8x256, .f32⟩
  | .hbm, ⟨56, _⟩ => ⟨S4088x256, .f32⟩
  | .hbm, ⟨57, _⟩ => ⟨S4096x256, .f32⟩
  | .hbm, ⟨58, _⟩ => ⟨S_, .i32⟩
  | .hbm, ⟨59, _⟩ => ⟨S4096, .i32⟩
  | .hbm, ⟨60, _⟩ => ⟨S4096, .i32⟩
  | .hbm, ⟨61, _⟩ => ⟨S_, .i32⟩
  | .hbm, ⟨62, _⟩ => ⟨S4096, .i32⟩
  | .hbm, ⟨63, _⟩ => ⟨S4096, .i32⟩
  | .hbm, ⟨64, _⟩ => ⟨S4096, .f32⟩
  | .hbm, ⟨65, _⟩ => ⟨S4096x1, .f32⟩
  | .hbm, ⟨66, _⟩ => ⟨S4096x256, .f32⟩
  | .hbm, ⟨67, _⟩ => ⟨S4096x256, .f32⟩
  | .hbm, ⟨68, _⟩ => ⟨S4096x256, .f32⟩
  | .hbm, ⟨69, _⟩ => ⟨S4096x256, .f32⟩
  | .hbm, ⟨70, _⟩ => ⟨S4096x1x256, .f32⟩
  | .hbm, ⟨71, _⟩ => ⟨S4096x256, .f32⟩
  | .hbm, ⟨72, _⟩ => ⟨S_, .f32⟩
  | .hbm, ⟨73, _⟩ => ⟨S_, .f32⟩
  | .hbm, ⟨74, _⟩ => ⟨S4096x256, .f32⟩
  | .hbm, ⟨75, _⟩ => ⟨S_, .f32⟩
  | .hbm, ⟨76, _⟩ => ⟨S16x256, .f32⟩
  | .hbm, ⟨77, _⟩ => ⟨S4080x256, .f32⟩
  | .hbm, ⟨78, _⟩ => ⟨S4096x256, .f32⟩
  | .hbm, ⟨79, _⟩ => ⟨S_, .i32⟩
  | .hbm, ⟨80, _⟩ => ⟨S4096, .i32⟩
  | .hbm, ⟨81, _⟩ => ⟨S4096, .i32⟩
  | .hbm, ⟨82, _⟩ => ⟨S_, .i32⟩
  | .hbm, ⟨83, _⟩ => ⟨S4096, .i32⟩
  | .hbm, ⟨84, _⟩ => ⟨S4096, .i32⟩
  | .hbm, ⟨85, _⟩ => ⟨S4096, .f32⟩
  | .hbm, ⟨86, _⟩ => ⟨S4096x1, .f32⟩
  | .hbm, ⟨87, _⟩ => ⟨S4096x256, .f32⟩
  | .hbm, ⟨88, _⟩ => ⟨S4096x256, .f32⟩
  | .hbm, ⟨89, _⟩ => ⟨S4096x256, .f32⟩
  | .hbm, ⟨90, _⟩ => ⟨S4096x256, .f32⟩
  | .hbm, ⟨91, _⟩ => ⟨S4096x1x256, .f32⟩
  | .hbm, ⟨92, _⟩ => ⟨S4096x1x256, .f32⟩
  | .hbm, ⟨93, _⟩ => ⟨S4096x1x256, .f32⟩
  | .hbm, ⟨94, _⟩ => ⟨S4096x1x256, .f32⟩
  | .hbm, ⟨95, _⟩ => ⟨S4096x4x256, .f32⟩
  | .hbm, ⟨96, _⟩ => ⟨S4x256x4096, .f32⟩
  | .hbm, ⟨97, _⟩ => ⟨S4096x4x256, .f32⟩
  | .hbm, ⟨98, _⟩ => ⟨S4096x1024, .f32⟩
  | .hbm, ⟨99, _⟩ => ⟨S4096x1024, .f32⟩
  | .hbm, ⟨100, _⟩ => ⟨S4096x4x256, .f32⟩
  | .hbm, ⟨101, _⟩ => ⟨S4x256x4096, .f32⟩
  | .hbm, ⟨102, _⟩ => ⟨S4x256x256, .f32⟩
  | .hbm, ⟨103, _⟩ => ⟨S4x256x256, .f32⟩
  | .hbm, ⟨104, _⟩ => ⟨S4x256x256, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_call0_cst : Ref sig .tc := ⟨.hbm, 9, rfl⟩
abbrev main_call0_call0_v0 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call1_call0_cst : Ref sig .tc := ⟨.hbm, 30, rfl⟩
abbrev main_call1_call0_v0 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_v26 : Ref sig .tc := ⟨.hbm, 38, rfl⟩
abbrev main_v27 : Ref sig .tc := ⟨.hbm, 39, rfl⟩
abbrev main_c_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_call2_call0_cst : Ref sig .tc := ⟨.hbm, 51, rfl⟩
abbrev main_call2_call0_v0 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_5 : Ref sig .tc := ⟨.hbm, 58, rfl⟩
abbrev main_v42 : Ref sig .tc := ⟨.hbm, 59, rfl⟩
abbrev main_v43 : Ref sig .tc := ⟨.hbm, 60, rfl⟩
abbrev main_c_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_call3_call0_cst : Ref sig .tc := ⟨.hbm, 72, rfl⟩
abbrev main_call3_call0_v0 : Ref sig .tc := ⟨.hbm, 73, rfl⟩
abbrev main_v54 : Ref sig .tc := ⟨.hbm, 74, rfl⟩
abbrev main_cst_7 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_8 : Ref sig .tc := ⟨.hbm, 79, rfl⟩
abbrev main_v58 : Ref sig .tc := ⟨.hbm, 80, rfl⟩
abbrev main_v59 : Ref sig .tc := ⟨.hbm, 81, rfl⟩
abbrev main_c_9 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩

abbrev nD : Nat := 1
abbrev τ : Topo := Topo.v7x

variable {F : FTy → Type} [FloatOps F]
-- ==== Kernel8.lean ====
abbrev S64x64 : Shape := ⟨2, ![64, 64]⟩
abbrev S64 : Shape := ⟨1, ![64]⟩
abbrev S64x64x16 : Shape := ⟨3, ![64, 64, 16]⟩
abbrev S1024x64 : Shape := ⟨2, ![1024, 64]⟩
abbrev S64x16x64 : Shape := ⟨3, ![64, 16, 64]⟩
abbrev S64x1 : Shape := ⟨2, ![64, 1]⟩
abbrev S_ : Shape := ⟨0, ![]⟩

abbrev nBuf : Space → Nat
  | .hbm => 36
  | .vmem => 14
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x64, .f32⟩
  | .hbm, ⟨6, _⟩ => ⟨S64x64, .f32⟩
  | .hbm, ⟨7, _⟩ => ⟨S1024x64, .f32⟩
  | .hbm, ⟨8, _⟩ => ⟨S1024x64, .f32⟩
  | .hbm, ⟨9, _⟩ => ⟨S64x16x64, .f32⟩
  | .hbm, ⟨10, _⟩ => ⟨S1024x64, .f32⟩
  | .hbm, ⟨11, _⟩ => ⟨S64x16x64, .f32⟩
  | .hbm, ⟨12, _⟩ => ⟨S1024x64, .f32⟩
  | .hbm, ⟨13, _⟩ => ⟨S64x1, .f32⟩
  | .hbm, ⟨14, _⟩ => ⟨S64x64, .f32⟩
  | .hbm, ⟨15, _⟩ => ⟨S64x16x64, .f32⟩
  | .hbm, ⟨16, _⟩ => ⟨S1024x64, .f32⟩
  | .hbm, ⟨17, _⟩ => ⟨S64x16x64, .f32⟩
  | .hbm, ⟨18, _⟩ => ⟨S1024x64, .f32⟩
  | .hbm, ⟨19, _⟩ => ⟨S64x16x64, .f32⟩
  | .hbm, ⟨20, _⟩ => ⟨S1024x64, .f32⟩
  | .hbm, ⟨21, _⟩ => ⟨S64x16x64, .f32⟩
  | .hbm, ⟨22, _⟩ => ⟨S1024x64, .f32⟩
  | .hbm, ⟨23, _⟩ => ⟨S_, .f32⟩
  | .hbm, ⟨24, _⟩ => ⟨S1024x64, .f32⟩
  | .hbm, ⟨25, _⟩ => ⟨S1024x64, .f32⟩
  | .hbm, ⟨26, _⟩ => ⟨S64x16x64, .f32⟩
  | .hbm, ⟨27, _⟩ => ⟨S1024x64, .f32⟩
  | .hbm, ⟨28, _⟩ => ⟨S_, .f32⟩
  | .hbm, ⟨29, _⟩ => ⟨S1024x64, .f32⟩
  | .hbm, ⟨30, _⟩ => ⟨S1024x64, .f32⟩
  | .hbm, ⟨31, _⟩ => ⟨S64x64, .f32⟩
  | .hbm, ⟨32, _⟩ => ⟨S64x64, .f32⟩
  | .hbm, ⟨33, _⟩ => ⟨S64x1, .f32⟩
  | .hbm, ⟨34, _⟩ => ⟨S1024x64, .f32⟩
  | .hbm, ⟨35, _⟩ => ⟨S1024x64, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S64x64, .f32⟩
  | .local _ .vmem, ⟨10, _⟩ => ⟨S64x64, .f32⟩
  | .local _ .vmem, ⟨11, _⟩ => ⟨S64x1, .f32⟩
  | .local _ .vmem, ⟨12, _⟩ => ⟨S1024x64, .f32⟩
  | .local _ .vmem, ⟨13, _⟩ => ⟨S1024x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v20_3 : Ref sig .tc := ⟨.hbm, 34, rfl⟩
abbrev main_v20_4 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1024x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Reference8Ideal.lean ====
abbrev S64x64 : Shape := ⟨2, ![64, 64]⟩
abbrev S64 : Shape := ⟨1, ![64]⟩
abbrev S64x64x16 : Shape := ⟨3, ![64, 64, 16]⟩
abbrev S1024x64 : Shape := ⟨2, ![1024, 64]⟩
abbrev S_ : Shape := ⟨0, ![]⟩
abbrev S64x1 : Shape := ⟨2, ![64, 1]⟩
abbrev S64x64x1 : Shape := ⟨3, ![64, 64, 1]⟩
abbrev S64x16x64 : Shape := ⟨3, ![64, 16, 64]⟩

abbrev nBuf : Space → Nat
  | .hbm => 182
  | .vmem => 0
  | .smem => 0
  | _ => 0

abbrev hbmTy0_0 (i : Nat) : BufTy := match i % 128 with
  | 0 => ⟨S64x64, .f32⟩
  | 1 => ⟨S64x64, .f32⟩
  | 2 => ⟨S64, .f32⟩
  | 3 => ⟨S64x64x16, .f32⟩
  | 4 => ⟨S64x64x16, .f32⟩
  | 5 => ⟨S64x64, .f32⟩
  | 6 => ⟨S64x64, .f32⟩
  | 7 => ⟨S1024x64, .f32⟩
  | 8 => ⟨S1024x64, .f32⟩
  | 9 => ⟨S_, .f32⟩
  | 10 => ⟨S64x64, .f32⟩
  | 11 => ⟨S64x64, .f32⟩
  | 12 => ⟨S_, .f32⟩
  | 13 => ⟨S64x64, .f32⟩
  | 14 => ⟨S64x64, .i1⟩
  | 15 => ⟨S_, .f32⟩
  | 16 => ⟨S64x64, .f32⟩
  | 17 => ⟨S64x64, .i1⟩
  | 18 => ⟨S_, .f32⟩
  | 19 => ⟨S64x64, .f32⟩
  | 20 => ⟨S_, .f32⟩
  | 21 => ⟨S64x64, .f32⟩
  | 22 => ⟨S_, .f32⟩
  | 23 => ⟨S64x64, .f32⟩
  | 24 => ⟨S64x64, .f32⟩
  | 25 => ⟨S64x64, .f32⟩
  | 26 => ⟨S64, .f32⟩
  | 27 => ⟨S64x1, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S64x64, .f32⟩
  | 40 => ⟨S64x64, .f32⟩
  | 41 => ⟨S64x64, .f32⟩
  | 42 => ⟨S_, .f32⟩
  | 43 => ⟨S64x64, .f32⟩
  | 44 => ⟨S64x64, .f32⟩
  | 45 => ⟨S64x64, .f32⟩
  | 46 => ⟨S64x64, .f32⟩
  | 47 => ⟨S64x64, .f32⟩
  | 48 => ⟨S64x64, .f32⟩
  | 49 => ⟨S64x64, .f32⟩
  | 50 => ⟨S_, .f32⟩
  | 51 => ⟨S64x64, .f32⟩
  | 52 => ⟨S64x64, .f32⟩
  | 53 => ⟨S64x64, .f32⟩
  | 54 => ⟨S64x64, .f32⟩
  | 55 => ⟨S64x64, .f32⟩
  | 56 => ⟨S64x64, .f32⟩
  | 57 => ⟨S64x64, .f32⟩
  | 58 => ⟨S_, .f32⟩
  | 59 => ⟨S64x64, .f32⟩
  | 60 => ⟨S64x64, .f32⟩
  | 61 => ⟨S64x64x1, .f32⟩
  | 62 => ⟨S64x64x16, .f32⟩
  | 63 => ⟨S64x64x16, .f32⟩
  | 64 => ⟨S64x64x1, .f32⟩
  | 65 => ⟨S64x64x16, .f32⟩
  | 66 => ⟨S64x64x16, .f32⟩
  | 67 => ⟨S64x64x16, .f32⟩
  | 68 => ⟨S64x64x1, .f32⟩
  | 69 => ⟨S64x64x16, .f32⟩
  | 70 => ⟨S64x64x16, .f32⟩
  | 71 => ⟨S64x64x1, .f32⟩
  | 72 => ⟨S64x64x16, .f32⟩
  | 73 => ⟨S64x64x16, .f32⟩
  | 74 => ⟨S64x64x16, .f32⟩
  | 75 => ⟨S64x16x64, .f32⟩
  | 76 => ⟨S64x64x16, .f32⟩
  | 77 => ⟨S64x16x64, .f32⟩
  | 78 => ⟨S64x64x16, .f32⟩
  | 79 => ⟨S64x64x16, .f32⟩
  | 80 => ⟨S64x64x16, .f32⟩
  | 81 => ⟨S64x64x16, .f32⟩
  | 82 => ⟨S_, .f32⟩
  | 83 => ⟨S64x64, .f32⟩
  | 84 => ⟨S64x64x1, .f32⟩
  | 85 => ⟨S_, .f32⟩
  | 86 => ⟨S64x64, .f32⟩
  | 87 => ⟨S64x64x16, .f32⟩
  | 88 => ⟨S64x64x16, .f32⟩
  | 89 => ⟨S64x64x16, .f32⟩
  | 90 => ⟨S_, .f32⟩
  | 91 => ⟨S64x64, .f32⟩
  | 92 => ⟨S64x64x1, .f32⟩
  | 93 => ⟨S_, .f32⟩
  | 94 => ⟨S64x64, .f32⟩
  | 95 => ⟨S64x64x16, .f32⟩
  | 96 => ⟨S64x64x16, .f32⟩
  | 97 => ⟨S64x64x16, .f32⟩
  | 98 => ⟨S64x64x16, .f32⟩
  | 99 => ⟨S64x64x16, .f32⟩
  | 100 => ⟨S_, .f32⟩
  | 101 => ⟨S64x64, .f32⟩
  | 102 => ⟨S64x64x1, .f32⟩
  | 103 => ⟨S_, .f32⟩
  | 104 => ⟨S64x64, .f32⟩
  | 105 => ⟨S64x64, .f32⟩
  | 106 => ⟨S64x64x16, .f32⟩
  | 107 => ⟨S64x64x16, .f32⟩
  | 108 => ⟨S64x64x16, .f32⟩
  | 109 => ⟨S64x64x16, .f32⟩
  | 110 => ⟨S_, .f32⟩
  | 111 => ⟨S64x64, .f32⟩
  | 112 => ⟨S64x64x1, .f32⟩
  | 113 => ⟨S_, .f32⟩
  | 114 => ⟨S64x64, .f32⟩
  | 115 => ⟨S64x64, .f32⟩
  | 116 => ⟨S64x64, .f32⟩
  | 117 => ⟨S64x64, .f32⟩
  | 118 => ⟨S64x64, .f32⟩
  | 119 => ⟨S64x64, .f32⟩
  | 120 => ⟨S64x64, .f32⟩
  | 121 => ⟨S64x64, .f32⟩
  | 122 => ⟨S64x64, .f32⟩
  | 123 => ⟨S64x64, .f32⟩
  | 124 => ⟨S64x64, .f32⟩
  | 125 => ⟨S64x64, .f32⟩
  | 126 => ⟨S64x64, .f32⟩
  | 127 => ⟨S64x64, .f32⟩
  | _ => ⟨S64x64, .f32⟩

abbrev hbmTy0_1 (i : Nat) : BufTy := match i % 128 with
  | 0 => ⟨S64x64, .f32⟩
  | 1 => ⟨S64x64, .f32⟩
  | 2 => ⟨S64x64, .f32⟩
  | 3 => ⟨S64x64, .f32⟩
  | 4 => ⟨S64x64, .f32⟩
  | 5 => ⟨S64x64, .f32⟩
  | 6 => ⟨S64x64, .f32⟩
  | 7 => ⟨S64x64, .f32⟩
  | 8 => ⟨S64x64, .f32⟩
  | 9 => ⟨S64x64, .f32⟩
  | 10 => ⟨S64x64, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S64x64, .f32⟩
  | 28 => ⟨S64x64, .f32⟩
  | 29 => ⟨S64x64, .f32⟩
  | 30 => ⟨S_, .f32⟩
  | 31 => ⟨S64, .f32⟩
  | 32 => ⟨S64x1, .f32⟩
  | 33 => ⟨S64x64, .f32⟩
  | 34 => ⟨S64x64, .f32⟩
  | 35 => ⟨S64x64, .f32⟩
  | 36 => ⟨S64x64, .f32⟩
  | 37 => ⟨S64x64, .f32⟩
  | 38 => ⟨S_, .f32⟩
  | 39 => ⟨S64, .f32⟩
  | 40 => ⟨S64x1, .f32⟩
  | 41 => ⟨S64x1, .f32⟩
  | 42 => ⟨S64x64, .f32⟩
  | 43 => ⟨S64x64, .f32⟩
  | 44 => ⟨S64x64, .f32⟩
  | 45 => ⟨S_, .f32⟩
  | 46 => ⟨S64, .f32⟩
  | 47 => ⟨S64, .f32⟩
  | 48 => ⟨S64x64, .f32⟩
  | 49 => ⟨S64x1, .f32⟩
  | 50 => ⟨S64x16x64, .f32⟩
  | 51 => ⟨S1024x64, .f32⟩
  | 52 => ⟨S64x16x64, .f32⟩
  | 53 => ⟨S1024x64, .f32⟩
  | _ => ⟨S64x64, .f32⟩

abbrev hbmTy (i : Nat) : BufTy := match i / 128 with
  | 0 => hbmTy0_0 i
  | 1 => hbmTy0_1 i
  | _ => ⟨S64x64, .f32⟩

abbrev bufTy : (tb : Table) → Fin (tcTables nBuf tb) → BufTy
  | .hbm, ⟨i, _⟩ => hbmTy i
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_cst_4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_8 : Ref sig .tc := ⟨.hbm, 82, rfl⟩
abbrev main_v64 : Ref sig .tc := ⟨.hbm, 83, rfl⟩
abbrev main_v65 : Ref sig .tc := ⟨.hbm, 84, rfl⟩
abbrev main_cst_9 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_10 : Ref sig .tc := ⟨.hbm, 90, rfl⟩
abbrev main_v70 : Ref sig .tc := ⟨.hbm, 91, rfl⟩
abbrev main_v71 : Ref sig .tc := ⟨.hbm, 92, rfl⟩
abbrev main_cst_11 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_12 : Ref sig .tc := ⟨.hbm, 100, rfl⟩
abbrev main_v78 : Ref sig .tc := ⟨.hbm, 101, rfl⟩
abbrev main_v79 : Ref sig .tc := ⟨.hbm, 102, rfl⟩
abbrev main_cst_13 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_14 : Ref sig .tc := ⟨.hbm, 110, rfl⟩
abbrev main_v86 : Ref sig .tc := ⟨.hbm, 111, rfl⟩
abbrev main_v87 : Ref sig .tc := ⟨.hbm, 112, rfl⟩
abbrev main_cst_15 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_cst_16 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_cst_17 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_cst_18 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩

abbrev nD : Nat := 1
abbrev τ : Topo := Topo.v7x

variable {F : FTy → Type} [FloatOps F]
-- ==== Kernel9.lean ====
abbrev S2048x1024 : Shape := ⟨2, ![2048, 1024]⟩
abbrev S256x256 : Shape := ⟨2, ![256, 256]⟩
abbrev S1024x512 : Shape := ⟨2, ![1024, 512]⟩
abbrev S512x2048 : Shape := ⟨2, ![512, 2048]⟩
abbrev S256x512 : Shape := ⟨2, ![256, 512]⟩
abbrev S2176x128 : Shape := ⟨2, ![2176, 128]⟩
abbrev S256x1024 : Shape := ⟨2, ![256, 1024]⟩
abbrev S256x2048 : Shape := ⟨2, ![256, 2048]⟩

abbrev nBuf : Space → Nat
  | .hbm => 49
  | .vmem => 77
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S512x2048, .f32⟩
  | .hbm, ⟨16, _⟩ => ⟨S256x512, .f32⟩
  | .hbm, ⟨17, _⟩ => ⟨S256x512, .f32⟩
  | .hbm, ⟨18, _⟩ => ⟨S256x512, .f32⟩
  | .hbm, ⟨19, _⟩ => ⟨S256x512, .f32⟩
  | .hbm, ⟨20, _⟩ => ⟨S512x2048, .f32⟩
  | .hbm, ⟨21, _⟩ => ⟨S512x2048, .f32⟩
  | .hbm, ⟨22, _⟩ => ⟨S512x2048, .f32⟩
  | .hbm, ⟨23, _⟩ => ⟨S512x2048, .f32⟩
  | .hbm, ⟨24, _⟩ => ⟨S2176x128, .f32⟩
  | .hbm, ⟨25, _⟩ => ⟨S2176x128, .f32⟩
  | .hbm, ⟨26, _⟩ => ⟨S2176x128, .f32⟩
  | .hbm, ⟨27, _⟩ => ⟨S2176x128, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S512x2048, .f32⟩
  | .hbm, ⟨38, _⟩ => ⟨S512x2048, .f32⟩
  | .hbm, ⟨39, _⟩ => ⟨S512x2048, .f32⟩
  | .hbm, ⟨40, _⟩ => ⟨S256x512, .f32⟩
  | .hbm, ⟨41, _⟩ => ⟨S256x512, .f32⟩
  | .hbm, ⟨42, _⟩ => ⟨S256x512, .f32⟩
  | .hbm, ⟨43, _⟩ => ⟨S512x2048, .f32⟩
  | .hbm, ⟨44, _⟩ => ⟨S512x2048, .f32⟩
  | .hbm, ⟨45, _⟩ => ⟨S512x2048, .f32⟩
  | .hbm, ⟨46, _⟩ => ⟨S2176x128, .f32⟩
  | .hbm, ⟨47, _⟩ => ⟨S2176x128, .f32⟩
  | .hbm, ⟨48, _⟩ => ⟨S2176x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S256x512, .f32⟩
  | .local _ .vmem, ⟨32, _⟩ => ⟨S256x512, .f32⟩
  | .local _ .vmem, ⟨33, _⟩ => ⟨S256x512, .f32⟩
  | .local _ .vmem, ⟨34, _⟩ => ⟨S256x512, .f32⟩
  | .local _ .vmem, ⟨35, _⟩ => ⟨S256x2048, .f32⟩
  | .local _ .vmem, ⟨36, _⟩ => ⟨S256x2048, .f32⟩
  | .local _ .vmem, ⟨37, _⟩ => ⟨S256x2048, .f32⟩
  | .local _ .vmem, ⟨38, _⟩ => ⟨S256x2048, .f32⟩
  | .local _ .vmem, ⟨39, _⟩ => ⟨S256x2048, .f32⟩
  | .local _ .vmem, ⟨40, _⟩ => ⟨S256x2048, .f32⟩
  | .local _ .vmem, ⟨41, _⟩ => ⟨S256x2048, .f32⟩
  | .local _ .vmem, ⟨42, _⟩ => ⟨S256x2048, .f32⟩
  | .local _ .vmem, ⟨43, _⟩ => ⟨S256x2048, .f32⟩
  | .local _ .vmem, ⟨44, _⟩ => ⟨S256x2048, .f32⟩
  | .local _ .vmem, ⟨45, _⟩ => ⟨S256x2048, .f32⟩
  | .local _ .vmem, ⟨46, _⟩ => ⟨S256x2048, .f32⟩
  | .local _ .vmem, ⟨47, _⟩ => ⟨S256x2048, .f32⟩
  | .local _ .vmem, ⟨48, _⟩ => ⟨S256x2048, .f32⟩
  | .local _ .vmem, ⟨49, _⟩ => ⟨S256x512, .f32⟩
  | .local _ .vmem, ⟨50, _⟩ => ⟨S256x512, .f32⟩
  | .local _ .vmem, ⟨51, _⟩ => ⟨S256x512, .f32⟩
  | .local _ .vmem, ⟨52, _⟩ => ⟨S256x512, .f32⟩
  | .local _ .vmem, ⟨53, _⟩ => ⟨S256x512, .f32⟩
  | .local _ .vmem, ⟨54, _⟩ => ⟨S256x512, .f32⟩
  | .local _ .vmem, ⟨55, _⟩ => ⟨S256x512, .f32⟩
  | .local _ .vmem, ⟨56, _⟩ => ⟨S256x2048, .f32⟩
  | .local _ .vmem, ⟨57, _⟩ => ⟨S256x2048, .f32⟩
  | .local _ .vmem, ⟨58, _⟩ => ⟨S256x2048, .f32⟩
  | .local _ .vmem, ⟨59, _⟩ => ⟨S256x2048, .f32⟩
  | .local _ .vmem, ⟨60, _⟩ => ⟨S256x2048, .f32⟩
  | .local _ .vmem, ⟨61, _⟩ => ⟨S256x2048, .f32⟩
  | .local _ .vmem, ⟨62, _⟩ => ⟨S256x2048, .f32⟩
  | .local _ .vmem, ⟨63, _⟩ => ⟨S256x2048, .f32⟩
  | .local _ .vmem, ⟨64, _⟩ => ⟨S256x2048, .f32⟩
  | .local _ .vmem, ⟨65, _⟩ => ⟨S256x2048, .f32⟩
  | .local _ .vmem, ⟨66, _⟩ => ⟨S256x2048, .f32⟩
  | .local _ .vmem, ⟨67, _⟩ => ⟨S256x2048, .f32⟩
  | .local _ .vmem, ⟨68, _⟩ => ⟨S256x2048, .f32⟩
  | .local _ .vmem, ⟨69, _⟩ => ⟨S256x2048, .f32⟩
  | .local _ .vmem, ⟨70, _⟩ => ⟨S2176x128, .f32⟩
  | .local _ .vmem, ⟨71, _⟩ => ⟨S2176x128, .f32⟩
  | .local _ .vmem, ⟨72, _⟩ => ⟨S2176x128, .f32⟩
  | .local _ .vmem, ⟨73, _⟩ => ⟨S2176x128, .f32⟩
  | .local _ .vmem, ⟨74, _⟩ => ⟨S2176x128, .f32⟩
  | .local _ .vmem, ⟨75, _⟩ => ⟨S2176x128, .f32⟩
  | .local _ .vmem, ⟨76, _⟩ => ⟨S2176x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | _, _ => false

abbrev semScoped : Fin 0 → Bool
  | ⟨_, h⟩ => absurd h (Nat.not_lt_zero _)

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTc nBuf bufTy 0 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0_0 : Ref sig .tc := ⟨.hbm, 28, rfl⟩
abbrev main_v0_1 : Ref sig .tc := ⟨.hbm, 29, rfl⟩
abbrev main_v0_2 : Ref sig .tc := ⟨.hbm, 30, rfl⟩
abbrev main_v1_0 : Ref sig .tc := ⟨.hbm, 31, rfl⟩
abbrev main_v1_1 : Ref sig .tc := ⟨.hbm, 32, rfl⟩
abbrev main_v1_2 : Ref sig .tc := ⟨.hbm, 33, rfl⟩
abbrev main_v2_0 : Ref sig .tc := ⟨.hbm, 34, rfl⟩
abbrev main_v2_1 : Ref sig .tc := ⟨.hbm, 35, rfl⟩
abbrev main_v2_2 : Ref sig .tc := ⟨.hbm, 36, rfl⟩
abbrev main_v3_0 : Ref sig .tc := ⟨.hbm, 37, rfl⟩
abbrev main_v3_1 : Ref sig .tc := ⟨.hbm, 38, rfl⟩
abbrev main_v3_2 : Ref sig .tc := ⟨.hbm, 39, rfl⟩
abbrev main_v4_0 : Ref sig .tc := ⟨.hbm, 40, rfl⟩
abbrev main_v4_1 : Ref sig .tc := ⟨.hbm, 41, rfl⟩
abbrev main_v4_2 : Ref sig .tc := ⟨.hbm, 42, rfl⟩
abbrev main_v5_0 : Ref sig .tc := ⟨.hbm, 43, rfl⟩
abbrev main_v5_1 : Ref sig .tc := ⟨.hbm, 44, rfl⟩
abbrev main_v5_2 : Ref sig .tc := ⟨.hbm, 45, rfl⟩
abbrev main_v6_0 : Ref sig .tc := ⟨.hbm, 46, rfl⟩
abbrev main_v6_1 : Ref sig .tc := ⟨.hbm, 47, rfl⟩
abbrev main_v6_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_stg6_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg3_1 : Ref sig .tc := ⟨.vmem, 42, rfl⟩
abbrev cc3_stg4_0 : Ref sig .tc := ⟨.vmem, 43, rfl⟩
abbrev cc3_stg4_1 : Ref sig .tc := ⟨.vmem, 44, rfl⟩
abbrev cc3_stg5_0 : Ref sig .tc := ⟨.vmem, 45, rfl⟩
abbrev cc3_stg5_1 : Ref sig .tc := ⟨.vmem, 46, rfl⟩
abbrev cc3_stg6_0 : Ref sig .tc := ⟨.vmem, 47, rfl⟩
abbrev cc3_stg6_1 : Ref sig .tc := ⟨.vmem, 48, rfl⟩
abbrev cc4_stg0_0 : Ref sig .tc := ⟨.vmem, 49, rfl⟩
abbrev cc4_stg1_0 : Ref sig .tc := ⟨.vmem, 50, rfl⟩
abbrev cc4_stg2_0 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg6_0 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg1_1 : Ref sig .tc := ⟨.vmem, 59, rfl⟩
abbrev cc5_stg2_0 : Ref sig .tc := ⟨.vmem, 60, rfl⟩
abbrev cc5_stg2_1 : Ref sig .tc := ⟨.vmem, 61, rfl⟩
abbrev cc5_stg3_0 : Ref sig .tc := ⟨.vmem, 62, rfl⟩
abbrev cc5_stg3_1 : Ref sig .tc := ⟨.vmem, 63, rfl⟩
abbrev cc5_stg4_0 : Ref sig .tc := ⟨.vmem, 64, rfl⟩
abbrev cc5_stg4_1 : Ref sig .tc := ⟨.vmem, 65, rfl⟩
abbrev cc5_stg5_0 : Ref sig .tc := ⟨.vmem, 66, rfl⟩
abbrev cc5_stg5_1 : Ref sig .tc := ⟨.vmem, 67, rfl⟩
abbrev cc5_stg6_0 : Ref sig .tc := ⟨.vmem, 68, rfl⟩
abbrev cc5_stg6_1 : Ref sig .tc := ⟨.vmem, 69, rfl⟩
abbrev cc6_stg0_0 : Ref sig .tc := ⟨.vmem, 70, rfl⟩
abbrev cc6_stg1_0 : Ref sig .tc := ⟨.vmem, 71, rfl⟩
abbrev cc6_stg2_0 : Ref sig .tc := ⟨.vmem, 72, rfl⟩
abbrev cc6_stg3_0 : Ref sig .tc := ⟨.vmem, 73, rfl⟩
abbrev cc6_stg4_0 : Ref sig .tc := ⟨.vmem, 74, rfl⟩
abbrev cc6_stg5_0 : Ref sig .tc := ⟨.vmem, 75, rfl⟩
abbrev cc6_stg6_0 : Ref sig .tc := ⟨.vmem, 76, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem4_1 : DmaSem sig := 30
abbrev cc2_sem5_0 : DmaSem sig := 31
abbrev cc2_sem5_1 : DmaSem sig := 32
abbrev cc2_sem6_0 : DmaSem sig := 33
abbrev cc2_sem6_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem2_1 : DmaSem sig := 40
abbrev cc3_sem3_0 : DmaSem sig := 41
abbrev cc3_sem3_1 : DmaSem sig := 42
abbrev cc3_sem4_0 : DmaSem sig := 43
abbrev cc3_sem4_1 : DmaSem sig := 44
abbrev cc3_sem5_0 : DmaSem sig := 45
abbrev cc3_sem5_1 : DmaSem sig := 46
abbrev cc3_sem6_0 : DmaSem sig := 47
abbrev cc3_sem6_1 : DmaSem sig := 48
abbrev cc4_sem0_0 : DmaSem sig := 49
abbrev cc4_sem1_0 : DmaSem sig := 50
abbrev cc4_sem2_0 : DmaSem sig := 51
abbrev cc4_sem3_0 : DmaSem sig := 52
abbrev cc4_sem4_0 : DmaSem sig := 53
abbrev cc4_sem5_0 : DmaSem sig := 54
abbrev cc4_sem6_0 : DmaSem sig := 55
abbrev cc5_sem0_0 : DmaSem sig := 56
abbrev cc5_sem0_1 : DmaSem sig := 57
abbrev cc5_sem1_0 : DmaSem sig := 58
abbrev cc5_sem1_1 : DmaSem sig := 59
abbrev cc5_sem2_0 : DmaSem sig := 60
abbrev cc5_sem2_1 : DmaSem sig := 61
abbrev cc5_sem3_0 : DmaSem sig := 62
abbrev cc5_sem3_1 : DmaSem sig := 63
abbrev cc5_sem4_0 : DmaSem sig := 64
abbrev cc5_sem4_1 : DmaSem sig := 65
abbrev cc5_sem5_0 : DmaSem sig := 66
abbrev cc5_sem5_1 : DmaSem sig := 67
abbrev cc5_sem6_0 : DmaSem sig := 68
abbrev cc5_sem6_1 : DmaSem sig := 69
abbrev cc6_sem0_0 : DmaSem sig := 70
abbrev cc6_sem1_0 : DmaSem sig := 71
abbrev cc6_sem2_0 : DmaSem sig := 72
abbrev cc6_sem3_0 : DmaSem sig := 73
abbrev cc6_sem4_0 : DmaSem sig := 74
abbrev cc6_sem5_0 : DmaSem sig := 75
abbrev cc6_sem6_0 : DmaSem sig := 76

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S256x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x2048 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S256x512 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S256x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev stage4_2 : Fin 1 → Memref sig .tc .vmem S256x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S256x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev stage4_4 : Fin 1 → Memref sig .tc .vmem S256x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true]

abbrev stage4_5 : Fin 1 → Memref sig .tc .vmem S256x512 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true]

abbrev stage4_6 : Fin 1 → Memref sig .tc .vmem S256x512 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![true]

abbrev grid5 : Pipeline.Grid := ⟨1, ![2], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S256x2048 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S256x2048 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S256x2048 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S256x2048 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S256x2048 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S256x2048 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S2176x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S2176x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S2176x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev stage6_3 : Fin 1 → Memref sig .tc .vmem S2176x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev stage6_4 : Fin 1 → Memref sig .tc .vmem S2176x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![true]

abbrev stage6_5 : Fin 1 → Memref sig .tc .vmem S2176x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![true]

abbrev stage6_6 : Fin 1 → Memref sig .tc .vmem S2176x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![true]
-- ==== Reference9Ideal.lean ====
abbrev S2048x1024 : Shape := ⟨2, ![2048, 1024]⟩
abbrev S256x256 : Shape := ⟨2, ![256, 256]⟩
abbrev S1024x512 : Shape := ⟨2, ![1024, 512]⟩
abbrev S512x2048 : Shape := ⟨2, ![512, 2048]⟩
abbrev S256x512 : Shape := ⟨2, ![256, 512]⟩
abbrev S2176x128 : Shape := ⟨2, ![2176, 128]⟩
abbrev S_ : Shape := ⟨0, ![]⟩

abbrev nBuf : Space → Nat
  | .hbm => 259
  | .vmem => 0
  | .smem => 0
  | _ => 0

abbrev hbmTy0_0 (i : Nat) : BufTy := match i % 128 with
  | 0 => ⟨S2048x1024, .f32⟩
  | 1 => ⟨S2048x1024, .f32⟩
  | 2 => ⟨S2048x1024, .f32⟩
  | 3 => ⟨S2048x1024, .f32⟩
  | 4 => ⟨S256x256, .f32⟩
  | 5 => ⟨S256x256, .f32⟩
  | 6 => ⟨S256x256, .f32⟩
  | 7 => ⟨S256x256, .f32⟩
  | 8 => ⟨S1024x512, .f32⟩
  | 9 => ⟨S1024x512, .f32⟩
  | 10 => ⟨S1024x512, .f32⟩
  | 11 => ⟨S1024x512, .f32⟩
  | 12 => ⟨S512x2048, .f32⟩
  | 13 => ⟨S512x2048, .f32⟩
  | 14 => ⟨S512x2048, .f32⟩
  | 15 => ⟨S512x2048, .f32⟩
  | 16 => ⟨S256x512, .f32⟩
  | 17 => ⟨S256x512, .f32⟩
  | 18 => ⟨S256x512, .f32⟩
  | 19 => ⟨S256x512, .f32⟩
  | 20 => ⟨S512x2048, .f32⟩
  | 21 => ⟨S512x2048, .f32⟩
  | 22 => ⟨S512x2048, .f32⟩
  | 23 => ⟨S512x2048, .f32⟩
  | 24 => ⟨S2176x128, .f32⟩
  | 25 => ⟨S2176x128, .f32⟩
  | 26 => ⟨S2176x128, .f32⟩
  | 27 => ⟨S2176x128, .f32⟩
  | 28 => ⟨S_, .f32⟩
  | 29 => ⟨S2048x1024, .f32⟩
  | 30 => ⟨S2048x1024, .f32⟩
  | 31 => ⟨S_, .f32⟩
  | 32 => ⟨S2048x1024, .f32⟩
  | 33 => ⟨S2048x1024, .f32⟩
  | 34 => ⟨S2048x1024, .f32⟩
  | 35 => ⟨S_, .f32⟩
  | 36 => ⟨S2048x1024, .f32⟩
  | 37 => ⟨S2048x1024, .f32⟩
  | 38 => ⟨S2048x1024, .f32⟩
  | 39 => ⟨S_, .f32⟩
  | 40 => ⟨S2048x1024, .f32⟩
  | 41 => ⟨S2048x1024, .f32⟩
  | 42 => ⟨S2048x1024, .f32⟩
  | 43 => ⟨S_, .f32⟩
  | 44 => ⟨S2048x1024, .f32⟩
  | 45 => ⟨S2048x1024, .f32⟩
  | 46 => ⟨S_, .f32⟩
  | 47 => ⟨S2048x1024, .f32⟩
  | 48 => ⟨S2048x1024, .f32⟩
  | 49 => ⟨S2048x1024, .f32⟩
  | 50 => ⟨S_, .f32⟩
  | 51 => ⟨S2048x1024, .f32⟩
  | 52 => ⟨S2048x1024, .f32⟩
  | 53 => ⟨S2048x1024, .f32⟩
  | 54 => ⟨S_, .f32⟩
  | 55 => ⟨S2048x1024, .f32⟩
  | 56 => ⟨S2048x1024, .f32⟩
  | 57 => ⟨S2048x1024, .f32⟩
  | 58 => ⟨S_, .f32⟩
  | 59 => ⟨S2048x1024, .f32⟩
  | 60 => ⟨S2048x1024, .f32⟩
  | 61 => ⟨S_, .f32⟩
  | 62 => ⟨S256x256, .f32⟩
  | 63 => ⟨S256x256, .f32⟩
  | 64 => ⟨S_, .f32⟩
  | 65 => ⟨S256x256, .f32⟩
  | 66 => ⟨S256x256, .f32⟩
  | 67 => ⟨S256x256, .f32⟩
  | 68 => ⟨S_, .f32⟩
  | 69 => ⟨S256x256, .f32⟩
  | 70 => ⟨S256x256, .f32⟩
  | 71 => ⟨S256x256, .f32⟩
  | 72 => ⟨S_, .f32⟩
  | 73 => ⟨S256x256, .f32⟩
  | 74 => ⟨S256x256, .f32⟩
  | 75 => ⟨S256x256, .f32⟩
  | 76 => ⟨S_, .f32⟩
  | 77 => ⟨S256x256, .f32⟩
  | 78 => ⟨S256x256, .f32⟩
  | 79 => ⟨S_, .f32⟩
  | 80 => ⟨S256x256, .f32⟩
  | 81 => ⟨S256x256, .f32⟩
  | 82 => ⟨S256x256, .f32⟩
  | 83 => ⟨S_, .f32⟩
  | 84 => ⟨S256x256, .f32⟩
  | 85 => ⟨S256x256, .f32⟩
  | 86 => ⟨S256x256, .f32⟩
  | 87 => ⟨S_, .f32⟩
  | 88 => ⟨S256x256, .f32⟩
  | 89 => ⟨S256x256, .f32⟩
  | 90 => ⟨S256x256, .f32⟩
  | 91 => ⟨S_, .f32⟩
  | 92 => ⟨S256x256, .f32⟩
  | 93 => ⟨S256x256, .f32⟩
  | 94 => ⟨S_, .f32⟩
  | 95 => ⟨S1024x512, .f32⟩
  | 96 => ⟨S1024x512, .f32⟩
  | 97 => ⟨S_, .f32⟩
  | 98 => ⟨S1024x512, .f32⟩
  | 99 => ⟨S1024x512, .f32⟩
  | 100 => ⟨S1024x512, .f32⟩
  | 101 => ⟨S_, .f32⟩
  | 102 => ⟨S1024x512, .f32⟩
  | 103 => ⟨S1024x512, .f32⟩
  | 104 => ⟨S1024x512, .f32⟩
  | 105 => ⟨S_, .f32⟩
  | 106 => ⟨S1024x512, .f32⟩
  | 107 => ⟨S1024x512, .f32⟩
  | 108 => ⟨S1024x512, .f32⟩
  | 109 => ⟨S_, .f32⟩
  | 110 => ⟨S1024x512, .f32⟩
  | 111 => ⟨S1024x512, .f32⟩
  | 112 => ⟨S_, .f32⟩
  | 113 => ⟨S1024x512, .f32⟩
  | 114 => ⟨S1024x512, .f32⟩
  | 115 => ⟨S1024x512, .f32⟩
  | 116 => ⟨S_, .f32⟩
  | 117 => ⟨S1024x512, .f32⟩
  | 118 => ⟨S1024x512, .f32⟩
  | 119 => ⟨S1024x512, .f32⟩
  | 120 => ⟨S_, .f32⟩
  | 121 => ⟨S1024x512, .f32⟩
  | 122 => ⟨S1024x512, .f32⟩
  | 123 => ⟨S1024x512, .f32⟩
  | 124 => ⟨S_, .f32⟩
  | 125 => ⟨S1024x512, .f32⟩
  | 126 => ⟨S1024x512, .f32⟩
  | 127 => ⟨S_, .f32⟩
  | _ => ⟨S2048x1024, .f32⟩

abbrev hbmTy0_1 (i : Nat) : BufTy := match i % 128 with
  | 0 => ⟨S512x2048, .f32⟩
  | 1 => ⟨S512x2048, .f32⟩
  | 2 => ⟨S_, .f32⟩
  | 3 => ⟨S512x2048, .f32⟩
  | 4 => ⟨S512x2048, .f32⟩
  | 5 => ⟨S512x2048, .f32⟩
  | 6 => ⟨S_, .f32⟩
  | 7 => ⟨S512x2048, .f32⟩
  | 8 => ⟨S512x2048, .f32⟩
  | 9 => ⟨S512x2048, .f32⟩
  | 10 => ⟨S_, .f32⟩
  | 11 => ⟨S512x2048, .f32⟩
  | 12 => ⟨S512x2048, .f32⟩
  | 13 => ⟨S512x2048, .f32⟩
  | 14 => ⟨S_, .f32⟩
  | 15 => ⟨S512x2048, .f32⟩
  | 16 => ⟨S512x2048, .f32⟩
  | 17 => ⟨S_, .f32⟩
  | 18 => ⟨S512x2048, .f32⟩
  | 19 => ⟨S512x2048, .f32⟩
  | 20 => ⟨S512x2048, .f32⟩
  | 21 => ⟨S_, .f32⟩
  | 22 => ⟨S512x2048, .f32⟩
  | 23 => ⟨S512x2048, .f32⟩
  | 24 => ⟨S512x2048, .f32⟩
  | 25 => ⟨S_, .f32⟩
  | 26 => ⟨S512x2048, .f32⟩
  | 27 => ⟨S512x2048, .f32⟩
  | 28 => ⟨S512x2048, .f32⟩
  | 29 => ⟨S_, .f32⟩
  | 30 => ⟨S512x2048, .f32⟩
  | 31 => ⟨S512x2048, .f32⟩
  | 32 => ⟨S_, .f32⟩
  | 33 => ⟨S256x512, .f32⟩
  | 34 => ⟨S256x512, .f32⟩
  | 35 => ⟨S_, .f32⟩
  | 36 => ⟨S256x512, .f32⟩
  | 37 => ⟨S256x512, .f32⟩
  | 38 => ⟨S256x512, .f32⟩
  | 39 => ⟨S_, .f32⟩
  | 40 => ⟨S256x512, .f32⟩
  | 41 => ⟨S256x512, .f32⟩
  | 42 => ⟨S256x512, .f32⟩
  | 43 => ⟨S_, .f32⟩
  | 44 => ⟨S256x512, .f32⟩
  | 45 => ⟨S256x512, .f32⟩
  | 46 => ⟨S256x512, .f32⟩
  | 47 => ⟨S_, .f32⟩
  | 48 => ⟨S256x512, .f32⟩
  | 49 => ⟨S256x512, .f32⟩
  | 50 => ⟨S_, .f32⟩
  | 51 => ⟨S256x512, .f32⟩
  | 52 => ⟨S256x512, .f32⟩
  | 53 => ⟨S256x512, .f32⟩
  | 54 => ⟨S_, .f32⟩
  | 55 => ⟨S256x512, .f32⟩
  | 56 => ⟨S256x512, .f32⟩
  | 57 => ⟨S256x512, .f32⟩
  | 58 => ⟨S_, .f32⟩
  | 59 => ⟨S256x512, .f32⟩
  | 60 => ⟨S256x512, .f32⟩
  | 61 => ⟨S256x512, .f32⟩
  | 62 => ⟨S_, .f32⟩
  | 63 => ⟨S256x512, .f32⟩
  | 64 => ⟨S256x512, .f32⟩
  | 65 => ⟨S_, .f32⟩
  | 66 => ⟨S512x2048, .f32⟩
  | 67 => ⟨S512x2048, .f32⟩
  | 68 => ⟨S_, .f32⟩
  | 69 => ⟨S512x2048, .f32⟩
  | 70 => ⟨S512x2048, .f32⟩
  | 71 => ⟨S512x2048, .f32⟩
  | 72 => ⟨S_, .f32⟩
  | 73 => ⟨S512x2048, .f32⟩
  | 74 => ⟨S512x2048, .f32⟩
  | 75 => ⟨S512x2048, .f32⟩
  | 76 => ⟨S_, .f32⟩
  | 77 => ⟨S512x2048, .f32⟩
  | 78 => ⟨S512x2048, .f32⟩
  | 79 => ⟨S512x2048, .f32⟩
  | 80 => ⟨S_, .f32⟩
  | 81 => ⟨S512x2048, .f32⟩
  | 82 => ⟨S512x2048, .f32⟩
  | 83 => ⟨S_, .f32⟩
  | 84 => ⟨S512x2048, .f32⟩
  | 85 => ⟨S512x2048, .f32⟩
  | 86 => ⟨S512x2048, .f32⟩
  | 87 => ⟨S_, .f32⟩
  | 88 => ⟨S512x2048, .f32⟩
  | 89 => ⟨S512x2048, .f32⟩
  | 90 => ⟨S512x2048, .f32⟩
  | 91 => ⟨S_, .f32⟩
  | 92 => ⟨S512x2048, .f32⟩
  | 93 => ⟨S512x2048, .f32⟩
  | 94 => ⟨S512x2048, .f32⟩
  | 95 => ⟨S_, .f32⟩
  | 96 => ⟨S512x2048, .f32⟩
  | 97 => ⟨S512x2048, .f32⟩
  | 98 => ⟨S_, .f32⟩
  | 99 => ⟨S2176x128, .f32⟩
  | 100 => ⟨S2176x128, .f32⟩
  | 101 => ⟨S_, .f32⟩
  | 102 => ⟨S2176x128, .f32⟩
  | 103 => ⟨S2176x128, .f32⟩
  | 104 => ⟨S2176x128, .f32⟩
  | 105 => ⟨S_, .f32⟩
  | 106 => ⟨S2176x128, .f32⟩
  | 107 => ⟨S2176x128, .f32⟩
  | 108 => ⟨S2176x128, .f32⟩
  | 109 => ⟨S_, .f32⟩
  | 110 => ⟨S2176x128, .f32⟩
  | 111 => ⟨S2176x128, .f32⟩
  | 112 => ⟨S2176x128, .f32⟩
  | 113 => ⟨S_, .f32⟩
  | 114 => ⟨S2176x128, .f32⟩
  | 115 => ⟨S2176x128, .f32⟩
  | 116 => ⟨S_, .f32⟩
  | 117 => ⟨S2176x128, .f32⟩
  | 118 => ⟨S2176x128, .f32⟩
  | 119 => ⟨S2176x128, .f32⟩
  | 120 => ⟨S_, .f32⟩
  | 121 => ⟨S2176x128, .f32⟩
  | 122 => ⟨S2176x128, .f32⟩
  | 123 => ⟨S2176x128, .f32⟩
  | 124 => ⟨S_, .f32⟩
  | 125 => ⟨S2176x128, .f32⟩
  | 126 => ⟨S2176x128, .f32⟩
  | 127 => ⟨S2176x128, .f32⟩
  | _ => ⟨S2048x1024, .f32⟩

abbrev hbmTy0_2 (i : Nat) : BufTy := match i % 128 with
  | 0 => ⟨S_, .f32⟩
  | 1 => ⟨S2176x128, .f32⟩
  | 2 => ⟨S2176x128, .f32⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_3 : Ref sig .tc := ⟨.hbm, 43, rfl⟩
abbrev main_v11 : Ref sig .tc := ⟨.hbm, 44, rfl⟩
abbrev main_v12 : Ref sig .tc := ⟨.hbm, 45, rfl⟩
abbrev main_cst_4 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_5 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_6 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_7 : Ref sig .tc := ⟨.hbm, 58, rfl⟩
abbrev main_v22 : Ref sig .tc := ⟨.hbm, 59, rfl⟩
abbrev main_v23 : Ref sig .tc := ⟨.hbm, 60, rfl⟩
abbrev main_cst_8 : Ref sig .tc := ⟨.hbm, 61, rfl⟩
abbrev main_v24 : Ref sig .tc := ⟨.hbm, 62, rfl⟩
abbrev main_v25 : Ref sig .tc := ⟨.hbm, 63, rfl⟩
abbrev main_cst_9 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_10 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_11 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_12 : Ref sig .tc := ⟨.hbm, 76, rfl⟩
abbrev main_v35 : Ref sig .tc := ⟨.hbm, 77, rfl⟩
abbrev main_v36 : Ref sig .tc := ⟨.hbm, 78, rfl⟩
abbrev main_cst_13 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_14 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_15 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_16 : Ref sig .tc := ⟨.hbm, 91, rfl⟩
abbrev main_v46 : Ref sig .tc := ⟨.hbm, 92, rfl⟩
abbrev main_v47 : Ref sig .tc := ⟨.hbm, 93, rfl⟩
abbrev main_cst_17 : Ref sig .tc := ⟨.hbm, 94, rfl⟩
abbrev main_v48 : Ref sig .tc := ⟨.hbm, 95, rfl⟩
abbrev main_v49 : Ref sig .tc := ⟨.hbm, 96, rfl⟩
abbrev main_cst_18 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_19 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_20 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_21 : Ref sig .tc := ⟨.hbm, 109, rfl⟩
abbrev main_v59 : Ref sig .tc := ⟨.hbm, 110, rfl⟩
abbrev main_v60 : Ref sig .tc := ⟨.hbm, 111, rfl⟩
abbrev main_cst_22 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_23 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_24 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_25 : Ref sig .tc := ⟨.hbm, 124, rfl⟩
abbrev main_v70 : Ref sig .tc := ⟨.hbm, 125, rfl⟩
abbrev main_v71 : Ref sig .tc := ⟨.hbm, 126, rfl⟩
abbrev main_cst_26 : Ref sig .tc := ⟨.hbm, 127, rfl⟩
abbrev main_v72 : Ref sig .tc := ⟨.hbm, 128, rfl⟩
abbrev main_v73 : Ref sig .tc := ⟨.hbm, 129, rfl⟩
abbrev main_cst_27 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_28 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_cst_29 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_30 : Ref sig .tc := ⟨.hbm, 142, rfl⟩
abbrev main_v83 : Ref sig .tc := ⟨.hbm, 143, rfl⟩
abbrev main_v84 : Ref sig .tc := ⟨.hbm, 144, rfl⟩
abbrev main_cst_31 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_32 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_33 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_cst_34 : Ref sig .tc := ⟨.hbm, 157, rfl⟩
abbrev main_v94 : Ref sig .tc := ⟨.hbm, 158, rfl⟩
abbrev main_v95 : Ref sig .tc := ⟨.hbm, 159, rfl⟩
abbrev main_cst_35 : Ref sig .tc := ⟨.hbm, 160, rfl⟩
abbrev main_v96 : Ref sig .tc := ⟨.hbm, 161, rfl⟩
abbrev main_v97 : Ref sig .tc := ⟨.hbm, 162, rfl⟩
abbrev main_cst_36 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_cst_37 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_38 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_cst_39 : Ref sig .tc := ⟨.hbm, 175, rfl⟩
abbrev main_v107 : Ref sig .tc := ⟨.hbm, 176, rfl⟩
abbrev main_v108 : Ref sig .tc := ⟨.hbm, 177, rfl⟩
abbrev main_cst_40 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_cst_41 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_cst_42 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_43 : Ref sig .tc := ⟨.hbm, 190, rfl⟩
abbrev main_v118 : Ref sig .tc := ⟨.hbm, 191, rfl⟩
abbrev main_v119 : Ref sig .tc := ⟨.hbm, 192, rfl⟩
abbrev main_cst_44 : Ref sig .tc := ⟨.hbm, 193, rfl⟩
abbrev main_v120 : Ref sig .tc := ⟨.hbm, 194, rfl⟩
abbrev main_v121 : Ref sig .tc := ⟨.hbm, 195, rfl⟩
abbrev main_cst_45 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_cst_46 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_cst_47 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_cst_48 : Ref sig .tc := ⟨.hbm, 208, rfl⟩
abbrev main_v131 : Ref sig .tc := ⟨.hbm, 209, rfl⟩
abbrev main_v132 : Ref sig .tc := ⟨.hbm, 210, rfl⟩
abbrev main_cst_49 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_cst_50 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_51 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_cst_52 : Ref sig .tc := ⟨.hbm, 223, rfl⟩
abbrev main_v142 : Ref sig .tc := ⟨.hbm, 224, rfl⟩
abbrev main_v143 : Ref sig .tc := ⟨.hbm, 225, rfl⟩
abbrev main_cst_53 : Ref sig .tc := ⟨.hbm, 226, rfl⟩
abbrev main_v144 : Ref sig .tc := ⟨.hbm, 227, rfl⟩
abbrev main_v145 : Ref sig .tc := ⟨.hbm, 228, rfl⟩
abbrev main_cst_54 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_cst_55 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_cst_56 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_cst_57 : Ref sig .tc := ⟨.hbm, 241, rfl⟩
abbrev main_v155 : Ref sig .tc := ⟨.hbm, 242, rfl⟩
abbrev main_v156 : Ref sig .tc := ⟨.hbm, 243, rfl⟩
abbrev main_cst_58 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_cst_59 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_cst_60 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_cst_61 : Ref sig .tc := ⟨.hbm, 256, rfl⟩
abbrev main_v166 : Ref sig .tc := ⟨.hbm, 257, rfl⟩
abbrev main_v167 : Ref sig .tc := ⟨.hbm, 258, rfl⟩

abbrev nD : Nat := 1
abbrev τ : Topo := Topo.v7x

variable {F : FTy → Type} [FloatOps F]
-- ==== Kernel10.lean ====
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S1024x64 : Shape := ⟨2, ![1024, 64]⟩
abbrev S64x1 : Shape := ⟨2, ![64, 1]⟩

abbrev nBuf : Space → Nat
  | .hbm => 21
  | .vmem => 9
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x16x64, .f32⟩
  | .hbm, ⟨6, _⟩ => ⟨S1024x64, .f32⟩
  | .hbm, ⟨7, _⟩ => ⟨S64x16x64, .f32⟩
  | .hbm, ⟨8, _⟩ => ⟨S1024x64, .f32⟩
  | .hbm, ⟨9, _⟩ => ⟨S64x1, .f32⟩
  | .hbm, ⟨10, _⟩ => ⟨S64x64, .f32⟩
  | .hbm, ⟨11, _⟩ => ⟨S64x16x64, .f32⟩
  | .hbm, ⟨12, _⟩ => ⟨S1024x64, .f32⟩
  | .hbm, ⟨13, _⟩ => ⟨S64x16x64, .f32⟩
  | .hbm, ⟨14, _⟩ => ⟨S1024x64, .f32⟩
  | .hbm, ⟨15, _⟩ => ⟨S64x16x64, .f32⟩
  | .hbm, ⟨16, _⟩ => ⟨S1024x64, .f32⟩
  | .hbm, ⟨17, _⟩ => ⟨S1024x64, .f32⟩
  | .hbm, ⟨18, _⟩ => ⟨S1024x64, .f32⟩
  | .hbm, ⟨19, _⟩ => ⟨S1024x64, .f32⟩
  | .hbm, ⟨20, _⟩ => ⟨S1024x64, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference10Ideal.lean ====
abbrev S64x64 : Shape := ⟨2, ![64, 64]⟩
abbrev S64 : Shape := ⟨1, ![64]⟩
abbrev S64x64x16 : Shape := ⟨3, ![64, 64, 16]⟩
abbrev S_ : Shape := ⟨0, ![]⟩
abbrev S64x1 : Shape := ⟨2, ![64, 1]⟩
abbrev S64x64x1 : Shape := ⟨3, ![64, 64, 1]⟩
abbrev S64x16x64 : Shape := ⟨3, ![64, 16, 64]⟩
abbrev S1024x64 : Shape := ⟨2, ![1024, 64]⟩

abbrev nBuf : Space → Nat
  | .hbm => 55
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S_, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x1, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S_, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64x1, .f32⟩
  | .hbm, ⟨34, _⟩ => ⟨S64x64x16, .f32⟩
  | .hbm, ⟨35, _⟩ => ⟨S64x64x16, .f32⟩
  | .hbm, ⟨36, _⟩ => ⟨S64x64x1, .f32⟩
  | .hbm, ⟨37, _⟩ => ⟨S64x64x16, .f32⟩
  | .hbm, ⟨38, _⟩ => ⟨S64x64x16, .f32⟩
  | .hbm, ⟨39, _⟩ => ⟨S64x64x16, .f32⟩
  | .hbm, ⟨40, _⟩ => ⟨S64x64x1, .f32⟩
  | .hbm, ⟨41, _⟩ => ⟨S64x64x16, .f32⟩
  | .hbm, ⟨42, _⟩ => ⟨S64x64x16, .f32⟩
  | .hbm, ⟨43, _⟩ => ⟨S64x64x1, .f32⟩
  | .hbm, ⟨44, _⟩ => ⟨S64x64x16, .f32⟩
  | .hbm, ⟨45, _⟩ => ⟨S64x64x16, .f32⟩
  | .hbm, ⟨46, _⟩ => ⟨S64x64x16, .f32⟩
  | .hbm, ⟨47, _⟩ => ⟨S64x16x64, .f32⟩
  | .hbm, ⟨48, _⟩ => ⟨S1024x64, .f32⟩
  | .hbm, ⟨49, _⟩ => ⟨S64x16x64, .f32⟩
  | .hbm, ⟨50, _⟩ => ⟨S1024x64, .f32⟩
  | .hbm, ⟨51, _⟩ => ⟨S64x16x64, .f32⟩
  | .hbm, ⟨52, _⟩ => ⟨S1024x64, .f32⟩
  | .hbm, ⟨53, _⟩ => ⟨S64x16x64, .f32⟩
  | .hbm, ⟨54, _⟩ => ⟨S1024x64, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩

abbrev nD : Nat := 1
abbrev τ : Topo := Topo.v7x

variable {F : FTy → Type} [FloatOps F]
-- ==== Proof.PoolMath.lean ====
module

public import Idealize.ShloMosaic.PureOps
public import Idealize.ShloMosaic.Lib.Pointwise
public import Idealize.ShloMosaic.Lib.Routing.OpsOne

/-! The arithmetic of the windowed mean's gradient, free of any program: real window sums, a running sum taken from
    the far end, and the constants of the four window lengths. -/

@[expose] public section

set_option maxRecDepth 16384

noncomputable section

namespace Cert.Pool

open Idealize.ShloMosaic
open Idealize.ShloMosaic.Routing (shape2 numel_col symm_col)

/-- The lengths of the four groups' windows. -/
def win : Fin 4 → ℕ := ![2, 4, 8, 16]

/-- The number of terms that the mean at row `n` runs over. -/
def count (n : ℕ) (g : Fin 4) : ℕ := min (n + 1) (win g)

theorem win_pos (g : Fin 4) : 0 < win g := by revert g; decide

theorem count_pos (n : ℕ) (g : Fin 4) : 0 < count n g := by
  have := win_pos g
  unfold count; omega

/-- The difference of two running sums taken from the far end, of a sequence and of the sequence `w` places later, is
    the sum over a window of `w` places. -/
theorem sum_tail_sub (q : ℕ → ℝ) (L w t : ℕ) (hq : ∀ n, L ≤ n → q n = 0) (ht : t ≤ L) :
    ∑ n ∈ Finset.range (L - t), (q (t + n) - q (t + n + w)) = ∑ k ∈ Finset.range w, q (t + k) := by
  rw [Finset.sum_sub_distrib]
  have e1 : ∑ n ∈ Finset.range (L - t), q (t + n) = ∑ n ∈ Finset.range (L - t + w), q (t + n) := by
    rw [Finset.sum_range_add]
    have : ∑ x ∈ Finset.range w, q (t + (L - t + x)) = 0 := Finset.sum_eq_zero fun x _ => hq _ (by omega)
    rw [this, add_zero]
  have e2 : ∑ n ∈ Finset.range (L - t + w), q (t + n)
      = ∑ k ∈ Finset.range w, q (t + k) + ∑ n ∈ Finset.range (L - t), q (t + n + w) := by
    rw [Nat.add_comm, Finset.sum_range_add]
    congr 1
    exact Finset.sum_congr rfl fun n _ => by congr 1; omega
  rw [e1, e2, add_sub_cancel_right]

/-- A left fold of an addition is the initial value plus the sum. -/
theorem foldl_add {M : Type} [AddCommMonoid M] {α : Type} (g : α → M) (l : List α) (v : M) :
    l.foldl (fun r n => r + g n) v = v + (l.map g).sum := by
  induction l generalizing v with
  | nil => simp
  | cons a l ih => rw [List.foldl_cons, ih, List.map_cons, List.sum_cons, add_assoc]

/-- A running sum of the rows of a matrix taken from the last row upward, as it prints: a window of the whole height
    and one column, padded at the far end by one less. Row `j` holds the sum of the rows `j`, `j + 1`, … -/
theorem cumsum_up {R Rm1 C : ℕ} (hR : Rm1 + 1 = R) (x : (shape2 R C).Idx → EReal) {u : Shape} (init : u.Idx → EReal)
    (hu : 0 < u.numel) (hinit : init (Shape.Idx.first hu) = 0)
    (h : (shape2 R C).ReduceWindows (![R, 1] : Fin 2 → ℕ) ![1, 1] ![0, 0] ![Rm1, 0] (shape2 R C)) (j : Fin R) (c : Fin C) :
    Host.reduceWindow (· + ·) ![R, 1] ![1, 1] ![0, 0] ![Rm1, 0] x init h hu (ix2 j c)
      = ∑ n ∈ Finset.range R, if hn : j.val + n < R then x (ix2 ⟨j.val + n, hn⟩ c) else 0 := by
  subst hR
  have hc := c.isLt
  unfold Host.reduceWindow
  dsimp only
  rw [hinit, foldl_add, zero_add, ← Fin.sum_univ_def]
  rw [Finset.sum_range]
  refine (Fintype.sum_equiv (finCongr (numel_col (Rm1 + 1))) _ _ fun n => ?_)
  have hw0 : ((shape2 (Rm1 + 1) 1).rowMajor.symm n 0).val = n.val := by rw [symm_col]; rfl
  have hw1 : ((shape2 (Rm1 + 1) 1).rowMajor.symm n 1).val = 0 := by rw [symm_col]; rfl
  show _ = if hn : j.val + n.val < Rm1 + 1 then _ else _
  split
  · next hin =>
    have h0 := (hin 0).2
    change j.val * 1 + ((shape2 (Rm1 + 1) 1).rowMajor.symm n 0).val - 0 < Rm1 + 1 at h0
    rw [hw0] at h0
    rw [dif_pos (by omega)]
    refine congrArg x (funext fun a => Fin.ext ?_)
    match a with
    | ⟨0, _⟩ =>
      show j.val * 1 + ((shape2 (Rm1 + 1) 1).rowMajor.symm n 0).val - 0 = j.val + n.val
      rw [hw0]; omega
    | ⟨1, _⟩ =>
      show c.val * 1 + ((shape2 (Rm1 + 1) 1).rowMajor.symm n 1).val - 0 = c.val
      rw [hw1]; omega
  · next hin =>
    rw [dif_neg fun hle => hin fun a => by
      match a with
      | ⟨0, _⟩ =>
        show 0 ≤ j.val * 1 + ((shape2 (Rm1 + 1) 1).rowMajor.symm n 0).val
          ∧ j.val * 1 + ((shape2 (Rm1 + 1) 1).rowMajor.symm n 0).val - 0 < Rm1 + 1
        rw [hw0]; omega
      | ⟨1, _⟩ =>
        show 0 ≤ c.val * 1 + ((shape2 (Rm1 + 1) 1).rowMajor.symm n 1).val
          ∧ c.val * 1 + ((shape2 (Rm1 + 1) 1).rowMajor.symm n 1).val - 0 < C
        rw [hw1]; omega]

/-- The word of `i * b + r + 1`, as the programs compute it. -/
theorem word_row (i b r : ℕ) :
    IntOp.addi (IntOp.addi (Scalar.muli (BitVec.ofNat 32 i) (BitVec.ofNat 32 b)) (BitVec.ofNat 32 r)) 1#32
      = BitVec.ofNat 32 (i * b + r + 1) := by
  simp [IntOp.addi, Scalar.muli, IntOp.muli, BitVec.ofNat_add, BitVec.ofNat_mul]

theorem word_row_next (i b r : ℕ) :
    IntOp.addi (IntOp.addi (Scalar.muli (Scalar.addi (BitVec.ofNat 32 i) 1#32) (BitVec.ofNat 32 b)) (BitVec.ofNat 32 r)) 1#32
      = BitVec.ofNat 32 ((i + 1) * b + r + 1) := by
  simp [IntOp.addi, Scalar.muli, Scalar.addi, IntOp.muli, BitVec.ofNat_add, BitVec.ofNat_mul]

theorem toInt_small (n : ℕ) (h : n < 65536) : (BitVec.ofNat 32 n).toInt = (n : ℤ) := by
  rw [BitVec.toInt_eq_toNat_cond, BitVec.toNat_ofNat, Nat.mod_eq_of_lt (by omega), if_pos (by omega)]

/-- The signed comparison of two small words is that of their numbers. -/
theorem sge_word (n w : ℕ) (hn : n < 65536) (hw : w < 65536) :
    IntOp.cmpi .sge (BitVec.ofNat 32 n) (BitVec.ofNat 32 w) = if w ≤ n then 1#1 else 0#1 := by
  have h : (IntOp.cmpi .sge (BitVec.ofNat 32 n) (BitVec.ofNat 32 w)) = BitVec.ofBool (decide ((BitVec.ofNat 32 w).toInt ≤ (BitVec.ofNat 32 n).toInt)) := rfl
  rw [h, toInt_small n hn, toInt_small w hw]
  by_cases hh : w ≤ n
  · rw [if_pos hh, decide_eq_true (by exact_mod_cast hh)]; rfl
  · rw [if_neg hh, decide_eq_false (by exact_mod_cast hh)]; rfl

theorem ideal_div_coe (a b : ℝ) (hb : b ≠ 0) : Ideal.div (a : EReal) (b : EReal) = ((a / b : ℝ) : EReal) := by
  rw [Ideal.div_coe hb, ← EReal.coe_mul, mul_one_div]

/-- One over the number of terms of the mean at a row, as the kernel selects it: `1 / w` once the window is full, one
    over the row's number before. -/
theorem inv_count (n w : ℕ) (b : BitVec 32) (hn : n < 65535) (hw : 0 < w) (hw' : w < 65536)
    (hb : Ideal.ofBits FTy.f32 b = ((1 / (w : ℝ) : ℝ) : EReal)) :
    Scalar.select (IntOp.cmpi .sge (BitVec.ofNat 32 (n + 1)) (BitVec.ofNat 32 w)) (Ideal.ofBits FTy.f32 b)
      (Ideal.div 1 (FloatOps.sitofp (F := Ideal) FTy.f32 (BitVec.ofNat 32 (n + 1))))
      = ((1 / ((min (n + 1) w : ℕ) : ℝ) : ℝ) : EReal) := by
  rw [sge_word _ _ (by omega) hw', hb]
  have hs : (FloatOps.sitofp (F := Ideal) FTy.f32 (BitVec.ofNat 32 (n + 1)) : EReal) = (((n + 1 : ℕ) : ℝ) : EReal) := by
    show ((((BitVec.ofNat 32 (n + 1)).toInt : ℤ) : ℝ) : EReal) = _
    rw [toInt_small _ (by omega)]; norm_cast
  rw [hs, Ideal.div_coe (by positivity), one_mul]
  by_cases h : w ≤ n + 1
  · rw [if_pos h, min_eq_right h]; rfl
  · rw [if_neg h, min_eq_left (by omega)]; rfl

end Cert.Pool
-- ==== Proof.PoolKernel.lean ====
module

public import proofs.«01_k».proof.Proof.Gen.KernelIdeal.Value
public import proofs.«01_k».proof.Proof.PoolMath
public import Idealize.ShloMosaic.Lib.Pipeline.ValueKit
public import Idealize.ShloMosaic.Lib.Pipeline.ReadBack
public import Idealize.ShloMosaic.Lib.Pointwise

/-! What the pooling kernel's gradient call leaves in its output: the windowed sums of the weighted gradient, less the
    gradient itself (`Cert.Pool.G`). -/

@[expose] public section

set_option maxRecDepth 16384

noncomputable section

namespace Cert.Pool

open Cert.KernelIdeal Cert.KernelIdeal.Gen Idealize.ShloMosaic Idealize.ShloMosaic.TcCoe Idealize.SL.Sem

/-! ## The mathematics of the result -/

/-- The group of a column, -/
def grp (y : Fin 1024) : Fin 4 := ⟨y.val / 256, by omega⟩
/-- and the column within its group. -/
def off (y : Fin 1024) : Fin 256 := ⟨y.val % 256, by omega⟩
/-- Column `c` of group `g`. -/
def col (g : Fin 4) (c : Fin 256) : Fin 1024 := ⟨g.val * 256 + c.val, by omega⟩

theorem grp_col (g : Fin 4) (c : Fin 256) : grp (col g c) = g := Fin.ext (by show (g.val * 256 + c.val) / 256 = g.val; omega)
theorem off_col (g : Fin 4) (c : Fin 256) : off (col g c) = c := Fin.ext (by show (g.val * 256 + c.val) % 256 = c.val; omega)

/-- The gradient reaching the mean of group `g` at row `n` and column `c`: the incoming gradient times the transposed
    weights of the group; nothing past the last row. -/
def grad (d : S4096x1024.Idx → EReal) (w : S4x256x256.Idx → EReal) (n : ℕ) (g : Fin 4) (c : Fin 256) : EReal :=
  if h : n < 4096 then ∑ k : Fin 256, d (ix2 ⟨n, h⟩ (col g k)) * w (ix3 g c k) else 0

/-- That gradient divided by the number of terms of the mean. -/
def quot (d : S4096x1024.Idx → EReal) (w : S4x256x256.Idx → EReal) (n : ℕ) (g : Fin 4) (c : Fin 256) : EReal :=
  grad d w n g c * ((1 / (count n g : ℝ) : ℝ) : EReal)

/-- The gradient of the pooling's input: each row takes its part of the means of the rows whose window holds it. -/
def G (d : S4096x1024.Idx → EReal) (w : S4x256x256.Idx → EReal) : S4096x1024.Idx → EReal := fun i =>
  (∑ k ∈ Finset.range (win (grp (i 1))), quot d w ((i 0).val + k) (grp (i 1)) (off (i 1)))
    - grad d w (i 0).val (grp (i 1)) (off (i 1))

/-! ## What one grid point's scratch buffers hold -/

/-- The stores of one grid point into the buffer of the weighted gradients. -/
def extL (i : grid0.Coords) (x0 : Vec Ideal S256x1024 .bf16) (x1 : Vec Ideal S16x1024 .bf16) (x2 : Vec Ideal S4x256x256 .bf16) :
    List (View.Piece (Elt Ideal) S272x1024 .f32) :=
  [⟨Rect.unit ![256, 768] ![16, 256] inb_S272x1024_S16x256_256_768,
    k0_pay32 (BitVec.ofNat 32 ↑(i 0)) (k0_pay13 (k0_pay7 (BitVec.ofNat 32 ↑(i 0))))
      (k0_pay29 (View.ld x1 (Rect.unit ![0, 768] ![16, 256] inb_S16x1024_S16x256_0_768))
        (View.ld x2 (Rect.unit ![3, 0, 0] ![1, 256, 256] inb_S4x256x256_S1x256x256_3_0_0)))⟩,
   ⟨Rect.unit ![0, 768] ![256, 256] inb_S272x1024_S256x256_0_768,
    k0_pay31 (k0_pay6 (k0_pay1 i) (k0_pay5 i))
      (k0_pay28 (View.ld x0 (Rect.unit ![0, 768] ![256, 256] inb_S256x1024_S256x256_0_768))
        (View.ld x2 (Rect.unit ![3, 0, 0] ![1, 256, 256] inb_S4x256x256_S1x256x256_3_0_0)))⟩,
   ⟨Rect.unit ![256, 512] ![16, 256] inb_S272x1024_S16x256_256_512,
    k0_pay27 (BitVec.ofNat 32 ↑(i 0))
      (k0_pay12 (k0_pay10 (BitVec.ofNat 32 ↑(i 0))) (k0_pay11 (BitVec.ofNat 32 ↑(i 0))) (FloatOps.ofBits FTy.f32 1065353216#32))
      (View.ld x1 (Rect.unit ![0, 512] ![16, 256] inb_S16x1024_S16x256_0_512))
      (View.ld x2 (Rect.unit ![2, 0, 0] ![1, 256, 256] inb_S4x256x256_S1x256x256_2_0_0))⟩,
   ⟨Rect.unit ![0, 512] ![256, 256] inb_S272x1024_S256x256_0_512,
    k0_pay26 (k0_pay4 i)
      (View.ld x0 (Rect.unit ![0, 512] ![256, 256] inb_S256x1024_S256x256_0_512))
      (k0_pay23 (View.ld x2 (Rect.unit ![2, 0, 0] ![1, 256, 256] inb_S4x256x256_S1x256x256_2_0_0)))
      (constant S256x256 FTy.f32 0#32)⟩,
   ⟨Rect.unit ![256, 256] ![16, 256] inb_S272x1024_S16x256_256_256,
    k0_pay22 (BitVec.ofNat 32 ↑(i 0)) (k0_pay9 (BitVec.ofNat 32 ↑(i 0)))
      (View.ld x1 (Rect.unit ![0, 256] ![16, 256] inb_S16x1024_S16x256_0_256))
      (View.ld x2 (Rect.unit ![1, 0, 0] ![1, 256, 256] inb_S4x256x256_S1x256x256_1_0_0))⟩,
   ⟨Rect.unit ![0, 256] ![256, 256] inb_S272x1024_S256x256_0_256,
    k0_pay21 (k0_pay3 i)
      (View.ld x0 (Rect.unit ![0, 256] ![256, 256] inb_S256x1024_S256x256_0_256))
      (View.ld x2 (Rect.unit ![1, 0, 0] ![1, 256, 256] inb_S4x256x256_S1x256x256_1_0_0))⟩,
   ⟨Rect.unit ![256, 0] ![16, 256] inb_S272x1024_S16x256_256_0,
    k0_pay18 (k0_pay17 (BitVec.ofNat 32 ↑(i 0)) (k0_pay8 (BitVec.ofNat 32 ↑(i 0)))
        (View.ld x1 (Rect.unit ![0, 0] ![16, 256] inb_S16x1024_S16x256_0_0))
        (View.ld x2 (Rect.unit ![0, 0, 0] ![1, 256, 256] inb_S4x256x256_S1x256x256_0_0_0)))⟩,
   ⟨Rect.unit ![0, 0] ![256, 256] inb_S272x1024_S256x256_0_0,
    k0_pay16 (k0_pay2 i)
      (View.ld x0 (Rect.unit ![0, 0] ![256, 256] inb_S256x1024_S256x256_0_0))
      (View.ld x2 (Rect.unit ![0, 0, 0] ![1, 256, 256] inb_S4x256x256_S1x256x256_0_0_0))⟩]

/-- The stores of one grid point into the buffer of the gradients themselves. -/
def dplL (x0 : Vec Ideal S256x1024 .bf16) (x2 : Vec Ideal S4x256x256 .bf16) :
    List (View.Piece (Elt Ideal) S256x1024 .f32) :=
  [⟨Rect.unit ![0, 768] ![256, 256] inb_S256x1024_S256x256_0_768,
    k0_pay30 (k0_pay28 (View.ld x0 (Rect.unit ![0, 768] ![256, 256] inb_S256x1024_S256x256_0_768))
      (View.ld x2 (Rect.unit ![3, 0, 0] ![1, 256, 256] inb_S4x256x256_S1x256x256_3_0_0)))⟩,
   ⟨Rect.unit ![0, 512] ![256, 256] inb_S256x1024_S256x256_0_512,
    k0_pay25 (View.ld x0 (Rect.unit ![0, 512] ![256, 256] inb_S256x1024_S256x256_0_512))
      (k0_pay23 (View.ld x2 (Rect.unit ![2, 0, 0] ![1, 256, 256] inb_S4x256x256_S1x256x256_2_0_0)))
      (constant S256x256 FTy.f32 0#32)⟩,
   ⟨Rect.unit ![0, 256] ![256, 256] inb_S256x1024_S256x256_0_256,
    k0_pay20 (View.ld x0 (Rect.unit ![0, 256] ![256, 256] inb_S256x1024_S256x256_0_256))
      (View.ld x2 (Rect.unit ![1, 0, 0] ![1, 256, 256] inb_S4x256x256_S1x256x256_1_0_0))⟩,
   ⟨Rect.unit ![0, 0] ![256, 256] inb_S256x1024_S256x256_0_0,
    k0_pay15 (View.ld x0 (Rect.unit ![0, 0] ![256, 256] inb_S256x1024_S256x256_0_0))
      (View.ld x2 (Rect.unit ![0, 0, 0] ![1, 256, 256] inb_S4x256x256_S1x256x256_0_0_0))⟩]

/-- The blocks of one grid point are those of the arrays `d` and `w`: rows `256 i …`, and the 16 rows after them
    except at the last point. -/
structure Blocks (n : ℕ) (d : S4096x1024.Idx → EReal) (w : S4x256x256.Idx → EReal) (x0 : Vec Ideal S256x1024 .bf16)
    (x1 : Vec Ideal S16x1024 .bf16) (x2 : Vec Ideal S4x256x256 .bf16) : Prop where
  lt : n < 16
  here : ∀ (r : Fin 256) (k : Fin 1024), x0 (ix2 r k) = d (ix2 ⟨n * 256 + r.val, by omega⟩ k)
  next : ∀ (h : n < 15) (r : Fin 16) (k : Fin 1024), x1 (ix2 r k) = d (ix2 ⟨(n + 1) * 256 + r.val, by omega⟩ k)
  weights : x2 = w

section
variable {i : grid0.Coords} {d : S4096x1024.Idx → EReal} {w : S4x256x256.Idx → EReal} {x0 : Vec Ideal S256x1024 .bf16}
  {x1 : Vec Ideal S16x1024 .bf16} {x2 : Vec Ideal S4x256x256 .bf16}

theorem grad_here (B : Blocks (i 0).val d w x0 x1 x2) (r : Fin 256) (g : Fin 4) (c : Fin 256) :
    ∑ k : Fin 256, x0 (ix2 r (col g k)) * x2 (ix3 g c k) = grad d w ((i 0).val * 256 + r.val) g c := by
  have := B.lt
  unfold grad
  rw [dif_pos (by omega)]
  refine Finset.sum_congr rfl fun k _ => ?_
  rw [B.here]; simp only [B.weights]

theorem grad_next (B : Blocks (i 0).val d w x0 x1 x2) (r : Fin 16) (g : Fin 4) (c : Fin 256) (h : (i 0).val < 15) :
    ∑ k : Fin 256, x1 (ix2 r (col g k)) * x2 (ix3 g c k) = grad d w (((i 0).val + 1) * 256 + r.val) g c := by
  unfold grad
  rw [dif_pos (by omega)]
  refine Finset.sum_congr rfl fun k _ => ?_
  rw [B.next h]; simp only [B.weights]

theorem const0 : Ideal.ofBits FTy.f32 1056964608#32 = ((1 / ((2 : ℕ) : ℝ) : ℝ) : EReal) := by
  simp [Ideal.ofBits, Ideal.ieee]; norm_num; rw [← EReal.coe_mul]; norm_num

theorem const1 : Ideal.ofBits FTy.f32 1048576000#32 = ((1 / ((4 : ℕ) : ℝ) : ℝ) : EReal) := by
  simp [Ideal.ofBits, Ideal.ieee]; norm_num; rw [← EReal.coe_mul]; norm_num

theorem const2 : Ideal.ofBits FTy.f32 1040187392#32 = ((1 / ((8 : ℕ) : ℝ) : ℝ) : EReal) := by
  simp [Ideal.ofBits, Ideal.ieee]; norm_num; rw [← EReal.coe_mul]; norm_num

theorem const3 : Ideal.ofBits FTy.f32 1031798784#32 = ((1 / ((16 : ℕ) : ℝ) : ℝ) : EReal) := by
  simp [Ideal.ofBits, Ideal.ieee]; norm_num; rw [← EReal.coe_mul]; norm_num

theorem inv0 (r k : Fin 256) (hi : (i 0).val < 16) : ((k0_pay2 i) : FVec Ideal S256x256 .f32) (ix2 r k) = ((1 / (count ((i 0).val * 256 + r.val) 0 : ℝ) : ℝ) : EReal) := by
  unfold k0_pay2 k0_pay1
  pointwise
  rw [word_row, inv_count _ 2 _ (by omega) (by omega) (by omega) const0]
  rfl

theorem invh0 (r : Fin 16) (k : Fin 256) (hi : (i 0).val < 16) :
    ((k0_pay8 (BitVec.ofNat 32 ↑(i 0))) : FVec Ideal S16x256 .f32) (ix2 r k) = ((1 / (count (((i 0).val + 1) * 256 + r.val) 0 : ℝ) : ℝ) : EReal) := by
  unfold k0_pay8 k0_pay7
  pointwise
  rw [word_row_next, inv_count _ 2 _ (by omega) (by omega) (by omega) const0]
  rfl

theorem inv1 (r k : Fin 256) (hi : (i 0).val < 16) : ((k0_pay3 i) : FVec Ideal S256x256 .f32) (ix2 r k) = ((1 / (count ((i 0).val * 256 + r.val) 1 : ℝ) : ℝ) : EReal) := by
  unfold k0_pay3 k0_pay1
  pointwise
  rw [word_row, inv_count _ 4 _ (by omega) (by omega) (by omega) const1]
  rfl

theorem invh1 (r : Fin 16) (k : Fin 256) (hi : (i 0).val < 16) :
    ((k0_pay9 (BitVec.ofNat 32 ↑(i 0))) : FVec Ideal S16x256 .f32) (ix2 r k) = ((1 / (count (((i 0).val + 1) * 256 + r.val) 1 : ℝ) : ℝ) : EReal) := by
  unfold k0_pay9 k0_pay7
  pointwise
  rw [word_row_next, inv_count _ 4 _ (by omega) (by omega) (by omega) const1]
  rfl

theorem inv2 (r k : Fin 256) (hi : (i 0).val < 16) : ((k0_pay4 i) : FVec Ideal S256x256 .f32) (ix2 r k) = ((1 / (count ((i 0).val * 256 + r.val) 2 : ℝ) : ℝ) : EReal) := by
  unfold k0_pay4 k0_pay1
  pointwise
  rw [word_row, inv_count _ 8 _ (by omega) (by omega) (by omega) const2]
  rfl

theorem invh2 (r : Fin 16) (k : Fin 256) (hi : (i 0).val < 16) :
    ((k0_pay12 (k0_pay10 (BitVec.ofNat 32 ↑(i 0))) (k0_pay11 (BitVec.ofNat 32 ↑(i 0))) (FloatOps.ofBits FTy.f32 1065353216#32)) : FVec Ideal S16x256 .f32) (ix2 r k) = ((1 / (count (((i 0).val + 1) * 256 + r.val) 2 : ℝ) : ℝ) : EReal) := by
  unfold k0_pay12 k0_pay11 k0_pay10 k0_pay7
  pointwise
  rw [word_row_next, inv_count _ 8 _ (by omega) (by omega) (by omega) const2]
  rfl

theorem inv3 (r k : Fin 256) (hi : (i 0).val < 16) : ((k0_pay6 (k0_pay1 i) (k0_pay5 i)) : FVec Ideal S256x256 .f32) (ix2 r k) = ((1 / (count ((i 0).val * 256 + r.val) 3 : ℝ) : ℝ) : EReal) := by
  unfold k0_pay6 k0_pay5 k0_pay1
  pointwise
  rw [word_row, inv_count _ 16 _ (by omega) (by omega) (by omega) const3]
  rfl

theorem invh3 (r : Fin 16) (k : Fin 256) (hi : (i 0).val < 16) :
    ((k0_pay13 (k0_pay7 (BitVec.ofNat 32 ↑(i 0)))) : FVec Ideal S16x256 .f32) (ix2 r k) = ((1 / (count (((i 0).val + 1) * 256 + r.val) 3 : ℝ) : ℝ) : EReal) := by
  unfold k0_pay13 k0_pay7
  pointwise
  rw [word_row_next, inv_count _ 16 _ (by omega) (by omega) (by omega) const3]
  rfl

/-- What the buffer of the weighted gradients holds: row `y 0` of the buffer is row `256 i + y 0` of the array. -/
def ext (n : ℕ) (d : S4096x1024.Idx → EReal) (w : S4x256x256.Idx → EReal) : S272x1024.Idx → EReal := fun y =>
  quot d w (n * 256 + (y 0).val) (grp (y 1)) (off (y 1))

/-- What the buffer of the gradients holds. -/
def dpl (n : ℕ) (d : S4096x1024.Idx → EReal) (w : S4x256x256.Idx → EReal) : S256x1024.Idx → EReal := fun y =>
  grad d w (n * 256 + (y 0).val) (grp (y 1)) (off (y 1))

/-- The 256 rows and columns of the buffer from `o` on. -/
abbrev cut (d : S4096x1024.Idx → EReal) (w : S4x256x256.Idx → EReal) (n : ℕ) (o : Fin 2 → ℕ) (h : ∀ a, o a + (![256, 256] : Fin 2 → ℕ) a ≤ S272x1024.size a) : Vec Ideal S256x256 .f32 :=
  fun j => ext n d w ((Rect.unit (s := S272x1024) o ![256, 256] h).idx j)

theorem ext_at (n : ℕ) (r : Fin 272) (g : Fin 4) (c : Fin 256) (k : Fin 1024) (hk : k.val = g.val * 256 + c.val) :
    ext n d w (ix2 r k) = quot d w (n * 256 + r.val) g c := by
  obtain rfl : k = col g c := Fin.ext hk
  show quot d w _ (grp (col g c)) (off (col g c)) = _
  rw [grp_col, off_col]; rfl

theorem dpl_at (n : ℕ) (r : Fin 256) (g : Fin 4) (c : Fin 256) (k : Fin 1024) (hk : k.val = g.val * 256 + c.val) :
    dpl n d w (ix2 r k) = grad d w (n * 256 + r.val) g c := by
  obtain rfl : k = col g c := Fin.ext hk
  show grad d w _ (grp (col g c)) (off (col g c)) = _
  rw [grp_col, off_col]; rfl

/-- A matrix index is its two coordinates. -/
theorem exists_ix2 {R C : ℕ} (x : (⟨2, ![R, C]⟩ : Shape).Idx) : ∃ (r : Fin R) (k : Fin C), x = ix2 r k := ⟨x 0, x 1, eq_ix2 x⟩

/-- The place of a block's element in the array. -/
theorem emb_unit2 {R C h w a b : ℕ} (inb : ∀ x, (![a, b] : Fin 2 → ℕ) x + (![h, w] : Fin 2 → ℕ) x ≤ (⟨2, ![R, C]⟩ : Shape).size x)
    (r : Fin h) (k : Fin w) :
    (Rect.unit (s := ⟨2, ![R, C]⟩) ![a, b] ![h, w] inb).emb (ix2 r k)
      = ix2 ⟨a + r.val, by have := inb 0; change a + h ≤ R at this; omega⟩ ⟨b + k.val, by have := inb 1; change b + w ≤ C at this; omega⟩ := by
  funext x
  match x with
  | ⟨0, _⟩ => exact Fin.ext (by show a + 1 * r.val = a + r.val; omega)
  | ⟨1, _⟩ => exact Fin.ext (by show b + 1 * k.val = b + k.val; omega)

theorem here_eq (B : Blocks (i 0).val d w x0 x1 x2) (r : Fin 256) (g : Fin 4) (c : Fin 256) {a v : EReal} {n : ℕ} (hn : n = (i 0).val * 256 + r.val)
    (ha : a = ∑ k : Fin 256, x0 (ix2 r (col g k)) * x2 (ix3 g c k)) (hv : v = ((1 / (count ((i 0).val * 256 + r.val) g : ℝ) : ℝ) : EReal)) :
    a * v = quot d w n g c := by
  subst hn; rw [ha, hv, grad_here B]; rfl

/-- The kernel's comparison of the grid point with the last one, for a value that is zero there. -/
theorem head_eq (B : Blocks (i 0).val d w x0 x1 x2) (r : Fin 16) (g : Fin 4) (c : Fin 256) {a v : EReal} {n : ℕ}
    (hn : n = (i 0).val * 256 + (256 + r.val)) (ha : a = ∑ k : Fin 256, x1 (ix2 r (col g k)) * x2 (ix3 g c k))
    (hv : v = ((1 / (count (((i 0).val + 1) * 256 + r.val) g : ℝ) : ℝ) : EReal)) :
    Scalar.select (Scalar.cmpi CmpIPredicate.slt (BitVec.ofNat 32 (i 0).val) 15#32) (a * v) 0 = quot d w n g c := by
  have hi := B.lt
  obtain rfl : n = ((i 0).val + 1) * 256 + r.val := by omega
  have hc : Scalar.cmpi CmpIPredicate.slt (BitVec.ofNat 32 (i 0).val) 15#32 = if (i 0).val < 15 then 1#1 else 0#1 := by
    have : ∀ n : Fin 16, Scalar.cmpi CmpIPredicate.slt (BitVec.ofNat 32 n.val) 15#32 = if n.val < 15 then 1#1 else 0#1 := by
      decide
    exact this ⟨_, hi⟩
  rw [hc]
  by_cases h : (i 0).val < 15
  · rw [if_pos h, ha, hv, grad_next B _ _ _ h]; rfl
  · rw [if_neg h, quot, grad, dif_neg (by omega), zero_mul]; rfl

theorem invh2' (r : Fin 16) (k : Fin 256) (hi : (i 0).val < 16) :
    ((k0_pay12 (k0_pay10 (BitVec.ofNat 32 ↑(i 0))) (k0_pay11 (BitVec.ofNat 32 ↑(i 0))) (1 : EReal)) : FVec Ideal S16x256 .f32) (ix2 r k) = ((1 / (count (((i 0).val + 1) * 256 + r.val) 2 : ℝ) : ℝ) : EReal) := by
  unfold k0_pay12 k0_pay11 k0_pay10 k0_pay7
  pointwise
  rw [word_row_next, inv_count _ 8 _ (by omega) (by omega) (by omega) const2]
  rfl

theorem ext_pieces (B : Blocks (i 0).val d w x0 x1 x2) :
    ∀ p ∈ extL i x0 x1 x2, ∀ x : p.1.shape.Idx, p.2 x = ext (i 0).val d w (p.1.emb x) := by
  have hi := B.lt
  unfold extL
  simp only [List.forall_mem_cons]
  refine ⟨?_, ?_, ?_, ?_, ?_, ?_, ?_, ?_, fun p hp => absurd hp List.not_mem_nil⟩
  · intro x; change Shape.Idx ⟨2, ![16, 256]⟩ at x; obtain ⟨r, k, rfl⟩ := exists_ix2 x
    rw [emb_unit2, ext_at _ _ 3 k _ (by show 768 + k.val = 3 * 256 + k.val; omega)]
    unfold k0_pay32 k0_pay29
    pointwise
    exact head_eq B r 3 k rfl (by rfl) (invh3 r k hi)
  · intro x; change Shape.Idx ⟨2, ![256, 256]⟩ at x; obtain ⟨r, k, rfl⟩ := exists_ix2 x
    rw [emb_unit2, ext_at _ _ 3 k _ (by show 768 + k.val = 3 * 256 + k.val; omega)]
    unfold k0_pay31 k0_pay28
    pointwise
    exact here_eq B r 3 k rfl (by rfl) (inv3 r k hi)
  · intro x; change Shape.Idx ⟨2, ![16, 256]⟩ at x; obtain ⟨r, k, rfl⟩ := exists_ix2 x
    rw [emb_unit2, ext_at _ _ 2 k _ (by show 512 + k.val = 2 * 256 + k.val; omega)]
    unfold k0_pay27
    pointwise
    exact head_eq B r 2 k rfl (by rfl) (invh2' r k hi)
  · intro x; change Shape.Idx ⟨2, ![256, 256]⟩ at x; obtain ⟨r, k, rfl⟩ := exists_ix2 x
    rw [emb_unit2, ext_at _ _ 2 k _ (by show 512 + k.val = 2 * 256 + k.val; omega)]
    unfold k0_pay26 k0_pay24 k0_pay23
    pointwise
    exact here_eq B r 2 k rfl (by rfl) (inv2 r k hi)
  · intro x; change Shape.Idx ⟨2, ![16, 256]⟩ at x; obtain ⟨r, k, rfl⟩ := exists_ix2 x
    rw [emb_unit2, ext_at _ _ 1 k _ (by show 256 + k.val = 1 * 256 + k.val; omega)]
    unfold k0_pay22
    pointwise
    exact head_eq B r 1 k rfl (by rfl) (invh1 r k hi)
  · intro x; change Shape.Idx ⟨2, ![256, 256]⟩ at x; obtain ⟨r, k, rfl⟩ := exists_ix2 x
    rw [emb_unit2, ext_at _ _ 1 k _ (by show 256 + k.val = 1 * 256 + k.val; omega)]
    unfold k0_pay21 k0_pay19
    pointwise
    exact here_eq B r 1 k rfl (by rfl) (inv1 r k hi)
  · intro x; change Shape.Idx ⟨2, ![16, 256]⟩ at x; obtain ⟨r, k, rfl⟩ := exists_ix2 x
    rw [emb_unit2, ext_at _ _ 0 k _ (by show 0 + k.val = 0 * 256 + k.val; omega)]
    unfold k0_pay18 k0_pay17
    pointwise
    exact head_eq B r 0 k rfl (by rfl) (invh0 r k hi)
  · intro x; change Shape.Idx ⟨2, ![256, 256]⟩ at x; obtain ⟨r, k, rfl⟩ := exists_ix2 x
    rw [emb_unit2, ext_at _ _ 0 k _ (by show 0 + k.val = 0 * 256 + k.val; omega)]
    unfold k0_pay16 k0_pay14
    pointwise
    exact here_eq B r 0 k rfl (by rfl) (inv0 r k hi)

theorem dpl_pieces (B : Blocks (i 0).val d w x0 x1 x2) :
    ∀ p ∈ dplL x0 x2, ∀ x : p.1.shape.Idx, p.2 x = dpl (i 0).val d w (p.1.emb x) := by
  unfold dplL
  simp only [List.forall_mem_cons]
  refine ⟨?_, ?_, ?_, ?_, fun p hp => absurd hp List.not_mem_nil⟩
  · intro x; change Shape.Idx ⟨2, ![256, 256]⟩ at x; obtain ⟨r, k, rfl⟩ := exists_ix2 x
    rw [emb_unit2, dpl_at _ _ 3 k _ (by show 768 + k.val = 3 * 256 + k.val; omega)]
    unfold k0_pay30 k0_pay28
    pointwise
    exact (grad_here B r 3 k).trans (by simp)
  · intro x; change Shape.Idx ⟨2, ![256, 256]⟩ at x; obtain ⟨r, k, rfl⟩ := exists_ix2 x
    rw [emb_unit2, dpl_at _ _ 2 k _ (by show 512 + k.val = 2 * 256 + k.val; omega)]
    unfold k0_pay25 k0_pay24 k0_pay23
    pointwise
    exact (grad_here B r 2 k).trans (by simp)
  · intro x; change Shape.Idx ⟨2, ![256, 256]⟩ at x; obtain ⟨r, k, rfl⟩ := exists_ix2 x
    rw [emb_unit2, dpl_at _ _ 1 k _ (by show 256 + k.val = 1 * 256 + k.val; omega)]
    unfold k0_pay20 k0_pay19
    pointwise
    exact (grad_here B r 1 k).trans (by simp)
  · intro x; change Shape.Idx ⟨2, ![256, 256]⟩ at x; obtain ⟨r, k, rfl⟩ := exists_ix2 x
    rw [emb_unit2, dpl_at _ _ 0 k _ (by show 0 + k.val = 0 * 256 + k.val; omega)]
    unfold k0_pay15 k0_pay14
    pointwise
    exact (grad_here B r 0 k).trans (by simp)

end

/-- Membership of a matrix index in a block of rows and columns. -/
theorem mem_unit {R C : ℕ} {r : Fin R} {k : Fin C} (a b h w : ℕ) (inb : ∀ x, (![a, b] : Fin 2 → ℕ) x + (![h, w] : Fin 2 → ℕ) x ≤ (⟨2, ![R, C]⟩ : Shape).size x)
    (h1 : a ≤ r.val) (h2 : r.val < a + h) (h3 : b ≤ k.val) (h4 : k.val < b + w) :
    (ix2 r k : (⟨2, ![R, C]⟩ : Shape).Idx) ∈ (Rect.unit (s := ⟨2, ![R, C]⟩) ![a, b] ![h, w] inb).set := by
  refine Rect.mem_set_unit.mpr fun x => ?_
  match x with
  | ⟨0, _⟩ => exact ⟨h1, h2⟩
  | ⟨1, _⟩ => exact ⟨h3, h4⟩

theorem ext_cover (i : grid0.Coords) (x0 : Vec Ideal S256x1024 .bf16) (x1 : Vec Ideal S16x1024 .bf16) (x2 : Vec Ideal S4x256x256 .bf16)
    (y : S272x1024.Idx) : ∃ p ∈ extL i x0 x1 x2, y ∈ p.1.set := by
  obtain ⟨r, k, rfl⟩ : ∃ (r : Fin 272) (k : Fin 1024), y = ix2 r k := exists_ix2 y
  have hg : k.val / 256 < 4 := by omega
  unfold extL
  rcases Nat.lt_or_ge r.val 256 with hr | hr
  · rcases (by omega : k.val / 256 = 0 ∨ k.val / 256 = 1 ∨ k.val / 256 = 2 ∨ k.val / 256 = 3) with h | h | h | h
    · exact ⟨_, List.mem_of_getElem? (i := 7) rfl, mem_unit 0 0 256 256 inb_S272x1024_S256x256_0_0 (by omega) (by omega) (by omega) (by omega)⟩
    · exact ⟨_, List.mem_of_getElem? (i := 5) rfl, mem_unit 0 256 256 256 inb_S272x1024_S256x256_0_256 (by omega) (by omega) (by omega) (by omega)⟩
    · exact ⟨_, List.mem_of_getElem? (i := 3) rfl, mem_unit 0 512 256 256 inb_S272x1024_S256x256_0_512 (by omega) (by omega) (by omega) (by omega)⟩
    · exact ⟨_, List.mem_of_getElem? (i := 1) rfl, mem_unit 0 768 256 256 inb_S272x1024_S256x256_0_768 (by omega) (by omega) (by omega) (by omega)⟩
  · rcases (by omega : k.val / 256 = 0 ∨ k.val / 256 = 1 ∨ k.val / 256 = 2 ∨ k.val / 256 = 3) with h | h | h | h
    · exact ⟨_, List.mem_of_getElem? (i := 6) rfl, mem_unit 256 0 16 256 inb_S272x1024_S16x256_256_0 (by omega) (by omega) (by omega) (by omega)⟩
    · exact ⟨_, List.mem_of_getElem? (i := 4) rfl, mem_unit 256 256 16 256 inb_S272x1024_S16x256_256_256 (by omega) (by omega) (by omega) (by omega)⟩
    · exact ⟨_, List.mem_of_getElem? (i := 2) rfl, mem_unit 256 512 16 256 inb_S272x1024_S16x256_256_512 (by omega) (by omega) (by omega) (by omega)⟩
    · exact ⟨_, List.mem_of_getElem? (i := 0) rfl, mem_unit 256 768 16 256 inb_S272x1024_S16x256_256_768 (by omega) (by omega) (by omega) (by omega)⟩

theorem ext_read {i : grid0.Coords} {d : S4096x1024.Idx → EReal} {w : S4x256x256.Idx → EReal} {x0 : Vec Ideal S256x1024 .bf16}
    {x1 : Vec Ideal S16x1024 .bf16} {x2 : Vec Ideal S4x256x256 .bf16} (B : Blocks (i 0).val d w x0 x1 x2) (L : LoadRect S272x1024) :
    (View.whole cc0_scratch0).readCov (extL i x0 x1 x2) L = fun j => ext (i 0).val d w (L.idx j) := by
  rw [View.readCov_eq_canon']
  funext j
  exact View.canon_apply_of_pieces _ _ (ext_pieces B) _ (ext_cover i x0 x1 x2 _)

theorem dpl_read {i : grid0.Coords} {d : S4096x1024.Idx → EReal} {w : S4x256x256.Idx → EReal} {x0 : Vec Ideal S256x1024 .bf16}
    {x1 : Vec Ideal S16x1024 .bf16} {x2 : Vec Ideal S4x256x256 .bf16} (B : Blocks (i 0).val d w x0 x1 x2) (L : LoadRect S256x1024) :
    (View.whole cc0_scratch1).readCov (dplL x0 x2) L = fun j => dpl (i 0).val d w (L.idx j) := by
  rw [View.readCov_eq_canon']
  funext j
  exact View.canon_apply_of_pieces _ _ (dpl_pieces B) _ (View.cover_of_tiledL (dplL x0 x2) S256x256.size (by sl_kernel_rfl) _)

/-- The grid point's number and the places of its blocks. -/
theorem idx_tc : ∀ t : Fin grid0.N, (grid0.coords t 0).val = t.val := by decide +kernel
theorem idx0 : ∀ t : Fin grid0.N, win0_0.index t = ![t.val, 0] := by decide +kernel
theorem idx1 : ∀ t : Fin grid0.N, win0_1.index t = ![min ((t.val + 1) * 16) 255, 0] := by decide +kernel
theorem idx2 : ∀ t : Fin grid0.N, win0_2.index t = ![0, 0, 0] := by decide +kernel
theorem idx3 : ∀ t : Fin grid0.N, win0_3.index t = ![t.val, 0] := by decide +kernel

theorem blocks (m : (ℓ : Loc nD τ sig) → Buf (Elt Ideal) ℓ) (c : Dev nD) (t : Fin cfg0.N) :
    Blocks (grid0.coords t 0).val (m ((c : Thread nD τ).loc main_arg0)) (m ((c : Thread nD τ).loc main_arg1))
      (iblk m c 0 t) (iblk m c 1 t) (iblk m c 2 t) where
  lt := (grid0.coords t 0).isLt
  here := by
    intro r k
    have := idx_tc t
    simp only [this]
    blk_point [iblk, V, idx0 t]
  next := by
    intro h r k
    have := idx_tc t
    have h' := h
    rw [this] at h'
    simp only [this]
    blk_point [iblk, V, idx1 t, min_eq_left (show (t.val + 1) * 16 ≤ 255 by omega)]
  weights := by
    funext j
    obtain ⟨a, b, k, rfl⟩ : ∃ (a : Fin 4) (b k : Fin 256), j = ix3 a b k := ⟨j 0, j 1, j 2, eq_ix3 j⟩
    blk_point [iblk, V, idx2 t]

theorem G_at (n W : ℕ) (hn : n < 16) (d : S4096x1024.Idx → EReal) (w : S4x256x256.Idx → EReal) (r : Fin 256) (g : Fin 4) (c : Fin 256) (k : Fin 1024)
    (hk : k.val = g.val * 256 + c.val) (hW : win g = W) :
    G d w (ix2 ⟨n * 256 + r.val, by omega⟩ k)
      = (∑ j ∈ Finset.range W, quot d w (n * 256 + (j + r.val)) g c) - grad d w (n * 256 + r.val) g c := by
  subst hW
  obtain rfl : k = col g c := Fin.ext hk
  show (∑ j ∈ Finset.range (win (grp (col g c))), quot d w (n * 256 + r.val + j) (grp (col g c)) (off (col g c)))
    - grad d w (n * 256 + r.val) (grp (col g c)) (off (col g c)) = _
  rw [grp_col, off_col]
  refine congrArg (· - _) (Finset.sum_congr rfl fun j _ => ?_)
  rw [show n * 256 + r.val + j = n * 256 + (j + r.val) by omega]

/-- The sums that the columns of group 0 are given. -/
theorem out0 (n : ℕ) (hi : n < 16) (d : S4096x1024.Idx → EReal) (w : S4x256x256.Idx → EReal) (r k : Fin 256) :
    (k0_pay33 (cut d w n ![0, 0] inb_S272x1024_S256x256_0_0)
      (cut d w n ![1, 0] inb_S272x1024_S256x256_1_0)
      (fun j => dpl n d w ((Rect.unit (s := S256x1024) ![0, 0] ![256, 256] inb_S256x1024_S256x256_0_0).idx j))
      : FVec Ideal S256x256 .bf16) (ix2 r k)
      = G d w (ix2 ⟨n * 256 + r.val, by omega⟩ ⟨0 + k.val, by omega⟩) := by
  unfold k0_pay33 cut
  pointwise
  have hk : 0 + k.val = (0 : Fin 4).val * 256 + k.val := by show _ = 0 * 256 + k.val; omega
  have hk0 : k.val = (0 : Fin 4).val * 256 + k.val := by show _ = 0 * 256 + k.val; omega
  rw [ext_at _ _ 0 k _ hk0, ext_at _ _ 0 k _ hk0, dpl_at _ _ 0 k _ hk0]
  refine Eq.trans ?_ (G_at n 2 hi d w r 0 k ⟨k.val, by omega⟩ hk0 rfl).symm
  simp only [Finset.sum_range_succ, Finset.sum_range_zero, zero_add]

/-- The sums that the columns of group 1 are given. -/
theorem out1 (n : ℕ) (hi : n < 16) (d : S4096x1024.Idx → EReal) (w : S4x256x256.Idx → EReal) (r k : Fin 256) :
    (k0_pay34 (cut d w n ![0, 256] inb_S272x1024_S256x256_0_256)
      (cut d w n ![1, 256] inb_S272x1024_S256x256_1_256)
      (cut d w n ![2, 256] inb_S272x1024_S256x256_2_256)
      (cut d w n ![3, 256] inb_S272x1024_S256x256_3_256)
      (fun j => dpl n d w ((Rect.unit (s := S256x1024) ![0, 256] ![256, 256] inb_S256x1024_S256x256_0_256).idx j))
      : FVec Ideal S256x256 .bf16) (ix2 r k)
      = G d w (ix2 ⟨n * 256 + r.val, by omega⟩ ⟨256 + k.val, by omega⟩) := by
  unfold k0_pay34 cut
  pointwise
  have hk : 256 + k.val = (1 : Fin 4).val * 256 + k.val := by show _ = 1 * 256 + k.val; omega
  rw [ext_at _ _ 1 k _ hk, ext_at _ _ 1 k _ hk, ext_at _ _ 1 k _ hk, ext_at _ _ 1 k _ hk, dpl_at _ _ 1 k _ hk]
  refine Eq.trans ?_ (G_at n 4 hi d w r 1 k ⟨256 + k.val, by omega⟩ hk rfl).symm
  simp only [Finset.sum_range_succ, Finset.sum_range_zero, zero_add]

/-- The sums that the columns of group 2 are given. -/
theorem out2 (n : ℕ) (hi : n < 16) (d : S4096x1024.Idx → EReal) (w : S4x256x256.Idx → EReal) (r k : Fin 256) :
    (k0_pay35 (cut d w n ![0, 512] inb_S272x1024_S256x256_0_512)
      (cut d w n ![1, 512] inb_S272x1024_S256x256_1_512)
      (cut d w n ![2, 512] inb_S272x1024_S256x256_2_512)
      (cut d w n ![3, 512] inb_S272x1024_S256x256_3_512)
      (cut d w n ![4, 512] inb_S272x1024_S256x256_4_512)
      (cut d w n ![5, 512] inb_S272x1024_S256x256_5_512)
      (cut d w n ![6, 512] inb_S272x1024_S256x256_6_512)
      (cut d w n ![7, 512] inb_S272x1024_S256x256_7_512)
      (fun j => dpl n d w ((Rect.unit (s := S256x1024) ![0, 512] ![256, 256] inb_S256x1024_S256x256_0_512).idx j))
      : FVec Ideal S256x256 .bf16) (ix2 r k)
      = G d w (ix2 ⟨n * 256 + r.val, by omega⟩ ⟨512 + k.val, by omega⟩) := by
  unfold k0_pay35 cut
  pointwise
  have hk : 512 + k.val = (2 : Fin 4).val * 256 + k.val := by show _ = 2 * 256 + k.val; omega
  rw [ext_at _ _ 2 k _ hk, ext_at _ _ 2 k _ hk, ext_at _ _ 2 k _ hk, ext_at _ _ 2 k _ hk, ext_at _ _ 2 k _ hk, ext_at _ _ 2 k _ hk, ext_at _ _ 2 k _ hk, ext_at _ _ 2 k _ hk, dpl_at _ _ 2 k _ hk]
  refine Eq.trans ?_ (G_at n 8 hi d w r 2 k ⟨512 + k.val, by omega⟩ hk rfl).symm
  simp only [Finset.sum_range_succ, Finset.sum_range_zero, zero_add]

/-- The sums that the columns of group 3 are given. -/
theorem out3 (n : ℕ) (hi : n < 16) (d : S4096x1024.Idx → EReal) (w : S4x256x256.Idx → EReal) (r k : Fin 256) :
    (k0_pay37 (k0_pay36 (cut d w n ![0, 768] inb_S272x1024_S256x256_0_768)
      (cut d w n ![1, 768] inb_S272x1024_S256x256_1_768)
      (cut d w n ![2, 768] inb_S272x1024_S256x256_2_768)
      (cut d w n ![3, 768] inb_S272x1024_S256x256_3_768)
      (cut d w n ![4, 768] inb_S272x1024_S256x256_4_768))
      (cut d w n ![5, 768] inb_S272x1024_S256x256_5_768)
      (cut d w n ![6, 768] inb_S272x1024_S256x256_6_768)
      (cut d w n ![7, 768] inb_S272x1024_S256x256_7_768)
      (cut d w n ![8, 768] inb_S272x1024_S256x256_8_768)
      (cut d w n ![9, 768] inb_S272x1024_S256x256_9_768)
      (cut d w n ![10, 768] inb_S272x1024_S256x256_10_768)
      (cut d w n ![11, 768] inb_S272x1024_S256x256_11_768)
      (cut d w n ![12, 768] inb_S272x1024_S256x256_12_768)
      (cut d w n ![13, 768] inb_S272x1024_S256x256_13_768)
      (cut d w n ![14, 768] inb_S272x1024_S256x256_14_768)
      (cut d w n ![15, 768] inb_S272x1024_S256x256_15_768)
      (fun j => dpl n d w ((Rect.unit (s := S256x1024) ![0, 768] ![256, 256] inb_S256x1024_S256x256_0_768).idx j))
      : FVec Ideal S256x256 .bf16) (ix2 r k)
      = G d w (ix2 ⟨n * 256 + r.val, by omega⟩ ⟨768 + k.val, by omega⟩) := by
  unfold k0_pay37 k0_pay36 cut
  pointwise
  have hk : 768 + k.val = (3 : Fin 4).val * 256 + k.val := by show _ = 3 * 256 + k.val; omega
  rw [ext_at _ _ 3 k _ hk, ext_at _ _ 3 k _ hk, ext_at _ _ 3 k _ hk, ext_at _ _ 3 k _ hk, ext_at _ _ 3 k _ hk, ext_at _ _ 3 k _ hk, ext_at _ _ 3 k _ hk, ext_at _ _ 3 k _ hk, ext_at _ _ 3 k _ hk, ext_at _ _ 3 k _ hk, ext_at _ _ 3 k _ hk, ext_at _ _ 3 k _ hk, ext_at _ _ 3 k _ hk, ext_at _ _ 3 k _ hk, ext_at _ _ 3 k _ hk, ext_at _ _ 3 k _ hk, dpl_at _ _ 3 k _ hk]
  refine Eq.trans ?_ (G_at n 16 hi d w r 3 k ⟨768 + k.val, by omega⟩ hk rfl).symm
  simp only [Finset.sum_range_succ, Finset.sum_range_zero, zero_add]

/-- What the call leaves in its result. -/
theorem arr (m : (ℓ : Loc nD τ sig) → Buf (Elt Ideal) ℓ) (c : Dev nD) :
    (dats m 0 c).arrAt 3 cfg0.N = G (m ((c : Thread nD τ).loc main_arg0)) (m ((c : Thread nD τ).loc main_arg1)) := by
  refine (dats m 0 c).arrAt_eq_of_covers 3 _ (by decide +kernel) fun t hf y => ?_
  rw [after0_3]
  unfold outsAt0
  frame_open
  frame_out
  have hi : (grid0.coords t 0).val < 16 := (grid0.coords t 0).isLt
  simp only [← extL.eq_1, ← dplL.eq_1, ext_read (blocks m c t), dpl_read (blocks m c t)]
  refine (View.canon_apply_of_pieces (fun y : S256x1024.Idx => G (m ((c : Thread nD τ).loc main_arg0)) (m ((c : Thread nD τ).loc main_arg1))
    (ix2 ⟨(grid0.coords t 0).val * 256 + (y 0).val, by have : (y 0).val < 256 := (y 0).isLt; omega⟩ (y 1))) _ ?_ _ ?_).trans ?_
  · simp only [List.forall_mem_cons]
    refine ⟨?_, ?_, ?_, ?_, fun p hp => absurd hp List.not_mem_nil⟩
    · intro x; change Shape.Idx ⟨2, ![256, 256]⟩ at x; obtain ⟨r, k, rfl⟩ := exists_ix2 x
      rw [emb_unit2]
      refine (out3 _ hi _ _ r k).trans (congrArg (G _ _) (funext fun x => ?_))
      match x with
      | ⟨0, _⟩ => exact Fin.ext (by show (grid0.coords t 0).val * 256 + r.val = (grid0.coords t 0).val * 256 + (0 + r.val); omega)
      | ⟨1, _⟩ => rfl
    · intro x; change Shape.Idx ⟨2, ![256, 256]⟩ at x; obtain ⟨r, k, rfl⟩ := exists_ix2 x
      rw [emb_unit2]
      refine (out2 _ hi _ _ r k).trans (congrArg (G _ _) (funext fun x => ?_))
      match x with
      | ⟨0, _⟩ => exact Fin.ext (by show (grid0.coords t 0).val * 256 + r.val = (grid0.coords t 0).val * 256 + (0 + r.val); omega)
      | ⟨1, _⟩ => rfl
    · intro x; change Shape.Idx ⟨2, ![256, 256]⟩ at x; obtain ⟨r, k, rfl⟩ := exists_ix2 x
      rw [emb_unit2]
      refine (out1 _ hi _ _ r k).trans (congrArg (G _ _) (funext fun x => ?_))
      match x with
      | ⟨0, _⟩ => exact Fin.ext (by show (grid0.coords t 0).val * 256 + r.val = (grid0.coords t 0).val * 256 + (0 + r.val); omega)
      | ⟨1, _⟩ => rfl
    · intro x; change Shape.Idx ⟨2, ![256, 256]⟩ at x; obtain ⟨r, k, rfl⟩ := exists_ix2 x
      rw [emb_unit2]
      refine (out0 _ hi _ _ r k).trans (congrArg (G _ _) (funext fun x => ?_))
      match x with
      | ⟨0, _⟩ => exact Fin.ext (by show (grid0.coords t 0).val * 256 + r.val = (grid0.coords t 0).val * 256 + (0 + r.val); omega)
      | ⟨1, _⟩ => rfl
  · obtain ⟨r, k, e⟩ : ∃ (r : Fin 256) (k : Fin 1024), (win0 3).xinj (grid0.coords t) y = ix2 r k := exists_ix2 (R := 256) (C := 1024) _
    rw [e]
    rcases (by omega : k.val / 256 = 0 ∨ k.val / 256 = 1 ∨ k.val / 256 = 2 ∨ k.val / 256 = 3) with h | h | h | h
    · exact ⟨_, List.mem_of_getElem? (i := 3) rfl, mem_unit 0 0 256 256 inb_S256x1024_S256x256_0_0 (by omega) (by omega) (by omega) (by omega)⟩
    · exact ⟨_, List.mem_of_getElem? (i := 2) rfl, mem_unit 0 256 256 256 inb_S256x1024_S256x256_0_256 (by omega) (by omega) (by omega) (by omega)⟩
    · exact ⟨_, List.mem_of_getElem? (i := 1) rfl, mem_unit 0 512 256 256 inb_S256x1024_S256x256_0_512 (by omega) (by omega) (by omega) (by omega)⟩
    · exact ⟨_, List.mem_of_getElem? (i := 0) rfl, mem_unit 0 768 256 256 inb_S256x1024_S256x256_0_768 (by omega) (by omega) (by omega) (by omega)⟩
  · refine congrArg (G _ _) (funext fun x => ?_)
    have ht := idx_tc t
    match x with
    | ⟨0, _⟩ =>
      refine Fin.ext ?_
      show (grid0.coords t 0).val * 256 + (y 0).val = (((cfg0.win 3).blk t).view.emb y 0).val
      blk_simp [idx3 t]
      rw [ht]
    | ⟨1, _⟩ =>
      refine Fin.ext ?_
      show (y 1).val = (((cfg0.win 3).blk t).view.emb y 1).val
      blk_simp [idx3 t]

end Cert.Pool
-- ==== Proof.PoolRef.lean ====
module

public import proofs.«01_k».proof.Proof.Gen.ReferenceIdeal.Run
public import proofs.«01_k».proof.Proof.PoolKernel
public import Idealize.ShloMosaic.Lib.Pointwise

/-! The transpose of the pooling mixer, as reverse accumulation writes it, is the windowed sum that the kernel takes
    (`Cert.Pool.G`), on finite inputs. -/

@[expose] public section

set_option maxRecDepth 16384

noncomputable section

namespace Cert.Pool

open Cert.ReferenceIdeal Cert.ReferenceIdeal.Gen Idealize.ShloMosaic Idealize.ShloMosaic.TcCoe Idealize.SL.Sem

/-- The incoming gradient times the transposed weights, with the groups as an axis of their own. -/
def refD (x0 : Vec Ideal S4096x1024 .bf16) (x1 : Vec Ideal S4x256x256 .bf16) : FVec Ideal S4096x4x256 .f32 :=
  transpose S4096x4x256 [1, 0, 2] (Host.dotGeneral dot_S4x256x4096_S4x256x256_S4x4096x256_1_2_2_1_0_0 none (transpose S4x256x4096 [1, 2, 0] (shapeCast _ (extf .f32 x0 bitsLt_bf16_f32) shapeCasts_S4096x1024_S4096x4x256) transposes_S4096x4x256_S4x256x4096_1_2_0) (extf .f32 x1 bitsLt_bf16_f32)) transposes_S4x4096x256_S4096x4x256_1_0_2

/-- The gradients of group 0 over the number of terms of each row's mean. -/
def refQ0 (D : FVec Ideal S4096x4x256 .f32) : FVec Ideal S4096x256 .f32 :=
  Host.divf (shapeCast _ (extractStridedSlice S4096x1x256 ![0, 0, 0] D slices_S4096x4x256_S4096x1x256_0_0_0) shapeCasts_S4096x1x256_S4096x256) (broadcastInDim S4096x256 ![0, 1] bcast_S4096x1_S4096x256_0_1 (broadcastInDim S4096x1 ![0] bcast_S4096_S4096x1_0 (sitofp .f32 (minsi (addi (iotaInDim S4096 32 0) (broadcastInDim S4096 ![] bcast_S_S4096 (constantI S_ 32 1#32))) (broadcastInDim S4096 ![] bcast_S_S4096 (constantI S_ 32 2#32))))))
/-- The two terms that each row of the running sum adds. -/
def refT0 (Q : FVec Ideal S4096x256 .f32) : FVec Ideal S4096x256 .f32 :=
  addf Q (pad S4096x256 ![0, 0] ![2, 0] ![0, 0] (extractStridedSlice S4094x256 ![2, 0] (Host.negf Q) slices_S4096x256_S4094x256_2_0) (constant S_ .f32 0x00000000#32) pads_S4094x256_S4096x256_020_000 h_S_)
/-- The result's group 0. -/
def refG0 (D : FVec Ideal S4096x4x256 .f32) : FVec Ideal S4096x256 .f32 :=
  addf (Host.negf (shapeCast _ (extractStridedSlice S4096x1x256 ![0, 0, 0] D slices_S4096x4x256_S4096x1x256_0_0_0) shapeCasts_S4096x1x256_S4096x256)) (Host.reduceWindowAdd ![4096, 1] ![1, 1] ![0, 0] ![4095, 0] (refT0 (refQ0 D)) (broadcastInDim S_ ![] bcast_S_S_ (constant S_ .f32 0x00000000#32)) reduceWindows_S4096x256_S4096x256_w4096s1p0_4095_w1s1p0_0 h_S_)

/-- The gradients of group 1 over the number of terms of each row's mean. -/
def refQ1 (D : FVec Ideal S4096x4x256 .f32) : FVec Ideal S4096x256 .f32 :=
  Host.divf (shapeCast _ (extractStridedSlice S4096x1x256 ![0, 1, 0] D slices_S4096x4x256_S4096x1x256_0_1_0) shapeCasts_S4096x1x256_S4096x256) (broadcastInDim S4096x256 ![0, 1] bcast_S4096x1_S4096x256_0_1 (broadcastInDim S4096x1 ![0] bcast_S4096_S4096x1_0 (sitofp .f32 (minsi (addi (iotaInDim S4096 32 0) (broadcastInDim S4096 ![] bcast_S_S4096 (constantI S_ 32 1#32))) (broadcastInDim S4096 ![] bcast_S_S4096 (constantI S_ 32 4#32))))))
/-- The two terms that each row of the running sum adds. -/
def refT1 (Q : FVec Ideal S4096x256 .f32) : FVec Ideal S4096x256 .f32 :=
  addf Q (pad S4096x256 ![0, 0] ![4, 0] ![0, 0] (extractStridedSlice S4092x256 ![4, 0] (Host.negf Q) slices_S4096x256_S4092x256_4_0) (constant S_ .f32 0x00000000#32) pads_S4092x256_S4096x256_040_000 h_S_)
/-- The result's group 1. -/
def refG1 (D : FVec Ideal S4096x4x256 .f32) : FVec Ideal S4096x256 .f32 :=
  addf (Host.negf (shapeCast _ (extractStridedSlice S4096x1x256 ![0, 1, 0] D slices_S4096x4x256_S4096x1x256_0_1_0) shapeCasts_S4096x1x256_S4096x256)) (Host.reduceWindowAdd ![4096, 1] ![1, 1] ![0, 0] ![4095, 0] (refT1 (refQ1 D)) (broadcastInDim S_ ![] bcast_S_S_ (constant S_ .f32 0x00000000#32)) reduceWindows_S4096x256_S4096x256_w4096s1p0_4095_w1s1p0_0 h_S_)

/-- The gradients of group 2 over the number of terms of each row's mean. -/
def refQ2 (D : FVec Ideal S4096x4x256 .f32) : FVec Ideal S4096x256 .f32 :=
  Host.divf (shapeCast _ (extractStridedSlice S4096x1x256 ![0, 2, 0] D slices_S4096x4x256_S4096x1x256_0_2_0) shapeCasts_S4096x1x256_S4096x256) (broadcastInDim S4096x256 ![0, 1] bcast_S4096x1_S4096x256_0_1 (broadcastInDim S4096x1 ![0] bcast_S4096_S4096x1_0 (sitofp .f32 (minsi (addi (iotaInDim S4096 32 0) (broadcastInDim S4096 ![] bcast_S_S4096 (constantI S_ 32 1#32))) (broadcastInDim S4096 ![] bcast_S_S4096 (constantI S_ 32 8#32))))))
/-- The two terms that each row of the running sum adds. -/
def refT2 (Q : FVec Ideal S4096x256 .f32) : FVec Ideal S4096x256 .f32 :=
  addf Q (pad S4096x256 ![0, 0] ![8, 0] ![0, 0] (extractStridedSlice S4088x256 ![8, 0] (Host.negf Q) slices_S4096x256_S4088x256_8_0) (constant S_ .f32 0x00000000#32) pads_S4088x256_S4096x256_080_000 h_S_)
/-- The result's group 2. -/
def refG2 (D : FVec Ideal S4096x4x256 .f32) : FVec Ideal S4096x256 .f32 :=
  addf (Host.negf (shapeCast _ (extractStridedSlice S4096x1x256 ![0, 2, 0] D slices_S4096x4x256_S4096x1x256_0_2_0) shapeCasts_S4096x1x256_S4096x256)) (Host.reduceWindowAdd ![4096, 1] ![1, 1] ![0, 0] ![4095, 0] (refT2 (refQ2 D)) (broadcastInDim S_ ![] bcast_S_S_ (constant S_ .f32 0x00000000#32)) reduceWindows_S4096x256_S4096x256_w4096s1p0_4095_w1s1p0_0 h_S_)

/-- The gradients of group 3 over the number of terms of each row's mean. -/
def refQ3 (D : FVec Ideal S4096x4x256 .f32) : FVec Ideal S4096x256 .f32 :=
  Host.divf (shapeCast _ (extractStridedSlice S4096x1x256 ![0, 3, 0] D slices_S4096x4x256_S4096x1x256_0_3_0) shapeCasts_S4096x1x256_S4096x256) (broadcastInDim S4096x256 ![0, 1] bcast_S4096x1_S4096x256_0_1 (broadcastInDim S4096x1 ![0] bcast_S4096_S4096x1_0 (sitofp .f32 (minsi (addi (iotaInDim S4096 32 0) (broadcastInDim S4096 ![] bcast_S_S4096 (constantI S_ 32 1#32))) (broadcastInDim S4096 ![] bcast_S_S4096 (constantI S_ 32 16#32))))))
/-- The two terms that each row of the running sum adds. -/
def refT3 (Q : FVec Ideal S4096x256 .f32) : FVec Ideal S4096x256 .f32 :=
  addf Q (pad S4096x256 ![0, 0] ![16, 0] ![0, 0] (extractStridedSlice S4080x256 ![16, 0] (Host.negf Q) slices_S4096x256_S4080x256_16_0) (constant S_ .f32 0x00000000#32) pads_S4080x256_S4096x256_0160_000 h_S_)
/-- The result's group 3. -/
def refG3 (D : FVec Ideal S4096x4x256 .f32) : FVec Ideal S4096x256 .f32 :=
  addf (Host.negf (shapeCast _ (extractStridedSlice S4096x1x256 ![0, 3, 0] D slices_S4096x4x256_S4096x1x256_0_3_0) shapeCasts_S4096x1x256_S4096x256)) (Host.reduceWindowAdd ![4096, 1] ![1, 1] ![0, 0] ![4095, 0] (refT3 (refQ3 D)) (broadcastInDim S_ ![] bcast_S_S_ (constant S_ .f32 0x00000000#32)) reduceWindows_S4096x256_S4096x256_w4096s1p0_4095_w1s1p0_0 h_S_)

/-- The four groups side by side. -/
def refAll (D : FVec Ideal S4096x4x256 .f32) : FVec Ideal S4096x1024 .bf16 :=
  truncf .bf16 (shapeCast _ (addf (addf (addf (pad S4096x4x256 ![0, 3, 0] ![0, 0, 0] ![0, 0, 0] (broadcastInDim S4096x1x256 ![0, 2] bcast_S4096x256_S4096x1x256_0_2 (refG3 D)) (constant S_ .f32 0x00000000#32) pads_S4096x1x256_S4096x4x256_000_300_000 h_S_) (pad S4096x4x256 ![0, 2, 0] ![0, 1, 0] ![0, 0, 0] (broadcastInDim S4096x1x256 ![0, 2] bcast_S4096x256_S4096x1x256_0_2 (refG2 D)) (constant S_ .f32 0x00000000#32) pads_S4096x1x256_S4096x4x256_000_210_000 h_S_)) (pad S4096x4x256 ![0, 1, 0] ![0, 2, 0] ![0, 0, 0] (broadcastInDim S4096x1x256 ![0, 2] bcast_S4096x256_S4096x1x256_0_2 (refG1 D)) (constant S_ .f32 0x00000000#32) pads_S4096x1x256_S4096x4x256_000_120_000 h_S_)) (pad S4096x4x256 ![0, 0, 0] ![0, 3, 0] ![0, 0, 0] (broadcastInDim S4096x1x256 ![0, 2] bcast_S4096x256_S4096x1x256_0_2 (refG0 D)) (constant S_ .f32 0x00000000#32) pads_S4096x1x256_S4096x4x256_000_030_000 h_S_)) shapeCasts_S4096x4x256_S4096x1024) bitsLt_bf16_f32

theorem res_eq (m : (ℓ : Loc nD τ sig) → Buf (Elt Ideal) ℓ) (c : Dev nD) :
    Value.res_out0 m c = refAll (refD (m ((c : Thread nD τ).loc main_arg0)) (m ((c : Thread nD τ).loc main_arg1))) := by
  unfold Value.res_out0 Value.res_main_v95; rfl

theorem refD_at (x0 : Vec Ideal S4096x1024 .bf16) (x1 : Vec Ideal S4x256x256 .bf16) (n : Fin 4096) (g : Fin 4) (c : Fin 256) :
    refD x0 x1 (ix3 n g c) = grad x0 x1 n.val g c := by
  unfold refD grad
  rw [dif_pos n.isLt]
  pointwise
  rfl

/-! ## On real inputs -/

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- `grad` of real arrays. -/
def gradR (d : S4096x1024.Idx → ℝ) (w : S4x256x256.Idx → ℝ) (n : ℕ) (g : Fin 4) (c : Fin 256) : ℝ :=
  if h : n < 4096 then ∑ k : Fin 256, d (ix2 ⟨n, h⟩ (col g k)) * w (ix3 g c k) else 0

theorem grad_coe (d : S4096x1024.Idx → ℝ) (w : S4x256x256.Idx → ℝ) (n : ℕ) (g : Fin 4) (c : Fin 256) :
    grad (fun i => (d i : EReal)) (fun i => (w i : EReal)) n g c = (gradR d w n g c : EReal) := by
  unfold grad gradR
  split
  · rw [coe_sum]; exact Finset.sum_congr rfl fun k _ => (EReal.coe_mul _ _).symm
  · rfl

theorem quot_coe (d : S4096x1024.Idx → ℝ) (w : S4x256x256.Idx → ℝ) (n : ℕ) (g : Fin 4) (c : Fin 256) :
    quot (fun i => (d i : EReal)) (fun i => (w i : EReal)) n g c = ((gradR d w n g c / (count n g : ℝ) : ℝ) : EReal) := by
  unfold quot
  rw [grad_coe, ← EReal.coe_mul, mul_one_div]

/-- The count of terms as the host converts it. -/
theorem count_word (n W : ℕ) (hn : n < 4096) (hW : W < 4096) :
    IntOp.minsi (IntOp.addi (BitVec.ofNat 32 n) 1#32) (BitVec.ofNat 32 W) = BitVec.ofNat 32 (min (n + 1) W) := by
  have e : IntOp.addi (BitVec.ofNat 32 n) 1#32 = BitVec.ofNat 32 (n + 1) := by simp [IntOp.addi, BitVec.ofNat_add]
  rw [e]
  have h : IntOp.minsi (BitVec.ofNat 32 (n + 1)) (BitVec.ofNat 32 W)
      = if (BitVec.ofNat 32 (n + 1)).toInt < (BitVec.ofNat 32 W).toInt then BitVec.ofNat 32 (n + 1) else BitVec.ofNat 32 W := by
    unfold IntOp.minsi; simp only [BitVec.slt, decide_eq_true_eq]
  rw [h, toInt_small _ (by omega), toInt_small _ (by omega)]
  split
  · rw [min_eq_left (by omega)]
  · rw [min_eq_right (by omega)]

theorem sitofp_nat (n : ℕ) (hn : n < 65536) : FloatOps.sitofp (F := Ideal) FTy.f32 (BitVec.ofNat 32 n) = ((n : ℝ) : EReal) := by
  show (((BitVec.ofNat 32 n).toInt : ℝ) : EReal) = _
  rw [toInt_small n hn]; norm_cast

/-- Over the extended reals a float's running sum is the fold of their addition. -/
theorem running_sum {s t u : Shape} (window strides lo hi : Fin s.rank → ℕ) (x : FVec Ideal s .f32) (init : u.Idx → EReal)
    (h : s.ReduceWindows window strides lo hi t) (hu : 0 < u.numel) :
    (Host.reduceWindowAdd window strides lo hi x init h hu : FVec Ideal t .f32) = Host.reduceWindow (· + ·) window strides lo hi x init h hu := by
  rfl

/-- A running sum from the far end of the two terms is the windowed sum. -/
theorem tail_sum (q : ℕ → ℝ) (hq : ∀ n, 4096 ≤ n → q n = 0) (W : ℕ) (T : S4096x256.Idx → EReal) (c : Fin 256)
    (hT : ∀ n : Fin 4096, T (ix2 n c) = ((q n.val - q (n.val + W) : ℝ) : EReal)) (n : Fin 4096) :
    (∑ j ∈ Finset.range 4096, if h : n.val + j < 4096 then T (ix2 ⟨n.val + j, h⟩ c) else 0)
      = ((∑ k ∈ Finset.range W, q (n.val + k) : ℝ) : EReal) := by
  rw [← sum_tail_sub q (4096 + n.val) W n.val (fun m hm => hq m (by omega)) (by omega), Nat.add_sub_cancel, coe_sum]
  refine Finset.sum_congr rfl fun j _ => ?_
  split
  · rename_i h; exact hT ⟨n.val + j, h⟩
  · rename_i h; rw [hq _ (by omega), hq _ (by omega), sub_zero]; rfl

theorem refG0_at (d : S4096x1024.Idx → ℝ) (w : S4x256x256.Idx → ℝ) (n : Fin 4096) (c : Fin 256) :
    refG0 (refD (fun i => (d i : EReal)) (fun i => (w i : EReal))) (ix2 n c)
      = ((-gradR d w n.val 0 c + ∑ k ∈ Finset.range 2, gradR d w (n.val + k) 0 c / (count (n.val + k) 0 : ℝ) : ℝ) : EReal) := by
  have hQ : ∀ (D : FVec Ideal S4096x4x256 .f32) (n : Fin 4096), refQ0 D (ix2 n c) = Ideal.div (D (ix3 n 0 c)) ((count n.val 0 : ℝ) : EReal) := by
    intro D n
    unfold refQ0
    pointwise
    rw [count_word n.val 2 n.isLt (by omega), sitofp_nat _ (by omega)]
    rfl
  have hq : ∀ n : Fin 4096, refQ0 (refD (fun i => (d i : EReal)) (fun i => (w i : EReal))) (ix2 n c)
      = ((gradR d w n.val 0 c / (count n.val 0 : ℝ) : ℝ) : EReal) := by
    intro n
    rw [hQ, refD_at, grad_coe, ideal_div_coe _ _ (by have := count_pos n.val 0; positivity)]
  have hz : ∀ m, 4096 ≤ m → gradR d w m 0 c = 0 := fun m hm => dif_neg (by omega)
  have hT : ∀ n : Fin 4096, refT0 (refQ0 (refD (fun i => (d i : EReal)) (fun i => (w i : EReal)))) (ix2 n c)
      = ((gradR d w n.val 0 c / (count n.val 0 : ℝ) - gradR d w (n.val + 2) 0 c / (count (n.val + 2) 0 : ℝ) : ℝ) : EReal) := by
    intro n
    have e : ∀ Q : FVec Ideal S4096x256 .f32, refT0 Q (ix2 n c) = Q (ix2 n c) + if h : n.val < 4094 then -Q (ix2 ⟨2 + n.val, by omega⟩ c) else 0 := by
      intro Q
      unfold refT0
      pointwise
    rw [e, hq, EReal.coe_sub, sub_eq_add_neg]
    refine congrArg (_ + ·) ?_
    split
    · rename_i h
      rw [hq]
      show -((gradR d w (2 + n.val) 0 c / (count (2 + n.val) 0 : ℝ) : ℝ) : EReal) = _
      rw [Nat.add_comm 2 n.val]
    · rename_i h
      rw [hz _ (by omega), zero_div]; simp
  have hP : refG0 (refD (fun i => (d i : EReal)) (fun i => (w i : EReal))) (ix2 n c)
      = -(refD (fun i => (d i : EReal)) (fun i => (w i : EReal)) (ix3 n 0 c))
        + Host.reduceWindow (· + ·) ![4096, 1] ![1, 1] ![0, 0] ![4095, 0] (refT0 (refQ0 (refD (fun i => (d i : EReal)) (fun i => (w i : EReal)))))
            (broadcastInDim S_ ![] bcast_S_S_ (constant S_ .f32 0x00000000#32)) reduceWindows_S4096x256_S4096x256_w4096s1p0_4095_w1s1p0_0 h_S_ (ix2 n c) := by
    unfold refG0
    generalize refT0 _ = T
    rw [running_sum]
    pointwise
  rw [hP, cumsum_up rfl _ _ _ (by pointwise), tail_sum (fun m => gradR d w m 0 c / (count m 0 : ℝ)) (fun m hm => by
    show gradR d w m 0 c / _ = 0
    rw [hz m hm, zero_div]) 2 _ c hT, refD_at, grad_coe, ← EReal.coe_neg, ← EReal.coe_add]

theorem refG1_at (d : S4096x1024.Idx → ℝ) (w : S4x256x256.Idx → ℝ) (n : Fin 4096) (c : Fin 256) :
    refG1 (refD (fun i => (d i : EReal)) (fun i => (w i : EReal))) (ix2 n c)
      = ((-gradR d w n.val 1 c + ∑ k ∈ Finset.range 4, gradR d w (n.val + k) 1 c / (count (n.val + k) 1 : ℝ) : ℝ) : EReal) := by
  have hQ : ∀ (D : FVec Ideal S4096x4x256 .f32) (n : Fin 4096), refQ1 D (ix2 n c) = Ideal.div (D (ix3 n 1 c)) ((count n.val 1 : ℝ) : EReal) := by
    intro D n
    unfold refQ1
    pointwise
    rw [count_word n.val 4 n.isLt (by omega), sitofp_nat _ (by omega)]
    rfl
  have hq : ∀ n : Fin 4096, refQ1 (refD (fun i => (d i : EReal)) (fun i => (w i : EReal))) (ix2 n c)
      = ((gradR d w n.val 1 c / (count n.val 1 : ℝ) : ℝ) : EReal) := by
    intro n
    rw [hQ, refD_at, grad_coe, ideal_div_coe _ _ (by have := count_pos n.val 1; positivity)]
  have hz : ∀ m, 4096 ≤ m → gradR d w m 1 c = 0 := fun m hm => dif_neg (by omega)
  have hT : ∀ n : Fin 4096, refT1 (refQ1 (refD (fun i => (d i : EReal)) (fun i => (w i : EReal)))) (ix2 n c)
      = ((gradR d w n.val 1 c / (count n.val 1 : ℝ) - gradR d w (n.val + 4) 1 c / (count (n.val + 4) 1 : ℝ) : ℝ) : EReal) := by
    intro n
    have e : ∀ Q : FVec Ideal S4096x256 .f32, refT1 Q (ix2 n c) = Q (ix2 n c) + if h : n.val < 4092 then -Q (ix2 ⟨4 + n.val, by omega⟩ c) else 0 := by
      intro Q
      unfold refT1
      pointwise
    rw [e, hq, EReal.coe_sub, sub_eq_add_neg]
    refine congrArg (_ + ·) ?_
    split
    · rename_i h
      rw [hq]
      show -((gradR d w (4 + n.val) 1 c / (count (4 + n.val) 1 : ℝ) : ℝ) : EReal) = _
      rw [Nat.add_comm 4 n.val]
    · rename_i h
      rw [hz _ (by omega), zero_div]; simp
  have hP : refG1 (refD (fun i => (d i : EReal)) (fun i => (w i : EReal))) (ix2 n c)
      = -(refD (fun i => (d i : EReal)) (fun i => (w i : EReal)) (ix3 n 1 c))
        + Host.reduceWindow (· + ·) ![4096, 1] ![1, 1] ![0, 0] ![4095, 0] (refT1 (refQ1 (refD (fun i => (d i : EReal)) (fun i => (w i : EReal)))))
            (broadcastInDim S_ ![] bcast_S_S_ (constant S_ .f32 0x00000000#32)) reduceWindows_S4096x256_S4096x256_w4096s1p0_4095_w1s1p0_0 h_S_ (ix2 n c) := by
    unfold refG1
    generalize refT1 _ = T
    rw [running_sum]
    pointwise
  rw [hP, cumsum_up rfl _ _ _ (by pointwise), tail_sum (fun m => gradR d w m 1 c / (count m 1 : ℝ)) (fun m hm => by
    show gradR d w m 1 c / _ = 0
    rw [hz m hm, zero_div]) 4 _ c hT, refD_at, grad_coe, ← EReal.coe_neg, ← EReal.coe_add]

theorem refG2_at (d : S4096x1024.Idx → ℝ) (w : S4x256x256.Idx → ℝ) (n : Fin 4096) (c : Fin 256) :
    refG2 (refD (fun i => (d i : EReal)) (fun i => (w i : EReal))) (ix2 n c)
      = ((-gradR d w n.val 2 c + ∑ k ∈ Finset.range 8, gradR d w (n.val + k) 2 c / (count (n.val + k) 2 : ℝ) : ℝ) : EReal) := by
  have hQ : ∀ (D : FVec Ideal S4096x4x256 .f32) (n : Fin 4096), refQ2 D (ix2 n c) = Ideal.div (D (ix3 n 2 c)) ((count n.val 2 : ℝ) : EReal) := by
    intro D n
    unfold refQ2
    pointwise
    rw [count_word n.val 8 n.isLt (by omega), sitofp_nat _ (by omega)]
    rfl
  have hq : ∀ n : Fin 4096, refQ2 (refD (fun i => (d i : EReal)) (fun i => (w i : EReal))) (ix2 n c)
      = ((gradR d w n.val 2 c / (count n.val 2 : ℝ) : ℝ) : EReal) := by
    intro n
    rw [hQ, refD_at, grad_coe, ideal_div_coe _ _ (by have := count_pos n.val 2; positivity)]
  have hz : ∀ m, 4096 ≤ m → gradR d w m 2 c = 0 := fun m hm => dif_neg (by omega)
  have hT : ∀ n : Fin 4096, refT2 (refQ2 (refD (fun i => (d i : EReal)) (fun i => (w i : EReal)))) (ix2 n c)
      = ((gradR d w n.val 2 c / (count n.val 2 : ℝ) - gradR d w (n.val + 8) 2 c / (count (n.val + 8) 2 : ℝ) : ℝ) : EReal) := by
    intro n
    have e : ∀ Q : FVec Ideal S4096x256 .f32, refT2 Q (ix2 n c) = Q (ix2 n c) + if h : n.val < 4088 then -Q (ix2 ⟨8 + n.val, by omega⟩ c) else 0 := by
      intro Q
      unfold refT2
      pointwise
    rw [e, hq, EReal.coe_sub, sub_eq_add_neg]
    refine congrArg (_ + ·) ?_
    split
    · rename_i h
      rw [hq]
      show -((gradR d w (8 + n.val) 2 c / (count (8 + n.val) 2 : ℝ) : ℝ) : EReal) = _
      rw [Nat.add_comm 8 n.val]
    · rename_i h
      rw [hz _ (by omega), zero_div]; simp
  have hP : refG2 (refD (fun i => (d i : EReal)) (fun i => (w i : EReal))) (ix2 n c)
      = -(refD (fun i => (d i : EReal)) (fun i => (w i : EReal)) (ix3 n 2 c))
        + Host.reduceWindow (· + ·) ![4096, 1] ![1, 1] ![0, 0] ![4095, 0] (refT2 (refQ2 (refD (fun i => (d i : EReal)) (fun i => (w i : EReal)))))
            (broadcastInDim S_ ![] bcast_S_S_ (constant S_ .f32 0x00000000#32)) reduceWindows_S4096x256_S4096x256_w4096s1p0_4095_w1s1p0_0 h_S_ (ix2 n c) := by
    unfold refG2
    generalize refT2 _ = T
    rw [running_sum]
    pointwise
  rw [hP, cumsum_up rfl _ _ _ (by pointwise), tail_sum (fun m => gradR d w m 2 c / (count m 2 : ℝ)) (fun m hm => by
    show gradR d w m 2 c / _ = 0
    rw [hz m hm, zero_div]) 8 _ c hT, refD_at, grad_coe, ← EReal.coe_neg, ← EReal.coe_add]

theorem refG3_at (d : S4096x1024.Idx → ℝ) (w : S4x256x256.Idx → ℝ) (n : Fin 4096) (c : Fin 256) :
    refG3 (refD (fun i => (d i : EReal)) (fun i => (w i : EReal))) (ix2 n c)
      = ((-gradR d w n.val 3 c + ∑ k ∈ Finset.range 16, gradR d w (n.val + k) 3 c / (count (n.val + k) 3 : ℝ) : ℝ) : EReal) := by
  have hQ : ∀ (D : FVec Ideal S4096x4x256 .f32) (n : Fin 4096), refQ3 D (ix2 n c) = Ideal.div (D (ix3 n 3 c)) ((count n.val 3 : ℝ) : EReal) := by
    intro D n
    unfold refQ3
    pointwise
    rw [count_word n.val 16 n.isLt (by omega), sitofp_nat _ (by omega)]
    rfl
  have hq : ∀ n : Fin 4096, refQ3 (refD (fun i => (d i : EReal)) (fun i => (w i : EReal))) (ix2 n c)
      = ((gradR d w n.val 3 c / (count n.val 3 : ℝ) : ℝ) : EReal) := by
    intro n
    rw [hQ, refD_at, grad_coe, ideal_div_coe _ _ (by have := count_pos n.val 3; positivity)]
  have hz : ∀ m, 4096 ≤ m → gradR d w m 3 c = 0 := fun m hm => dif_neg (by omega)
  have hT : ∀ n : Fin 4096, refT3 (refQ3 (refD (fun i => (d i : EReal)) (fun i => (w i : EReal)))) (ix2 n c)
      = ((gradR d w n.val 3 c / (count n.val 3 : ℝ) - gradR d w (n.val + 16) 3 c / (count (n.val + 16) 3 : ℝ) : ℝ) : EReal) := by
    intro n
    have e : ∀ Q : FVec Ideal S4096x256 .f32, refT3 Q (ix2 n c) = Q (ix2 n c) + if h : n.val < 4080 then -Q (ix2 ⟨16 + n.val, by omega⟩ c) else 0 := by
      intro Q
      unfold refT3
      pointwise
    rw [e, hq, EReal.coe_sub, sub_eq_add_neg]
    refine congrArg (_ + ·) ?_
    split
    · rename_i h
      rw [hq]
      show -((gradR d w (16 + n.val) 3 c / (count (16 + n.val) 3 : ℝ) : ℝ) : EReal) = _
      rw [Nat.add_comm 16 n.val]
    · rename_i h
      rw [hz _ (by omega), zero_div]; simp
  have hP : refG3 (refD (fun i => (d i : EReal)) (fun i => (w i : EReal))) (ix2 n c)
      = -(refD (fun i => (d i : EReal)) (fun i => (w i : EReal)) (ix3 n 3 c))
        + Host.reduceWindow (· + ·) ![4096, 1] ![1, 1] ![0, 0] ![4095, 0] (refT3 (refQ3 (refD (fun i => (d i : EReal)) (fun i => (w i : EReal)))))
            (broadcastInDim S_ ![] bcast_S_S_ (constant S_ .f32 0x00000000#32)) reduceWindows_S4096x256_S4096x256_w4096s1p0_4095_w1s1p0_0 h_S_ (ix2 n c) := by
    unfold refG3
    generalize refT3 _ = T
    rw [running_sum]
    pointwise
  rw [hP, cumsum_up rfl _ _ _ (by pointwise), tail_sum (fun m => gradR d w m 3 c / (count m 3 : ℝ)) (fun m hm => by
    show gradR d w m 3 c / _ = 0
    rw [hz m hm, zero_div]) 16 _ c hT, refD_at, grad_coe, ← EReal.coe_neg, ← EReal.coe_add]

theorem dite_eq_ite_of {p q : Prop} [Decidable p] [Decidable q] {v : EReal} {f : p → EReal} (h : p ↔ q) (hf : ∀ hp, f hp = v) :
    (if hp : p then f hp else 0) = if q then v else 0 := by
  by_cases hp : p
  · rw [dif_pos hp, if_pos (h.mp hp), hf]
  · rw [dif_neg hp, if_neg fun hq => hp (h.mpr hq)]

theorem ref_eq (d : S4096x1024.Idx → ℝ) (w : S4x256x256.Idx → ℝ) :
    refAll (refD (fun i => (d i : EReal)) (fun i => (w i : EReal))) = G (fun i => (d i : EReal)) (fun i => (w i : EReal)) := by
  funext i
  obtain ⟨n, y, rfl⟩ : ∃ (n : Fin 4096) (y : Fin 1024), i = ix2 n y := exists_ix2 i
  have hG : G (fun i => (d i : EReal)) (fun i => (w i : EReal)) (ix2 n y)
      = ((-gradR d w n.val (grp y) (off y) + ∑ k ∈ Finset.range (win (grp y)), gradR d w (n.val + k) (grp y) (off y) / (count (n.val + k) (grp y) : ℝ) : ℝ) : EReal) := by
    show (∑ k ∈ Finset.range (win (grp y)), quot _ _ (n.val + k) (grp y) (off y)) - grad _ _ n.val (grp y) (off y) = _
    simp only [quot_coe, grad_coe]
    rw [← coe_sum, ← EReal.coe_sub, sub_eq_neg_add]
  rw [hG]
  have hA : ∀ D, refAll D (ix2 n y) = ((((if y.val / 256 = 3 then refG3 D (ix2 n (off y)) else 0) + (if y.val / 256 = 2 then refG2 D (ix2 n (off y)) else 0))
      + (if y.val / 256 = 1 then refG1 D (ix2 n (off y)) else 0)) + (if y.val / 256 = 0 then refG0 D (ix2 n (off y)) else 0)) := by
    intro D
    unfold refAll
    pointwise
    refine congrArg₂ (· + ·) (congrArg₂ (· + ·) (congrArg₂ (· + ·) ?_ ?_) ?_) ?_ <;>
      exact dite_eq_ite_of (by omega) (fun _ => rfl)
  rw [hA]
  rcases (by omega : y.val / 256 = 0 ∨ y.val / 256 = 1 ∨ y.val / 256 = 2 ∨ y.val / 256 = 3) with h | h | h | h
  · have hg : grp y = 0 := Fin.ext h
    rw [hg, h]
    simp only [refG0_at, Nat.reduceEqDiff, if_true, if_false, reduceIte, zero_add, add_zero, OfNat.ofNat_ne_zero, OfNat.zero_ne_ofNat, zero_ne_one, one_ne_zero]
    rfl
  · have hg : grp y = 1 := Fin.ext h
    rw [hg, h]
    simp only [refG1_at, Nat.reduceEqDiff, if_true, if_false, reduceIte, zero_add, add_zero, OfNat.ofNat_ne_zero, OfNat.zero_ne_ofNat, zero_ne_one, one_ne_zero]
    rfl
  · have hg : grp y = 2 := Fin.ext h
    rw [hg, h]
    simp only [refG2_at, Nat.reduceEqDiff, if_true, if_false, reduceIte, zero_add, add_zero, OfNat.ofNat_ne_zero, OfNat.zero_ne_ofNat, zero_ne_one, one_ne_zero]
    rfl
  · have hg : grp y = 3 := Fin.ext h
    rw [hg, h]
    simp only [refG3_at, Nat.reduceEqDiff, if_true, if_false, reduceIte, zero_add, add_zero, OfNat.ofNat_ne_zero, OfNat.zero_ne_ofNat, zero_ne_one, one_ne_zero]
    rfl

end Cert.Pool
-- ==== Proof.Finite.lean ====
module

public import proofs.«01_k».proof.Defs
public import Idealize.ShloMosaic.Lib.ReduceAll
public import Idealize.ShloMosaic.Lib.Pointwise

/-! What a test "every element is less than infinity in absolute value" says of an array of extended reals: its
    elements are real numbers. -/

@[expose] public section

set_option maxRecDepth 16384

noncomputable section

namespace Cert.Finite

open Idealize.ShloMosaic Idealize.ShloMosaic.TcCoe

/-- A number whose absolute value compares below infinity is real. -/
theorem real_of_lt (x : EReal) (h : FloatOps.cmpf (F := Ideal) (φ := .f32) .olt (max x (-x)) (Ideal.ofBits .f32 0x7F800000#32) = 1#1) :
    ∃ r : ℝ, x = (r : EReal) := by
  have e : Ideal.ofBits .f32 0x7F800000#32 = (⊤ : EReal) := by simp [Ideal.ofBits, Ideal.ieee]
  rw [e] at h
  induction x using EReal.rec with
  | bot => simp [FloatOps.cmpf, Ideal.cmp] at h
  | coe r => exact ⟨r, rfl⟩
  | top => simp [FloatOps.cmpf, Ideal.cmp] at h

/-- The elements of an array are real numbers. -/
def AllReal {s : Shape} (x : s.Idx → EReal) : Prop := ∃ r : s.Idx → ℝ, x = fun i => (r i : EReal)

theorem allReal_of {s : Shape} {x : s.Idx → EReal} (h : ∀ i, ∃ r : ℝ, x i = (r : EReal)) : AllReal x :=
  ⟨fun i => (h i).choose, funext fun i => (h i).choose_spec⟩

/-- The test of a whole array, as the host writes it. -/
theorem allReal_of_test {s u : Shape} {axes : List (Fin s.rank)} {x : FVec Ideal s .f32} {c : FVec Ideal s .f32} {init : u.Idx → BitVec 1}
    {h : s.ReducesTo axes ⟨0, ![]⟩} {hu : 0 < u.numel} {j : (⟨0, ![]⟩ : Shape).Idx} (hc : ∀ i, c i = Ideal.ofBits .f32 0x7F800000#32)
    (e : Host.reduce IntOp.andi (cmpf .olt (Host.absf x) c) init h hu j = 1#1) : AllReal (s := s) x := by
  haveI : Subsingleton (⟨0, ![]⟩ : Shape).Idx := ⟨fun a b => funext fun k => k.elim0⟩
  refine allReal_of fun i => ?_
  have := Host.reduce_andi_all _ _ _ _ _ e i
  refine real_of_lt (x i) ?_
  rw [← hc i]
  exact this

theorem and_one {a b : BitVec 1} (h : IntOp.andi a b = 1#1) : a = 1#1 ∧ b = 1#1 := by
  revert a b; decide

end Cert.Finite
-- ==== Proof.PoolPre.lean ====
module

public import proofs.«01_k».proof.Proof.Finite
public import proofs.«01_k».proof.Proof.Gen.Pre_finite_inputs

/-! The pooling claim's precondition: both arguments hold real numbers. -/

@[expose] public section

set_option maxRecDepth 16384

noncomputable section

namespace Cert.Pool

open Cert.Pre_finite_inputs Cert.Finite Idealize.ShloMosaic Idealize.ShloMosaic.TcCoe

theorem finite_inputs (x0 : FVec Ideal S4096x1024 .bf16) (x1 : FVec Ideal S4x256x256 .bf16)
    (h : Cert.Pre_finite_inputs.fn (F := Ideal) x0 x1 = fun _ => 1#1) : AllReal x0 ∧ AllReal x1 := by
  have h0 := congrFun h (fun k => k.elim0)
  unfold Cert.Pre_finite_inputs.fn at h0
  dsimp only at h0
  obtain ⟨ha, hb⟩ := and_one h0
  exact ⟨allReal_of_test (fun _ => rfl) ha, allReal_of_test (fun _ => rfl) hb⟩

end Cert.Pool
-- ==== Proof.GateRings.lean ====
module

public import proofs.«01_k».proof.Proof.Gen.Kernel5Ideal.Frame.Runs

/-! Two rings of copies that read the same array: the first on the left half of the array's share, the second on the right half. -/

@[expose] public section

set_option maxRecDepth 16384

noncomputable section

namespace Cert.Kernel5Ideal.Gen.Half

open Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

section Ring0_2
variable (c : Dev nD) (W : HbBuf0 (F := F) c hbM0_2)

abbrev qs0_2 (s : Fin 3) : PosShare TreeShare := if s.val = 0 then fullShare.left.left else if s.val = 1 then fullShare.left.right.left else fullShare.left.right.right
abbrev srcP0_2 (s : Fin 3) (b : Fin 16) : sProp 𝕄 := (srcB0_2 b).view.loc (c : Thread nD τ) ↦[(srcB0_2 b).view.set]{qs0_2 s} W
def restP0_2 (s : Fin 3) (b : Fin 16) : sProp 𝕄 := ((c : Thread nD τ).loc main_arg2) ↦[Finset.univ \ (srcB0_2 b).view.set]{qs0_2 s} W
abbrev wholeP0_2 (s : Fin 3) : sProp 𝕄 := ((c : Thread nD τ).loc main_arg2) ↦[Finset.univ]{qs0_2 s} W
abbrev flightP0_2 (s : Fin 3) (b : Fin 16) (f : HbBuf0 (F := F) c (rslot0_2 s)) : sProp 𝕄 :=
  Transfers.Flight countersEmb (c : Thread nD τ) (cellR0_2 s) default ((rslot0_2 s).view.amount (cellR0_2 s))
    iprop(slotP0_2 c s (landed0_2 c W s b f) ∗ srcP0_2 c W s b)
abbrev slotW0_2 (s : Fin 3) (f : HbBuf0 (F := F) c (rslot0_2 s)) : sProp 𝕄 := iprop(slotP0_2 c s f ∗ wholeP0_2 c W s)
abbrev flightW0_2 (s : Fin 3) (b : Fin 16) (f : HbBuf0 (F := F) c (rslot0_2 s)) : sProp 𝕄 := iprop(flightP0_2 c W s b f ∗ restP0_2 c W s b)
def ringAt0_2 (k : ℕ) : sProp 𝕄 :=
  if k = 0 then Ring.At₀ (cellP0_2 c) (slotW0_2 c W) noHome0_2
  else Ring.At 2 (cellP0_2 c) (slotW0_2 c W) noHome0_2 (flightW0_2 c W) k
theorem src0_2_split (s : Fin 3) (b : Fin 16) : wholeP0_2 (F := F) c W s ⊣⊢ iprop(srcP0_2 c W s b ∗ restP0_2 c W s b) := by
  unfold restP0_2; exact pointsTo_split_subset (Finset.subset_univ _)
theorem whole0_2_split : (hbM0_2.view.loc (c : Thread nD τ) ↦{fullShare.left} W : sProp 𝕄) ⊣⊢ iprop(wholeP0_2 c W 0 ∗ wholeP0_2 c W 1 ∗ wholeP0_2 c W 2) := by
  refine ⟨?_, ?_⟩
  · iintro H
    ihave H' := (pointsTo_share (PosShare.mem_left_op_right (fullShare.left))).1 $$ H
    icases H' with ⟨H0, H12⟩
    ihave H'' := (pointsTo_share (PosShare.mem_left_op_right (fullShare.left).right)).1 $$ H12
    icases H'' with ⟨H1, H2⟩
    isplitl [H0]; · iexact H0
    isplitl [H1]; · iexact H1
    iexact H2
  · iintro ⟨H0, H1, H2⟩
    iapply (pointsTo_share (PosShare.mem_left_op_right (fullShare.left))).2
    isplitl [H0]; · iexact H0
    iapply (pointsTo_share (PosShare.mem_left_op_right (fullShare.left).right)).2
    isplitl [H1]; · iexact H1
    iexact H2
end Ring0_2

theorem ring0_2_in (c : Dev nD) :
    iprop((∃ d, owns (c : Thread nD τ) scM0_2 fullShare d) ∗ (semVal ((c : Thread nD τ), SemLoc.dma 16) 0 ∗ semVal ((c : Thread nD τ), SemLoc.dma 17) 0 ∗ semVal ((c : Thread nD τ), SemLoc.dma 18) 0) ∗ (hbM0_2.view.loc (c : Thread nD τ) ↦{fullShare.left} (V m c main_arg2)))
      ⊢ ringAt0_2 c (V m c main_arg2) 0 := by
  unfold ringAt0_2; rw [if_pos rfl]; unfold Ring.At₀
  rw [Ring.bigSep_fin3]
  simp only [Ring.free, cellP0_2_0, cellP0_2_1, cellP0_2_2]
  iintro ⟨HS, Hc, HW⟩
  iapply Ring.with_homes₀
  icases Hc with ⟨H0, H1, H2⟩
  ihave HS' := (slots0_2_in (F := F) c) $$ HS
  icases HS' with ⟨⟨%d0, HS0⟩, ⟨%d1, HS1⟩, ⟨%d2, HS2⟩⟩
  ihave HW' := (whole0_2_split (F := F) c (V m c main_arg2)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
theorem ring0_2_out (c : Dev nD) :
    ringAt0_2 c (V m c main_arg2) 16
      ⊢ iprop((∃ d, owns (c : Thread nD τ) scM0_2 fullShare d) ∗ (semVal ((c : Thread nD τ), SemLoc.dma 16) 0 ∗ semVal ((c : Thread nD τ), SemLoc.dma 17) 0 ∗ semVal ((c : Thread nD τ), SemLoc.dma 18) 0) ∗ (hbM0_2.view.loc (c : Thread nD τ) ↦{fullShare.left} (V m c main_arg2))) := by
  unfold ringAt0_2; rw [if_neg (by decide)]
  iintro H
  ihave H' := (Ring.free3_of_At_last _ _ _ _) $$ H
  simp only [Ring.free, cellP0_2_0, cellP0_2_1, cellP0_2_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots0_2_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole0_2_split (F := F) c (V m c main_arg2)).2; isplitl [HW0]; · iexact HW0
    isplitl [HW1]; · iexact HW1
    iexact HW2

section Ring0_3
variable (c : Dev nD) (W : HbBuf0 (F := F) c hbM0_2)

abbrev qs0_3 (s : Fin 3) : PosShare TreeShare := if s.val = 0 then fullShare.right.left else if s.val = 1 then fullShare.right.right.left else fullShare.right.right.right
abbrev srcP0_3 (s : Fin 3) (b : Fin 16) : sProp 𝕄 := (srcB0_3 b).view.loc (c : Thread nD τ) ↦[(srcB0_3 b).view.set]{qs0_3 s} W
def restP0_3 (s : Fin 3) (b : Fin 16) : sProp 𝕄 := ((c : Thread nD τ).loc main_arg2) ↦[Finset.univ \ (srcB0_3 b).view.set]{qs0_3 s} W
abbrev wholeP0_3 (s : Fin 3) : sProp 𝕄 := ((c : Thread nD τ).loc main_arg2) ↦[Finset.univ]{qs0_3 s} W
abbrev flightP0_3 (s : Fin 3) (b : Fin 16) (f : HbBuf0 (F := F) c (rslot0_3 s)) : sProp 𝕄 :=
  Transfers.Flight countersEmb (c : Thread nD τ) (cellR0_3 s) default ((rslot0_3 s).view.amount (cellR0_3 s))
    iprop(slotP0_3 c s (landed0_3 c W s b f) ∗ srcP0_3 c W s b)
abbrev slotW0_3 (s : Fin 3) (f : HbBuf0 (F := F) c (rslot0_3 s)) : sProp 𝕄 := iprop(slotP0_3 c s f ∗ wholeP0_3 c W s)
abbrev flightW0_3 (s : Fin 3) (b : Fin 16) (f : HbBuf0 (F := F) c (rslot0_3 s)) : sProp 𝕄 := iprop(flightP0_3 c W s b f ∗ restP0_3 c W s b)
def ringAt0_3 (k : ℕ) : sProp 𝕄 :=
  if k = 0 then Ring.At₀ (cellP0_3 c) (slotW0_3 c W) noHome0_3
  else Ring.At 2 (cellP0_3 c) (slotW0_3 c W) noHome0_3 (flightW0_3 c W) k
theorem src0_3_split (s : Fin 3) (b : Fin 16) : wholeP0_3 (F := F) c W s ⊣⊢ iprop(srcP0_3 c W s b ∗ restP0_3 c W s b) := by
  unfold restP0_3; exact pointsTo_split_subset (Finset.subset_univ _)
theorem whole0_3_split : (hbM0_2.view.loc (c : Thread nD τ) ↦{fullShare.right} W : sProp 𝕄) ⊣⊢ iprop(wholeP0_3 c W 0 ∗ wholeP0_3 c W 1 ∗ wholeP0_3 c W 2) := by
  refine ⟨?_, ?_⟩
  · iintro H
    ihave H' := (pointsTo_share (PosShare.mem_left_op_right (fullShare.right))).1 $$ H
    icases H' with ⟨H0, H12⟩
    ihave H'' := (pointsTo_share (PosShare.mem_left_op_right (fullShare.right).right)).1 $$ H12
    icases H'' with ⟨H1, H2⟩
    isplitl [H0]; · iexact H0
    isplitl [H1]; · iexact H1
    iexact H2
  · iintro ⟨H0, H1, H2⟩
    iapply (pointsTo_share (PosShare.mem_left_op_right (fullShare.right))).2
    isplitl [H0]; · iexact H0
    iapply (pointsTo_share (PosShare.mem_left_op_right (fullShare.right).right)).2
    isplitl [H1]; · iexact H1
    iexact H2
end Ring0_3

theorem ring0_3_in (c : Dev nD) :
    iprop((∃ d, owns (c : Thread nD τ) scM0_3 fullShare d) ∗ (semVal ((c : Thread nD τ), SemLoc.dma 19) 0 ∗ semVal ((c : Thread nD τ), SemLoc.dma 20) 0 ∗ semVal ((c : Thread nD τ), SemLoc.dma 21) 0) ∗ (hbM0_2.view.loc (c : Thread nD τ) ↦{fullShare.right} (V m c main_arg2)))
      ⊢ ringAt0_3 c (V m c main_arg2) 0 := by
  unfold ringAt0_3; rw [if_pos rfl]; unfold Ring.At₀
  rw [Ring.bigSep_fin3]
  simp only [Ring.free, cellP0_3_0, cellP0_3_1, cellP0_3_2]
  iintro ⟨HS, Hc, HW⟩
  iapply Ring.with_homes₀
  icases Hc with ⟨H0, H1, H2⟩
  ihave HS' := (slots0_3_in (F := F) c) $$ HS
  icases HS' with ⟨⟨%d0, HS0⟩, ⟨%d1, HS1⟩, ⟨%d2, HS2⟩⟩
  ihave HW' := (whole0_3_split (F := F) c (V m c main_arg2)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
theorem ring0_3_out (c : Dev nD) :
    ringAt0_3 c (V m c main_arg2) 16
      ⊢ iprop((∃ d, owns (c : Thread nD τ) scM0_3 fullShare d) ∗ (semVal ((c : Thread nD τ), SemLoc.dma 19) 0 ∗ semVal ((c : Thread nD τ), SemLoc.dma 20) 0 ∗ semVal ((c : Thread nD τ), SemLoc.dma 21) 0) ∗ (hbM0_2.view.loc (c : Thread nD τ) ↦{fullShare.right} (V m c main_arg2))) := by
  unfold ringAt0_3; rw [if_neg (by decide)]
  iintro H
  ihave H' := (Ring.free3_of_At_last _ _ _ _) $$ H
  simp only [Ring.free, cellP0_3_0, cellP0_3_1, cellP0_3_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots0_3_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole0_3_split (F := F) c (V m c main_arg2)).2; isplitl [HW0]; · iexact HW0
    isplitl [HW1]; · iexact HW1
    iexact HW2

end Cert.Kernel5Ideal.Gen.Half

end
-- ==== Proof.GateRunA.lean ====
module

public import proofs.«01_k».proof.Proof.GateRings

@[expose] public section

set_option maxRecDepth 16384

noncomputable section

namespace Cert.Kernel5Ideal.Gen.Half

open Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option sl_exec.stepHeartbeats 2000000 in
set_option maxHeartbeats 20000000 in
noncomputable def kernelRun0_A (c : Dev nD) (t : Fin cfg0.N) (arg5 : Memref sig .tc .vmem S1x1024 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x2048 .bf16) (harg9 : arg9.IsWhole) (arg10 : Memref sig .tc .vmem S1x1024 .f32) (harg10 : arg10.IsWhole) (hc0 : cond0_0 (grid0.coords t)) (hc1 : cond0_1 (grid0.coords t)) (hc2 : cond0_2 (grid0.coords t))
    (x0 : Vec F S1x1024 .f32) (fh0 : HbBuf0 (F := F) c hbM0_0) (fh1 : HbBuf0 (F := F) c hbM0_1) (fh2 : HbBuf0 (F := F) c hbM0_2) (fh3 : HbBuf0 (F := F) c hbM0_3) :
    Σ' (L1 : List (View.Piece (Elt F) S256x1024 .bf16)), Σ' (L2 : List (View.Piece (Elt F) S256x1024 .bf16)), Σ' (L3 : List (View.Piece (Elt F) S256x1024 .bf16)), Σ' (L4 : List (View.Piece (Elt F) S256x2048 .bf16)), { L5 : List (View.Piece (Elt F) S1x1024 .f32) //
      ∀ (W : Waits sig Unit) (K : PUnit → sProp 𝕄),
        iprop(owns (c : Thread nD τ) arg5 fullShare x0 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ Ring.free (cellP0_0 c) (slotW0_0 c fh0) (Ring.sl 3 t.val) ∗ Ring.free (cellP0_0 c) (slotW0_0 c fh0) (Ring.sl 3 (t.val + 1)) ∗ Ring.free (cellP0_0 c) (slotW0_0 c fh0) (Ring.sl 3 (t.val + 2)) ∗ Ring.free (cellP0_1 c) (slotW0_1 c fh1) (Ring.sl 3 t.val) ∗ Ring.free (cellP0_1 c) (slotW0_1 c fh1) (Ring.sl 3 (t.val + 1)) ∗ Ring.free (cellP0_1 c) (slotW0_1 c fh1) (Ring.sl 3 (t.val + 2)) ∗ Ring.free (cellP0_2 c) (slotW0_2 c fh2) (Ring.sl 3 t.val) ∗ Ring.free (cellP0_2 c) (slotW0_2 c fh2) (Ring.sl 3 (t.val + 1)) ∗ Ring.free (cellP0_2 c) (slotW0_2 c fh2) (Ring.sl 3 (t.val + 2)) ∗ Ring.free (cellP0_3 c) (slotW0_3 c fh2) (Ring.sl 3 t.val) ∗ Ring.free (cellP0_3 c) (slotW0_3 c fh2) (Ring.sl 3 (t.val + 1)) ∗ Ring.free (cellP0_3 c) (slotW0_3 c fh2) (Ring.sl 3 (t.val + 2)) ∗ Ring.free (cellP0_4 c) (slotW0_4 c fh3) (Ring.sl 3 t.val) ∗ Ring.free (cellP0_4 c) (slotW0_4 c fh3) (Ring.sl 3 (t.val + 1)) ∗ Ring.free (cellP0_4 c) (slotW0_4 c fh3) (Ring.sl 3 (t.val + 2)) ∗ owes (c : Thread nD τ) 0 W
            ∗ (iprop(owns (c : Thread nD τ) arg5 fullShare x0 ∗ (∃ f, arg6.view.loc (c : Thread nD τ) ↦[arg6.view.set]{fullShare} arg6.view.writes (Elt F) f L1) ∗ (∃ f, arg7.view.loc (c : Thread nD τ) ↦[arg7.view.set]{fullShare} arg7.view.writes (Elt F) f L2) ∗ (∃ f, arg8.view.loc (c : Thread nD τ) ↦[arg8.view.set]{fullShare} arg8.view.writes (Elt F) f L3) ∗ (∃ f, arg9.view.loc (c : Thread nD τ) ↦[arg9.view.set]{fullShare} arg9.view.writes (Elt F) f L4) ∗ (∃ f, arg10.view.loc (c : Thread nD τ) ↦[arg10.view.set]{fullShare} arg10.view.writes (Elt F) f L5) ∗ Ring.inflight (flightW0_0 c fh0) (Ring.sl 3 (t.val + 1)) (Ring.bk 16 (t.val + 1)) ∗ Ring.inflight (flightW0_0 c fh0) (Ring.sl 3 (t.val + 2)) (Ring.bk 16 (t.val + 2)) ∗ Ring.free (cellP0_0 c) (slotW0_0 c fh0) (Ring.sl 3 t.val) ∗ Ring.inflight (flightW0_1 c fh1) (Ring.sl 3 (t.val + 1)) (Ring.bk 16 (t.val + 1)) ∗ Ring.inflight (flightW0_1 c fh1) (Ring.sl 3 (t.val + 2)) (Ring.bk 16 (t.val + 2)) ∗ Ring.free (cellP0_1 c) (slotW0_1 c fh1) (Ring.sl 3 t.val) ∗ Ring.inflight (flightW0_2 c fh2) (Ring.sl 3 (t.val + 1)) (Ring.bk 16 (t.val + 1)) ∗ Ring.inflight (flightW0_2 c fh2) (Ring.sl 3 (t.val + 2)) (Ring.bk 16 (t.val + 2)) ∗ Ring.free (cellP0_2 c) (slotW0_2 c fh2) (Ring.sl 3 t.val) ∗ Ring.inflight (flightW0_3 c fh2) (Ring.sl 3 (t.val + 1)) (Ring.bk 16 (t.val + 1)) ∗ Ring.inflight (flightW0_3 c fh2) (Ring.sl 3 (t.val + 2)) (Ring.bk 16 (t.val + 2)) ∗ Ring.free (cellP0_3 c) (slotW0_3 c fh2) (Ring.sl 3 t.val) ∗ Ring.inflight (flightW0_4 c fh3) (Ring.sl 3 (t.val + 1)) (Ring.bk 16 (t.val + 1)) ∗ Ring.inflight (flightW0_4 c fh3) (Ring.sl 3 (t.val + 2)) (Ring.bk 16 (t.val + 2)) ∗ Ring.free (cellP0_4 c) (slotW0_4 c fh3) (Ring.sl 3 t.val) ∗ (∃ W', owes (c : Thread nD τ) 0 W')) -∗ K ⟨⟩))
          ⊢ wp frame (wpE (defs₀ (F := F)) Variants.none c none) Set.univ (cc0_gate_bwd (grid0.coords t) (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _) scM0_4 (Memref.isWhole_whole _) cc0_scratch5) K } := by
  refine ⟨?_, ?_, ?_, ?_, ?_, fun W K => ?run⟩
  case run =>
    haveI : Fact (cond0_0 (grid0.coords t)) := ⟨hc0⟩
    haveI : Fact (cond0_1 (grid0.coords t)) := ⟨hc1⟩
    haveI : Fact (cond0_2 (grid0.coords t)) := ⟨hc2⟩
    simp only [cc0_gate_bwd_eq_skeleton]; unfold cc0_gate_bwd_skel
    simp only [k0_part5_eq_skeleton, k0_part1_eq_skeleton, k0_part2_eq_skeleton, k0_part3_eq_skeleton, k0_part4_eq_skeleton, k0_part6_eq_skeleton, k0_part7_eq_skeleton, k0_part8_eq_skeleton, k0_part9_eq_skeleton, k0_part10_eq_skeleton]
    have hcanon0 := canon0_0_1 t hc0 hc1 hc2
    have hcanon1 := canon0_0_2 t hc0 hc1 hc2
    have hcanon2 := canon0_0_3 t hc0 hc1 hc2
    have hcanon3 := canon0_0_4 t hc0 hc1 hc2
    have hcanon4 := canon0_0_5 t hc0 hc1 hc2
    have hcanon5 := canon0_0_6 t hc0 hc1 hc2
    have hcanon6 := canon0_1_1 t hc0 hc1 hc2
    have hcanon7 := canon0_1_2 t hc0 hc1 hc2
    have hcanon8 := canon0_1_3 t hc0 hc1 hc2
    have hcanon9 := canon0_1_4 t hc0 hc1 hc2
    have hcanon10 := canon0_1_5 t hc0 hc1 hc2
    have hcanon11 := canon0_1_6 t hc0 hc1 hc2
    have hcanon12 := canon0_2_1 t hc0 hc1 hc2
    have hcanon13 := canon0_2_2 t hc0 hc1 hc2
    have hcanon14 := canon0_2_3 t hc0 hc1 hc2
    have hcanon15 := canon0_2_4 t hc0 hc1 hc2
    have hcanon16 := canon0_2_5 t hc0 hc1 hc2
    have hcanon17 := canon0_2_6 t hc0 hc1 hc2
    have hcanon18 := canon0_3_1 t hc0 hc1 hc2
    have hcanon19 := canon0_3_2 t hc0 hc1 hc2
    have hcanon20 := canon0_3_3 t hc0 hc1 hc2
    have hcanon21 := canon0_3_4 t hc0 hc1 hc2
    have hcanon22 := canon0_3_5 t hc0 hc1 hc2
    have hcanon23 := canon0_3_6 t hc0 hc1 hc2
    have hcanon24 := canon0_4_1 t hc0 hc1 hc2
    have hcanon25 := canon0_4_2 t hc0 hc1 hc2
    have hcanon26 := canon0_4_3 t hc0 hc1 hc2
    have hcanon27 := canon0_4_4 t hc0 hc1 hc2
    have hcanon28 := canon0_4_5 t hc0 hc1 hc2
    have hcanon29 := canon0_4_6 t hc0 hc1 hc2
    unfold owns Ring.free Ring.inflight
    iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, ⟨Hc0_0_0, ⟨%fs0_0_0, Hs0_0_0, Hw0_0_0⟩⟩, ⟨Hc0_0_1, ⟨%fs0_0_1, Hs0_0_1, Hw0_0_1⟩⟩, ⟨Hc0_0_2, ⟨%fs0_0_2, Hs0_0_2, Hw0_0_2⟩⟩, ⟨Hc0_1_0, ⟨%fs0_1_0, Hs0_1_0, Hw0_1_0⟩⟩, ⟨Hc0_1_1, ⟨%fs0_1_1, Hs0_1_1, Hw0_1_1⟩⟩, ⟨Hc0_1_2, ⟨%fs0_1_2, Hs0_1_2, Hw0_1_2⟩⟩, ⟨Hc0_2_0, ⟨%fs0_2_0, Hs0_2_0, Hw0_2_0⟩⟩, ⟨Hc0_2_1, ⟨%fs0_2_1, Hs0_2_1, Hw0_2_1⟩⟩, ⟨Hc0_2_2, ⟨%fs0_2_2, Hs0_2_2, Hw0_2_2⟩⟩, ⟨Hc0_3_0, ⟨%fs0_3_0, Hs0_3_0, Hw0_3_0⟩⟩, ⟨Hc0_3_1, ⟨%fs0_3_1, Hs0_3_1, Hw0_3_1⟩⟩, ⟨Hc0_3_2, ⟨%fs0_3_2, Hs0_3_2, Hw0_3_2⟩⟩, ⟨Hc0_4_0, ⟨%fs0_4_0, Hs0_4_0, Hw0_4_0⟩⟩, ⟨Hc0_4_1, ⟨%fs0_4_1, Hs0_4_1, Hw0_4_1⟩⟩, ⟨Hc0_4_2, ⟨%fs0_4_2, Hs0_4_2, Hw0_4_2⟩⟩, HW, Hk⟩
    ihave Hsp0_0_0 := (src0_0_split c fh0 (Ring.sl 3 t.val) (Ring.bk 16 t.val)).1 $$ Hw0_0_0
    icases Hsp0_0_0 with ⟨Hh0_0_0, Hr0_0_0⟩
    ihave Hsp0_0_1 := (src0_0_split c fh0 (Ring.sl 3 (t.val + 1)) (Ring.bk 16 (t.val + 1))).1 $$ Hw0_0_1
    icases Hsp0_0_1 with ⟨Hh0_0_1, Hr0_0_1⟩
    ihave Hsp0_0_2 := (src0_0_split c fh0 (Ring.sl 3 (t.val + 2)) (Ring.bk 16 (t.val + 2))).1 $$ Hw0_0_2
    icases Hsp0_0_2 with ⟨Hh0_0_2, Hr0_0_2⟩
    ihave Hsp0_1_0 := (src0_1_split c fh1 (Ring.sl 3 t.val) (Ring.bk 16 t.val)).1 $$ Hw0_1_0
    icases Hsp0_1_0 with ⟨Hh0_1_0, Hr0_1_0⟩
    ihave Hsp0_1_1 := (src0_1_split c fh1 (Ring.sl 3 (t.val + 1)) (Ring.bk 16 (t.val + 1))).1 $$ Hw0_1_1
    icases Hsp0_1_1 with ⟨Hh0_1_1, Hr0_1_1⟩
    ihave Hsp0_1_2 := (src0_1_split c fh1 (Ring.sl 3 (t.val + 2)) (Ring.bk 16 (t.val + 2))).1 $$ Hw0_1_2
    icases Hsp0_1_2 with ⟨Hh0_1_2, Hr0_1_2⟩
    ihave Hsp0_2_0 := (src0_2_split c fh2 (Ring.sl 3 t.val) (Ring.bk 16 t.val)).1 $$ Hw0_2_0
    icases Hsp0_2_0 with ⟨Hh0_2_0, Hr0_2_0⟩
    ihave Hsp0_2_1 := (src0_2_split c fh2 (Ring.sl 3 (t.val + 1)) (Ring.bk 16 (t.val + 1))).1 $$ Hw0_2_1
    icases Hsp0_2_1 with ⟨Hh0_2_1, Hr0_2_1⟩
    ihave Hsp0_2_2 := (src0_2_split c fh2 (Ring.sl 3 (t.val + 2)) (Ring.bk 16 (t.val + 2))).1 $$ Hw0_2_2
    icases Hsp0_2_2 with ⟨Hh0_2_2, Hr0_2_2⟩
    ihave Hsp0_3_0 := (src0_3_split c fh2 (Ring.sl 3 t.val) (Ring.bk 16 t.val)).1 $$ Hw0_3_0
    icases Hsp0_3_0 with ⟨Hh0_3_0, Hr0_3_0⟩
    ihave Hsp0_3_1 := (src0_3_split c fh2 (Ring.sl 3 (t.val + 1)) (Ring.bk 16 (t.val + 1))).1 $$ Hw0_3_1
    icases Hsp0_3_1 with ⟨Hh0_3_1, Hr0_3_1⟩
    ihave Hsp0_3_2 := (src0_3_split c fh2 (Ring.sl 3 (t.val + 2)) (Ring.bk 16 (t.val + 2))).1 $$ Hw0_3_2
    icases Hsp0_3_2 with ⟨Hh0_3_2, Hr0_3_2⟩
    ihave Hsp0_4_0 := (src0_4_split c fh3 (Ring.sl 3 t.val) (Ring.bk 16 t.val)).1 $$ Hw0_4_0
    icases Hsp0_4_0 with ⟨Hh0_4_0, Hr0_4_0⟩
    ihave Hsp0_4_1 := (src0_4_split c fh3 (Ring.sl 3 (t.val + 1)) (Ring.bk 16 (t.val + 1))).1 $$ Hw0_4_1
    icases Hsp0_4_1 with ⟨Hh0_4_1, Hr0_4_1⟩
    ihave Hsp0_4_2 := (src0_4_split c fh3 (Ring.sl 3 (t.val + 2)) (Ring.bk 16 (t.val + 2))).1 $$ Hw0_4_2
    icases Hsp0_4_2 with ⟨Hh0_4_2, Hr0_4_2⟩
    obtain rfl := harg5.eq_unread hf0
    sl_exec (disch := first | sl_exact hc0 | sl_exact hc1 | sl_exact hc2)
    sl_step
    iapply Hk
    isplitl [H0]
    · iexists _; isplitr; · ipureintro; exact harg5.read_unread _
      iexact H0
    isplitl [H1]; · iexists _; iexact H1
    isplitl [H2]; · iexists _; iexact H2
    isplitl [H3]; · iexists _; iexact H3
    isplitl [H4]; · iexists _; iexact H4
    isplitl [H5]; · iexists _; iexact H5
    isplitl [Hc0_0_1 Hr0_0_1]
    · iexists _; isplitl [Hc0_0_1]; · iexact Hc0_0_1
      iexact Hr0_0_1
    isplitl [Hc0_0_2 Hr0_0_2]
    · iexists _; isplitl [Hc0_0_2]; · iexact Hc0_0_2
      iexact Hr0_0_2
    isplitl [Hc0_0_0 Hs0_0_0 Hh0_0_0 Hr0_0_0]
    · isplitl [Hc0_0_0]; · iexact Hc0_0_0
      iexists _; isplitl [Hs0_0_0]; · iexact Hs0_0_0
      iapply (src0_0_split c fh0 (Ring.sl 3 t.val) (Ring.bk 16 t.val)).2; isplitl [Hh0_0_0]; · iexact Hh0_0_0
      iexact Hr0_0_0
    isplitl [Hc0_1_1 Hr0_1_1]
    · iexists _; isplitl [Hc0_1_1]; · iexact Hc0_1_1
      iexact Hr0_1_1
    isplitl [Hc0_1_2 Hr0_1_2]
    · iexists _; isplitl [Hc0_1_2]; · iexact Hc0_1_2
      iexact Hr0_1_2
    isplitl [Hc0_1_0 Hs0_1_0 Hh0_1_0 Hr0_1_0]
    · isplitl [Hc0_1_0]; · iexact Hc0_1_0
      iexists _; isplitl [Hs0_1_0]; · iexact Hs0_1_0
      iapply (src0_1_split c fh1 (Ring.sl 3 t.val) (Ring.bk 16 t.val)).2; isplitl [Hh0_1_0]; · iexact Hh0_1_0
      iexact Hr0_1_0
    isplitl [Hc0_2_1 Hr0_2_1]
    · iexists _; isplitl [Hc0_2_1]; · iexact Hc0_2_1
      iexact Hr0_2_1
    isplitl [Hc0_2_2 Hr0_2_2]
    · iexists _; isplitl [Hc0_2_2]; · iexact Hc0_2_2
      iexact Hr0_2_2
    isplitl [Hc0_2_0 Hs0_2_0 Hh0_2_0 Hr0_2_0]
    · isplitl [Hc0_2_0]; · iexact Hc0_2_0
      iexists _; isplitl [Hs0_2_0]; · iexact Hs0_2_0
      iapply (src0_2_split c fh2 (Ring.sl 3 t.val) (Ring.bk 16 t.val)).2; isplitl [Hh0_2_0]; · iexact Hh0_2_0
      iexact Hr0_2_0
    isplitl [Hc0_3_1 Hr0_3_1]
    · iexists _; isplitl [Hc0_3_1]; · iexact Hc0_3_1
      iexact Hr0_3_1
    isplitl [Hc0_3_2 Hr0_3_2]
    · iexists _; isplitl [Hc0_3_2]; · iexact Hc0_3_2
      iexact Hr0_3_2
    isplitl [Hc0_3_0 Hs0_3_0 Hh0_3_0 Hr0_3_0]
    · isplitl [Hc0_3_0]; · iexact Hc0_3_0
      iexists _; isplitl [Hs0_3_0]; · iexact Hs0_3_0
      iapply (src0_3_split c fh2 (Ring.sl 3 t.val) (Ring.bk 16 t.val)).2; isplitl [Hh0_3_0]; · iexact Hh0_3_0
      iexact Hr0_3_0
    isplitl [Hc0_4_1 Hr0_4_1]
    · iexists _; isplitl [Hc0_4_1]; · iexact Hc0_4_1
      iexact Hr0_4_1
    isplitl [Hc0_4_2 Hr0_4_2]
    · iexists _; isplitl [Hc0_4_2]; · iexact Hc0_4_2
      iexact Hr0_4_2
    isplitl [Hc0_4_0 Hs0_4_0 Hh0_4_0 Hr0_4_0]
    · isplitl [Hc0_4_0]; · iexact Hc0_4_0
      iexists _; isplitl [Hs0_4_0]; · iexact Hs0_4_0
      iapply (src0_4_split c fh3 (Ring.sl 3 t.val) (Ring.bk 16 t.val)).2; isplitl [Hh0_4_0]; · iexact Hh0_4_0
      iexact Hr0_4_0
    iexists _; iexact HW

end Cert.Kernel5Ideal.Gen.Half

end
-- ==== Proof.GateRunB.lean ====
module

public import proofs.«01_k».proof.Proof.GateRunA

@[expose] public section

set_option maxRecDepth 16384

noncomputable section

namespace Cert.Kernel5Ideal.Gen.Half

open Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option sl_exec.stepHeartbeats 2000000 in
set_option maxHeartbeats 20000000 in
noncomputable def kernelRun0_B (c : Dev nD) (t : Fin cfg0.N) (arg5 : Memref sig .tc .vmem S1x1024 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x2048 .bf16) (harg9 : arg9.IsWhole) (arg10 : Memref sig .tc .vmem S1x1024 .f32) (harg10 : arg10.IsWhole) (hc0 : ¬cond0_0 (grid0.coords t)) (hc1 : ¬cond0_1 (grid0.coords t)) (hc2 : cond0_2 (grid0.coords t))
    (x0 : Vec F S1x1024 .f32) (xo5 : Vec F S1x1024 .f32) (fh0 : HbBuf0 (F := F) c hbM0_0) (fh1 : HbBuf0 (F := F) c hbM0_1) (fh2 : HbBuf0 (F := F) c hbM0_2) (fh3 : HbBuf0 (F := F) c hbM0_3) :
    Σ' (L1 : List (View.Piece (Elt F) S256x1024 .bf16)), Σ' (L2 : List (View.Piece (Elt F) S256x1024 .bf16)), Σ' (L3 : List (View.Piece (Elt F) S256x1024 .bf16)), Σ' (L4 : List (View.Piece (Elt F) S256x2048 .bf16)), { L5 : List (View.Piece (Elt F) S1x1024 .f32) //
      ∀ (W : Waits sig Unit) (K : PUnit → sProp 𝕄),
        iprop(owns (c : Thread nD τ) arg5 fullShare x0 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xo5 ∗ Ring.inflight (flightW0_0 c fh0) (Ring.sl 3 t.val) (Ring.bk 16 t.val) ∗ Ring.inflight (flightW0_0 c fh0) (Ring.sl 3 (t.val + 1)) (Ring.bk 16 (t.val + 1)) ∗ Ring.free (cellP0_0 c) (slotW0_0 c fh0) (Ring.sl 3 (t.val + 2)) ∗ Ring.inflight (flightW0_1 c fh1) (Ring.sl 3 t.val) (Ring.bk 16 t.val) ∗ Ring.inflight (flightW0_1 c fh1) (Ring.sl 3 (t.val + 1)) (Ring.bk 16 (t.val + 1)) ∗ Ring.free (cellP0_1 c) (slotW0_1 c fh1) (Ring.sl 3 (t.val + 2)) ∗ Ring.inflight (flightW0_2 c fh2) (Ring.sl 3 t.val) (Ring.bk 16 t.val) ∗ Ring.inflight (flightW0_2 c fh2) (Ring.sl 3 (t.val + 1)) (Ring.bk 16 (t.val + 1)) ∗ Ring.free (cellP0_2 c) (slotW0_2 c fh2) (Ring.sl 3 (t.val + 2)) ∗ Ring.inflight (flightW0_3 c fh2) (Ring.sl 3 t.val) (Ring.bk 16 t.val) ∗ Ring.inflight (flightW0_3 c fh2) (Ring.sl 3 (t.val + 1)) (Ring.bk 16 (t.val + 1)) ∗ Ring.free (cellP0_3 c) (slotW0_3 c fh2) (Ring.sl 3 (t.val + 2)) ∗ Ring.inflight (flightW0_4 c fh3) (Ring.sl 3 t.val) (Ring.bk 16 t.val) ∗ Ring.inflight (flightW0_4 c fh3) (Ring.sl 3 (t.val + 1)) (Ring.bk 16 (t.val + 1)) ∗ Ring.free (cellP0_4 c) (slotW0_4 c fh3) (Ring.sl 3 (t.val + 2)) ∗ owes (c : Thread nD τ) 0 W
            ∗ (iprop(owns (c : Thread nD τ) arg5 fullShare x0 ∗ (∃ f, arg6.view.loc (c : Thread nD τ) ↦[arg6.view.set]{fullShare} arg6.view.writes (Elt F) f L1) ∗ (∃ f, arg7.view.loc (c : Thread nD τ) ↦[arg7.view.set]{fullShare} arg7.view.writes (Elt F) f L2) ∗ (∃ f, arg8.view.loc (c : Thread nD τ) ↦[arg8.view.set]{fullShare} arg8.view.writes (Elt F) f L3) ∗ (∃ f, arg9.view.loc (c : Thread nD τ) ↦[arg9.view.set]{fullShare} arg9.view.writes (Elt F) f L4) ∗ (∃ f, arg10.view.loc (c : Thread nD τ) ↦[arg10.view.set]{fullShare} arg10.view.writes (Elt F) f L5) ∗ Ring.inflight (flightW0_0 c fh0) (Ring.sl 3 (t.val + 1)) (Ring.bk 16 (t.val + 1)) ∗ Ring.inflight (flightW0_0 c fh0) (Ring.sl 3 (t.val + 2)) (Ring.bk 16 (t.val + 2)) ∗ Ring.free (cellP0_0 c) (slotW0_0 c fh0) (Ring.sl 3 t.val) ∗ Ring.inflight (flightW0_1 c fh1) (Ring.sl 3 (t.val + 1)) (Ring.bk 16 (t.val + 1)) ∗ Ring.inflight (flightW0_1 c fh1) (Ring.sl 3 (t.val + 2)) (Ring.bk 16 (t.val + 2)) ∗ Ring.free (cellP0_1 c) (slotW0_1 c fh1) (Ring.sl 3 t.val) ∗ Ring.inflight (flightW0_2 c fh2) (Ring.sl 3 (t.val + 1)) (Ring.bk 16 (t.val + 1)) ∗ Ring.inflight (flightW0_2 c fh2) (Ring.sl 3 (t.val + 2)) (Ring.bk 16 (t.val + 2)) ∗ Ring.free (cellP0_2 c) (slotW0_2 c fh2) (Ring.sl 3 t.val) ∗ Ring.inflight (flightW0_3 c fh2) (Ring.sl 3 (t.val + 1)) (Ring.bk 16 (t.val + 1)) ∗ Ring.inflight (flightW0_3 c fh2) (Ring.sl 3 (t.val + 2)) (Ring.bk 16 (t.val + 2)) ∗ Ring.free (cellP0_3 c) (slotW0_3 c fh2) (Ring.sl 3 t.val) ∗ Ring.inflight (flightW0_4 c fh3) (Ring.sl 3 (t.val + 1)) (Ring.bk 16 (t.val + 1)) ∗ Ring.inflight (flightW0_4 c fh3) (Ring.sl 3 (t.val + 2)) (Ring.bk 16 (t.val + 2)) ∗ Ring.free (cellP0_4 c) (slotW0_4 c fh3) (Ring.sl 3 t.val) ∗ (∃ W', owes (c : Thread nD τ) 0 W')) -∗ K ⟨⟩))
          ⊢ wp frame (wpE (defs₀ (F := F)) Variants.none c none) Set.univ (cc0_gate_bwd (grid0.coords t) (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _) scM0_4 (Memref.isWhole_whole _) cc0_scratch5) K } := by
  refine ⟨?_, ?_, ?_, ?_, ?_, fun W K => ?run⟩
  case run =>
    haveI : Fact (¬cond0_0 (grid0.coords t)) := ⟨hc0⟩
    haveI : Fact (¬cond0_1 (grid0.coords t)) := ⟨hc1⟩
    haveI : Fact (cond0_2 (grid0.coords t)) := ⟨hc2⟩
    simp only [cc0_gate_bwd_eq_skeleton]; unfold cc0_gate_bwd_skel
    simp only [k0_part5_eq_skeleton, k0_part3_eq_skeleton, k0_part4_eq_skeleton, k0_part6_eq_skeleton, k0_part7_eq_skeleton, k0_part8_eq_skeleton, k0_part9_eq_skeleton, k0_part10_eq_skeleton]
    unfold owns Ring.free Ring.inflight
    iintro ⟨⟨%f0, %hf0, H0⟩, ⟨%d1, %f1, -, H1⟩, ⟨%d2, %f2, -, H2⟩, ⟨%d3, %f3, -, H3⟩, ⟨%d4, %f4, -, H4⟩, ⟨%f5, %hf5, H5⟩, ⟨%ff0_0_0, Hf0_0_0, Hrf0_0_0⟩, ⟨%ff0_0_1, Hf0_0_1, Hrf0_0_1⟩, ⟨Hc0_0_2, ⟨%fs0_0_2, Hs0_0_2, Hw0_0_2⟩⟩, ⟨%ff0_1_0, Hf0_1_0, Hrf0_1_0⟩, ⟨%ff0_1_1, Hf0_1_1, Hrf0_1_1⟩, ⟨Hc0_1_2, ⟨%fs0_1_2, Hs0_1_2, Hw0_1_2⟩⟩, ⟨%ff0_2_0, Hf0_2_0, Hrf0_2_0⟩, ⟨%ff0_2_1, Hf0_2_1, Hrf0_2_1⟩, ⟨Hc0_2_2, ⟨%fs0_2_2, Hs0_2_2, Hw0_2_2⟩⟩, ⟨%ff0_3_0, Hf0_3_0, Hrf0_3_0⟩, ⟨%ff0_3_1, Hf0_3_1, Hrf0_3_1⟩, ⟨Hc0_3_2, ⟨%fs0_3_2, Hs0_3_2, Hw0_3_2⟩⟩, ⟨%ff0_4_0, Hf0_4_0, Hrf0_4_0⟩, ⟨%ff0_4_1, Hf0_4_1, Hrf0_4_1⟩, ⟨Hc0_4_2, ⟨%fs0_4_2, Hs0_4_2, Hw0_4_2⟩⟩, HW, Hk⟩
    ihave Hsp0_0_2 := (src0_0_split c fh0 (Ring.sl 3 (t.val + 2)) (Ring.bk 16 (t.val + 2))).1 $$ Hw0_0_2
    icases Hsp0_0_2 with ⟨Hh0_0_2, Hr0_0_2⟩
    ihave Hsp0_1_2 := (src0_1_split c fh1 (Ring.sl 3 (t.val + 2)) (Ring.bk 16 (t.val + 2))).1 $$ Hw0_1_2
    icases Hsp0_1_2 with ⟨Hh0_1_2, Hr0_1_2⟩
    ihave Hsp0_2_2 := (src0_2_split c fh2 (Ring.sl 3 (t.val + 2)) (Ring.bk 16 (t.val + 2))).1 $$ Hw0_2_2
    icases Hsp0_2_2 with ⟨Hh0_2_2, Hr0_2_2⟩
    ihave Hsp0_3_2 := (src0_3_split c fh2 (Ring.sl 3 (t.val + 2)) (Ring.bk 16 (t.val + 2))).1 $$ Hw0_3_2
    icases Hsp0_3_2 with ⟨Hh0_3_2, Hr0_3_2⟩
    ihave Hsp0_4_2 := (src0_4_split c fh3 (Ring.sl 3 (t.val + 2)) (Ring.bk 16 (t.val + 2))).1 $$ Hw0_4_2
    icases Hsp0_4_2 with ⟨Hh0_4_2, Hr0_4_2⟩
    obtain rfl := harg5.eq_unread hf0; obtain rfl := harg10.eq_unread hf5
    sl_exec (disch := first | sl_exact hc0 | sl_exact hc1 | sl_exact hc2)
    sl_step
    iapply Hk
    isplitl [H0]
    · iexists _; isplitr; · ipureintro; exact harg5.read_unread _
      iexact H0
    isplitl [H1]; · iexists _; iexact H1
    isplitl [H2]; · iexists _; iexact H2
    isplitl [H3]; · iexists _; iexact H3
    isplitl [H4]; · iexists _; iexact H4
    isplitl [H5]; · iexists _; iexact H5
    isplitl [Hf0_0_1 Hrf0_0_1]
    · iexists ff0_0_1; isplitl [Hf0_0_1]; · iexact Hf0_0_1
      iexact Hrf0_0_1
    isplitl [Hc0_0_2 Hr0_0_2]
    · iexists _; isplitl [Hc0_0_2]; · iexact Hc0_0_2
      iexact Hr0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 16 t.val)).2; isplitl [Hf0_0_0_src]; · iexact Hf0_0_0_src
      iexact Hrf0_0_0
    isplitl [Hf0_1_1 Hrf0_1_1]
    · iexists ff0_1_1; isplitl [Hf0_1_1]; · iexact Hf0_1_1
      iexact Hrf0_1_1
    isplitl [Hc0_1_2 Hr0_1_2]
    · iexists _; isplitl [Hc0_1_2]; · iexact Hc0_1_2
      iexact Hr0_1_2
    isplitl [Hf0_1_0 Hf0_1_0_dst Hf0_1_0_src Hrf0_1_0]
    · isplitl [Hf0_1_0]; · iexact Hf0_1_0
      iexists _; isplitl [Hf0_1_0_dst]; · iexact Hf0_1_0_dst
      iapply (src0_1_split c fh1 (Ring.sl 3 t.val) (Ring.bk 16 t.val)).2; isplitl [Hf0_1_0_src]; · iexact Hf0_1_0_src
      iexact Hrf0_1_0
    isplitl [Hf0_2_1 Hrf0_2_1]
    · iexists ff0_2_1; isplitl [Hf0_2_1]; · iexact Hf0_2_1
      iexact Hrf0_2_1
    isplitl [Hc0_2_2 Hr0_2_2]
    · iexists _; isplitl [Hc0_2_2]; · iexact Hc0_2_2
      iexact Hr0_2_2
    isplitl [Hf0_2_0 Hf0_2_0_dst Hf0_2_0_src Hrf0_2_0]
    · isplitl [Hf0_2_0]; · iexact Hf0_2_0
      iexists _; isplitl [Hf0_2_0_dst]; · iexact Hf0_2_0_dst
      iapply (src0_2_split c fh2 (Ring.sl 3 t.val) (Ring.bk 16 t.val)).2; isplitl [Hf0_2_0_src]; · iexact Hf0_2_0_src
      iexact Hrf0_2_0
    isplitl [Hf0_3_1 Hrf0_3_1]
    · iexists ff0_3_1; isplitl [Hf0_3_1]; · iexact Hf0_3_1
      iexact Hrf0_3_1
    isplitl [Hc0_3_2 Hr0_3_2]
    · iexists _; isplitl [Hc0_3_2]; · iexact Hc0_3_2
      iexact Hr0_3_2
    isplitl [Hf0_3_0 Hf0_3_0_dst Hf0_3_0_src Hrf0_3_0]
    · isplitl [Hf0_3_0]; · iexact Hf0_3_0
      iexists _; isplitl [Hf0_3_0_dst]; · iexact Hf0_3_0_dst
      iapply (src0_3_split c fh2 (Ring.sl 3 t.val) (Ring.bk 16 t.val)).2; isplitl [Hf0_3_0_src]; · iexact Hf0_3_0_src
      iexact Hrf0_3_0
    isplitl [Hf0_4_1 Hrf0_4_1]
    · iexists ff0_4_1; isplitl [Hf0_4_1]; · iexact Hf0_4_1
      iexact Hrf0_4_1
    isplitl [Hc0_4_2 Hr0_4_2]
    · iexists _; isplitl [Hc0_4_2]; · iexact Hc0_4_2
      iexact Hr0_4_2
    isplitl [Hf0_4_0 Hf0_4_0_dst Hf0_4_0_src Hrf0_4_0]
    · isplitl [Hf0_4_0]; · iexact Hf0_4_0
      iexists _; isplitl [Hf0_4_0_dst]; · iexact Hf0_4_0_dst
      iapply (src0_4_split c fh3 (Ring.sl 3 t.val) (Ring.bk 16 t.val)).2; isplitl [Hf0_4_0_src]; · iexact Hf0_4_0_src
      iexact Hrf0_4_0
    iexists _; iexact HW

end Cert.Kernel5Ideal.Gen.Half

end
-- ==== Proof.GateRunC.lean ====
module

public import proofs.«01_k».proof.Proof.GateRunB

@[expose] public section

set_option maxRecDepth 16384

noncomputable section

namespace Cert.Kernel5Ideal.Gen.Half

open Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option sl_exec.stepHeartbeats 2000000 in
set_option maxHeartbeats 20000000 in
noncomputable def kernelRun0_C (c : Dev nD) (t : Fin cfg0.N) (arg5 : Memref sig .tc .vmem S1x1024 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x2048 .bf16) (harg9 : arg9.IsWhole) (arg10 : Memref sig .tc .vmem S1x1024 .f32) (harg10 : arg10.IsWhole) (hc0 : ¬cond0_0 (grid0.coords t)) (hc1 : ¬cond0_1 (grid0.coords t)) (hc2 : ¬cond0_2 (grid0.coords t))
    (x0 : Vec F S1x1024 .f32) (xo5 : Vec F S1x1024 .f32) (fh0 : HbBuf0 (F := F) c hbM0_0) (fh1 : HbBuf0 (F := F) c hbM0_1) (fh2 : HbBuf0 (F := F) c hbM0_2) (fh3 : HbBuf0 (F := F) c hbM0_3) :
    Σ' (L1 : List (View.Piece (Elt F) S256x1024 .bf16)), Σ' (L2 : List (View.Piece (Elt F) S256x1024 .bf16)), Σ' (L3 : List (View.Piece (Elt F) S256x1024 .bf16)), Σ' (L4 : List (View.Piece (Elt F) S256x2048 .bf16)), { L5 : List (View.Piece (Elt F) S1x1024 .f32) //
      ∀ (W : Waits sig Unit) (K : PUnit → sProp 𝕄),
        iprop(owns (c : Thread nD τ) arg5 fullShare x0 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xo5 ∗ Ring.inflight (flightW0_0 c fh0) (Ring.sl 3 t.val) (Ring.bk 16 t.val) ∗ Ring.slotAt 2 (cellP0_0 c) (slotW0_0 c fh0) (flightW0_0 c fh0) t.val 1 ∗ Ring.free (cellP0_0 c) (slotW0_0 c fh0) (Ring.sl 3 (t.val + 2)) ∗ Ring.inflight (flightW0_1 c fh1) (Ring.sl 3 t.val) (Ring.bk 16 t.val) ∗ Ring.slotAt 2 (cellP0_1 c) (slotW0_1 c fh1) (flightW0_1 c fh1) t.val 1 ∗ Ring.free (cellP0_1 c) (slotW0_1 c fh1) (Ring.sl 3 (t.val + 2)) ∗ Ring.inflight (flightW0_2 c fh2) (Ring.sl 3 t.val) (Ring.bk 16 t.val) ∗ Ring.slotAt 2 (cellP0_2 c) (slotW0_2 c fh2) (flightW0_2 c fh2) t.val 1 ∗ Ring.free (cellP0_2 c) (slotW0_2 c fh2) (Ring.sl 3 (t.val + 2)) ∗ Ring.inflight (flightW0_3 c fh2) (Ring.sl 3 t.val) (Ring.bk 16 t.val) ∗ Ring.slotAt 2 (cellP0_3 c) (slotW0_3 c fh2) (flightW0_3 c fh2) t.val 1 ∗ Ring.free (cellP0_3 c) (slotW0_3 c fh2) (Ring.sl 3 (t.val + 2)) ∗ Ring.inflight (flightW0_4 c fh3) (Ring.sl 3 t.val) (Ring.bk 16 t.val) ∗ Ring.slotAt 2 (cellP0_4 c) (slotW0_4 c fh3) (flightW0_4 c fh3) t.val 1 ∗ Ring.free (cellP0_4 c) (slotW0_4 c fh3) (Ring.sl 3 (t.val + 2)) ∗ owes (c : Thread nD τ) 0 W
            ∗ (iprop(owns (c : Thread nD τ) arg5 fullShare x0 ∗ (∃ f, arg6.view.loc (c : Thread nD τ) ↦[arg6.view.set]{fullShare} arg6.view.writes (Elt F) f L1) ∗ (∃ f, arg7.view.loc (c : Thread nD τ) ↦[arg7.view.set]{fullShare} arg7.view.writes (Elt F) f L2) ∗ (∃ f, arg8.view.loc (c : Thread nD τ) ↦[arg8.view.set]{fullShare} arg8.view.writes (Elt F) f L3) ∗ (∃ f, arg9.view.loc (c : Thread nD τ) ↦[arg9.view.set]{fullShare} arg9.view.writes (Elt F) f L4) ∗ (∃ f, arg10.view.loc (c : Thread nD τ) ↦[arg10.view.set]{fullShare} arg10.view.writes (Elt F) f L5) ∗ Ring.slotAt 2 (cellP0_0 c) (slotW0_0 c fh0) (flightW0_0 c fh0) t.val 1 ∗ Ring.free (cellP0_0 c) (slotW0_0 c fh0) (Ring.sl 3 (t.val + 2)) ∗ Ring.free (cellP0_0 c) (slotW0_0 c fh0) (Ring.sl 3 t.val) ∗ Ring.slotAt 2 (cellP0_1 c) (slotW0_1 c fh1) (flightW0_1 c fh1) t.val 1 ∗ Ring.free (cellP0_1 c) (slotW0_1 c fh1) (Ring.sl 3 (t.val + 2)) ∗ Ring.free (cellP0_1 c) (slotW0_1 c fh1) (Ring.sl 3 t.val) ∗ Ring.slotAt 2 (cellP0_2 c) (slotW0_2 c fh2) (flightW0_2 c fh2) t.val 1 ∗ Ring.free (cellP0_2 c) (slotW0_2 c fh2) (Ring.sl 3 (t.val + 2)) ∗ Ring.free (cellP0_2 c) (slotW0_2 c fh2) (Ring.sl 3 t.val) ∗ Ring.slotAt 2 (cellP0_3 c) (slotW0_3 c fh2) (flightW0_3 c fh2) t.val 1 ∗ Ring.free (cellP0_3 c) (slotW0_3 c fh2) (Ring.sl 3 (t.val + 2)) ∗ Ring.free (cellP0_3 c) (slotW0_3 c fh2) (Ring.sl 3 t.val) ∗ Ring.slotAt 2 (cellP0_4 c) (slotW0_4 c fh3) (flightW0_4 c fh3) t.val 1 ∗ Ring.free (cellP0_4 c) (slotW0_4 c fh3) (Ring.sl 3 (t.val + 2)) ∗ Ring.free (cellP0_4 c) (slotW0_4 c fh3) (Ring.sl 3 t.val) ∗ (∃ W', owes (c : Thread nD τ) 0 W')) -∗ K ⟨⟩))
          ⊢ wp frame (wpE (defs₀ (F := F)) Variants.none c none) Set.univ (cc0_gate_bwd (grid0.coords t) (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _) scM0_4 (Memref.isWhole_whole _) cc0_scratch5) K } := by
  refine ⟨?_, ?_, ?_, ?_, ?_, fun W K => ?run⟩
  case run =>
    haveI : Fact (¬cond0_0 (grid0.coords t)) := ⟨hc0⟩
    haveI : Fact (¬cond0_1 (grid0.coords t)) := ⟨hc1⟩
    haveI : Fact (¬cond0_2 (grid0.coords t)) := ⟨hc2⟩
    simp only [cc0_gate_bwd_eq_skeleton]; unfold cc0_gate_bwd_skel
    simp only [k0_part5_eq_skeleton, k0_part6_eq_skeleton, k0_part7_eq_skeleton, k0_part8_eq_skeleton, k0_part9_eq_skeleton, k0_part10_eq_skeleton]
    unfold owns Ring.free Ring.inflight
    iintro ⟨⟨%f0, %hf0, H0⟩, ⟨%d1, %f1, -, H1⟩, ⟨%d2, %f2, -, H2⟩, ⟨%d3, %f3, -, H3⟩, ⟨%d4, %f4, -, H4⟩, ⟨%f5, %hf5, H5⟩, ⟨%ff0_0_0, Hf0_0_0, Hrf0_0_0⟩, Hro0_0_1, ⟨Hc0_0_2, ⟨%fs0_0_2, Hs0_0_2, Hw0_0_2⟩⟩, ⟨%ff0_1_0, Hf0_1_0, Hrf0_1_0⟩, Hro0_1_1, ⟨Hc0_1_2, ⟨%fs0_1_2, Hs0_1_2, Hw0_1_2⟩⟩, ⟨%ff0_2_0, Hf0_2_0, Hrf0_2_0⟩, Hro0_2_1, ⟨Hc0_2_2, ⟨%fs0_2_2, Hs0_2_2, Hw0_2_2⟩⟩, ⟨%ff0_3_0, Hf0_3_0, Hrf0_3_0⟩, Hro0_3_1, ⟨Hc0_3_2, ⟨%fs0_3_2, Hs0_3_2, Hw0_3_2⟩⟩, ⟨%ff0_4_0, Hf0_4_0, Hrf0_4_0⟩, Hro0_4_1, ⟨Hc0_4_2, ⟨%fs0_4_2, Hs0_4_2, Hw0_4_2⟩⟩, HW, Hk⟩
    obtain rfl := harg5.eq_unread hf0; obtain rfl := harg10.eq_unread hf5
    sl_exec (disch := first | sl_exact hc0 | sl_exact hc1 | sl_exact hc2)
    sl_step
    iapply Hk
    isplitl [H0]
    · iexists _; isplitr; · ipureintro; exact harg5.read_unread _
      iexact H0
    isplitl [H1]; · iexists _; iexact H1
    isplitl [H2]; · iexists _; iexact H2
    isplitl [H3]; · iexists _; iexact H3
    isplitl [H4]; · iexists _; iexact H4
    isplitl [H5]; · iexists _; iexact H5
    isplitl [Hro0_0_1]; · iexact Hro0_0_1
    isplitl [Hc0_0_2 Hs0_0_2 Hw0_0_2]
    · isplitl [Hc0_0_2]; · iexact Hc0_0_2
      iexists _; isplitl [Hs0_0_2]; · iexact Hs0_0_2
      iexact Hw0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 16 t.val)).2; isplitl [Hf0_0_0_src]; · iexact Hf0_0_0_src
      iexact Hrf0_0_0
    isplitl [Hro0_1_1]; · iexact Hro0_1_1
    isplitl [Hc0_1_2 Hs0_1_2 Hw0_1_2]
    · isplitl [Hc0_1_2]; · iexact Hc0_1_2
      iexists _; isplitl [Hs0_1_2]; · iexact Hs0_1_2
      iexact Hw0_1_2
    isplitl [Hf0_1_0 Hf0_1_0_dst Hf0_1_0_src Hrf0_1_0]
    · isplitl [Hf0_1_0]; · iexact Hf0_1_0
      iexists _; isplitl [Hf0_1_0_dst]; · iexact Hf0_1_0_dst
      iapply (src0_1_split c fh1 (Ring.sl 3 t.val) (Ring.bk 16 t.val)).2; isplitl [Hf0_1_0_src]; · iexact Hf0_1_0_src
      iexact Hrf0_1_0
    isplitl [Hro0_2_1]; · iexact Hro0_2_1
    isplitl [Hc0_2_2 Hs0_2_2 Hw0_2_2]
    · isplitl [Hc0_2_2]; · iexact Hc0_2_2
      iexists _; isplitl [Hs0_2_2]; · iexact Hs0_2_2
      iexact Hw0_2_2
    isplitl [Hf0_2_0 Hf0_2_0_dst Hf0_2_0_src Hrf0_2_0]
    · isplitl [Hf0_2_0]; · iexact Hf0_2_0
      iexists _; isplitl [Hf0_2_0_dst]; · iexact Hf0_2_0_dst
      iapply (src0_2_split c fh2 (Ring.sl 3 t.val) (Ring.bk 16 t.val)).2; isplitl [Hf0_2_0_src]; · iexact Hf0_2_0_src
      iexact Hrf0_2_0
    isplitl [Hro0_3_1]; · iexact Hro0_3_1
    isplitl [Hc0_3_2 Hs0_3_2 Hw0_3_2]
    · isplitl [Hc0_3_2]; · iexact Hc0_3_2
      iexists _; isplitl [Hs0_3_2]; · iexact Hs0_3_2
      iexact Hw0_3_2
    isplitl [Hf0_3_0 Hf0_3_0_dst Hf0_3_0_src Hrf0_3_0]
    · isplitl [Hf0_3_0]; · iexact Hf0_3_0
      iexists _; isplitl [Hf0_3_0_dst]; · iexact Hf0_3_0_dst
      iapply (src0_3_split c fh2 (Ring.sl 3 t.val) (Ring.bk 16 t.val)).2; isplitl [Hf0_3_0_src]; · iexact Hf0_3_0_src
      iexact Hrf0_3_0
    isplitl [Hro0_4_1]; · iexact Hro0_4_1
    isplitl [Hc0_4_2 Hs0_4_2 Hw0_4_2]
    · isplitl [Hc0_4_2]; · iexact Hc0_4_2
      iexists _; isplitl [Hs0_4_2]; · iexact Hs0_4_2
      iexact Hw0_4_2
    isplitl [Hf0_4_0 Hf0_4_0_dst Hf0_4_0_src Hrf0_4_0]
    · isplitl [Hf0_4_0]; · iexact Hf0_4_0
      iexists _; isplitl [Hf0_4_0_dst]; · iexact Hf0_4_0_dst
      iapply (src0_4_split c fh3 (Ring.sl 3 t.val) (Ring.bk 16 t.val)).2; isplitl [Hf0_4_0_src]; · iexact Hf0_4_0_src
      iexact Hrf0_4_0
    iexists _; iexact HW

end Cert.Kernel5Ideal.Gen.Half

end
-- ==== Proof.GateFrame.lean ====
module

public import proofs.«01_k».proof.Proof.GateRunC
public import Idealize.ShloMosaic.Lib.Claim

@[expose] public section

set_option maxRecDepth 16384

noncomputable section

namespace Cert.Kernel5Ideal.Gen.Half

open Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
section

variable (c : Dev nD) (t : Fin cfg0.N) (arg5 : Memref sig .tc .vmem S1x1024 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x2048 .bf16) (harg9 : arg9.IsWhole) (arg10 : Memref sig .tc .vmem S1x1024 .f32) (harg10 : arg10.IsWhole)

section

variable (hc0 : cond0_0 (grid0.coords t)) (hc1 : cond0_1 (grid0.coords t)) (hc2 : cond0_2 (grid0.coords t))
    (x0 : Vec F S1x1024 .f32) (fh0 : HbBuf0 (F := F) c hbM0_0) (fh1 : HbBuf0 (F := F) c hbM0_1) (fh2 : HbBuf0 (F := F) c hbM0_2) (fh3 : HbBuf0 (F := F) c hbM0_3)

theorem cover0_A_1 (y : S256x1024.Idx) :
    ∃ pc ∈ (kernelRun0_A c t arg5 harg5 arg6 harg6 arg7 harg7 arg8 harg8 arg9 harg9 arg10 harg10 hc0 hc1 hc2 x0 fh0 fh1 fh2 fh3).1, y ∈ pc.1.set :=
  View.cover_of_tiledL (kernelRun0_A c t arg5 harg5 arg6 harg6 arg7 harg7 arg8 harg8 arg9 harg9 arg10 harg10 hc0 hc1 hc2 x0 fh0 fh1 fh2 fh3).1 S256x1024.size (by sl_kernel_rfl) y

def out0_A_1 : Vec F S256x1024 .bf16 :=
  VO0_1.read (Elt F) (VO0_1.writes (Elt F) VO0_1.junk (kernelRun0_A c t arg5 harg5 arg6 harg6 arg7 harg7 arg8 harg8 arg9 harg9 arg10 harg10 hc0 hc1 hc2 x0 fh0 fh1 fh2 fh3).1)

theorem cover0_A_2 (y : S256x1024.Idx) :
    ∃ pc ∈ (kernelRun0_A c t arg5 harg5 arg6 harg6 arg7 harg7 arg8 harg8 arg9 harg9 arg10 harg10 hc0 hc1 hc2 x0 fh0 fh1 fh2 fh3).2.1, y ∈ pc.1.set :=
  View.cover_of_tiledL (kernelRun0_A c t arg5 harg5 arg6 harg6 arg7 harg7 arg8 harg8 arg9 harg9 arg10 harg10 hc0 hc1 hc2 x0 fh0 fh1 fh2 fh3).2.1 S256x1024.size (by sl_kernel_rfl) y

def out0_A_2 : Vec F S256x1024 .bf16 :=
  VO0_2.read (Elt F) (VO0_2.writes (Elt F) VO0_2.junk (kernelRun0_A c t arg5 harg5 arg6 harg6 arg7 harg7 arg8 harg8 arg9 harg9 arg10 harg10 hc0 hc1 hc2 x0 fh0 fh1 fh2 fh3).2.1)

theorem cover0_A_3 (y : S256x1024.Idx) :
    ∃ pc ∈ (kernelRun0_A c t arg5 harg5 arg6 harg6 arg7 harg7 arg8 harg8 arg9 harg9 arg10 harg10 hc0 hc1 hc2 x0 fh0 fh1 fh2 fh3).2.2.1, y ∈ pc.1.set :=
  View.cover_of_tiledL (kernelRun0_A c t arg5 harg5 arg6 harg6 arg7 harg7 arg8 harg8 arg9 harg9 arg10 harg10 hc0 hc1 hc2 x0 fh0 fh1 fh2 fh3).2.2.1 S256x1024.size (by sl_kernel_rfl) y

def out0_A_3 : Vec F S256x1024 .bf16 :=
  VO0_3.read (Elt F) (VO0_3.writes (Elt F) VO0_3.junk (kernelRun0_A c t arg5 harg5 arg6 harg6 arg7 harg7 arg8 harg8 arg9 harg9 arg10 harg10 hc0 hc1 hc2 x0 fh0 fh1 fh2 fh3).2.2.1)

theorem cover0_A_4 (y : S256x2048.Idx) :
    ∃ pc ∈ (kernelRun0_A c t arg5 harg5 arg6 harg6 arg7 harg7 arg8 harg8 arg9 harg9 arg10 harg10 hc0 hc1 hc2 x0 fh0 fh1 fh2 fh3).2.2.2.1, y ∈ pc.1.set :=
  View.cover_of_tiledL (kernelRun0_A c t arg5 harg5 arg6 harg6 arg7 harg7 arg8 harg8 arg9 harg9 arg10 harg10 hc0 hc1 hc2 x0 fh0 fh1 fh2 fh3).2.2.2.1 S256x1024.size (by sl_kernel_rfl) y

def out0_A_4 : Vec F S256x2048 .bf16 :=
  VO0_4.read (Elt F) (VO0_4.writes (Elt F) VO0_4.junk (kernelRun0_A c t arg5 harg5 arg6 harg6 arg7 harg7 arg8 harg8 arg9 harg9 arg10 harg10 hc0 hc1 hc2 x0 fh0 fh1 fh2 fh3).2.2.2.1)

theorem cover0_A_5 (y : S1x1024.Idx) :
    ∃ pc ∈ (kernelRun0_A c t arg5 harg5 arg6 harg6 arg7 harg7 arg8 harg8 arg9 harg9 arg10 harg10 hc0 hc1 hc2 x0 fh0 fh1 fh2 fh3).2.2.2.2.1, y ∈ pc.1.set :=
  View.cover_of_tiledL (kernelRun0_A c t arg5 harg5 arg6 harg6 arg7 harg7 arg8 harg8 arg9 harg9 arg10 harg10 hc0 hc1 hc2 x0 fh0 fh1 fh2 fh3).2.2.2.2.1 S1x1024.size (by sl_kernel_rfl) y

def out0_A_5 : Vec F S1x1024 .f32 :=
  VO0_5.read (Elt F) (VO0_5.writes (Elt F) VO0_5.junk (kernelRun0_A c t arg5 harg5 arg6 harg6 arg7 harg7 arg8 harg8 arg9 harg9 arg10 harg10 hc0 hc1 hc2 x0 fh0 fh1 fh2 fh3).2.2.2.2.1)

def outs0_A : Vec F S256x1024 .bf16 × Vec F S256x1024 .bf16 × Vec F S256x1024 .bf16 × Vec F S256x2048 .bf16 × Vec F S1x1024 .f32 :=
  (out0_A_1 c t arg5 harg5 arg6 harg6 arg7 harg7 arg8 harg8 arg9 harg9 arg10 harg10 hc0 hc1 hc2 x0 fh0 fh1 fh2 fh3, out0_A_2 c t arg5 harg5 arg6 harg6 arg7 harg7 arg8 harg8 arg9 harg9 arg10 harg10 hc0 hc1 hc2 x0 fh0 fh1 fh2 fh3, out0_A_3 c t arg5 harg5 arg6 harg6 arg7 harg7 arg8 harg8 arg9 harg9 arg10 harg10 hc0 hc1 hc2 x0 fh0 fh1 fh2 fh3, out0_A_4 c t arg5 harg5 arg6 harg6 arg7 harg7 arg8 harg8 arg9 harg9 arg10 harg10 hc0 hc1 hc2 x0 fh0 fh1 fh2 fh3, out0_A_5 c t arg5 harg5 arg6 harg6 arg7 harg7 arg8 harg8 arg9 harg9 arg10 harg10 hc0 hc1 hc2 x0 fh0 fh1 fh2 fh3)

end

section

variable (hc0 : ¬cond0_0 (grid0.coords t)) (hc1 : ¬cond0_1 (grid0.coords t)) (hc2 : cond0_2 (grid0.coords t))
    (x0 : Vec F S1x1024 .f32) (xo5 : Vec F S1x1024 .f32) (fh0 : HbBuf0 (F := F) c hbM0_0) (fh1 : HbBuf0 (F := F) c hbM0_1) (fh2 : HbBuf0 (F := F) c hbM0_2) (fh3 : HbBuf0 (F := F) c hbM0_3)

theorem cover0_B_1 (y : S256x1024.Idx) :
    ∃ pc ∈ (kernelRun0_B c t arg5 harg5 arg6 harg6 arg7 harg7 arg8 harg8 arg9 harg9 arg10 harg10 hc0 hc1 hc2 x0 xo5 fh0 fh1 fh2 fh3).1, y ∈ pc.1.set :=
  View.cover_of_tiledL (kernelRun0_B c t arg5 harg5 arg6 harg6 arg7 harg7 arg8 harg8 arg9 harg9 arg10 harg10 hc0 hc1 hc2 x0 xo5 fh0 fh1 fh2 fh3).1 S256x1024.size (by sl_kernel_rfl) y

def out0_B_1 : Vec F S256x1024 .bf16 :=
  VO0_1.read (Elt F) (VO0_1.writes (Elt F) VO0_1.junk (kernelRun0_B c t arg5 harg5 arg6 harg6 arg7 harg7 arg8 harg8 arg9 harg9 arg10 harg10 hc0 hc1 hc2 x0 xo5 fh0 fh1 fh2 fh3).1)

theorem cover0_B_2 (y : S256x1024.Idx) :
    ∃ pc ∈ (kernelRun0_B c t arg5 harg5 arg6 harg6 arg7 harg7 arg8 harg8 arg9 harg9 arg10 harg10 hc0 hc1 hc2 x0 xo5 fh0 fh1 fh2 fh3).2.1, y ∈ pc.1.set :=
  View.cover_of_tiledL (kernelRun0_B c t arg5 harg5 arg6 harg6 arg7 harg7 arg8 harg8 arg9 harg9 arg10 harg10 hc0 hc1 hc2 x0 xo5 fh0 fh1 fh2 fh3).2.1 S256x1024.size (by sl_kernel_rfl) y

def out0_B_2 : Vec F S256x1024 .bf16 :=
  VO0_2.read (Elt F) (VO0_2.writes (Elt F) VO0_2.junk (kernelRun0_B c t arg5 harg5 arg6 harg6 arg7 harg7 arg8 harg8 arg9 harg9 arg10 harg10 hc0 hc1 hc2 x0 xo5 fh0 fh1 fh2 fh3).2.1)

theorem cover0_B_3 (y : S256x1024.Idx) :
    ∃ pc ∈ (kernelRun0_B c t arg5 harg5 arg6 harg6 arg7 harg7 arg8 harg8 arg9 harg9 arg10 harg10 hc0 hc1 hc2 x0 xo5 fh0 fh1 fh2 fh3).2.2.1, y ∈ pc.1.set :=
  View.cover_of_tiledL (kernelRun0_B c t arg5 harg5 arg6 harg6 arg7 harg7 arg8 harg8 arg9 harg9 arg10 harg10 hc0 hc1 hc2 x0 xo5 fh0 fh1 fh2 fh3).2.2.1 S256x1024.size (by sl_kernel_rfl) y

def out0_B_3 : Vec F S256x1024 .bf16 :=
  VO0_3.read (Elt F) (VO0_3.writes (Elt F) VO0_3.junk (kernelRun0_B c t arg5 harg5 arg6 harg6 arg7 harg7 arg8 harg8 arg9 harg9 arg10 harg10 hc0 hc1 hc2 x0 xo5 fh0 fh1 fh2 fh3).2.2.1)

theorem cover0_B_4 (y : S256x2048.Idx) :
    ∃ pc ∈ (kernelRun0_B c t arg5 harg5 arg6 harg6 arg7 harg7 arg8 harg8 arg9 harg9 arg10 harg10 hc0 hc1 hc2 x0 xo5 fh0 fh1 fh2 fh3).2.2.2.1, y ∈ pc.1.set :=
  View.cover_of_tiledL (kernelRun0_B c t arg5 harg5 arg6 harg6 arg7 harg7 arg8 harg8 arg9 harg9 arg10 harg10 hc0 hc1 hc2 x0 xo5 fh0 fh1 fh2 fh3).2.2.2.1 S256x1024.size (by sl_kernel_rfl) y

def out0_B_4 : Vec F S256x2048 .bf16 :=
  VO0_4.read (Elt F) (VO0_4.writes (Elt F) VO0_4.junk (kernelRun0_B c t arg5 harg5 arg6 harg6 arg7 harg7 arg8 harg8 arg9 harg9 arg10 harg10 hc0 hc1 hc2 x0 xo5 fh0 fh1 fh2 fh3).2.2.2.1)

theorem cover0_B_5 (y : S1x1024.Idx) :
    ∃ pc ∈ (kernelRun0_B c t arg5 harg5 arg6 harg6 arg7 harg7 arg8 harg8 arg9 harg9 arg10 harg10 hc0 hc1 hc2 x0 xo5 fh0 fh1 fh2 fh3).2.2.2.2.1, y ∈ pc.1.set :=
  View.cover_of_tiledL (kernelRun0_B c t arg5 harg5 arg6 harg6 arg7 harg7 arg8 harg8 arg9 harg9 arg10 harg10 hc0 hc1 hc2 x0 xo5 fh0 fh1 fh2 fh3).2.2.2.2.1 S1x1024.size (by sl_kernel_rfl) y

def out0_B_5 : Vec F S1x1024 .f32 :=
  VO0_5.read (Elt F) (VO0_5.writes (Elt F) VO0_5.junk (kernelRun0_B c t arg5 harg5 arg6 harg6 arg7 harg7 arg8 harg8 arg9 harg9 arg10 harg10 hc0 hc1 hc2 x0 xo5 fh0 fh1 fh2 fh3).2.2.2.2.1)

def outs0_B : Vec F S256x1024 .bf16 × Vec F S256x1024 .bf16 × Vec F S256x1024 .bf16 × Vec F S256x2048 .bf16 × Vec F S1x1024 .f32 :=
  (out0_B_1 c t arg5 harg5 arg6 harg6 arg7 harg7 arg8 harg8 arg9 harg9 arg10 harg10 hc0 hc1 hc2 x0 xo5 fh0 fh1 fh2 fh3, out0_B_2 c t arg5 harg5 arg6 harg6 arg7 harg7 arg8 harg8 arg9 harg9 arg10 harg10 hc0 hc1 hc2 x0 xo5 fh0 fh1 fh2 fh3, out0_B_3 c t arg5 harg5 arg6 harg6 arg7 harg7 arg8 harg8 arg9 harg9 arg10 harg10 hc0 hc1 hc2 x0 xo5 fh0 fh1 fh2 fh3, out0_B_4 c t arg5 harg5 arg6 harg6 arg7 harg7 arg8 harg8 arg9 harg9 arg10 harg10 hc0 hc1 hc2 x0 xo5 fh0 fh1 fh2 fh3, out0_B_5 c t arg5 harg5 arg6 harg6 arg7 harg7 arg8 harg8 arg9 harg9 arg10 harg10 hc0 hc1 hc2 x0 xo5 fh0 fh1 fh2 fh3)

end

section

variable (hc0 : ¬cond0_0 (grid0.coords t)) (hc1 : ¬cond0_1 (grid0.coords t)) (hc2 : ¬cond0_2 (grid0.coords t))
    (x0 : Vec F S1x1024 .f32) (xo5 : Vec F S1x1024 .f32) (fh0 : HbBuf0 (F := F) c hbM0_0) (fh1 : HbBuf0 (F := F) c hbM0_1) (fh2 : HbBuf0 (F := F) c hbM0_2) (fh3 : HbBuf0 (F := F) c hbM0_3)

theorem cover0_C_1 (y : S256x1024.Idx) :
    ∃ pc ∈ (kernelRun0_C c t arg5 harg5 arg6 harg6 arg7 harg7 arg8 harg8 arg9 harg9 arg10 harg10 hc0 hc1 hc2 x0 xo5 fh0 fh1 fh2 fh3).1, y ∈ pc.1.set :=
  View.cover_of_tiledL (kernelRun0_C c t arg5 harg5 arg6 harg6 arg7 harg7 arg8 harg8 arg9 harg9 arg10 harg10 hc0 hc1 hc2 x0 xo5 fh0 fh1 fh2 fh3).1 S256x1024.size (by sl_kernel_rfl) y

def out0_C_1 : Vec F S256x1024 .bf16 :=
  VO0_1.read (Elt F) (VO0_1.writes (Elt F) VO0_1.junk (kernelRun0_C c t arg5 harg5 arg6 harg6 arg7 harg7 arg8 harg8 arg9 harg9 arg10 harg10 hc0 hc1 hc2 x0 xo5 fh0 fh1 fh2 fh3).1)

theorem cover0_C_2 (y : S256x1024.Idx) :
    ∃ pc ∈ (kernelRun0_C c t arg5 harg5 arg6 harg6 arg7 harg7 arg8 harg8 arg9 harg9 arg10 harg10 hc0 hc1 hc2 x0 xo5 fh0 fh1 fh2 fh3).2.1, y ∈ pc.1.set :=
  View.cover_of_tiledL (kernelRun0_C c t arg5 harg5 arg6 harg6 arg7 harg7 arg8 harg8 arg9 harg9 arg10 harg10 hc0 hc1 hc2 x0 xo5 fh0 fh1 fh2 fh3).2.1 S256x1024.size (by sl_kernel_rfl) y

def out0_C_2 : Vec F S256x1024 .bf16 :=
  VO0_2.read (Elt F) (VO0_2.writes (Elt F) VO0_2.junk (kernelRun0_C c t arg5 harg5 arg6 harg6 arg7 harg7 arg8 harg8 arg9 harg9 arg10 harg10 hc0 hc1 hc2 x0 xo5 fh0 fh1 fh2 fh3).2.1)

theorem cover0_C_3 (y : S256x1024.Idx) :
    ∃ pc ∈ (kernelRun0_C c t arg5 harg5 arg6 harg6 arg7 harg7 arg8 harg8 arg9 harg9 arg10 harg10 hc0 hc1 hc2 x0 xo5 fh0 fh1 fh2 fh3).2.2.1, y ∈ pc.1.set :=
  View.cover_of_tiledL (kernelRun0_C c t arg5 harg5 arg6 harg6 arg7 harg7 arg8 harg8 arg9 harg9 arg10 harg10 hc0 hc1 hc2 x0 xo5 fh0 fh1 fh2 fh3).2.2.1 S256x1024.size (by sl_kernel_rfl) y

def out0_C_3 : Vec F S256x1024 .bf16 :=
  VO0_3.read (Elt F) (VO0_3.writes (Elt F) VO0_3.junk (kernelRun0_C c t arg5 harg5 arg6 harg6 arg7 harg7 arg8 harg8 arg9 harg9 arg10 harg10 hc0 hc1 hc2 x0 xo5 fh0 fh1 fh2 fh3).2.2.1)

theorem cover0_C_4 (y : S256x2048.Idx) :
    ∃ pc ∈ (kernelRun0_C c t arg5 harg5 arg6 harg6 arg7 harg7 arg8 harg8 arg9 harg9 arg10 harg10 hc0 hc1 hc2 x0 xo5 fh0 fh1 fh2 fh3).2.2.2.1, y ∈ pc.1.set :=
  View.cover_of_tiledL (kernelRun0_C c t arg5 harg5 arg6 harg6 arg7 harg7 arg8 harg8 arg9 harg9 arg10 harg10 hc0 hc1 hc2 x0 xo5 fh0 fh1 fh2 fh3).2.2.2.1 S256x1024.size (by sl_kernel_rfl) y

def out0_C_4 : Vec F S256x2048 .bf16 :=
  VO0_4.read (Elt F) (VO0_4.writes (Elt F) VO0_4.junk (kernelRun0_C c t arg5 harg5 arg6 harg6 arg7 harg7 arg8 harg8 arg9 harg9 arg10 harg10 hc0 hc1 hc2 x0 xo5 fh0 fh1 fh2 fh3).2.2.2.1)

theorem cover0_C_5 (y : S1x1024.Idx) :
    ∃ pc ∈ (kernelRun0_C c t arg5 harg5 arg6 harg6 arg7 harg7 arg8 harg8 arg9 harg9 arg10 harg10 hc0 hc1 hc2 x0 xo5 fh0 fh1 fh2 fh3).2.2.2.2.1, y ∈ pc.1.set :=
  View.cover_of_tiledL (kernelRun0_C c t arg5 harg5 arg6 harg6 arg7 harg7 arg8 harg8 arg9 harg9 arg10 harg10 hc0 hc1 hc2 x0 xo5 fh0 fh1 fh2 fh3).2.2.2.2.1 S1x1024.size (by sl_kernel_rfl) y

def out0_C_5 : Vec F S1x1024 .f32 :=
  VO0_5.read (Elt F) (VO0_5.writes (Elt F) VO0_5.junk (kernelRun0_C c t arg5 harg5 arg6 harg6 arg7 harg7 arg8 harg8 arg9 harg9 arg10 harg10 hc0 hc1 hc2 x0 xo5 fh0 fh1 fh2 fh3).2.2.2.2.1)

def outs0_C : Vec F S256x1024 .bf16 × Vec F S256x1024 .bf16 × Vec F S256x1024 .bf16 × Vec F S256x2048 .bf16 × Vec F S1x1024 .f32 :=
  (out0_C_1 c t arg5 harg5 arg6 harg6 arg7 harg7 arg8 harg8 arg9 harg9 arg10 harg10 hc0 hc1 hc2 x0 xo5 fh0 fh1 fh2 fh3, out0_C_2 c t arg5 harg5 arg6 harg6 arg7 harg7 arg8 harg8 arg9 harg9 arg10 harg10 hc0 hc1 hc2 x0 xo5 fh0 fh1 fh2 fh3, out0_C_3 c t arg5 harg5 arg6 harg6 arg7 harg7 arg8 harg8 arg9 harg9 arg10 harg10 hc0 hc1 hc2 x0 xo5 fh0 fh1 fh2 fh3, out0_C_4 c t arg5 harg5 arg6 harg6 arg7 harg7 arg8 harg8 arg9 harg9 arg10 harg10 hc0 hc1 hc2 x0 xo5 fh0 fh1 fh2 fh3, out0_C_5 c t arg5 harg5 arg6 harg6 arg7 harg7 arg8 harg8 arg9 harg9 arg10 harg10 hc0 hc1 hc2 x0 xo5 fh0 fh1 fh2 fh3)

end

end

def outsAt0 (c : Dev nD) : (n : ℕ) → n < cfg0.N → Vec F S256x1024 .bf16 × Vec F S256x1024 .bf16 × Vec F S256x1024 .bf16 × Vec F S256x2048 .bf16 × Vec F S1x1024 .f32
  | 0, hn => outs0_A c ⟨0, hn⟩ (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) ((hcond0_1 ⟨0, hn⟩).mpr (Nat.zero_mod _)) ((hcond0_2 ⟨0, hn⟩).mpr (by (try dsimp only); omega)) (iblk m c 0 ⟨0, hn⟩) (V m c main_arg0) (V m c main_arg1) (V m c main_arg2) (V m c main_arg3)
  | n + 1, hn =>
    if h0 : (n + 1) % 16 = 0 then
      if h1 : (n + 1) % 16 = 0 then
        if h2 : (n + 1) < 14 then
          outs0_A c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) ((hcond0_1 ⟨n + 1, hn⟩).mpr h1) ((hcond0_2 ⟨n + 1, hn⟩).mpr h2) (iblk m c 0 ⟨n + 1, hn⟩) (V m c main_arg0) (V m c main_arg1) (V m c main_arg2) (V m c main_arg3)
        else
          False.elim (by have hN : n + 1 < 16 := lt_of_lt_of_eq hn (show cfg0.N = 16 from N_0); omega)
      else
        False.elim (by have hN : n + 1 < 16 := lt_of_lt_of_eq hn (show cfg0.N = 16 from N_0); omega)
    else
      if h1 : (n + 1) % 16 = 0 then
        False.elim (by have hN : n + 1 < 16 := lt_of_lt_of_eq hn (show cfg0.N = 16 from N_0); omega)
      else
        if h2 : (n + 1) < 14 then
          outs0_B c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (outsAt0 c n (Nat.lt_of_succ_lt hn)).2.2.2.2 (V m c main_arg0) (V m c main_arg1) (V m c main_arg2) (V m c main_arg3)
        else
          outs0_C c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (outsAt0 c n (Nat.lt_of_succ_lt hn)).2.2.2.2 (V m c main_arg0) (V m c main_arg1) (V m c main_arg2) (V m c main_arg3)

theorem outsAt0_A (c : Dev nD) (t : Fin cfg0.N) (h0 : t.val % 16 = 0) (h1 : t.val % 16 = 0) (h2 : t.val < 14) :
    outsAt0 m c t.val t.isLt = outs0_A c t (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) ((hcond0_1 t).mpr h1) ((hcond0_2 t).mpr h2) (iblk m c 0 t) (V m c main_arg0) (V m c main_arg1) (V m c main_arg2) (V m c main_arg3) := by
  obtain ⟨n, hn⟩ := t
  cases n with
  | zero => exact rfl
  | succ n => exact (dif_pos h0).trans ((dif_pos h1).trans ((dif_pos h2).trans rfl))

theorem outsAt0_B (c : Dev nD) (t : Fin cfg0.N) (h0 : ¬t.val % 16 = 0) (h1 : ¬t.val % 16 = 0) (h2 : t.val < 14) :
    outsAt0 m c t.val t.isLt = outs0_B c t (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (fun h => h1 ((hcond0_1 t).mp h)) ((hcond0_2 t).mpr h2) (iblk m c 0 t) (outsAt0 m c (t.val - 1) (Nat.lt_of_le_of_lt (Nat.sub_le _ _) t.isLt)).2.2.2.2 (V m c main_arg0) (V m c main_arg1) (V m c main_arg2) (V m c main_arg3) := by
  obtain ⟨n, hn⟩ := t
  cases n with
  | zero => exact (by exfalso; (try dsimp only at h0); exact absurd (Nat.zero_mod _) h0)
  | succ n => exact (dif_neg h0).trans ((dif_neg h1).trans ((dif_pos h2).trans rfl))

theorem outsAt0_C (c : Dev nD) (t : Fin cfg0.N) (h0 : ¬t.val % 16 = 0) (h1 : ¬t.val % 16 = 0) (h2 : ¬t.val < 14) :
    outsAt0 m c t.val t.isLt = outs0_C c t (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (fun h => h1 ((hcond0_1 t).mp h)) (fun h => h2 ((hcond0_2 t).mp h)) (iblk m c 0 t) (outsAt0 m c (t.val - 1) (Nat.lt_of_le_of_lt (Nat.sub_le _ _) t.isLt)).2.2.2.2 (V m c main_arg0) (V m c main_arg1) (V m c main_arg2) (V m c main_arg3) := by
  obtain ⟨n, hn⟩ := t
  cases n with
  | zero => exact (by exfalso; (try dsimp only at h0); exact absurd (Nat.zero_mod _) h0)
  | succ n => exact (dif_neg h0).trans ((dif_neg h1).trans ((dif_neg h2).trans rfl))

def PhiR (c : Dev nD) (k : ℕ) : sProp 𝕄 := iprop((∃ r, prngReg c r) ∗ ringAt0_0 c (V m c main_arg0) k ∗ ringAt0_1 c (V m c main_arg1) k ∗ ringAt0_2 c (V m c main_arg2) k ∗ ringAt0_3 c (V m c main_arg2) k ∗ ringAt0_4 c (V m c main_arg3) k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => (outsAt0 m c t.val t.isLt).1
    | ⟨2, _⟩ => (outsAt0 m c t.val t.isLt).2.1
    | ⟨3, _⟩ => (outsAt0 m c t.val t.isLt).2.2.1
    | ⟨4, _⟩ => (outsAt0 m c t.val t.isLt).2.2.2.1
    | ⟨5, _⟩ => (outsAt0 m c t.val t.isLt).2.2.2.2
  Φ t := PhiR m c t.val
  q _ := fullShare
  owed _ := 0

theorem A_eq (c : Dev nD) (w : Fin cfg0.W) : (dats m 0 c).A w = V m c (Pipeline.arrRef spec0 w) := by
  dsimp only [dats]

theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]
theorem after0_2 (c : Dev nD) (t : Fin cfg0.N) : (dats m 0 c).after 2 t = (outsAt0 m c t.val t.isLt).2.1 := by dsimp only [dats]
theorem after0_3 (c : Dev nD) (t : Fin cfg0.N) : (dats m 0 c).after 3 t = (outsAt0 m c t.val t.isLt).2.2.1 := by dsimp only [dats]
theorem after0_4 (c : Dev nD) (t : Fin cfg0.N) : (dats m 0 c).after 4 t = (outsAt0 m c t.val t.isLt).2.2.2.1 := by dsimp only [dats]
theorem after0_5 (c : Dev nD) (t : Fin cfg0.N) : (dats m 0 c).after 5 t = (outsAt0 m c t.val t.isLt).2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_5_B (c : Dev nD) (t : Fin cfg0.N) (h0 : ¬t.val % 16 = 0) (h1 : ¬t.val % 16 = 0) (h2 : t.val < 14) (d) :
    (dats m 0 c).before 5 t d = (outsAt0 m c (t.val - 1) (Nat.lt_of_le_of_lt (Nat.sub_le _ _) t.isLt)).2.2.2.2 := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [dats]
theorem before0_5_C (c : Dev nD) (t : Fin cfg0.N) (h0 : ¬t.val % 16 = 0) (h1 : ¬t.val % 16 = 0) (h2 : ¬t.val < 14) (d) :
    (dats m 0 c).before 5 t d = (outsAt0 m c (t.val - 1) (Nat.lt_of_le_of_lt (Nat.sub_le _ _) t.isLt)).2.2.2.2 := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 40000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [after0_0, after0_1, after0_2, after0_3, after0_4, after0_5]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0 ringAt0_1 ringAt0_2 ringAt0_3 ringAt0_4
  have hgN : grid0.N = 16 := N_0
  have hN : t.val < 16 := lt_of_lt_of_eq t.isLt (show cfg0.N = 16 from N_0)
  by_cases h0 : t.val % 16 = 0
  · by_cases h1 : t.val % 16 = 0
    · by_cases h2 : t.val < 14
      · rw [outsAt0_A m c t h0 h1 h2]
        unfold outs0_A out0_A_1 out0_A_2 out0_A_3 out0_A_4 out0_A_5; (try dsimp only)
        have hr0 := rstep0_0_A t ((hcond0_0 t).mpr h0) ((hcond0_1 t).mpr h1) ((hcond0_2 t).mpr h2)
        obtain ⟨hK00, hK10⟩ := hr0
        simp only [if_pos hK00, if_neg (show ¬t.val + 1 = 0 by omega), Ring.At₀_eq3' _ _ _ t.val hK00 (by decide : 3 ≤ 16), Ring.At3_one' _ _ _ _ t.val hK00 (by decide : 3 ≤ 16)]
        iintro ⟨⟨Hg, ⟨-, Hfr0_0_0, Hfr0_0_1, Hfr0_0_2⟩, ⟨-, Hfr0_1_0, Hfr0_1_1, Hfr0_1_2⟩, ⟨-, Hfr0_2_0, Hfr0_2_1, Hfr0_2_2⟩, ⟨-, Hfr0_3_0, Hfr0_3_1, Hfr0_3_2⟩, ⟨-, Hfr0_4_0, Hfr0_4_1, Hfr0_4_2⟩⟩, ⟨%W, -, HW⟩, ⟨%d0, H0⟩, ⟨%d1, H1⟩, ⟨%d2, H2⟩, ⟨%d3, H3⟩, ⟨%d4, H4⟩, ⟨%d5, H5⟩⟩
        iapply ((kernelRun0_A c t _ _ _ _ _ _ _ _ _ _ _ _ ((hcond0_0 t).mpr h0) ((hcond0_1 t).mpr h1) ((hcond0_2 t).mpr h2) (iblk m c 0 t) (V m c main_arg0) (V m c main_arg1) (V m c main_arg2) (V m c main_arg3)).2.2.2.2.2 W _)
        isplitl [H0]; · iexact H0
        isplitl [H1]; · iexists _; iexact H1
        isplitl [H2]; · iexists _; iexact H2
        isplitl [H3]; · iexists _; iexact H3
        isplitl [H4]; · iexists _; iexact H4
        isplitl [H5]; · iexists _; iexact H5
        isplitl [Hfr0_0_0]; · iexact Hfr0_0_0
        isplitl [Hfr0_0_1]; · iexact Hfr0_0_1
        isplitl [Hfr0_0_2]; · iexact Hfr0_0_2
        isplitl [Hfr0_1_0]; · iexact Hfr0_1_0
        isplitl [Hfr0_1_1]; · iexact Hfr0_1_1
        isplitl [Hfr0_1_2]; · iexact Hfr0_1_2
        isplitl [Hfr0_2_0]; · iexact Hfr0_2_0
        isplitl [Hfr0_2_1]; · iexact Hfr0_2_1
        isplitl [Hfr0_2_2]; · iexact Hfr0_2_2
        isplitl [Hfr0_3_0]; · iexact Hfr0_3_0
        isplitl [Hfr0_3_1]; · iexact Hfr0_3_1
        isplitl [Hfr0_3_2]; · iexact Hfr0_3_2
        isplitl [Hfr0_4_0]; · iexact Hfr0_4_0
        isplitl [Hfr0_4_1]; · iexact Hfr0_4_1
        isplitl [Hfr0_4_2]; · iexact Hfr0_4_2
        isplitl [HW]; · iexact HW
        iintro ⟨H0, ⟨%e1, H1⟩, ⟨%e2, H2⟩, ⟨%e3, H3⟩, ⟨%e4, H4⟩, ⟨%e5, H5⟩, Hfa0_0', Hfb0_0', Hfc0_0', Hfa0_1', Hfb0_1', Hfc0_1', Hfa0_2', Hfb0_2', Hfc0_2', Hfa0_3', Hfb0_3', Hfc0_3', Hfa0_4', Hfb0_4', Hfc0_4', ⟨%W', HW'⟩⟩
        isplitl [Hg Hfa0_0' Hfb0_0' Hfc0_0' Hfa0_1' Hfb0_1' Hfc0_1' Hfa0_2' Hfb0_2' Hfc0_2' Hfa0_3' Hfb0_3' Hfc0_3' Hfa0_4' Hfb0_4' Hfc0_4']
        · isplitl [Hg]; · iexact Hg
          isplitl [Hfa0_0' Hfb0_0' Hfc0_0']
          · iapply (Ring.with_homes (Idealize.SL.BI.Entails.refl _))
            isplitl [Hfa0_0']; · iexact Hfa0_0'
            isplitl [Hfb0_0']; · iexact Hfb0_0'
            iexact Hfc0_0'
          isplitl [Hfa0_1' Hfb0_1' Hfc0_1']
          · iapply (Ring.with_homes (Idealize.SL.BI.Entails.refl _))
            isplitl [Hfa0_1']; · iexact Hfa0_1'
            isplitl [Hfb0_1']; · iexact Hfb0_1'
            iexact Hfc0_1'
          isplitl [Hfa0_2' Hfb0_2' Hfc0_2']
          · iapply (Ring.with_homes (Idealize.SL.BI.Entails.refl _))
            isplitl [Hfa0_2']; · iexact Hfa0_2'
            isplitl [Hfb0_2']; · iexact Hfb0_2'
            iexact Hfc0_2'
          isplitl [Hfa0_3' Hfb0_3' Hfc0_3']
          · iapply (Ring.with_homes (Idealize.SL.BI.Entails.refl _))
            isplitl [Hfa0_3']; · iexact Hfa0_3'
            isplitl [Hfb0_3']; · iexact Hfb0_3'
            iexact Hfc0_3'
          iapply (Ring.with_homes (Idealize.SL.BI.Entails.refl _))
          isplitl [Hfa0_4']; · iexact Hfa0_4'
          isplitl [Hfb0_4']; · iexact Hfb0_4'
          iexact Hfc0_4'
        isplitl [HW']
        · iexists W'; isplitr; · ipureintro; exact fun _ _ => Or.inl trivial
          iexact HW'
        isplitl [H0]; · iexact H0
        isplitl [H1]
        · unfold owns; iexists _; isplitr
          swap; · iexact H1
          ipureintro; exact View.read_writes_of_cover _ _ _ _ _ (cover0_A_1 c _ _ _ _ _ _ _ _ _ _ _ _ _ _ _ _ _ _ _ _ _)
        isplitl [H2]
        · unfold owns; iexists _; isplitr
          swap; · iexact H2
          ipureintro; exact View.read_writes_of_cover _ _ _ _ _ (cover0_A_2 c _ _ _ _ _ _ _ _ _ _ _ _ _ _ _ _ _ _ _ _ _)
        isplitl [H3]
        · unfold owns; iexists _; isplitr
          swap; · iexact H3
          ipureintro; exact View.read_writes_of_cover _ _ _ _ _ (cover0_A_3 c _ _ _ _ _ _ _ _ _ _ _ _ _ _ _ _ _ _ _ _ _)
        isplitl [H4]
        · unfold owns; iexists _; isplitr
          swap; · iexact H4
          ipureintro; exact View.read_writes_of_cover _ _ _ _ _ (cover0_A_4 c _ _ _ _ _ _ _ _ _ _ _ _ _ _ _ _ _ _ _ _ _)
        unfold owns; iexists _; isplitr
        swap; · iexact H5
        ipureintro; exact View.read_writes_of_cover _ _ _ _ _ (cover0_A_5 c _ _ _ _ _ _ _ _ _ _ _ _ _ _ _ _ _ _ _ _ _)
      · exfalso; omega
    · exfalso; omega
  · by_cases h1 : t.val % 16 = 0
    · exfalso; omega
    · by_cases h2 : t.val < 14
      · rw [outsAt0_B m c t h0 h1 h2]
        simp only [before0_5_B m c t h0 h1 h2]
        unfold outs0_B out0_B_1 out0_B_2 out0_B_3 out0_B_4 out0_B_5; (try dsimp only)
        have hr0 := rstep0_0_B t (fun h => h0 ((hcond0_0 t).mp h)) (fun h => h1 ((hcond0_1 t).mp h)) ((hcond0_2 t).mpr h2)
        obtain ⟨hK10, hKB0, hKs0⟩ := hr0
        simp only [if_neg (show ¬t.val = 0 by omega), if_neg (show ¬t.val + 1 = 0 by omega), Ring.At3_here _ _ _ _ t.val hKB0, Ring.At3_next _ _ _ _ t.val hKB0, Ring.slotAt3_next0 (NB := 16) _ _ _ t.val (by omega), Ring.slotAt3_next1 _ _ _ t.val hKB0]
        iintro ⟨⟨Hg, ⟨-, Hfr0_0_0, Hfr0_0_1, Hfr0_0_2⟩, ⟨-, Hfr0_1_0, Hfr0_1_1, Hfr0_1_2⟩, ⟨-, Hfr0_2_0, Hfr0_2_1, Hfr0_2_2⟩, ⟨-, Hfr0_3_0, Hfr0_3_1, Hfr0_3_2⟩, ⟨-, Hfr0_4_0, Hfr0_4_1, Hfr0_4_2⟩⟩, ⟨%W, -, HW⟩, ⟨%d0, H0⟩, ⟨%d1, H1⟩, ⟨%d2, H2⟩, ⟨%d3, H3⟩, ⟨%d4, H4⟩, ⟨%d5, H5⟩⟩
        iapply ((kernelRun0_B c t _ _ _ _ _ _ _ _ _ _ _ _ (fun h => h0 ((hcond0_0 t).mp h)) (fun h => h1 ((hcond0_1 t).mp h)) ((hcond0_2 t).mpr h2) (iblk m c 0 t) _ (V m c main_arg0) (V m c main_arg1) (V m c main_arg2) (V m c main_arg3)).2.2.2.2.2 W _)
        isplitl [H0]; · iexact H0
        isplitl [H1]; · iexists _; iexact H1
        isplitl [H2]; · iexists _; iexact H2
        isplitl [H3]; · iexists _; iexact H3
        isplitl [H4]; · iexists _; iexact H4
        isplitl [H5]; · iexact H5
        isplitl [Hfr0_0_0]; · iexact Hfr0_0_0
        isplitl [Hfr0_0_1]; · iexact Hfr0_0_1
        isplitl [Hfr0_0_2]; · iexact Hfr0_0_2
        isplitl [Hfr0_1_0]; · iexact Hfr0_1_0
        isplitl [Hfr0_1_1]; · iexact Hfr0_1_1
        isplitl [Hfr0_1_2]; · iexact Hfr0_1_2
        isplitl [Hfr0_2_0]; · iexact Hfr0_2_0
        isplitl [Hfr0_2_1]; · iexact Hfr0_2_1
        isplitl [Hfr0_2_2]; · iexact Hfr0_2_2
        isplitl [Hfr0_3_0]; · iexact Hfr0_3_0
        isplitl [Hfr0_3_1]; · iexact Hfr0_3_1
        isplitl [Hfr0_3_2]; · iexact Hfr0_3_2
        isplitl [Hfr0_4_0]; · iexact Hfr0_4_0
        isplitl [Hfr0_4_1]; · iexact Hfr0_4_1
        isplitl [Hfr0_4_2]; · iexact Hfr0_4_2
        isplitl [HW]; · iexact HW
        iintro ⟨H0, ⟨%e1, H1⟩, ⟨%e2, H2⟩, ⟨%e3, H3⟩, ⟨%e4, H4⟩, ⟨%e5, H5⟩, Hfa0_0', Hfb0_0', Hfc0_0', Hfa0_1', Hfb0_1', Hfc0_1', Hfa0_2', Hfb0_2', Hfc0_2', Hfa0_3', Hfb0_3', Hfc0_3', Hfa0_4', Hfb0_4', Hfc0_4', ⟨%W', HW'⟩⟩
        isplitl [Hg Hfa0_0' Hfb0_0' Hfc0_0' Hfa0_1' Hfb0_1' Hfc0_1' Hfa0_2' Hfb0_2' Hfc0_2' Hfa0_3' Hfb0_3' Hfc0_3' Hfa0_4' Hfb0_4' Hfc0_4']
        · isplitl [Hg]; · iexact Hg
          isplitl [Hfa0_0' Hfb0_0' Hfc0_0']
          · iapply (Ring.with_homes (Idealize.SL.BI.Entails.refl _))
            isplitl [Hfa0_0']; · iexact Hfa0_0'
            isplitl [Hfb0_0']; · iexact Hfb0_0'
            iexact Hfc0_0'
          isplitl [Hfa0_1' Hfb0_1' Hfc0_1']
          · iapply (Ring.with_homes (Idealize.SL.BI.Entails.refl _))
            isplitl [Hfa0_1']; · iexact Hfa0_1'
            isplitl [Hfb0_1']; · iexact Hfb0_1'
            iexact Hfc0_1'
          isplitl [Hfa0_2' Hfb0_2' Hfc0_2']
          · iapply (Ring.with_homes (Idealize.SL.BI.Entails.refl _))
            isplitl [Hfa0_2']; · iexact Hfa0_2'
            isplitl [Hfb0_2']; · iexact Hfb0_2'
            iexact Hfc0_2'
          isplitl [Hfa0_3' Hfb0_3' Hfc0_3']
          · iapply (Ring.with_homes (Idealize.SL.BI.Entails.refl _))
            isplitl [Hfa0_3']; · iexact Hfa0_3'
            isplitl [Hfb0_3']; · iexact Hfb0_3'
            iexact Hfc0_3'
          iapply (Ring.with_homes (Idealize.SL.BI.Entails.refl _))
          isplitl [Hfa0_4']; · iexact Hfa0_4'
          isplitl [Hfb0_4']; · iexact Hfb0_4'
          iexact Hfc0_4'
        isplitl [HW']
        · iexists W'; isplitr; · ipureintro; exact fun _ _ => Or.inl trivial
          iexact HW'
        isplitl [H0]; · iexact H0
        isplitl [H1]
        · unfold owns; iexists _; isplitr
          swap; · iexact H1
          ipureintro; exact View.read_writes_of_cover _ _ _ _ _ (cover0_B_1 c _ _ _ _ _ _ _ _ _ _ _ _ _ _ _ _ _ _ _ _ _ _)
        isplitl [H2]
        · unfold owns; iexists _; isplitr
          swap; · iexact H2
          ipureintro; exact View.read_writes_of_cover _ _ _ _ _ (cover0_B_2 c _ _ _ _ _ _ _ _ _ _ _ _ _ _ _ _ _ _ _ _ _ _)
        isplitl [H3]
        · unfold owns; iexists _; isplitr
          swap; · iexact H3
          ipureintro; exact View.read_writes_of_cover _ _ _ _ _ (cover0_B_3 c _ _ _ _ _ _ _ _ _ _ _ _ _ _ _ _ _ _ _ _ _ _)
        isplitl [H4]
        · unfold owns; iexists _; isplitr
          swap; · iexact H4
          ipureintro; exact View.read_writes_of_cover _ _ _ _ _ (cover0_B_4 c _ _ _ _ _ _ _ _ _ _ _ _ _ _ _ _ _ _ _ _ _ _)
        unfold owns; iexists _; isplitr
        swap; · iexact H5
        ipureintro; exact View.read_writes_of_cover _ _ _ _ _ (cover0_B_5 c _ _ _ _ _ _ _ _ _ _ _ _ _ _ _ _ _ _ _ _ _ _)
      · rw [outsAt0_C m c t h0 h1 h2]
        simp only [before0_5_C m c t h0 h1 h2]
        unfold outs0_C out0_C_1 out0_C_2 out0_C_3 out0_C_4 out0_C_5; (try dsimp only)
        have hr0 := rstep0_0_C t (fun h => h0 ((hcond0_0 t).mp h)) (fun h => h1 ((hcond0_1 t).mp h)) (fun h => h2 ((hcond0_2 t).mp h))
        obtain ⟨hK10, hKB0, hKlt0, hKs0⟩ := hr0
        simp only [if_neg (show ¬t.val = 0 by omega), if_neg (show ¬t.val + 1 = 0 by omega), Ring.At3_here_tail _ _ _ _ t.val hKlt0, Ring.At3_next_tail _ _ _ _ t.val hKB0 hKlt0, Ring.slotAt3_tail_role _ _ _ t.val]
        iintro ⟨⟨Hg, ⟨-, Hfr0_0_0, Hfr0_0_1, Hfr0_0_2⟩, ⟨-, Hfr0_1_0, Hfr0_1_1, Hfr0_1_2⟩, ⟨-, Hfr0_2_0, Hfr0_2_1, Hfr0_2_2⟩, ⟨-, Hfr0_3_0, Hfr0_3_1, Hfr0_3_2⟩, ⟨-, Hfr0_4_0, Hfr0_4_1, Hfr0_4_2⟩⟩, ⟨%W, -, HW⟩, ⟨%d0, H0⟩, ⟨%d1, H1⟩, ⟨%d2, H2⟩, ⟨%d3, H3⟩, ⟨%d4, H4⟩, ⟨%d5, H5⟩⟩
        iapply ((kernelRun0_C c t _ _ _ _ _ _ _ _ _ _ _ _ (fun h => h0 ((hcond0_0 t).mp h)) (fun h => h1 ((hcond0_1 t).mp h)) (fun h => h2 ((hcond0_2 t).mp h)) (iblk m c 0 t) _ (V m c main_arg0) (V m c main_arg1) (V m c main_arg2) (V m c main_arg3)).2.2.2.2.2 W _)
        isplitl [H0]; · iexact H0
        isplitl [H1]; · iexists _; iexact H1
        isplitl [H2]; · iexists _; iexact H2
        isplitl [H3]; · iexists _; iexact H3
        isplitl [H4]; · iexists _; iexact H4
        isplitl [H5]; · iexact H5
        isplitl [Hfr0_0_0]; · iexact Hfr0_0_0
        isplitl [Hfr0_0_1]; · iexact Hfr0_0_1
        isplitl [Hfr0_0_2]; · iexact Hfr0_0_2
        isplitl [Hfr0_1_0]; · iexact Hfr0_1_0
        isplitl [Hfr0_1_1]; · iexact Hfr0_1_1
        isplitl [Hfr0_1_2]; · iexact Hfr0_1_2
        isplitl [Hfr0_2_0]; · iexact Hfr0_2_0
        isplitl [Hfr0_2_1]; · iexact Hfr0_2_1
        isplitl [Hfr0_2_2]; · iexact Hfr0_2_2
        isplitl [Hfr0_3_0]; · iexact Hfr0_3_0
        isplitl [Hfr0_3_1]; · iexact Hfr0_3_1
        isplitl [Hfr0_3_2]; · iexact Hfr0_3_2
        isplitl [Hfr0_4_0]; · iexact Hfr0_4_0
        isplitl [Hfr0_4_1]; · iexact Hfr0_4_1
        isplitl [Hfr0_4_2]; · iexact Hfr0_4_2
        isplitl [HW]; · iexact HW
        iintro ⟨H0, ⟨%e1, H1⟩, ⟨%e2, H2⟩, ⟨%e3, H3⟩, ⟨%e4, H4⟩, ⟨%e5, H5⟩, Hfa0_0', Hfb0_0', Hfc0_0', Hfa0_1', Hfb0_1', Hfc0_1', Hfa0_2', Hfb0_2', Hfc0_2', Hfa0_3', Hfb0_3', Hfc0_3', Hfa0_4', Hfb0_4', Hfc0_4', ⟨%W', HW'⟩⟩
        isplitl [Hg Hfa0_0' Hfb0_0' Hfc0_0' Hfa0_1' Hfb0_1' Hfc0_1' Hfa0_2' Hfb0_2' Hfc0_2' Hfa0_3' Hfb0_3' Hfc0_3' Hfa0_4' Hfb0_4' Hfc0_4']
        · isplitl [Hg]; · iexact Hg
          isplitl [Hfa0_0' Hfb0_0' Hfc0_0']
          · iapply (Ring.with_homes (Idealize.SL.BI.Entails.refl _))
            isplitl [Hfa0_0']; · iexact Hfa0_0'
            isplitl [Hfb0_0']; · iexact Hfb0_0'
            iexact Hfc0_0'
          isplitl [Hfa0_1' Hfb0_1' Hfc0_1']
          · iapply (Ring.with_homes (Idealize.SL.BI.Entails.refl _))
            isplitl [Hfa0_1']; · iexact Hfa0_1'
            isplitl [Hfb0_1']; · iexact Hfb0_1'
            iexact Hfc0_1'
          isplitl [Hfa0_2' Hfb0_2' Hfc0_2']
          · iapply (Ring.with_homes (Idealize.SL.BI.Entails.refl _))
            isplitl [Hfa0_2']; · iexact Hfa0_2'
            isplitl [Hfb0_2']; · iexact Hfb0_2'
            iexact Hfc0_2'
          isplitl [Hfa0_3' Hfb0_3' Hfc0_3']
          · iapply (Ring.with_homes (Idealize.SL.BI.Entails.refl _))
            isplitl [Hfa0_3']; · iexact Hfa0_3'
            isplitl [Hfb0_3']; · iexact Hfb0_3'
            iexact Hfc0_3'
          iapply (Ring.with_homes (Idealize.SL.BI.Entails.refl _))
          isplitl [Hfa0_4']; · iexact Hfa0_4'
          isplitl [Hfb0_4']; · iexact Hfb0_4'
          iexact Hfc0_4'
        isplitl [HW']
        · iexists W'; isplitr; · ipureintro; exact fun _ _ => Or.inl trivial
          iexact HW'
        isplitl [H0]; · iexact H0
        isplitl [H1]
        · unfold owns; iexists _; isplitr
          swap; · iexact H1
          ipureintro; exact View.read_writes_of_cover _ _ _ _ _ (cover0_C_1 c _ _ _ _ _ _ _ _ _ _ _ _ _ _ _ _ _ _ _ _ _ _)
        isplitl [H2]
        · unfold owns; iexists _; isplitr
          swap; · iexact H2
          ipureintro; exact View.read_writes_of_cover _ _ _ _ _ (cover0_C_2 c _ _ _ _ _ _ _ _ _ _ _ _ _ _ _ _ _ _ _ _ _ _)
        isplitl [H3]
        · unfold owns; iexists _; isplitr
          swap; · iexact H3
          ipureintro; exact View.read_writes_of_cover _ _ _ _ _ (cover0_C_3 c _ _ _ _ _ _ _ _ _ _ _ _ _ _ _ _ _ _ _ _ _ _)
        isplitl [H4]
        · unfold owns; iexists _; isplitr
          swap; · iexact H4
          ipureintro; exact View.read_writes_of_cover _ _ _ _ _ (cover0_C_4 c _ _ _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [PhiD0_eq, show (dats m 0 c).Φ 0 = PhiR m c 0 from rfl]
  unfold PhiR
  iintro ⟨⟨HR0_0, HR0_1, HR0_2, HR0_3, HR0_4⟩, Hg, ⟨Hq0, Hq1, Hq2, Hq3, Hq4, Hq5, Hq6, Hq7, Hq8, Hq9, Hq10, Hq11, Hq12, Hq13, Hq14⟩, ⟨Hh0, Hh1, Hh2, Hh3⟩⟩
  ihave HS := (pointsTo_share (PosShare.mem_left_op_right fullShare)).1 $$ Hh2
  icases HS with ⟨Hh2, Hh2r⟩
  isplitl [Hg]; · iexact Hg
  isplitl [HR0_0 Hq0 Hq1 Hq2 Hh0]
  · iapply (ring0_0_in (F := F) m c)
    isplitl [HR0_0]; · iexact HR0_0
    isplitl [Hq0 Hq1 Hq2]
    · isplitl [Hq0]; · iexact Hq0
      isplitl [Hq1]; · iexact Hq1
      iexact Hq2
    iexact Hh0
  isplitl [HR0_1 Hq3 Hq4 Hq5 Hh1]
  · iapply (ring0_1_in (F := F) m c)
    isplitl [HR0_1]; · iexact HR0_1
    isplitl [Hq3 Hq4 Hq5]
    · isplitl [Hq3]; · iexact Hq3
      isplitl [Hq4]; · iexact Hq4
      iexact Hq5
    iexact Hh1
  isplitl [HR0_2 Hq6 Hq7 Hq8 Hh2]
  · iapply (ring0_2_in (F := F) m c)
    isplitl [HR0_2]; · iexact HR0_2
    isplitl [Hq6 Hq7 Hq8]
    · isplitl [Hq6]; · iexact Hq6
      isplitl [Hq7]; · iexact Hq7
      iexact Hq8
    iexact Hh2
  isplitl [HR0_3 Hq9 Hq10 Hq11 Hh2r]
  · iapply (ring0_3_in (F := F) m c)
    isplitl [HR0_3]; · iexact HR0_3
    isplitl [Hq9 Hq10 Hq11]
    · isplitl [Hq9]; · iexact Hq9
      isplitl [Hq10]; · iexact Hq10
      iexact Hq11
    iexact Hh2r
  iapply (ring0_4_in (F := F) m c)
  isplitl [HR0_4]; · iexact HR0_4
  isplitl [Hq12 Hq13 Hq14]
  · isplitl [Hq12]; · iexact Hq12
    isplitl [Hq13]; · iexact Hq13
    iexact Hq14
  iexact Hh3
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 16 by rw [N_0]]
  iintro ⟨Hg, HR0_0, HR0_1, HR0_2, HR0_3, HR0_4⟩
  ihave HX0_0 := (ring0_0_out (F := F) m c) $$ HR0_0
  icases HX0_0 with ⟨HR0_0, ⟨Hq0, Hq1, Hq2⟩, Hh0⟩
  ihave HX0_1 := (ring0_1_out (F := F) m c) $$ HR0_1
  icases HX0_1 with ⟨HR0_1, ⟨Hq3, Hq4, Hq5⟩, Hh1⟩
  ihave HX0_2 := (ring0_2_out (F := F) m c) $$ HR0_2
  icases HX0_2 with ⟨HR0_2, ⟨Hq6, Hq7, Hq8⟩, Hh2⟩
  ihave HX0_3 := (ring0_3_out (F := F) m c) $$ HR0_3
  icases HX0_3 with ⟨HR0_3, ⟨Hq9, Hq10, Hq11⟩, Hh2r⟩
  ihave HX0_4 := (ring0_4_out (F := F) m c) $$ HR0_4
  icases HX0_4 with ⟨HR0_4, ⟨Hq12, Hq13, Hq14⟩, Hh3⟩
  isplitl [HR0_0 HR0_1 HR0_2 HR0_3 HR0_4]
  · isplitl [HR0_0]; · iexact HR0_0
    isplitl [HR0_1]; · iexact HR0_1
    isplitl [HR0_2]; · iexact HR0_2
    isplitl [HR0_3]; · iexact HR0_3
    iexact HR0_4
  isplitl [Hg]
  · iexact Hg
  isplitl [Hq0 Hq1 Hq2 Hq3 Hq4 Hq5 Hq6 Hq7 Hq8 Hq9 Hq10 Hq11 Hq12 Hq13 Hq14]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    iexact Hq14
  isplitl [Hh0]; · iexact Hh0
  isplitl [Hh1]; · iexact Hh1
  isplitl [Hh2 Hh2r]
  · iapply (pointsTo_share (PosShare.mem_left_op_right fullShare)).2
    isplitl [Hh2]; · iexact Hh2
    iexact Hh2r
  iexact Hh3

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel5Ideal.Gen.Half

end
-- ==== Proof.NormFrame.lean ====
module

public import proofs.«01_k».proof.Proof.Gen.Kernel6Ideal.Frame.RunC
public import Idealize.ShloMosaic.Lib.Claim

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
section

variable (c : Dev nD) (t : Fin cfg0.N) (arg4 : Memref sig .tc .vmem S1x2048 .f32) (harg4 : arg4.IsWhole) (arg5 : Memref sig .tc .vmem S256x2048 .f32) (harg5 : arg5.IsWhole) (arg6 : Memref sig .tc .vmem S1x2048 .f32) (harg6 : arg6.IsWhole)

section

variable (hc0 : cond0_0 (grid0.coords t)) (hc1 : cond0_1 (grid0.coords t)) (hc2 : cond0_2 (grid0.coords t))
    (x0 : Vec F S1x2048 .f32) (fh0 : HbBuf0 (F := F) c hbM0_0) (fh1 : HbBuf0 (F := F) c hbM0_1) (fh2 : HbBuf0 (F := F) c hbM0_2)

theorem cover0_A_1 (y : S256x2048.Idx) :
    ∃ pc ∈ (kernelRun0_A c t arg4 harg4 arg5 harg5 arg6 harg6 hc0 hc1 hc2 x0 fh0 fh1 fh2).1, y ∈ pc.1.set :=
  View.cover_of_tiledL (kernelRun0_A c t arg4 harg4 arg5 harg5 arg6 harg6 hc0 hc1 hc2 x0 fh0 fh1 fh2).1 S256x2048.size (by sl_kernel_rfl) y

def out0_A_1 : Vec F S256x2048 .f32 :=
  VO0_1.read (Elt F) (VO0_1.writes (Elt F) VO0_1.junk (kernelRun0_A c t arg4 harg4 arg5 harg5 arg6 harg6 hc0 hc1 hc2 x0 fh0 fh1 fh2).1)

theorem cover0_A_2 (y : S1x2048.Idx) :
    ∃ pc ∈ (kernelRun0_A c t arg4 harg4 arg5 harg5 arg6 harg6 hc0 hc1 hc2 x0 fh0 fh1 fh2).2.1, y ∈ pc.1.set :=
  View.cover_of_tiledL (kernelRun0_A c t arg4 harg4 arg5 harg5 arg6 harg6 hc0 hc1 hc2 x0 fh0 fh1 fh2).2.1 S1x2048.size (by sl_kernel_rfl) y

def out0_A_2 : Vec F S1x2048 .f32 :=
  VO0_2.read (Elt F) (VO0_2.writes (Elt F) VO0_2.junk (kernelRun0_A c t arg4 harg4 arg5 harg5 arg6 harg6 hc0 hc1 hc2 x0 fh0 fh1 fh2).2.1)

def outs0_A : Vec F S256x2048 .f32 × Vec F S1x2048 .f32 :=
  (out0_A_1 c t arg4 harg4 arg5 harg5 arg6 harg6 hc0 hc1 hc2 x0 fh0 fh1 fh2, out0_A_2 c t arg4 harg4 arg5 harg5 arg6 harg6 hc0 hc1 hc2 x0 fh0 fh1 fh2)

end

section

variable (hc0 : ¬cond0_0 (grid0.coords t)) (hc1 : ¬cond0_1 (grid0.coords t)) (hc2 : cond0_2 (grid0.coords t))
    (x0 : Vec F S1x2048 .f32) (xo2 : Vec F S1x2048 .f32) (fh0 : HbBuf0 (F := F) c hbM0_0) (fh1 : HbBuf0 (F := F) c hbM0_1) (fh2 : HbBuf0 (F := F) c hbM0_2)

theorem cover0_B_1 (y : S256x2048.Idx) :
    ∃ pc ∈ (kernelRun0_B c t arg4 harg4 arg5 harg5 arg6 harg6 hc0 hc1 hc2 x0 xo2 fh0 fh1 fh2).1, y ∈ pc.1.set :=
  View.cover_of_tiledL (kernelRun0_B c t arg4 harg4 arg5 harg5 arg6 harg6 hc0 hc1 hc2 x0 xo2 fh0 fh1 fh2).1 S256x2048.size (by sl_kernel_rfl) y

def out0_B_1 : Vec F S256x2048 .f32 :=
  VO0_1.read (Elt F) (VO0_1.writes (Elt F) VO0_1.junk (kernelRun0_B c t arg4 harg4 arg5 harg5 arg6 harg6 hc0 hc1 hc2 x0 xo2 fh0 fh1 fh2).1)

theorem cover0_B_2 (y : S1x2048.Idx) :
    ∃ pc ∈ (kernelRun0_B c t arg4 harg4 arg5 harg5 arg6 harg6 hc0 hc1 hc2 x0 xo2 fh0 fh1 fh2).2.1, y ∈ pc.1.set :=
  View.cover_of_tiledL (kernelRun0_B c t arg4 harg4 arg5 harg5 arg6 harg6 hc0 hc1 hc2 x0 xo2 fh0 fh1 fh2).2.1 S1x2048.size (by sl_kernel_rfl) y

def out0_B_2 : Vec F S1x2048 .f32 :=
  VO0_2.read (Elt F) (VO0_2.writes (Elt F) VO0_2.junk (kernelRun0_B c t arg4 harg4 arg5 harg5 arg6 harg6 hc0 hc1 hc2 x0 xo2 fh0 fh1 fh2).2.1)

def outs0_B : Vec F S256x2048 .f32 × Vec F S1x2048 .f32 :=
  (out0_B_1 c t arg4 harg4 arg5 harg5 arg6 harg6 hc0 hc1 hc2 x0 xo2 fh0 fh1 fh2, out0_B_2 c t arg4 harg4 arg5 harg5 arg6 harg6 hc0 hc1 hc2 x0 xo2 fh0 fh1 fh2)

end

section

variable (hc0 : ¬cond0_0 (grid0.coords t)) (hc1 : ¬cond0_1 (grid0.coords t)) (hc2 : ¬cond0_2 (grid0.coords t))
    (x0 : Vec F S1x2048 .f32) (xo2 : Vec F S1x2048 .f32) (fh0 : HbBuf0 (F := F) c hbM0_0) (fh1 : HbBuf0 (F := F) c hbM0_1) (fh2 : HbBuf0 (F := F) c hbM0_2)

theorem cover0_C_1 (y : S256x2048.Idx) :
    ∃ pc ∈ (kernelRun0_C c t arg4 harg4 arg5 harg5 arg6 harg6 hc0 hc1 hc2 x0 xo2 fh0 fh1 fh2).1, y ∈ pc.1.set :=
  View.cover_of_tiledL (kernelRun0_C c t arg4 harg4 arg5 harg5 arg6 harg6 hc0 hc1 hc2 x0 xo2 fh0 fh1 fh2).1 S256x2048.size (by sl_kernel_rfl) y

def out0_C_1 : Vec F S256x2048 .f32 :=
  VO0_1.read (Elt F) (VO0_1.writes (Elt F) VO0_1.junk (kernelRun0_C c t arg4 harg4 arg5 harg5 arg6 harg6 hc0 hc1 hc2 x0 xo2 fh0 fh1 fh2).1)

theorem cover0_C_2 (y : S1x2048.Idx) :
    ∃ pc ∈ (kernelRun0_C c t arg4 harg4 arg5 harg5 arg6 harg6 hc0 hc1 hc2 x0 xo2 fh0 fh1 fh2).2.1, y ∈ pc.1.set :=
  View.cover_of_tiledL (kernelRun0_C c t arg4 harg4 arg5 harg5 arg6 harg6 hc0 hc1 hc2 x0 xo2 fh0 fh1 fh2).2.1 S1x2048.size (by sl_kernel_rfl) y

def out0_C_2 : Vec F S1x2048 .f32 :=
  VO0_2.read (Elt F) (VO0_2.writes (Elt F) VO0_2.junk (kernelRun0_C c t arg4 harg4 arg5 harg5 arg6 harg6 hc0 hc1 hc2 x0 xo2 fh0 fh1 fh2).2.1)

def outs0_C : Vec F S256x2048 .f32 × Vec F S1x2048 .f32 :=
  (out0_C_1 c t arg4 harg4 arg5 harg5 arg6 harg6 hc0 hc1 hc2 x0 xo2 fh0 fh1 fh2, out0_C_2 c t arg4 harg4 arg5 harg5 arg6 harg6 hc0 hc1 hc2 x0 xo2 fh0 fh1 fh2)

end

end

def outsAt0 (c : Dev nD) : (n : ℕ) → n < cfg0.N → Vec F S256x2048 .f32 × Vec F S1x2048 .f32
  | 0, hn => outs0_A c ⟨0, hn⟩ (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) ((hcond0_1 ⟨0, hn⟩).mpr (Nat.zero_mod _)) ((hcond0_2 ⟨0, hn⟩).mpr (by (try dsimp only); omega)) (iblk m c 0 ⟨0, hn⟩) (V m c main_arg0) (V m c main_arg1) (V m c main_arg2)
  | n + 1, hn =>
    if h0 : (n + 1) % 16 = 0 then
      if h1 : (n + 1) % 16 = 0 then
        if h2 : (n + 1) < 14 then
          outs0_A c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) ((hcond0_1 ⟨n + 1, hn⟩).mpr h1) ((hcond0_2 ⟨n + 1, hn⟩).mpr h2) (iblk m c 0 ⟨n + 1, hn⟩) (V m c main_arg0) (V m c main_arg1) (V m c main_arg2)
        else
          False.elim (by have hN : n + 1 < 16 := lt_of_lt_of_eq hn (show cfg0.N = 16 from N_0); omega)
      else
        False.elim (by have hN : n + 1 < 16 := lt_of_lt_of_eq hn (show cfg0.N = 16 from N_0); omega)
    else
      if h1 : (n + 1) % 16 = 0 then
        False.elim (by have hN : n + 1 < 16 := lt_of_lt_of_eq hn (show cfg0.N = 16 from N_0); omega)
      else
        if h2 : (n + 1) < 14 then
          outs0_B c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (outsAt0 c n (Nat.lt_of_succ_lt hn)).2 (V m c main_arg0) (V m c main_arg1) (V m c main_arg2)
        else
          outs0_C c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (outsAt0 c n (Nat.lt_of_succ_lt hn)).2 (V m c main_arg0) (V m c main_arg1) (V m c main_arg2)

theorem outsAt0_A (c : Dev nD) (t : Fin cfg0.N) (h0 : t.val % 16 = 0) (h1 : t.val % 16 = 0) (h2 : t.val < 14) :
    outsAt0 m c t.val t.isLt = outs0_A c t (ms0_0 t) (hs0_0 t) (ms0_1 t) (hs0_1 t) (ms0_2 t) (hs0_2 t) ((hcond0_0 t).mpr h0) ((hcond0_1 t).mpr h1) ((hcond0_2 t).mpr h2) (iblk m c 0 t) (V m c main_arg0) (V m c main_arg1) (V m c main_arg2) := by
  obtain ⟨n, hn⟩ := t
  cases n with
  | zero => exact rfl
  | succ n => exact (dif_pos h0).trans ((dif_pos h1).trans ((dif_pos h2).trans rfl))

theorem outsAt0_B (c : Dev nD) (t : Fin cfg0.N) (h0 : ¬t.val % 16 = 0) (h1 : ¬t.val % 16 = 0) (h2 : t.val < 14) :
    outsAt0 m c t.val t.isLt = outs0_B c t (ms0_0 t) (hs0_0 t) (ms0_1 t) (hs0_1 t) (ms0_2 t) (hs0_2 t) (fun h => h0 ((hcond0_0 t).mp h)) (fun h => h1 ((hcond0_1 t).mp h)) ((hcond0_2 t).mpr h2) (iblk m c 0 t) (outsAt0 m c (t.val - 1) (Nat.lt_of_le_of_lt (Nat.sub_le _ _) t.isLt)).2 (V m c main_arg0) (V m c main_arg1) (V m c main_arg2) := by
  obtain ⟨n, hn⟩ := t
  cases n with
  | zero => exact (by exfalso; (try dsimp only at h0); exact absurd (Nat.zero_mod _) h0)
  | succ n => exact (dif_neg h0).trans ((dif_neg h1).trans ((dif_pos h2).trans rfl))

theorem outsAt0_C (c : Dev nD) (t : Fin cfg0.N) (h0 : ¬t.val % 16 = 0) (h1 : ¬t.val % 16 = 0) (h2 : ¬t.val < 14) :
    outsAt0 m c t.val t.isLt = outs0_C c t (ms0_0 t) (hs0_0 t) (ms0_1 t) (hs0_1 t) (ms0_2 t) (hs0_2 t) (fun h => h0 ((hcond0_0 t).mp h)) (fun h => h1 ((hcond0_1 t).mp h)) (fun h => h2 ((hcond0_2 t).mp h)) (iblk m c 0 t) (outsAt0 m c (t.val - 1) (Nat.lt_of_le_of_lt (Nat.sub_le _ _) t.isLt)).2 (V m c main_arg0) (V m c main_arg1) (V m c main_arg2) := by
  obtain ⟨n, hn⟩ := t
  cases n with
  | zero => exact (by exfalso; (try dsimp only at h0); exact absurd (Nat.zero_mod _) h0)
  | succ n => exact (dif_neg h0).trans ((dif_neg h1).trans ((dif_neg h2).trans rfl))

def PhiR (c : Dev nD) (k : ℕ) : sProp 𝕄 := iprop((∃ r, prngReg c r) ∗ ringAt0_0 c (V m c main_arg0) k ∗ ringAt0_1 c (V m c main_arg1) k ∗ ringAt0_2 c (V m c main_arg2) k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => (outsAt0 m c t.val t.isLt).1
    | ⟨2, _⟩ => (outsAt0 m c t.val t.isLt).2
  Φ t := PhiR m c t.val
  q _ := fullShare
  owed _ := 0

theorem A_eq (c : Dev nD) (w : Fin cfg0.W) : (dats m 0 c).A w = V m c (Pipeline.arrRef spec0 w) := by
  dsimp only [dats]

theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]
theorem after0_2 (c : Dev nD) (t : Fin cfg0.N) : (dats m 0 c).after 2 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_2_B (c : Dev nD) (t : Fin cfg0.N) (h0 : ¬t.val % 16 = 0) (h1 : ¬t.val % 16 = 0) (h2 : t.val < 14) (d) :
    (dats m 0 c).before 2 t d = (outsAt0 m c (t.val - 1) (Nat.lt_of_le_of_lt (Nat.sub_le _ _) t.isLt)).2 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]
theorem before0_2_C (c : Dev nD) (t : Fin cfg0.N) (h0 : ¬t.val % 16 = 0) (h1 : ¬t.val % 16 = 0) (h2 : ¬t.val < 14) (d) :
    (dats m 0 c).before 2 t d = (outsAt0 m c (t.val - 1) (Nat.lt_of_le_of_lt (Nat.sub_le _ _) t.isLt)).2 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 40000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [after0_0, after0_1, after0_2]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0 ringAt0_1 ringAt0_2
  have hgN : grid0.N = 16 := N_0
  have hN : t.val < 16 := lt_of_lt_of_eq t.isLt (show cfg0.N = 16 from N_0)
  by_cases h0 : t.val % 16 = 0
  · by_cases h1 : t.val % 16 = 0
    · by_cases h2 : t.val < 14
      · rw [outsAt0_A m c t h0 h1 h2]
        unfold outs0_A out0_A_1 out0_A_2; (try dsimp only)
        have hr0 := rstep0_0_A t ((hcond0_0 t).mpr h0) ((hcond0_1 t).mpr h1) ((hcond0_2 t).mpr h2)
        obtain ⟨hK00, hK10⟩ := hr0
        simp only [if_pos hK00, if_neg (show ¬t.val + 1 = 0 by omega), Ring.At₀_eq3' _ _ _ t.val hK00 (by decide : 3 ≤ 16), Ring.At3_one' _ _ _ _ t.val hK00 (by decide : 3 ≤ 16)]
        iintro ⟨⟨Hg, ⟨-, Hfr0_0_0, Hfr0_0_1, Hfr0_0_2⟩, ⟨-, Hfr0_1_0, Hfr0_1_1, Hfr0_1_2⟩, ⟨-, Hfr0_2_0, Hfr0_2_1, Hfr0_2_2⟩⟩, ⟨%W, -, HW⟩, ⟨%d0, H0⟩, ⟨%d1, H1⟩, ⟨%d2, H2⟩⟩
        iapply ((kernelRun0_A c t _ _ _ _ _ _ ((hcond0_0 t).mpr h0) ((hcond0_1 t).mpr h1) ((hcond0_2 t).mpr h2) (iblk m c 0 t) (V m c main_arg0) (V m c main_arg1) (V m c main_arg2)).2.2 W _)
        isplitl [H0]; · iexact H0
        isplitl [H1]; · iexists _; iexact H1
        isplitl [H2]; · iexists _; iexact H2
        isplitl [Hfr0_0_0]; · iexact Hfr0_0_0
        isplitl [Hfr0_0_1]; · iexact Hfr0_0_1
        isplitl [Hfr0_0_2]; · iexact Hfr0_0_2
        isplitl [Hfr0_1_0]; · iexact Hfr0_1_0
        isplitl [Hfr0_1_1]; · iexact Hfr0_1_1
        isplitl [Hfr0_1_2]; · iexact Hfr0_1_2
        isplitl [Hfr0_2_0]; · iexact Hfr0_2_0
        isplitl [Hfr0_2_1]; · iexact Hfr0_2_1
        isplitl [Hfr0_2_2]; · iexact Hfr0_2_2
        isplitl [HW]; · iexact HW
        iintro ⟨H0, ⟨%e1, H1⟩, ⟨%e2, H2⟩, Hfa0_0', Hfb0_0', Hfc0_0', Hfa0_1', Hfb0_1', Hfc0_1', Hfa0_2', Hfb0_2', Hfc0_2', ⟨%W', HW'⟩⟩
        isplitl [Hg Hfa0_0' Hfb0_0' Hfc0_0' Hfa0_1' Hfb0_1' Hfc0_1' Hfa0_2' Hfb0_2' Hfc0_2']
        · isplitl [Hg]; · iexact Hg
          isplitl [Hfa0_0' Hfb0_0' Hfc0_0']
          · iapply (Ring.with_homes (Idealize.SL.BI.Entails.refl _))
            isplitl [Hfa0_0']; · iexact Hfa0_0'
            isplitl [Hfb0_0']; · iexact Hfb0_0'
            iexact Hfc0_0'
          isplitl [Hfa0_1' Hfb0_1' Hfc0_1']
          · iapply (Ring.with_homes (Idealize.SL.BI.Entails.refl _))
            isplitl [Hfa0_1']; · iexact Hfa0_1'
            isplitl [Hfb0_1']; · iexact Hfb0_1'
            iexact Hfc0_1'
          iapply (Ring.with_homes (Idealize.SL.BI.Entails.refl _))
          isplitl [Hfa0_2']; · iexact Hfa0_2'
          isplitl [Hfb0_2']; · iexact Hfb0_2'
          iexact Hfc0_2'
        isplitl [HW']
        · iexists W'; isplitr; · ipureintro; exact fun _ _ => Or.inl trivial
          iexact HW'
        isplitl [H0]; · iexact H0
        isplitl [H1]
        · unfold owns; iexists _; isplitr
          swap; · iexact H1
          ipureintro; exact View.read_writes_of_cover _ _ _ _ _ (cover0_A_1 c _ _ _ _ _ _ _ _ _ _ _ _ _ _)
        unfold owns; iexists _; isplitr
        swap; · iexact H2
        ipureintro; exact View.read_writes_of_cover _ _ _ _ _ (cover0_A_2 c _ _ _ _ _ _ _ _ _ _ _ _ _ _)
      · exfalso; omega
    · exfalso; omega
  · by_cases h1 : t.val % 16 = 0
    · exfalso; omega
    · by_cases h2 : t.val < 14
      · rw [outsAt0_B m c t h0 h1 h2]
        simp only [before0_2_B m c t h0 h1 h2]
        unfold outs0_B out0_B_1 out0_B_2; (try dsimp only)
        have hr0 := rstep0_0_B t (fun h => h0 ((hcond0_0 t).mp h)) (fun h => h1 ((hcond0_1 t).mp h)) ((hcond0_2 t).mpr h2)
        obtain ⟨hK10, hKB0, hKs0⟩ := hr0
        simp only [if_neg (show ¬t.val = 0 by omega), if_neg (show ¬t.val + 1 = 0 by omega), Ring.At3_here _ _ _ _ t.val hKB0, Ring.At3_next _ _ _ _ t.val hKB0, Ring.slotAt3_next0 (NB := 16) _ _ _ t.val (by omega), Ring.slotAt3_next1 _ _ _ t.val hKB0]
        iintro ⟨⟨Hg, ⟨-, Hfr0_0_0, Hfr0_0_1, Hfr0_0_2⟩, ⟨-, Hfr0_1_0, Hfr0_1_1, Hfr0_1_2⟩, ⟨-, Hfr0_2_0, Hfr0_2_1, Hfr0_2_2⟩⟩, ⟨%W, -, HW⟩, ⟨%d0, H0⟩, ⟨%d1, H1⟩, ⟨%d2, H2⟩⟩
        iapply ((kernelRun0_B c t _ _ _ _ _ _ (fun h => h0 ((hcond0_0 t).mp h)) (fun h => h1 ((hcond0_1 t).mp h)) ((hcond0_2 t).mpr h2) (iblk m c 0 t) _ (V m c main_arg0) (V m c main_arg1) (V m c main_arg2)).2.2 W _)
        isplitl [H0]; · iexact H0
        isplitl [H1]; · iexists _; iexact H1
        isplitl [H2]; · iexact H2
        isplitl [Hfr0_0_0]; · iexact Hfr0_0_0
        isplitl [Hfr0_0_1]; · iexact Hfr0_0_1
        isplitl [Hfr0_0_2]; · iexact Hfr0_0_2
        isplitl [Hfr0_1_0]; · iexact Hfr0_1_0
        isplitl [Hfr0_1_1]; · iexact Hfr0_1_1
        isplitl [Hfr0_1_2]; · iexact Hfr0_1_2
        isplitl [Hfr0_2_0]; · iexact Hfr0_2_0
        isplitl [Hfr0_2_1]; · iexact Hfr0_2_1
        isplitl [Hfr0_2_2]; · iexact Hfr0_2_2
        isplitl [HW]; · iexact HW
        iintro ⟨H0, ⟨%e1, H1⟩, ⟨%e2, H2⟩, Hfa0_0', Hfb0_0', Hfc0_0', Hfa0_1', Hfb0_1', Hfc0_1', Hfa0_2', Hfb0_2', Hfc0_2', ⟨%W', HW'⟩⟩
        isplitl [Hg Hfa0_0' Hfb0_0' Hfc0_0' Hfa0_1' Hfb0_1' Hfc0_1' Hfa0_2' Hfb0_2' Hfc0_2']
        · isplitl [Hg]; · iexact Hg
          isplitl [Hfa0_0' Hfb0_0' Hfc0_0']
          · iapply (Ring.with_homes (Idealize.SL.BI.Entails.refl _))
            isplitl [Hfa0_0']; · iexact Hfa0_0'
            isplitl [Hfb0_0']; · iexact Hfb0_0'
            iexact Hfc0_0'
          isplitl [Hfa0_1' Hfb0_1' Hfc0_1']
          · iapply (Ring.with_homes (Idealize.SL.BI.Entails.refl _))
            isplitl [Hfa0_1']; · iexact Hfa0_1'
            isplitl [Hfb0_1']; · iexact Hfb0_1'
            iexact Hfc0_1'
          iapply (Ring.with_homes (Idealize.SL.BI.Entails.refl _))
          isplitl [Hfa0_2']; · iexact Hfa0_2'
          isplitl [Hfb0_2']; · iexact Hfb0_2'
          iexact Hfc0_2'
        isplitl [HW']
        · iexists W'; isplitr; · ipureintro; exact fun _ _ => Or.inl trivial
          iexact HW'
        isplitl [H0]; · iexact H0
        isplitl [H1]
        · unfold owns; iexists _; isplitr
          swap; · iexact H1
          ipureintro; exact View.read_writes_of_cover _ _ _ _ _ (cover0_B_1 c _ _ _ _ _ _ _ _ _ _ _ _ _ _ _)
        unfold owns; iexists _; isplitr
        swap; · iexact H2
        ipureintro; exact View.read_writes_of_cover _ _ _ _ _ (cover0_B_2 c _ _ _ _ _ _ _ _ _ _ _ _ _ _ _)
      · rw [outsAt0_C m c t h0 h1 h2]
        simp only [before0_2_C m c t h0 h1 h2]
        unfold outs0_C out0_C_1 out0_C_2; (try dsimp only)
        have hr0 := rstep0_0_C t (fun h => h0 ((hcond0_0 t).mp h)) (fun h => h1 ((hcond0_1 t).mp h)) (fun h => h2 ((hcond0_2 t).mp h))
        obtain ⟨hK10, hKB0, hKlt0, hKs0⟩ := hr0
        simp only [if_neg (show ¬t.val = 0 by omega), if_neg (show ¬t.val + 1 = 0 by omega), Ring.At3_here_tail _ _ _ _ t.val hKlt0, Ring.At3_next_tail _ _ _ _ t.val hKB0 hKlt0, Ring.slotAt3_tail_role _ _ _ t.val]
        iintro ⟨⟨Hg, ⟨-, Hfr0_0_0, Hfr0_0_1, Hfr0_0_2⟩, ⟨-, Hfr0_1_0, Hfr0_1_1, Hfr0_1_2⟩, ⟨-, Hfr0_2_0, Hfr0_2_1, Hfr0_2_2⟩⟩, ⟨%W, -, HW⟩, ⟨%d0, H0⟩, ⟨%d1, H1⟩, ⟨%d2, H2⟩⟩
        iapply ((kernelRun0_C c t _ _ _ _ _ _ (fun h => h0 ((hcond0_0 t).mp h)) (fun h => h1 ((hcond0_1 t).mp h)) (fun h => h2 ((hcond0_2 t).mp h)) (iblk m c 0 t) _ (V m c main_arg0) (V m c main_arg1) (V m c main_arg2)).2.2 W _)
        isplitl [H0]; · iexact H0
        isplitl [H1]; · iexists _; iexact H1
        isplitl [H2]; · iexact H2
        isplitl [Hfr0_0_0]; · iexact Hfr0_0_0
        isplitl [Hfr0_0_1]; · iexact Hfr0_0_1
        isplitl [Hfr0_0_2]; · iexact Hfr0_0_2
        isplitl [Hfr0_1_0]; · iexact Hfr0_1_0
        isplitl [Hfr0_1_1]; · iexact Hfr0_1_1
        isplitl [Hfr0_1_2]; · iexact Hfr0_1_2
        isplitl [Hfr0_2_0]; · iexact Hfr0_2_0
        isplitl [Hfr0_2_1]; · iexact Hfr0_2_1
        isplitl [Hfr0_2_2]; · iexact Hfr0_2_2
        isplitl [HW]; · iexact HW
        iintro ⟨H0, ⟨%e1, H1⟩, ⟨%e2, H2⟩, Hfa0_0', Hfb0_0', Hfc0_0', Hfa0_1', Hfb0_1', Hfc0_1', Hfa0_2', Hfb0_2', Hfc0_2', ⟨%W', HW'⟩⟩
        isplitl [Hg Hfa0_0' Hfb0_0' Hfc0_0' Hfa0_1' Hfb0_1' Hfc0_1' Hfa0_2' Hfb0_2' Hfc0_2']
        · isplitl [Hg]; · iexact Hg
          isplitl [Hfa0_0' Hfb0_0' Hfc0_0']
          · iapply (Ring.with_homes (Idealize.SL.BI.Entails.refl _))
            isplitl [Hfa0_0']; · iexact Hfa0_0'
            isplitl [Hfb0_0']; · iexact Hfb0_0'
            iexact Hfc0_0'
          isplitl [Hfa0_1' Hfb0_1' Hfc0_1']
          · iapply (Ring.with_homes (Idealize.SL.BI.Entails.refl _))
            isplitl [Hfa0_1']; · iexact Hfa0_1'
            isplitl [Hfb0_1']; · iexact Hfb0_1'
            iexact Hfc0_1'
          iapply (Ring.with_homes (Idealize.SL.BI.Entails.refl _))
          isplitl [Hfa0_2']; · iexact Hfa0_2'
          isplitl [Hfb0_2']; · iexact Hfb0_2'
          iexact Hfc0_2'
        isplitl [HW']
        · iexists W'; isplitr; · ipureintro; exact fun _ _ => Or.inl trivial
          iexact HW'
        isplitl [H0]; · iexact H0
        isplitl [H1]
        · unfold owns; iexists _; isplitr
          swap; · iexact H1
          ipureintro; exact View.read_writes_of_cover _ _ _ _ _ (cover0_C_1 c _ _ _ _ _ _ _ _ _ _ _ _ _ _ _)
        unfold owns; iexists _; isplitr
        swap; · iexact H2
        ipureintro; exact View.read_writes_of_cover _ _ _ _ _ (cover0_C_2 c _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [PhiD0_eq, show (dats m 0 c).Φ 0 = PhiR m c 0 from rfl]
  unfold PhiR
  iintro ⟨⟨HR0_0, HR0_1, HR0_2⟩, Hg, ⟨Hq0, Hq1, Hq2, Hq3, Hq4, Hq5, Hq6, Hq7, Hq8⟩, ⟨Hh0, Hh1, Hh2⟩⟩
  isplitl [Hg]; · iexact Hg
  isplitl [HR0_0 Hq0 Hq1 Hq2 Hh0]
  · iapply (ring0_0_in (F := F) m c)
    isplitl [HR0_0]; · iexact HR0_0
    isplitl [Hq0 Hq1 Hq2]
    · isplitl [Hq0]; · iexact Hq0
      isplitl [Hq1]; · iexact Hq1
      iexact Hq2
    iexact Hh0
  isplitl [HR0_1 Hq3 Hq4 Hq5 Hh1]
  · iapply (ring0_1_in (F := F) m c)
    isplitl [HR0_1]; · iexact HR0_1
    isplitl [Hq3 Hq4 Hq5]
    · isplitl [Hq3]; · iexact Hq3
      isplitl [Hq4]; · iexact Hq4
      iexact Hq5
    iexact Hh1
  iapply (ring0_2_in (F := F) m c)
  isplitl [HR0_2]; · iexact HR0_2
  isplitl [Hq6 Hq7 Hq8]
  · isplitl [Hq6]; · iexact Hq6
    isplitl [Hq7]; · iexact Hq7
    iexact Hq8
  iexact Hh2
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 16 by rw [N_0]]
  iintro ⟨Hg, HR0_0, HR0_1, HR0_2⟩
  ihave HX0_0 := (ring0_0_out (F := F) m c) $$ HR0_0
  icases HX0_0 with ⟨HR0_0, ⟨Hq0, Hq1, Hq2⟩, Hh0⟩
  ihave HX0_1 := (ring0_1_out (F := F) m c) $$ HR0_1
  icases HX0_1 with ⟨HR0_1, ⟨Hq3, Hq4, Hq5⟩, Hh1⟩
  ihave HX0_2 := (ring0_2_out (F := F) m c) $$ HR0_2
  icases HX0_2 with ⟨HR0_2, ⟨Hq6, Hq7, Hq8⟩, Hh2⟩
  isplitl [HR0_0 HR0_1 HR0_2]
  · isplitl [HR0_0]; · iexact HR0_0
    isplitl [HR0_1]; · iexact HR0_1
    iexact HR0_2
  isplitl [Hg]
  · iexact Hg
  isplitl [Hq0 Hq1 Hq2 Hq3 Hq4 Hq5 Hq6 Hq7 Hq8]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    iexact Hq8
  isplitl [Hh0]; · iexact Hh0
  isplitl [Hh1]; · iexact Hh1
  iexact Hh2

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel6Ideal.Gen

end
-- ==== Proof.Same.lean ====
module

public import proofs.«01_k».proof.Defs
public import proofs.«01_k».proof.Proof.Gen.Kernel5
public import proofs.«01_k».proof.Proof.Gen.Kernel6
public import proofs.«01_k».proof.Proof.GateFrame
public import proofs.«01_k».proof.Proof.NormFrame

/-! A program and its idealization are one text over two kinds of numbers, so a frame proved of the one for every kind of
    numbers is the frame of the other. -/

@[expose] public section

namespace Cert.Proof

open Idealize.ShloMosaic Idealize.SL.Sem

variable {F : FTy → Type} [FloatOps F]

theorem body6 : Cert.Kernel6.defs₀ (F := F) = Cert.Kernel6Ideal.defs₀ (F := F) := by
  unfold Cert.Kernel6.defs₀ Cert.Kernel6Ideal.defs₀
  refine congrArg Defs.onTc (funext fun l => funext fun p => ?_)
  match l, p with
  | ⟨0, _⟩, (t, s) => rfl

theorem defs6 : Cert.Kernel6.defs (F := F) = Cert.Kernel6Ideal.defs (F := F) :=
  congrArg (Pipeline.defs Cert.Kernel6Ideal.pcfgs) body6

theorem body5 : Cert.Kernel5.defs₀ (F := F) = Cert.Kernel5Ideal.defs₀ (F := F) := by
  unfold Cert.Kernel5.defs₀ Cert.Kernel5Ideal.defs₀
  refine congrArg Defs.onTc (funext fun l => funext fun p => ?_)
  match l, p with
  | ⟨0, _⟩, (t, s) => rfl

theorem defs5 : Cert.Kernel5.defs (F := F) = Cert.Kernel5Ideal.defs (F := F) :=
  congrArg (Pipeline.defs Cert.Kernel5Ideal.pcfgs) body5

theorem frame_kernel6 : Cert.quiescent_Kernel6 := fun m ρ _ => by
  have h := Cert.Kernel6Ideal.Gen.frame m ρ
  rw [← defs6] at h
  exact h

theorem frame_kernel5 : Cert.quiescent_Kernel5 := fun m ρ _ => by
  have h := Cert.Kernel5Ideal.Gen.Half.frame m ρ
  rw [← defs5] at h
  exact h

end Cert.Proof

end
-- ==== Proof.NormValue.lean ====
module

public import proofs.«01_k».proof.Proof.NormFrame
public import Idealize.ShloMosaic.Lib.Pipeline.Value

@[expose] public section

noncomputable section

namespace Cert.Kernel6Ideal.Value

open Cert.Kernel6Ideal Cert.Kernel6Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! The norm's gradients after the run, named by the arrays that the windows leave. -/

/-- What point `t` writes back of the rows' gradient. -/
theorem flushed1 (c : Dev nD) (t : Fin cfg0.N) :
    (dats m 0 c).flushed 1 t = (cfg0.win 1).cut (grid0.coords t) ((outsAt0 m c t.val t.isLt).1) := by
  show (cfg0.win 1).cut (grid0.coords t) ((dats m 0 c).after 1 t) = _
  rw [after0_1]

/-- What point `t` writes back of the gain's gradient. -/
theorem flushed2 (c : Dev nD) (t : Fin cfg0.N) :
    (dats m 0 c).flushed 2 t = (cfg0.win 2).cut (grid0.coords t) ((outsAt0 m c t.val t.isLt).2) := by
  show (cfg0.win 2).cut (grid0.coords t) ((dats m 0 c).after 2 t) = _
  rw [after0_2]

/-- The rows' gradient after the run. -/
theorem post1 (r : PUnit × MemSt nD τ sig (Elt F)) (h : Pipeline.FramePost cfgs (dats m) 0 (V m) r) (c : Dev nD) :
    r.2.mem ((c : Thread nD τ).loc main_v0_0) = (dats m 0 c).arrAt 1 cfg0.N :=
  (h c).1 1

/-- The gain's gradient after the run. -/
theorem post2 (r : PUnit × MemSt nD τ sig (Elt F)) (h : Pipeline.FramePost cfgs (dats m) 0 (V m) r) (c : Dev nD) :
    r.2.mem ((c : Thread nD τ).loc main_v0_1) = (dats m 0 c).arrAt 2 cfg0.N :=
  (h c).1 2

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 0).trans (((dats m 0 c).arrAt_in 0 rfl _).trans ((A_eq m c 0).trans (V_main_arg3 m c)))

/-- The run leaves the two gradients, and its arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 1 cfg0.N
      ∧ r.2.mem ((c : Thread nD τ).loc main_v0_1) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post1 m r h c,
      post2 m r h c,
      kept_main_arg0 m r h c,
      kept_main_arg1 m r h c,
      kept_main_arg2 m r h c,
      kept_main_arg3 m r h c⟩)
    (run_main m ρ)

end Cert.Kernel6Ideal.Value

end
-- ==== Proof.NormMath.lean ====
module

public import proofs.«01_k».proof.Proof.Finite
public import Idealize.ShloMosaic.Lib.Pointwise

/-! The gradient of a root-mean-square norm, as functions of whole arrays. `x` are the rows that are normed, `d` the
    gradient of the normed rows, `h` the gradient that reaches `x` past the norm, `g` the gain, one number per column. -/

@[expose] public section

set_option maxRecDepth 16384

noncomputable section

namespace Cert.Norm

open Idealize.ShloMosaic Idealize.ShloMosaic.TcCoe Cert.Finite

/-- Rows by columns. -/
abbrev Rows : Shape := ⟨2, ![4096, 2048]⟩
/-- One row. -/
abbrev Row : Shape := ⟨2, ![1, 2048]⟩

/-- The number of columns, as the programs' constant. -/
abbrev cols : EReal := Ideal.ofBits .f32 0x45000000#32
/-- What is added under the root, as the programs' constant. -/
abbrev eps : EReal := Ideal.ofBits .f32 0x358637BD#32

/-- A row's mean square, and the constant. -/
def meanSq (x : Fin 2048 → EReal) : EReal := Ideal.div (∑ j, x j * x j) cols + eps

/-- One over a row's root mean square. -/
def inv (x : Fin 2048 → EReal) : EReal := Ideal.rsqrt (meanSq x)

/-- The gradient of a row at column `k`. -/
def rowGrad (x d h g : Fin 2048 → EReal) (k : Fin 2048) : EReal :=
  h k + inv x * (d k * g k - x k * inv x * Ideal.div (∑ j, d j * g j * (x j * inv x)) cols)

/-- Row `n` of an array. -/
def row {R : ℕ} (x : (⟨2, ![R, 2048]⟩ : Shape).Idx → EReal) (n : Fin R) : Fin 2048 → EReal := fun j => x (ix2 n j)

/-- The gradient of the rows. -/
def dx (x d h : Rows.Idx → EReal) (g : Row.Idx → EReal) : Rows.Idx → EReal :=
  fun i => rowGrad (row x (i 0)) (row d (i 0)) (row h (i 0)) (row g 0) (i 1)

/-- The gradient of the gain: the sum over the rows of the gradient times the normed rows. -/
def dgain (x d : Rows.Idx → EReal) : Row.Idx → EReal :=
  fun i => ∑ n : Fin 4096, d (ix2 n (i 1)) * (x (ix2 n (i 1)) * inv (row x n))

theorem cols_eq : cols = ((2048 : ℝ) : EReal) := by
  show Ideal.ofBits .f32 0x45000000#32 = _
  simp [Ideal.ofBits, Ideal.ieee]
  rw [← EReal.coe_mul]; norm_num

theorem eps_pos : ∃ e : ℝ, 0 < e ∧ eps = (e : EReal) := by
  refine ⟨_, ?_, rfl⟩
  simp

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real row's mean square is a positive real number. -/
theorem meanSq_coe (x : Fin 2048 → ℝ) : ∃ s : ℝ, 0 < s ∧ meanSq (fun j => (x j : EReal)) = (s : EReal) := by
  obtain ⟨e, he, h⟩ := eps_pos
  refine ⟨(∑ j, x j * x j) / 2048 + e, by have : 0 ≤ ∑ j, x j * x j := Finset.sum_nonneg fun j _ => mul_self_nonneg (x j); positivity, ?_⟩
  unfold meanSq
  rw [h, cols_eq]
  simp only [← EReal.coe_mul, ← coe_sum]
  rw [Ideal.div_coe (by norm_num), ← EReal.coe_mul, ← EReal.coe_add]
  exact congrArg _ (by ring)

/-- Reverse accumulation's spelling of a row's gradient. -/
def rowGradRev (x d h g : Fin 2048 → EReal) (k : Fin 2048) : EReal :=
  let c := Ideal.div ((∑ j, x j * (d j * g j)) * (Ideal.ofBits .f32 0xBF000000#32 * Ideal.div (inv x) (meanSq x))) cols
  h k + d k * g k * inv x + x k * c + c * x k

theorem half : Ideal.ofBits .f32 0xBF000000#32 = ((-(1 / 2) : ℝ) : EReal) := by
  simp [Ideal.ofBits, Ideal.ieee]
  rw [← EReal.coe_mul]; norm_num

/-- The two spellings agree on real numbers; the gradient past the norm may be anything. -/
theorem rowGrad_eq (x d g : Fin 2048 → ℝ) (h : Fin 2048 → EReal) (k : Fin 2048) :
    rowGradRev (fun j => (x j : EReal)) (fun j => (d j : EReal)) h (fun j => (g j : EReal)) k
      = rowGrad (fun j => (x j : EReal)) (fun j => (d j : EReal)) h (fun j => (g j : EReal)) k := by
  obtain ⟨s, hs, e⟩ := meanSq_coe x
  have hi : inv (fun j => (x j : EReal)) = (((Real.sqrt s)⁻¹ : ℝ) : EReal) := by
    unfold inv
    rw [e, Ideal.rsqrt_coe, if_neg (by linarith), if_neg (by linarith)]
  unfold rowGradRev rowGrad
  rw [hi, e, cols_eq, half]
  simp only [← EReal.coe_mul, ← coe_sum]
  rw [Ideal.div_coe (ne_of_gt hs), ← EReal.coe_mul, ← EReal.coe_mul, Ideal.div_coe (by norm_num), Ideal.div_coe (by norm_num)]
  simp only [← EReal.coe_mul, ← EReal.coe_sub, ← EReal.coe_add, add_assoc]
  refine congrArg (fun r : ℝ => h k + (r : EReal)) ?_
  have hq : Real.sqrt s * Real.sqrt s = s := Real.mul_self_sqrt hs.le
  have hp : Real.sqrt s ≠ 0 := (Real.sqrt_pos.mpr hs).ne'
  have e1 : ∑ j, d j * g j * (x j * (Real.sqrt s)⁻¹) = (∑ j, x j * (d j * g j)) * (Real.sqrt s)⁻¹ := by
    rw [Finset.sum_mul]
    exact Finset.sum_congr rfl fun j _ => by ring
  rw [e1]
  generalize ∑ j, x j * (d j * g j) = S
  generalize Real.sqrt s = q at hp hq
  rw [← hq]
  field_simp
  ring

/-- The same of whole arrays. -/
theorem dx_rev (x d h : Rows.Idx → EReal) (g : Row.Idx → EReal) (hx : AllReal x) (hd : AllReal d) (hg : AllReal g) (n : Fin 4096) (k : Fin 2048) :
    rowGradRev (row x n) (row d n) (row h n) (row g 0) k = dx x d h g (ix2 n k) := by
  obtain ⟨x, rfl⟩ := hx
  obtain ⟨d, rfl⟩ := hd
  obtain ⟨g, rfl⟩ := hg
  exact rowGrad_eq (fun j => x (ix2 n j)) (fun j => d (ix2 n j)) (fun j => g (ix2 0 j)) (row h n) k

end Cert.Norm

end
-- ==== Proof.NormKernel.lean ====
module

public import proofs.«01_k».proof.Proof.NormValue
public import proofs.«01_k».proof.Proof.NormMath
public import Idealize.ShloMosaic.Lib.Pointwise
public import Idealize.ShloMosaic.Lib.ValueLayout
public import Idealize.ShloMosaic.Lib.Pipeline.ValueKit

/-! What the norm's backward kernel leaves: at every grid point 256 rows of the rows' gradient, and in the accumulator
    that all points share the gain's gradient. The kernel streams its three row arrays through a ring of three buffers
    of its own: at point `t` each ring's current buffer holds rows `256 t` to `256 t + 255`. -/

@[expose] public section

set_option maxRecDepth 16384

noncomputable section

namespace Cert.Norm

open Cert.Kernel6Ideal Cert.Kernel6Ideal.Gen Idealize.ShloMosaic Idealize.ShloMosaic.TcCoe Idealize.SL.Sem

variable (m : (ℓ : Loc nD τ sig) → Buf (Elt Ideal) ℓ) (c : Dev nD)

/-! ## The rings -/

theorem whole_emb (y : S256x2048.Idx) : (Rect.whole S256x2048).emb y = y := by
  funext a
  refine Fin.ext ?_
  show 0 + 1 * (y a).val = (y a).val
  omega

theorem drop_unit (h : S256x2048.numel = S1x256x2048.numel) (r : Fin 256) (k : Fin 2048) :
    Shape.reshapeEquiv h (ix2 r k : S256x2048.Idx) = (ix3 (0 : Fin 1) r k : S1x256x2048.Idx) :=
  Shape.reshapeEquiv_eq_of_rowMajor h (by
    rw [Shape.rowMajor_val_three, Shape.rowMajor_val_two]
    show ((0 * 256 + r.val) * 2048 + k.val) = r.val * 2048 + k.val
    simp only [Nat.zero_mul, Nat.zero_add])

theorem slot0_emb (s : Fin 3) (inb : ∀ a, (![s.val, 0, 0] : Fin 3 → ℕ) a + (![1, 256, 2048] : Fin 3 → ℕ) a ≤ S3x256x2048.size a) (r : Fin 256) (k : Fin 2048) :
    (Rect.unit (s := S3x256x2048) ![s.val, 0, 0] ![1, 256, 2048] inb).emb (ix3 (0 : Fin 1) r k)
      = ((rslot0_0 s).view.slice (Rect.whole S256x2048)).emb (ix2 r k) :=
  congrArg (Rect.unit (s := S3x256x2048) ![s.val, 0, 0] S1x256x2048.size (inb_slot0_0 s)).emb
    ((drop_unit squeezes_S1x256x2048_S256x2048.numel_eq r k).symm.trans (congrArg _ (whole_emb (ix2 r k)).symm))

/-- A buffer of the first ring, read whole, holds what was copied there. -/
theorem slot0 (s : Fin 3) {off : Fin 3 → ℕ} (inb : ∀ a, off a + (![1, 256, 2048] : Fin 3 → ℕ) a ≤ S3x256x2048.size a) (h : off = ![s.val, 0, 0])
    (v : S256x2048.Idx → Elt Ideal .f32) (r : Fin 256) (k : Fin 2048) :
    View.readAt (Elt Ideal) (View.whole cc0_scratch0) (Rect.unit (s := S3x256x2048) off ![1, 256, 2048] inb).toLoadRect
      ((rslot0_0 s).view.writes (Elt Ideal) (rslot0_0 s).view.junk [⟨Rect.whole S256x2048, v⟩]) (ix3 (0 : Fin 1) r k) = v (ix2 r k) := by
  subst h
  have key : ∀ f, View.readAt (Elt Ideal) (View.whole cc0_scratch0) (Rect.unit (s := S3x256x2048) ![s.val, 0, 0] ![1, 256, 2048] inb).toLoadRect f (ix3 (0 : Fin 1) r k)
      = f ((Rect.unit (s := S3x256x2048) ![s.val, 0, 0] ![1, 256, 2048] inb).emb (ix3 (0 : Fin 1) r k)) := fun f => rfl
  refine (key _).trans ?_
  rw [slot0_emb]
  exact View.write_emb_of_mem (v := (rslot0_0 s).view.slice (Rect.whole S256x2048)) _ v (Finset.mem_univ (ix2 r k))

theorem slot1_emb (s : Fin 3) (inb : ∀ a, (![s.val, 0, 0] : Fin 3 → ℕ) a + (![1, 256, 2048] : Fin 3 → ℕ) a ≤ S3x256x2048.size a) (r : Fin 256) (k : Fin 2048) :
    (Rect.unit (s := S3x256x2048) ![s.val, 0, 0] ![1, 256, 2048] inb).emb (ix3 (0 : Fin 1) r k)
      = ((rslot0_1 s).view.slice (Rect.whole S256x2048)).emb (ix2 r k) :=
  congrArg (Rect.unit (s := S3x256x2048) ![s.val, 0, 0] S1x256x2048.size (inb_slot0_1 s)).emb
    ((drop_unit squeezes_S1x256x2048_S256x2048.numel_eq r k).symm.trans (congrArg _ (whole_emb (ix2 r k)).symm))

/-- A buffer of the second ring, read whole, holds what was copied there. -/
theorem slot1 (s : Fin 3) {off : Fin 3 → ℕ} (inb : ∀ a, off a + (![1, 256, 2048] : Fin 3 → ℕ) a ≤ S3x256x2048.size a) (h : off = ![s.val, 0, 0])
    (v : S256x2048.Idx → Elt Ideal .f32) (r : Fin 256) (k : Fin 2048) :
    View.readAt (Elt Ideal) (View.whole cc0_scratch1) (Rect.unit (s := S3x256x2048) off ![1, 256, 2048] inb).toLoadRect
      ((rslot0_1 s).view.writes (Elt Ideal) (rslot0_1 s).view.junk [⟨Rect.whole S256x2048, v⟩]) (ix3 (0 : Fin 1) r k) = v (ix2 r k) := by
  subst h
  have key : ∀ f, View.readAt (Elt Ideal) (View.whole cc0_scratch1) (Rect.unit (s := S3x256x2048) ![s.val, 0, 0] ![1, 256, 2048] inb).toLoadRect f (ix3 (0 : Fin 1) r k)
      = f ((Rect.unit (s := S3x256x2048) ![s.val, 0, 0] ![1, 256, 2048] inb).emb (ix3 (0 : Fin 1) r k)) := fun f => rfl
  refine (key _).trans ?_
  rw [slot1_emb]
  exact View.write_emb_of_mem (v := (rslot0_1 s).view.slice (Rect.whole S256x2048)) _ v (Finset.mem_univ (ix2 r k))

theorem slot2_emb (s : Fin 3) (inb : ∀ a, (![s.val, 0, 0] : Fin 3 → ℕ) a + (![1, 256, 2048] : Fin 3 → ℕ) a ≤ S3x256x2048.size a) (r : Fin 256) (k : Fin 2048) :
    (Rect.unit (s := S3x256x2048) ![s.val, 0, 0] ![1, 256, 2048] inb).emb (ix3 (0 : Fin 1) r k)
      = ((rslot0_2 s).view.slice (Rect.whole S256x2048)).emb (ix2 r k) :=
  congrArg (Rect.unit (s := S3x256x2048) ![s.val, 0, 0] S1x256x2048.size (inb_slot0_2 s)).emb
    ((drop_unit squeezes_S1x256x2048_S256x2048.numel_eq r k).symm.trans (congrArg _ (whole_emb (ix2 r k)).symm))

/-- A buffer of the third ring, read whole, holds what was copied there. -/
theorem slot2 (s : Fin 3) {off : Fin 3 → ℕ} (inb : ∀ a, off a + (![1, 256, 2048] : Fin 3 → ℕ) a ≤ S3x256x2048.size a) (h : off = ![s.val, 0, 0])
    (v : S256x2048.Idx → Elt Ideal .f32) (r : Fin 256) (k : Fin 2048) :
    View.readAt (Elt Ideal) (View.whole cc0_scratch2) (Rect.unit (s := S3x256x2048) off ![1, 256, 2048] inb).toLoadRect
      ((rslot0_2 s).view.writes (Elt Ideal) (rslot0_2 s).view.junk [⟨Rect.whole S256x2048, v⟩]) (ix3 (0 : Fin 1) r k) = v (ix2 r k) := by
  subst h
  have key : ∀ f, View.readAt (Elt Ideal) (View.whole cc0_scratch2) (Rect.unit (s := S3x256x2048) ![s.val, 0, 0] ![1, 256, 2048] inb).toLoadRect f (ix3 (0 : Fin 1) r k)
      = f ((Rect.unit (s := S3x256x2048) ![s.val, 0, 0] ![1, 256, 2048] inb).emb (ix3 (0 : Fin 1) r k)) := fun f => rfl
  refine (key _).trans ?_
  rw [slot2_emb]
  exact View.write_emb_of_mem (v := (rslot0_2 s).view.slice (Rect.whole S256x2048)) _ v (Finset.mem_univ (ix2 r k))

/-- The row of an array that is row `r` of block `b`. -/
def at_ (b : Fin 16) (r : Fin 256) : Fin 4096 := ⟨256 * b.val + r.val, by omega⟩

theorem src0 (b : Fin 16) (x : S4096x2048.Idx → Elt Ideal .f32) (r : Fin 256) (k : Fin 2048) :
    ReadAs.same.apply (View.read (Elt Ideal) (srcB0_0 b).view x) (ix2 r k) = x (ix2 (at_ b r) k) := by
  show x ((Rect.unit (s := S4096x2048) ![256 * b.val, 0] S256x2048.size (inb_src0_0 b)).emb (ix2 r k)) = _
  refine congrArg x (funext fun a => ?_)
  match a with
  | ⟨0, _⟩ => exact Fin.ext (by show 256 * b.val + 1 * r.val = 256 * b.val + r.val; omega)
  | ⟨1, _⟩ => exact Fin.ext (by show 0 + 1 * k.val = k.val; omega)

theorem src1 (b : Fin 16) (x : S4096x2048.Idx → Elt Ideal .f32) (r : Fin 256) (k : Fin 2048) :
    ReadAs.same.apply (View.read (Elt Ideal) (srcB0_1 b).view x) (ix2 r k) = x (ix2 (at_ b r) k) := src0 b x r k

theorem src2 (b : Fin 16) (x : S4096x2048.Idx → Elt Ideal .f32) (r : Fin 256) (k : Fin 2048) :
    ReadAs.same.apply (View.read (Elt Ideal) (srcB0_2 b).view x) (ix2 r k) = x (ix2 (at_ b r) k) := src0 b x r k

theorem off_eq : ∀ t : Fin grid0.N, k0_off11 (grid0.coords t) = ![(Fin.ofNat 3 t.val).val, 0, 0] := by decide +kernel

/-! ## The payloads -/

theorem pay1_at (a : Vec Ideal S1x256x2048 .f32) (r : Fin 256) (k : Fin 2048) : (k0_pay1 a : FVec Ideal S256x2048 .f32) (ix2 r k) = a (ix3 0 r k) := by
  unfold k0_pay1
  pointwise

theorem pay6_at (a : Vec Ideal S1x256x2048 .f32) (r : Fin 256) : (k0_pay6 a : FVec Ideal S256x1 .f32) (ix2 r 0) = inv fun j => a (ix3 0 r j) := by
  unfold k0_pay6 k0_pay5 inv meanSq
  pointwise

theorem pay7_at (a : Vec Ideal S1x256x2048 .f32) (r : Fin 256) (k : Fin 2048) :
    (k0_pay7 a : FVec Ideal S256x2048 .f32) (ix2 r k) = a (ix3 0 r k) * inv fun j => a (ix3 0 r j) := by
  rw [← pay6_at]
  unfold k0_pay7 k0_pay5
  generalize k0_pay6 a = p
  pointwise

theorem pay3_at (a b h : Vec Ideal S1x256x2048 .f32) (g : Vec Ideal S1x2048 .f32) (r : Fin 256) (k : Fin 2048) :
    (k0_pay3 (k0_pay6 a) (k0_pay7 a) b g h : FVec Ideal S256x2048 .f32) (ix2 r k)
      = rowGrad (fun j => a (ix3 0 r j)) (fun j => b (ix3 0 r j)) (fun j => h (ix3 0 r j)) (row g 0) k := by
  have e7 := pay7_at a r
  have e6 := pay6_at a r
  have e1 := pay1_at b r
  generalize k0_pay7 a = q at e7
  generalize k0_pay6 a = p at e6
  unfold k0_pay3
  generalize k0_pay1 b = d at e1
  pointwise
  simp only [e7, e6, e1]
  rfl

theorem pay2_at (a b : Vec Ideal S1x256x2048 .f32) (s : Vec Ideal S1x2048 .f32) (k : Fin 2048) :
    (k0_pay2 (k0_pay7 a) b s : FVec Ideal S1x2048 .f32) (ix2 0 k)
      = s (ix2 0 k) + ∑ r : Fin 256, b (ix3 0 r k) * (a (ix3 0 r k) * inv fun j => a (ix3 0 r j)) := by
  have e7 := fun r => pay7_at a r k
  have e1 := fun r => pay1_at b r k
  generalize k0_pay7 a = q at e7
  unfold k0_pay2
  generalize k0_pay1 b = d at e1
  pointwise
  simp only [e7, e1]

/-! ## The grid points -/

theorem rowGrad_congr {x x' d d' h h' g g' : Fin 2048 → EReal} (hx : ∀ j, x j = x' j) (hd : ∀ j, d j = d' j) (hh : ∀ j, h j = h' j)
    (hg : ∀ j, g j = g' j) (k : Fin 2048) : rowGrad x d h g k = rowGrad x' d' h' g' k := by
  rw [funext hx, funext hd, funext hh, funext hg]

/-- Row `n`'s term of the gain's gradient. -/
def term (x d : Rows.Idx → EReal) (k : Fin 2048) (n : ℕ) : EReal :=
  if h : n < 4096 then d (ix2 (⟨n, h⟩ : Fin 4096) k) * (x (ix2 (⟨n, h⟩ : Fin 4096) k) * inv (row x (⟨n, h⟩ : Fin 4096))) else 0

theorem term_congr (x d : Rows.Idx → EReal) {a b : Fin 256 → Fin 2048 → EReal} (t : Fin 16) (ha : ∀ r k, a r k = x (ix2 (at_ t r) k))
    (hb : ∀ r k, b r k = d (ix2 (at_ t r) k)) (k : Fin 2048) :
    ∑ r : Fin 256, b r k * (a r k * inv (a r)) = ∑ r : Fin 256, term x d k (t.val * 256 + r.val) := by
  refine Finset.sum_congr rfl fun r _ => ?_
  have e : t.val * 256 + r.val < 4096 := by omega
  have e' : (⟨t.val * 256 + r.val, e⟩ : Fin 4096) = at_ t r := Fin.ext (by show t.val * 256 + r.val = 256 * t.val + r.val; omega)
  unfold term
  rw [dif_pos e, e', hb, ha, funext (ha r)]
  rfl

/-- Summed over blocks and the rows of each, the terms make the gain's gradient. -/
theorem dgain_blocks (x d : Rows.Idx → EReal) (k : Fin 2048) :
    ∑ t ∈ Finset.range 16, ∑ r : Fin 256, term x d k (t * 256 + r.val) = dgain x d (ix2 0 k) := by
  have e1 : ∀ t, ∑ r : Fin 256, term x d k (t * 256 + r.val) = ∑ r ∈ Finset.range 256, term x d k (t * 256 + r) := fun t =>
    Fin.sum_univ_eq_sum_range (fun r => term x d k (t * 256 + r)) 256
  simp only [e1]
  rw [Finset.sum_range_range_mul_add 16 256 (term x d k), ← Fin.sum_univ_eq_sum_range (term x d k) (16 * 256)]
  refine Finset.sum_congr rfl fun n _ => ?_
  unfold term
  rw [dif_pos n.isLt]
  rfl

theorem gain (t : Fin cfg0.N) (k : Fin 2048) : iblk m c 0 t (ix2 (0 : Fin 1) k) = m ((c : Thread nD τ).loc main_arg3) (ix2 (0 : Fin 1) k) := by
  have e : ∀ t : Fin grid0.N, win0_0.index t = ![0, 0] := by decide +kernel
  blk_point [iblk, V, e t]

/-- What a point adds to the rows' gradient: its block of rows. -/
theorem rows_point (t : Fin cfg0.N) (r : Fin 256) (k : Fin 2048) :
    (outsAt0 m c t.val t.isLt).1 (ix2 r k)
      = dx (m ((c : Thread nD τ).loc main_arg0)) (m ((c : Thread nD τ).loc main_arg1)) (m ((c : Thread nD τ).loc main_arg2)) (m ((c : Thread nD τ).loc main_arg3))
          (ix2 (at_ (Ring.bk 16 t.val) r) k) := by
  have ht : t.val < 16 := lt_of_lt_of_eq t.isLt (show cfg0.N = 16 from N_0)
  rcases (by omega : t.val = 0 ∨ (0 < t.val ∧ t.val < 14) ∨ 14 ≤ t.val) with h | h | h
  · rw [outsAt0_A m c t (by omega) (by omega) (by omega), outs0_A]
    frame_out
    exact (pay3_at _ _ _ _ r k).trans (rowGrad_congr (fun j => (slot0 _ _ (off_eq t) _ r j).trans (src0 _ _ r j))
      (fun j => (slot1 _ _ (off_eq t) _ r j).trans (src1 _ _ r j)) (fun j => (slot2 _ _ (off_eq t) _ r j).trans (src2 _ _ r j)) (gain m c t) k)
  · rw [outsAt0_B m c t (by omega) (by omega) (by omega), outs0_B]
    frame_out
    exact (pay3_at _ _ _ _ r k).trans (rowGrad_congr (fun j => (slot0 _ _ (off_eq t) _ r j).trans (src0 _ _ r j))
      (fun j => (slot1 _ _ (off_eq t) _ r j).trans (src1 _ _ r j)) (fun j => (slot2 _ _ (off_eq t) _ r j).trans (src2 _ _ r j)) (gain m c t) k)
  · rw [outsAt0_C m c t (by omega) (by omega) (by omega), outs0_C]
    frame_out
    exact (pay3_at _ _ _ _ r k).trans (rowGrad_congr (fun j => (slot0 _ _ (off_eq t) _ r j).trans (src0 _ _ r j))
      (fun j => (slot1 _ _ (off_eq t) _ r j).trans (src1 _ _ r j)) (fun j => (slot2 _ _ (off_eq t) _ r j).trans (src2 _ _ r j)) (gain m c t) k)

theorem blk_eq : ∀ t : Fin cfg0.N, (Ring.bk 16 t.val).val = t.val := by decide +kernel

theorem zeros_at (k : Fin 2048) : (k0_pay4 : FVec Ideal S1x2048 .f32) (ix2 0 k) = 0 := by
  unfold k0_pay4
  pointwise

/-- The first point starts the gain's gradient with its own rows. -/
theorem gain_first (t : Fin cfg0.N) (h : t.val = 0) (k : Fin 2048) :
    (outsAt0 m c t.val t.isLt).2 (ix2 (0 : Fin 1) k)
      = ∑ r : Fin 256, term (m ((c : Thread nD τ).loc main_arg0)) (m ((c : Thread nD τ).loc main_arg1)) k (t.val * 256 + r.val) := by
  rw [outsAt0_A m c t (by omega) (by omega) (by omega), outs0_A]
  frame_out
  refine (pay2_at _ _ _ k).trans ?_
  refine (congrArg₂ (· + ·) (zeros_at k) (term_congr _ _ (Ring.bk 16 t.val) (fun r k => (slot0 _ _ (off_eq t) _ r k).trans (src0 _ _ r k))
    (fun r k => (slot1 _ _ (off_eq t) _ r k).trans (src1 _ _ r k)) k)).trans ?_
  rw [zero_add, blk_eq]

/-- Every later point adds its rows. -/
theorem gain_next (t : Fin cfg0.N) (h : t.val ≠ 0) (k : Fin 2048) :
    (outsAt0 m c t.val t.isLt).2 (ix2 (0 : Fin 1) k) = (outsAt0 m c (t.val - 1) (Nat.lt_of_le_of_lt (Nat.sub_le _ _) t.isLt)).2 (ix2 (0 : Fin 1) k)
      + ∑ r : Fin 256, term (m ((c : Thread nD τ).loc main_arg0)) (m ((c : Thread nD τ).loc main_arg1)) k (t.val * 256 + r.val) := by
  have ht : t.val < 16 := lt_of_lt_of_eq t.isLt (show cfg0.N = 16 from N_0)
  rcases (by omega : t.val < 14 ∨ 14 ≤ t.val) with h' | h'
  · rw [outsAt0_B m c t (by omega) (by omega) (by omega), outs0_B]
    frame_out
    refine (pay2_at _ _ _ k).trans ?_
    refine congrArg _ ((term_congr _ _ (Ring.bk 16 t.val) (fun r k => (slot0 _ _ (off_eq t) _ r k).trans (src0 _ _ r k))
      (fun r k => (slot1 _ _ (off_eq t) _ r k).trans (src1 _ _ r k)) k).trans ?_)
    rw [blk_eq]
  · rw [outsAt0_C m c t (by omega) (by omega) (by omega), outs0_C]
    frame_out
    refine (pay2_at _ _ _ k).trans ?_
    refine congrArg _ ((term_congr _ _ (Ring.bk 16 t.val) (fun r k => (slot0 _ _ (off_eq t) _ r k).trans (src0 _ _ r k))
      (fun r k => (slot1 _ _ (off_eq t) _ r k).trans (src1 _ _ r k)) k).trans ?_)
    rw [blk_eq]

/-- After point `n` the accumulator holds the terms of the rows so far. -/
theorem gain_upto (k : Fin 2048) : ∀ (n : ℕ) (h : n < cfg0.N), (outsAt0 m c n h).2 (ix2 (0 : Fin 1) k)
    = ∑ t ∈ Finset.range (n + 1), ∑ r : Fin 256, term (m ((c : Thread nD τ).loc main_arg0)) (m ((c : Thread nD τ).loc main_arg1)) k (t * 256 + r.val)
  | 0, h => by
    show _ = ∑ t ∈ Finset.range 1, _
    rw [Finset.sum_range_one]
    exact gain_first m c ⟨0, h⟩ rfl k
  | n + 1, h => by
    rw [Finset.sum_range_succ, ← gain_upto k n (Nat.lt_of_succ_lt h)]
    exact gain_next m c ⟨n + 1, h⟩ (Nat.succ_ne_zero n) k

/-! ## The arrays after the run -/

theorem idx1 : ∀ t : Fin grid0.N, win0_1.index t = ![t.val, 0] := by decide +kernel

theorem exists_row {R C : ℕ} (x : Shape.Idx ⟨2, ![R, C]⟩) : ∃ (r : Fin R) (k : Fin C), x = ix2 r k := ⟨x 0, x 1, eq_ix2 x⟩

/-- The rows' gradient after the run. -/
theorem arr_rows : (dats m 0 c).arrAt 1 cfg0.N
    = dx (m ((c : Thread nD τ).loc main_arg0)) (m ((c : Thread nD τ).loc main_arg1)) (m ((c : Thread nD τ).loc main_arg2)) (m ((c : Thread nD τ).loc main_arg3)) := by
  refine (dats m 0 c).arrAt_eq_of_covers 1 _ (by decide +kernel) fun t hf y => ?_
  rw [after0_1]
  obtain ⟨r, k, e⟩ : ∃ (r : Fin 256) (k : Fin 2048), (win0 1).xinj (grid0.coords t) y = ix2 r k := exists_row (R := 256) (C := 2048) _
  have e0 : (y 0).val = r.val := congrArg (fun z : Shape.Idx ⟨2, ![256, 2048]⟩ => (z 0).val) e
  have e1 : (y 1).val = k.val := congrArg (fun z : Shape.Idx ⟨2, ![256, 2048]⟩ => (z 1).val) e
  refine ((congrArg (outsAt0 m c t.val t.isLt).1 e).trans (rows_point m c t r k)).trans ?_
  refine congrArg (dx _ _ _ _) (funext fun x => ?_)
  match x with
  | ⟨0, _⟩ =>
    refine Fin.ext ?_
    show 256 * (Ring.bk 16 t.val).val + r.val = (((cfg0.win 1).blk t).view.emb y 0).val
    rw [blk_eq]
    blk_simp [idx1 t]
    omega
  | ⟨1, _⟩ =>
    refine Fin.ext ?_
    show k.val = (((cfg0.win 1).blk t).view.emb y 1).val
    blk_simp [idx1 t]
    omega

/-- The gain's gradient after the run. -/
theorem arr_gain : (dats m 0 c).arrAt 2 cfg0.N = dgain (m ((c : Thread nD τ).loc main_arg0)) (m ((c : Thread nD τ).loc main_arg1)) := by
  refine (dats m 0 c).arrAt_eq_of_after_last 2 ⟨15, by decide +kernel⟩ (by decide +kernel) _ fun j => ?_
  rw [after0_2]
  obtain ⟨z, k, e⟩ : ∃ (z : Fin 1) (k : Fin 2048), j = ix2 z k := exists_row (R := 1) (C := 2048) _
  obtain rfl : z = 0 := Subsingleton.elim _ _
  subst e
  exact (gain_upto m c k 15 _).trans (dgain_blocks _ _ k)

end Cert.Norm

end
-- ==== Proof.NormRef.lean ====
module

public import proofs.«01_k».proof.Proof.Gen.Reference6Ideal.Run
public import proofs.«01_k».proof.Proof.NormMath
public import Idealize.ShloMosaic.Lib.Pointwise

/-! The gradients of the root-mean-square norm, as reverse accumulation writes them, are `Cert.Norm.dx` and
    `Cert.Norm.dgain` on finite inputs. -/

@[expose] public section

set_option maxRecDepth 16384

noncomputable section

namespace Cert.Norm

open Cert.Reference6Ideal Cert.Reference6Ideal.Gen Idealize.ShloMosaic Idealize.ShloMosaic.TcCoe Idealize.SL.Sem Cert.Finite

/-- Each row's mean square and the constant, as a column. -/
def refM (x : FVec Ideal S4096x2048 .f32) : FVec Ideal S4096x1 .f32 :=
  addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))

/-- The gradient of the normed rows times the gain. -/
def refG (d : FVec Ideal S4096x2048 .f32) (g : FVec Ideal S1x2048 .f32) : FVec Ideal S4096x2048 .f32 :=
  mulf d (broadcastInDim S4096x2048 ![0, 1] bcast_S1x2048_S4096x2048_0_1 (broadcastInDim S1x2048 ![1] bcast_S2048_S1x2048_1 (shapeCast _ g shapeCasts_S1x2048_S2048)))

/-- The gradient of each row's mean square, over the number of columns. -/
def refC (x : FVec Ideal S4096x2048 .f32) (M : FVec Ideal S4096x1 .f32) (G : FVec Ideal S4096x2048 .f32) : FVec Ideal S4096x2048 .f32 :=
  broadcastInDim S4096x2048 ![0] bcast_S4096_S4096x2048_0 (Host.reduceAdd (Host.divf (mulf (shapeCast _ (Host.reduceAdd (mulf x G) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt M) M))) (broadcastInDim S4096x1 ![] bcast_S_S4096x1 (constant S_ .f32 0x45000000#32))) (constant S_ .f32 0x00000000#32) reducesTo_S4096x1_S4096_d1 h_S_)

/-- The gradient of the rows. -/
def refX (x h : FVec Ideal S4096x2048 .f32) (M : FVec Ideal S4096x1 .f32) (G C : FVec Ideal S4096x2048 .f32) : FVec Ideal S4096x2048 .f32 :=
  addf (addf (addf h (mulf G (broadcastInDim S4096x2048 ![0, 1] bcast_S4096x1_S4096x2048_0_1 (Host.rsqrt M)))) (mulf x C)) (mulf C x)

/-- The gradient of the gain. -/
def refS (x d : FVec Ideal S4096x2048 .f32) (M : FVec Ideal S4096x1 .f32) : FVec Ideal S1x2048 .f32 :=
  broadcastInDim S1x2048 ![1] bcast_S2048_S1x2048_1 (Host.reduceAdd (shapeCast _ (Host.reduceAdd (mulf (mulf x (broadcastInDim S4096x2048 ![0, 1] bcast_S4096x1_S4096x2048_0_1 (Host.rsqrt M))) d) (constant S_ .f32 0x00000000#32) reducesTo_S4096x2048_S2048_d0 h_S_) shapeCasts_S2048_S1x2048) (constant S_ .f32 0x00000000#32) reducesTo_S1x2048_S2048_d0 h_S_)

theorem zero_word : Ideal.ofBits .f32 0x00000000#32 = (0 : EReal) := by simp [Ideal.ofBits, Ideal.ieee]

theorem refM_at (x : FVec Ideal S4096x2048 .f32) (n : Fin 4096) : refM x (ix2 n 0) = meanSq (row x n) := by
  unfold refM meanSq row
  pointwise

theorem refG_at (d : FVec Ideal S4096x2048 .f32) (g : FVec Ideal S1x2048 .f32) (n : Fin 4096) (k : Fin 2048) :
    refG d g (ix2 n k) = row d n k * row g 0 k := by
  unfold refG row
  pointwise

theorem refC_at (x : FVec Ideal S4096x2048 .f32) (M : FVec Ideal S4096x1 .f32) (G : FVec Ideal S4096x2048 .f32) (n : Fin 4096) (k : Fin 2048) :
    refC x M G (ix2 n k) = Ideal.div ((∑ j, x (ix2 n j) * G (ix2 n j)) * (Ideal.ofBits .f32 0xBF000000#32 * Ideal.div (Ideal.rsqrt (M (ix2 n 0))) (M (ix2 n 0)))) cols := by
  unfold refC
  pointwise
  simp [zero_word]

theorem refX_at (x h : FVec Ideal S4096x2048 .f32) (M : FVec Ideal S4096x1 .f32) (G C : FVec Ideal S4096x2048 .f32) (n : Fin 4096) (k : Fin 2048) :
    refX x h M G C (ix2 n k) = h (ix2 n k) + G (ix2 n k) * Ideal.rsqrt (M (ix2 n 0)) + x (ix2 n k) * C (ix2 n k) + C (ix2 n k) * x (ix2 n k) := by
  unfold refX
  pointwise

theorem refS_at (x d : FVec Ideal S4096x2048 .f32) (M : FVec Ideal S4096x1 .f32) (k : Fin 2048) :
    refS x d M (ix2 0 k) = ∑ n : Fin 4096, x (ix2 n k) * Ideal.rsqrt (M (ix2 n 0)) * d (ix2 n k) := by
  unfold refS
  pointwise
  simp [zero_word]

theorem exists_ix2 {R C : ℕ} (x : Shape.Idx ⟨2, ![R, C]⟩) : ∃ (r : Fin R) (k : Fin C), x = ix2 r k := ⟨x 0, x 1, eq_ix2 x⟩

theorem refX_eq (x d h : FVec Ideal S4096x2048 .f32) (g : FVec Ideal S1x2048 .f32) (hx : AllReal x) (hd : AllReal d) (hg : AllReal g) :
    refX x h (refM x) (refG d g) (refC x (refM x) (refG d g)) = dx x d h g := by
  funext i
  obtain ⟨n, k, rfl⟩ := exists_ix2 (R := 4096) (C := 2048) i
  rw [refX_at, refC_at, refM_at, refG_at, ← dx_rev x d h g hx hd hg n k]
  simp only [refG_at]
  rfl

theorem refS_eq (x d : FVec Ideal S4096x2048 .f32) : refS x d (refM x) = dgain x d := by
  funext i
  obtain ⟨n, k, rfl⟩ := exists_ix2 (R := 1) (C := 2048) i
  obtain rfl : n = 0 := Subsingleton.elim _ _
  rw [refS_at]
  show _ = ∑ n : Fin 4096, d (ix2 n k) * (x (ix2 n k) * inv (row x n))
  refine Finset.sum_congr rfl fun n _ => ?_
  rw [refM_at, mul_comm]
  rfl

/-- The reference leaves the two gradients and its arguments unchanged. -/
theorem ref_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v37) = refX (m ((c.tc : Thread nD τ).loc main_arg0)) (m ((c.tc : Thread nD τ).loc main_arg2)) (refM (m ((c.tc : Thread nD τ).loc main_arg0))) (refG (m ((c.tc : Thread nD τ).loc main_arg1)) (m ((c.tc : Thread nD τ).loc main_arg3))) (refC (m ((c.tc : Thread nD τ).loc main_arg0)) (refM (m ((c.tc : Thread nD τ).loc main_arg0))) (refG (m ((c.tc : Thread nD τ).loc main_arg1)) (m ((c.tc : Thread nD τ).loc main_arg3))))
      ∧ r.2.mem ((c.tc : Thread nD τ).loc main_v38) = refS (m ((c.tc : Thread nD τ).loc main_arg0)) (m ((c.tc : Thread nD τ).loc main_arg1)) (refM (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Value.run (F := Ideal) m ρ

end Cert.Norm

end
-- ==== Proof.NormPre.lean ====
module

public import proofs.«01_k».proof.Proof.Finite
public import proofs.«01_k».proof.Proof.Gen.Pre_finite_norm

/-! The norm claim's precondition: the normalized rows, the gradient that arrives at the norm and the gain hold real numbers. -/

@[expose] public section

set_option maxRecDepth 16384

noncomputable section

namespace Cert.Norm

open Cert.Pre_finite_norm Cert.Finite Idealize.ShloMosaic Idealize.ShloMosaic.TcCoe

theorem finite_norm (x0 x1 x2 : FVec Ideal S4096x2048 .f32) (x3 : FVec Ideal S1x2048 .f32)
    (h : Cert.Pre_finite_norm.fn (F := Ideal) x0 x1 x2 x3 = fun _ => 1#1) : AllReal x0 ∧ AllReal x1 ∧ AllReal x3 := by
  have h0 := congrFun h (fun k => k.elim0)
  unfold Cert.Pre_finite_norm.fn at h0
  dsimp only at h0
  obtain ⟨hab, hc⟩ := and_one h0
  obtain ⟨ha, hb⟩ := and_one hab
  exact ⟨allReal_of_test (fun _ => rfl) ha, allReal_of_test (fun _ => rfl) hb, allReal_of_test (fun _ => rfl) hc⟩

end Cert.Norm
-- ==== Proof.GateMath.lean ====
module

public import proofs.«01_k».proof.Proof.Finite
public import Idealize.ShloMosaic.Lib.Pointwise

/-! The gradient of the block's two gates, as functions of whole arrays. `d` is the gradient of the joined branches
    (pooling left, state space right), `u` the pooling mixer's result, `p` the input product, whose second and fourth
    quarters are the gates, `h` the gated unit's product, `s` the pooling branch's scale, one number per column. -/

@[expose] public section

set_option maxRecDepth 16384

noncomputable section

namespace Cert.Gate

open Idealize.ShloMosaic Idealize.ShloMosaic.TcCoe Cert.Finite

/-- Both branches. -/
abbrev Both : Shape := ⟨2, ![4096, 2048]⟩
/-- One branch. -/
abbrev One : Shape := ⟨2, ![4096, 1024]⟩
/-- The input product. -/
abbrev All : Shape := ⟨2, ![4096, 4096]⟩
/-- One row of one branch. -/
abbrev Row : Shape := ⟨2, ![1, 1024]⟩

theorem zero_word : Ideal.ofBits .f32 0x00000000#32 = (0 : EReal) := by simp [Ideal.ofBits, Ideal.ieee]

/-- The logistic function. -/
def sig (x : EReal) : EReal := Ideal.div 1 (1 + Ideal.exp (-x))

/-- It is one at plus infinity, zero at minus infinity, -/
theorem sig_top : sig ⊤ = 1 := by
  show Ideal.div 1 (1 + 0) = 1
  rw [add_zero]
  simp [Ideal.div]

theorem sig_bot : sig ⊥ = 0 := by
  show Ideal.div 1 (1 + ⊤) = 0
  rw [← EReal.coe_one, EReal.coe_add_top]
  simp [Ideal.div]

/-- and real everywhere. -/
theorem sig_coe (x : ℝ) : ∃ r : ℝ, sig (x : EReal) = (r : EReal) := by
  have hp : (0 : ℝ) < 1 + Real.exp (-x) := by have := Real.exp_pos (-x); linarith
  refine ⟨(1 + Real.exp (-x))⁻¹, ?_⟩
  show Ideal.div 1 (1 + ((Real.exp (-x) : ℝ) : EReal)) = _
  rw [← EReal.coe_one, ← EReal.coe_add]
  unfold Ideal.div
  rw [if_neg (by exact_mod_cast hp.ne'), EReal.coe_one, one_mul, ← EReal.coe_inv]

/-- The gradient of what the gate multiplies. -/
def through (a g : EReal) : EReal := a * (g * sig g)

/-- The gradient of the gate `g`, which multiplies `v`. -/
def toGate (a v g : EReal) : EReal := a * v * (sig g * (1 + g * (1 - sig g)))

/-- The same with the product rule carried out, as reverse accumulation has it. -/
theorem toGate_rev (v g : EReal) (a : EReal) (hv : ∃ r : ℝ, a * v = (r : EReal)) :
    v * a * sig g + g * (v * a) * (sig g * (1 - sig g)) = toGate a v g := by
  unfold toGate
  rw [mul_comm v a]
  obtain ⟨r, hr⟩ := hv
  rw [hr]
  induction g using EReal.rec with
  | bot => rw [sig_bot]; simp
  | top =>
    rw [sig_top]
    have e : (1 : EReal) - 1 = 0 := by rw [← EReal.coe_one, ← EReal.coe_sub]; simp
    rw [e]; simp
  | coe g =>
    obtain ⟨q, hq⟩ := sig_coe g
    rw [hq, ← EReal.coe_one]
    simp only [← EReal.coe_sub, ← EReal.coe_mul, ← EReal.coe_add]
    exact congrArg _ (by ring)

/-- Column `k` of the left branch, of the right one, and the columns of their gates. -/
def lo (k : Fin 1024) : Fin 2048 := ⟨k.val, by omega⟩
def hi (k : Fin 1024) : Fin 2048 := ⟨1024 + k.val, by omega⟩
def pgate (k : Fin 1024) : Fin 4096 := ⟨1024 + k.val, by omega⟩
def sgate (k : Fin 1024) : Fin 4096 := ⟨3072 + k.val, by omega⟩

variable (d h : Both.Idx → EReal) (u : One.Idx → EReal) (p : All.Idx → EReal) (s : Row.Idx → EReal)

/-- The gradient of the pooling mixer's result. -/
def gMix : One.Idx → EReal := fun i => through (d (ix2 (i 0) (lo (i 1)))) (p (ix2 (i 0) (pgate (i 1)))) * s (ix2 0 (i 1))

/-- The gradient of the pooling branch's gate. -/
def gPool : One.Idx → EReal := fun i =>
  toGate (d (ix2 (i 0) (lo (i 1)))) (u (ix2 (i 0) (i 1)) * s (ix2 0 (i 1))) (p (ix2 (i 0) (pgate (i 1))))

/-- The gradient of the state space branch's gate. -/
def gSsm : One.Idx → EReal := fun i =>
  toGate (d (ix2 (i 0) (hi (i 1)))) (h (ix2 (i 0) (lo (i 1))) * sig (h (ix2 (i 0) (hi (i 1))))) (p (ix2 (i 0) (sgate (i 1))))

/-- The gradient of the gated unit's product at row `n`, in the linear half and in the gate's. -/
def gLin (n : Fin 4096) (k : Fin 1024) : EReal :=
  through (d (ix2 n (hi k))) (p (ix2 n (sgate k))) * sig (h (ix2 n (hi k)))
def gUnit (n : Fin 4096) (k : Fin 1024) : EReal :=
  through (d (ix2 n (hi k))) (p (ix2 n (sgate k))) * h (ix2 n (lo k)) * sig (h (ix2 n (hi k))) * (1 - sig (h (ix2 n (hi k))))
def gGlu : Both.Idx → EReal := fun i =>
  if e : (i 1).val < 1024 then gLin d h p (i 0) ⟨(i 1).val, e⟩
  else gUnit d h p (i 0) ⟨(i 1).val - 1024, by have : (i 1).val < 2048 := (i 1).isLt; omega⟩

theorem gGlu_lo (n : Fin 4096) (k : Fin 1024) (j : Fin 2048) (e : j.val = k.val) : gGlu d h p (ix2 n j) = gLin d h p n k := by
  obtain rfl : j = lo k := Fin.ext e
  exact dif_pos k.isLt

theorem gGlu_hi (n : Fin 4096) (k : Fin 1024) (j : Fin 2048) (e : j.val = 1024 + k.val) : gGlu d h p (ix2 n j) = gUnit d h p n k := by
  obtain rfl : j = hi k := Fin.ext e
  refine (dif_neg (by show ¬1024 + k.val < 1024; omega)).trans ?_
  exact congrArg (gUnit d h p n) (Fin.ext (by show 1024 + k.val - 1024 = k.val; omega))

/-- The gradient of the pooling branch's scale: the sum over the rows. -/
def gScale : Row.Idx → EReal := fun i =>
  ∑ n : Fin 4096, through (d (ix2 n (lo (i 1)))) (p (ix2 n (pgate (i 1)))) * u (ix2 n (i 1))

end Cert.Gate

end
-- ==== Proof.GateKernel.lean ====
module

public import proofs.«01_k».proof.Proof.GateFrame
public import proofs.«01_k».proof.Proof.GateMath
public import Idealize.ShloMosaic.Lib.Pointwise
public import Idealize.ShloMosaic.Lib.WritesUnit
public import Idealize.ShloMosaic.Lib.ValueLayout
public import Idealize.ShloMosaic.Lib.Pipeline.Value
public import Idealize.ShloMosaic.Lib.Pipeline.ValueKit

/-! What the gates' gradient leaves: at every grid point 256 rows of four arrays, and in the accumulator that all points
    share the gradient of the scale. -/

@[expose] public section

set_option maxRecDepth 16384

noncomputable section

namespace Cert.Gate

open Cert.Kernel5Ideal Cert.Kernel5Ideal.Gen Cert.Kernel5Ideal.Gen.Half Idealize.ShloMosaic Idealize.ShloMosaic.TcCoe Idealize.SL.Sem

/-! ## The rings -/

theorem whole_emb {s : Shape} (y : s.Idx) : (Rect.whole s).emb y = y := by
  funext a
  refine Fin.ext ?_
  show 0 + 1 * (y a).val = (y a).val
  omega

theorem drop_unit {W : ℕ} (h : (⟨2, ![256, W]⟩ : Shape).numel = (⟨3, ![1, 256, W]⟩ : Shape).numel) (r : Fin 256) (k : Fin W) :
    Shape.reshapeEquiv h (ix2 r k : Shape.Idx ⟨2, ![256, W]⟩) = (ix3 (0 : Fin 1) r k : Shape.Idx ⟨3, ![1, 256, W]⟩) :=
  Shape.reshapeEquiv_eq_of_rowMajor h (by
    rw [Shape.rowMajor_val_three, Shape.rowMajor_val_two]
    show ((0 * 256 + r.val) * W + k.val) = r.val * W + k.val
    simp only [Nat.zero_mul, Nat.zero_add])

/-! A buffer of each ring, read whole, holds what was copied there. -/

theorem slot0 (s : Fin 3) {off : Fin 3 → ℕ} (inb : ∀ a, off a + (![1, 256, 2048] : Fin 3 → ℕ) a ≤ S3x256x2048.size a) (h : off = ![s.val, 0, 0])
    (v : S256x2048.Idx → Elt Ideal .f32) (r : Fin 256) (k : Fin 2048) :
    View.readAt (Elt Ideal) (View.whole cc0_scratch0) (Rect.unit (s := S3x256x2048) off ![1, 256, 2048] inb).toLoadRect
      ((rslot0_0 s).view.writes (Elt Ideal) (rslot0_0 s).view.junk [⟨Rect.whole S256x2048, v⟩]) (ix3 (0 : Fin 1) r k) = v (ix2 r k) := by
  subst h
  have key : ∀ f, View.readAt (Elt Ideal) (View.whole cc0_scratch0) (Rect.unit (s := S3x256x2048) ![s.val, 0, 0] ![1, 256, 2048] inb).toLoadRect f (ix3 (0 : Fin 1) r k)
      = f (((rslot0_0 s).view.slice (Rect.whole S256x2048)).emb (ix2 r k)) := fun f => congrArg (fun z => f ((Rect.unit (s := S3x256x2048) ![s.val, 0, 0] S1x256x2048.size (inb_slot0_0 s)).emb z))
        ((drop_unit squeezes_S1x256x2048_S256x2048.numel_eq r k).symm.trans (congrArg _ (whole_emb (ix2 r k)).symm))
  exact (key _).trans (View.write_emb_of_mem (v := (rslot0_0 s).view.slice (Rect.whole S256x2048)) _ v (Finset.mem_univ (ix2 r k)))

theorem slot1 (s : Fin 3) {off : Fin 3 → ℕ} (inb : ∀ a, off a + (![1, 256, 1024] : Fin 3 → ℕ) a ≤ S3x256x1024.size a) (h : off = ![s.val, 0, 0])
    (v : S256x1024.Idx → Elt Ideal .f32) (r : Fin 256) (k : Fin 1024) :
    View.readAt (Elt Ideal) (View.whole cc0_scratch1) (Rect.unit (s := S3x256x1024) off ![1, 256, 1024] inb).toLoadRect
      ((rslot0_1 s).view.writes (Elt Ideal) (rslot0_1 s).view.junk [⟨Rect.whole S256x1024, v⟩]) (ix3 (0 : Fin 1) r k) = v (ix2 r k) := by
  subst h
  have key : ∀ f, View.readAt (Elt Ideal) (View.whole cc0_scratch1) (Rect.unit (s := S3x256x1024) ![s.val, 0, 0] ![1, 256, 1024] inb).toLoadRect f (ix3 (0 : Fin 1) r k)
      = f (((rslot0_1 s).view.slice (Rect.whole S256x1024)).emb (ix2 r k)) := fun f => congrArg (fun z => f ((Rect.unit (s := S3x256x1024) ![s.val, 0, 0] S1x256x1024.size (inb_slot0_1 s)).emb z))
        ((drop_unit squeezes_S1x256x1024_S256x1024.numel_eq r k).symm.trans (congrArg _ (whole_emb (ix2 r k)).symm))
  exact (key _).trans (View.write_emb_of_mem (v := (rslot0_1 s).view.slice (Rect.whole S256x1024)) _ v (Finset.mem_univ (ix2 r k)))

theorem slot2 (s : Fin 3) {off : Fin 3 → ℕ} (inb : ∀ a, off a + (![1, 256, 1024] : Fin 3 → ℕ) a ≤ S3x256x1024.size a) (h : off = ![s.val, 0, 0])
    (v : S256x1024.Idx → Elt Ideal .f32) (r : Fin 256) (k : Fin 1024) :
    View.readAt (Elt Ideal) (View.whole cc0_scratch2) (Rect.unit (s := S3x256x1024) off ![1, 256, 1024] inb).toLoadRect
      ((rslot0_2 s).view.writes (Elt Ideal) (rslot0_2 s).view.junk [⟨Rect.whole S256x1024, v⟩]) (ix3 (0 : Fin 1) r k) = v (ix2 r k) := by
  subst h
  have key : ∀ f, View.readAt (Elt Ideal) (View.whole cc0_scratch2) (Rect.unit (s := S3x256x1024) ![s.val, 0, 0] ![1, 256, 1024] inb).toLoadRect f (ix3 (0 : Fin 1) r k)
      = f (((rslot0_2 s).view.slice (Rect.whole S256x1024)).emb (ix2 r k)) := fun f => congrArg (fun z => f ((Rect.unit (s := S3x256x1024) ![s.val, 0, 0] S1x256x1024.size (inb_slot0_2 s)).emb z))
        ((drop_unit squeezes_S1x256x1024_S256x1024.numel_eq r k).symm.trans (congrArg _ (whole_emb (ix2 r k)).symm))
  exact (key _).trans (View.write_emb_of_mem (v := (rslot0_2 s).view.slice (Rect.whole S256x1024)) _ v (Finset.mem_univ (ix2 r k)))

theorem slot3 (s : Fin 3) {off : Fin 3 → ℕ} (inb : ∀ a, off a + (![1, 256, 1024] : Fin 3 → ℕ) a ≤ S3x256x1024.size a) (h : off = ![s.val, 0, 0])
    (v : S256x1024.Idx → Elt Ideal .f32) (r : Fin 256) (k : Fin 1024) :
    View.readAt (Elt Ideal) (View.whole cc0_scratch3) (Rect.unit (s := S3x256x1024) off ![1, 256, 1024] inb).toLoadRect
      ((rslot0_3 s).view.writes (Elt Ideal) (rslot0_3 s).view.junk [⟨Rect.whole S256x1024, v⟩]) (ix3 (0 : Fin 1) r k) = v (ix2 r k) := by
  subst h
  have key : ∀ f, View.readAt (Elt Ideal) (View.whole cc0_scratch3) (Rect.unit (s := S3x256x1024) ![s.val, 0, 0] ![1, 256, 1024] inb).toLoadRect f (ix3 (0 : Fin 1) r k)
      = f (((rslot0_3 s).view.slice (Rect.whole S256x1024)).emb (ix2 r k)) := fun f => congrArg (fun z => f ((Rect.unit (s := S3x256x1024) ![s.val, 0, 0] S1x256x1024.size (inb_slot0_3 s)).emb z))
        ((drop_unit squeezes_S1x256x1024_S256x1024.numel_eq r k).symm.trans (congrArg _ (whole_emb (ix2 r k)).symm))
  exact (key _).trans (View.write_emb_of_mem (v := (rslot0_3 s).view.slice (Rect.whole S256x1024)) _ v (Finset.mem_univ (ix2 r k)))

theorem slot4 (s : Fin 3) {off : Fin 3 → ℕ} (inb : ∀ a, off a + (![1, 256, 2048] : Fin 3 → ℕ) a ≤ S3x256x2048.size a) (h : off = ![s.val, 0, 0])
    (v : S256x2048.Idx → Elt Ideal .f32) (r : Fin 256) (k : Fin 2048) :
    View.readAt (Elt Ideal) (View.whole cc0_scratch4) (Rect.unit (s := S3x256x2048) off ![1, 256, 2048] inb).toLoadRect
      ((rslot0_4 s).view.writes (Elt Ideal) (rslot0_4 s).view.junk [⟨Rect.whole S256x2048, v⟩]) (ix3 (0 : Fin 1) r k) = v (ix2 r k) := by
  subst h
  have key : ∀ f, View.readAt (Elt Ideal) (View.whole cc0_scratch4) (Rect.unit (s := S3x256x2048) ![s.val, 0, 0] ![1, 256, 2048] inb).toLoadRect f (ix3 (0 : Fin 1) r k)
      = f (((rslot0_4 s).view.slice (Rect.whole S256x2048)).emb (ix2 r k)) := fun f => congrArg (fun z => f ((Rect.unit (s := S3x256x2048) ![s.val, 0, 0] S1x256x2048.size (inb_slot0_4 s)).emb z))
        ((drop_unit squeezes_S1x256x2048_S256x2048.numel_eq r k).symm.trans (congrArg _ (whole_emb (ix2 r k)).symm))
  exact (key _).trans (View.write_emb_of_mem (v := (rslot0_4 s).view.slice (Rect.whole S256x2048)) _ v (Finset.mem_univ (ix2 r k)))

/-- The row of an array that is row `r` of block `b`. -/
def at_ (b : Fin 16) (r : Fin 256) : Fin 4096 := ⟨256 * b.val + r.val, by omega⟩

theorem src0 (b : Fin 16) (x : S4096x2048.Idx → Elt Ideal .f32) (r : Fin 256) (k : Fin 2048) :
    ReadAs.same.apply (View.read (Elt Ideal) (srcB0_0 b).view x) (ix2 r k) = x (ix2 (at_ b r) k) := by
  show x ((Rect.unit (s := S4096x2048) ![256 * b.val, 0] S256x2048.size (inb_src0_0 b)).emb (ix2 r k)) = _
  refine congrArg x (funext fun a => ?_)
  match a with
  | ⟨0, _⟩ => exact Fin.ext (by show 256 * b.val + 1 * r.val = 256 * b.val + r.val; omega)
  | ⟨1, _⟩ => exact Fin.ext (by show 0 + 1 * k.val = k.val; omega)

theorem src1 (b : Fin 16) (x : S4096x1024.Idx → Elt Ideal .f32) (r : Fin 256) (k : Fin 1024) :
    ReadAs.same.apply (View.read (Elt Ideal) (srcB0_1 b).view x) (ix2 r k) = x (ix2 (at_ b r) k) := by
  show x ((Rect.unit (s := S4096x1024) ![256 * b.val, 0] S256x1024.size (inb_src0_1 b)).emb (ix2 r k)) = _
  refine congrArg x (funext fun a => ?_)
  match a with
  | ⟨0, _⟩ => exact Fin.ext (by show 256 * b.val + 1 * r.val = 256 * b.val + r.val; omega)
  | ⟨1, _⟩ => exact Fin.ext (by show 0 + 1 * k.val = k.val; omega)

theorem src2 (b : Fin 16) (x : S4096x4096.Idx → Elt Ideal .f32) (r : Fin 256) (k : Fin 1024) :
    ReadAs.same.apply (View.read (Elt Ideal) (srcB0_2 b).view x) (ix2 r k) = x (ix2 (at_ b r) (pgate k)) := by
  show x ((Rect.unit (s := S4096x4096) ![256 * b.val, 1024] S256x1024.size (inb_src0_2 b)).emb (ix2 r k)) = _
  refine congrArg x (funext fun a => ?_)
  match a with
  | ⟨0, _⟩ => exact Fin.ext (by show 256 * b.val + 1 * r.val = 256 * b.val + r.val; omega)
  | ⟨1, _⟩ => exact Fin.ext (by show 1024 + 1 * k.val = 1024 + k.val; omega)

theorem src3 (b : Fin 16) (x : S4096x4096.Idx → Elt Ideal .f32) (r : Fin 256) (k : Fin 1024) :
    ReadAs.same.apply (View.read (Elt Ideal) (srcB0_3 b).view x) (ix2 r k) = x (ix2 (at_ b r) (sgate k)) := by
  show x ((Rect.unit (s := S4096x4096) ![256 * b.val, 3072] S256x1024.size (inb_src0_3 b)).emb (ix2 r k)) = _
  refine congrArg x (funext fun a => ?_)
  match a with
  | ⟨0, _⟩ => exact Fin.ext (by show 256 * b.val + 1 * r.val = 256 * b.val + r.val; omega)
  | ⟨1, _⟩ => exact Fin.ext (by show 3072 + 1 * k.val = 3072 + k.val; omega)

theorem src4 (b : Fin 16) (x : S4096x2048.Idx → Elt Ideal .f32) (r : Fin 256) (k : Fin 2048) :
    ReadAs.same.apply (View.read (Elt Ideal) (srcB0_4 b).view x) (ix2 r k) = x (ix2 (at_ b r) k) := src0 b x r k

theorem off_wide : ∀ t : Fin grid0.N, k0_off23 (grid0.coords t) = ![(Fin.ofNat 3 t.val).val, 0, 0] := by decide +kernel
theorem off_half : ∀ t : Fin grid0.N, k0_off24 (grid0.coords t) = ![(Fin.ofNat 3 t.val).val, 0, 0] := by decide +kernel

/-! ## The payloads -/

theorem pay6_at (a : Vec Ideal S1x256x2048 .f32) (r : Fin 256) (k : Fin 1024) : (k0_pay6 a : FVec Ideal S256x1024 .f32) (ix2 r k) = a (ix3 0 r (lo k)) := by
  unfold k0_pay6 k0_pay5
  pointwise
  rfl

theorem pay7_at (a : Vec Ideal S1x256x2048 .f32) (r : Fin 256) (k : Fin 1024) : (k0_pay7 a : FVec Ideal S256x1024 .f32) (ix2 r k) = a (ix3 0 r (hi k)) := by
  unfold k0_pay7 k0_pay5
  pointwise
  rfl

theorem pay8_at (a : Vec Ideal S1x256x1024 .f32) (r : Fin 256) (k : Fin 1024) : (k0_pay8 a : FVec Ideal S256x1024 .f32) (ix2 r k) = a (ix3 0 r k) := by
  unfold k0_pay8
  pointwise

theorem pay19_at (g : FVec Ideal S256x1024 .f32) (r : Fin 256) (k : Fin 1024) : (k0_pay19 g : FVec Ideal S256x1024 .f32) (ix2 r k) = sig (g (ix2 r k)) := by
  unfold k0_pay19 sig
  pointwise
  rw [zero_sub]

theorem pay12_at (a : Vec Ideal S1x256x2048 .f32) (b : Vec Ideal S1x256x1024 .f32) (r : Fin 256) (k : Fin 1024) :
    (k0_pay12 a b : FVec Ideal S256x1024 .f32) (ix2 r k) = through (a (ix3 0 r (lo k))) (b (ix3 0 r k)) := by
  show k0_pay6 a (ix2 r k) * (k0_pay8 b (ix2 r k) * k0_pay19 (k0_pay8 b) (ix2 r k)) = _
  rw [pay6_at, pay19_at, pay8_at]
  rfl

theorem pay20_at (a : Vec Ideal S1x256x2048 .f32) (b : Vec Ideal S1x256x1024 .f32) (r : Fin 256) (k : Fin 1024) :
    (k0_pay20 (k0_pay7 a) (k0_pay8 b) : FVec Ideal S256x1024 .f32) (ix2 r k) = through (a (ix3 0 r (hi k))) (b (ix3 0 r k)) := by
  show k0_pay7 a (ix2 r k) * (k0_pay8 b (ix2 r k) * k0_pay19 (k0_pay8 b) (ix2 r k)) = _
  rw [pay7_at, pay19_at, pay8_at]
  rfl

theorem pay18_at (h : Vec Ideal S1x256x2048 .f32) (r : Fin 256) (k : Fin 1024) : (k0_pay18 h : FVec Ideal S256x1024 .f32) (ix2 r k) = sig (h (ix3 0 r (hi k))) :=
  (pay19_at (k0_pay7 h) r k).trans (congrArg sig (pay7_at h r k))

theorem pay15_at (s : Vec Ideal S1x1024 .f32) (q : FVec Ideal S256x1024 .f32) (r : Fin 256) (k : Fin 1024) :
    (k0_pay15 s q : FVec Ideal S256x1024 .bf16) (ix2 r k) = q (ix2 r k) * s (ix2 0 k) := by
  unfold k0_pay15
  pointwise

theorem pay14_at (v q : FVec Ideal S256x1024 .f32) (s : Vec Ideal S1x1024 .f32) (k : Fin 1024) :
    (k0_pay14 v q s : FVec Ideal S1x1024 .f32) (ix2 0 k) = s (ix2 0 k) + ∑ r : Fin 256, q (ix2 r k) * v (ix2 r k) := by
  unfold k0_pay14
  pointwise

theorem zeros_at (k : Fin 1024) : (k0_pay4 : FVec Ideal S1x1024 .f32) (ix2 0 k) = 0 := by
  unfold k0_pay4
  pointwise

section

variable {d h : Both.Idx → EReal} {u : One.Idx → EReal} {p : All.Idx → EReal} {s' : Row.Idx → EReal} {n : Fin 4096} {r : Fin 256} {k : Fin 1024}
variable {a e : Vec Ideal S1x256x2048 .f32} {b v : Vec Ideal S1x256x1024 .f32} {s : Vec Ideal S1x1024 .f32}

theorem mixAt (ha : a (ix3 0 r (lo k)) = d (ix2 n (lo k))) (hb : b (ix3 0 r k) = p (ix2 n (pgate k))) (hs : s (ix2 0 k) = s' (ix2 0 k)) :
    (k0_pay15 s (k0_pay12 a b) : FVec Ideal S256x1024 .bf16) (ix2 r k) = gMix d p s' (ix2 n k) := by
  rw [pay15_at, pay12_at, ha, hb, hs]
  rfl

theorem poolAt (ha : a (ix3 0 r (lo k)) = d (ix2 n (lo k))) (hv : v (ix3 0 r k) = u (ix2 n k)) (hb : b (ix3 0 r k) = p (ix2 n (pgate k)))
    (hs : s (ix2 0 k) = s' (ix2 0 k)) : (k0_pay13 a b v s : FVec Ideal S256x1024 .bf16) (ix2 r k) = gPool d u p s' (ix2 n k) := by
  have e1 := pay6_at a r k
  have e2 := pay8_at b r k
  have e3 := pay8_at v r k
  have e4 := (pay19_at (k0_pay8 b) r k).trans (congrArg sig e2)
  unfold k0_pay13
  change k0_pay11 b (ix2 r k) = _ at e4
  change k0_pay10 v (ix2 r k) = _ at e3
  generalize k0_pay11 b = q at e4
  generalize k0_pay6 a = q1 at e1
  generalize k0_pay8 b = q2 at e2
  generalize k0_pay10 v = q3 at e3
  pointwise
  rw [e1, e2, e3, e4, ha, hb, hs, hv]
  rfl

theorem ssmAt (ha : a (ix3 0 r (hi k)) = d (ix2 n (hi k))) (h0 : e (ix3 0 r (lo k)) = h (ix2 n (lo k))) (h1 : e (ix3 0 r (hi k)) = h (ix2 n (hi k)))
    (hb : b (ix3 0 r k) = p (ix2 n (sgate k))) :
    (k0_pay1 (k0_pay19 (k0_pay9 b)) (k0_pay21 (k0_pay7 a) e) (k0_pay22 (k0_pay9 b)) : FVec Ideal S256x1024 .bf16) (ix2 r k) = gSsm d h p (ix2 n k) := by
  have e1 := pay7_at a r k
  have e2 := pay8_at b r k
  have e3 := pay6_at e r k
  have e4 := (pay19_at (k0_pay8 b) r k).trans (congrArg sig e2)
  have e5 := pay18_at e r k
  change k0_pay9 b (ix2 r k) = _ at e2
  change k0_pay19 (k0_pay9 b) (ix2 r k) = _ at e4
  change k0_pay17 e (ix2 r k) = _ at e3
  unfold k0_pay1 k0_pay21 k0_pay22
  generalize k0_pay19 (k0_pay9 b) = q at e4
  generalize k0_pay7 a = q1 at e1
  generalize k0_pay9 b = q2 at e2
  generalize k0_pay17 e = q3 at e3
  generalize k0_pay18 e = q4 at e5
  pointwise
  rw [e1, e2, e3, e4, e5, ha, hb, h0, h1]
  rfl

theorem linAt (ha : a (ix3 0 r (hi k)) = d (ix2 n (hi k))) (h1 : e (ix3 0 r (hi k)) = h (ix2 n (hi k))) (hb : b (ix3 0 r k) = p (ix2 n (sgate k))) :
    (k0_pay2 (k0_pay18 e) (k0_pay20 (k0_pay7 a) (k0_pay9 b)) : FVec Ideal S256x1024 .bf16) (ix2 r k) = gLin d h p n k := by
  show k0_pay20 (k0_pay7 a) (k0_pay8 b) (ix2 r k) * k0_pay18 e (ix2 r k) = _
  rw [pay20_at, pay18_at, ha, hb, h1]
  rfl

theorem unitAt (ha : a (ix3 0 r (hi k)) = d (ix2 n (hi k))) (h0 : e (ix3 0 r (lo k)) = h (ix2 n (lo k))) (h1 : e (ix3 0 r (hi k)) = h (ix2 n (hi k)))
    (hb : b (ix3 0 r k) = p (ix2 n (sgate k))) :
    (k0_pay3 (k0_pay17 e) (k0_pay18 e) (k0_pay20 (k0_pay7 a) (k0_pay9 b)) : FVec Ideal S256x1024 .bf16) (ix2 r k) = gUnit d h p n k := by
  have e1 := pay20_at a b r k
  have e3 := pay6_at e r k
  have e5 := pay18_at e r k
  change k0_pay20 (k0_pay7 a) (k0_pay9 b) (ix2 r k) = _ at e1
  change k0_pay17 e (ix2 r k) = _ at e3
  unfold k0_pay3
  generalize k0_pay20 (k0_pay7 a) (k0_pay9 b) = q1 at e1
  generalize k0_pay17 e = q3 at e3
  generalize k0_pay18 e = q4 at e5
  pointwise
  rw [e1, e3, e5, ha, hb, h0, h1]
  rfl

end
/-! ## The grid points -/

variable (m : (ℓ : Loc nD τ Cert.Kernel5Ideal.sig) → Buf (Elt Ideal) ℓ) (c : Dev nD)

abbrev aD : Both.Idx → EReal := (m ((c : Thread nD τ).loc main_arg0))
abbrev aU : One.Idx → EReal := (m ((c : Thread nD τ).loc main_arg1))
abbrev aP : All.Idx → EReal := (m ((c : Thread nD τ).loc main_arg2))
abbrev aH : Both.Idx → EReal := (m ((c : Thread nD τ).loc main_arg3))
abbrev aS : Row.Idx → EReal := (m ((c : Thread nD τ).loc main_arg4))

theorem scale (t : Fin cfg0.N) (k : Fin 1024) : iblk m c 0 t (ix2 (0 : Fin 1) k) = aS m c (ix2 (0 : Fin 1) k) := by
  have e : ∀ t : Fin grid0.N, win0_0.index t = ![0, 0] := by decide +kernel
  blk_point [iblk, V, e t]

/-- The block of rows of the mixer's gradient. -/
theorem mix_point (t : Fin cfg0.N) (r : Fin 256) (k : Fin 1024) :
    (outsAt0 m c t.val t.isLt).1 (ix2 r k) = gMix (aD m c) (aP m c) (aS m c) (ix2 (at_ (Ring.bk 16 t.val) r) k) := by
  have ht : t.val < 16 := lt_of_lt_of_eq t.isLt (show cfg0.N = 16 from N_0)
  rcases (by omega : t.val = 0 ∨ (0 < t.val ∧ t.val < 14) ∨ 14 ≤ t.val) with h | h | h
  on_goal 1 => rw [outsAt0_A m c t (by omega) (by omega) (by omega), outs0_A]
  on_goal 2 => rw [outsAt0_B m c t (by omega) (by omega) (by omega), outs0_B]
  on_goal 3 => rw [outsAt0_C m c t (by omega) (by omega) (by omega), outs0_C]
  all_goals
    frame_out
    exact mixAt ((slot0 _ _ (off_wide t) _ r _).trans (src0 _ _ r _)) ((slot2 _ _ (off_half t) _ r _).trans (src2 _ _ r _)) (scale m c t k)

/-- The block of rows of the pooling gate's. -/
theorem pool_point (t : Fin cfg0.N) (r : Fin 256) (k : Fin 1024) :
    (outsAt0 m c t.val t.isLt).2.1 (ix2 r k) = gPool (aD m c) (aU m c) (aP m c) (aS m c) (ix2 (at_ (Ring.bk 16 t.val) r) k) := by
  have ht : t.val < 16 := lt_of_lt_of_eq t.isLt (show cfg0.N = 16 from N_0)
  rcases (by omega : t.val = 0 ∨ (0 < t.val ∧ t.val < 14) ∨ 14 ≤ t.val) with h | h | h
  on_goal 1 => rw [outsAt0_A m c t (by omega) (by omega) (by omega), outs0_A]
  on_goal 2 => rw [outsAt0_B m c t (by omega) (by omega) (by omega), outs0_B]
  on_goal 3 => rw [outsAt0_C m c t (by omega) (by omega) (by omega), outs0_C]
  all_goals
    frame_out
    exact poolAt ((slot0 _ _ (off_wide t) _ r _).trans (src0 _ _ r _)) ((slot1 _ _ (off_half t) _ r _).trans (src1 _ _ r _)) ((slot2 _ _ (off_half t) _ r _).trans (src2 _ _ r _)) (scale m c t k)

/-- The block of rows of the other gate's. -/
theorem ssm_point (t : Fin cfg0.N) (r : Fin 256) (k : Fin 1024) :
    (outsAt0 m c t.val t.isLt).2.2.1 (ix2 r k) = gSsm (aD m c) (aH m c) (aP m c) (ix2 (at_ (Ring.bk 16 t.val) r) k) := by
  have ht : t.val < 16 := lt_of_lt_of_eq t.isLt (show cfg0.N = 16 from N_0)
  rcases (by omega : t.val = 0 ∨ (0 < t.val ∧ t.val < 14) ∨ 14 ≤ t.val) with h | h | h
  on_goal 1 => rw [outsAt0_A m c t (by omega) (by omega) (by omega), outs0_A]
  on_goal 2 => rw [outsAt0_B m c t (by omega) (by omega) (by omega), outs0_B]
  on_goal 3 => rw [outsAt0_C m c t (by omega) (by omega) (by omega), outs0_C]
  all_goals
    frame_out
    exact ssmAt ((slot0 _ _ (off_wide t) _ r _).trans (src0 _ _ r _)) ((slot4 _ _ (off_wide t) _ r _).trans (src4 _ _ r _)) ((slot4 _ _ (off_wide t) _ r _).trans (src4 _ _ r _)) ((slot3 _ _ (off_half t) _ r _).trans (src3 _ _ r _))

set_option maxHeartbeats 4000000 in
/-- The block of rows of the linear half. -/
theorem lin_point (t : Fin cfg0.N) (r : Fin 256) (k : Fin 1024) :
    (outsAt0 m c t.val t.isLt).2.2.2.1 (ix2 r (lo k)) = gLin (aD m c) (aH m c) (aP m c) (at_ (Ring.bk 16 t.val) r) k := by
  have ht : t.val < 16 := lt_of_lt_of_eq t.isLt (show cfg0.N = 16 from N_0)
  rcases (by omega : t.val = 0 ∨ (0 < t.val ∧ t.val < 14) ∨ 14 ≤ t.val) with h | h | h
  on_goal 1 => rw [outsAt0_A m c t (by omega) (by omega) (by omega), outs0_A]
  on_goal 2 => rw [outsAt0_B m c t (by omega) (by omega) (by omega), outs0_B]
  on_goal 3 => rw [outsAt0_C m c t (by omega) (by omega) (by omega), outs0_C]
  all_goals
    frame_open
    dsimp only
    refine (View.read_writes_cons_unit_of_not_mem _ _ _ _ _ _ rfl (1 : Fin 2) (Or.inl (show k.val < 1024 from k.isLt))).trans ?_
    refine (View.read_writes_cons_unit_of_mem _ _ _ _ _ _ (ix2 r k) rfl (fun a => match a with | ⟨0, _⟩ => (Nat.zero_add _).symm | ⟨1, _⟩ => (Nat.zero_add _).symm)).trans ?_
    exact ((linAt ((slot0 _ _ (off_wide t) _ r _).trans (src0 _ _ r _)) ((slot4 _ _ (off_wide t) _ r _).trans (src4 _ _ r _)) ((slot3 _ _ (off_half t) _ r _).trans (src3 _ _ r _))))

set_option maxHeartbeats 4000000 in
/-- The block of rows of the gate's half. -/
theorem unit_point (t : Fin cfg0.N) (r : Fin 256) (k : Fin 1024) :
    (outsAt0 m c t.val t.isLt).2.2.2.1 (ix2 r (hi k)) = gUnit (aD m c) (aH m c) (aP m c) (at_ (Ring.bk 16 t.val) r) k := by
  have ht : t.val < 16 := lt_of_lt_of_eq t.isLt (show cfg0.N = 16 from N_0)
  rcases (by omega : t.val = 0 ∨ (0 < t.val ∧ t.val < 14) ∨ 14 ≤ t.val) with h | h | h
  on_goal 1 => rw [outsAt0_A m c t (by omega) (by omega) (by omega), outs0_A]
  on_goal 2 => rw [outsAt0_B m c t (by omega) (by omega) (by omega), outs0_B]
  on_goal 3 => rw [outsAt0_C m c t (by omega) (by omega) (by omega), outs0_C]
  all_goals
    frame_open
    dsimp only
    refine (View.read_writes_cons_unit_of_mem _ _ _ _ _ _ (ix2 r k) rfl (fun a => match a with | ⟨0, _⟩ => (Nat.zero_add _).symm | ⟨1, _⟩ => rfl)).trans ?_
    exact (unitAt ((slot0 _ _ (off_wide t) _ r _).trans (src0 _ _ r _)) ((slot4 _ _ (off_wide t) _ r _).trans (src4 _ _ r _)) ((slot4 _ _ (off_wide t) _ r _).trans (src4 _ _ r _)) ((slot3 _ _ (off_half t) _ r _).trans (src3 _ _ r _)))

theorem blk_eq : ∀ t : Fin cfg0.N, (Ring.bk 16 t.val).val = t.val := by decide +kernel

/-- Row `n`'s term of the scale's gradient. -/
def term (d : Both.Idx → EReal) (u : One.Idx → EReal) (p : All.Idx → EReal) (k : Fin 1024) (n : ℕ) : EReal :=
  if h : n < 4096 then through (d (ix2 (⟨n, h⟩ : Fin 4096) (lo k))) (p (ix2 (⟨n, h⟩ : Fin 4096) (pgate k))) * u (ix2 (⟨n, h⟩ : Fin 4096) k) else 0

theorem term_congr (d : Both.Idx → EReal) (u : One.Idx → EReal) (p : All.Idx → EReal) {a : Vec Ideal S1x256x2048 .f32} {b v : Vec Ideal S1x256x1024 .f32} (t : Fin 16) (k : Fin 1024)
    (ha : ∀ r, a (ix3 0 r (lo k)) = d (ix2 (at_ t r) (lo k))) (hb : ∀ r, b (ix3 0 r k) = p (ix2 (at_ t r) (pgate k))) (hv : ∀ r, v (ix3 0 r k) = u (ix2 (at_ t r) k)) :
    ∑ r : Fin 256, k0_pay12 (F := Ideal) a b (ix2 r k) * k0_pay10 (F := Ideal) v (ix2 r k) = ∑ r : Fin 256, term d u p k (t.val * 256 + r.val) := by
  refine Finset.sum_congr rfl fun r _ => ?_
  have e : t.val * 256 + r.val < 4096 := by omega
  have e' : (⟨t.val * 256 + r.val, e⟩ : Fin 4096) = at_ t r := Fin.ext (by show t.val * 256 + r.val = 256 * t.val + r.val; omega)
  unfold term
  rw [dif_pos e, e', pay12_at, show k0_pay10 (F := Ideal) v (ix2 r k) = _ from pay8_at v r k, ha, hb, hv]

/-- Summed over blocks and the rows of each, the terms make the scale's gradient. -/
theorem scale_blocks (d : Both.Idx → EReal) (u : One.Idx → EReal) (p : All.Idx → EReal) (k : Fin 1024) :
    ∑ t ∈ Finset.range 16, ∑ r : Fin 256, term d u p k (t * 256 + r.val) = gScale d u p (ix2 0 k) := by
  have e1 : ∀ t, ∑ r : Fin 256, term d u p k (t * 256 + r.val) = ∑ r ∈ Finset.range 256, term d u p k (t * 256 + r) := fun t =>
    Fin.sum_univ_eq_sum_range (fun r => term d u p k (t * 256 + r)) 256
  simp only [e1]
  rw [Finset.sum_range_range_mul_add 16 256 (term d u p k), ← Fin.sum_univ_eq_sum_range (term d u p k) (16 * 256)]
  refine Finset.sum_congr rfl fun n _ => ?_
  unfold term
  rw [dif_pos n.isLt]
  rfl

/-- The first point starts the scale's gradient with its own rows. -/
theorem scale_first (t : Fin cfg0.N) (h : t.val = 0) (k : Fin 1024) :
    (outsAt0 m c t.val t.isLt).2.2.2.2 (ix2 (0 : Fin 1) k) = ∑ r : Fin 256, term (aD m c) (aU m c) (aP m c) k (t.val * 256 + r.val) := by
  rw [outsAt0_A m c t (by omega) (by omega) (by omega), outs0_A]
  frame_out
  refine (pay14_at _ _ _ k).trans ?_
  refine (congrArg₂ (· + ·) (zeros_at k) (term_congr (aD m c) (aU m c) (aP m c) (Ring.bk 16 t.val) k (fun r => ((slot0 _ _ (off_wide t) _ r _).trans (src0 _ _ r _))) (fun r => ((slot2 _ _ (off_half t) _ r _).trans (src2 _ _ r _))) (fun r => ((slot1 _ _ (off_half t) _ r _).trans (src1 _ _ r _))))).trans ?_
  rw [zero_add, blk_eq]

/-- Every later point adds its rows. -/
theorem scale_next (t : Fin cfg0.N) (h : t.val ≠ 0) (k : Fin 1024) :
    (outsAt0 m c t.val t.isLt).2.2.2.2 (ix2 (0 : Fin 1) k) = (outsAt0 m c (t.val - 1) (Nat.lt_of_le_of_lt (Nat.sub_le _ _) t.isLt)).2.2.2.2 (ix2 (0 : Fin 1) k)
      + ∑ r : Fin 256, term (aD m c) (aU m c) (aP m c) k (t.val * 256 + r.val) := by
  have ht : t.val < 16 := lt_of_lt_of_eq t.isLt (show cfg0.N = 16 from N_0)
  rcases (by omega : t.val < 14 ∨ 14 ≤ t.val) with h' | h'
  on_goal 1 => rw [outsAt0_B m c t (by omega) (by omega) (by omega), outs0_B]
  on_goal 2 => rw [outsAt0_C m c t (by omega) (by omega) (by omega), outs0_C]
  all_goals
    frame_out
    refine (pay14_at _ _ _ k).trans ?_
    refine congrArg _ ((term_congr (aD m c) (aU m c) (aP m c) (Ring.bk 16 t.val) k (fun r => ((slot0 _ _ (off_wide t) _ r _).trans (src0 _ _ r _))) (fun r => ((slot2 _ _ (off_half t) _ r _).trans (src2 _ _ r _))) (fun r => ((slot1 _ _ (off_half t) _ r _).trans (src1 _ _ r _)))).trans ?_)
    rw [blk_eq]

/-- After point `n` the accumulator holds the terms of the rows so far. -/
theorem scale_upto (k : Fin 1024) : ∀ (n : ℕ) (h : n < cfg0.N), (outsAt0 m c n h).2.2.2.2 (ix2 (0 : Fin 1) k)
    = ∑ t ∈ Finset.range (n + 1), ∑ r : Fin 256, term (aD m c) (aU m c) (aP m c) k (t * 256 + r.val)
  | 0, h => by
    show _ = ∑ t ∈ Finset.range 1, _
    rw [Finset.sum_range_one]
    exact scale_first m c ⟨0, h⟩ rfl k
  | n + 1, h => by
    rw [Finset.sum_range_succ, ← scale_upto k n (Nat.lt_of_succ_lt h)]
    exact scale_next m c ⟨n + 1, h⟩ (Nat.succ_ne_zero n) k

/-! ## The arrays after the run -/

theorem exists_row {R C : ℕ} (x : Shape.Idx ⟨2, ![R, C]⟩) : ∃ (r : Fin R) (k : Fin C), x = ix2 r k := ⟨x 0, x 1, eq_ix2 x⟩

theorem both_point (t : Fin cfg0.N) (r : Fin 256) (j : Fin 2048) :
    (outsAt0 m c t.val t.isLt).2.2.2.1 (ix2 r j) = gGlu (aD m c) (aH m c) (aP m c) (ix2 (at_ (Ring.bk 16 t.val) r) j) := by
  have hj := j.isLt
  rcases Nat.lt_or_ge j.val 1024 with hk | hk
  · exact (lin_point m c t r ⟨j.val, hk⟩).trans (gGlu_lo _ _ _ _ ⟨j.val, hk⟩ j rfl).symm
  · have e : j = hi ⟨j.val - 1024, by omega⟩ := Fin.ext (by show j.val = 1024 + (j.val - 1024); omega)
    generalize (⟨j.val - 1024, by omega⟩ : Fin 1024) = k at e
    subst e
    exact (unit_point m c t r k).trans (gGlu_hi _ _ _ _ k (hi k) rfl).symm

theorem arr1 : (dats m 0 c).arrAt 1 cfg0.N = gMix (aD m c) (aP m c) (aS m c) := by
  have ix : ∀ t : Fin grid0.N, win0_1.index t = ![t.val, 0] := by decide +kernel
  refine (dats m 0 c).arrAt_eq_of_covers 1 _ (by decide +kernel) fun t hf y => ?_
  rw [after0_1]
  obtain ⟨r, k, e⟩ : ∃ (r : Fin 256) (k : Fin 1024), (win0 1).xinj (grid0.coords t) y = ix2 r k := exists_row (R := 256) (C := 1024) _
  have e0 : (y 0).val = r.val := congrArg (fun z : Shape.Idx ⟨2, ![256, 1024]⟩ => (z 0).val) e
  have e1 : (y 1).val = k.val := congrArg (fun z : Shape.Idx ⟨2, ![256, 1024]⟩ => (z 1).val) e
  refine ((congrArg (outsAt0 m c t.val t.isLt).1 e).trans (mix_point m c t r k)).trans (congrArg (gMix (aD m c) (aP m c) (aS m c)) (funext fun x => ?_))
  match x with
  | ⟨0, _⟩ =>
    refine Fin.ext ?_
    show 256 * (Ring.bk 16 t.val).val + r.val = (((cfg0.win 1).blk t).view.emb y 0).val
    rw [blk_eq]
    blk_simp [ix t]
    omega
  | ⟨1, _⟩ =>
    refine Fin.ext ?_
    show k.val = (((cfg0.win 1).blk t).view.emb y 1).val
    blk_simp [ix t]
    omega

theorem arr2 : (dats m 0 c).arrAt 2 cfg0.N = gPool (aD m c) (aU m c) (aP m c) (aS m c) := by
  have ix : ∀ t : Fin grid0.N, win0_2.index t = ![t.val, 0] := by decide +kernel
  refine (dats m 0 c).arrAt_eq_of_covers 2 _ (by decide +kernel) fun t hf y => ?_
  rw [after0_2]
  obtain ⟨r, k, e⟩ : ∃ (r : Fin 256) (k : Fin 1024), (win0 2).xinj (grid0.coords t) y = ix2 r k := exists_row (R := 256) (C := 1024) _
  have e0 : (y 0).val = r.val := congrArg (fun z : Shape.Idx ⟨2, ![256, 1024]⟩ => (z 0).val) e
  have e1 : (y 1).val = k.val := congrArg (fun z : Shape.Idx ⟨2, ![256, 1024]⟩ => (z 1).val) e
  refine ((congrArg (outsAt0 m c t.val t.isLt).2.1 e).trans (pool_point m c t r k)).trans (congrArg (gPool (aD m c) (aU m c) (aP m c) (aS m c)) (funext fun x => ?_))
  match x with
  | ⟨0, _⟩ =>
    refine Fin.ext ?_
    show 256 * (Ring.bk 16 t.val).val + r.val = (((cfg0.win 2).blk t).view.emb y 0).val
    rw [blk_eq]
    blk_simp [ix t]
    omega
  | ⟨1, _⟩ =>
    refine Fin.ext ?_
    show k.val = (((cfg0.win 2).blk t).view.emb y 1).val
    blk_simp [ix t]
    omega

theorem arr3 : (dats m 0 c).arrAt 3 cfg0.N = gSsm (aD m c) (aH m c) (aP m c) := by
  have ix : ∀ t : Fin grid0.N, win0_3.index t = ![t.val, 0] := by decide +kernel
  refine (dats m 0 c).arrAt_eq_of_covers 3 _ (by decide +kernel) fun t hf y => ?_
  rw [after0_3]
  obtain ⟨r, k, e⟩ : ∃ (r : Fin 256) (k : Fin 1024), (win0 3).xinj (grid0.coords t) y = ix2 r k := exists_row (R := 256) (C := 1024) _
  have e0 : (y 0).val = r.val := congrArg (fun z : Shape.Idx ⟨2, ![256, 1024]⟩ => (z 0).val) e
  have e1 : (y 1).val = k.val := congrArg (fun z : Shape.Idx ⟨2, ![256, 1024]⟩ => (z 1).val) e
  refine ((congrArg (outsAt0 m c t.val t.isLt).2.2.1 e).trans (ssm_point m c t r k)).trans (congrArg (gSsm (aD m c) (aH m c) (aP m c)) (funext fun x => ?_))
  match x with
  | ⟨0, _⟩ =>
    refine Fin.ext ?_
    show 256 * (Ring.bk 16 t.val).val + r.val = (((cfg0.win 3).blk t).view.emb y 0).val
    rw [blk_eq]
    blk_simp [ix t]
    omega
  | ⟨1, _⟩ =>
    refine Fin.ext ?_
    show k.val = (((cfg0.win 3).blk t).view.emb y 1).val
    blk_simp [ix t]
    omega

theorem arr4 : (dats m 0 c).arrAt 4 cfg0.N = gGlu (aD m c) (aH m c) (aP m c) := by
  have ix : ∀ t : Fin grid0.N, win0_4.index t = ![t.val, 0] := by decide +kernel
  refine (dats m 0 c).arrAt_eq_of_covers 4 _ (by decide +kernel) fun t hf y => ?_
  rw [after0_4]
  obtain ⟨r, k, e⟩ : ∃ (r : Fin 256) (k : Fin 2048), (win0 4).xinj (grid0.coords t) y = ix2 r k := exists_row (R := 256) (C := 2048) _
  have e0 : (y 0).val = r.val := congrArg (fun z : Shape.Idx ⟨2, ![256, 2048]⟩ => (z 0).val) e
  have e1 : (y 1).val = k.val := congrArg (fun z : Shape.Idx ⟨2, ![256, 2048]⟩ => (z 1).val) e
  refine ((congrArg (outsAt0 m c t.val t.isLt).2.2.2.1 e).trans (both_point m c t r k)).trans (congrArg (gGlu (aD m c) (aH m c) (aP m c)) (funext fun x => ?_))
  match x with
  | ⟨0, _⟩ =>
    refine Fin.ext ?_
    show 256 * (Ring.bk 16 t.val).val + r.val = (((cfg0.win 4).blk t).view.emb y 0).val
    rw [blk_eq]
    blk_simp [ix t]
    omega
  | ⟨1, _⟩ =>
    refine Fin.ext ?_
    show k.val = (((cfg0.win 4).blk t).view.emb y 1).val
    blk_simp [ix t]
    omega

theorem arr5 : (dats m 0 c).arrAt 5 cfg0.N = gScale (aD m c) (aU m c) (aP m c) := by
  refine (dats m 0 c).arrAt_eq_of_after_last 5 ⟨15, by decide +kernel⟩ (by decide +kernel) _ fun j => ?_
  rw [after0_5]
  obtain ⟨z, k, e⟩ : ∃ (z : Fin 1) (k : Fin 1024), j = ix2 z k := exists_row (R := 1) (C := 1024) _
  obtain rfl : z = 0 := Subsingleton.elim _ _
  subst e
  exact (scale_upto m c k 15 _).trans (scale_blocks _ _ _ k)

/-- The run leaves the five gradients, and its arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v0_0) = gMix (aD m c) (aP m c) (aS m c)
      ∧ r.2.mem ((c : Thread nD τ).loc main_v0_1) = gPool (aD m c) (aU m c) (aP m c) (aS m c)
      ∧ r.2.mem ((c : Thread nD τ).loc main_v0_2) = gSsm (aD m c) (aH m c) (aP m c)
      ∧ r.2.mem ((c : Thread nD τ).loc main_v0_3) = gGlu (aD m c) (aH m c) (aP m c)
      ∧ r.2.mem ((c : Thread nD τ).loc main_v0_4) = gScale (aD m c) (aU m c) (aP m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).1 1).trans (arr1 m c), ((h.1 c).1 2).trans (arr2 m c), ((h.1 c).1 3).trans (arr3 m c), ((h.1 c).1 4).trans (arr4 m c), ((h.1 c).1 5).trans (arr5 m c), h.2 c⟩)
    (θ_run_and (run_main m ρ) (unchanged m ρ))

end Cert.Gate

end
-- ==== Proof.GateRef.lean ====
module

public import proofs.«01_k».proof.Proof.Gen.Reference5Ideal.Run
public import proofs.«01_k».proof.Proof.GateMath

/-! The gradients of the gates, as reverse accumulation writes them, are those of `GateMath` when what is multiplied
    by a gate is real. -/

@[expose] public section

set_option maxRecDepth 16384

noncomputable section

namespace Cert.Gate

open Cert.Reference5Ideal Cert.Reference5Ideal.Gen Idealize.ShloMosaic Idealize.ShloMosaic.TcCoe Idealize.SL.Sem Cert.Finite

/-! ## The pieces -/

def refOne : FVec Ideal S4096x1024 .f32 := broadcastInDim S4096x1024 ![] bcast_S_S4096x1024 (constant S_ .f32 0x3F800000#32)

def refSig (x : FVec Ideal S4096x1024 .f32) : FVec Ideal S4096x1024 .f32 := Host.divf refOne (addf refOne (Host.exp (Host.negf x)))

def refLo (x : FVec Ideal S4096x2048 .f32) : FVec Ideal S4096x1024 .f32 := extractStridedSlice S4096x1024 ![0, 0] x slices_S4096x2048_S4096x1024_0_0
def refHi (x : FVec Ideal S4096x2048 .f32) : FVec Ideal S4096x1024 .f32 := extractStridedSlice S4096x1024 ![0, 1024] x slices_S4096x2048_S4096x1024_0_1024
def refPg (x : FVec Ideal S4096x4096 .f32) : FVec Ideal S4096x1024 .f32 := extractStridedSlice S4096x1024 ![0, 1024] x slices_S4096x4096_S4096x1024_0_1024
def refSg (x : FVec Ideal S4096x4096 .f32) : FVec Ideal S4096x1024 .f32 := extractStridedSlice S4096x1024 ![0, 3072] x slices_S4096x4096_S4096x1024_0_3072

def refS (s : FVec Ideal S1x1024 .f32) : FVec Ideal S4096x1024 .f32 :=
  broadcastInDim S4096x1024 ![0, 1] bcast_S1x1024_S4096x1024_0_1 (broadcastInDim S1x1024 ![1] bcast_S1024_S1x1024_1 (shapeCast _ s shapeCasts_S1x1024_S1024))

theorem refOne_at (n : Fin 4096) (k : Fin 1024) : refOne (ix2 n k) = 1 := by
  unfold refOne
  pointwise

theorem refSig_at (x : FVec Ideal S4096x1024 .f32) (n : Fin 4096) (k : Fin 1024) : refSig x (ix2 n k) = sig (x (ix2 n k)) := by
  have e := refOne_at n k
  unfold refSig sig
  generalize refOne = o at e
  pointwise
  rw [e]

theorem refLo_at (x : FVec Ideal S4096x2048 .f32) (n : Fin 4096) (k : Fin 1024) : refLo x (ix2 n k) = x (ix2 n (lo k)) := by
  unfold refLo
  pointwise
  exact congrArg x (congrArg (ix2 n) (Fin.ext (by simp [lo])))

theorem refHi_at (x : FVec Ideal S4096x2048 .f32) (n : Fin 4096) (k : Fin 1024) : refHi x (ix2 n k) = x (ix2 n (hi k)) := by
  unfold refHi
  pointwise
  exact congrArg x (congrArg (ix2 n) (Fin.ext (by simp [hi])))

theorem refPg_at (x : FVec Ideal S4096x4096 .f32) (n : Fin 4096) (k : Fin 1024) : refPg x (ix2 n k) = x (ix2 n (pgate k)) := by
  unfold refPg
  pointwise
  exact congrArg x (congrArg (ix2 n) (Fin.ext (by simp [pgate])))

theorem refSg_at (x : FVec Ideal S4096x4096 .f32) (n : Fin 4096) (k : Fin 1024) : refSg x (ix2 n k) = x (ix2 n (sgate k)) := by
  unfold refSg
  pointwise
  exact congrArg x (congrArg (ix2 n) (Fin.ext (by simp [sgate])))

theorem refS_at (s : FVec Ideal S1x1024 .f32) (n : Fin 4096) (k : Fin 1024) : refS s (ix2 n k) = s (ix2 0 k) := by
  unfold refS
  pointwise

/-! ## The results -/

def refMix (da pg ps : FVec Ideal S4096x1024 .f32) : FVec Ideal S4096x1024 .bf16 :=
  truncf .bf16 (mulf (mulf da (mulf pg (refSig pg))) ps) bitsLt_bf16_f32

/-- The gradient of a gate `g` that multiplies `v`. -/
def refGate (v a g : FVec Ideal S4096x1024 .f32) : FVec Ideal S4096x1024 .bf16 :=
  truncf .bf16 (addf (mulf (mulf v a) (refSig g)) (mulf (mulf g (mulf v a)) (mulf (refSig g) (subf refOne (refSig g))))) bitsLt_bf16_f32

/-- The unit's gradient, from that of its result. -/
def refGlu (o h1 h2 : FVec Ideal S4096x1024 .f32) : FVec Ideal S4096x2048 .bf16 :=
  truncf .bf16 (addf (pad S4096x2048 ![0, 1024] ![0, 0] ![0, 0] (mulf (mulf h1 o) (mulf (refSig h2) (subf refOne (refSig h2)))) (constant S_ .f32 0x00000000#32) pads_S4096x1024_S4096x2048_000_102400 h_S_) (pad S4096x2048 ![0, 0] ![0, 1024] ![0, 0] (mulf o (refSig h2)) (constant S_ .f32 0x00000000#32) pads_S4096x1024_S4096x2048_000_010240 h_S_)) bitsLt_bf16_f32

def refScale (u o : FVec Ideal S4096x1024 .f32) : FVec Ideal S1x1024 .f32 :=
  broadcastInDim S1x1024 ![1] bcast_S1024_S1x1024_1 (Host.reduceAdd (shapeCast _ (Host.reduceAdd (mulf u o) (constant S_ .f32 0x00000000#32) reducesTo_S4096x1024_S1024_d0 h_S_) shapeCasts_S1024_S1x1024) (constant S_ .f32 0x00000000#32) reducesTo_S1x1024_S1024_d0 h_S_)

theorem refMix_at (da pg ps : FVec Ideal S4096x1024 .f32) (n : Fin 4096) (k : Fin 1024) :
    (refMix da pg ps : S4096x1024.Idx → EReal) (ix2 n k) = through (da (ix2 n k)) (pg (ix2 n k)) * ps (ix2 n k) := by
  have e := refSig_at pg n k
  unfold refMix through
  generalize refSig pg = q at e
  pointwise
  rw [e]

theorem refGate_at (v a g : FVec Ideal S4096x1024 .f32) (n : Fin 4096) (k : Fin 1024) :
    (refGate v a g : S4096x1024.Idx → EReal) (ix2 n k) = v (ix2 n k) * a (ix2 n k) * sig (g (ix2 n k))
      + g (ix2 n k) * (v (ix2 n k) * a (ix2 n k)) * (sig (g (ix2 n k)) * (1 - sig (g (ix2 n k)))) := by
  have e := refSig_at g n k
  have e1 := refOne_at n k
  unfold refGate
  generalize refSig g = q at e
  generalize refOne = o at e1
  pointwise
  rw [e, e1]

theorem refGlu_lo (o h1 h2 : FVec Ideal S4096x1024 .f32) (n : Fin 4096) (k : Fin 1024) :
    (refGlu o h1 h2 : S4096x2048.Idx → EReal) (ix2 n (lo k)) = o (ix2 n k) * sig (h2 (ix2 n k)) := by
  have e := refSig_at h2 n k
  unfold refGlu
  generalize refSig h2 = q at e
  generalize refOne = w
  pointwise
  rw [dif_neg (fun h => absurd h.1 (by show ¬1024 ≤ k.val; omega)), dif_pos (show (lo k).val < 1024 from k.isLt), zero_add]
  show o (ix2 n k) * q (ix2 n k) = _
  rw [e]

theorem refGlu_hi (o h1 h2 : FVec Ideal S4096x1024 .f32) (n : Fin 4096) (k : Fin 1024) :
    (refGlu o h1 h2 : S4096x2048.Idx → EReal) (ix2 n (hi k))
      = h1 (ix2 n k) * o (ix2 n k) * (sig (h2 (ix2 n k)) * (1 - sig (h2 (ix2 n k)))) := by
  have e := refSig_at h2 n k
  have e1 := refOne_at n k
  unfold refGlu
  generalize refSig h2 = q at e
  generalize refOne = w at e1
  pointwise
  rw [dif_pos ⟨by show 1024 ≤ 1024 + k.val; omega, by show 1024 + k.val - 1024 < 1024; omega⟩,
    dif_neg (show ¬(hi k).val < 1024 by show ¬1024 + k.val < 1024; omega), add_zero]
  have ek : ∀ p, (⟨(hi k).val - 1024, p⟩ : Fin 1024) = k := fun p => Fin.ext (by show 1024 + k.val - 1024 = k.val; omega)
  simp only [ek, e, e1]

theorem refScale_at (u o : FVec Ideal S4096x1024 .f32) (k : Fin 1024) :
    refScale u o (ix2 0 k) = ∑ n : Fin 4096, u (ix2 n k) * o (ix2 n k) := by
  unfold refScale
  pointwise
  simp [zero_word]

/-! ## The results of the whole arrays -/

variable (d h : FVec Ideal S4096x2048 .f32) (u : FVec Ideal S4096x1024 .f32) (p : FVec Ideal S4096x4096 .f32) (s : FVec Ideal S1x1024 .f32)

def rMix : FVec Ideal S4096x1024 .bf16 := refMix (refLo d) (refPg p) (refS s)
def rPool : FVec Ideal S4096x1024 .bf16 := refGate (mulf u (refS s)) (refLo d) (refPg p)
def rSsm : FVec Ideal S4096x1024 .bf16 := refGate (mulf (refLo h) (refSig (refHi h))) (refHi d) (refSg p)
def rGlu : FVec Ideal S4096x2048 .bf16 := refGlu (mulf (refHi d) (mulf (refSg p) (refSig (refSg p)))) (refLo h) (refHi h)
def rScale : FVec Ideal S1x1024 .f32 := refScale u (mulf (refLo d) (mulf (refPg p) (refSig (refPg p))))

theorem exists_at {R C : ℕ} (x : Shape.Idx ⟨2, ![R, C]⟩) : ∃ (r : Fin R) (k : Fin C), x = ix2 r k := ⟨x 0, x 1, eq_ix2 x⟩

theorem mul_at (a b : FVec Ideal S4096x1024 .f32) (i : S4096x1024.Idx) : mulf a b i = a i * b i := rfl

theorem rMix_eq : (rMix d p s : S4096x1024.Idx → EReal) = gMix d p s := by
  funext i
  obtain ⟨n, k, rfl⟩ : ∃ (n : Fin 4096) (k : Fin 1024), i = ix2 n k := exists_at i
  unfold rMix
  rw [refMix_at, refLo_at, refPg_at, refS_at]
  rfl

theorem rPool_eq (hd : AllReal (s := S4096x2048) d) (hu : AllReal (s := S4096x1024) u) (hs : AllReal (s := S1x1024) s) :
    (rPool d u p s : S4096x1024.Idx → EReal) = gPool d u p s := by
  funext i
  obtain ⟨n, k, rfl⟩ : ∃ (n : Fin 4096) (k : Fin 1024), i = ix2 n k := exists_at i
  unfold rPool
  rw [refGate_at, mul_at, refLo_at, refPg_at, refS_at]
  refine (toGate_rev _ _ _ ?_).trans rfl
  obtain ⟨d', rfl⟩ := hd
  obtain ⟨u', rfl⟩ := hu
  obtain ⟨s', rfl⟩ := hs
  exact ⟨d' (ix2 n (lo k)) * (u' (ix2 n k) * s' (ix2 0 k)), by simp only [EReal.coe_mul]⟩

theorem rSsm_eq (hd : AllReal (s := S4096x2048) d) (hh : AllReal (s := S4096x2048) h) :
    (rSsm d h p : S4096x1024.Idx → EReal) = gSsm d h p := by
  funext i
  obtain ⟨n, k, rfl⟩ : ∃ (n : Fin 4096) (k : Fin 1024), i = ix2 n k := exists_at i
  unfold rSsm
  rw [refGate_at, mul_at, refSig_at, refLo_at, refHi_at, refHi_at, refSg_at]
  refine (toGate_rev _ _ _ ?_).trans rfl
  obtain ⟨d', rfl⟩ := hd
  obtain ⟨h', rfl⟩ := hh
  obtain ⟨q, hq⟩ := sig_coe (h' (ix2 n (hi k)))
  exact ⟨d' (ix2 n (hi k)) * (h' (ix2 n (lo k)) * q), by simp only [EReal.coe_mul, hq]⟩

theorem rGlu_eq : (rGlu d h p : S4096x2048.Idx → EReal) = gGlu d h p := by
  funext i
  obtain ⟨n, j, rfl⟩ : ∃ (n : Fin 4096) (j : Fin 2048), i = ix2 n j := exists_at i
  have hj := j.isLt
  unfold rGlu
  rcases Nat.lt_or_ge j.val 1024 with hk | hk
  · have e : j = lo ⟨j.val, hk⟩ := rfl
    generalize (⟨j.val, hk⟩ : Fin 1024) = k at e
    subst e
    refine (refGlu_lo _ _ _ n k).trans (Eq.trans ?_ (gGlu_lo d h p n k (lo k) rfl).symm)
    rw [mul_at, mul_at, refSig_at, refHi_at, refHi_at, refSg_at]
    rfl
  · have e : j = hi ⟨j.val - 1024, by omega⟩ := Fin.ext (by show j.val = 1024 + (j.val - 1024); omega)
    generalize (⟨j.val - 1024, by omega⟩ : Fin 1024) = k at e
    subst e
    refine (refGlu_hi _ _ _ n k).trans (Eq.trans ?_ (gGlu_hi d h p n k (hi k) rfl).symm)
    rw [mul_at, mul_at, refSig_at, refLo_at, refHi_at, refHi_at, refSg_at, mul_comm (h (ix2 n (lo k))), ← mul_assoc]
    rfl

theorem rScale_eq : (rScale d u p : S1x1024.Idx → EReal) = gScale d u p := by
  funext i
  obtain ⟨z, k, rfl⟩ : ∃ (z : Fin 1) (k : Fin 1024), i = ix2 z k := exists_at i
  obtain rfl : z = 0 := Subsingleton.elim _ _
  unfold rScale
  rw [refScale_at]
  refine Finset.sum_congr rfl fun n _ => ?_
  rw [mul_at, mul_at, refSig_at, refLo_at, refPg_at, mul_comm]
  rfl

set_option maxHeartbeats 4000000 in
/-- The reference leaves these, and its arguments unchanged. -/
theorem ref_run (m : (ℓ : Loc nD τ Cert.Reference5Ideal.sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v43) = rMix (m ((c.tc : Thread nD τ).loc main_arg0)) (m ((c.tc : Thread nD τ).loc main_arg2)) (m ((c.tc : Thread nD τ).loc main_arg4))
      ∧ r.2.mem ((c.tc : Thread nD τ).loc main_v44) = rPool (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v45) = rSsm (m ((c.tc : Thread nD τ).loc main_arg0)) (m ((c.tc : Thread nD τ).loc main_arg3)) (m ((c.tc : Thread nD τ).loc main_arg2))
      ∧ r.2.mem ((c.tc : Thread nD τ).loc main_v46) = rGlu (m ((c.tc : Thread nD τ).loc main_arg0)) (m ((c.tc : Thread nD τ).loc main_arg3)) (m ((c.tc : Thread nD τ).loc main_arg2))
      ∧ r.2.mem ((c.tc : Thread nD τ).loc main_v47) = rScale (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Value.run (F := Ideal) m ρ

end Cert.Gate

end
-- ==== Proof.GatePre.lean ====
module

public import proofs.«01_k».proof.Proof.Finite
public import proofs.«01_k».proof.Proof.Gen.Pre_finite_gates

/-! The precondition of the gates' gradient: the arriving gradient and what it meets are real. -/

@[expose] public section

set_option maxRecDepth 16384

noncomputable section

namespace Cert.Gate

open Cert.Pre_finite_gates Cert.Finite Idealize.ShloMosaic Idealize.ShloMosaic.TcCoe

theorem finite_gates (x0 x3 : FVec Ideal S4096x2048 .f32) (x1 : FVec Ideal S4096x1024 .f32) (x2 : FVec Ideal S4096x4096 .f32) (x4 : FVec Ideal S1x1024 .f32)
    (h : Cert.Pre_finite_gates.fn (F := Ideal) x0 x1 x2 x3 x4 = fun _ => 1#1) : AllReal x0 ∧ AllReal x1 ∧ AllReal x3 ∧ AllReal x4 := by
  have h0 := congrFun h (fun k => k.elim0)
  unfold Cert.Pre_finite_gates.fn Cert.Pre_finite_gates.fn_part1 at h0
  dsimp only at h0
  obtain ⟨habc, hd⟩ := and_one h0
  obtain ⟨hab, hc⟩ := and_one habc
  obtain ⟨ha, hb⟩ := and_one hab
  exact ⟨allReal_of_test (fun _ => rfl) ha, allReal_of_test (fun _ => rfl) hb, allReal_of_test (fun _ => rfl) hc, allReal_of_test (fun _ => rfl) hd⟩

end Cert.Gate

end
-- ==== Proof.Products.lean ====
module

public import Idealize.ShloMosaic.Lib.Pointwise

/-! The three products of two matrices that a linear layer and its gradients take, as plain sums. -/

@[expose] public section

noncomputable section

namespace Cert.Products

open Idealize.ShloMosaic

variable {M K N : ℕ}

/-- Rows of `a` against columns of `b`. -/
def nn (a : Shape.Idx ⟨2, ![M, K]⟩ → EReal) (b : Shape.Idx ⟨2, ![K, N]⟩ → EReal) : Shape.Idx ⟨2, ![M, N]⟩ → EReal :=
  fun i => ∑ k : Fin K, a (ix2 (i 0) k) * b (ix2 k (i 1))

/-- Rows of `a` against rows of `b`: the gradient of a product's left factor. -/
def nt (a : Shape.Idx ⟨2, ![M, K]⟩ → EReal) (b : Shape.Idx ⟨2, ![N, K]⟩ → EReal) : Shape.Idx ⟨2, ![M, N]⟩ → EReal :=
  fun i => ∑ k : Fin K, a (ix2 (i 0) k) * b (ix2 (i 1) k)

/-- Columns of `a` against columns of `b`: the gradient of a product's right factor. -/
def tn (a : Shape.Idx ⟨2, ![K, M]⟩ → EReal) (b : Shape.Idx ⟨2, ![K, N]⟩ → EReal) : Shape.Idx ⟨2, ![M, N]⟩ → EReal :=
  fun i => ∑ k : Fin K, a (ix2 k (i 0)) * b (ix2 k (i 1))

/-- A matrix cut into `C` slabs of `Q` columns each, one slab after another. -/
def slabs (C Q : ℕ) (h : N = C * Q) (f : Shape.Idx ⟨2, ![M, N]⟩ → EReal) : Shape.Idx ⟨3, ![C, M, Q]⟩ → EReal :=
  fun i => f (ix2 (i 1) ⟨(i 0).val * Q + (i 2).val, by
    have h0 : (i 0).val < C := (i 0).isLt
    have h2 : (i 2).val < Q := (i 2).isLt
    calc (i 0).val * Q + (i 2).val < (i 0).val * Q + Q := by omega
      _ = ((i 0).val + 1) * Q := by ring
      _ ≤ C * Q := Nat.mul_le_mul_right _ h0
      _ = N := h.symm⟩)

theorem exists_ix2 {R C : ℕ} (x : Shape.Idx ⟨2, ![R, C]⟩) : ∃ (r : Fin R) (k : Fin C), x = ix2 r k :=
  ⟨x 0, x 1, funext fun a => match a with | ⟨0, _⟩ => rfl | ⟨1, _⟩ => rfl⟩

theorem exists_ix3 {A B C : ℕ} (x : Shape.Idx ⟨3, ![A, B, C]⟩) : ∃ (a : Fin A) (b : Fin B) (c : Fin C), x = ix3 a b c :=
  ⟨x 0, x 1, x 2, funext fun a => match a with | ⟨0, _⟩ => rfl | ⟨1, _⟩ => rfl | ⟨2, _⟩ => rfl⟩

end Cert.Products

end
-- ==== Proof.MixKernel.lean ====
module

public import proofs.«01_k».proof.Proof.Gen.Kernel7Ideal.Frame
public import proofs.«01_k».proof.Proof.PoolKernel
public import proofs.«01_k».proof.Proof.Products

/-! What the pooling call and the product after it leave in their results: the windowed means less the rows themselves
    (`Cert.Mix.pooled`), their product with the group's weights, and the weights' gradient. -/

@[expose] public section

set_option maxRecDepth 16384

noncomputable section

namespace Cert.Mix

open Cert.Kernel7Ideal Cert.Kernel7Ideal.Gen Idealize.ShloMosaic Idealize.ShloMosaic.TcCoe Idealize.SL.Sem
open Cert.Pool (win count grp off col grp_col off_col const0 const1 const2 const3 word_row inv_count exists_ix2 emb_unit2 mem_unit)

/-! ## The mathematics of the results -/

/-- Row `t - 16` of the array's first 1024 columns; nothing before the first row. -/
def row (u : S4096x4096.Idx → EReal) (t : ℕ) (k : Fin 1024) : EReal :=
  if h : 16 ≤ t ∧ t - 16 < 4096 then u (ix2 ⟨t - 16, h.2⟩ ⟨k.val, by omega⟩) else 0

/-- The mean of group `g` at row `n` and column `c`, less the row itself. -/
def mean (u : S4096x4096.Idx → EReal) (n : ℕ) (g : Fin 4) (c : Fin 256) : EReal :=
  (∑ j ∈ Finset.range (win g), row u (n + 16 - j) (col g c)) * ((1 / (count n g : ℝ) : ℝ) : EReal) - row u (n + 16) (col g c)

def pooled (u : S4096x4096.Idx → EReal) : S4096x1024.Idx → EReal := fun i => mean u (i 0).val (grp (i 1)) (off (i 1))

/-- The means times the weights of their group. -/
def mixed (u : S4096x4096.Idx → EReal) (w : S4x256x256.Idx → EReal) : S4096x1024.Idx → EReal := fun i =>
  ∑ c : Fin 256, mean u (i 0).val (grp (i 1)) c * w (ix3 (grp (i 1)) c (off (i 1)))

/-- The gradient of the weights: the means' columns against the gradient's columns of the same group. -/
def gw (p d : S4096x1024.Idx → EReal) : S4x256x256.Idx → EReal := fun i =>
  ∑ t : Fin 4096, p (ix2 t (col (i 0) (i 1))) * d (ix2 t (col (i 0) (i 2)))

theorem pooled_at (u : S4096x4096.Idx → EReal) (n : Fin 4096) (g : Fin 4) (c : Fin 256) (k : Fin 1024) (hk : k.val = g.val * 256 + c.val) :
    pooled u (ix2 n k) = mean u n.val g c := by
  obtain rfl : k = col g c := Fin.ext hk
  show mean u n.val (grp (col g c)) (off (col g c)) = _
  rw [grp_col, off_col]

theorem mixed_at (u : S4096x4096.Idx → EReal) (w : S4x256x256.Idx → EReal) (n : Fin 4096) (g : Fin 4) (c : Fin 256) (k : Fin 1024) (hk : k.val = g.val * 256 + c.val) :
    mixed u w (ix2 n k) = ∑ b : Fin 256, mean u n.val g b * w (ix3 g b c) := by
  obtain rfl : k = col g c := Fin.ext hk
  show ∑ b : Fin 256, mean u n.val (grp (col g c)) b * w (ix3 (grp (col g c)) b (off (col g c))) = _
  rw [grp_col, off_col]

/-! ## What one grid point's scratch buffer holds -/

/-- The stores of one grid point into the buffer: the block's rows after the 16 rows before them. -/
def extL (i : grid0.Coords) (x0 : Vec Ideal S256x1024 .f32) (x1 : Vec Ideal S16x1024 .f32) : List (View.Piece (Elt Ideal) S272x1024 .f32) :=
  [⟨Rect.unit ![16, 0] ![256, 1024] inb_S272x1024_S256x1024_16_0, k0_pay4 x0⟩,
   ⟨Rect.unit ![0, 0] ![16, 1024] inb_S272x1024_S16x1024_0_0, k0_pay3 i x1⟩]

/-- The blocks of one grid point are those of the arrays: rows `256 n …`, and the 16 rows before them except at the
    first point. -/
structure Blocks (n : ℕ) (u : S4096x4096.Idx → EReal) (w : S4x256x256.Idx → EReal) (x0 : Vec Ideal S256x1024 .f32)
    (x1 : Vec Ideal S16x1024 .f32) (x2 : Vec Ideal S4x256x256 .bf16) : Prop where
  lt : n < 16
  here : ∀ (r : Fin 256) (k : Fin 1024), x0 (ix2 r k) = u (ix2 ⟨n * 256 + r.val, by omega⟩ ⟨k.val, by omega⟩)
  prev : ∀ (h : 0 < n) (r : Fin 16) (k : Fin 1024), x1 (ix2 r k) = u (ix2 ⟨n * 256 + r.val - 16, by omega⟩ ⟨k.val, by omega⟩)
  weights : x2 = w

/-- What the buffer holds: row `y 0` of the buffer is row `256 n + y 0 - 16` of the array. -/
def ext (n : ℕ) (u : S4096x4096.Idx → EReal) : S272x1024.Idx → EReal := fun y => row u (n * 256 + (y 0).val) (y 1)

/-- The 256 rows and columns of the buffer from `o` on. -/
abbrev cut (n : ℕ) (u : S4096x4096.Idx → EReal) (o : Fin 2 → ℕ) (h : ∀ a, o a + (![256, 256] : Fin 2 → ℕ) a ≤ S272x1024.size a) : Vec Ideal S256x256 .f32 :=
  fun j => ext n u ((Rect.unit (s := S272x1024) o ![256, 256] h).toLoadRect.idx j)

theorem ext_at (n : ℕ) (u : S4096x4096.Idx → EReal) (r : Fin 272) (g : Fin 4) (c : Fin 256) (k : Fin 1024) (hk : k.val = g.val * 256 + c.val) :
    ext n u (ix2 r k) = row u (n * 256 + r.val) (col g c) := by
  obtain rfl : k = col g c := Fin.ext hk
  rfl

section
variable {i : grid0.Coords} {u : S4096x4096.Idx → EReal} {w : S4x256x256.Idx → EReal} {x0 : Vec Ideal S256x1024 .f32}
  {x1 : Vec Ideal S16x1024 .f32} {x2 : Vec Ideal S4x256x256 .bf16}

/-- The kernel's comparison of the grid point with the first one, for a value that is zero there. -/
theorem tail_at (i : grid0.Coords) (x1 : Vec Ideal S16x1024 .f32) (r : Fin 16) (k : Fin 1024) :
    (k0_pay3 i x1 : FVec Ideal S16x1024 .f32) (ix2 r k) = if 0 < (i 0).val then x1 (ix2 r k) else 0 := by
  have hi : (i 0).val < 16 := (i 0).isLt
  have hc : Scalar.cmpi CmpIPredicate.sgt (BitVec.ofNat 32 (i 0).val) 0#32 = if 0 < (i 0).val then 1#1 else 0#1 := by
    have : ∀ n : Fin 16, Scalar.cmpi CmpIPredicate.sgt (BitVec.ofNat 32 n.val) 0#32 = if 0 < n.val then 1#1 else 0#1 := by
      decide
    exact this ⟨_, hi⟩
  unfold k0_pay3
  dsimp only
  rw [hc]
  by_cases h : 0 < (i 0).val
  · rw [if_pos h, if_pos h]
    pointwise
  · rw [if_neg h, if_neg h]
    pointwise

theorem ext_pieces (B : Blocks (i 0).val u w x0 x1 x2) :
    ∀ p ∈ extL i x0 x1, ∀ x : p.1.shape.Idx, p.2 x = ext (i 0).val u (p.1.emb x) := by
  have hi := B.lt
  unfold extL
  simp only [List.forall_mem_cons]
  refine ⟨?_, ?_, fun p hp => absurd hp List.not_mem_nil⟩
  · intro x; change Shape.Idx ⟨2, ![256, 1024]⟩ at x; obtain ⟨r, k, rfl⟩ := exists_ix2 x
    rw [emb_unit2]
    unfold k0_pay4
    pointwise
    rw [B.here]
    show _ = row u ((i 0).val * 256 + (16 + r.val)) k
    unfold row
    rw [dif_pos (by omega)]
    congr 1
    funext a
    match a with
    | ⟨0, _⟩ => exact Fin.ext (by show (i 0).val * 256 + r.val = (i 0).val * 256 + (16 + r.val) - 16; omega)
    | ⟨1, _⟩ => exact Fin.ext rfl
  · intro x; change Shape.Idx ⟨2, ![16, 1024]⟩ at x; obtain ⟨r, k, rfl⟩ := exists_ix2 x
    rw [emb_unit2]
    refine (tail_at i x1 r k).trans ?_
    show _ = row u ((i 0).val * 256 + (0 + r.val)) ⟨0 + k.val, _⟩
    unfold row
    by_cases h : 0 < (i 0).val
    · rw [if_pos h, B.prev h, dif_pos (by omega)]
      congr 1
      funext a
      match a with
      | ⟨0, _⟩ => exact Fin.ext (by show (i 0).val * 256 + r.val - 16 = (i 0).val * 256 + (0 + r.val) - 16; omega)
      | ⟨1, _⟩ => exact Fin.ext (by show k.val = 0 + k.val; omega)
    · rw [if_neg h, dif_neg (by omega)]

theorem ext_cover (i : grid0.Coords) (x0 : Vec Ideal S256x1024 .f32) (x1 : Vec Ideal S16x1024 .f32)
    (y : S272x1024.Idx) : ∃ p ∈ extL i x0 x1, y ∈ p.1.set := by
  obtain ⟨r, k, rfl⟩ : ∃ (r : Fin 272) (k : Fin 1024), y = ix2 r k := exists_ix2 y
  unfold extL
  rcases Nat.lt_or_ge r.val 16 with hr | hr
  · exact ⟨_, List.mem_of_getElem? (i := 1) rfl, mem_unit 0 0 16 1024 inb_S272x1024_S16x1024_0_0 (by omega) (by omega) (by omega) (by omega)⟩
  · exact ⟨_, List.mem_of_getElem? (i := 0) rfl, mem_unit 16 0 256 1024 inb_S272x1024_S256x1024_16_0 (by omega) (by omega) (by omega) (by omega)⟩

theorem ext_read (B : Blocks (i 0).val u w x0 x1 x2) (L : LoadRect S272x1024) :
    (View.whole cc0_scratch0).readCov (extL i x0 x1) L = fun j => ext (i 0).val u (L.idx j) := by
  rw [View.readCov_eq_canon']
  funext j
  exact View.canon_apply_of_pieces _ _ (ext_pieces B) _ (ext_cover i x0 x1 _)

end

/-! ## The reciprocal counts -/

theorem inv0 (i : grid0.Coords) (r k : Fin 256) (hi : (i 0).val < 16) :
    ((k0_pay6 i) : FVec Ideal S256x256 .f32) (ix2 r k) = ((1 / (count ((i 0).val * 256 + r.val) 0 : ℝ) : ℝ) : EReal) := by
  unfold k0_pay6 k0_pay5
  pointwise
  rw [word_row, inv_count _ 2 _ (by omega) (by omega) (by omega) const0]
  rfl

theorem inv1 (i : grid0.Coords) (r k : Fin 256) (hi : (i 0).val < 16) :
    ((k0_pay10 (k0_pay7 i) (k0_pay8 i) k0_pay9) : FVec Ideal S256x256 .f32) (ix2 r k) = ((1 / (count ((i 0).val * 256 + r.val) 1 : ℝ) : ℝ) : EReal) := by
  unfold k0_pay10 k0_pay9 k0_pay8 k0_pay7 k0_pay5
  pointwise
  rw [word_row, inv_count _ 4 _ (by omega) (by omega) (by omega) const1]
  rfl

theorem inv2 (i : grid0.Coords) (r k : Fin 256) (hi : (i 0).val < 16) :
    ((k0_pay11 (k0_pay5 i)) : FVec Ideal S256x256 .f32) (ix2 r k) = ((1 / (count ((i 0).val * 256 + r.val) 2 : ℝ) : ℝ) : EReal) := by
  unfold k0_pay11 k0_pay5
  pointwise
  rw [word_row, inv_count _ 8 _ (by omega) (by omega) (by omega) const2]
  rfl

theorem inv3 (i : grid0.Coords) (r k : Fin 256) (hi : (i 0).val < 16) :
    ((k0_pay12 (k0_pay5 i)) : FVec Ideal S256x256 .f32) (ix2 r k) = ((1 / (count ((i 0).val * 256 + r.val) 3 : ℝ) : ℝ) : EReal) := by
  unfold k0_pay12 k0_pay5
  pointwise
  rw [word_row, inv_count _ 16 _ (by omega) (by omega) (by omega) const3]
  rfl

/-! ## The block stored for each group -/

theorem mean_eq (u : S4096x4096.Idx → EReal) (n W : ℕ) (r : Fin 256) (g : Fin 4) (c : Fin 256) (hW : win g = W) {s v : EReal}
    (hs : s = ∑ j ∈ Finset.range W, row u (n * 256 + r.val + 16 - j) (col g c))
    (hv : v = ((1 / (count (n * 256 + r.val) g : ℝ) : ℝ) : EReal)) {z : ℕ} (hz : z = n * 256 + r.val + 16) :
    s * v - row u z (col g c) = mean u (n * 256 + r.val) g c := by
  subst hW; subst hs; subst hv; subst hz; rfl

/-- The means that the columns of group 0 are given, -/
theorem pool0 (i : grid0.Coords) (hi : (i 0).val < 16) (u : S4096x4096.Idx → EReal) (r k : Fin 256) :
    (k0_pay13 (k0_pay6 i)
      (cut (i 0).val u ![16, 0] inb_S272x1024_S256x256_16_0)
      (cut (i 0).val u ![15, 0] inb_S272x1024_S256x256_15_0)
      (cut (i 0).val u ![16, 0] inb_S272x1024_S256x256_16_0) : FVec Ideal S256x256 .bf16) (ix2 r k)
      = mean u ((i 0).val * 256 + r.val) 0 k := by
  unfold k0_pay13 cut
  pointwise
  have hk : k.val = (0 : Fin 4).val * 256 + k.val := by show _ = 0 * 256 + k.val; omega
  rw [ext_at _ _ _ 0 k _ hk, ext_at _ _ _ 0 k _ hk]
  refine mean_eq u _ 2 r 0 k rfl ?_ (inv0 i r k hi) (by show (i 0).val * 256 + (16 + r.val) = _; omega)
  simp only [Finset.sum_range_succ, Finset.sum_range_zero, zero_add]
  repeat' refine congrArg₂ (· + ·) ?_ ?_
  all_goals exact congrArg (fun z => row u z (col 0 k)) (by first | (show (i 0).val * 256 + (_ + r.val) = _; omega) | (show (i 0).val * 256 + r.val = _; omega))

/-- and their product with the group's weights. -/
theorem mix0 (i : grid0.Coords) (hi : (i 0).val < 16) (u : S4096x4096.Idx → EReal) (w : Vec Ideal S4x256x256 .bf16) (r k : Fin 256) :
    (k0_pay14 (k0_pay6 i)
      (cut (i 0).val u ![16, 0] inb_S272x1024_S256x256_16_0)
      (cut (i 0).val u ![15, 0] inb_S272x1024_S256x256_15_0)
      (cut (i 0).val u ![16, 0] inb_S272x1024_S256x256_16_0)
      (View.ld w (Rect.unit ![0, 0, 0] ![1, 256, 256] inb_S4x256x256_S1x256x256_0_0_0)) : FVec Ideal S256x256 .f32) (ix2 r k)
      = ∑ b : Fin 256, mean u ((i 0).val * 256 + r.val) 0 b * w (ix3 0 b k) := by
  simp only [← pool0 i hi u r]
  unfold k0_pay14
  generalize k0_pay13 (F := Ideal) (k0_pay6 i)
      (cut (i 0).val u ![16, 0] inb_S272x1024_S256x256_16_0)
      (cut (i 0).val u ![15, 0] inb_S272x1024_S256x256_15_0)
      (cut (i 0).val u ![16, 0] inb_S272x1024_S256x256_16_0) = p
  pointwise

/-- The means that the columns of group 1 are given, -/
theorem pool1 (i : grid0.Coords) (hi : (i 0).val < 16) (u : S4096x4096.Idx → EReal) (r k : Fin 256) :
    (k0_pay15 (k0_pay10 (k0_pay7 i) (k0_pay8 i) k0_pay9)
      (cut (i 0).val u ![16, 256] inb_S272x1024_S256x256_16_256)
      (cut (i 0).val u ![15, 256] inb_S272x1024_S256x256_15_256)
      (cut (i 0).val u ![14, 256] inb_S272x1024_S256x256_14_256)
      (cut (i 0).val u ![13, 256] inb_S272x1024_S256x256_13_256)
      (cut (i 0).val u ![16, 256] inb_S272x1024_S256x256_16_256) : FVec Ideal S256x256 .bf16) (ix2 r k)
      = mean u ((i 0).val * 256 + r.val) 1 k := by
  unfold k0_pay15 cut
  pointwise
  have hk : 256 + k.val = (1 : Fin 4).val * 256 + k.val := by show _ = 1 * 256 + k.val; omega
  rw [ext_at _ _ _ 1 k _ hk, ext_at _ _ _ 1 k _ hk, ext_at _ _ _ 1 k _ hk, ext_at _ _ _ 1 k _ hk]
  refine mean_eq u _ 4 r 1 k rfl ?_ (inv1 i r k hi) (by show (i 0).val * 256 + (16 + r.val) = _; omega)
  simp only [Finset.sum_range_succ, Finset.sum_range_zero, zero_add]
  repeat' refine congrArg₂ (· + ·) ?_ ?_
  all_goals exact congrArg (fun z => row u z (col 1 k)) (by first | (show (i 0).val * 256 + (_ + r.val) = _; omega) | (show (i 0).val * 256 + r.val = _; omega))

/-- and their product with the group's weights. -/
theorem mix1 (i : grid0.Coords) (hi : (i 0).val < 16) (u : S4096x4096.Idx → EReal) (w : Vec Ideal S4x256x256 .bf16) (r k : Fin 256) :
    (k0_pay16 (k0_pay10 (k0_pay7 i) (k0_pay8 i) k0_pay9)
      (cut (i 0).val u ![16, 256] inb_S272x1024_S256x256_16_256)
      (cut (i 0).val u ![15, 256] inb_S272x1024_S256x256_15_256)
      (cut (i 0).val u ![14, 256] inb_S272x1024_S256x256_14_256)
      (cut (i 0).val u ![13, 256] inb_S272x1024_S256x256_13_256)
      (cut (i 0).val u ![16, 256] inb_S272x1024_S256x256_16_256)
      (View.ld w (Rect.unit ![1, 0, 0] ![1, 256, 256] inb_S4x256x256_S1x256x256_1_0_0)) : FVec Ideal S256x256 .f32) (ix2 r k)
      = ∑ b : Fin 256, mean u ((i 0).val * 256 + r.val) 1 b * w (ix3 1 b k) := by
  simp only [← pool1 i hi u r]
  unfold k0_pay16
  generalize k0_pay15 (F := Ideal) (k0_pay10 (k0_pay7 i) (k0_pay8 i) k0_pay9)
      (cut (i 0).val u ![16, 256] inb_S272x1024_S256x256_16_256)
      (cut (i 0).val u ![15, 256] inb_S272x1024_S256x256_15_256)
      (cut (i 0).val u ![14, 256] inb_S272x1024_S256x256_14_256)
      (cut (i 0).val u ![13, 256] inb_S272x1024_S256x256_13_256)
      (cut (i 0).val u ![16, 256] inb_S272x1024_S256x256_16_256) = p
  pointwise

/-- The means that the columns of group 2 are given, -/
theorem pool2 (i : grid0.Coords) (hi : (i 0).val < 16) (u : S4096x4096.Idx → EReal) (r k : Fin 256) :
    (k0_pay18 (k0_pay11 (k0_pay5 i))
      (k0_pay17 (cut (i 0).val u ![16, 512] inb_S272x1024_S256x256_16_512)
        (cut (i 0).val u ![15, 512] inb_S272x1024_S256x256_15_512)
        (cut (i 0).val u ![14, 512] inb_S272x1024_S256x256_14_512)
        (cut (i 0).val u ![13, 512] inb_S272x1024_S256x256_13_512)
        (cut (i 0).val u ![12, 512] inb_S272x1024_S256x256_12_512)
        (cut (i 0).val u ![11, 512] inb_S272x1024_S256x256_11_512))
      (cut (i 0).val u ![10, 512] inb_S272x1024_S256x256_10_512)
      (cut (i 0).val u ![9, 512] inb_S272x1024_S256x256_9_512)
      (cut (i 0).val u ![16, 512] inb_S272x1024_S256x256_16_512) : FVec Ideal S256x256 .bf16) (ix2 r k)
      = mean u ((i 0).val * 256 + r.val) 2 k := by
  unfold k0_pay18 k0_pay17 cut
  pointwise
  have hk : 512 + k.val = (2 : Fin 4).val * 256 + k.val := by show _ = 2 * 256 + k.val; omega
  rw [ext_at _ _ _ 2 k _ hk, ext_at _ _ _ 2 k _ hk, ext_at _ _ _ 2 k _ hk, ext_at _ _ _ 2 k _ hk, ext_at _ _ _ 2 k _ hk, ext_at _ _ _ 2 k _ hk, ext_at _ _ _ 2 k _ hk, ext_at _ _ _ 2 k _ hk]
  refine mean_eq u _ 8 r 2 k rfl ?_ (inv2 i r k hi) (by show (i 0).val * 256 + (16 + r.val) = _; omega)
  simp only [Finset.sum_range_succ, Finset.sum_range_zero, zero_add]
  repeat' refine congrArg₂ (· + ·) ?_ ?_
  all_goals exact congrArg (fun z => row u z (col 2 k)) (by first | (show (i 0).val * 256 + (_ + r.val) = _; omega) | (show (i 0).val * 256 + r.val = _; omega))

/-- and their product with the group's weights. -/
theorem mix2 (i : grid0.Coords) (hi : (i 0).val < 16) (u : S4096x4096.Idx → EReal) (w : Vec Ideal S4x256x256 .bf16) (r k : Fin 256) :
    (k0_pay19 (k0_pay11 (k0_pay5 i))
      (k0_pay17 (cut (i 0).val u ![16, 512] inb_S272x1024_S256x256_16_512)
        (cut (i 0).val u ![15, 512] inb_S272x1024_S256x256_15_512)
        (cut (i 0).val u ![14, 512] inb_S272x1024_S256x256_14_512)
        (cut (i 0).val u ![13, 512] inb_S272x1024_S256x256_13_512)
        (cut (i 0).val u ![12, 512] inb_S272x1024_S256x256_12_512)
        (cut (i 0).val u ![11, 512] inb_S272x1024_S256x256_11_512))
      (cut (i 0).val u ![10, 512] inb_S272x1024_S256x256_10_512)
      (cut (i 0).val u ![9, 512] inb_S272x1024_S256x256_9_512)
      (cut (i 0).val u ![16, 512] inb_S272x1024_S256x256_16_512)
      (View.ld w (Rect.unit ![2, 0, 0] ![1, 256, 256] inb_S4x256x256_S1x256x256_2_0_0)) : FVec Ideal S256x256 .f32) (ix2 r k)
      = ∑ b : Fin 256, mean u ((i 0).val * 256 + r.val) 2 b * w (ix3 2 b k) := by
  simp only [← pool2 i hi u r]
  unfold k0_pay19
  generalize k0_pay18 (F := Ideal) (k0_pay11 (k0_pay5 i))
      (k0_pay17 (cut (i 0).val u ![16, 512] inb_S272x1024_S256x256_16_512)
        (cut (i 0).val u ![15, 512] inb_S272x1024_S256x256_15_512)
        (cut (i 0).val u ![14, 512] inb_S272x1024_S256x256_14_512)
        (cut (i 0).val u ![13, 512] inb_S272x1024_S256x256_13_512)
        (cut (i 0).val u ![12, 512] inb_S272x1024_S256x256_12_512)
        (cut (i 0).val u ![11, 512] inb_S272x1024_S256x256_11_512))
      (cut (i 0).val u ![10, 512] inb_S272x1024_S256x256_10_512)
      (cut (i 0).val u ![9, 512] inb_S272x1024_S256x256_9_512)
      (cut (i 0).val u ![16, 512] inb_S272x1024_S256x256_16_512) = p
  pointwise

/-- The means that the columns of group 3 are given, -/
theorem pool3 (i : grid0.Coords) (hi : (i 0).val < 16) (u : S4096x4096.Idx → EReal) (r k : Fin 256) :
    (k0_pay1 (k0_pay12 (k0_pay5 i))
      (k0_pay20 (cut (i 0).val u ![16, 768] inb_S272x1024_S256x256_16_768)
        (cut (i 0).val u ![15, 768] inb_S272x1024_S256x256_15_768)
        (cut (i 0).val u ![14, 768] inb_S272x1024_S256x256_14_768)
        (cut (i 0).val u ![13, 768] inb_S272x1024_S256x256_13_768)
        (cut (i 0).val u ![12, 768] inb_S272x1024_S256x256_12_768)
        (cut (i 0).val u ![11, 768] inb_S272x1024_S256x256_11_768)
        (cut (i 0).val u ![10, 768] inb_S272x1024_S256x256_10_768)
        (cut (i 0).val u ![9, 768] inb_S272x1024_S256x256_9_768))
      (cut (i 0).val u ![8, 768] inb_S272x1024_S256x256_8_768)
      (cut (i 0).val u ![7, 768] inb_S272x1024_S256x256_7_768)
      (cut (i 0).val u ![6, 768] inb_S272x1024_S256x256_6_768)
      (cut (i 0).val u ![5, 768] inb_S272x1024_S256x256_5_768)
      (cut (i 0).val u ![4, 768] inb_S272x1024_S256x256_4_768)
      (cut (i 0).val u ![3, 768] inb_S272x1024_S256x256_3_768)
      (cut (i 0).val u ![2, 768] inb_S272x1024_S256x256_2_768)
      (cut (i 0).val u ![1, 768] inb_S272x1024_S256x256_1_768)
      (cut (i 0).val u ![16, 768] inb_S272x1024_S256x256_16_768) : FVec Ideal S256x256 .bf16) (ix2 r k)
      = mean u ((i 0).val * 256 + r.val) 3 k := by
  unfold k0_pay1 k0_pay20 cut
  pointwise
  have hk : 768 + k.val = (3 : Fin 4).val * 256 + k.val := by show _ = 3 * 256 + k.val; omega
  rw [ext_at _ _ _ 3 k _ hk, ext_at _ _ _ 3 k _ hk, ext_at _ _ _ 3 k _ hk, ext_at _ _ _ 3 k _ hk, ext_at _ _ _ 3 k _ hk, ext_at _ _ _ 3 k _ hk, ext_at _ _ _ 3 k _ hk, ext_at _ _ _ 3 k _ hk, ext_at _ _ _ 3 k _ hk, ext_at _ _ _ 3 k _ hk, ext_at _ _ _ 3 k _ hk, ext_at _ _ _ 3 k _ hk, ext_at _ _ _ 3 k _ hk, ext_at _ _ _ 3 k _ hk, ext_at _ _ _ 3 k _ hk, ext_at _ _ _ 3 k _ hk]
  refine mean_eq u _ 16 r 3 k rfl ?_ (inv3 i r k hi) (by show (i 0).val * 256 + (16 + r.val) = _; omega)
  simp only [Finset.sum_range_succ, Finset.sum_range_zero, zero_add]
  repeat' refine congrArg₂ (· + ·) ?_ ?_
  all_goals exact congrArg (fun z => row u z (col 3 k)) (by first | (show (i 0).val * 256 + (_ + r.val) = _; omega) | (show (i 0).val * 256 + r.val = _; omega))

/-- and their product with the group's weights. -/
theorem mix3 (i : grid0.Coords) (hi : (i 0).val < 16) (u : S4096x4096.Idx → EReal) (w : Vec Ideal S4x256x256 .bf16) (r k : Fin 256) :
    (k0_pay2 (k0_pay12 (k0_pay5 i))
      (k0_pay20 (cut (i 0).val u ![16, 768] inb_S272x1024_S256x256_16_768)
        (cut (i 0).val u ![15, 768] inb_S272x1024_S256x256_15_768)
        (cut (i 0).val u ![14, 768] inb_S272x1024_S256x256_14_768)
        (cut (i 0).val u ![13, 768] inb_S272x1024_S256x256_13_768)
        (cut (i 0).val u ![12, 768] inb_S272x1024_S256x256_12_768)
        (cut (i 0).val u ![11, 768] inb_S272x1024_S256x256_11_768)
        (cut (i 0).val u ![10, 768] inb_S272x1024_S256x256_10_768)
        (cut (i 0).val u ![9, 768] inb_S272x1024_S256x256_9_768))
      (cut (i 0).val u ![8, 768] inb_S272x1024_S256x256_8_768)
      (cut (i 0).val u ![7, 768] inb_S272x1024_S256x256_7_768)
      (cut (i 0).val u ![6, 768] inb_S272x1024_S256x256_6_768)
      (cut (i 0).val u ![5, 768] inb_S272x1024_S256x256_5_768)
      (cut (i 0).val u ![4, 768] inb_S272x1024_S256x256_4_768)
      (cut (i 0).val u ![3, 768] inb_S272x1024_S256x256_3_768)
      (cut (i 0).val u ![2, 768] inb_S272x1024_S256x256_2_768)
      (cut (i 0).val u ![1, 768] inb_S272x1024_S256x256_1_768)
      (cut (i 0).val u ![16, 768] inb_S272x1024_S256x256_16_768)
      (View.ld w (Rect.unit ![3, 0, 0] ![1, 256, 256] inb_S4x256x256_S1x256x256_3_0_0)) : FVec Ideal S256x256 .f32) (ix2 r k)
      = ∑ b : Fin 256, mean u ((i 0).val * 256 + r.val) 3 b * w (ix3 3 b k) := by
  simp only [← pool3 i hi u r]
  unfold k0_pay2
  generalize k0_pay1 (F := Ideal) (k0_pay12 (k0_pay5 i))
      (k0_pay20 (cut (i 0).val u ![16, 768] inb_S272x1024_S256x256_16_768)
        (cut (i 0).val u ![15, 768] inb_S272x1024_S256x256_15_768)
        (cut (i 0).val u ![14, 768] inb_S272x1024_S256x256_14_768)
        (cut (i 0).val u ![13, 768] inb_S272x1024_S256x256_13_768)
        (cut (i 0).val u ![12, 768] inb_S272x1024_S256x256_12_768)
        (cut (i 0).val u ![11, 768] inb_S272x1024_S256x256_11_768)
        (cut (i 0).val u ![10, 768] inb_S272x1024_S256x256_10_768)
        (cut (i 0).val u ![9, 768] inb_S272x1024_S256x256_9_768))
      (cut (i 0).val u ![8, 768] inb_S272x1024_S256x256_8_768)
      (cut (i 0).val u ![7, 768] inb_S272x1024_S256x256_7_768)
      (cut (i 0).val u ![6, 768] inb_S272x1024_S256x256_6_768)
      (cut (i 0).val u ![5, 768] inb_S272x1024_S256x256_5_768)
      (cut (i 0).val u ![4, 768] inb_S272x1024_S256x256_4_768)
      (cut (i 0).val u ![3, 768] inb_S272x1024_S256x256_3_768)
      (cut (i 0).val u ![2, 768] inb_S272x1024_S256x256_2_768)
      (cut (i 0).val u ![1, 768] inb_S272x1024_S256x256_1_768)
      (cut (i 0).val u ![16, 768] inb_S272x1024_S256x256_16_768) = p
  pointwise

/-! ## What the calls leave -/

theorem idx_tc : ∀ t : Fin grid0.N, (grid0.coords t 0).val = t.val := by decide +kernel
theorem idx0 : ∀ t : Fin grid0.N, win0_0.index t = ![t.val, 0] ∧ win0_1.index t = ![t.val * 16 - 1, 0] ∧ win0_2.index t = ![0, 0, 0]
    ∧ win0_3.index t = ![t.val, 0] ∧ win0_4.index t = ![t.val, 0] := by decide +kernel
theorem idx1 : ∀ t : Fin grid1.N, win1_0.index t = ![0, t.val] ∧ win1_1.index t = ![0, t.val] ∧ win1_2.index t = ![t.val, 0, 0]
    ∧ win1_3.index t = ![t.val, 0, 0] := by decide +kernel

variable (V : (c : Dev nD) → (b : Ref sig .tc) → Buf (Elt Ideal) ((c : Thread nD τ).loc b)) (c : Dev nD)

theorem blocks (t : Fin cfg0.N) :
    Blocks (grid0.coords t 0).val (V c main_arg0) (V c main_arg1) (iblk0 V c 0 t) (iblk0 V c 1 t) (iblk0 V c 2 t) where
  lt := (grid0.coords t 0).isLt
  here := by
    intro r k
    have := idx_tc t
    simp only [this]
    blk_point [iblk0, (idx0 t).1]
  prev := by
    intro h r k
    have := idx_tc t
    have h' := h
    rw [this] at h'
    simp only [this]
    blk_point [iblk0, (idx0 t).2.1]
  weights := by
    funext j
    obtain ⟨a, b, k, rfl⟩ := Cert.Products.exists_ix3 j
    blk_point [iblk0, (idx0 t).2.2.1]

/-- The array of the means, -/
theorem arr0_3 : (dat0 V c).arrAt 3 cfg0.N = pooled (V c main_arg0) := by
  refine (dat0 V c).arrAt_eq_of_covers 3 _ (by decide +kernel) fun t hf y => ?_
  rw [after0_3]
  unfold outsAt0
  frame_open
  frame_out
  have hi : (grid0.coords t 0).val < 16 := (grid0.coords t 0).isLt
  simp only [← extL.eq_1, ext_read (blocks V c t)]
  refine (View.canon_apply_of_pieces (fun y : S256x1024.Idx => pooled (V c main_arg0)
    (ix2 ⟨(grid0.coords t 0).val * 256 + (y 0).val, by have : (y 0).val < 256 := (y 0).isLt; omega⟩ (y 1))) _ ?_ _ ?_).trans ?_
  · simp only [List.forall_mem_cons]
    refine ⟨?_, ?_, ?_, ?_, fun p hp => absurd hp List.not_mem_nil⟩
    · intro x; change Shape.Idx ⟨2, ![256, 256]⟩ at x; obtain ⟨r, k, rfl⟩ := exists_ix2 x
      rw [emb_unit2]
      refine (pool3 _ hi _ r k).trans (Eq.trans ?_ (pooled_at _ _ 3 k _ (by show 768 + k.val = 3 * 256 + k.val; omega)).symm)
      exact congrArg (fun z => mean (V c main_arg0) z 3 k) (by show (grid0.coords t 0).val * 256 + r.val = (grid0.coords t 0).val * 256 + (0 + r.val); omega)
    · intro x; change Shape.Idx ⟨2, ![256, 256]⟩ at x; obtain ⟨r, k, rfl⟩ := exists_ix2 x
      rw [emb_unit2]
      refine (pool2 _ hi _ r k).trans (Eq.trans ?_ (pooled_at _ _ 2 k _ (by show 512 + k.val = 2 * 256 + k.val; omega)).symm)
      exact congrArg (fun z => mean (V c main_arg0) z 2 k) (by show (grid0.coords t 0).val * 256 + r.val = (grid0.coords t 0).val * 256 + (0 + r.val); omega)
    · intro x; change Shape.Idx ⟨2, ![256, 256]⟩ at x; obtain ⟨r, k, rfl⟩ := exists_ix2 x
      rw [emb_unit2]
      refine (pool1 _ hi _ r k).trans (Eq.trans ?_ (pooled_at _ _ 1 k _ (by show 256 + k.val = 1 * 256 + k.val; omega)).symm)
      exact congrArg (fun z => mean (V c main_arg0) z 1 k) (by show (grid0.coords t 0).val * 256 + r.val = (grid0.coords t 0).val * 256 + (0 + r.val); omega)
    · intro x; change Shape.Idx ⟨2, ![256, 256]⟩ at x; obtain ⟨r, k, rfl⟩ := exists_ix2 x
      rw [emb_unit2]
      refine (pool0 _ hi _ r k).trans (Eq.trans ?_ (pooled_at _ _ 0 k _ (by show 0 + k.val = 0 * 256 + k.val; omega)).symm)
      exact congrArg (fun z => mean (V c main_arg0) z 0 k) (by show (grid0.coords t 0).val * 256 + r.val = (grid0.coords t 0).val * 256 + (0 + r.val); omega)
  · obtain ⟨r, k, e⟩ : ∃ (r : Fin 256) (k : Fin 1024), (win0 3).xinj (grid0.coords t) y = ix2 r k := exists_ix2 (R := 256) (C := 1024) _
    rw [e]
    rcases (by omega : k.val / 256 = 0 ∨ k.val / 256 = 1 ∨ k.val / 256 = 2 ∨ k.val / 256 = 3) with h | h | h | h
    · exact ⟨_, List.mem_of_getElem? (i := 3) rfl, mem_unit 0 0 256 256 inb_S256x1024_S256x256_0_0 (by omega) (by omega) (by omega) (by omega)⟩
    · exact ⟨_, List.mem_of_getElem? (i := 2) rfl, mem_unit 0 256 256 256 inb_S256x1024_S256x256_0_256 (by omega) (by omega) (by omega) (by omega)⟩
    · exact ⟨_, List.mem_of_getElem? (i := 1) rfl, mem_unit 0 512 256 256 inb_S256x1024_S256x256_0_512 (by omega) (by omega) (by omega) (by omega)⟩
    · exact ⟨_, List.mem_of_getElem? (i := 0) rfl, mem_unit 0 768 256 256 inb_S256x1024_S256x256_0_768 (by omega) (by omega) (by omega) (by omega)⟩
  · refine congrArg (pooled _) (funext fun x => ?_)
    have ht := idx_tc t
    match x with
    | ⟨0, _⟩ =>
      refine Fin.ext ?_
      show (grid0.coords t 0).val * 256 + (y 0).val = (((cfg0.win 3).blk t).view.emb y 0).val
      blk_simp [(idx0 t).2.2.2.1]
      rw [ht]
    | ⟨1, _⟩ =>
      refine Fin.ext ?_
      show (y 1).val = (((cfg0.win 3).blk t).view.emb y 1).val
      blk_simp [(idx0 t).2.2.2.1]

/-- and that of their products with the weights. -/
theorem arr0_4 : (dat0 V c).arrAt 4 cfg0.N = mixed (V c main_arg0) (V c main_arg1) := by
  refine (dat0 V c).arrAt_eq_of_covers 4 _ (by decide +kernel) fun t hf y => ?_
  rw [after0_4]
  unfold outsAt0
  frame_open
  frame_out
  have hi : (grid0.coords t 0).val < 16 := (grid0.coords t 0).isLt
  simp only [← extL.eq_1, ext_read (blocks V c t)]
  rw [(blocks V c t).weights]
  refine (View.canon_apply_of_pieces (fun y : S256x1024.Idx => mixed (V c main_arg0) (V c main_arg1)
    (ix2 ⟨(grid0.coords t 0).val * 256 + (y 0).val, by have : (y 0).val < 256 := (y 0).isLt; omega⟩ (y 1))) _ ?_ _ ?_).trans ?_
  · simp only [List.forall_mem_cons]
    refine ⟨?_, ?_, ?_, ?_, fun p hp => absurd hp List.not_mem_nil⟩
    · intro x; change Shape.Idx ⟨2, ![256, 256]⟩ at x; obtain ⟨r, k, rfl⟩ := exists_ix2 x
      rw [emb_unit2]
      refine (mix3 _ hi _ _ r k).trans (Eq.trans ?_ (mixed_at _ _ _ 3 k _ (by show 768 + k.val = 3 * 256 + k.val; omega)).symm)
      exact congrArg (fun z => ∑ b : Fin 256, mean (V c main_arg0) z 3 b * V c main_arg1 (ix3 3 b k)) (by show (grid0.coords t 0).val * 256 + r.val = (grid0.coords t 0).val * 256 + (0 + r.val); omega)
    · intro x; change Shape.Idx ⟨2, ![256, 256]⟩ at x; obtain ⟨r, k, rfl⟩ := exists_ix2 x
      rw [emb_unit2]
      refine (mix2 _ hi _ _ r k).trans (Eq.trans ?_ (mixed_at _ _ _ 2 k _ (by show 512 + k.val = 2 * 256 + k.val; omega)).symm)
      exact congrArg (fun z => ∑ b : Fin 256, mean (V c main_arg0) z 2 b * V c main_arg1 (ix3 2 b k)) (by show (grid0.coords t 0).val * 256 + r.val = (grid0.coords t 0).val * 256 + (0 + r.val); omega)
    · intro x; change Shape.Idx ⟨2, ![256, 256]⟩ at x; obtain ⟨r, k, rfl⟩ := exists_ix2 x
      rw [emb_unit2]
      refine (mix1 _ hi _ _ r k).trans (Eq.trans ?_ (mixed_at _ _ _ 1 k _ (by show 256 + k.val = 1 * 256 + k.val; omega)).symm)
      exact congrArg (fun z => ∑ b : Fin 256, mean (V c main_arg0) z 1 b * V c main_arg1 (ix3 1 b k)) (by show (grid0.coords t 0).val * 256 + r.val = (grid0.coords t 0).val * 256 + (0 + r.val); omega)
    · intro x; change Shape.Idx ⟨2, ![256, 256]⟩ at x; obtain ⟨r, k, rfl⟩ := exists_ix2 x
      rw [emb_unit2]
      refine (mix0 _ hi _ _ r k).trans (Eq.trans ?_ (mixed_at _ _ _ 0 k _ (by show 0 + k.val = 0 * 256 + k.val; omega)).symm)
      exact congrArg (fun z => ∑ b : Fin 256, mean (V c main_arg0) z 0 b * V c main_arg1 (ix3 0 b k)) (by show (grid0.coords t 0).val * 256 + r.val = (grid0.coords t 0).val * 256 + (0 + r.val); omega)
  · obtain ⟨r, k, e⟩ : ∃ (r : Fin 256) (k : Fin 1024), (win0 4).xinj (grid0.coords t) y = ix2 r k := exists_ix2 (R := 256) (C := 1024) _
    rw [e]
    rcases (by omega : k.val / 256 = 0 ∨ k.val / 256 = 1 ∨ k.val / 256 = 2 ∨ k.val / 256 = 3) with h | h | h | h
    · exact ⟨_, List.mem_of_getElem? (i := 3) rfl, mem_unit 0 0 256 256 inb_S256x1024_S256x256_0_0 (by omega) (by omega) (by omega) (by omega)⟩
    · exact ⟨_, List.mem_of_getElem? (i := 2) rfl, mem_unit 0 256 256 256 inb_S256x1024_S256x256_0_256 (by omega) (by omega) (by omega) (by omega)⟩
    · exact ⟨_, List.mem_of_getElem? (i := 1) rfl, mem_unit 0 512 256 256 inb_S256x1024_S256x256_0_512 (by omega) (by omega) (by omega) (by omega)⟩
    · exact ⟨_, List.mem_of_getElem? (i := 0) rfl, mem_unit 0 768 256 256 inb_S256x1024_S256x256_0_768 (by omega) (by omega) (by omega) (by omega)⟩
  · refine congrArg (mixed _ _) (funext fun x => ?_)
    have ht := idx_tc t
    match x with
    | ⟨0, _⟩ =>
      refine Fin.ext ?_
      show (grid0.coords t 0).val * 256 + (y 0).val = (((cfg0.win 4).blk t).view.emb y 0).val
      blk_simp [(idx0 t).2.2.2.2]
      rw [ht]
    | ⟨1, _⟩ =>
      refine Fin.ext ?_
      show (y 1).val = (((cfg0.win 4).blk t).view.emb y 1).val
      blk_simp [(idx0 t).2.2.2.2]

/-! ## The weights' gradient -/

theorem blk1_0 (t : Fin cfg1.N) (ht : t.val < 4) (r : Fin 4096) (k : Fin 256) : iblk1 V c 0 t (ix2 r k)
    = V c main_v0_0 (ix2 r (⟨t.val * 256 + k.val, by omega⟩ : Fin 1024)) := by
  blk_ext [iblk1, (idx1 t).1]

theorem blk1_1 (t : Fin cfg1.N) (ht : t.val < 4) (r : Fin 4096) (k : Fin 256) : iblk1 V c 1 t (ix2 r k)
    = V c main_arg2 (ix2 r (⟨t.val * 256 + k.val, by omega⟩ : Fin 1024)) := by
  blk_ext [iblk1, (idx1 t).2.1]

theorem out1_2_eq (x0 : Vec Ideal S4096x256 .bf16) (x1 : Vec Ideal S4096x256 .bf16) (r k : Fin 256) :
    out1_2 x0 x1 (ix3 0 r k) = (∑ j : Fin 4096, x0 (ix2 j r) * x1 (ix2 j k)) := by
  unfold out1_2
  rw [View.canon_unit_zero (by decide)]
  unfold k1_pay2 k1_pay1
  rw [View.ld_unit_zero (by decide), View.ld_unit_zero (by decide)]
  pointwise

theorem val1_2 (t : Fin cfg1.N) (ht : t.val < 4) (r k : Fin 256) : out1_2 (iblk1 V c 0 t) (iblk1 V c 1 t) (ix3 0 r k)
    = gw (V c main_v0_0) (V c main_arg2) (ix3 (⟨t.val, by omega⟩ : Fin 4) r k) := by
  rw [out1_2_eq]
  simp only [blk1_0 V c t ht, blk1_1 V c t ht]
  rfl

theorem emb1_2 (t : Fin cfg1.N) (ht : t.val < 4) (r k : Fin 256) : ((cfg1.win 2).blk t).view.emb (ix3 0 r k)
    = (ix3 (⟨t.val, by omega⟩ : Fin 4) r k) := by
  blk_ext [(idx1 t).2.2.1]

theorem arr1_2 : (dat1 V c).arrAt 2 cfg1.N = gw (V c main_v0_0) (V c main_arg2) := by
  refine (dat1 V c).arrAt_eq_of_covers 2 _ (by decide +kernel) fun t hf y => ?_
  obtain ⟨z, r, k, e⟩ : ∃ (z : Fin 1) (r k : Fin 256), (win1 2).xinj (grid1.coords t) y = ix3 z r k := Cert.Products.exists_ix3 _
  obtain rfl : z = 0 := Subsingleton.elim _ _
  have ht : t.val < 4 := t.isLt
  have e' : y = ix3 0 r k := e
  rw [after1_2, e]
  subst e'
  rw [val1_2 V c t ht, ← emb1_2 t ht]
  rfl

theorem out1_3_eq (x0 : Vec Ideal S4096x256 .bf16) (x1 : Vec Ideal S4096x256 .bf16) (r k : Fin 256) :
    out1_3 x0 x1 (ix3 0 r k) = (∑ j : Fin 4096, x0 (ix2 j r) * x1 (ix2 j k)) := by
  unfold out1_3
  rw [View.canon_unit_zero (by decide)]
  unfold k1_pay3 k1_pay1
  rw [View.ld_unit_zero (by decide), View.ld_unit_zero (by decide)]
  pointwise

theorem val1_3 (t : Fin cfg1.N) (ht : t.val < 4) (r k : Fin 256) : out1_3 (iblk1 V c 0 t) (iblk1 V c 1 t) (ix3 0 r k)
    = gw (V c main_v0_0) (V c main_arg2) (ix3 (⟨t.val, by omega⟩ : Fin 4) r k) := by
  rw [out1_3_eq]
  simp only [blk1_0 V c t ht, blk1_1 V c t ht]
  rfl

theorem emb1_3 (t : Fin cfg1.N) (ht : t.val < 4) (r k : Fin 256) : ((cfg1.win 3).blk t).view.emb (ix3 0 r k)
    = (ix3 (⟨t.val, by omega⟩ : Fin 4) r k) := by
  blk_ext [(idx1 t).2.2.2]

theorem arr1_3 : (dat1 V c).arrAt 3 cfg1.N = gw (V c main_v0_0) (V c main_arg2) := by
  refine (dat1 V c).arrAt_eq_of_covers 3 _ (by decide +kernel) fun t hf y => ?_
  obtain ⟨z, r, k, e⟩ : ∃ (z : Fin 1) (r k : Fin 256), (win1 3).xinj (grid1.coords t) y = ix3 z r k := Cert.Products.exists_ix3 _
  obtain rfl : z = 0 := Subsingleton.elim _ _
  have ht : t.val < 4 := t.isLt
  have e' : y = ix3 0 r k := e
  rw [after1_3, e]
  subst e'
  rw [val1_3 V c t ht, ← emb1_3 t ht]
  rfl

end Cert.Mix

end
-- ==== Proof.MixRun.lean ====
module

public import proofs.«01_k».proof.Proof.MixKernel

/-! The pooling call and the product after it as one run: every result in terms of the arguments. -/

@[expose] public section

set_option maxRecDepth 16384

noncomputable section

namespace Cert.Mix

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option backward.isDefEq.respectTransparency.types false in
/-- Every execution of the calls terminates and leaves each array at what the calls' fold gives. -/
theorem run_fold (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      ∀ b ∈ Pipeline.ucRefs τ sig, r.2.mem (((c : Thread nD τ)).1, b) = W2 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => h)

variable (m : (ℓ : Loc nD τ sig) → Buf (Elt Ideal) ℓ) (ρ : Dev nD → PrngReg) (c : Dev nD)

theorem first_pooled : W1 m ρ c (Proc.devRef .tc main_v0_0) = pooled (m ((c.tc : Thread nD τ).loc main_arg0)) := by
  refine (W1_arr m ρ c 3).trans ?_
  rw [arr0_3, show V0 m ρ c main_arg0 = m ((c.tc : Thread nD τ).loc main_arg0) from rfl]
  try rfl

theorem first_mixed : W1 m ρ c (Proc.devRef .tc main_v0_1) = mixed (m ((c.tc : Thread nD τ).loc main_arg0)) (m ((c.tc : Thread nD τ).loc main_arg1)) := by
  refine (W1_arr m ρ c 4).trans ?_
  rw [arr0_4, show V0 m ρ c main_arg0 = m ((c.tc : Thread nD τ).loc main_arg0) from rfl, show V0 m ρ c main_arg1 = m ((c.tc : Thread nD τ).loc main_arg1) from rfl]
  try rfl

theorem at2_mixed : W2 m ρ c (Proc.devRef .tc main_v0_1) = mixed (m ((c.tc : Thread nD τ).loc main_arg0)) (m ((c.tc : Thread nD τ).loc main_arg1)) :=
  (W2_of m ρ c main_v0_1 (by decide +kernel)).trans (first_mixed m ρ c)

theorem first_gw : W2 m ρ c (Proc.devRef .tc main_v1_0) = gw (pooled (m ((c.tc : Thread nD τ).loc main_arg0))) (m ((c.tc : Thread nD τ).loc main_arg2)) := by
  refine (W2_arr m ρ c 2).trans ?_
  rw [arr1_2, show V1 m ρ c main_v0_0 = pooled (m ((c.tc : Thread nD τ).loc main_arg0)) from first_pooled m ρ c, show V1 m ρ c main_arg2 = m ((c.tc : Thread nD τ).loc main_arg2) from W1_args m ρ c main_arg2 (by decide)]
  try rfl

theorem first_gw16 : W2 m ρ c (Proc.devRef .tc main_v1_1) = gw (pooled (m ((c.tc : Thread nD τ).loc main_arg0))) (m ((c.tc : Thread nD τ).loc main_arg2)) := by
  refine (W2_arr m ρ c 3).trans ?_
  rw [arr1_3, show V1 m ρ c main_v0_0 = pooled (m ((c.tc : Thread nD τ).loc main_arg0)) from first_pooled m ρ c, show V1 m ρ c main_arg2 = m ((c.tc : Thread nD τ).loc main_arg2) from W1_args m ρ c main_arg2 (by decide)]
  try rfl

/-- Every execution of the calls leaves each result at its value and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_1) = mixed (m ((c.tc : Thread nD τ).loc main_arg0)) (m ((c.tc : Thread nD τ).loc main_arg1))
      ∧ r.2.mem ((c.tc : Thread nD τ).loc main_v1_0) = gw (pooled (m ((c.tc : Thread nD τ).loc main_arg0))) (m ((c.tc : Thread nD τ).loc main_arg2))
      ∧ r.2.mem ((c.tc : Thread nD τ).loc main_v1_1) = gw (pooled (m ((c.tc : Thread nD τ).loc main_arg0))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c _ (mem_uc main_v0_1 (by decide))).trans (at2_mixed m ρ c),
    (h c _ (mem_uc main_v1_0 (by decide))).trans (first_gw m ρ c),
    (h c _ (mem_uc main_v1_1 (by decide))).trans (first_gw16 m ρ c),
    (h c _ (mem_uc main_arg0 (by decide))).trans (W2_main_arg0 m ρ c),
    (h c _ (mem_uc main_arg1 (by decide))).trans (W2_main_arg1 m ρ c),
    (h c _ (mem_uc main_arg2 (by decide))).trans (W2_main_arg2 m ρ c)⟩) (run_fold m ρ)

end Cert.Mix

end
-- ==== Proof.MixRef.lean ====
module

public import proofs.«01_k».proof.Proof.Gen.Reference7Ideal.Run
public import proofs.«01_k».proof.Proof.MixKernel
public import proofs.«01_k».proof.Proof.PoolRef
public import Idealize.ShloMosaic.Lib.Pointwise

/-! The pooling mixer as the reference writes it, with running sums, and its transpose in the weights are what the
    kernels compute (`Cert.Mix.mixed`, `Cert.Mix.gw`), on finite rows. -/

@[expose] public section

set_option maxRecDepth 16384

noncomputable section

namespace Cert.Mix

open Cert.Reference7Ideal Cert.Reference7Ideal.Gen Idealize.ShloMosaic Idealize.ShloMosaic.TcCoe Idealize.SL.Sem
open Idealize.ShloMosaic.Routing (shape2 numel_col symm_col)
open Cert.Pool (win count grp off col grp_col off_col exists_ix2 count_pos count_word sitofp_nat running_sum coe_sum ideal_div_coe foldl_add)

/-! ## Running sums -/

/-- A running sum of the rows of a matrix, as it prints: a window of the whole height and one column, padded at the
    near end by one less. Row `j` holds the sum of the rows up to `j`. -/
theorem cumsum_down {R Rm1 C : ℕ} (hR : Rm1 + 1 = R) (x : (shape2 R C).Idx → EReal) {u : Shape} (init : u.Idx → EReal)
    (hu : 0 < u.numel) (hinit : init (Shape.Idx.first hu) = 0)
    (h : (shape2 R C).ReduceWindows (![R, 1] : Fin 2 → ℕ) ![1, 1] ![Rm1, 0] ![0, 0] (shape2 R C)) (j : Fin R) (c : Fin C) :
    Host.reduceWindow (· + ·) ![R, 1] ![1, 1] ![Rm1, 0] ![0, 0] x init h hu (ix2 j c)
      = ∑ n ∈ Finset.range R, if hn : Rm1 ≤ j.val + n ∧ j.val + n - Rm1 < R then x (ix2 ⟨j.val + n - Rm1, hn.2⟩ c) else 0 := by
  subst hR
  have hc := c.isLt
  unfold Host.reduceWindow
  dsimp only
  rw [hinit, foldl_add, zero_add, ← Fin.sum_univ_def]
  rw [Finset.sum_range]
  refine (Fintype.sum_equiv (finCongr (numel_col (Rm1 + 1))) _ _ fun n => ?_)
  have hw0 : ((shape2 (Rm1 + 1) 1).rowMajor.symm n 0).val = n.val := by rw [symm_col]; rfl
  have hw1 : ((shape2 (Rm1 + 1) 1).rowMajor.symm n 1).val = 0 := by rw [symm_col]; rfl
  show _ = if hn : Rm1 ≤ j.val + n.val ∧ j.val + n.val - Rm1 < Rm1 + 1 then _ else _
  split
  · next hin =>
    have h0 := hin 0
    change Rm1 ≤ j.val * 1 + ((shape2 (Rm1 + 1) 1).rowMajor.symm n 0).val
      ∧ j.val * 1 + ((shape2 (Rm1 + 1) 1).rowMajor.symm n 0).val - Rm1 < Rm1 + 1 at h0
    rw [hw0] at h0
    rw [dif_pos (by omega)]
    refine congrArg x (funext fun a => Fin.ext ?_)
    match a with
    | ⟨0, _⟩ =>
      show j.val * 1 + ((shape2 (Rm1 + 1) 1).rowMajor.symm n 0).val - Rm1 = j.val + n.val - Rm1
      rw [hw0]; omega
    | ⟨1, _⟩ =>
      show c.val * 1 + ((shape2 (Rm1 + 1) 1).rowMajor.symm n 1).val - 0 = c.val
      rw [hw1]; omega
  · next hin =>
    rw [dif_neg fun hle => hin fun a => by
      match a with
      | ⟨0, _⟩ =>
        show Rm1 ≤ j.val * 1 + ((shape2 (Rm1 + 1) 1).rowMajor.symm n 0).val
          ∧ j.val * 1 + ((shape2 (Rm1 + 1) 1).rowMajor.symm n 0).val - Rm1 < Rm1 + 1
        rw [hw0]; omega
      | ⟨1, _⟩ =>
        show 0 ≤ c.val * 1 + ((shape2 (Rm1 + 1) 1).rowMajor.symm n 1).val
          ∧ c.val * 1 + ((shape2 (Rm1 + 1) 1).rowMajor.symm n 1).val - 0 < C
        rw [hw1]; omega]

/-- Row `j` of that sum, of a real column. -/
theorem head_sum (q : ℕ → ℝ) (x : S4096x256.Idx → EReal) (c : Fin 256) (hx : ∀ n : Fin 4096, x (ix2 n c) = (q n.val : EReal)) (j : Fin 4096) :
    (∑ n ∈ Finset.range 4096, if hn : 4095 ≤ j.val + n ∧ j.val + n - 4095 < 4096 then x (ix2 ⟨j.val + n - 4095, hn.2⟩ c) else 0)
      = ((∑ k ∈ Finset.range (j.val + 1), q k : ℝ) : EReal) := by
  have hj := j.isLt
  rw [show Finset.range 4096 = Finset.range ((4095 - j.val) + (j.val + 1)) from congrArg _ (by omega), Finset.sum_range_add, coe_sum]
  rw [Finset.sum_eq_zero (fun n hn => dif_neg (by have := Finset.mem_range.mp hn; omega)), zero_add]
  refine Finset.sum_congr rfl fun n hn => ?_
  have hn' := Finset.mem_range.mp hn
  rw [dif_pos (by omega)]
  rw [hx]
  show ((q (j.val + (4095 - j.val + n) - 4095) : ℝ) : EReal) = _
  rw [show j.val + (4095 - j.val + n) - 4095 = n by omega]

/-- The difference of two running sums is the sum over a window. -/
theorem window_sum (q : ℕ → ℝ) (j w : ℕ) :
    ∑ k ∈ Finset.range (j + 1), q k - ∑ k ∈ Finset.range (j + 1 - w), q k = ∑ k ∈ Finset.range w, if k ≤ j then q (j - k) else 0 := by
  induction w with
  | zero => simp
  | succ w ih =>
    rw [Finset.sum_range_succ (fun k => if k ≤ j then q (j - k) else 0), ← ih]
    by_cases h : w ≤ j
    · rw [if_pos h, show j + 1 - w = (j + 1 - (w + 1)) + 1 by omega, Finset.sum_range_succ _ (j + 1 - (w + 1)), show j + 1 - (w + 1) = j - w by omega]
      ring
    · rw [if_neg h, show j + 1 - w = 0 by omega, show j + 1 - (w + 1) = 0 by omega]
      ring

/-! ## The reference's terms -/

/-- The rows with the groups as an axis of their own. -/
def refU (x0 : Vec Ideal S4096x4096 .f32) : FVec Ideal S4096x4x256 .f32 :=
  shapeCast _ (extractStridedSlice S4096x1024 ![0, 0] x0 slices_S4096x4096_S4096x1024_0_0) shapeCasts_S4096x1024_S4096x4x256

/-- The rows of group 0, -/
def refX0 (U : FVec Ideal S4096x4x256 .f32) : FVec Ideal S4096x256 .f32 :=
  shapeCast _ (extractStridedSlice S4096x1x256 ![0, 0, 0] U slices_S4096x4x256_S4096x1x256_0_0_0) shapeCasts_S4096x1x256_S4096x256
/-- and their means less themselves, from the running sums. -/
def refM0 (S X : FVec Ideal S4096x256 .f32) : FVec Ideal S4096x256 .f32 :=
  subf (Host.divf (subf S (concatenate S4096x256 0 [⟨S2x256, (broadcastInDim S2x256 ![] bcast_S_S2x256 (constant S_ .f32 0x00000000#32))⟩, ⟨S4094x256, (extractStridedSlice S4094x256 ![0, 0] S slices_S4096x256_S4094x256_0_0)⟩] concatenates_S2x256_S4094x256_S4096x256_d0)) (broadcastInDim S4096x256 ![0, 1] bcast_S4096x1_S4096x256_0_1 (broadcastInDim S4096x1 ![0] bcast_S4096_S4096x1_0 (sitofp .f32 (minsi (addi (iotaInDim S4096 32 0) (broadcastInDim S4096 ![] bcast_S_S4096 (constantI S_ 32 1#32))) (broadcastInDim S4096 ![] bcast_S_S4096 (constantI S_ 32 2#32))))))) X

/-- The rows of group 1, -/
def refX1 (U : FVec Ideal S4096x4x256 .f32) : FVec Ideal S4096x256 .f32 :=
  shapeCast _ (extractStridedSlice S4096x1x256 ![0, 1, 0] U slices_S4096x4x256_S4096x1x256_0_1_0) shapeCasts_S4096x1x256_S4096x256
/-- and their means less themselves, from the running sums. -/
def refM1 (S X : FVec Ideal S4096x256 .f32) : FVec Ideal S4096x256 .f32 :=
  subf (Host.divf (subf S (concatenate S4096x256 0 [⟨S4x256, (broadcastInDim S4x256 ![] bcast_S_S4x256 (constant S_ .f32 0x00000000#32))⟩, ⟨S4092x256, (extractStridedSlice S4092x256 ![0, 0] S slices_S4096x256_S4092x256_0_0)⟩] concatenates_S4x256_S4092x256_S4096x256_d0)) (broadcastInDim S4096x256 ![0, 1] bcast_S4096x1_S4096x256_0_1 (broadcastInDim S4096x1 ![0] bcast_S4096_S4096x1_0 (sitofp .f32 (minsi (addi (iotaInDim S4096 32 0) (broadcastInDim S4096 ![] bcast_S_S4096 (constantI S_ 32 1#32))) (broadcastInDim S4096 ![] bcast_S_S4096 (constantI S_ 32 4#32))))))) X

/-- The rows of group 2, -/
def refX2 (U : FVec Ideal S4096x4x256 .f32) : FVec Ideal S4096x256 .f32 :=
  shapeCast _ (extractStridedSlice S4096x1x256 ![0, 2, 0] U slices_S4096x4x256_S4096x1x256_0_2_0) shapeCasts_S4096x1x256_S4096x256
/-- and their means less themselves, from the running sums. -/
def refM2 (S X : FVec Ideal S4096x256 .f32) : FVec Ideal S4096x256 .f32 :=
  subf (Host.divf (subf S (concatenate S4096x256 0 [⟨S8x256, (broadcastInDim S8x256 ![] bcast_S_S8x256 (constant S_ .f32 0x00000000#32))⟩, ⟨S4088x256, (extractStridedSlice S4088x256 ![0, 0] S slices_S4096x256_S4088x256_0_0)⟩] concatenates_S8x256_S4088x256_S4096x256_d0)) (broadcastInDim S4096x256 ![0, 1] bcast_S4096x1_S4096x256_0_1 (broadcastInDim S4096x1 ![0] bcast_S4096_S4096x1_0 (sitofp .f32 (minsi (addi (iotaInDim S4096 32 0) (broadcastInDim S4096 ![] bcast_S_S4096 (constantI S_ 32 1#32))) (broadcastInDim S4096 ![] bcast_S_S4096 (constantI S_ 32 8#32))))))) X

/-- The rows of group 3, -/
def refX3 (U : FVec Ideal S4096x4x256 .f32) : FVec Ideal S4096x256 .f32 :=
  shapeCast _ (extractStridedSlice S4096x1x256 ![0, 3, 0] U slices_S4096x4x256_S4096x1x256_0_3_0) shapeCasts_S4096x1x256_S4096x256
/-- and their means less themselves, from the running sums. -/
def refM3 (S X : FVec Ideal S4096x256 .f32) : FVec Ideal S4096x256 .f32 :=
  subf (Host.divf (subf S (concatenate S4096x256 0 [⟨S16x256, (broadcastInDim S16x256 ![] bcast_S_S16x256 (constant S_ .f32 0x00000000#32))⟩, ⟨S4080x256, (extractStridedSlice S4080x256 ![0, 0] S slices_S4096x256_S4080x256_0_0)⟩] concatenates_S16x256_S4080x256_S4096x256_d0)) (broadcastInDim S4096x256 ![0, 1] bcast_S4096x1_S4096x256_0_1 (broadcastInDim S4096x1 ![0] bcast_S4096_S4096x1_0 (sitofp .f32 (minsi (addi (iotaInDim S4096 32 0) (broadcastInDim S4096 ![] bcast_S_S4096 (constantI S_ 32 1#32))) (broadcastInDim S4096 ![] bcast_S_S4096 (constantI S_ 32 16#32))))))) X

/-- The running sums of the rows. -/
def refS (X : FVec Ideal S4096x256 .f32) : FVec Ideal S4096x256 .f32 :=
  Host.reduceWindowAdd ![4096, 1] ![1, 1] ![4095, 0] ![0, 0] X (broadcastInDim S_ ![] bcast_S_S_ (constant S_ .f32 0x00000000#32)) reduceWindows_S4096x256_S4096x256_w4096s1p4095_0_w1s1p0_0 h_S_

/-- Four groups put together. -/
def refC (M0 M1 M2 M3 : FVec Ideal S4096x256 .f32) : FVec Ideal S4096x4x256 .f32 :=
  concatenate S4096x4x256 1 [⟨S4096x1x256, (broadcastInDim S4096x1x256 ![0, 2] bcast_S4096x256_S4096x1x256_0_2 M0 : (⟨S4096x1x256, .f32⟩ : BufTy).Contents (Elt Ideal))⟩, ⟨S4096x1x256, (broadcastInDim S4096x1x256 ![0, 2] bcast_S4096x256_S4096x1x256_0_2 M1 : (⟨S4096x1x256, .f32⟩ : BufTy).Contents (Elt Ideal))⟩, ⟨S4096x1x256, (broadcastInDim S4096x1x256 ![0, 2] bcast_S4096x256_S4096x1x256_0_2 M2 : (⟨S4096x1x256, .f32⟩ : BufTy).Contents (Elt Ideal))⟩, ⟨S4096x1x256, (broadcastInDim S4096x1x256 ![0, 2] bcast_S4096x256_S4096x1x256_0_2 M3 : (⟨S4096x1x256, .f32⟩ : BufTy).Contents (Elt Ideal))⟩] concatenates_S4096x1x256_S4096x1x256_S4096x1x256_S4096x1x256_S4096x4x256_d1

/-- The four groups' means. -/
def refP (U : FVec Ideal S4096x4x256 .f32) : FVec Ideal S4096x4x256 .f32 :=
  refC (refM0 (refS (refX0 U)) (refX0 U)) (refM1 (refS (refX1 U)) (refX1 U)) (refM2 (refS (refX2 U)) (refX2 U)) (refM3 (refS (refX3 U)) (refX3 U))

/-- Their product with the weights, -/
def refMix (P : FVec Ideal S4096x4x256 .f32) (x1 : Vec Ideal S4x256x256 .bf16) : FVec Ideal S4096x1024 .f32 :=
  shapeCast _ (transpose S4096x4x256 [2, 0, 1] (Host.dotGeneral dot_S4x256x256_S4096x4x256_S4x256x4096_1_2_2_0_0_1 none (extf .f32 x1 bitsLt_bf16_f32) P) transposes_S4x256x4096_S4096x4x256_2_0_1) shapeCasts_S4096x4x256_S4096x1024

/-- and the transpose of that product in the weights. -/
def refGw (P : FVec Ideal S4096x4x256 .f32) (x2 : Vec Ideal S4096x1024 .bf16) : FVec Ideal S4x256x256 .f32 :=
  transpose S4x256x256 [0, 2, 1] (Host.dotGeneral dot_S4x256x4096_S4096x4x256_S4x256x256_2_0_1_2_0_1 none (transpose S4x256x4096 [1, 2, 0] (shapeCast _ (extf .f32 x2 bitsLt_bf16_f32) shapeCasts_S4096x1024_S4096x4x256) transposes_S4096x4x256_S4x256x4096_1_2_0) P) transposes_S4x256x256_S4x256x256_0_2_1

theorem res0_eq (m : (ℓ : Loc nD τ sig) → Buf (Elt Ideal) ℓ) (c : Dev nD) :
    Value.res_out0 m c = refMix (refP (refU (m ((c : Thread nD τ).loc main_arg0)))) (m ((c : Thread nD τ).loc main_arg1)) := by
  unfold Value.res_out0 Value.res_main_v75; rfl

theorem res1_eq (m : (ℓ : Loc nD τ sig) → Buf (Elt Ideal) ℓ) (c : Dev nD) :
    Value.res_out1 m c = refGw (refP (refU (m ((c : Thread nD τ).loc main_arg0)))) (m ((c : Thread nD τ).loc main_arg2)) := by
  unfold Value.res_out1 Value.res_main_v80; rfl

theorem res2_eq (m : (ℓ : Loc nD τ sig) → Buf (Elt Ideal) ℓ) (c : Dev nD) :
    Value.res_out2 m c = (refGw (refP (refU (m ((c : Thread nD τ).loc main_arg0)))) (m ((c : Thread nD τ).loc main_arg2)) : FVec Ideal S4x256x256 .f32) := by
  unfold Value.res_out2 Value.res_main_v81; rfl

/-! ## On real rows -/

theorem refU_at (x0 : Vec Ideal S4096x4096 .f32) (n : Fin 4096) (g : Fin 4) (c : Fin 256) :
    refU x0 (ix3 n g c) = row x0 (n.val + 16) (col g c) := by
  unfold refU row
  rw [dif_pos (by omega)]
  pointwise
  refine congrArg x0 (funext fun a => Fin.ext ?_)
  match a with
  | ⟨0, _⟩ => show n.val = n.val + 16 - 16; omega
  | ⟨1, _⟩ => show _ = g.val * 256 + c.val; first | rfl | omega

/-- A real row's element; nothing past the last row. -/
def at_ (u : S4096x4096.Idx → ℝ) (g : Fin 4) (c : Fin 256) (n : ℕ) : ℝ :=
  if h : n < 4096 then u (ix2 ⟨n, h⟩ ⟨(col g c).val, by have := (col g c).isLt; omega⟩) else 0

theorem row_coe (u : S4096x4096.Idx → ℝ) (t : ℕ) (g : Fin 4) (c : Fin 256) :
    row (fun i => (u i : EReal)) t (col g c) = ((if 16 ≤ t then at_ u g c (t - 16) else 0 : ℝ) : EReal) := by
  unfold row at_
  by_cases h : 16 ≤ t
  · by_cases h' : t - 16 < 4096
    · rw [dif_pos ⟨h, h'⟩, if_pos h, dif_pos h']
    · rw [dif_neg (by omega), if_pos h, dif_neg h']; rfl
  · rw [dif_neg (by omega), if_neg h]; rfl

/-- The mean of a real row. -/
def meanR (u : S4096x4096.Idx → ℝ) (n : ℕ) (g : Fin 4) (c : Fin 256) : ℝ :=
  (∑ k ∈ Finset.range (win g), if k ≤ n then at_ u g c (n - k) else 0) / (count n g : ℝ) - at_ u g c n

theorem win_le (g : Fin 4) : win g ≤ 16 := by revert g; decide

theorem mean_coe (u : S4096x4096.Idx → ℝ) (n : ℕ) (g : Fin 4) (c : Fin 256) :
    mean (fun i => (u i : EReal)) n g c = (meanR u n g c : EReal) := by
  unfold mean meanR
  simp only [row_coe]
  rw [← coe_sum, ← EReal.coe_mul, ← EReal.coe_sub, mul_one_div, if_pos (by omega), Nat.add_sub_cancel]
  refine congrArg (fun z : ℝ => ((z / (count n g : ℝ) - at_ u g c n : ℝ) : EReal)) (Finset.sum_congr rfl fun k hk => ?_)
  have hk' := Finset.mem_range.mp hk
  have hw := win_le g
  by_cases h : k ≤ n
  · rw [if_pos h, if_pos (by omega), show n + 16 - k - 16 = n - k by omega]
  · rw [if_neg h, if_neg (by omega)]

theorem refS_at (q : ℕ → ℝ) (X : FVec Ideal S4096x256 .f32) (c : Fin 256) (hx : ∀ n : Fin 4096, X (ix2 n c) = (q n.val : EReal)) (j : Fin 4096) :
    refS X (ix2 j c) = ((∑ k ∈ Finset.range (j.val + 1), q k : ℝ) : EReal) := by
  unfold refS
  rw [running_sum, cumsum_down rfl _ _ _ (by pointwise)]
  exact head_sum q X c hx j

theorem lag_eq (q : ℕ → ℝ) (S : FVec Ideal S4096x256 .f32) (c : Fin 256) (w : ℕ)
    (hS : ∀ j : Fin 4096, S (ix2 j c) = ((∑ k ∈ Finset.range (j.val + 1), q k : ℝ) : EReal)) (n : Fin 4096) {L : EReal}
    (h0 : n.val < w → L = 0) (h1 : ∀ h : w ≤ n.val, L = S (ix2 ⟨n.val - w, by omega⟩ c)) :
    L = ((∑ k ∈ Finset.range (n.val + 1 - w), q k : ℝ) : EReal) := by
  by_cases h : w ≤ n.val
  · rw [h1 h, hS]
    show ((∑ k ∈ Finset.range (n.val - w + 1), q k : ℝ) : EReal) = _
    rw [show n.val - w + 1 = n.val + 1 - w by omega]
  · rw [h0 (by omega), show n.val + 1 - w = 0 by omega]; simp

theorem mean_fold (u : S4096x4096.Idx → ℝ) (n : Fin 4096) (g : Fin 4) (c : Fin 256) (w : ℕ) (hw : win g = w) {s l x k : EReal}
    (hs : s = ((∑ k ∈ Finset.range (n.val + 1), at_ u g c k : ℝ) : EReal))
    (hl : l = ((∑ k ∈ Finset.range (n.val + 1 - w), at_ u g c k : ℝ) : EReal))
    (hx : x = (at_ u g c n.val : EReal)) (hk : k = ((count n.val g : ℝ) : EReal)) :
    Ideal.div (s - l) k - x = (meanR u n.val g c : EReal) := by
  subst hw
  rw [hs, hl, hx, hk, ← EReal.coe_sub, window_sum, ideal_div_coe _ _ (by have := count_pos n.val g; positivity), ← EReal.coe_sub]
  rfl

theorem refX0_at (u : S4096x4096.Idx → ℝ) (n : Fin 4096) (c : Fin 256) :
    refX0 (refU (fun i => (u i : EReal))) (ix2 n c) = (at_ u 0 c n.val : EReal) := by
  have e : ∀ U : FVec Ideal S4096x4x256 .f32, refX0 U (ix2 n c) = U (ix3 n 0 c) := by
    intro U
    unfold refX0
    pointwise
  rw [e, refU_at, row_coe, if_pos (by omega), Nat.add_sub_cancel]

theorem refM0_at (u : S4096x4096.Idx → ℝ) (S X : FVec Ideal S4096x256 .f32) (c : Fin 256)
    (hS : ∀ j : Fin 4096, S (ix2 j c) = ((∑ k ∈ Finset.range (j.val + 1), at_ u 0 c k : ℝ) : EReal))
    (hX : ∀ n : Fin 4096, X (ix2 n c) = (at_ u 0 c n.val : EReal)) (n : Fin 4096) :
    refM0 S X (ix2 n c) = (meanR u n.val 0 c : EReal) := by
  unfold refM0
  pointwise
  refine mean_fold u n 0 c 2 rfl (hS n) (lag_eq _ S c 2 hS n (fun h => ?_) fun h => ?_) (hX n) ?_
  · rw [dif_pos h]
  · rw [dif_neg (by omega)]
  · rw [count_word n.val 2 n.isLt (by omega), sitofp_nat _ (by omega)]
    rfl

theorem refX1_at (u : S4096x4096.Idx → ℝ) (n : Fin 4096) (c : Fin 256) :
    refX1 (refU (fun i => (u i : EReal))) (ix2 n c) = (at_ u 1 c n.val : EReal) := by
  have e : ∀ U : FVec Ideal S4096x4x256 .f32, refX1 U (ix2 n c) = U (ix3 n 1 c) := by
    intro U
    unfold refX1
    pointwise
  rw [e, refU_at, row_coe, if_pos (by omega), Nat.add_sub_cancel]

theorem refM1_at (u : S4096x4096.Idx → ℝ) (S X : FVec Ideal S4096x256 .f32) (c : Fin 256)
    (hS : ∀ j : Fin 4096, S (ix2 j c) = ((∑ k ∈ Finset.range (j.val + 1), at_ u 1 c k : ℝ) : EReal))
    (hX : ∀ n : Fin 4096, X (ix2 n c) = (at_ u 1 c n.val : EReal)) (n : Fin 4096) :
    refM1 S X (ix2 n c) = (meanR u n.val 1 c : EReal) := by
  unfold refM1
  pointwise
  refine mean_fold u n 1 c 4 rfl (hS n) (lag_eq _ S c 4 hS n (fun h => ?_) fun h => ?_) (hX n) ?_
  · rw [dif_pos h]
  · rw [dif_neg (by omega)]
  · rw [count_word n.val 4 n.isLt (by omega), sitofp_nat _ (by omega)]
    rfl

theorem refX2_at (u : S4096x4096.Idx → ℝ) (n : Fin 4096) (c : Fin 256) :
    refX2 (refU (fun i => (u i : EReal))) (ix2 n c) = (at_ u 2 c n.val : EReal) := by
  have e : ∀ U : FVec Ideal S4096x4x256 .f32, refX2 U (ix2 n c) = U (ix3 n 2 c) := by
    intro U
    unfold refX2
    pointwise
  rw [e, refU_at, row_coe, if_pos (by omega), Nat.add_sub_cancel]

theorem refM2_at (u : S4096x4096.Idx → ℝ) (S X : FVec Ideal S4096x256 .f32) (c : Fin 256)
    (hS : ∀ j : Fin 4096, S (ix2 j c) = ((∑ k ∈ Finset.range (j.val + 1), at_ u 2 c k : ℝ) : EReal))
    (hX : ∀ n : Fin 4096, X (ix2 n c) = (at_ u 2 c n.val : EReal)) (n : Fin 4096) :
    refM2 S X (ix2 n c) = (meanR u n.val 2 c : EReal) := by
  unfold refM2
  pointwise
  refine mean_fold u n 2 c 8 rfl (hS n) (lag_eq _ S c 8 hS n (fun h => ?_) fun h => ?_) (hX n) ?_
  · rw [dif_pos h]
  · rw [dif_neg (by omega)]
  · rw [count_word n.val 8 n.isLt (by omega), sitofp_nat _ (by omega)]
    rfl

theorem refX3_at (u : S4096x4096.Idx → ℝ) (n : Fin 4096) (c : Fin 256) :
    refX3 (refU (fun i => (u i : EReal))) (ix2 n c) = (at_ u 3 c n.val : EReal) := by
  have e : ∀ U : FVec Ideal S4096x4x256 .f32, refX3 U (ix2 n c) = U (ix3 n 3 c) := by
    intro U
    unfold refX3
    pointwise
  rw [e, refU_at, row_coe, if_pos (by omega), Nat.add_sub_cancel]

theorem refM3_at (u : S4096x4096.Idx → ℝ) (S X : FVec Ideal S4096x256 .f32) (c : Fin 256)
    (hS : ∀ j : Fin 4096, S (ix2 j c) = ((∑ k ∈ Finset.range (j.val + 1), at_ u 3 c k : ℝ) : EReal))
    (hX : ∀ n : Fin 4096, X (ix2 n c) = (at_ u 3 c n.val : EReal)) (n : Fin 4096) :
    refM3 S X (ix2 n c) = (meanR u n.val 3 c : EReal) := by
  unfold refM3
  pointwise
  refine mean_fold u n 3 c 16 rfl (hS n) (lag_eq _ S c 16 hS n (fun h => ?_) fun h => ?_) (hX n) ?_
  · rw [dif_pos h]
  · rw [dif_neg (by omega)]
  · rw [count_word n.val 16 n.isLt (by omega), sitofp_nat _ (by omega)]
    rfl

/-- The reference's means are the kernel's. -/
theorem refP_at (u : S4096x4096.Idx → ℝ) (n : Fin 4096) (g : Fin 4) (c : Fin 256) :
    refP (refU (fun i => (u i : EReal))) (ix3 n g c) = mean (fun i => (u i : EReal)) n.val g c := by
  rw [mean_coe]
  have e : ∀ M0 M1 M2 M3 : FVec Ideal S4096x256 .f32, refC M0 M1 M2 M3 (ix3 n g c)
      = (![M0, M1, M2, M3] g) (ix2 n c) := by
    intro M0 M1 M2 M3
    unfold refC
    revert g
    refine fun g => ?_
    match g with
    | ⟨0, _⟩ => pointwise
    | ⟨1, _⟩ => pointwise
    | ⟨2, _⟩ => pointwise
    | ⟨3, _⟩ => pointwise
  unfold refP
  rw [e]
  match g with

  | ⟨0, _⟩ => exact refM0_at u _ _ c (refS_at _ _ c (fun j => refX0_at u j c)) (fun j => refX0_at u j c) n
  | ⟨1, _⟩ => exact refM1_at u _ _ c (refS_at _ _ c (fun j => refX1_at u j c)) (fun j => refX1_at u j c) n
  | ⟨2, _⟩ => exact refM2_at u _ _ c (refS_at _ _ c (fun j => refX2_at u j c)) (fun j => refX2_at u j c) n
  | ⟨3, _⟩ => exact refM3_at u _ _ c (refS_at _ _ c (fun j => refX3_at u j c)) (fun j => refX3_at u j c) n

theorem mix_ref (u : S4096x4096.Idx → ℝ) (w : Vec Ideal S4x256x256 .bf16) :
    refMix (refP (refU (fun i => (u i : EReal)))) w = mixed (fun i => (u i : EReal)) w := by
  funext i
  obtain ⟨n, y, rfl⟩ : ∃ (n : Fin 4096) (y : Fin 1024), i = ix2 n y := exists_ix2 i
  have e : ∀ P : FVec Ideal S4096x4x256 .f32, refMix P w (ix2 n y) = ∑ b : Fin 256, w (ix3 (grp y) b (off y)) * P (ix3 n (grp y) b) := by
    intro P
    unfold refMix
    pointwise
    rfl
  rw [e]
  show _ = ∑ b : Fin 256, mean (fun i => (u i : EReal)) n.val (grp y) b * w (ix3 (grp y) b (off y))
  refine Finset.sum_congr rfl fun b _ => ?_
  rw [refP_at, mul_comm]

theorem gw_ref (u : S4096x4096.Idx → ℝ) (d : Vec Ideal S4096x1024 .bf16) :
    refGw (refP (refU (fun i => (u i : EReal)))) d = gw (pooled (fun i => (u i : EReal))) d := by
  funext i
  obtain ⟨g, a, b, rfl⟩ : ∃ (g : Fin 4) (a b : Fin 256), i = ix3 g a b := Cert.Products.exists_ix3 i
  have e : ∀ P : FVec Ideal S4096x4x256 .f32, refGw P d (ix3 g a b) = ∑ t : Fin 4096, d (ix2 t (col g b)) * P (ix3 t g a) := by
    intro P
    unfold refGw
    pointwise
    rfl
  rw [e]
  show _ = ∑ t : Fin 4096, pooled (fun i => (u i : EReal)) (ix2 t (col g a)) * d (ix2 t (col g b))
  refine Finset.sum_congr rfl fun t _ => ?_
  rw [refP_at, pooled_at _ t g a _ rfl, mul_comm]

end Cert.Mix

end
-- ==== Proof.MixPre.lean ====
module

public import proofs.«01_k».proof.Proof.Finite
public import proofs.«01_k».proof.Proof.Gen.Pre_finite_mixer

/-! The mixer claim's precondition: the mixer's input holds real numbers. -/

@[expose] public section

set_option maxRecDepth 16384

noncomputable section

namespace Cert.Mix

open Cert.Pre_finite_mixer Cert.Finite Idealize.ShloMosaic Idealize.ShloMosaic.TcCoe

theorem finite_mixer (x0 : FVec Ideal S4096x4096 .f32) (x1 : FVec Ideal S4x256x256 .bf16)
    (x2 : FVec Ideal S4096x1024 .bf16) (h : Cert.Pre_finite_mixer.fn (F := Ideal) x0 x1 x2 = fun _ => 1#1) : AllReal x0 := by
  have h0 := congrFun h (fun k => k.elim0)
  unfold Cert.Pre_finite_mixer.fn at h0
  dsimp only at h0
  exact allReal_of_test (fun _ => rfl) h0

end Cert.Mix
-- ==== Proof.Mixer.lean ====
module

public import proofs.«01_k».proof.Defs
public import proofs.«01_k».proof.Proof.Gen.Kernel7
public import proofs.«01_k».proof.Proof.Gen.Kernel7.Frame
public import proofs.«01_k».proof.Proof.MixRun
public import proofs.«01_k».proof.Proof.MixRef
public import proofs.«01_k».proof.Proof.MixPre
public import Idealize.ShloMosaic.Adequacy
public import Idealize.ShloMosaic.Init

/-! The claims about the pooling mixer's forward calls. -/

@[expose] public section

noncomputable section

namespace Cert.Proof

open Idealize.ShloMosaic Idealize.SL.Sem Cert.Kernel7

theorem frame_kernel7 : Cert.quiescent_Kernel7 := fun m ρ _ => Cert.Kernel7.Gen.frame m ρ
theorem frame_kernel7Ideal : Cert.quiescent_Kernel7Ideal := fun m ρ _ => Cert.Kernel7Ideal.Gen.frame m ρ
theorem frame_kernel7Ideal_finite : Cert.quiescent_Kernel7Ideal_pre_finite_mixer := fun m ρ _ => Cert.Kernel7Ideal.Gen.frame m ρ
theorem frame_reference7 : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)
theorem frame_reference7_finite : Cert.quiescent_Reference7Ideal_pre_finite_mixer := fun m ρ _ =>
  (θ_run Cert.Reference7Ideal.defs _ _).mono (fun r h => ⟨fun c => (h c).2.2.2, sem_eq_zero_of_no_sems (by decide) r.2⟩)
    (Cert.Reference7Ideal.Value.run (F := Ideal) m ρ)

/-- The pooling mixer forward and its weight's gradient: both programs leave the mixed rows and, twice, the gradient. -/
theorem mixer : Cert.algebraic_Kernel7Ideal_Reference7Ideal_pre_finite_mixer := fun m ρ m' ρ' hp hag =>
  ⟨fun c => Cert.Mix.mixed (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1)),
    fun c => Cert.Mix.gw (Cert.Mix.pooled (m ((c.tc : Thread Cert.Kernel7Ideal.nD Cert.Kernel7Ideal.τ).loc Cert.Kernel7Ideal.main_arg0)))
      (m ((c.tc : Thread Cert.Kernel7Ideal.nD Cert.Kernel7Ideal.τ).loc Cert.Kernel7Ideal.main_arg2)),
    fun c => Cert.Mix.gw (Cert.Mix.pooled (m ((c.tc : Thread Cert.Kernel7Ideal.nD Cert.Kernel7Ideal.τ).loc Cert.Kernel7Ideal.main_arg0)))
      (m ((c.tc : Thread Cert.Kernel7Ideal.nD Cert.Kernel7Ideal.τ).loc Cert.Kernel7Ideal.main_arg2)),
    Cert.Mix.run m ρ,
    (θ_run _ _ _).mono (fun _ h c => ⟨(h c).1.trans (by
      refine (Cert.Mix.res0_eq m' c).trans ?_
      obtain ⟨u, hu⟩ := Cert.Mix.finite_mixer _ _ _ (hp c)
      show _ = Cert.Mix.mixed _ _
      rw [(hag c).1, (hag c).2.1, hu]
      exact Cert.Mix.mix_ref u _), (h c).2.1.trans (by
      refine (Cert.Mix.res1_eq m' c).trans ?_
      obtain ⟨u, hu⟩ := Cert.Mix.finite_mixer _ _ _ (hp c)
      show _ = Cert.Mix.gw _ _
      rw [(hag c).1, (hag c).2.2, hu]
      exact Cert.Mix.gw_ref u _), (h c).2.2.1.trans (by
      refine (Cert.Mix.res2_eq m' c).trans ?_
      obtain ⟨u, hu⟩ := Cert.Mix.finite_mixer _ _ _ (hp c)
      show _ = Cert.Mix.gw _ _
      rw [(hag c).1, (hag c).2.2, hu]
      exact Cert.Mix.gw_ref u _), (h c).2.2.2⟩) (Cert.Reference7Ideal.Value.run m' ρ')⟩

end Cert.Proof
-- ==== Proof.PrepMath.lean ====
module

public import proofs.«01_k».proof.Proof.NormMath
public import Idealize.ShloMosaic.Lib.Pointwise

/-! The gradients of a diagonal state space's zero-order hold, at one state of one group. `x` and `y` are the two parts
    of the state's rate, the first before it is kept negative, and `dt` the step. `P` and `Q` are the gradients of the two
    parts of the input's factor, `g` and `h` those of the two parts of the step's factor. -/

@[expose] public section

set_option maxRecDepth 16384

noncomputable section

namespace Cert.Prep

open Idealize.ShloMosaic Idealize.ShloMosaic.TcCoe Cert.Finite

/-- The row of a group's channel. -/
def row (g : Fin 64) (c : Fin 16) : Fin 1024 := ⟨g.val * 16 + c.val, by omega⟩

/-- What the gradients' coefficients are made of. -/
structure Coef (α : Type) where
  /-- The real part of the rate. -/
  l : α
  /-- The imaginary part of the rate. -/
  y : α
  /-- The step. -/
  dt : α
  /-- The modulus of the step's factor. -/
  mag : α
  /-- The cosine of its angle. -/
  c : α
  /-- The sine of its angle. -/
  s : α
  /-- The real part of the factor, less one. -/
  a : α
  /-- The imaginary part of the factor. -/
  b : α
  /-- The real part of the quotient's numerator. -/
  e : α
  /-- The imaginary part of the quotient's numerator. -/
  f : α
  /-- The inverse square of the quotient's denominator. -/
  r : α

section Poly
variable {α : Type} [Add α] [Mul α] [Neg α] (k : Coef α) (Q P Qd Pd g h : α)

/-- The gradient of the denominator. -/
def gDen : α := -(Q * k.r * k.f) + -(P * k.r * k.e)
/-- The gradient of the factor's real part. -/
def gRePart : α := g + -Qd * k.y + Pd * k.l
/-- The gradient of the factor's imaginary part. -/
def gImPart : α := h + Qd * k.l + Pd * k.y
/-- The gradient of the angle. -/
def gAng : α := k.mag * gImPart k Qd Pd h * k.c + -(k.mag * gRePart k Qd Pd g) * k.s
/-- The gradient of the modulus's logarithm. -/
def gLog : α := (gImPart k Qd Pd h * k.s + gRePart k Qd Pd g * k.c) * k.mag
/-- The gradient of the rate's imaginary part. -/
def gY : α := k.a * -Qd + k.b * Pd + k.y * gDen k Q P + gDen k Q P * k.y + gAng k Qd Pd g h * k.dt
/-- The gradient of the rate's real part. -/
def gL : α := k.b * Qd + k.a * Pd + k.l * gDen k Q P + gDen k Q P * k.l + gLog k Qd Pd g h * k.dt
/-- The gradient of the step, in its two parts. -/
def gDtY : α := k.y * gAng k Qd Pd g h
/-- The other part. -/
def gDtL : α := k.l * gLog k Qd Pd g h

end Poly

/-- The bound on the rate's real part, as the programs' constant. -/
abbrev bound : EReal := Ideal.ofBits .f32 0xB8D1B717#32
/-- One, as the programs' constant. -/
abbrev one : EReal := Ideal.ofBits .f32 0x3F800000#32

/-- The rate's real part. -/
def lam (x : EReal) : EReal := min x bound
/-- The quotient's denominator. -/
def den (x y : EReal) : EReal := lam x * lam x + y * y
/-- The modulus of the step's factor. -/
def mag (x dt : EReal) : EReal := Ideal.exp (lam x * dt)
/-- The real part of the step's factor, less one. -/
def fac (x y dt : EReal) : EReal := mag x dt * Ideal.cos (y * dt) - one
/-- The imaginary part of the step's factor. -/
def fac' (x y dt : EReal) : EReal := mag x dt * Ideal.sin (y * dt)
/-- The real part of the numerator. -/
def num (x y dt : EReal) : EReal := fac x y dt * lam x + fac' x y dt * y
/-- The imaginary part of the numerator. -/
def num' (x y dt : EReal) : EReal := fac' x y dt * lam x - fac x y dt * y

/-- The coefficients. -/
def coef (x y dt : EReal) : Coef EReal :=
  ⟨lam x, y, dt, mag x dt, Ideal.cos (y * dt), Ideal.sin (y * dt), fac x y dt, fac' x y dt, num x y dt, num' x y dt,
    Ideal.div one (den x y * den x y)⟩

/-- How the rate's real part depends on what it was before it was kept negative. -/
def slope (x : EReal) : EReal :=
  if Ideal.cmp .ogt bound x = 1#1 then one
  else if Ideal.cmp .oeq bound x = 1#1 then Ideal.ofBits .f32 0x3F000000#32 else Ideal.ofBits .f32 0x00000000#32

/-- The gradient of `x`. -/
def dX (x y dt Q P g h : EReal) : EReal :=
  gL (coef x y dt) Q P (Ideal.div Q (den x y)) (Ideal.div P (den x y)) g h * slope x
/-- The gradient of `y`. -/
def dY (x y dt Q P g h : EReal) : EReal :=
  gY (coef x y dt) Q P (Ideal.div Q (den x y)) (Ideal.div P (den x y)) g h
/-- The gradient of `dt`, in its two parts. -/
def dTY (x y dt Q P g h : EReal) : EReal := gDtY (coef x y dt) (Ideal.div Q (den x y)) (Ideal.div P (den x y)) g h
/-- The other part. -/
def dTL (x y dt Q P g h : EReal) : EReal := gDtL (coef x y dt) (Ideal.div Q (den x y)) (Ideal.div P (den x y)) g h

/-- The gradient of an input's real part, from those of the two parts of its product with the quotient. -/
def dB (x y dt u w : EReal) : EReal := Ideal.div (num' x y dt) (den x y) * w + Ideal.div (num x y dt) (den x y) * u
/-- The gradient of its imaginary part. -/
def dB' (x y dt u w : EReal) : EReal := Ideal.div (num x y dt) (den x y) * w + Ideal.div (num' x y dt) (den x y) * -u

/-! ## On real numbers -/

/-- Real coefficients, as extended reals. -/
def Coef.up (k : Coef ℝ) : Coef EReal := ⟨k.l, k.y, k.dt, k.mag, k.c, k.s, k.a, k.b, k.e, k.f, k.r⟩

theorem bound_neg : ∃ b : ℝ, b < 0 ∧ bound = (b : EReal) := by
  refine ⟨_, ?_, rfl⟩
  simp

theorem one_eq : one = ((1 : ℝ) : EReal) := by
  show Ideal.ofBits .f32 0x3F800000#32 = _
  simp [Ideal.ofBits, Ideal.ieee]
  try (rw [← EReal.coe_mul]; norm_num)

/-- The step's inverse count, as the program's constant. -/
theorem part_eq : Ideal.ofBits .f32 0x3D800000#32 = ((1 / 16 : ℝ) : EReal) := by
  simp [Ideal.ofBits, Ideal.ieee]
  rw [← EReal.coe_mul]; norm_num

theorem zero_eq : Ideal.ofBits .f32 0x00000000#32 = ((0 : ℝ) : EReal) := by simp [Ideal.ofBits, Ideal.ieee]

theorem lam_real (x : ℝ) : ∃ l : ℝ, l < 0 ∧ lam x = (l : EReal) := by
  obtain ⟨b, hb, e⟩ := bound_neg
  refine ⟨min x b, lt_of_le_of_lt (min_le_right _ _) hb, ?_⟩
  unfold lam
  rw [e]
  exact (EReal.coe_strictMono.monotone.map_min).symm

theorem slope_real (x : EReal) : ∃ s : ℝ, slope x = (s : EReal) := by
  unfold slope
  split
  · exact ⟨1, one_eq⟩
  · split
    · exact ⟨_, rfl⟩
    · exact ⟨0, zero_eq⟩

/-- At real numbers the coefficients are real, and the denominator is not zero. -/
theorem coef_real (x y dt : ℝ) : ∃ (k : Coef ℝ) (d : ℝ), d ≠ 0 ∧ den x y = (d : EReal) ∧ coef x y dt = k.up := by
  obtain ⟨l, hl, el⟩ := lam_real x
  have ed : den x y = ((l * l + y * y : ℝ) : EReal) := by unfold den; rw [el]; norm_cast
  have hd : (l * l + y * y : ℝ) ≠ 0 := by nlinarith [mul_self_nonneg y, mul_pos_of_neg_of_neg hl hl]
  have em : mag x dt = ((Real.exp (l * dt) : ℝ) : EReal) := by unfold mag; rw [el, ← EReal.coe_mul]; rfl
  have ec : Ideal.cos ((y : EReal) * dt) = ((Real.cos (y * dt) : ℝ) : EReal) := by rw [← EReal.coe_mul]; rfl
  have es : Ideal.sin ((y : EReal) * dt) = ((Real.sin (y * dt) : ℝ) : EReal) := by rw [← EReal.coe_mul]; rfl
  have ea : fac x y dt = ((Real.exp (l * dt) * Real.cos (y * dt) - 1 : ℝ) : EReal) := by
    unfold fac; rw [em, ec, one_eq, ← EReal.coe_mul, ← EReal.coe_sub]
  have eb : fac' x y dt = ((Real.exp (l * dt) * Real.sin (y * dt) : ℝ) : EReal) := by
    unfold fac'; rw [em, es, ← EReal.coe_mul]
  have ee : num x y dt = (((Real.exp (l * dt) * Real.cos (y * dt) - 1) * l + Real.exp (l * dt) * Real.sin (y * dt) * y : ℝ) : EReal) := by
    unfold num; rw [ea, eb, el, ← EReal.coe_mul, ← EReal.coe_mul, ← EReal.coe_add]
  have ef : num' x y dt = ((Real.exp (l * dt) * Real.sin (y * dt) * l - (Real.exp (l * dt) * Real.cos (y * dt) - 1) * y : ℝ) : EReal) := by
    unfold num'; rw [ea, eb, el, ← EReal.coe_mul, ← EReal.coe_mul, ← EReal.coe_sub]
  have er : Ideal.div one (den x y * den x y) = ((1 * (1 / ((l * l + y * y) * (l * l + y * y))) : ℝ) : EReal) := by
    rw [ed, one_eq, ← EReal.coe_mul, Ideal.div_coe (mul_ne_zero hd hd), ← EReal.coe_mul]
  refine ⟨⟨l, y, dt, Real.exp (l * dt), Real.cos (y * dt), Real.sin (y * dt), Real.exp (l * dt) * Real.cos (y * dt) - 1,
    Real.exp (l * dt) * Real.sin (y * dt), (Real.exp (l * dt) * Real.cos (y * dt) - 1) * l + Real.exp (l * dt) * Real.sin (y * dt) * y,
    Real.exp (l * dt) * Real.sin (y * dt) * l - (Real.exp (l * dt) * Real.cos (y * dt) - 1) * y,
    1 * (1 / ((l * l + y * y) * (l * l + y * y)))⟩, _, hd, ed, ?_⟩
  unfold coef Coef.up
  rw [el, em, ec, es, ea, eb, ee, ef, er]

section Up
variable (k : Coef ℝ) (Q P Qd Pd g h : ℝ)

theorem gL_up : gL k.up (Q : EReal) P Qd Pd g h = ((gL k Q P Qd Pd g h : ℝ) : EReal) := by
  simp only [gL, gLog, gDen, gRePart, gImPart, Coef.up, EReal.coe_add, EReal.coe_mul, EReal.coe_neg]
theorem gY_up : gY k.up (Q : EReal) P Qd Pd g h = ((gY k Q P Qd Pd g h : ℝ) : EReal) := by
  simp only [gY, gAng, gDen, gRePart, gImPart, Coef.up, EReal.coe_add, EReal.coe_mul, EReal.coe_neg]
theorem gDtY_up : gDtY k.up (Qd : EReal) Pd g h = ((gDtY k Qd Pd g h : ℝ) : EReal) := by
  simp only [gDtY, gAng, gRePart, gImPart, Coef.up, EReal.coe_add, EReal.coe_mul, EReal.coe_neg]
theorem gDtL_up : gDtL k.up (Qd : EReal) Pd g h = ((gDtL k Qd Pd g h : ℝ) : EReal) := by
  simp only [gDtL, gLog, gRePart, gImPart, Coef.up, EReal.coe_add, EReal.coe_mul, EReal.coe_neg]

end Up

section Split
variable (k : Coef ℝ) (Q P : Fin 16 → ℝ) (i g h : ℝ)

theorem sum_lin (A B G : ℝ) : ∑ c, (A * Q c + B * P c + G * (1 / 16)) = A * ∑ c, Q c + B * ∑ c, P c + G := by
  rw [Finset.sum_add_distrib, Finset.sum_add_distrib, Finset.mul_sum, Finset.mul_sum, Finset.sum_const]
  simp
  ring

/-- A gradient that is linear may be split over the group's channels, each with its share of the step's factor's. -/
theorem split_of {F : ℝ → ℝ → ℝ → ℝ → ℝ} (A B G : ℝ) (e : ∀ q p s, F q p (g * s) (h * s) = A * q + B * p + G * s) :
    ∑ c, F (Q c) (P c) (g * (1 / 16)) (h * (1 / 16)) = F (∑ c, Q c) (∑ c, P c) g h := by
  have e1 := e (∑ c, Q c) (∑ c, P c) 1
  rw [mul_one, mul_one, mul_one] at e1
  rw [e1, ← sum_lin Q P A B G]
  exact Finset.sum_congr rfl fun c _ => e _ _ _

theorem gL_split : ∑ c, gL k (Q c) (P c) (Q c * i) (P c * i) (g * (1 / 16)) (h * (1 / 16))
    = gL k (∑ c, Q c) (∑ c, P c) ((∑ c, Q c) * i) ((∑ c, P c) * i) g h :=
  split_of Q P g h (F := fun q p g h => gL k q p (q * i) (p * i) g h) (gL k 1 0 i 0 0 0) (gL k 0 1 0 i 0 0) (gL k 0 0 0 0 g h)
    fun q p s => by simp only [gL, gLog, gDen, gRePart, gImPart]; ring
theorem gY_split : ∑ c, gY k (Q c) (P c) (Q c * i) (P c * i) (g * (1 / 16)) (h * (1 / 16))
    = gY k (∑ c, Q c) (∑ c, P c) ((∑ c, Q c) * i) ((∑ c, P c) * i) g h :=
  split_of Q P g h (F := fun q p g h => gY k q p (q * i) (p * i) g h) (gY k 1 0 i 0 0 0) (gY k 0 1 0 i 0 0) (gY k 0 0 0 0 g h)
    fun q p s => by simp only [gY, gAng, gDen, gRePart, gImPart]; ring
theorem gDt_split : ∑ c, (gDtY k (Q c * i) (P c * i) (g * (1 / 16)) (h * (1 / 16)) + gDtL k (Q c * i) (P c * i) (g * (1 / 16)) (h * (1 / 16)))
    = gDtY k ((∑ c, Q c) * i) ((∑ c, P c) * i) g h + gDtL k ((∑ c, Q c) * i) ((∑ c, P c) * i) g h :=
  split_of Q P g h (F := fun q p g h => gDtY k (q * i) (p * i) g h + gDtL k (q * i) (p * i) g h)
    (gDtY k i 0 0 0 + gDtL k i 0 0 0) (gDtY k 0 i 0 0 + gDtL k 0 i 0 0) (gDtY k 0 0 g h + gDtL k 0 0 g h)
    fun q p s => by simp only [gDtY, gDtL, gAng, gLog, gRePart, gImPart]; ring

end Split

/-! ## The two programs' arithmetic agrees at one state -/

section Cell
variable (x y dt : ℝ) (Q P : Fin 16 → ℝ) (g h : ℝ)

/-- One channel's share, as the program's constant. -/
abbrev part : EReal := Ideal.ofBits .f32 0x3D800000#32

theorem dX_split : ∑ c, dX x y dt (Q c) (P c) (g * part) (h * part) = dX x y dt (∑ c, (Q c : EReal)) (∑ c, (P c : EReal)) g h := by
  obtain ⟨k, d, hd, ed, ek⟩ := coef_real x y dt
  obtain ⟨s, es⟩ := slope_real x
  unfold dX
  simp only [← Norm.coe_sum, ek, ed, es, part_eq, Ideal.div_coe hd, ← EReal.coe_mul, gL_up]
  refine congrArg (fun r : ℝ => (r : EReal)) ?_
  rw [← Finset.sum_mul, gL_split]

theorem dY_split : ∑ c, dY x y dt (Q c) (P c) (g * part) (h * part) = dY x y dt (∑ c, (Q c : EReal)) (∑ c, (P c : EReal)) g h := by
  obtain ⟨k, d, hd, ed, ek⟩ := coef_real x y dt
  unfold dY
  simp only [← Norm.coe_sum, ek, ed, part_eq, Ideal.div_coe hd, ← EReal.coe_mul, gY_up]
  rw [gY_split]

/-- The step's gradient at a state is a real number, and the sum of its channels'. -/
theorem dT_split : ∃ u v : ℝ, dTY x y dt (∑ c, (Q c : EReal)) (∑ c, (P c : EReal)) g h = (u : EReal)
    ∧ dTL x y dt (∑ c, (Q c : EReal)) (∑ c, (P c : EReal)) g h = (v : EReal)
    ∧ ∑ c, (dTY x y dt (Q c) (P c) (g * part) (h * part) + dTL x y dt (Q c) (P c) (g * part) (h * part)) * (dt : EReal) = (((u + v) * dt : ℝ) : EReal) := by
  obtain ⟨k, d, hd, ed, ek⟩ := coef_real x y dt
  unfold dTY dTL
  simp only [← Norm.coe_sum, ek, ed, part_eq, Ideal.div_coe hd, ← EReal.coe_mul, gDtY_up, gDtL_up, ← EReal.coe_add]
  refine ⟨_, _, rfl, rfl, ?_⟩
  refine congrArg (fun r : ℝ => (r : EReal)) ?_
  rw [← Finset.sum_mul, gDt_split]

end Cell

end Cert.Prep

end
-- ==== Proof.PrepKernel.lean ====
module

public import proofs.«01_k».proof.Proof.Gen.Kernel8Ideal.Frame
public import proofs.«01_k».proof.Proof.PrepMath
public import Idealize.ShloMosaic.Lib.Pipeline.ValueKit
public import Idealize.ShloMosaic.Lib.Pipeline.ReadBack
public import Idealize.ShloMosaic.Lib.Pointwise

/-! What the backward kernel of the zero-order hold leaves: it works at every channel of every group, each with its share
    of the step's factor's gradient, and sums over the group's channels what the group shares. -/

@[expose] public section

set_option maxRecDepth 16384

noncomputable section

namespace Cert.Prep

open Cert.Kernel8Ideal Cert.Kernel8Ideal.Gen Idealize.ShloMosaic Idealize.ShloMosaic.TcCoe Idealize.SL.Sem

theorem zero_sub_word (x : EReal) : Ideal.ofBits .f32 0x00000000#32 - x = -x := by
  rw [zero_eq, EReal.coe_zero, zero_sub]

theorem subf_zero (v : FVec Ideal S1024x64 .f32) :
    subf (broadcast S1024x64 (Scalar.ofBits (F := Ideal) .f32 0x00000000#32)) v = fun i => -(v i) := funext fun i => zero_sub_word (v i)

theorem ld_all (v : Vec Ideal S1024x64 .f32) : View.ld v r0_0 = v := View.ld_unit_zero (by decide) _ v

/-- The gradient of the quotient's imaginary part, at a channel. -/
def kQ (x3 x4 x7 x8 : S1024x64.Idx → EReal) (i : S1024x64.Idx) : EReal := x8 i * x3 i + -(x7 i) * x4 i
/-- The gradient of its real part. -/
def kP (x3 x4 x7 x8 : S1024x64.Idx → EReal) (i : S1024x64.Idx) : EReal := x8 i * x4 i + x7 i * x3 i

theorem red_at (Z : FVec Ideal S1024x64 .f32) (g n : Fin 64) :
    (multiReduction .add [1] S64x64 (shapeCast S64x16x64 Z shapeCasts_S1024x64_S64x16x64) 0x00000000#32 reduces_S64x16x64_S64x64 (.inl rfl) rfl : FVec Ideal S64x64 .f32) (ix2 g n)
      = ∑ c : Fin 16, Z (ix2 (row g c) n) := by
  pointwise
  rfl

theorem red2_at (Z : FVec Ideal S64x64 .f32) (g : Fin 64) :
    (shapeCast S64x1 (multiReduction .add [1] S64 Z 0x00000000#32 reduces_S64x64_S64 (.inl rfl) rfl : FVec Ideal S64 .f32) shapeCasts_S64_S64x1) (ix2 g 0)
      = ∑ n : Fin 64, Z (ix2 g n) := by
  pointwise

variable (x0 x1 x2 x3 x4 x5 x6 x7 x8 : Vec Ideal S1024x64 .f32)

theorem out9_at (g n : Fin 64) : out0_9 x0 x1 x2 x3 x4 x5 x6 x7 x8 (ix2 g n)
    = ∑ c : Fin 16, dX (x0 (ix2 (row g c) n)) (x1 (ix2 (row g c) n)) (Ideal.exp (x2 (ix2 (row g c) n))) (kQ x3 x4 x7 x8 (ix2 (row g c) n)) (kP x3 x4 x7 x8 (ix2 (row g c) n)) (x5 (ix2 (row g c) n)) (x6 (ix2 (row g c) n)) := by
  unfold out0_9
  rw [View.canon_unit_zero (by decide)]
  unfold k0_pay46
  refine (red_at _ g n).trans (Finset.sum_congr rfl fun c _ => ?_)
  simp only [k0_pay68, k0_pay67, k0_pay66, k0_pay65, k0_pay64, k0_pay63, k0_pay62, k0_pay61, k0_pay60, k0_pay59, k0_pay58, k0_pay57, k0_pay56, k0_pay55, k0_pay54, k0_pay53, k0_pay52, k0_pay51, k0_pay50, k0_pay49, ld_all]
  simp only [k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1, shapeCast_self, subf_zero]
  rfl

theorem out10_at (g n : Fin 64) : out0_10 x0 x1 x2 x3 x4 x5 x6 x7 x8 (ix2 g n)
    = ∑ c : Fin 16, dY (x0 (ix2 (row g c) n)) (x1 (ix2 (row g c) n)) (Ideal.exp (x2 (ix2 (row g c) n))) (kQ x3 x4 x7 x8 (ix2 (row g c) n)) (kP x3 x4 x7 x8 (ix2 (row g c) n)) (x5 (ix2 (row g c) n)) (x6 (ix2 (row g c) n)) := by
  unfold out0_10
  rw [View.canon_unit_zero (by decide)]
  unfold k0_pay47
  refine (red_at _ g n).trans (Finset.sum_congr rfl fun c _ => ?_)
  simp only [k0_pay68, k0_pay67, k0_pay66, k0_pay65, k0_pay64, k0_pay63, k0_pay62, k0_pay61, k0_pay60, k0_pay59, k0_pay58, k0_pay57, k0_pay56, k0_pay55, k0_pay54, k0_pay53, k0_pay52, k0_pay51, k0_pay50, k0_pay49, ld_all]
  simp only [k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1, shapeCast_self, subf_zero]
  rfl

theorem out11_at (g : Fin 64) : out0_11 x0 x1 x2 x3 x4 x5 x6 x7 x8 (ix2 g 0)
    = ∑ n : Fin 64, ∑ c : Fin 16, (dTY (x0 (ix2 (row g c) n)) (x1 (ix2 (row g c) n)) (Ideal.exp (x2 (ix2 (row g c) n))) (kQ x3 x4 x7 x8 (ix2 (row g c) n)) (kP x3 x4 x7 x8 (ix2 (row g c) n)) (x5 (ix2 (row g c) n)) (x6 (ix2 (row g c) n))
        + dTL (x0 (ix2 (row g c) n)) (x1 (ix2 (row g c) n)) (Ideal.exp (x2 (ix2 (row g c) n))) (kQ x3 x4 x7 x8 (ix2 (row g c) n)) (kP x3 x4 x7 x8 (ix2 (row g c) n)) (x5 (ix2 (row g c) n)) (x6 (ix2 (row g c) n))) * Ideal.exp (x2 (ix2 (row g c) n)) := by
  unfold out0_11
  rw [View.canon_unit_zero (by decide)]
  unfold k0_pay48
  refine (red2_at _ g).trans (Finset.sum_congr rfl fun n _ => (red_at _ g n).trans (Finset.sum_congr rfl fun c _ => ?_))
  simp only [k0_pay68, k0_pay67, k0_pay66, k0_pay65, k0_pay64, k0_pay63, k0_pay62, k0_pay61, k0_pay60, k0_pay59, k0_pay58, k0_pay57, k0_pay56, k0_pay55, k0_pay54, k0_pay53, k0_pay52, k0_pay51, k0_pay50, k0_pay49, ld_all]
  simp only [k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1, shapeCast_self, subf_zero]
  rfl

theorem out12_at (i : S1024x64.Idx) : out0_12 x0 x1 x2 x3 x4 x5 x6 x7 x8 i = dB (x0 i) (x1 i) (Ideal.exp (x2 i)) (x7 i) (x8 i) := by
  unfold out0_12
  rw [View.canon_unit_zero (by decide)]
  simp only [k0_pay68, k0_pay67, k0_pay66, k0_pay65, k0_pay64, k0_pay63, k0_pay62, k0_pay61, k0_pay60, k0_pay59, k0_pay58, k0_pay57, k0_pay56, k0_pay55, k0_pay54, k0_pay53, k0_pay52, k0_pay51, k0_pay50, k0_pay49, ld_all]
  simp only [k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1, shapeCast_self, subf_zero]
  rfl

theorem out13_at (i : S1024x64.Idx) : out0_13 x0 x1 x2 x3 x4 x5 x6 x7 x8 i = dB' (x0 i) (x1 i) (Ideal.exp (x2 i)) (x7 i) (x8 i) := by
  unfold out0_13
  rw [View.canon_unit_zero (by decide)]
  simp only [k0_pay68, k0_pay67, k0_pay66, k0_pay65, k0_pay64, k0_pay63, k0_pay62, k0_pay61, k0_pay60, k0_pay59, k0_pay58, k0_pay57, k0_pay56, k0_pay55, k0_pay54, k0_pay53, k0_pay52, k0_pay51, k0_pay50, k0_pay49, ld_all]
  simp only [k0_pay45, k0_pay44, k0_pay43, k0_pay42, k0_pay41, k0_pay40, k0_pay39, k0_pay38, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1, shapeCast_self, subf_zero]
  rfl

end Cert.Prep

end
-- ==== Proof.PrepValue.lean ====
module

public import proofs.«01_k».proof.Proof.Gen.Kernel8Ideal.Value
public import proofs.«01_k».proof.Proof.PrepKernel

/-! The zero-order hold's backward call as a whole: what it hands its kernel, and its five results cell by cell. -/

@[expose] public section

set_option maxRecDepth 16384

noncomputable section

namespace Cert.Prep

open Cert.Kernel8Ideal Cert.Kernel8Ideal.Gen Idealize.ShloMosaic Idealize.ShloMosaic.TcCoe Idealize.SL.Sem

/-! ## What the kernel is handed -/

/-- A group's row, repeated for each of its channels. -/
def rep (x : FVec Ideal S64x64 .f32) : FVec Ideal S1024x64 .f32 :=
  shapeCast S1024x64 (broadcastInDim S64x16x64 ![0, 2] bcast_S64x64_S64x16x64_0_2 x) shapeCasts_S64x16x64_S1024x64
/-- A group's value, at each of its states. -/
def across (x : FVec Ideal S64 .f32) : FVec Ideal S64x64 .f32 :=
  broadcastInDim S64x64 ![0, 1] bcast_S64x1_S64x64_0_1 (broadcastInDim S64x1 ![0] bcast_S64_S64x1_0 x)
/-- The inputs by channel. -/
def laid (x : FVec Ideal S64x64x16 .f32) : FVec Ideal S1024x64 .f32 :=
  shapeCast S1024x64 (transpose S64x16x64 [0, 2, 1] x transposes_S64x64x16_S64x16x64_0_2_1) shapeCasts_S64x16x64_S1024x64
/-- Each channel's share of a group's row. -/
def share (x : FVec Ideal S64x64 .f32) : FVec Ideal S1024x64 .f32 :=
  mulf (rep x) (broadcastInDim S1024x64 ![] bcast_S_S1024x64 (constant S_ .f32 0x3D800000#32))

theorem rep_at (x : FVec Ideal S64x64 .f32) (g : Fin 64) (c : Fin 16) (n : Fin 64) : rep x (ix2 (row g c) n) = x (ix2 g n) := by
  unfold rep row
  pointwise

theorem across_at (x : FVec Ideal S64 .f32) (g n : Fin 64) : across x (ix2 g n) = x (ix1 g) := by
  unfold across
  pointwise

theorem laid_at (x : FVec Ideal S64x64x16 .f32) (g : Fin 64) (c : Fin 16) (n : Fin 64) : laid x (ix2 (row g c) n) = x (ix3 g n c) := by
  unfold laid row
  pointwise

theorem share_at (x : FVec Ideal S64x64 .f32) (g : Fin 64) (c : Fin 16) (n : Fin 64) : share x (ix2 (row g c) n) = x (ix2 g n) * part :=
  congrArg (· * part) (rep_at x g c n)

/-- One channel's gradient of the quotient's imaginary part. -/
def qOf (x3 x4 : FVec Ideal S64x64x16 .f32) (x7 x8 : FVec Ideal S1024x64 .f32) (g n : Fin 64) (c : Fin 16) : EReal :=
  x8 (ix2 (row g c) n) * x3 (ix3 g n c) + -(x7 (ix2 (row g c) n)) * x4 (ix3 g n c)
/-- One channel's gradient of its real part. -/
def pOf (x3 x4 : FVec Ideal S64x64x16 .f32) (x7 x8 : FVec Ideal S1024x64 .f32) (g n : Fin 64) (c : Fin 16) : EReal :=
  x8 (ix2 (row g c) n) * x4 (ix3 g n c) + x7 (ix2 (row g c) n) * x3 (ix3 g n c)

/-- The kernel's gradient of the state's decay: at every group, summed over the group's channels. -/
def kdX (x0 x1 : FVec Ideal S64x64 .f32) (x2 : FVec Ideal S64 .f32) (x3 x4 : FVec Ideal S64x64x16 .f32) (x5 x6 : FVec Ideal S64x64 .f32) (x7 x8 : FVec Ideal S1024x64 .f32) : FVec Ideal S64x64 .f32 := out0_9 (F := Ideal) (rep x0) (rep x1) (rep (across x2)) (laid x3) (laid x4) (share x5) (share x6) x7 x8
/-- Its gradient of the state's angular rate. -/
def kdY (x0 x1 : FVec Ideal S64x64 .f32) (x2 : FVec Ideal S64 .f32) (x3 x4 : FVec Ideal S64x64x16 .f32) (x5 x6 : FVec Ideal S64x64 .f32) (x7 x8 : FVec Ideal S1024x64 .f32) : FVec Ideal S64x64 .f32 := out0_10 (F := Ideal) (rep x0) (rep x1) (rep (across x2)) (laid x3) (laid x4) (share x5) (share x6) x7 x8
/-- Its gradient of the step's logarithm. -/
def kdT (x0 x1 : FVec Ideal S64x64 .f32) (x2 : FVec Ideal S64 .f32) (x3 x4 : FVec Ideal S64x64x16 .f32) (x5 x6 : FVec Ideal S64x64 .f32) (x7 x8 : FVec Ideal S1024x64 .f32) : FVec Ideal S64x1 .f32 := out0_11 (F := Ideal) (rep x0) (rep x1) (rep (across x2)) (laid x3) (laid x4) (share x5) (share x6) x7 x8
/-- Its gradient of the input's real part. -/
def kdB (x0 x1 : FVec Ideal S64x64 .f32) (x2 : FVec Ideal S64 .f32) (x3 x4 : FVec Ideal S64x64x16 .f32) (x5 x6 : FVec Ideal S64x64 .f32) (x7 x8 : FVec Ideal S1024x64 .f32) : FVec Ideal S1024x64 .f32 := out0_12 (F := Ideal) (rep x0) (rep x1) (rep (across x2)) (laid x3) (laid x4) (share x5) (share x6) x7 x8
/-- Its gradient of the input's imaginary part. -/
def kdB' (x0 x1 : FVec Ideal S64x64 .f32) (x2 : FVec Ideal S64 .f32) (x3 x4 : FVec Ideal S64x64x16 .f32) (x5 x6 : FVec Ideal S64x64 .f32) (x7 x8 : FVec Ideal S1024x64 .f32) : FVec Ideal S1024x64 .f32 := out0_13 (F := Ideal) (rep x0) (rep x1) (rep (across x2)) (laid x3) (laid x4) (share x5) (share x6) x7 x8

theorem kdX_at (x0 x1 : FVec Ideal S64x64 .f32) (x2 : FVec Ideal S64 .f32) (x3 x4 : FVec Ideal S64x64x16 .f32) (x5 x6 : FVec Ideal S64x64 .f32) (x7 x8 : FVec Ideal S1024x64 .f32) (g n : Fin 64) : kdX x0 x1 x2 x3 x4 x5 x6 x7 x8 (ix2 g n) = ∑ c : Fin 16, dX (x0 (ix2 g n)) (x1 (ix2 g n)) (Ideal.exp (x2 (ix1 g))) (qOf x3 x4 x7 x8 g n c) (pOf x3 x4 x7 x8 g n c) (x5 (ix2 g n) * part) (x6 (ix2 g n) * part) := by
  refine (out9_at _ _ _ _ _ _ _ _ _ g n).trans (Finset.sum_congr rfl fun c _ => ?_)
  simp only [kQ, kP, rep_at, laid_at, share_at, across_at, qOf, pOf]

theorem kdY_at (x0 x1 : FVec Ideal S64x64 .f32) (x2 : FVec Ideal S64 .f32) (x3 x4 : FVec Ideal S64x64x16 .f32) (x5 x6 : FVec Ideal S64x64 .f32) (x7 x8 : FVec Ideal S1024x64 .f32) (g n : Fin 64) : kdY x0 x1 x2 x3 x4 x5 x6 x7 x8 (ix2 g n) = ∑ c : Fin 16, dY (x0 (ix2 g n)) (x1 (ix2 g n)) (Ideal.exp (x2 (ix1 g))) (qOf x3 x4 x7 x8 g n c) (pOf x3 x4 x7 x8 g n c) (x5 (ix2 g n) * part) (x6 (ix2 g n) * part) := by
  refine (out10_at _ _ _ _ _ _ _ _ _ g n).trans (Finset.sum_congr rfl fun c _ => ?_)
  simp only [kQ, kP, rep_at, laid_at, share_at, across_at, qOf, pOf]

theorem kdT_at (x0 x1 : FVec Ideal S64x64 .f32) (x2 : FVec Ideal S64 .f32) (x3 x4 : FVec Ideal S64x64x16 .f32) (x5 x6 : FVec Ideal S64x64 .f32) (x7 x8 : FVec Ideal S1024x64 .f32) (g : Fin 64) : kdT x0 x1 x2 x3 x4 x5 x6 x7 x8 (ix2 g 0)
    = ∑ n : Fin 64, ∑ c : Fin 16, (dTY (x0 (ix2 g n)) (x1 (ix2 g n)) (Ideal.exp (x2 (ix1 g))) (qOf x3 x4 x7 x8 g n c) (pOf x3 x4 x7 x8 g n c) (x5 (ix2 g n) * part) (x6 (ix2 g n) * part) + dTL (x0 (ix2 g n)) (x1 (ix2 g n)) (Ideal.exp (x2 (ix1 g))) (qOf x3 x4 x7 x8 g n c) (pOf x3 x4 x7 x8 g n c) (x5 (ix2 g n) * part) (x6 (ix2 g n) * part)) * Ideal.exp (x2 (ix1 g)) := by
  refine (out11_at _ _ _ _ _ _ _ _ _ g).trans (Finset.sum_congr rfl fun n _ => Finset.sum_congr rfl fun c _ => ?_)
  simp only [kQ, kP, rep_at, laid_at, share_at, across_at, qOf, pOf]

theorem kdB_at (x0 x1 : FVec Ideal S64x64 .f32) (x2 : FVec Ideal S64 .f32) (x3 x4 : FVec Ideal S64x64x16 .f32) (x5 x6 : FVec Ideal S64x64 .f32) (x7 x8 : FVec Ideal S1024x64 .f32) (g : Fin 64) (c : Fin 16) (n : Fin 64) : kdB x0 x1 x2 x3 x4 x5 x6 x7 x8 (ix2 (row g c) n) = dB (x0 (ix2 g n)) (x1 (ix2 g n)) (Ideal.exp (x2 (ix1 g))) (x7 (ix2 (row g c) n)) (x8 (ix2 (row g c) n)) := by
  refine (out12_at _ _ _ _ _ _ _ _ _ _).trans ?_
  simp only [rep_at, across_at]

theorem kdB'_at (x0 x1 : FVec Ideal S64x64 .f32) (x2 : FVec Ideal S64 .f32) (x3 x4 : FVec Ideal S64x64x16 .f32) (x5 x6 : FVec Ideal S64x64 .f32) (x7 x8 : FVec Ideal S1024x64 .f32) (g : Fin 64) (c : Fin 16) (n : Fin 64) : kdB' x0 x1 x2 x3 x4 x5 x6 x7 x8 (ix2 (row g c) n) = dB' (x0 (ix2 g n)) (x1 (ix2 g n)) (Ideal.exp (x2 (ix1 g))) (x7 (ix2 (row g c) n)) (x8 (ix2 (row g c) n)) := by
  refine (out13_at _ _ _ _ _ _ _ _ _ _).trans ?_
  simp only [rep_at, across_at]

/-! ## The call's one grid point -/

theorem exists_ix2 {R C : ℕ} (x : Shape.Idx ⟨2, ![R, C]⟩) : ∃ (r : Fin R) (k : Fin C), x = ix2 r k := ⟨x 0, x 1, eq_ix2 x⟩

section Run

variable (m : (ℓ : Loc nD τ sig) → Buf (Elt Ideal) ℓ) (c : Dev nD)

/-- An argument's contents at the start. -/
abbrev A (b : Ref sig .tc) : Buf (Elt Ideal) ((c : Thread nD τ).loc b) := m ((c : Thread nD τ).loc b)

theorem win_at : ∀ t : Fin grid0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] := by decide +kernel

theorem blk_0 (t : Fin cfg0.N) : iblk m c 0 t = V m c main_v1 := by
  funext y
  obtain ⟨r, k, e⟩ : ∃ (r : Fin 1024) (k : Fin 64), y = ix2 r k := exists_ix2 y
  subst e
  blk_ext [iblk, win_at t]

theorem blk_1 (t : Fin cfg0.N) : iblk m c 1 t = V m c main_v3 := by
  funext y
  obtain ⟨r, k, e⟩ : ∃ (r : Fin 1024) (k : Fin 64), y = ix2 r k := exists_ix2 y
  subst e
  blk_ext [iblk, win_at t]

theorem blk_2 (t : Fin cfg0.N) : iblk m c 2 t = V m c main_v7 := by
  funext y
  obtain ⟨r, k, e⟩ : ∃ (r : Fin 1024) (k : Fin 64), y = ix2 r k := exists_ix2 y
  subst e
  blk_ext [iblk, win_at t]

theorem blk_3 (t : Fin cfg0.N) : iblk m c 3 t = V m c main_v9 := by
  funext y
  obtain ⟨r, k, e⟩ : ∃ (r : Fin 1024) (k : Fin 64), y = ix2 r k := exists_ix2 y
  subst e
  blk_ext [iblk, win_at t]

theorem blk_4 (t : Fin cfg0.N) : iblk m c 4 t = V m c main_v11 := by
  funext y
  obtain ⟨r, k, e⟩ : ∃ (r : Fin 1024) (k : Fin 64), y = ix2 r k := exists_ix2 y
  subst e
  blk_ext [iblk, win_at t]

theorem blk_5 (t : Fin cfg0.N) : iblk m c 5 t = V m c main_v15 := by
  funext y
  obtain ⟨r, k, e⟩ : ∃ (r : Fin 1024) (k : Fin 64), y = ix2 r k := exists_ix2 y
  subst e
  blk_ext [iblk, win_at t]

theorem blk_6 (t : Fin cfg0.N) : iblk m c 6 t = V m c main_v19 := by
  funext y
  obtain ⟨r, k, e⟩ : ∃ (r : Fin 1024) (k : Fin 64), y = ix2 r k := exists_ix2 y
  subst e
  blk_ext [iblk, win_at t]

theorem blk_7 (t : Fin cfg0.N) : iblk m c 7 t = V m c main_arg7 := by
  funext y
  obtain ⟨r, k, e⟩ : ∃ (r : Fin 1024) (k : Fin 64), y = ix2 r k := exists_ix2 y
  subst e
  blk_ext [iblk, win_at t]

theorem blk_8 (t : Fin cfg0.N) : iblk m c 8 t = V m c main_arg8 := by
  funext y
  obtain ⟨r, k, e⟩ : ∃ (r : Fin 1024) (k : Fin 64), y = ix2 r k := exists_ix2 y
  subst e
  blk_ext [iblk, win_at t]

theorem emb_9 (t : Fin cfg0.N) (r : Fin 64) (k : Fin 64) : ((cfg0.win 9).blk t).view.emb (ix2 r k) = (ix2 r k : S64x64.Idx) := by
  blk_ext [win_at t]

theorem arr_9 : (dats m 0 c).arrAt 9 cfg0.N = out0_9 (V m c main_v1) (V m c main_v3) (V m c main_v7) (V m c main_v9) (V m c main_v11) (V m c main_v15) (V m c main_v19) (V m c main_arg7) (V m c main_arg8) := by
  refine (dats m 0 c).arrAt_eq_of_covers 9 _ (by decide +kernel) fun t hf y => ?_
  obtain ⟨r, k, e⟩ : ∃ (r : Fin 64) (k : Fin 64), (win0 9).xinj (grid0.coords t) y = ix2 r k := exists_ix2 _
  have e' : y = ix2 r k := e
  rw [after0_9, blk_0, blk_1, blk_2, blk_3, blk_4, blk_5, blk_6, blk_7, blk_8, e]
  subst e'
  rw [emb_9 t]
  generalize out0_9 (V m c main_v1) (V m c main_v3) (V m c main_v7) (V m c main_v9) (V m c main_v11) (V m c main_v15) (V m c main_v19) (V m c main_arg7) (V m c main_arg8) = Z
  rfl

theorem emb_10 (t : Fin cfg0.N) (r : Fin 64) (k : Fin 64) : ((cfg0.win 10).blk t).view.emb (ix2 r k) = (ix2 r k : S64x64.Idx) := by
  blk_ext [win_at t]

theorem arr_10 : (dats m 0 c).arrAt 10 cfg0.N = out0_10 (V m c main_v1) (V m c main_v3) (V m c main_v7) (V m c main_v9) (V m c main_v11) (V m c main_v15) (V m c main_v19) (V m c main_arg7) (V m c main_arg8) := by
  refine (dats m 0 c).arrAt_eq_of_covers 10 _ (by decide +kernel) fun t hf y => ?_
  obtain ⟨r, k, e⟩ : ∃ (r : Fin 64) (k : Fin 64), (win0 10).xinj (grid0.coords t) y = ix2 r k := exists_ix2 _
  have e' : y = ix2 r k := e
  rw [after0_10, blk_0, blk_1, blk_2, blk_3, blk_4, blk_5, blk_6, blk_7, blk_8, e]
  subst e'
  rw [emb_10 t]
  generalize out0_10 (V m c main_v1) (V m c main_v3) (V m c main_v7) (V m c main_v9) (V m c main_v11) (V m c main_v15) (V m c main_v19) (V m c main_arg7) (V m c main_arg8) = Z
  rfl

theorem emb_11 (t : Fin cfg0.N) (r : Fin 64) (k : Fin 1) : ((cfg0.win 11).blk t).view.emb (ix2 r k) = (ix2 r k : S64x1.Idx) := by
  blk_ext [win_at t]

theorem arr_11 : (dats m 0 c).arrAt 11 cfg0.N = out0_11 (V m c main_v1) (V m c main_v3) (V m c main_v7) (V m c main_v9) (V m c main_v11) (V m c main_v15) (V m c main_v19) (V m c main_arg7) (V m c main_arg8) := by
  refine (dats m 0 c).arrAt_eq_of_covers 11 _ (by decide +kernel) fun t hf y => ?_
  obtain ⟨r, k, e⟩ : ∃ (r : Fin 64) (k : Fin 1), (win0 11).xinj (grid0.coords t) y = ix2 r k := exists_ix2 _
  have e' : y = ix2 r k := e
  rw [after0_11, blk_0, blk_1, blk_2, blk_3, blk_4, blk_5, blk_6, blk_7, blk_8, e]
  subst e'
  rw [emb_11 t]
  generalize out0_11 (V m c main_v1) (V m c main_v3) (V m c main_v7) (V m c main_v9) (V m c main_v11) (V m c main_v15) (V m c main_v19) (V m c main_arg7) (V m c main_arg8) = Z
  rfl

theorem emb_12 (t : Fin cfg0.N) (r : Fin 1024) (k : Fin 64) : ((cfg0.win 12).blk t).view.emb (ix2 r k) = (ix2 r k : S1024x64.Idx) := by
  blk_ext [win_at t]

theorem arr_12 : (dats m 0 c).arrAt 12 cfg0.N = out0_12 (V m c main_v1) (V m c main_v3) (V m c main_v7) (V m c main_v9) (V m c main_v11) (V m c main_v15) (V m c main_v19) (V m c main_arg7) (V m c main_arg8) := by
  refine (dats m 0 c).arrAt_eq_of_covers 12 _ (by decide +kernel) fun t hf y => ?_
  obtain ⟨r, k, e⟩ : ∃ (r : Fin 1024) (k : Fin 64), (win0 12).xinj (grid0.coords t) y = ix2 r k := exists_ix2 _
  have e' : y = ix2 r k := e
  rw [after0_12, blk_0, blk_1, blk_2, blk_3, blk_4, blk_5, blk_6, blk_7, blk_8, e]
  subst e'
  rw [emb_12 t]
  generalize out0_12 (V m c main_v1) (V m c main_v3) (V m c main_v7) (V m c main_v9) (V m c main_v11) (V m c main_v15) (V m c main_v19) (V m c main_arg7) (V m c main_arg8) = Z
  rfl

theorem emb_13 (t : Fin cfg0.N) (r : Fin 1024) (k : Fin 64) : ((cfg0.win 13).blk t).view.emb (ix2 r k) = (ix2 r k : S1024x64.Idx) := by
  blk_ext [win_at t]

theorem arr_13 : (dats m 0 c).arrAt 13 cfg0.N = out0_13 (V m c main_v1) (V m c main_v3) (V m c main_v7) (V m c main_v9) (V m c main_v11) (V m c main_v15) (V m c main_v19) (V m c main_arg7) (V m c main_arg8) := by
  refine (dats m 0 c).arrAt_eq_of_covers 13 _ (by decide +kernel) fun t hf y => ?_
  obtain ⟨r, k, e⟩ : ∃ (r : Fin 1024) (k : Fin 64), (win0 13).xinj (grid0.coords t) y = ix2 r k := exists_ix2 _
  have e' : y = ix2 r k := e
  rw [after0_13, blk_0, blk_1, blk_2, blk_3, blk_4, blk_5, blk_6, blk_7, blk_8, e]
  subst e'
  rw [emb_13 t]
  generalize out0_13 (V m c main_v1) (V m c main_v3) (V m c main_v7) (V m c main_v9) (V m c main_v11) (V m c main_v15) (V m c main_v19) (V m c main_arg7) (V m c main_arg8) = Z
  rfl

theorem V_v1 : (V m c main_v1 : FVec Ideal S1024x64 .f32) = rep (A m c main_arg0) := by
  show StableHlo.after hostOps0 _ (Proc.devRef .tc main_v1) = _
  after_results_simp
  rfl

theorem V_v3 : (V m c main_v3 : FVec Ideal S1024x64 .f32) = rep (A m c main_arg1) := by
  show StableHlo.after hostOps0 _ (Proc.devRef .tc main_v3) = _
  after_results_simp
  rfl

theorem V_v7 : (V m c main_v7 : FVec Ideal S1024x64 .f32) = rep (across (A m c main_arg2)) := by
  show StableHlo.after hostOps0 _ (Proc.devRef .tc main_v7) = _
  after_results_simp
  rfl

theorem V_v9 : (V m c main_v9 : FVec Ideal S1024x64 .f32) = laid (A m c main_arg3) := by
  show StableHlo.after hostOps0 _ (Proc.devRef .tc main_v9) = _
  after_results_simp
  rfl

theorem V_v11 : (V m c main_v11 : FVec Ideal S1024x64 .f32) = laid (A m c main_arg4) := by
  show StableHlo.after hostOps0 _ (Proc.devRef .tc main_v11) = _
  after_results_simp
  rfl

theorem V_v15 : (V m c main_v15 : FVec Ideal S1024x64 .f32) = share (A m c main_arg5) := by
  show StableHlo.after hostOps0 _ (Proc.devRef .tc main_v15) = _
  after_results_simp
  rfl

theorem V_v19 : (V m c main_v19 : FVec Ideal S1024x64 .f32) = share (A m c main_arg6) := by
  show StableHlo.after hostOps0 _ (Proc.devRef .tc main_v19) = _
  after_results_simp
  rfl

theorem res_9 : (dats m 0 c).arrAt 9 cfg0.N = kdX (A m c main_arg0) (A m c main_arg1) (A m c main_arg2) (A m c main_arg3) (A m c main_arg4) (A m c main_arg5) (A m c main_arg6) (A m c main_arg7) (A m c main_arg8) := by
  rw [arr_9, V_v1, V_v3, V_v7, V_v9, V_v11, V_v15, V_v19, V_main_arg7, V_main_arg8]
  rfl

theorem res_10 : (dats m 0 c).arrAt 10 cfg0.N = kdY (A m c main_arg0) (A m c main_arg1) (A m c main_arg2) (A m c main_arg3) (A m c main_arg4) (A m c main_arg5) (A m c main_arg6) (A m c main_arg7) (A m c main_arg8) := by
  rw [arr_10, V_v1, V_v3, V_v7, V_v9, V_v11, V_v15, V_v19, V_main_arg7, V_main_arg8]
  rfl

theorem res_11 : (dats m 0 c).arrAt 11 cfg0.N = kdT (A m c main_arg0) (A m c main_arg1) (A m c main_arg2) (A m c main_arg3) (A m c main_arg4) (A m c main_arg5) (A m c main_arg6) (A m c main_arg7) (A m c main_arg8) := by
  rw [arr_11, V_v1, V_v3, V_v7, V_v9, V_v11, V_v15, V_v19, V_main_arg7, V_main_arg8]
  rfl

theorem res_12 : (dats m 0 c).arrAt 12 cfg0.N = kdB (A m c main_arg0) (A m c main_arg1) (A m c main_arg2) (A m c main_arg3) (A m c main_arg4) (A m c main_arg5) (A m c main_arg6) (A m c main_arg7) (A m c main_arg8) := by
  rw [arr_12, V_v1, V_v3, V_v7, V_v9, V_v11, V_v15, V_v19, V_main_arg7, V_main_arg8]
  rfl

theorem res_13 : (dats m 0 c).arrAt 13 cfg0.N = kdB' (A m c main_arg0) (A m c main_arg1) (A m c main_arg2) (A m c main_arg3) (A m c main_arg4) (A m c main_arg5) (A m c main_arg6) (A m c main_arg7) (A m c main_arg8) := by
  rw [arr_13, V_v1, V_v3, V_v7, V_v9, V_v11, V_v15, V_v19, V_main_arg7, V_main_arg8]
  rfl

end Run

theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v20_0) = kdX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v20_1) = kdY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v20_2) = kdT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v20_3) = kdB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v20_4) = kdB' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (res_9 m c), (h c).2.1.trans (res_10 m c), (h c).2.2.1.trans (res_11 m c),
    (h c).2.2.2.1.trans (res_12 m c), (h c).2.2.2.2.1.trans (res_13 m c), (h c).2.2.2.2.2⟩) (Value.run_blocks (F := Ideal) m ρ)

end Cert.Prep

end
-- ==== Proof.PrepRef.lean ====
module

public import proofs.«01_k».proof.Proof.Gen.Reference8Ideal.Run
public import proofs.«01_k».proof.Proof.PrepMath
public import Idealize.ShloMosaic.Lib.Pointwise

/-! The gradients of the zero-order hold, as reverse accumulation writes them on whole arrays. -/

@[expose] public section

set_option maxRecDepth 16384

noncomputable section

namespace Cert.Prep

open Cert.Reference8Ideal Cert.Reference8Ideal.Gen Idealize.ShloMosaic Idealize.ShloMosaic.TcCoe Idealize.SL.Sem Cert.Finite

/-- An argument's contents at the start. -/
abbrev B (m : (ℓ : Loc nD τ sig) → Buf (Elt Ideal) ℓ) (c : Dev nD) (b : Ref sig .tc) : Buf (Elt Ideal) ((c.tc : Thread nD τ).loc b) := m ((c.tc : Thread nD τ).loc b)

/-- The steps, at every state. -/
def rD (x2 : FVec Ideal S64 .f32) : FVec Ideal S64x64 .f32 :=
  broadcastInDim S64x64 ![0, 1] bcast_S64x1_S64x64_0_1 (broadcastInDim S64x1 ![0] bcast_S64_S64x1_0 (Host.exp x2))
/-- An array by rows of channels, by states. -/
def rT (x : FVec Ideal S1024x64 .f32) : FVec Ideal S64x64x16 .f32 :=
  transpose S64x64x16 [0, 2, 1] (shapeCast _ x shapeCasts_S1024x64_S64x16x64) transposes_S64x16x64_S64x64x16_0_2_1
/-- An array by states, by rows of channels. -/
def rU (x : FVec Ideal S64x64x16 .f32) : FVec Ideal S1024x64 .f32 :=
  shapeCast _ (transpose S64x16x64 [0, 2, 1] x transposes_S64x64x16_S64x16x64_0_2_1) shapeCasts_S64x16x64_S1024x64
/-- The sum over a group's channels. -/
def rSum (x : FVec Ideal S64x64x16 .f32) : FVec Ideal S64x64 .f32 :=
  Host.reduceAdd (shapeCast _ (Host.reduceAdd x (constant S_ .f32 0x00000000#32) reducesTo_S64x64x16_S64x64_d2 h_S_) shapeCasts_S64x64_S64x64x1) (constant S_ .f32 0x00000000#32) reducesTo_S64x64x1_S64x64_d2 h_S_
/-- An array's entries, at every channel. -/
def rB3 (x : FVec Ideal S64x64 .f32) : FVec Ideal S64x64x16 .f32 :=
  broadcastInDim S64x64x16 ![0, 1, 2] bcast_S64x64x1_S64x64x16_0_1_2 (broadcastInDim S64x64x1 ![0, 1] bcast_S64x64_S64x64x1_0_1 x)

def rL (x0 : FVec Ideal S64x64 .f32) : FVec Ideal S64x64 .f32 := minimumf x0 (broadcastInDim S64x64 ![] bcast_S_S64x64 (constant S_ .f32 0xB8D1B717#32))
def rM (x0 D : FVec Ideal S64x64 .f32) : FVec Ideal S64x64 .f32 := Host.exp (mulf (rL x0) D)
def rS (x1 D : FVec Ideal S64x64 .f32) : FVec Ideal S64x64 .f32 := Host.sin (mulf x1 D)
def rC (x1 D : FVec Ideal S64x64 .f32) : FVec Ideal S64x64 .f32 := Host.cos (mulf x1 D)
def rN (x0 x1 : FVec Ideal S64x64 .f32) : FVec Ideal S64x64 .f32 := addf (mulf (rL x0) (rL x0)) (mulf x1 x1)
def rA (x0 x1 D : FVec Ideal S64x64 .f32) : FVec Ideal S64x64 .f32 := subf (mulf (rM x0 D) (rC x1 D)) (broadcastInDim S64x64 ![] bcast_S_S64x64 (constant S_ .f32 0x3F800000#32))
def rB (x0 x1 D : FVec Ideal S64x64 .f32) : FVec Ideal S64x64 .f32 := mulf (rM x0 D) (rS x1 D)
def rR (x0 x1 : FVec Ideal S64x64 .f32) : FVec Ideal S64x64 .f32 := Host.divf (broadcastInDim S64x64 ![] bcast_S_S64x64 (constant S_ .f32 0x3F800000#32)) (mulf (rN x0 x1) (rN x0 x1))
def rE (x0 x1 D : FVec Ideal S64x64 .f32) : FVec Ideal S64x64 .f32 := addf (mulf (rA x0 x1 D) (rL x0)) (mulf (rB x0 x1 D) x1)
def rF (x0 x1 D : FVec Ideal S64x64 .f32) : FVec Ideal S64x64 .f32 := subf (mulf (rB x0 x1 D) (rL x0)) (mulf (rA x0 x1 D) x1)
def rV (x0 x1 D Q P : FVec Ideal S64x64 .f32) : FVec Ideal S64x64 .f32 :=
  addf (Host.negf (mulf (mulf Q (rR x0 x1)) (rF x0 x1 D))) (Host.negf (mulf (mulf P (rR x0 x1)) (rE x0 x1 D)))
/-- The gradient of the inputs' quotient's imaginary part. -/
def rQ (x3 x4 U W : FVec Ideal S64x64x16 .f32) : FVec Ideal S64x64 .f32 := addf (rSum (mulf W x3)) (rSum (mulf (Host.negf U) x4))
/-- The gradient of its real part. -/
def rP (x3 x4 U W : FVec Ideal S64x64x16 .f32) : FVec Ideal S64x64 .f32 := addf (rSum (mulf W x4)) (rSum (mulf U x3))

/-- The gradient of the rates' real parts. -/
def rdX (x0 x1 D Q P x5 x6 : FVec Ideal S64x64 .f32) : FVec Ideal S64x64 .f32 :=
  mulf (addf (addf (addf (addf (mulf (rB x0 x1 D) (Host.divf Q (rN x0 x1))) (mulf (rA x0 x1 D) (Host.divf P (rN x0 x1)))) (mulf (rL x0) (rV x0 x1 D Q P))) (mulf (rV x0 x1 D Q P) (rL x0))) (mulf (mulf (addf (mulf (addf (addf x6 (mulf (Host.divf Q (rN x0 x1)) (rL x0))) (mulf (Host.divf P (rN x0 x1)) x1)) (rS x1 D)) (mulf (addf (addf x5 (mulf (Host.negf (Host.divf Q (rN x0 x1))) x1)) (mulf (Host.divf P (rN x0 x1)) (rL x0))) (rC x1 D))) (rM x0 D)) D)) (select (cmpf .ogt (broadcastInDim S64x64 ![] bcast_S_S64x64 (constant S_ .f32 0xB8D1B717#32)) x0) (broadcastInDim S64x64 ![] bcast_S_S64x64 (constant S_ .f32 0x3F800000#32)) (select (cmpf .oeq (broadcastInDim S64x64 ![] bcast_S_S64x64 (constant S_ .f32 0xB8D1B717#32)) x0) (broadcastInDim S64x64 ![] bcast_S_S64x64 (constant S_ .f32 0x3F000000#32)) (broadcastInDim S64x64 ![] bcast_S_S64x64 (constant S_ .f32 0x00000000#32))))
/-- The gradient of the rates' imaginary parts. -/
def rdY (x0 x1 D Q P x5 x6 : FVec Ideal S64x64 .f32) : FVec Ideal S64x64 .f32 :=
  addf (addf (addf (addf (mulf (rA x0 x1 D) (Host.negf (Host.divf Q (rN x0 x1)))) (mulf (rB x0 x1 D) (Host.divf P (rN x0 x1)))) (mulf x1 (rV x0 x1 D Q P))) (mulf (rV x0 x1 D Q P) x1)) (mulf (addf (mulf (mulf (rM x0 D) (addf (addf x6 (mulf (Host.divf Q (rN x0 x1)) (rL x0))) (mulf (Host.divf P (rN x0 x1)) x1))) (rC x1 D)) (mulf (Host.negf (mulf (rM x0 D) (addf (addf x5 (mulf (Host.negf (Host.divf Q (rN x0 x1))) x1)) (mulf (Host.divf P (rN x0 x1)) (rL x0))))) (rS x1 D))) D)
/-- The gradient of the steps, in its two parts. -/
def rdTY (x0 x1 D Q P x5 x6 : FVec Ideal S64x64 .f32) : FVec Ideal S64x64 .f32 :=
  mulf x1 (addf (mulf (mulf (rM x0 D) (addf (addf x6 (mulf (Host.divf Q (rN x0 x1)) (rL x0))) (mulf (Host.divf P (rN x0 x1)) x1))) (rC x1 D)) (mulf (Host.negf (mulf (rM x0 D) (addf (addf x5 (mulf (Host.negf (Host.divf Q (rN x0 x1))) x1)) (mulf (Host.divf P (rN x0 x1)) (rL x0))))) (rS x1 D)))
/-- The other part. -/
def rdTL (x0 x1 D Q P x5 x6 : FVec Ideal S64x64 .f32) : FVec Ideal S64x64 .f32 :=
  mulf (rL x0) (mulf (addf (mulf (addf (addf x6 (mulf (Host.divf Q (rN x0 x1)) (rL x0))) (mulf (Host.divf P (rN x0 x1)) x1)) (rS x1 D)) (mulf (addf (addf x5 (mulf (Host.negf (Host.divf Q (rN x0 x1))) x1)) (mulf (Host.divf P (rN x0 x1)) (rL x0))) (rC x1 D))) (rM x0 D))
/-- The gradient of the steps' logarithms. -/
def rdT (x2 : FVec Ideal S64 .f32) (u v : FVec Ideal S64x64 .f32) : FVec Ideal S64x1 .f32 :=
  broadcastInDim S64x1 ![0] bcast_S64_S64x1_0 (mulf (Host.reduceAdd (addf (shapeCast _ (Host.reduceAdd u (constant S_ .f32 0x00000000#32) reducesTo_S64x64_S64_d1 h_S_) shapeCasts_S64_S64x1) (shapeCast _ (Host.reduceAdd v (constant S_ .f32 0x00000000#32) reducesTo_S64x64_S64_d1 h_S_) shapeCasts_S64_S64x1)) (constant S_ .f32 0x00000000#32) reducesTo_S64x1_S64_d1 h_S_) (Host.exp x2))
/-- The gradient of the inputs' real parts. -/
def rdB (x0 x1 D : FVec Ideal S64x64 .f32) (U W : FVec Ideal S64x64x16 .f32) : FVec Ideal S1024x64 .f32 :=
  rU (addf (mulf (rB3 (Host.divf (rF x0 x1 D) (rN x0 x1))) W) (mulf (rB3 (Host.divf (rE x0 x1 D) (rN x0 x1))) U))
/-- The gradient of the inputs' imaginary parts. -/
def rdB' (x0 x1 D : FVec Ideal S64x64 .f32) (U W : FVec Ideal S64x64x16 .f32) : FVec Ideal S1024x64 .f32 :=
  rU (addf (mulf (rB3 (Host.divf (rE x0 x1 D) (rN x0 x1))) W) (mulf (rB3 (Host.divf (rF x0 x1 D) (rN x0 x1))) (Host.negf U)))

theorem rdX_at (x0 x1 D Q P x5 x6 : FVec Ideal S64x64 .f32) (i : S64x64.Idx) :
    rdX x0 x1 D Q P x5 x6 i = dX (x0 i) (x1 i) (D i) (Q i) (P i) (x5 i) (x6 i) := rfl
theorem rdY_at (x0 x1 D Q P x5 x6 : FVec Ideal S64x64 .f32) (i : S64x64.Idx) :
    rdY x0 x1 D Q P x5 x6 i = dY (x0 i) (x1 i) (D i) (Q i) (P i) (x5 i) (x6 i) := rfl
theorem rdTY_at (x0 x1 D Q P x5 x6 : FVec Ideal S64x64 .f32) (i : S64x64.Idx) :
    rdTY x0 x1 D Q P x5 x6 i = dTY (x0 i) (x1 i) (D i) (Q i) (P i) (x5 i) (x6 i) := rfl
theorem rdTL_at (x0 x1 D Q P x5 x6 : FVec Ideal S64x64 .f32) (i : S64x64.Idx) :
    rdTL x0 x1 D Q P x5 x6 i = dTL (x0 i) (x1 i) (D i) (Q i) (P i) (x5 i) (x6 i) := rfl
theorem rD_at (x2 : FVec Ideal S64 .f32) (g : Fin 64) (n : Fin 64) : rD x2 (ix2 g n) = Ideal.exp (x2 (ix1 g)) := by
  unfold rD
  pointwise
theorem rT_at (x : FVec Ideal S1024x64 .f32) (g : Fin 64) (n : Fin 64) (c : Fin 16) : rT x (ix3 g n c) = x (ix2 (row g c) n) := by
  unfold rT
  pointwise
  rfl
theorem rSum_at (x : FVec Ideal S64x64x16 .f32) (g : Fin 64) (n : Fin 64) : rSum x (ix2 g n) = ∑ c : Fin 16, x (ix3 g n c) := by
  unfold rSum
  pointwise
  simp
theorem rdT_at (x2 : FVec Ideal S64 .f32) (u v : FVec Ideal S64x64 .f32) (g : Fin 64) :
    rdT x2 u v (ix2 g 0) = ((∑ n, u (ix2 g n)) + ∑ n, v (ix2 g n)) * Ideal.exp (x2 (ix1 g)) := by
  unfold rdT
  pointwise
  simp
theorem rU_at (x : FVec Ideal S64x64x16 .f32) (g : Fin 64) (n : Fin 64) (c : Fin 16) : rU x (ix2 (row g c) n) = x (ix3 g n c) := by
  unfold rU
  pointwise
  have e1 : (⟨(row g c).val / 16, by have := (row g c).isLt; omega⟩ : Fin 64) = g := Fin.ext (by show (g.val * 16 + c.val) / 16 = g.val; omega)
  have e2 : (⟨(row g c).val % 16, by omega⟩ : Fin 16) = c := Fin.ext (by show (g.val * 16 + c.val) % 16 = c.val; omega)
  rw [e1, e2]
theorem rB3_at (x : FVec Ideal S64x64 .f32) (g : Fin 64) (n : Fin 64) (c : Fin 16) : rB3 x (ix3 g n c) = x (ix2 g n) := by
  unfold rB3
  pointwise

/-- The reference leaves the gradients and its arguments unchanged. -/
theorem ref_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v147) = rdX (B m c main_arg0) (B m c main_arg1) (rD (B m c main_arg2)) (rQ (B m c main_arg3) (B m c main_arg4) (rT (B m c main_arg7)) (rT (B m c main_arg8))) (rP (B m c main_arg3) (B m c main_arg4) (rT (B m c main_arg7)) (rT (B m c main_arg8))) (B m c main_arg5) (B m c main_arg6)
      ∧ r.2.mem ((c.tc : Thread nD τ).loc main_v136) = rdY (B m c main_arg0) (B m c main_arg1) (rD (B m c main_arg2)) (rQ (B m c main_arg3) (B m c main_arg4) (rT (B m c main_arg7)) (rT (B m c main_arg8))) (rP (B m c main_arg3) (B m c main_arg4) (rT (B m c main_arg7)) (rT (B m c main_arg8))) (B m c main_arg5) (B m c main_arg6)
      ∧ r.2.mem ((c.tc : Thread nD τ).loc main_v148) = rdT (B m c main_arg2) (rdTY (B m c main_arg0) (B m c main_arg1) (rD (B m c main_arg2)) (rQ (B m c main_arg3) (B m c main_arg4) (rT (B m c main_arg7)) (rT (B m c main_arg8))) (rP (B m c main_arg3) (B m c main_arg4) (rT (B m c main_arg7)) (rT (B m c main_arg8))) (B m c main_arg5) (B m c main_arg6)) (rdTL (B m c main_arg0) (B m c main_arg1) (rD (B m c main_arg2)) (rQ (B m c main_arg3) (B m c main_arg4) (rT (B m c main_arg7)) (rT (B m c main_arg8))) (rP (B m c main_arg3) (B m c main_arg4) (rT (B m c main_arg7)) (rT (B m c main_arg8))) (B m c main_arg5) (B m c main_arg6))
      ∧ r.2.mem ((c.tc : Thread nD τ).loc main_v150) = rdB (B m c main_arg0) (B m c main_arg1) (rD (B m c main_arg2)) (rT (B m c main_arg7)) (rT (B m c main_arg8))
      ∧ r.2.mem ((c.tc : Thread nD τ).loc main_v152) = rdB' (B m c main_arg0) (B m c main_arg1) (rD (B m c main_arg2)) (rT (B m c main_arg7)) (rT (B m c main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans rfl, (h c).2.1.trans rfl, (h c).2.2.1.trans rfl,
    (h c).2.2.2.1.trans rfl, (h c).2.2.2.2.1.trans rfl, (h c).2.2.2.2.2⟩) (Value.run (F := Ideal) m ρ)

end Cert.Prep

end
-- ==== Proof.PrepEq.lean ====
module

public import proofs.«01_k».proof.Proof.PrepValue
public import proofs.«01_k».proof.Proof.PrepRef
public import proofs.«01_k».proof.Proof.Finite

/-! The kernel's gradients of the zero-order hold are the reference's, on real inputs. -/

@[expose] public section

set_option maxRecDepth 16384

noncomputable section

namespace Cert.Prep

open Cert.Kernel8Ideal Cert.Finite Idealize.ShloMosaic Idealize.ShloMosaic.TcCoe

theorem exp_real (r : ℝ) : Ideal.exp (r : EReal) = ((Real.exp r : ℝ) : EReal) := rfl

theorem qOf_real (f3 f4 : S64x64x16.Idx → ℝ) (f7 f8 : S1024x64.Idx → ℝ) (g n : Fin 64) (c : Fin 16) :
    qOf (fun i => (f3 i : EReal)) (fun i => (f4 i : EReal)) (fun i => (f7 i : EReal)) (fun i => (f8 i : EReal)) g n c
      = ((f8 (ix2 (row g c) n) * f3 (ix3 g n c) + -(f7 (ix2 (row g c) n)) * f4 (ix3 g n c) : ℝ) : EReal) := by
  unfold qOf
  rw [← EReal.coe_neg, ← EReal.coe_mul, ← EReal.coe_mul, ← EReal.coe_add]

theorem pOf_real (f3 f4 : S64x64x16.Idx → ℝ) (f7 f8 : S1024x64.Idx → ℝ) (g n : Fin 64) (c : Fin 16) :
    pOf (fun i => (f3 i : EReal)) (fun i => (f4 i : EReal)) (fun i => (f7 i : EReal)) (fun i => (f8 i : EReal)) g n c
      = ((f8 (ix2 (row g c) n) * f4 (ix3 g n c) + f7 (ix2 (row g c) n) * f3 (ix3 g n c) : ℝ) : EReal) := by
  unfold pOf
  rw [← EReal.coe_mul, ← EReal.coe_mul, ← EReal.coe_add]

section Sums

variable (x3 x4 : FVec Ideal S64x64x16 .f32) (x7 x8 : FVec Ideal S1024x64 .f32) (g n : Fin 64)

theorem rQ_at : rQ x3 x4 (rT x7) (rT x8) (ix2 g n) = ∑ c : Fin 16, qOf x3 x4 x7 x8 g n c := by
  show rSum _ (ix2 g n) + rSum _ (ix2 g n) = _
  rw [rSum_at, rSum_at, ← Finset.sum_add_distrib]
  refine Finset.sum_congr rfl fun c _ => ?_
  show rT x8 (ix3 g n c) * x3 (ix3 g n c) + -(rT x7 (ix3 g n c)) * x4 (ix3 g n c) = _
  rw [rT_at, rT_at]
  rfl

theorem rP_at : rP x3 x4 (rT x7) (rT x8) (ix2 g n) = ∑ c : Fin 16, pOf x3 x4 x7 x8 g n c := by
  show rSum _ (ix2 g n) + rSum _ (ix2 g n) = _
  rw [rSum_at, rSum_at, ← Finset.sum_add_distrib]
  refine Finset.sum_congr rfl fun c _ => ?_
  show rT x8 (ix3 g n c) * x4 (ix3 g n c) + rT x7 (ix3 g n c) * x3 (ix3 g n c) = _
  rw [rT_at, rT_at]
  rfl

end Sums

theorem exists_row (i : S1024x64.Idx) : ∃ (g : Fin 64) (c : Fin 16) (n : Fin 64), i = ix2 (row g c) n := by
  obtain ⟨r, n, rfl⟩ : ∃ (r : Fin 1024) (n : Fin 64), i = ix2 r n := exists_ix2 i
  refine ⟨⟨r.val / 16, by omega⟩, ⟨r.val % 16, by omega⟩, n, ?_⟩
  exact congrArg (fun k : Fin 1024 => ix2 k n) (Fin.ext (show r.val = r.val / 16 * 16 + r.val % 16 by omega))

theorem kdX_eq (x0 x1 : FVec Ideal S64x64 .f32) (x2 : FVec Ideal S64 .f32) (x3 x4 : FVec Ideal S64x64x16 .f32) (x5 x6 : FVec Ideal S64x64 .f32) (x7 x8 : FVec Ideal S1024x64 .f32) (h0 : AllReal x0) (h1 : AllReal x1) (h2 : AllReal x2) (h3 : AllReal x3) (h4 : AllReal x4) (h5 : AllReal x5) (h6 : AllReal x6) (h7 : AllReal x7) (h8 : AllReal x8) :
    kdX x0 x1 x2 x3 x4 x5 x6 x7 x8 = rdX x0 x1 (rD x2) (rQ x3 x4 (rT x7) (rT x8)) (rP x3 x4 (rT x7) (rT x8)) x5 x6 := by
  funext i
  obtain ⟨g, n, rfl⟩ : ∃ g n : Fin 64, i = ix2 g n := exists_ix2 i
  rw [kdX_at, rdX_at, rD_at, rQ_at, rP_at]
  obtain ⟨f0, rfl⟩ := h0
  obtain ⟨f1, rfl⟩ := h1
  obtain ⟨f2, rfl⟩ := h2
  obtain ⟨f3, rfl⟩ := h3
  obtain ⟨f4, rfl⟩ := h4
  obtain ⟨f5, rfl⟩ := h5
  obtain ⟨f6, rfl⟩ := h6
  obtain ⟨f7, rfl⟩ := h7
  obtain ⟨f8, rfl⟩ := h8
  simp only [qOf_real, pOf_real, exp_real]
  exact dX_split (f0 (ix2 g n)) (f1 (ix2 g n)) (Real.exp (f2 (ix1 g))) (fun c => f8 (ix2 (row g c) n) * f3 (ix3 g n c) + -(f7 (ix2 (row g c) n)) * f4 (ix3 g n c)) (fun c => f8 (ix2 (row g c) n) * f4 (ix3 g n c) + f7 (ix2 (row g c) n) * f3 (ix3 g n c)) (f5 (ix2 g n)) (f6 (ix2 g n))

theorem kdY_eq (x0 x1 : FVec Ideal S64x64 .f32) (x2 : FVec Ideal S64 .f32) (x3 x4 : FVec Ideal S64x64x16 .f32) (x5 x6 : FVec Ideal S64x64 .f32) (x7 x8 : FVec Ideal S1024x64 .f32) (h0 : AllReal x0) (h1 : AllReal x1) (h2 : AllReal x2) (h3 : AllReal x3) (h4 : AllReal x4) (h5 : AllReal x5) (h6 : AllReal x6) (h7 : AllReal x7) (h8 : AllReal x8) :
    kdY x0 x1 x2 x3 x4 x5 x6 x7 x8 = rdY x0 x1 (rD x2) (rQ x3 x4 (rT x7) (rT x8)) (rP x3 x4 (rT x7) (rT x8)) x5 x6 := by
  funext i
  obtain ⟨g, n, rfl⟩ : ∃ g n : Fin 64, i = ix2 g n := exists_ix2 i
  rw [kdY_at, rdY_at, rD_at, rQ_at, rP_at]
  obtain ⟨f0, rfl⟩ := h0
  obtain ⟨f1, rfl⟩ := h1
  obtain ⟨f2, rfl⟩ := h2
  obtain ⟨f3, rfl⟩ := h3
  obtain ⟨f4, rfl⟩ := h4
  obtain ⟨f5, rfl⟩ := h5
  obtain ⟨f6, rfl⟩ := h6
  obtain ⟨f7, rfl⟩ := h7
  obtain ⟨f8, rfl⟩ := h8
  simp only [qOf_real, pOf_real, exp_real]
  exact dY_split (f0 (ix2 g n)) (f1 (ix2 g n)) (Real.exp (f2 (ix1 g))) (fun c => f8 (ix2 (row g c) n) * f3 (ix3 g n c) + -(f7 (ix2 (row g c) n)) * f4 (ix3 g n c)) (fun c => f8 (ix2 (row g c) n) * f4 (ix3 g n c) + f7 (ix2 (row g c) n) * f3 (ix3 g n c)) (f5 (ix2 g n)) (f6 (ix2 g n))

theorem kdT_eq (x0 x1 : FVec Ideal S64x64 .f32) (x2 : FVec Ideal S64 .f32) (x3 x4 : FVec Ideal S64x64x16 .f32) (x5 x6 : FVec Ideal S64x64 .f32) (x7 x8 : FVec Ideal S1024x64 .f32) (h0 : AllReal x0) (h1 : AllReal x1) (h2 : AllReal x2) (h3 : AllReal x3) (h4 : AllReal x4) (h5 : AllReal x5) (h6 : AllReal x6) (h7 : AllReal x7) (h8 : AllReal x8) :
    kdT x0 x1 x2 x3 x4 x5 x6 x7 x8 = rdT x2 (rdTY x0 x1 (rD x2) (rQ x3 x4 (rT x7) (rT x8)) (rP x3 x4 (rT x7) (rT x8)) x5 x6) (rdTL x0 x1 (rD x2) (rQ x3 x4 (rT x7) (rT x8)) (rP x3 x4 (rT x7) (rT x8)) x5 x6) := by
  funext i
  obtain ⟨g, z, rfl⟩ : ∃ (g : Fin 64) (z : Fin 1), i = ix2 g z := exists_ix2 i
  obtain rfl : z = 0 := Subsingleton.elim _ _
  rw [kdT_at, rdT_at]
  simp only [rdTY_at, rdTL_at, rD_at, rQ_at, rP_at]
  obtain ⟨f0, rfl⟩ := h0
  obtain ⟨f1, rfl⟩ := h1
  obtain ⟨f2, rfl⟩ := h2
  obtain ⟨f3, rfl⟩ := h3
  obtain ⟨f4, rfl⟩ := h4
  obtain ⟨f5, rfl⟩ := h5
  obtain ⟨f6, rfl⟩ := h6
  obtain ⟨f7, rfl⟩ := h7
  obtain ⟨f8, rfl⟩ := h8
  simp only [qOf_real, pOf_real, exp_real]
  have key := fun n : Fin 64 => dT_split (f0 (ix2 g n)) (f1 (ix2 g n)) (Real.exp (f2 (ix1 g))) (fun c => f8 (ix2 (row g c) n) * f3 (ix3 g n c) + -(f7 (ix2 (row g c) n)) * f4 (ix3 g n c)) (fun c => f8 (ix2 (row g c) n) * f4 (ix3 g n c) + f7 (ix2 (row g c) n) * f3 (ix3 g n c)) (f5 (ix2 g n)) (f6 (ix2 g n))
  choose u v hu hv huv using key
  rw [Finset.sum_congr rfl fun n _ => huv n, Finset.sum_congr rfl fun n _ => hu n, Finset.sum_congr rfl fun n _ => hv n]
  rw [← Norm.coe_sum, ← Norm.coe_sum, ← Norm.coe_sum, ← EReal.coe_add, ← EReal.coe_mul, ← Finset.sum_mul, Finset.sum_add_distrib]

theorem kdB_eq (x0 x1 : FVec Ideal S64x64 .f32) (x2 : FVec Ideal S64 .f32) (x3 x4 : FVec Ideal S64x64x16 .f32) (x5 x6 : FVec Ideal S64x64 .f32) (x7 x8 : FVec Ideal S1024x64 .f32) : kdB x0 x1 x2 x3 x4 x5 x6 x7 x8 = rdB x0 x1 (rD x2) (rT x7) (rT x8) := by
  funext i
  obtain ⟨g, c, n, rfl⟩ := exists_row i
  rw [kdB_at]
  unfold rdB
  rw [rU_at]
  show _ = rB3 _ (ix3 g n c) * rT x8 (ix3 g n c) + rB3 _ (ix3 g n c) * rT x7 (ix3 g n c)
  rw [rB3_at, rB3_at, rT_at, rT_at, ← rD_at x2 g n]
  rfl

theorem kdB'_eq (x0 x1 : FVec Ideal S64x64 .f32) (x2 : FVec Ideal S64 .f32) (x3 x4 : FVec Ideal S64x64x16 .f32) (x5 x6 : FVec Ideal S64x64 .f32) (x7 x8 : FVec Ideal S1024x64 .f32) : kdB' x0 x1 x2 x3 x4 x5 x6 x7 x8 = rdB' x0 x1 (rD x2) (rT x7) (rT x8) := by
  funext i
  obtain ⟨g, c, n, rfl⟩ := exists_row i
  rw [kdB'_at]
  unfold rdB'
  rw [rU_at]
  show _ = rB3 _ (ix3 g n c) * rT x8 (ix3 g n c) + rB3 _ (ix3 g n c) * -(rT x7 (ix3 g n c))
  rw [rB3_at, rB3_at, rT_at, rT_at, ← rD_at x2 g n]
  rfl

end Cert.Prep

end
-- ==== Proof.PrepPre.lean ====
module

public import proofs.«01_k».proof.Proof.Finite
public import proofs.«01_k».proof.Proof.Gen.Pre_finite_prep

/-! The zero-order hold's precondition: every input of its backward call holds real numbers. -/

@[expose] public section

set_option maxRecDepth 16384

noncomputable section

namespace Cert.Prep

open Cert.Pre_finite_prep Cert.Finite Idealize.ShloMosaic Idealize.ShloMosaic.TcCoe

theorem finite_prep (x0 x1 : FVec Ideal S64x64 .f32) (x2 : FVec Ideal S64 .f32) (x3 x4 : FVec Ideal S64x64x16 .f32) (x5 x6 : FVec Ideal S64x64 .f32) (x7 x8 : FVec Ideal S1024x64 .f32)
    (h : Cert.Pre_finite_prep.fn (F := Ideal) x0 x1 x2 x3 x4 x5 x6 x7 x8 = fun _ => 1#1) : AllReal x0 ∧ AllReal x1 ∧ AllReal x2 ∧ AllReal x3 ∧ AllReal x4 ∧ AllReal x5 ∧ AllReal x6 ∧ AllReal x7 ∧ AllReal x8 := by
  have h0 := congrFun h (fun k => k.elim0)
  unfold Cert.Pre_finite_prep.fn at h0
  dsimp only at h0
  obtain ⟨h8, t8⟩ := and_one h0
  obtain ⟨h7, t7⟩ := and_one h8
  obtain ⟨h6, t6⟩ := and_one h7
  obtain ⟨h5, t5⟩ := and_one h6
  obtain ⟨h4, t4⟩ := and_one h5
  obtain ⟨h3, t3⟩ := and_one h4
  obtain ⟨h2, t2⟩ := and_one h3
  obtain ⟨t0, t1⟩ := and_one h2
  exact ⟨allReal_of_test (fun _ => rfl) t0, allReal_of_test (fun _ => rfl) t1, allReal_of_test (fun _ => rfl) t2, allReal_of_test (fun _ => rfl) t3, allReal_of_test (fun _ => rfl) t4, allReal_of_test (fun _ => rfl) t5, allReal_of_test (fun _ => rfl) t6, allReal_of_test (fun _ => rfl) t7, allReal_of_test (fun _ => rfl) t8⟩

end Cert.Prep

end
-- ==== Proof.State.lean ====
module

public import proofs.«01_k».proof.Defs
public import proofs.«01_k».proof.Proof.Gen.Kernel8
public import proofs.«01_k».proof.Proof.Gen.Kernel8.Frame
public import proofs.«01_k».proof.Proof.PrepEq
public import proofs.«01_k».proof.Proof.PrepPre
public import Idealize.ShloMosaic.Adequacy
public import Idealize.ShloMosaic.Init

/-! The claims about the gradients of the state space's coefficients. -/

@[expose] public section

noncomputable section

namespace Cert.Proof

open Idealize.ShloMosaic Idealize.SL.Sem Cert.Kernel8

theorem frame_kernel8 : Cert.quiescent_Kernel8 := fun m ρ _ => Cert.Kernel8.Gen.frame m ρ
theorem frame_kernel8Ideal : Cert.quiescent_Kernel8Ideal := fun m ρ _ => Cert.Kernel8Ideal.Gen.frame m ρ
theorem frame_kernel8Ideal_finite : Cert.quiescent_Kernel8Ideal_pre_finite_prep := fun m ρ _ => Cert.Kernel8Ideal.Gen.frame m ρ
theorem frame_reference8 : Cert.quiescent_Reference8Ideal := fun m ρ _ =>
  (θ_run Cert.Reference8Ideal.defs _ _).mono (fun r h => ⟨fun c => (h c).2.2.2.2.2, sem_eq_zero_of_no_sems (by decide) r.2⟩)
    (Cert.Prep.ref_run m ρ)
theorem frame_reference8_finite : Cert.quiescent_Reference8Ideal_pre_finite_prep := fun m ρ _ =>
  (θ_run Cert.Reference8Ideal.defs _ _).mono (fun r h => ⟨fun c => (h c).2.2.2.2.2, sem_eq_zero_of_no_sems (by decide) r.2⟩)
    (Cert.Prep.ref_run m ρ)

/-- The zero-order hold backward: both programs leave the gradients of the rates, the steps and the inputs. -/
theorem state : Cert.algebraic_Kernel8Ideal_Reference8Ideal_pre_finite_prep := fun m ρ m' ρ' hp hag =>
  ⟨fun c => Cert.Prep.kdX (Cert.Prep.A m c Cert.Kernel8Ideal.main_arg0) (Cert.Prep.A m c Cert.Kernel8Ideal.main_arg1) (Cert.Prep.A m c Cert.Kernel8Ideal.main_arg2)
      (Cert.Prep.A m c Cert.Kernel8Ideal.main_arg3) (Cert.Prep.A m c Cert.Kernel8Ideal.main_arg4) (Cert.Prep.A m c Cert.Kernel8Ideal.main_arg5)
      (Cert.Prep.A m c Cert.Kernel8Ideal.main_arg6) (Cert.Prep.A m c Cert.Kernel8Ideal.main_arg7) (Cert.Prep.A m c Cert.Kernel8Ideal.main_arg8),
    fun c => Cert.Prep.kdY (Cert.Prep.A m c Cert.Kernel8Ideal.main_arg0) (Cert.Prep.A m c Cert.Kernel8Ideal.main_arg1) (Cert.Prep.A m c Cert.Kernel8Ideal.main_arg2)
      (Cert.Prep.A m c Cert.Kernel8Ideal.main_arg3) (Cert.Prep.A m c Cert.Kernel8Ideal.main_arg4) (Cert.Prep.A m c Cert.Kernel8Ideal.main_arg5)
      (Cert.Prep.A m c Cert.Kernel8Ideal.main_arg6) (Cert.Prep.A m c Cert.Kernel8Ideal.main_arg7) (Cert.Prep.A m c Cert.Kernel8Ideal.main_arg8),
    fun c => Cert.Prep.kdT (Cert.Prep.A m c Cert.Kernel8Ideal.main_arg0) (Cert.Prep.A m c Cert.Kernel8Ideal.main_arg1) (Cert.Prep.A m c Cert.Kernel8Ideal.main_arg2)
      (Cert.Prep.A m c Cert.Kernel8Ideal.main_arg3) (Cert.Prep.A m c Cert.Kernel8Ideal.main_arg4) (Cert.Prep.A m c Cert.Kernel8Ideal.main_arg5)
      (Cert.Prep.A m c Cert.Kernel8Ideal.main_arg6) (Cert.Prep.A m c Cert.Kernel8Ideal.main_arg7) (Cert.Prep.A m c Cert.Kernel8Ideal.main_arg8),
    fun c => Cert.Prep.kdB (Cert.Prep.A m c Cert.Kernel8Ideal.main_arg0) (Cert.Prep.A m c Cert.Kernel8Ideal.main_arg1) (Cert.Prep.A m c Cert.Kernel8Ideal.main_arg2)
      (Cert.Prep.A m c Cert.Kernel8Ideal.main_arg3) (Cert.Prep.A m c Cert.Kernel8Ideal.main_arg4) (Cert.Prep.A m c Cert.Kernel8Ideal.main_arg5)
      (Cert.Prep.A m c Cert.Kernel8Ideal.main_arg6) (Cert.Prep.A m c Cert.Kernel8Ideal.main_arg7) (Cert.Prep.A m c Cert.Kernel8Ideal.main_arg8),
    fun c => Cert.Prep.kdB' (Cert.Prep.A m c Cert.Kernel8Ideal.main_arg0) (Cert.Prep.A m c Cert.Kernel8Ideal.main_arg1) (Cert.Prep.A m c Cert.Kernel8Ideal.main_arg2)
      (Cert.Prep.A m c Cert.Kernel8Ideal.main_arg3) (Cert.Prep.A m c Cert.Kernel8Ideal.main_arg4) (Cert.Prep.A m c Cert.Kernel8Ideal.main_arg5)
      (Cert.Prep.A m c Cert.Kernel8Ideal.main_arg6) (Cert.Prep.A m c Cert.Kernel8Ideal.main_arg7) (Cert.Prep.A m c Cert.Kernel8Ideal.main_arg8),
    Cert.Prep.kernel_run m ρ,
    (θ_run _ _ _).mono (fun _ h c => ⟨(h c).1.trans (by
      obtain ⟨h0, h1, h2, h3, h4, h5, h6, h7, h8⟩ := Cert.Prep.finite_prep _ _ _ _ _ _ _ _ _ (hp c)
      obtain ⟨e0, e1, e2, e3, e4, e5, e6, e7, e8⟩ := hag c
      simp only [Cert.Prep.B]
      rw [e0, e1, e2, e3, e4, e5, e6, e7, e8]
      exact (Cert.Prep.kdX_eq _ _ _ _ _ _ _ _ _ h0 h1 h2 h3 h4 h5 h6 h7 h8).symm), (h c).2.1.trans (by
      obtain ⟨h0, h1, h2, h3, h4, h5, h6, h7, h8⟩ := Cert.Prep.finite_prep _ _ _ _ _ _ _ _ _ (hp c)
      obtain ⟨e0, e1, e2, e3, e4, e5, e6, e7, e8⟩ := hag c
      simp only [Cert.Prep.B]
      rw [e0, e1, e2, e3, e4, e5, e6, e7, e8]
      exact (Cert.Prep.kdY_eq _ _ _ _ _ _ _ _ _ h0 h1 h2 h3 h4 h5 h6 h7 h8).symm), (h c).2.2.1.trans (by
      obtain ⟨h0, h1, h2, h3, h4, h5, h6, h7, h8⟩ := Cert.Prep.finite_prep _ _ _ _ _ _ _ _ _ (hp c)
      obtain ⟨e0, e1, e2, e3, e4, e5, e6, e7, e8⟩ := hag c
      simp only [Cert.Prep.B]
      rw [e0, e1, e2, e3, e4, e5, e6, e7, e8]
      exact (Cert.Prep.kdT_eq _ _ _ _ _ _ _ _ _ h0 h1 h2 h3 h4 h5 h6 h7 h8).symm), (h c).2.2.2.1.trans (by
      obtain ⟨e0, e1, e2, e3, e4, e5, e6, e7, e8⟩ := hag c
      simp only [Cert.Prep.B]
      rw [e0, e1, e2, e7, e8]
      exact (Cert.Prep.kdB_eq _ _ _ _ _ _ _ _ _).symm), (h c).2.2.2.2.1.trans (by
      obtain ⟨e0, e1, e2, e3, e4, e5, e6, e7, e8⟩ := hag c
      simp only [Cert.Prep.B]
      rw [e0, e1, e2, e7, e8]
      exact (Cert.Prep.kdB'_eq _ _ _ _ _ _ _ _ _).symm), (h c).2.2.2.2.2⟩) (Cert.Prep.ref_run m' ρ')⟩

end Cert.Proof

end
-- ==== Proof.AdamMath.lean ====
module

public import Idealize.ShloMosaic.PureOps.Ideal
public import Idealize.ShloMosaic.Lib.Pointwise

/-! The step of AdamW on one array: the new first moment, the new second moment and the update. -/

@[expose] public section

set_option maxRecDepth 16384

noncomputable section

namespace Cert.Adam

open Idealize.ShloMosaic

variable {s : Shape}

/-- The constant an f32 word stands for. -/
abbrev lit (b : BitVec 32) : EReal := (Scalar.ofBits .f32 b : Ideal .f32)

/-- One element's new first moment, from its gradient and its old moment. -/
def mCell (g m : EReal) : EReal := lit 0x3F666666#32 * m + lit 0x3DCCCCCD#32 * g

/-- One element's new second moment. -/
def vCell (g v : EReal) : EReal := lit 0x3F7FBE77#32 * v + lit 0x3A83126F#32 * (g * g)

/-- One element's update: the corrected moments' quotient and the weight decay, times the negated rate. -/
def dCell (w g m v : EReal) : EReal :=
  lit 0xBA83126F#32 * (Ideal.div (Ideal.div (mCell g m) (lit 0x3F26BD02#32))
    (Ideal.sqrt (Ideal.div (vCell g v) (lit 0x3C231ACC#32)) + lit 0x322BCC77#32) + lit 0x3C23D70A#32 * w)

def newM (g m : FVec Ideal s .f32) : FVec Ideal s .f32 := fun i => mCell (g i) (m i)
def newV (g v : FVec Ideal s .f32) : FVec Ideal s .f32 := fun i => vCell (g i) (v i)
def delta (w g m v : FVec Ideal s .f32) : FVec Ideal s .f32 := fun i => dCell (w i) (g i) (m i) (v i)

end Cert.Adam

end
-- ==== Proof.AdamKernel.lean ====
module

public import proofs.«01_k».proof.Proof.Gen.Kernel9Ideal.Frame
public import proofs.«01_k».proof.Proof.Products
public import proofs.«01_k».proof.Proof.AdamMath
public import Idealize.ShloMosaic.Lib.Pipeline.ValueKit
public import Idealize.ShloMosaic.Lib.Pipeline.ReadBack
public import Idealize.ShloMosaic.Lib.Pointwise

/-! What each call of the optimiser leaves in its three results, from the arrays it finds. -/

@[expose] public section

set_option maxRecDepth 16384

noncomputable section

namespace Cert.Adam

open Cert.Kernel9Ideal Cert.Kernel9Ideal.Gen Cert.Products Idealize.ShloMosaic Idealize.ShloMosaic.TcCoe Idealize.SL.Sem

variable (V : (c : Dev nD) → (b : Ref sig .tc) → Buf (Elt Ideal) ((c : Thread nD τ).loc b)) (c : Dev nD)

/-! ## Call 0 -/

section

variable (t : Fin cfg0.N) (ht : t.val < 8) (r : Fin 256) (k : Fin 1024) (x0 x1 x2 x3 : Vec Ideal S256x1024 .f32)

theorem idx0 : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] := by decide +kernel

theorem blk0_0 : iblk0 V c 0 t (ix2 r k)
    = V c main_arg0 (ix2 (⟨t.val * 256 + r.val, by omega⟩ : Fin 2048) k) := by
  blk_ext [iblk0, (idx0 t).1]

theorem blk0_1 : iblk0 V c 1 t (ix2 r k)
    = V c main_arg1 (ix2 (⟨t.val * 256 + r.val, by omega⟩ : Fin 2048) k) := by
  blk_ext [iblk0, (idx0 t).2.1]

theorem blk0_2 : iblk0 V c 2 t (ix2 r k)
    = V c main_arg2 (ix2 (⟨t.val * 256 + r.val, by omega⟩ : Fin 2048) k) := by
  blk_ext [iblk0, (idx0 t).2.2.1]

theorem blk0_3 : iblk0 V c 3 t (ix2 r k)
    = V c main_arg3 (ix2 (⟨t.val * 256 + r.val, by omega⟩ : Fin 2048) k) := by
  blk_ext [iblk0, (idx0 t).2.2.2.1]

theorem out0_4_eq :
    out0_4 (F := Ideal) x0 x1 x2 x3 (ix2 r k) = dCell (x0 (ix2 r k)) (x1 (ix2 r k)) (x2 (ix2 r k)) (x3 (ix2 r k)) := by
  unfold out0_4
  rw [View.canon_unit_zero (by decide)]
  unfold k0_pay3 k0_pay1 k0_pay2
  rw [View.ld_unit_zero (by decide) _ x1, View.ld_unit_zero (by decide) _ x2, View.ld_unit_zero (by decide) _ x3, View.ld_unit_zero (by decide) _ x0]
  rfl

theorem val0_4 :
    out0_4 (F := Ideal) (iblk0 V c 0 t) (iblk0 V c 1 t) (iblk0 V c 2 t) (iblk0 V c 3 t) (ix2 r k)
    = (delta (V c main_arg0) (V c main_arg1) (V c main_arg2) (V c main_arg3)) (ix2 (⟨t.val * 256 + r.val, by omega⟩ : Fin 2048) k) := by
  rw [out0_4_eq]
  simp only [blk0_0 V c t ht, blk0_1 V c t ht, blk0_2 V c t ht, blk0_3 V c t ht]
  rfl

theorem emb0_4 : ((cfg0.win 4).blk t).view.emb (ix2 r k)
    = (ix2 (⟨t.val * 256 + r.val, by omega⟩ : Fin 2048) k) := by
  blk_ext [(idx0 t).2.2.2.2.1]

theorem arr0_4 : (dat0 V c).arrAt 4 cfg0.N = delta (V c main_arg0) (V c main_arg1) (V c main_arg2) (V c main_arg3) := by
  refine (dat0 V c).arrAt_eq_of_covers 4 _ (by decide +kernel) fun t hf y => ?_
  obtain ⟨r, k, e⟩ : ∃ (r : Fin 256) (k : Fin 1024), (win0 4).xinj (grid0.coords t) y = ix2 r k := exists_ix2 _
  have ht : t.val < 8 := t.isLt
  have e' : y = ix2 r k := e
  rw [after0_4, e]
  subst e'
  rw [val0_4 V c t ht, ← emb0_4 t ht]
  rfl

theorem out0_5_eq :
    out0_5 (F := Ideal) x0 x1 x2 x3 (ix2 r k) = mCell (x1 (ix2 r k)) (x2 (ix2 r k)) := by
  unfold out0_5
  rw [View.canon_unit_zero (by decide)]
  unfold k0_pay1
  rw [View.ld_unit_zero (by decide) _ x1, View.ld_unit_zero (by decide) _ x2]
  rfl

theorem val0_5 :
    out0_5 (F := Ideal) (iblk0 V c 0 t) (iblk0 V c 1 t) (iblk0 V c 2 t) (iblk0 V c 3 t) (ix2 r k)
    = (newM (V c main_arg1) (V c main_arg2)) (ix2 (⟨t.val * 256 + r.val, by omega⟩ : Fin 2048) k) := by
  rw [out0_5_eq]
  simp only [blk0_1 V c t ht, blk0_2 V c t ht]
  rfl

theorem emb0_5 : ((cfg0.win 5).blk t).view.emb (ix2 r k)
    = (ix2 (⟨t.val * 256 + r.val, by omega⟩ : Fin 2048) k) := by
  blk_ext [(idx0 t).2.2.2.2.2.1]

theorem arr0_5 : (dat0 V c).arrAt 5 cfg0.N = newM (V c main_arg1) (V c main_arg2) := by
  refine (dat0 V c).arrAt_eq_of_covers 5 _ (by decide +kernel) fun t hf y => ?_
  obtain ⟨r, k, e⟩ : ∃ (r : Fin 256) (k : Fin 1024), (win0 5).xinj (grid0.coords t) y = ix2 r k := exists_ix2 _
  have ht : t.val < 8 := t.isLt
  have e' : y = ix2 r k := e
  rw [after0_5, e]
  subst e'
  rw [val0_5 V c t ht, ← emb0_5 t ht]
  rfl

theorem out0_6_eq :
    out0_6 (F := Ideal) x0 x1 x2 x3 (ix2 r k) = vCell (x1 (ix2 r k)) (x3 (ix2 r k)) := by
  unfold out0_6
  rw [View.canon_unit_zero (by decide)]
  unfold k0_pay2
  rw [View.ld_unit_zero (by decide) _ x1, View.ld_unit_zero (by decide) _ x3]
  rfl

theorem val0_6 :
    out0_6 (F := Ideal) (iblk0 V c 0 t) (iblk0 V c 1 t) (iblk0 V c 2 t) (iblk0 V c 3 t) (ix2 r k)
    = (newV (V c main_arg1) (V c main_arg3)) (ix2 (⟨t.val * 256 + r.val, by omega⟩ : Fin 2048) k) := by
  rw [out0_6_eq]
  simp only [blk0_1 V c t ht, blk0_3 V c t ht]
  rfl

theorem emb0_6 : ((cfg0.win 6).blk t).view.emb (ix2 r k)
    = (ix2 (⟨t.val * 256 + r.val, by omega⟩ : Fin 2048) k) := by
  blk_ext [(idx0 t).2.2.2.2.2.2]

theorem arr0_6 : (dat0 V c).arrAt 6 cfg0.N = newV (V c main_arg1) (V c main_arg3) := by
  refine (dat0 V c).arrAt_eq_of_covers 6 _ (by decide +kernel) fun t hf y => ?_
  obtain ⟨r, k, e⟩ : ∃ (r : Fin 256) (k : Fin 1024), (win0 6).xinj (grid0.coords t) y = ix2 r k := exists_ix2 _
  have ht : t.val < 8 := t.isLt
  have e' : y = ix2 r k := e
  rw [after0_6, e]
  subst e'
  rw [val0_6 V c t ht, ← emb0_6 t ht]
  rfl

end

/-! ## Call 1 -/

section

variable (t : Fin cfg1.N) (ht : t.val < 1) (r : Fin 256) (k : Fin 256) (x0 x1 x2 x3 : Vec Ideal S256x256 .f32)

theorem idx1 : ∀ t : Fin grid1.N, win1_0.index t = ![t.val, 0] ∧ win1_1.index t = ![t.val, 0] ∧ win1_2.index t = ![t.val, 0] ∧ win1_3.index t = ![t.val, 0] ∧ win1_4.index t = ![t.val, 0] ∧ win1_5.index t = ![t.val, 0] ∧ win1_6.index t = ![t.val, 0] := by decide +kernel

theorem blk1_0 : iblk1 V c 0 t (ix2 r k)
    = V c main_arg4 (ix2 (⟨t.val * 256 + r.val, by omega⟩ : Fin 256) k) := by
  blk_ext [iblk1, (idx1 t).1]

theorem blk1_1 : iblk1 V c 1 t (ix2 r k)
    = V c main_arg5 (ix2 (⟨t.val * 256 + r.val, by omega⟩ : Fin 256) k) := by
  blk_ext [iblk1, (idx1 t).2.1]

theorem blk1_2 : iblk1 V c 2 t (ix2 r k)
    = V c main_arg6 (ix2 (⟨t.val * 256 + r.val, by omega⟩ : Fin 256) k) := by
  blk_ext [iblk1, (idx1 t).2.2.1]

theorem blk1_3 : iblk1 V c 3 t (ix2 r k)
    = V c main_arg7 (ix2 (⟨t.val * 256 + r.val, by omega⟩ : Fin 256) k) := by
  blk_ext [iblk1, (idx1 t).2.2.2.1]

theorem out1_4_eq :
    out1_4 (F := Ideal) x0 x1 x2 x3 (ix2 r k) = dCell (x0 (ix2 r k)) (x1 (ix2 r k)) (x2 (ix2 r k)) (x3 (ix2 r k)) := by
  unfold out1_4
  rw [View.canon_unit_zero (by decide)]
  unfold k1_pay3 k1_pay1 k1_pay2
  rw [View.ld_unit_zero (by decide) _ x1, View.ld_unit_zero (by decide) _ x2, View.ld_unit_zero (by decide) _ x3, View.ld_unit_zero (by decide) _ x0]
  rfl

theorem val1_4 :
    out1_4 (F := Ideal) (iblk1 V c 0 t) (iblk1 V c 1 t) (iblk1 V c 2 t) (iblk1 V c 3 t) (ix2 r k)
    = (delta (V c main_arg4) (V c main_arg5) (V c main_arg6) (V c main_arg7)) (ix2 (⟨t.val * 256 + r.val, by omega⟩ : Fin 256) k) := by
  rw [out1_4_eq]
  simp only [blk1_0 V c t ht, blk1_1 V c t ht, blk1_2 V c t ht, blk1_3 V c t ht]
  rfl

theorem emb1_4 : ((cfg1.win 4).blk t).view.emb (ix2 r k)
    = (ix2 (⟨t.val * 256 + r.val, by omega⟩ : Fin 256) k) := by
  blk_ext [(idx1 t).2.2.2.2.1]

theorem arr1_4 : (dat1 V c).arrAt 4 cfg1.N = delta (V c main_arg4) (V c main_arg5) (V c main_arg6) (V c main_arg7) := by
  refine (dat1 V c).arrAt_eq_of_covers 4 _ (by decide +kernel) fun t hf y => ?_
  obtain ⟨r, k, e⟩ : ∃ (r : Fin 256) (k : Fin 256), (win1 4).xinj (grid1.coords t) y = ix2 r k := exists_ix2 _
  have ht : t.val < 1 := t.isLt
  have e' : y = ix2 r k := e
  rw [after1_4, e]
  subst e'
  rw [val1_4 V c t ht, ← emb1_4 t ht]
  rfl

theorem out1_5_eq :
    out1_5 (F := Ideal) x0 x1 x2 x3 (ix2 r k) = mCell (x1 (ix2 r k)) (x2 (ix2 r k)) := by
  unfold out1_5
  rw [View.canon_unit_zero (by decide)]
  unfold k1_pay1
  rw [View.ld_unit_zero (by decide) _ x1, View.ld_unit_zero (by decide) _ x2]
  rfl

theorem val1_5 :
    out1_5 (F := Ideal) (iblk1 V c 0 t) (iblk1 V c 1 t) (iblk1 V c 2 t) (iblk1 V c 3 t) (ix2 r k)
    = (newM (V c main_arg5) (V c main_arg6)) (ix2 (⟨t.val * 256 + r.val, by omega⟩ : Fin 256) k) := by
  rw [out1_5_eq]
  simp only [blk1_1 V c t ht, blk1_2 V c t ht]
  rfl

theorem emb1_5 : ((cfg1.win 5).blk t).view.emb (ix2 r k)
    = (ix2 (⟨t.val * 256 + r.val, by omega⟩ : Fin 256) k) := by
  blk_ext [(idx1 t).2.2.2.2.2.1]

theorem arr1_5 : (dat1 V c).arrAt 5 cfg1.N = newM (V c main_arg5) (V c main_arg6) := by
  refine (dat1 V c).arrAt_eq_of_covers 5 _ (by decide +kernel) fun t hf y => ?_
  obtain ⟨r, k, e⟩ : ∃ (r : Fin 256) (k : Fin 256), (win1 5).xinj (grid1.coords t) y = ix2 r k := exists_ix2 _
  have ht : t.val < 1 := t.isLt
  have e' : y = ix2 r k := e
  rw [after1_5, e]
  subst e'
  rw [val1_5 V c t ht, ← emb1_5 t ht]
  rfl

theorem out1_6_eq :
    out1_6 (F := Ideal) x0 x1 x2 x3 (ix2 r k) = vCell (x1 (ix2 r k)) (x3 (ix2 r k)) := by
  unfold out1_6
  rw [View.canon_unit_zero (by decide)]
  unfold k1_pay2
  rw [View.ld_unit_zero (by decide) _ x1, View.ld_unit_zero (by decide) _ x3]
  rfl

theorem val1_6 :
    out1_6 (F := Ideal) (iblk1 V c 0 t) (iblk1 V c 1 t) (iblk1 V c 2 t) (iblk1 V c 3 t) (ix2 r k)
    = (newV (V c main_arg5) (V c main_arg7)) (ix2 (⟨t.val * 256 + r.val, by omega⟩ : Fin 256) k) := by
  rw [out1_6_eq]
  simp only [blk1_1 V c t ht, blk1_3 V c t ht]
  rfl

theorem emb1_6 : ((cfg1.win 6).blk t).view.emb (ix2 r k)
    = (ix2 (⟨t.val * 256 + r.val, by omega⟩ : Fin 256) k) := by
  blk_ext [(idx1 t).2.2.2.2.2.2]

theorem arr1_6 : (dat1 V c).arrAt 6 cfg1.N = newV (V c main_arg5) (V c main_arg7) := by
  refine (dat1 V c).arrAt_eq_of_covers 6 _ (by decide +kernel) fun t hf y => ?_
  obtain ⟨r, k, e⟩ : ∃ (r : Fin 256) (k : Fin 256), (win1 6).xinj (grid1.coords t) y = ix2 r k := exists_ix2 _
  have ht : t.val < 1 := t.isLt
  have e' : y = ix2 r k := e
  rw [after1_6, e]
  subst e'
  rw [val1_6 V c t ht, ← emb1_6 t ht]
  rfl

end

/-! ## Call 2 -/

section

variable (t : Fin cfg2.N) (ht : t.val < 4) (r : Fin 256) (k : Fin 512) (x0 x1 x2 x3 : Vec Ideal S256x512 .f32)

theorem idx2 : ∀ t : Fin grid2.N, win2_0.index t = ![t.val, 0] ∧ win2_1.index t = ![t.val, 0] ∧ win2_2.index t = ![t.val, 0] ∧ win2_3.index t = ![t.val, 0] ∧ win2_4.index t = ![t.val, 0] ∧ win2_5.index t = ![t.val, 0] ∧ win2_6.index t = ![t.val, 0] := by decide +kernel

theorem blk2_0 : iblk2 V c 0 t (ix2 r k)
    = V c main_arg8 (ix2 (⟨t.val * 256 + r.val, by omega⟩ : Fin 1024) k) := by
  blk_ext [iblk2, (idx2 t).1]

theorem blk2_1 : iblk2 V c 1 t (ix2 r k)
    = V c main_arg9 (ix2 (⟨t.val * 256 + r.val, by omega⟩ : Fin 1024) k) := by
  blk_ext [iblk2, (idx2 t).2.1]

theorem blk2_2 : iblk2 V c 2 t (ix2 r k)
    = V c main_arg10 (ix2 (⟨t.val * 256 + r.val, by omega⟩ : Fin 1024) k) := by
  blk_ext [iblk2, (idx2 t).2.2.1]

theorem blk2_3 : iblk2 V c 3 t (ix2 r k)
    = V c main_arg11 (ix2 (⟨t.val * 256 + r.val, by omega⟩ : Fin 1024) k) := by
  blk_ext [iblk2, (idx2 t).2.2.2.1]

theorem out2_4_eq :
    out2_4 (F := Ideal) x0 x1 x2 x3 (ix2 r k) = dCell (x0 (ix2 r k)) (x1 (ix2 r k)) (x2 (ix2 r k)) (x3 (ix2 r k)) := by
  unfold out2_4
  rw [View.canon_unit_zero (by decide)]
  unfold k2_pay3 k2_pay1 k2_pay2
  rw [View.ld_unit_zero (by decide) _ x1, View.ld_unit_zero (by decide) _ x2, View.ld_unit_zero (by decide) _ x3, View.ld_unit_zero (by decide) _ x0]
  rfl

theorem val2_4 :
    out2_4 (F := Ideal) (iblk2 V c 0 t) (iblk2 V c 1 t) (iblk2 V c 2 t) (iblk2 V c 3 t) (ix2 r k)
    = (delta (V c main_arg8) (V c main_arg9) (V c main_arg10) (V c main_arg11)) (ix2 (⟨t.val * 256 + r.val, by omega⟩ : Fin 1024) k) := by
  rw [out2_4_eq]
  simp only [blk2_0 V c t ht, blk2_1 V c t ht, blk2_2 V c t ht, blk2_3 V c t ht]
  rfl

theorem emb2_4 : ((cfg2.win 4).blk t).view.emb (ix2 r k)
    = (ix2 (⟨t.val * 256 + r.val, by omega⟩ : Fin 1024) k) := by
  blk_ext [(idx2 t).2.2.2.2.1]

theorem arr2_4 : (dat2 V c).arrAt 4 cfg2.N = delta (V c main_arg8) (V c main_arg9) (V c main_arg10) (V c main_arg11) := by
  refine (dat2 V c).arrAt_eq_of_covers 4 _ (by decide +kernel) fun t hf y => ?_
  obtain ⟨r, k, e⟩ : ∃ (r : Fin 256) (k : Fin 512), (win2 4).xinj (grid2.coords t) y = ix2 r k := exists_ix2 _
  have ht : t.val < 4 := t.isLt
  have e' : y = ix2 r k := e
  rw [after2_4, e]
  subst e'
  rw [val2_4 V c t ht, ← emb2_4 t ht]
  rfl

theorem out2_5_eq :
    out2_5 (F := Ideal) x0 x1 x2 x3 (ix2 r k) = mCell (x1 (ix2 r k)) (x2 (ix2 r k)) := by
  unfold out2_5
  rw [View.canon_unit_zero (by decide)]
  unfold k2_pay1
  rw [View.ld_unit_zero (by decide) _ x1, View.ld_unit_zero (by decide) _ x2]
  rfl

theorem val2_5 :
    out2_5 (F := Ideal) (iblk2 V c 0 t) (iblk2 V c 1 t) (iblk2 V c 2 t) (iblk2 V c 3 t) (ix2 r k)
    = (newM (V c main_arg9) (V c main_arg10)) (ix2 (⟨t.val * 256 + r.val, by omega⟩ : Fin 1024) k) := by
  rw [out2_5_eq]
  simp only [blk2_1 V c t ht, blk2_2 V c t ht]
  rfl

theorem emb2_5 : ((cfg2.win 5).blk t).view.emb (ix2 r k)
    = (ix2 (⟨t.val * 256 + r.val, by omega⟩ : Fin 1024) k) := by
  blk_ext [(idx2 t).2.2.2.2.2.1]

theorem arr2_5 : (dat2 V c).arrAt 5 cfg2.N = newM (V c main_arg9) (V c main_arg10) := by
  refine (dat2 V c).arrAt_eq_of_covers 5 _ (by decide +kernel) fun t hf y => ?_
  obtain ⟨r, k, e⟩ : ∃ (r : Fin 256) (k : Fin 512), (win2 5).xinj (grid2.coords t) y = ix2 r k := exists_ix2 _
  have ht : t.val < 4 := t.isLt
  have e' : y = ix2 r k := e
  rw [after2_5, e]
  subst e'
  rw [val2_5 V c t ht, ← emb2_5 t ht]
  rfl

theorem out2_6_eq :
    out2_6 (F := Ideal) x0 x1 x2 x3 (ix2 r k) = vCell (x1 (ix2 r k)) (x3 (ix2 r k)) := by
  unfold out2_6
  rw [View.canon_unit_zero (by decide)]
  unfold k2_pay2
  rw [View.ld_unit_zero (by decide) _ x1, View.ld_unit_zero (by decide) _ x3]
  rfl

theorem val2_6 :
    out2_6 (F := Ideal) (iblk2 V c 0 t) (iblk2 V c 1 t) (iblk2 V c 2 t) (iblk2 V c 3 t) (ix2 r k)
    = (newV (V c main_arg9) (V c main_arg11)) (ix2 (⟨t.val * 256 + r.val, by omega⟩ : Fin 1024) k) := by
  rw [out2_6_eq]
  simp only [blk2_1 V c t ht, blk2_3 V c t ht]
  rfl

theorem emb2_6 : ((cfg2.win 6).blk t).view.emb (ix2 r k)
    = (ix2 (⟨t.val * 256 + r.val, by omega⟩ : Fin 1024) k) := by
  blk_ext [(idx2 t).2.2.2.2.2.2]

theorem arr2_6 : (dat2 V c).arrAt 6 cfg2.N = newV (V c main_arg9) (V c main_arg11) := by
  refine (dat2 V c).arrAt_eq_of_covers 6 _ (by decide +kernel) fun t hf y => ?_
  obtain ⟨r, k, e⟩ : ∃ (r : Fin 256) (k : Fin 512), (win2 6).xinj (grid2.coords t) y = ix2 r k := exists_ix2 _
  have ht : t.val < 4 := t.isLt
  have e' : y = ix2 r k := e
  rw [after2_6, e]
  subst e'
  rw [val2_6 V c t ht, ← emb2_6 t ht]
  rfl

end

/-! ## Call 3 -/

section

variable (t : Fin cfg3.N) (ht : t.val < 2) (r : Fin 256) (k : Fin 2048) (x0 x1 x2 x3 : Vec Ideal S256x2048 .f32)

theorem idx3 : ∀ t : Fin grid3.N, win3_0.index t = ![t.val, 0] ∧ win3_1.index t = ![t.val, 0] ∧ win3_2.index t = ![t.val, 0] ∧ win3_3.index t = ![t.val, 0] ∧ win3_4.index t = ![t.val, 0] ∧ win3_5.index t = ![t.val, 0] ∧ win3_6.index t = ![t.val, 0] := by decide +kernel

theorem blk3_0 : iblk3 V c 0 t (ix2 r k)
    = V c main_arg12 (ix2 (⟨t.val * 256 + r.val, by omega⟩ : Fin 512) k) := by
  blk_ext [iblk3, (idx3 t).1]

theorem blk3_1 : iblk3 V c 1 t (ix2 r k)
    = V c main_arg13 (ix2 (⟨t.val * 256 + r.val, by omega⟩ : Fin 512) k) := by
  blk_ext [iblk3, (idx3 t).2.1]

theorem blk3_2 : iblk3 V c 2 t (ix2 r k)
    = V c main_arg14 (ix2 (⟨t.val * 256 + r.val, by omega⟩ : Fin 512) k) := by
  blk_ext [iblk3, (idx3 t).2.2.1]

theorem blk3_3 : iblk3 V c 3 t (ix2 r k)
    = V c main_arg15 (ix2 (⟨t.val * 256 + r.val, by omega⟩ : Fin 512) k) := by
  blk_ext [iblk3, (idx3 t).2.2.2.1]

theorem out3_4_eq :
    out3_4 (F := Ideal) x0 x1 x2 x3 (ix2 r k) = dCell (x0 (ix2 r k)) (x1 (ix2 r k)) (x2 (ix2 r k)) (x3 (ix2 r k)) := by
  unfold out3_4
  rw [View.canon_unit_zero (by decide)]
  unfold k3_pay3 k3_pay1 k3_pay2
  rw [View.ld_unit_zero (by decide) _ x1, View.ld_unit_zero (by decide) _ x2, View.ld_unit_zero (by decide) _ x3, View.ld_unit_zero (by decide) _ x0]
  rfl

theorem val3_4 :
    out3_4 (F := Ideal) (iblk3 V c 0 t) (iblk3 V c 1 t) (iblk3 V c 2 t) (iblk3 V c 3 t) (ix2 r k)
    = (delta (V c main_arg12) (V c main_arg13) (V c main_arg14) (V c main_arg15)) (ix2 (⟨t.val * 256 + r.val, by omega⟩ : Fin 512) k) := by
  rw [out3_4_eq]
  simp only [blk3_0 V c t ht, blk3_1 V c t ht, blk3_2 V c t ht, blk3_3 V c t ht]
  rfl

theorem emb3_4 : ((cfg3.win 4).blk t).view.emb (ix2 r k)
    = (ix2 (⟨t.val * 256 + r.val, by omega⟩ : Fin 512) k) := by
  blk_ext [(idx3 t).2.2.2.2.1]

theorem arr3_4 : (dat3 V c).arrAt 4 cfg3.N = delta (V c main_arg12) (V c main_arg13) (V c main_arg14) (V c main_arg15) := by
  refine (dat3 V c).arrAt_eq_of_covers 4 _ (by decide +kernel) fun t hf y => ?_
  obtain ⟨r, k, e⟩ : ∃ (r : Fin 256) (k : Fin 2048), (win3 4).xinj (grid3.coords t) y = ix2 r k := exists_ix2 _
  have ht : t.val < 2 := t.isLt
  have e' : y = ix2 r k := e
  rw [after3_4, e]
  subst e'
  rw [val3_4 V c t ht, ← emb3_4 t ht]
  rfl

theorem out3_5_eq :
    out3_5 (F := Ideal) x0 x1 x2 x3 (ix2 r k) = mCell (x1 (ix2 r k)) (x2 (ix2 r k)) := by
  unfold out3_5
  rw [View.canon_unit_zero (by decide)]
  unfold k3_pay1
  rw [View.ld_unit_zero (by decide) _ x1, View.ld_unit_zero (by decide) _ x2]
  rfl

theorem val3_5 :
    out3_5 (F := Ideal) (iblk3 V c 0 t) (iblk3 V c 1 t) (iblk3 V c 2 t) (iblk3 V c 3 t) (ix2 r k)
    = (newM (V c main_arg13) (V c main_arg14)) (ix2 (⟨t.val * 256 + r.val, by omega⟩ : Fin 512) k) := by
  rw [out3_5_eq]
  simp only [blk3_1 V c t ht, blk3_2 V c t ht]
  rfl

theorem emb3_5 : ((cfg3.win 5).blk t).view.emb (ix2 r k)
    = (ix2 (⟨t.val * 256 + r.val, by omega⟩ : Fin 512) k) := by
  blk_ext [(idx3 t).2.2.2.2.2.1]

theorem arr3_5 : (dat3 V c).arrAt 5 cfg3.N = newM (V c main_arg13) (V c main_arg14) := by
  refine (dat3 V c).arrAt_eq_of_covers 5 _ (by decide +kernel) fun t hf y => ?_
  obtain ⟨r, k, e⟩ : ∃ (r : Fin 256) (k : Fin 2048), (win3 5).xinj (grid3.coords t) y = ix2 r k := exists_ix2 _
  have ht : t.val < 2 := t.isLt
  have e' : y = ix2 r k := e
  rw [after3_5, e]
  subst e'
  rw [val3_5 V c t ht, ← emb3_5 t ht]
  rfl

theorem out3_6_eq :
    out3_6 (F := Ideal) x0 x1 x2 x3 (ix2 r k) = vCell (x1 (ix2 r k)) (x3 (ix2 r k)) := by
  unfold out3_6
  rw [View.canon_unit_zero (by decide)]
  unfold k3_pay2
  rw [View.ld_unit_zero (by decide) _ x1, View.ld_unit_zero (by decide) _ x3]
  rfl

theorem val3_6 :
    out3_6 (F := Ideal) (iblk3 V c 0 t) (iblk3 V c 1 t) (iblk3 V c 2 t) (iblk3 V c 3 t) (ix2 r k)
    = (newV (V c main_arg13) (V c main_arg15)) (ix2 (⟨t.val * 256 + r.val, by omega⟩ : Fin 512) k) := by
  rw [out3_6_eq]
  simp only [blk3_1 V c t ht, blk3_3 V c t ht]
  rfl

theorem emb3_6 : ((cfg3.win 6).blk t).view.emb (ix2 r k)
    = (ix2 (⟨t.val * 256 + r.val, by omega⟩ : Fin 512) k) := by
  blk_ext [(idx3 t).2.2.2.2.2.2]

theorem arr3_6 : (dat3 V c).arrAt 6 cfg3.N = newV (V c main_arg13) (V c main_arg15) := by
  refine (dat3 V c).arrAt_eq_of_covers 6 _ (by decide +kernel) fun t hf y => ?_
  obtain ⟨r, k, e⟩ : ∃ (r : Fin 256) (k : Fin 2048), (win3 6).xinj (grid3.coords t) y = ix2 r k := exists_ix2 _
  have ht : t.val < 2 := t.isLt
  have e' : y = ix2 r k := e
  rw [after3_6, e]
  subst e'
  rw [val3_6 V c t ht, ← emb3_6 t ht]
  rfl

end

/-! ## Call 4 -/

section

variable (t : Fin cfg4.N) (ht : t.val < 1) (r : Fin 256) (k : Fin 512) (x0 x1 x2 x3 : Vec Ideal S256x512 .f32)

theorem idx4 : ∀ t : Fin grid4.N, win4_0.index t = ![t.val, 0] ∧ win4_1.index t = ![t.val, 0] ∧ win4_2.index t = ![t.val, 0] ∧ win4_3.index t = ![t.val, 0] ∧ win4_4.index t = ![t.val, 0] ∧ win4_5.index t = ![t.val, 0] ∧ win4_6.index t = ![t.val, 0] := by decide +kernel

theorem blk4_0 : iblk4 V c 0 t (ix2 r k)
    = V c main_arg16 (ix2 (⟨t.val * 256 + r.val, by omega⟩ : Fin 256) k) := by
  blk_ext [iblk4, (idx4 t).1]

theorem blk4_1 : iblk4 V c 1 t (ix2 r k)
    = V c main_arg17 (ix2 (⟨t.val * 256 + r.val, by omega⟩ : Fin 256) k) := by
  blk_ext [iblk4, (idx4 t).2.1]

theorem blk4_2 : iblk4 V c 2 t (ix2 r k)
    = V c main_arg18 (ix2 (⟨t.val * 256 + r.val, by omega⟩ : Fin 256) k) := by
  blk_ext [iblk4, (idx4 t).2.2.1]

theorem blk4_3 : iblk4 V c 3 t (ix2 r k)
    = V c main_arg19 (ix2 (⟨t.val * 256 + r.val, by omega⟩ : Fin 256) k) := by
  blk_ext [iblk4, (idx4 t).2.2.2.1]

theorem out4_4_eq :
    out4_4 (F := Ideal) x0 x1 x2 x3 (ix2 r k) = dCell (x0 (ix2 r k)) (x1 (ix2 r k)) (x2 (ix2 r k)) (x3 (ix2 r k)) := by
  unfold out4_4
  rw [View.canon_unit_zero (by decide)]
  unfold k4_pay3 k4_pay1 k4_pay2
  rw [View.ld_unit_zero (by decide) _ x1, View.ld_unit_zero (by decide) _ x2, View.ld_unit_zero (by decide) _ x3, View.ld_unit_zero (by decide) _ x0]
  rfl

theorem val4_4 :
    out4_4 (F := Ideal) (iblk4 V c 0 t) (iblk4 V c 1 t) (iblk4 V c 2 t) (iblk4 V c 3 t) (ix2 r k)
    = (delta (V c main_arg16) (V c main_arg17) (V c main_arg18) (V c main_arg19)) (ix2 (⟨t.val * 256 + r.val, by omega⟩ : Fin 256) k) := by
  rw [out4_4_eq]
  simp only [blk4_0 V c t ht, blk4_1 V c t ht, blk4_2 V c t ht, blk4_3 V c t ht]
  rfl

theorem emb4_4 : ((cfg4.win 4).blk t).view.emb (ix2 r k)
    = (ix2 (⟨t.val * 256 + r.val, by omega⟩ : Fin 256) k) := by
  blk_ext [(idx4 t).2.2.2.2.1]

theorem arr4_4 : (dat4 V c).arrAt 4 cfg4.N = delta (V c main_arg16) (V c main_arg17) (V c main_arg18) (V c main_arg19) := by
  refine (dat4 V c).arrAt_eq_of_covers 4 _ (by decide +kernel) fun t hf y => ?_
  obtain ⟨r, k, e⟩ : ∃ (r : Fin 256) (k : Fin 512), (win4 4).xinj (grid4.coords t) y = ix2 r k := exists_ix2 _
  have ht : t.val < 1 := t.isLt
  have e' : y = ix2 r k := e
  rw [after4_4, e]
  subst e'
  rw [val4_4 V c t ht, ← emb4_4 t ht]
  rfl

theorem out4_5_eq :
    out4_5 (F := Ideal) x0 x1 x2 x3 (ix2 r k) = mCell (x1 (ix2 r k)) (x2 (ix2 r k)) := by
  unfold out4_5
  rw [View.canon_unit_zero (by decide)]
  unfold k4_pay1
  rw [View.ld_unit_zero (by decide) _ x1, View.ld_unit_zero (by decide) _ x2]
  rfl

theorem val4_5 :
    out4_5 (F := Ideal) (iblk4 V c 0 t) (iblk4 V c 1 t) (iblk4 V c 2 t) (iblk4 V c 3 t) (ix2 r k)
    = (newM (V c main_arg17) (V c main_arg18)) (ix2 (⟨t.val * 256 + r.val, by omega⟩ : Fin 256) k) := by
  rw [out4_5_eq]
  simp only [blk4_1 V c t ht, blk4_2 V c t ht]
  rfl

theorem emb4_5 : ((cfg4.win 5).blk t).view.emb (ix2 r k)
    = (ix2 (⟨t.val * 256 + r.val, by omega⟩ : Fin 256) k) := by
  blk_ext [(idx4 t).2.2.2.2.2.1]

theorem arr4_5 : (dat4 V c).arrAt 5 cfg4.N = newM (V c main_arg17) (V c main_arg18) := by
  refine (dat4 V c).arrAt_eq_of_covers 5 _ (by decide +kernel) fun t hf y => ?_
  obtain ⟨r, k, e⟩ : ∃ (r : Fin 256) (k : Fin 512), (win4 5).xinj (grid4.coords t) y = ix2 r k := exists_ix2 _
  have ht : t.val < 1 := t.isLt
  have e' : y = ix2 r k := e
  rw [after4_5, e]
  subst e'
  rw [val4_5 V c t ht, ← emb4_5 t ht]
  rfl

theorem out4_6_eq :
    out4_6 (F := Ideal) x0 x1 x2 x3 (ix2 r k) = vCell (x1 (ix2 r k)) (x3 (ix2 r k)) := by
  unfold out4_6
  rw [View.canon_unit_zero (by decide)]
  unfold k4_pay2
  rw [View.ld_unit_zero (by decide) _ x1, View.ld_unit_zero (by decide) _ x3]
  rfl

theorem val4_6 :
    out4_6 (F := Ideal) (iblk4 V c 0 t) (iblk4 V c 1 t) (iblk4 V c 2 t) (iblk4 V c 3 t) (ix2 r k)
    = (newV (V c main_arg17) (V c main_arg19)) (ix2 (⟨t.val * 256 + r.val, by omega⟩ : Fin 256) k) := by
  rw [out4_6_eq]
  simp only [blk4_1 V c t ht, blk4_3 V c t ht]
  rfl

theorem emb4_6 : ((cfg4.win 6).blk t).view.emb (ix2 r k)
    = (ix2 (⟨t.val * 256 + r.val, by omega⟩ : Fin 256) k) := by
  blk_ext [(idx4 t).2.2.2.2.2.2]

theorem arr4_6 : (dat4 V c).arrAt 6 cfg4.N = newV (V c main_arg17) (V c main_arg19) := by
  refine (dat4 V c).arrAt_eq_of_covers 6 _ (by decide +kernel) fun t hf y => ?_
  obtain ⟨r, k, e⟩ : ∃ (r : Fin 256) (k : Fin 512), (win4 6).xinj (grid4.coords t) y = ix2 r k := exists_ix2 _
  have ht : t.val < 1 := t.isLt
  have e' : y = ix2 r k := e
  rw [after4_6, e]
  subst e'
  rw [val4_6 V c t ht, ← emb4_6 t ht]
  rfl

end

/-! ## Call 5 -/

section

variable (t : Fin cfg5.N) (ht : t.val < 2) (r : Fin 256) (k : Fin 2048) (x0 x1 x2 x3 : Vec Ideal S256x2048 .f32)

theorem idx5 : ∀ t : Fin grid5.N, win5_0.index t = ![t.val, 0] ∧ win5_1.index t = ![t.val, 0] ∧ win5_2.index t = ![t.val, 0] ∧ win5_3.index t = ![t.val, 0] ∧ win5_4.index t = ![t.val, 0] ∧ win5_5.index t = ![t.val, 0] ∧ win5_6.index t = ![t.val, 0] := by decide +kernel

theorem blk5_0 : iblk5 V c 0 t (ix2 r k)
    = V c main_arg20 (ix2 (⟨t.val * 256 + r.val, by omega⟩ : Fin 512) k) := by
  blk_ext [iblk5, (idx5 t).1]

theorem blk5_1 : iblk5 V c 1 t (ix2 r k)
    = V c main_arg21 (ix2 (⟨t.val * 256 + r.val, by omega⟩ : Fin 512) k) := by
  blk_ext [iblk5, (idx5 t).2.1]

theorem blk5_2 : iblk5 V c 2 t (ix2 r k)
    = V c main_arg22 (ix2 (⟨t.val * 256 + r.val, by omega⟩ : Fin 512) k) := by
  blk_ext [iblk5, (idx5 t).2.2.1]

theorem blk5_3 : iblk5 V c 3 t (ix2 r k)
    = V c main_arg23 (ix2 (⟨t.val * 256 + r.val, by omega⟩ : Fin 512) k) := by
  blk_ext [iblk5, (idx5 t).2.2.2.1]

theorem out5_4_eq :
    out5_4 (F := Ideal) x0 x1 x2 x3 (ix2 r k) = dCell (x0 (ix2 r k)) (x1 (ix2 r k)) (x2 (ix2 r k)) (x3 (ix2 r k)) := by
  unfold out5_4
  rw [View.canon_unit_zero (by decide)]
  unfold k5_pay3 k5_pay1 k5_pay2
  rw [View.ld_unit_zero (by decide) _ x1, View.ld_unit_zero (by decide) _ x2, View.ld_unit_zero (by decide) _ x3, View.ld_unit_zero (by decide) _ x0]
  rfl

theorem val5_4 :
    out5_4 (F := Ideal) (iblk5 V c 0 t) (iblk5 V c 1 t) (iblk5 V c 2 t) (iblk5 V c 3 t) (ix2 r k)
    = (delta (V c main_arg20) (V c main_arg21) (V c main_arg22) (V c main_arg23)) (ix2 (⟨t.val * 256 + r.val, by omega⟩ : Fin 512) k) := by
  rw [out5_4_eq]
  simp only [blk5_0 V c t ht, blk5_1 V c t ht, blk5_2 V c t ht, blk5_3 V c t ht]
  rfl

theorem emb5_4 : ((cfg5.win 4).blk t).view.emb (ix2 r k)
    = (ix2 (⟨t.val * 256 + r.val, by omega⟩ : Fin 512) k) := by
  blk_ext [(idx5 t).2.2.2.2.1]

theorem arr5_4 : (dat5 V c).arrAt 4 cfg5.N = delta (V c main_arg20) (V c main_arg21) (V c main_arg22) (V c main_arg23) := by
  refine (dat5 V c).arrAt_eq_of_covers 4 _ (by decide +kernel) fun t hf y => ?_
  obtain ⟨r, k, e⟩ : ∃ (r : Fin 256) (k : Fin 2048), (win5 4).xinj (grid5.coords t) y = ix2 r k := exists_ix2 _
  have ht : t.val < 2 := t.isLt
  have e' : y = ix2 r k := e
  rw [after5_4, e]
  subst e'
  rw [val5_4 V c t ht, ← emb5_4 t ht]
  rfl

theorem out5_5_eq :
    out5_5 (F := Ideal) x0 x1 x2 x3 (ix2 r k) = mCell (x1 (ix2 r k)) (x2 (ix2 r k)) := by
  unfold out5_5
  rw [View.canon_unit_zero (by decide)]
  unfold k5_pay1
  rw [View.ld_unit_zero (by decide) _ x1, View.ld_unit_zero (by decide) _ x2]
  rfl

theorem val5_5 :
    out5_5 (F := Ideal) (iblk5 V c 0 t) (iblk5 V c 1 t) (iblk5 V c 2 t) (iblk5 V c 3 t) (ix2 r k)
    = (newM (V c main_arg21) (V c main_arg22)) (ix2 (⟨t.val * 256 + r.val, by omega⟩ : Fin 512) k) := by
  rw [out5_5_eq]
  simp only [blk5_1 V c t ht, blk5_2 V c t ht]
  rfl

theorem emb5_5 : ((cfg5.win 5).blk t).view.emb (ix2 r k)
    = (ix2 (⟨t.val * 256 + r.val, by omega⟩ : Fin 512) k) := by
  blk_ext [(idx5 t).2.2.2.2.2.1]

theorem arr5_5 : (dat5 V c).arrAt 5 cfg5.N = newM (V c main_arg21) (V c main_arg22) := by
  refine (dat5 V c).arrAt_eq_of_covers 5 _ (by decide +kernel) fun t hf y => ?_
  obtain ⟨r, k, e⟩ : ∃ (r : Fin 256) (k : Fin 2048), (win5 5).xinj (grid5.coords t) y = ix2 r k := exists_ix2 _
  have ht : t.val < 2 := t.isLt
  have e' : y = ix2 r k := e
  rw [after5_5, e]
  subst e'
  rw [val5_5 V c t ht, ← emb5_5 t ht]
  rfl

theorem out5_6_eq :
    out5_6 (F := Ideal) x0 x1 x2 x3 (ix2 r k) = vCell (x1 (ix2 r k)) (x3 (ix2 r k)) := by
  unfold out5_6
  rw [View.canon_unit_zero (by decide)]
  unfold k5_pay2
  rw [View.ld_unit_zero (by decide) _ x1, View.ld_unit_zero (by decide) _ x3]
  rfl

theorem val5_6 :
    out5_6 (F := Ideal) (iblk5 V c 0 t) (iblk5 V c 1 t) (iblk5 V c 2 t) (iblk5 V c 3 t) (ix2 r k)
    = (newV (V c main_arg21) (V c main_arg23)) (ix2 (⟨t.val * 256 + r.val, by omega⟩ : Fin 512) k) := by
  rw [out5_6_eq]
  simp only [blk5_1 V c t ht, blk5_3 V c t ht]
  rfl

theorem emb5_6 : ((cfg5.win 6).blk t).view.emb (ix2 r k)
    = (ix2 (⟨t.val * 256 + r.val, by omega⟩ : Fin 512) k) := by
  blk_ext [(idx5 t).2.2.2.2.2.2]

theorem arr5_6 : (dat5 V c).arrAt 6 cfg5.N = newV (V c main_arg21) (V c main_arg23) := by
  refine (dat5 V c).arrAt_eq_of_covers 6 _ (by decide +kernel) fun t hf y => ?_
  obtain ⟨r, k, e⟩ : ∃ (r : Fin 256) (k : Fin 2048), (win5 6).xinj (grid5.coords t) y = ix2 r k := exists_ix2 _
  have ht : t.val < 2 := t.isLt
  have e' : y = ix2 r k := e
  rw [after5_6, e]
  subst e'
  rw [val5_6 V c t ht, ← emb5_6 t ht]
  rfl

end

/-! ## Call 6 -/

section

variable (t : Fin cfg6.N) (ht : t.val < 1) (r : Fin 2176) (k : Fin 128) (x0 x1 x2 x3 : Vec Ideal S2176x128 .f32)

theorem idx6 : ∀ t : Fin grid6.N, win6_0.index t = ![t.val, 0] ∧ win6_1.index t = ![t.val, 0] ∧ win6_2.index t = ![t.val, 0] ∧ win6_3.index t = ![t.val, 0] ∧ win6_4.index t = ![t.val, 0] ∧ win6_5.index t = ![t.val, 0] ∧ win6_6.index t = ![t.val, 0] := by decide +kernel

theorem blk6_0 : iblk6 V c 0 t (ix2 r k)
    = V c main_arg24 (ix2 (⟨t.val * 2176 + r.val, by omega⟩ : Fin 2176) k) := by
  blk_ext [iblk6, (idx6 t).1]

theorem blk6_1 : iblk6 V c 1 t (ix2 r k)
    = V c main_arg25 (ix2 (⟨t.val * 2176 + r.val, by omega⟩ : Fin 2176) k) := by
  blk_ext [iblk6, (idx6 t).2.1]

theorem blk6_2 : iblk6 V c 2 t (ix2 r k)
    = V c main_arg26 (ix2 (⟨t.val * 2176 + r.val, by omega⟩ : Fin 2176) k) := by
  blk_ext [iblk6, (idx6 t).2.2.1]

theorem blk6_3 : iblk6 V c 3 t (ix2 r k)
    = V c main_arg27 (ix2 (⟨t.val * 2176 + r.val, by omega⟩ : Fin 2176) k) := by
  blk_ext [iblk6, (idx6 t).2.2.2.1]

theorem out6_4_eq :
    out6_4 (F := Ideal) x0 x1 x2 x3 (ix2 r k) = dCell (x0 (ix2 r k)) (x1 (ix2 r k)) (x2 (ix2 r k)) (x3 (ix2 r k)) := by
  unfold out6_4
  rw [View.canon_unit_zero (by decide)]
  unfold k6_pay3 k6_pay1 k6_pay2
  rw [View.ld_unit_zero (by decide) _ x1, View.ld_unit_zero (by decide) _ x2, View.ld_unit_zero (by decide) _ x3, View.ld_unit_zero (by decide) _ x0]
  rfl

theorem val6_4 :
    out6_4 (F := Ideal) (iblk6 V c 0 t) (iblk6 V c 1 t) (iblk6 V c 2 t) (iblk6 V c 3 t) (ix2 r k)
    = (delta (V c main_arg24) (V c main_arg25) (V c main_arg26) (V c main_arg27)) (ix2 (⟨t.val * 2176 + r.val, by omega⟩ : Fin 2176) k) := by
  rw [out6_4_eq]
  simp only [blk6_0 V c t ht, blk6_1 V c t ht, blk6_2 V c t ht, blk6_3 V c t ht]
  rfl

theorem emb6_4 : ((cfg6.win 4).blk t).view.emb (ix2 r k)
    = (ix2 (⟨t.val * 2176 + r.val, by omega⟩ : Fin 2176) k) := by
  blk_ext [(idx6 t).2.2.2.2.1]

theorem arr6_4 : (dat6 V c).arrAt 4 cfg6.N = delta (V c main_arg24) (V c main_arg25) (V c main_arg26) (V c main_arg27) := by
  refine (dat6 V c).arrAt_eq_of_covers 4 _ (by decide +kernel) fun t hf y => ?_
  obtain ⟨r, k, e⟩ : ∃ (r : Fin 2176) (k : Fin 128), (win6 4).xinj (grid6.coords t) y = ix2 r k := exists_ix2 _
  have ht : t.val < 1 := t.isLt
  have e' : y = ix2 r k := e
  rw [after6_4, e]
  subst e'
  rw [val6_4 V c t ht, ← emb6_4 t ht]
  rfl

theorem out6_5_eq :
    out6_5 (F := Ideal) x0 x1 x2 x3 (ix2 r k) = mCell (x1 (ix2 r k)) (x2 (ix2 r k)) := by
  unfold out6_5
  rw [View.canon_unit_zero (by decide)]
  unfold k6_pay1
  rw [View.ld_unit_zero (by decide) _ x1, View.ld_unit_zero (by decide) _ x2]
  rfl

theorem val6_5 :
    out6_5 (F := Ideal) (iblk6 V c 0 t) (iblk6 V c 1 t) (iblk6 V c 2 t) (iblk6 V c 3 t) (ix2 r k)
    = (newM (V c main_arg25) (V c main_arg26)) (ix2 (⟨t.val * 2176 + r.val, by omega⟩ : Fin 2176) k) := by
  rw [out6_5_eq]
  simp only [blk6_1 V c t ht, blk6_2 V c t ht]
  rfl

theorem emb6_5 : ((cfg6.win 5).blk t).view.emb (ix2 r k)
    = (ix2 (⟨t.val * 2176 + r.val, by omega⟩ : Fin 2176) k) := by
  blk_ext [(idx6 t).2.2.2.2.2.1]

theorem arr6_5 : (dat6 V c).arrAt 5 cfg6.N = newM (V c main_arg25) (V c main_arg26) := by
  refine (dat6 V c).arrAt_eq_of_covers 5 _ (by decide +kernel) fun t hf y => ?_
  obtain ⟨r, k, e⟩ : ∃ (r : Fin 2176) (k : Fin 128), (win6 5).xinj (grid6.coords t) y = ix2 r k := exists_ix2 _
  have ht : t.val < 1 := t.isLt
  have e' : y = ix2 r k := e
  rw [after6_5, e]
  subst e'
  rw [val6_5 V c t ht, ← emb6_5 t ht]
  rfl

theorem out6_6_eq :
    out6_6 (F := Ideal) x0 x1 x2 x3 (ix2 r k) = vCell (x1 (ix2 r k)) (x3 (ix2 r k)) := by
  unfold out6_6
  rw [View.canon_unit_zero (by decide)]
  unfold k6_pay2
  rw [View.ld_unit_zero (by decide) _ x1, View.ld_unit_zero (by decide) _ x3]
  rfl

theorem val6_6 :
    out6_6 (F := Ideal) (iblk6 V c 0 t) (iblk6 V c 1 t) (iblk6 V c 2 t) (iblk6 V c 3 t) (ix2 r k)
    = (newV (V c main_arg25) (V c main_arg27)) (ix2 (⟨t.val * 2176 + r.val, by omega⟩ : Fin 2176) k) := by
  rw [out6_6_eq]
  simp only [blk6_1 V c t ht, blk6_3 V c t ht]
  rfl

theorem emb6_6 : ((cfg6.win 6).blk t).view.emb (ix2 r k)
    = (ix2 (⟨t.val * 2176 + r.val, by omega⟩ : Fin 2176) k) := by
  blk_ext [(idx6 t).2.2.2.2.2.2]

theorem arr6_6 : (dat6 V c).arrAt 6 cfg6.N = newV (V c main_arg25) (V c main_arg27) := by
  refine (dat6 V c).arrAt_eq_of_covers 6 _ (by decide +kernel) fun t hf y => ?_
  obtain ⟨r, k, e⟩ : ∃ (r : Fin 2176) (k : Fin 128), (win6 6).xinj (grid6.coords t) y = ix2 r k := exists_ix2 _
  have ht : t.val < 1 := t.isLt
  have e' : y = ix2 r k := e
  rw [after6_6, e]
  subst e'
  rw [val6_6 V c t ht, ← emb6_6 t ht]
  rfl

end

end Cert.Adam

end
-- ==== Proof.AdamRun.lean ====
module

public import proofs.«01_k».proof.Proof.AdamKernel

/-! The seven calls of the optimiser as one run: every result from the arguments. -/

@[expose] public section

set_option maxRecDepth 16384

noncomputable section

namespace Cert.Adam

open Cert.Kernel9Ideal Cert.Kernel9Ideal.Gen Cert.Products
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option backward.isDefEq.respectTransparency.types false in
/-- Every execution of the calls terminates and leaves each array at what the calls' fold gives. -/
theorem run_fold (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

variable (m : (ℓ : Loc nD τ sig) → Buf (Elt Ideal) ℓ) (ρ : Dev nD → PrngReg) (c : Dev nD)

/-- An argument's contents at the start. -/
abbrev A (b : Ref sig .tc) : Buf (Elt Ideal) ((c.tc : Thread nD τ).loc b) := m ((c.tc : Thread nD τ).loc b)

/-! Each region finds its arguments as they were at the start. -/

theorem entry0 (b : Ref sig .tc) : V0 m ρ c b = A m c b := rfl
theorem entry1 (b : Ref sig .tc) (h : b ∈ argRefs) : V1 m ρ c b = A m c b := W1_args m ρ c b h
theorem entry2 (b : Ref sig .tc) (h : b ∈ argRefs) : V2 m ρ c b = A m c b := W2_args m ρ c b h
theorem entry3 (b : Ref sig .tc) (h : b ∈ argRefs) : V3 m ρ c b = A m c b := W3_args m ρ c b h
theorem entry4 (b : Ref sig .tc) (h : b ∈ argRefs) : V4 m ρ c b = A m c b := W4_args m ρ c b h
theorem entry5 (b : Ref sig .tc) (h : b ∈ argRefs) : V5 m ρ c b = A m c b := W5_args m ρ c b h
theorem entry6 (b : Ref sig .tc) (h : b ∈ argRefs) : V6 m ρ c b = A m c b := W6_args m ρ c b h

/-! What a region has left stays to the end. -/

theorem keep6 (b : Ref sig .tc) (h : b ∈ [main_v5_0, main_v5_1, main_v5_2]) : W7 m ρ c (Proc.devRef .tc b) = W6 m ρ c (Proc.devRef .tc b) :=
  W7_of m ρ c b (by revert b; decide +kernel)
theorem keep5 (b : Ref sig .tc) (h : b ∈ [main_v4_0, main_v4_1, main_v4_2]) : W7 m ρ c (Proc.devRef .tc b) = W5 m ρ c (Proc.devRef .tc b) :=
  (W7_of m ρ c b (by revert b; decide +kernel)).trans (W6_of m ρ c b (by revert b; decide +kernel))
theorem keep4 (b : Ref sig .tc) (h : b ∈ [main_v3_0, main_v3_1, main_v3_2]) : W7 m ρ c (Proc.devRef .tc b) = W4 m ρ c (Proc.devRef .tc b) :=
  (W7_of m ρ c b (by revert b; decide +kernel)).trans (W6_of m ρ c b (by revert b; decide +kernel)) |>.trans (W5_of m ρ c b (by revert b; decide +kernel))
theorem keep3 (b : Ref sig .tc) (h : b ∈ [main_v2_0, main_v2_1, main_v2_2]) : W7 m ρ c (Proc.devRef .tc b) = W3 m ρ c (Proc.devRef .tc b) :=
  (W7_of m ρ c b (by revert b; decide +kernel)).trans (W6_of m ρ c b (by revert b; decide +kernel)) |>.trans (W5_of m ρ c b (by revert b; decide +kernel)) |>.trans (W4_of m ρ c b (by revert b; decide +kernel))
theorem keep2 (b : Ref sig .tc) (h : b ∈ [main_v1_0, main_v1_1, main_v1_2]) : W7 m ρ c (Proc.devRef .tc b) = W2 m ρ c (Proc.devRef .tc b) :=
  (W7_of m ρ c b (by revert b; decide +kernel)).trans (W6_of m ρ c b (by revert b; decide +kernel)) |>.trans (W5_of m ρ c b (by revert b; decide +kernel)) |>.trans (W4_of m ρ c b (by revert b; decide +kernel)) |>.trans (W3_of m ρ c b (by revert b; decide +kernel))
theorem keep1 (b : Ref sig .tc) (h : b ∈ [main_v0_0, main_v0_1, main_v0_2]) : W7 m ρ c (Proc.devRef .tc b) = W1 m ρ c (Proc.devRef .tc b) :=
  (W7_of m ρ c b (by revert b; decide +kernel)).trans (W6_of m ρ c b (by revert b; decide +kernel)) |>.trans (W5_of m ρ c b (by revert b; decide +kernel)) |>.trans (W4_of m ρ c b (by revert b; decide +kernel)) |>.trans (W3_of m ρ c b (by revert b; decide +kernel)) |>.trans (W2_of m ρ c b (by revert b; decide +kernel))

theorem first_main_v0_0 : W1 m ρ c (Proc.devRef .tc main_v0_0) = delta (A m c main_arg0) (A m c main_arg1) (A m c main_arg2) (A m c main_arg3) := by
  refine (W1_arr m ρ c 4).trans ?_
  rw [arr0_4, entry0 m ρ c main_arg0, entry0 m ρ c main_arg1, entry0 m ρ c main_arg2, entry0 m ρ c main_arg3]
  try rfl

theorem first_main_v0_1 : W1 m ρ c (Proc.devRef .tc main_v0_1) = newM (A m c main_arg1) (A m c main_arg2) := by
  refine (W1_arr m ρ c 5).trans ?_
  rw [arr0_5, entry0 m ρ c main_arg1, entry0 m ρ c main_arg2]
  try rfl

theorem first_main_v0_2 : W1 m ρ c (Proc.devRef .tc main_v0_2) = newV (A m c main_arg1) (A m c main_arg3) := by
  refine (W1_arr m ρ c 6).trans ?_
  rw [arr0_6, entry0 m ρ c main_arg1, entry0 m ρ c main_arg3]
  try rfl

theorem first_main_v1_0 : W2 m ρ c (Proc.devRef .tc main_v1_0) = delta (A m c main_arg4) (A m c main_arg5) (A m c main_arg6) (A m c main_arg7) := by
  refine (W2_arr m ρ c 4).trans ?_
  rw [arr1_4, entry1 m ρ c main_arg4 (by decide), entry1 m ρ c main_arg5 (by decide), entry1 m ρ c main_arg6 (by decide), entry1 m ρ c main_arg7 (by decide)]
  try rfl

theorem first_main_v1_1 : W2 m ρ c (Proc.devRef .tc main_v1_1) = newM (A m c main_arg5) (A m c main_arg6) := by
  refine (W2_arr m ρ c 5).trans ?_
  rw [arr1_5, entry1 m ρ c main_arg5 (by decide), entry1 m ρ c main_arg6 (by decide)]
  try rfl

theorem first_main_v1_2 : W2 m ρ c (Proc.devRef .tc main_v1_2) = newV (A m c main_arg5) (A m c main_arg7) := by
  refine (W2_arr m ρ c 6).trans ?_
  rw [arr1_6, entry1 m ρ c main_arg5 (by decide), entry1 m ρ c main_arg7 (by decide)]
  try rfl

theorem first_main_v2_0 : W3 m ρ c (Proc.devRef .tc main_v2_0) = delta (A m c main_arg8) (A m c main_arg9) (A m c main_arg10) (A m c main_arg11) := by
  refine (W3_arr m ρ c 4).trans ?_
  rw [arr2_4, entry2 m ρ c main_arg8 (by decide), entry2 m ρ c main_arg9 (by decide), entry2 m ρ c main_arg10 (by decide), entry2 m ρ c main_arg11 (by decide)]
  try rfl

theorem first_main_v2_1 : W3 m ρ c (Proc.devRef .tc main_v2_1) = newM (A m c main_arg9) (A m c main_arg10) := by
  refine (W3_arr m ρ c 5).trans ?_
  rw [arr2_5, entry2 m ρ c main_arg9 (by decide), entry2 m ρ c main_arg10 (by decide)]
  try rfl

theorem first_main_v2_2 : W3 m ρ c (Proc.devRef .tc main_v2_2) = newV (A m c main_arg9) (A m c main_arg11) := by
  refine (W3_arr m ρ c 6).trans ?_
  rw [arr2_6, entry2 m ρ c main_arg9 (by decide), entry2 m ρ c main_arg11 (by decide)]
  try rfl

theorem first_main_v3_0 : W4 m ρ c (Proc.devRef .tc main_v3_0) = delta (A m c main_arg12) (A m c main_arg13) (A m c main_arg14) (A m c main_arg15) := by
  refine (W4_arr m ρ c 4).trans ?_
  rw [arr3_4, entry3 m ρ c main_arg12 (by decide), entry3 m ρ c main_arg13 (by decide), entry3 m ρ c main_arg14 (by decide), entry3 m ρ c main_arg15 (by decide)]
  try rfl

theorem first_main_v3_1 : W4 m ρ c (Proc.devRef .tc main_v3_1) = newM (A m c main_arg13) (A m c main_arg14) := by
  refine (W4_arr m ρ c 5).trans ?_
  rw [arr3_5, entry3 m ρ c main_arg13 (by decide), entry3 m ρ c main_arg14 (by decide)]
  try rfl

theorem first_main_v3_2 : W4 m ρ c (Proc.devRef .tc main_v3_2) = newV (A m c main_arg13) (A m c main_arg15) := by
  refine (W4_arr m ρ c 6).trans ?_
  rw [arr3_6, entry3 m ρ c main_arg13 (by decide), entry3 m ρ c main_arg15 (by decide)]
  try rfl

theorem first_main_v4_0 : W5 m ρ c (Proc.devRef .tc main_v4_0) = delta (A m c main_arg16) (A m c main_arg17) (A m c main_arg18) (A m c main_arg19) := by
  refine (W5_arr m ρ c 4).trans ?_
  rw [arr4_4, entry4 m ρ c main_arg16 (by decide), entry4 m ρ c main_arg17 (by decide), entry4 m ρ c main_arg18 (by decide), entry4 m ρ c main_arg19 (by decide)]
  try rfl

theorem first_main_v4_1 : W5 m ρ c (Proc.devRef .tc main_v4_1) = newM (A m c main_arg17) (A m c main_arg18) := by
  refine (W5_arr m ρ c 5).trans ?_
  rw [arr4_5, entry4 m ρ c main_arg17 (by decide), entry4 m ρ c main_arg18 (by decide)]
  try rfl

theorem first_main_v4_2 : W5 m ρ c (Proc.devRef .tc main_v4_2) = newV (A m c main_arg17) (A m c main_arg19) := by
  refine (W5_arr m ρ c 6).trans ?_
  rw [arr4_6, entry4 m ρ c main_arg17 (by decide), entry4 m ρ c main_arg19 (by decide)]
  try rfl

theorem first_main_v5_0 : W6 m ρ c (Proc.devRef .tc main_v5_0) = delta (A m c main_arg20) (A m c main_arg21) (A m c main_arg22) (A m c main_arg23) := by
  refine (W6_arr m ρ c 4).trans ?_
  rw [arr5_4, entry5 m ρ c main_arg20 (by decide), entry5 m ρ c main_arg21 (by decide), entry5 m ρ c main_arg22 (by decide), entry5 m ρ c main_arg23 (by decide)]
  try rfl

theorem first_main_v5_1 : W6 m ρ c (Proc.devRef .tc main_v5_1) = newM (A m c main_arg21) (A m c main_arg22) := by
  refine (W6_arr m ρ c 5).trans ?_
  rw [arr5_5, entry5 m ρ c main_arg21 (by decide), entry5 m ρ c main_arg22 (by decide)]
  try rfl

theorem first_main_v5_2 : W6 m ρ c (Proc.devRef .tc main_v5_2) = newV (A m c main_arg21) (A m c main_arg23) := by
  refine (W6_arr m ρ c 6).trans ?_
  rw [arr5_6, entry5 m ρ c main_arg21 (by decide), entry5 m ρ c main_arg23 (by decide)]
  try rfl

theorem first_main_v6_0 : W7 m ρ c (Proc.devRef .tc main_v6_0) = delta (A m c main_arg24) (A m c main_arg25) (A m c main_arg26) (A m c main_arg27) := by
  refine (W7_arr m ρ c 4).trans ?_
  rw [arr6_4, entry6 m ρ c main_arg24 (by decide), entry6 m ρ c main_arg25 (by decide), entry6 m ρ c main_arg26 (by decide), entry6 m ρ c main_arg27 (by decide)]
  try rfl

theorem first_main_v6_1 : W7 m ρ c (Proc.devRef .tc main_v6_1) = newM (A m c main_arg25) (A m c main_arg26) := by
  refine (W7_arr m ρ c 5).trans ?_
  rw [arr6_5, entry6 m ρ c main_arg25 (by decide), entry6 m ρ c main_arg26 (by decide)]
  try rfl

theorem first_main_v6_2 : W7 m ρ c (Proc.devRef .tc main_v6_2) = newV (A m c main_arg25) (A m c main_arg27) := by
  refine (W7_arr m ρ c 6).trans ?_
  rw [arr6_6, entry6 m ρ c main_arg25 (by decide), entry6 m ρ c main_arg27 (by decide)]
  try rfl

set_option maxHeartbeats 4000000 in
/-- Every execution of the calls leaves each result at its step and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = delta (A m c main_arg0) (A m c main_arg1) (A m c main_arg2) (A m c main_arg3)
      ∧ r.2.mem ((c.tc : Thread nD τ).loc main_v0_1) = newM (A m c main_arg1) (A m c main_arg2)
      ∧ r.2.mem ((c.tc : Thread nD τ).loc main_v0_2) = newV (A m c main_arg1) (A m c main_arg3)
      ∧ r.2.mem ((c.tc : Thread nD τ).loc main_v1_0) = delta (A m c main_arg4) (A m c main_arg5) (A m c main_arg6) (A m c main_arg7)
      ∧ r.2.mem ((c.tc : Thread nD τ).loc main_v1_1) = newM (A m c main_arg5) (A m c main_arg6)
      ∧ r.2.mem ((c.tc : Thread nD τ).loc main_v1_2) = newV (A m c main_arg5) (A m c main_arg7)
      ∧ r.2.mem ((c.tc : Thread nD τ).loc main_v2_0) = delta (A m c main_arg8) (A m c main_arg9) (A m c main_arg10) (A m c main_arg11)
      ∧ r.2.mem ((c.tc : Thread nD τ).loc main_v2_1) = newM (A m c main_arg9) (A m c main_arg10)
      ∧ r.2.mem ((c.tc : Thread nD τ).loc main_v2_2) = newV (A m c main_arg9) (A m c main_arg11)
      ∧ r.2.mem ((c.tc : Thread nD τ).loc main_v3_0) = delta (A m c main_arg12) (A m c main_arg13) (A m c main_arg14) (A m c main_arg15)
      ∧ r.2.mem ((c.tc : Thread nD τ).loc main_v3_1) = newM (A m c main_arg13) (A m c main_arg14)
      ∧ r.2.mem ((c.tc : Thread nD τ).loc main_v3_2) = newV (A m c main_arg13) (A m c main_arg15)
      ∧ r.2.mem ((c.tc : Thread nD τ).loc main_v4_0) = delta (A m c main_arg16) (A m c main_arg17) (A m c main_arg18) (A m c main_arg19)
      ∧ r.2.mem ((c.tc : Thread nD τ).loc main_v4_1) = newM (A m c main_arg17) (A m c main_arg18)
      ∧ r.2.mem ((c.tc : Thread nD τ).loc main_v4_2) = newV (A m c main_arg17) (A m c main_arg19)
      ∧ r.2.mem ((c.tc : Thread nD τ).loc main_v5_0) = delta (A m c main_arg20) (A m c main_arg21) (A m c main_arg22) (A m c main_arg23)
      ∧ r.2.mem ((c.tc : Thread nD τ).loc main_v5_1) = newM (A m c main_arg21) (A m c main_arg22)
      ∧ r.2.mem ((c.tc : Thread nD τ).loc main_v5_2) = newV (A m c main_arg21) (A m c main_arg23)
      ∧ r.2.mem ((c.tc : Thread nD τ).loc main_v6_0) = delta (A m c main_arg24) (A m c main_arg25) (A m c main_arg26) (A m c main_arg27)
      ∧ r.2.mem ((c.tc : Thread nD τ).loc main_v6_1) = newM (A m c main_arg25) (A m c main_arg26)
      ∧ r.2.mem ((c.tc : Thread nD τ).loc main_v6_2) = newV (A m c main_arg25) (A m c main_arg27)
      ∧ r.2.mem ((c.tc : Thread nD τ).loc main_arg0) = A m c main_arg0
      ∧ r.2.mem ((c.tc : Thread nD τ).loc main_arg1) = A m c main_arg1
      ∧ r.2.mem ((c.tc : Thread nD τ).loc main_arg2) = A m c main_arg2
      ∧ r.2.mem ((c.tc : Thread nD τ).loc main_arg3) = A m c main_arg3
      ∧ r.2.mem ((c.tc : Thread nD τ).loc main_arg4) = A m c main_arg4
      ∧ r.2.mem ((c.tc : Thread nD τ).loc main_arg5) = A m c main_arg5
      ∧ r.2.mem ((c.tc : Thread nD τ).loc main_arg6) = A m c main_arg6
      ∧ r.2.mem ((c.tc : Thread nD τ).loc main_arg7) = A m c main_arg7
      ∧ r.2.mem ((c.tc : Thread nD τ).loc main_arg8) = A m c main_arg8
      ∧ r.2.mem ((c.tc : Thread nD τ).loc main_arg9) = A m c main_arg9
      ∧ r.2.mem ((c.tc : Thread nD τ).loc main_arg10) = A m c main_arg10
      ∧ r.2.mem ((c.tc : Thread nD τ).loc main_arg11) = A m c main_arg11
      ∧ r.2.mem ((c.tc : Thread nD τ).loc main_arg12) = A m c main_arg12
      ∧ r.2.mem ((c.tc : Thread nD τ).loc main_arg13) = A m c main_arg13
      ∧ r.2.mem ((c.tc : Thread nD τ).loc main_arg14) = A m c main_arg14
      ∧ r.2.mem ((c.tc : Thread nD τ).loc main_arg15) = A m c main_arg15
      ∧ r.2.mem ((c.tc : Thread nD τ).loc main_arg16) = A m c main_arg16
      ∧ r.2.mem ((c.tc : Thread nD τ).loc main_arg17) = A m c main_arg17
      ∧ r.2.mem ((c.tc : Thread nD τ).loc main_arg18) = A m c main_arg18
      ∧ r.2.mem ((c.tc : Thread nD τ).loc main_arg19) = A m c main_arg19
      ∧ r.2.mem ((c.tc : Thread nD τ).loc main_arg20) = A m c main_arg20
      ∧ r.2.mem ((c.tc : Thread nD τ).loc main_arg21) = A m c main_arg21
      ∧ r.2.mem ((c.tc : Thread nD τ).loc main_arg22) = A m c main_arg22
      ∧ r.2.mem ((c.tc : Thread nD τ).loc main_arg23) = A m c main_arg23
      ∧ r.2.mem ((c.tc : Thread nD τ).loc main_arg24) = A m c main_arg24
      ∧ r.2.mem ((c.tc : Thread nD τ).loc main_arg25) = A m c main_arg25
      ∧ r.2.mem ((c.tc : Thread nD τ).loc main_arg26) = A m c main_arg26
      ∧ r.2.mem ((c.tc : Thread nD τ).loc main_arg27) = A m c main_arg27) :=
  (θ_run defs _ _).mono (fun _ h c => ⟨(h c _ (mem_uc main_v0_0 (by decide))).trans ((keep1 m ρ c main_v0_0 (by decide)).trans (first_main_v0_0 m ρ c)),
    (h c _ (mem_uc main_v0_1 (by decide))).trans ((keep1 m ρ c main_v0_1 (by decide)).trans (first_main_v0_1 m ρ c)),
    (h c _ (mem_uc main_v0_2 (by decide))).trans ((keep1 m ρ c main_v0_2 (by decide)).trans (first_main_v0_2 m ρ c)),
    (h c _ (mem_uc main_v1_0 (by decide))).trans ((keep2 m ρ c main_v1_0 (by decide)).trans (first_main_v1_0 m ρ c)),
    (h c _ (mem_uc main_v1_1 (by decide))).trans ((keep2 m ρ c main_v1_1 (by decide)).trans (first_main_v1_1 m ρ c)),
    (h c _ (mem_uc main_v1_2 (by decide))).trans ((keep2 m ρ c main_v1_2 (by decide)).trans (first_main_v1_2 m ρ c)),
    (h c _ (mem_uc main_v2_0 (by decide))).trans ((keep3 m ρ c main_v2_0 (by decide)).trans (first_main_v2_0 m ρ c)),
    (h c _ (mem_uc main_v2_1 (by decide))).trans ((keep3 m ρ c main_v2_1 (by decide)).trans (first_main_v2_1 m ρ c)),
    (h c _ (mem_uc main_v2_2 (by decide))).trans ((keep3 m ρ c main_v2_2 (by decide)).trans (first_main_v2_2 m ρ c)),
    (h c _ (mem_uc main_v3_0 (by decide))).trans ((keep4 m ρ c main_v3_0 (by decide)).trans (first_main_v3_0 m ρ c)),
    (h c _ (mem_uc main_v3_1 (by decide))).trans ((keep4 m ρ c main_v3_1 (by decide)).trans (first_main_v3_1 m ρ c)),
    (h c _ (mem_uc main_v3_2 (by decide))).trans ((keep4 m ρ c main_v3_2 (by decide)).trans (first_main_v3_2 m ρ c)),
    (h c _ (mem_uc main_v4_0 (by decide))).trans ((keep5 m ρ c main_v4_0 (by decide)).trans (first_main_v4_0 m ρ c)),
    (h c _ (mem_uc main_v4_1 (by decide))).trans ((keep5 m ρ c main_v4_1 (by decide)).trans (first_main_v4_1 m ρ c)),
    (h c _ (mem_uc main_v4_2 (by decide))).trans ((keep5 m ρ c main_v4_2 (by decide)).trans (first_main_v4_2 m ρ c)),
    (h c _ (mem_uc main_v5_0 (by decide))).trans ((keep6 m ρ c main_v5_0 (by decide)).trans (first_main_v5_0 m ρ c)),
    (h c _ (mem_uc main_v5_1 (by decide))).trans ((keep6 m ρ c main_v5_1 (by decide)).trans (first_main_v5_1 m ρ c)),
    (h c _ (mem_uc main_v5_2 (by decide))).trans ((keep6 m ρ c main_v5_2 (by decide)).trans (first_main_v5_2 m ρ c)),
    (h c _ (mem_uc main_v6_0 (by decide))).trans (first_main_v6_0 m ρ c),
    (h c _ (mem_uc main_v6_1 (by decide))).trans (first_main_v6_1 m ρ c),
    (h c _ (mem_uc main_v6_2 (by decide))).trans (first_main_v6_2 m ρ c),
    (h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c),
    (h c _ (mem_uc main_arg9 (by decide))).trans (W7_main_arg9 m ρ c),
    (h c _ (mem_uc main_arg10 (by decide))).trans (W7_main_arg10 m ρ c),
    (h c _ (mem_uc main_arg11 (by decide))).trans (W7_main_arg11 m ρ c),
    (h c _ (mem_uc main_arg12 (by decide))).trans (W7_main_arg12 m ρ c),
    (h c _ (mem_uc main_arg13 (by decide))).trans (W7_main_arg13 m ρ c),
    (h c _ (mem_uc main_arg14 (by decide))).trans (W7_main_arg14 m ρ c),
    (h c _ (mem_uc main_arg15 (by decide))).trans (W7_main_arg15 m ρ c),
    (h c _ (mem_uc main_arg16 (by decide))).trans (W7_main_arg16 m ρ c),
    (h c _ (mem_uc main_arg17 (by decide))).trans (W7_main_arg17 m ρ c),
    (h c _ (mem_uc main_arg18 (by decide))).trans (W7_main_arg18 m ρ c),
    (h c _ (mem_uc main_arg19 (by decide))).trans (W7_main_arg19 m ρ c),
    (h c _ (mem_uc main_arg20 (by decide))).trans (W7_main_arg20 m ρ c),
    (h c _ (mem_uc main_arg21 (by decide))).trans (W7_main_arg21 m ρ c),
    (h c _ (mem_uc main_arg22 (by decide))).trans (W7_main_arg22 m ρ c),
    (h c _ (mem_uc main_arg23 (by decide))).trans (W7_main_arg23 m ρ c),
    (h c _ (mem_uc main_arg24 (by decide))).trans (W7_main_arg24 m ρ c),
    (h c _ (mem_uc main_arg25 (by decide))).trans (W7_main_arg25 m ρ c),
    (h c _ (mem_uc main_arg26 (by decide))).trans (W7_main_arg26 m ρ c),
    (h c _ (mem_uc main_arg27 (by decide))).trans (W7_main_arg27 m ρ c)⟩) (run_fold m ρ)

end Cert.Adam

end
-- ==== Proof.AdamRef.lean ====
module

public import proofs.«01_k».proof.Proof.Gen.Reference9Ideal.Run
public import proofs.«01_k».proof.Proof.AdamMath
public import Idealize.ShloMosaic.Lib.Pointwise

/-! What the reference of the optimiser leaves: the same steps. -/

@[expose] public section

set_option maxRecDepth 16384

noncomputable section

namespace Cert.Adam.Ref

open Cert.Reference9Ideal Cert.Reference9Ideal.Gen Cert.Adam Idealize.ShloMosaic Idealize.ShloMosaic.TcCoe Idealize.SL.Sem

/-- An argument's contents at the start. -/
abbrev A (m : (ℓ : Loc nD τ sig) → Buf (Elt Ideal) ℓ) (c : Dev nD) (b : Ref sig .tc) : Buf (Elt Ideal) ((c.tc : Thread nD τ).loc b) := m ((c.tc : Thread nD τ).loc b)

/-- The reference leaves each result at its step and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v23) = delta (A m c main_arg0) (A m c main_arg1) (A m c main_arg2) (A m c main_arg3)
      ∧ r.2.mem ((c.tc : Thread nD τ).loc main_v4) = newM (A m c main_arg1) (A m c main_arg2)
      ∧ r.2.mem ((c.tc : Thread nD τ).loc main_v10) = newV (A m c main_arg1) (A m c main_arg3)
      ∧ r.2.mem ((c.tc : Thread nD τ).loc main_v47) = delta (A m c main_arg4) (A m c main_arg5) (A m c main_arg6) (A m c main_arg7)
      ∧ r.2.mem ((c.tc : Thread nD τ).loc main_v28) = newM (A m c main_arg5) (A m c main_arg6)
      ∧ r.2.mem ((c.tc : Thread nD τ).loc main_v34) = newV (A m c main_arg5) (A m c main_arg7)
      ∧ r.2.mem ((c.tc : Thread nD τ).loc main_v71) = delta (A m c main_arg8) (A m c main_arg9) (A m c main_arg10) (A m c main_arg11)
      ∧ r.2.mem ((c.tc : Thread nD τ).loc main_v52) = newM (A m c main_arg9) (A m c main_arg10)
      ∧ r.2.mem ((c.tc : Thread nD τ).loc main_v58) = newV (A m c main_arg9) (A m c main_arg11)
      ∧ r.2.mem ((c.tc : Thread nD τ).loc main_v95) = delta (A m c main_arg12) (A m c main_arg13) (A m c main_arg14) (A m c main_arg15)
      ∧ r.2.mem ((c.tc : Thread nD τ).loc main_v76) = newM (A m c main_arg13) (A m c main_arg14)
      ∧ r.2.mem ((c.tc : Thread nD τ).loc main_v82) = newV (A m c main_arg13) (A m c main_arg15)
      ∧ r.2.mem ((c.tc : Thread nD τ).loc main_v119) = delta (A m c main_arg16) (A m c main_arg17) (A m c main_arg18) (A m c main_arg19)
      ∧ r.2.mem ((c.tc : Thread nD τ).loc main_v100) = newM (A m c main_arg17) (A m c main_arg18)
      ∧ r.2.mem ((c.tc : Thread nD τ).loc main_v106) = newV (A m c main_arg17) (A m c main_arg19)
      ∧ r.2.mem ((c.tc : Thread nD τ).loc main_v143) = delta (A m c main_arg20) (A m c main_arg21) (A m c main_arg22) (A m c main_arg23)
      ∧ r.2.mem ((c.tc : Thread nD τ).loc main_v124) = newM (A m c main_arg21) (A m c main_arg22)
      ∧ r.2.mem ((c.tc : Thread nD τ).loc main_v130) = newV (A m c main_arg21) (A m c main_arg23)
      ∧ r.2.mem ((c.tc : Thread nD τ).loc main_v167) = delta (A m c main_arg24) (A m c main_arg25) (A m c main_arg26) (A m c main_arg27)
      ∧ r.2.mem ((c.tc : Thread nD τ).loc main_v148) = newM (A m c main_arg25) (A m c main_arg26)
      ∧ r.2.mem ((c.tc : Thread nD τ).loc main_v154) = newV (A m c main_arg25) (A m c main_arg27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun _ h c => by
    obtain ⟨h0, h1, h2, h3, h4, h5, h6, h7, h8, h9, h10, h11, h12, h13, h14, h15, h16, h17, h18, h19, h20, ha⟩ := h c
    refine ⟨h0.trans ?_, h1.trans ?_, h2.trans ?_, h3.trans ?_, h4.trans ?_, h5.trans ?_, h6.trans ?_, h7.trans ?_, h8.trans ?_, h9.trans ?_, h10.trans ?_, h11.trans ?_, h12.trans ?_, h13.trans ?_, h14.trans ?_, h15.trans ?_, h16.trans ?_, h17.trans ?_, h18.trans ?_, h19.trans ?_, h20.trans ?_, ha⟩ <;> (funext i; rfl)) (Value.run (F := Ideal) m ρ)

end Cert.Adam.Ref

end
-- ==== Proof.Optimiser.lean ====
module

public import proofs.«01_k».proof.Defs
public import proofs.«01_k».proof.Proof.Gen.Kernel9.Frame
public import proofs.«01_k».proof.Proof.AdamRun
public import proofs.«01_k».proof.Proof.AdamRef
public import Idealize.ShloMosaic.Adequacy
public import Idealize.ShloMosaic.Init

/-! The optimiser: the kernel's seven calls agree with their reference, and both end at rest. -/

@[expose] public section

set_option maxRecDepth 16384

noncomputable section

namespace Cert.Proof

open Idealize.ShloMosaic Idealize.SL.Sem

set_option maxHeartbeats 4000000 in
open Cert.Kernel9Ideal in
/-- The update and the two new moments of every weight. -/
theorem adamw : Cert.algebraic_Kernel9Ideal_Reference9Ideal := fun m ρ m' ρ' _ hag =>
  ⟨fun c => Cert.Adam.delta (Cert.Adam.A m c main_arg0) (Cert.Adam.A m c main_arg1) (Cert.Adam.A m c main_arg2) (Cert.Adam.A m c main_arg3),
    fun c => Cert.Adam.newM (Cert.Adam.A m c main_arg1) (Cert.Adam.A m c main_arg2),
    fun c => Cert.Adam.newV (Cert.Adam.A m c main_arg1) (Cert.Adam.A m c main_arg3),
    fun c => Cert.Adam.delta (Cert.Adam.A m c main_arg4) (Cert.Adam.A m c main_arg5) (Cert.Adam.A m c main_arg6) (Cert.Adam.A m c main_arg7),
    fun c => Cert.Adam.newM (Cert.Adam.A m c main_arg5) (Cert.Adam.A m c main_arg6),
    fun c => Cert.Adam.newV (Cert.Adam.A m c main_arg5) (Cert.Adam.A m c main_arg7),
    fun c => Cert.Adam.delta (Cert.Adam.A m c main_arg8) (Cert.Adam.A m c main_arg9) (Cert.Adam.A m c main_arg10) (Cert.Adam.A m c main_arg11),
    fun c => Cert.Adam.newM (Cert.Adam.A m c main_arg9) (Cert.Adam.A m c main_arg10),
    fun c => Cert.Adam.newV (Cert.Adam.A m c main_arg9) (Cert.Adam.A m c main_arg11),
    fun c => Cert.Adam.delta (Cert.Adam.A m c main_arg12) (Cert.Adam.A m c main_arg13) (Cert.Adam.A m c main_arg14) (Cert.Adam.A m c main_arg15),
    fun c => Cert.Adam.newM (Cert.Adam.A m c main_arg13) (Cert.Adam.A m c main_arg14),
    fun c => Cert.Adam.newV (Cert.Adam.A m c main_arg13) (Cert.Adam.A m c main_arg15),
    fun c => Cert.Adam.delta (Cert.Adam.A m c main_arg16) (Cert.Adam.A m c main_arg17) (Cert.Adam.A m c main_arg18) (Cert.Adam.A m c main_arg19),
    fun c => Cert.Adam.newM (Cert.Adam.A m c main_arg17) (Cert.Adam.A m c main_arg18),
    fun c => Cert.Adam.newV (Cert.Adam.A m c main_arg17) (Cert.Adam.A m c main_arg19),
    fun c => Cert.Adam.delta (Cert.Adam.A m c main_arg20) (Cert.Adam.A m c main_arg21) (Cert.Adam.A m c main_arg22) (Cert.Adam.A m c main_arg23),
    fun c => Cert.Adam.newM (Cert.Adam.A m c main_arg21) (Cert.Adam.A m c main_arg22),
    fun c => Cert.Adam.newV (Cert.Adam.A m c main_arg21) (Cert.Adam.A m c main_arg23),
    fun c => Cert.Adam.delta (Cert.Adam.A m c main_arg24) (Cert.Adam.A m c main_arg25) (Cert.Adam.A m c main_arg26) (Cert.Adam.A m c main_arg27),
    fun c => Cert.Adam.newM (Cert.Adam.A m c main_arg25) (Cert.Adam.A m c main_arg26),
    fun c => Cert.Adam.newV (Cert.Adam.A m c main_arg25) (Cert.Adam.A m c main_arg27),
    Cert.Adam.run m ρ,
    (θ_run _ _ _).mono (fun _ h c => by
      obtain ⟨h0, h1, h2, h3, h4, h5, h6, h7, h8, h9, h10, h11, h12, h13, h14, h15, h16, h17, h18, h19, h20, ha⟩ := h c
      obtain ⟨e0, e1, e2, e3, e4, e5, e6, e7, e8, e9, e10, e11, e12, e13, e14, e15, e16, e17, e18, e19, e20, e21, e22, e23, e24, e25, e26, e27⟩ := hag c
      refine ⟨h0.trans ?_, h1.trans ?_, h2.trans ?_, h3.trans ?_, h4.trans ?_, h5.trans ?_, h6.trans ?_, h7.trans ?_, h8.trans ?_, h9.trans ?_, h10.trans ?_, h11.trans ?_, h12.trans ?_, h13.trans ?_, h14.trans ?_, h15.trans ?_, h16.trans ?_, h17.trans ?_, h18.trans ?_, h19.trans ?_, h20.trans ?_, ha⟩
      all_goals try simp only [Cert.Adam.Ref.A]
      · rw [e0, e1, e2, e3]
      · rw [e1, e2]
      · rw [e1, e3]
      · rw [e4, e5, e6, e7]
      · rw [e5, e6]
      · rw [e5, e7]
      · rw [e8, e9, e10, e11]
      · rw [e9, e10]
      · rw [e9, e11]
      · rw [e12, e13, e14, e15]
      · rw [e13, e14]
      · rw [e13, e15]
      · rw [e16, e17, e18, e19]
      · rw [e17, e18]
      · rw [e17, e19]
      · rw [e20, e21, e22, e23]
      · rw [e21, e22]
      · rw [e21, e23]
      · rw [e24, e25, e26, e27]
      · rw [e25, e26]
      · rw [e25, e27]
      ) (Cert.Adam.Ref.run m' ρ')⟩

theorem frame_kernel9 : Cert.quiescent_Kernel9 := fun m ρ _ => Cert.Kernel9.Gen.frame m ρ
theorem frame_kernel9Ideal : Cert.quiescent_Kernel9Ideal := fun m ρ _ => Cert.Kernel9Ideal.Gen.frame m ρ
theorem frame_reference9 : Cert.quiescent_Reference9Ideal := fun m ρ _ =>
  (θ_run Cert.Reference9Ideal.defs _ _).mono (fun r h => ⟨fun c => (h c).2.2.2.2.2.2.2.2.2.2.2.2.2.2.2.2.2.2.2.2.2, sem_eq_zero_of_no_sems (by decide) r.2⟩)
    (Cert.Reference9Ideal.Value.run (F := Ideal) m ρ)

end Cert.Proof

end
-- ==== Proof.ZohKernel.lean ====
module

public import proofs.«01_k».proof.Proof.Gen.Kernel10Ideal.Frame
public import proofs.«01_k».proof.Proof.PrepEq
public import Idealize.ShloMosaic.Lib.Pipeline.ValueKit
public import Idealize.ShloMosaic.Lib.Pipeline.ReadBack
public import Idealize.ShloMosaic.Lib.Pointwise

/-! The zero-order hold forward: the step's factor and the factor of the inputs, at every channel of every group. -/

@[expose] public section

set_option maxRecDepth 16384

noncomputable section

namespace Cert.Zoh

open Cert.Kernel10Ideal Cert.Kernel10Ideal.Gen Cert.Prep Idealize.ShloMosaic Idealize.ShloMosaic.TcCoe Idealize.SL.Sem

/-- The real part of the step's factor. -/
def factor (x y dt : EReal) : EReal := mag x dt * Ideal.cos (y * dt)
/-- Its imaginary part. -/
def factor' (x y dt : EReal) : EReal := mag x dt * Ideal.sin (y * dt)
/-- The real part of the quotient's product with an input. -/
def input (x y dt u w : EReal) : EReal := Ideal.div (num x y dt) (den x y) * u - Ideal.div (num' x y dt) (den x y) * w
/-- Its imaginary part. -/
def input' (x y dt u w : EReal) : EReal := Ideal.div (num x y dt) (den x y) * w + Ideal.div (num' x y dt) (den x y) * u

/-- The four results on the arrays a channel's row is repeated in. -/
def coRe (x0 x1 : FVec Ideal S64x64 .f32) (x2 : FVec Ideal S64 .f32) : FVec Ideal S1024x64 .f32 :=
  fun i => factor (rep x0 i) (rep x1 i) (Ideal.exp (rep (across x2) i))
def coIm (x0 x1 : FVec Ideal S64x64 .f32) (x2 : FVec Ideal S64 .f32) : FVec Ideal S1024x64 .f32 :=
  fun i => factor' (rep x0 i) (rep x1 i) (Ideal.exp (rep (across x2) i))
def inRe (x0 x1 : FVec Ideal S64x64 .f32) (x2 : FVec Ideal S64 .f32) (x3 x4 : FVec Ideal S64x64x16 .f32) : FVec Ideal S1024x64 .f32 :=
  fun i => input (rep x0 i) (rep x1 i) (Ideal.exp (rep (across x2) i)) (laid x3 i) (laid x4 i)
def inIm (x0 x1 : FVec Ideal S64x64 .f32) (x2 : FVec Ideal S64 .f32) (x3 x4 : FVec Ideal S64x64x16 .f32) : FVec Ideal S1024x64 .f32 :=
  fun i => input' (rep x0 i) (rep x1 i) (Ideal.exp (rep (across x2) i)) (laid x3 i) (laid x4 i)

theorem ld_full (v : Vec Ideal S1024x64 .f32) : View.ld v r0_0 = v := View.ld_unit_zero (by decide) _ v

variable (x0 x1 x2 x3 x4 : Vec Ideal S1024x64 .f32)

theorem out5_at (i : S1024x64.Idx) : out0_5 (F := Ideal) x0 x1 x2 x3 x4 i = factor (x0 i) (x1 i) (Ideal.exp (x2 i)) := by
  unfold out0_5
  rw [View.canon_unit_zero (by decide)]
  simp only [k0_pay15, k0_pay14, k0_pay13, k0_pay12, k0_pay11, k0_pay10, k0_pay9, k0_pay8, k0_pay7, k0_pay6, k0_pay5, k0_pay4, k0_pay3, k0_pay2, k0_pay1, shapeCast_self, ld_full]
  rfl

theorem out6_at (i : S1024x64.Idx) : out0_6 (F := Ideal) x0 x1 x2 x3 x4 i = factor' (x0 i) (x1 i) (Ideal.exp (x2 i)) := by
  unfold out0_6
  rw [View.canon_unit_zero (by decide)]
  simp only [k0_pay15, k0_pay14, k0_pay13, k0_pay12, k0_pay11, k0_pay10, k0_pay9, k0_pay8, k0_pay7, k0_pay6, k0_pay5, k0_pay4, k0_pay3, k0_pay2, k0_pay1, shapeCast_self, ld_full]
  rfl

theorem out7_at (i : S1024x64.Idx) : out0_7 (F := Ideal) x0 x1 x2 x3 x4 i = input (x0 i) (x1 i) (Ideal.exp (x2 i)) (x3 i) (x4 i) := by
  unfold out0_7
  rw [View.canon_unit_zero (by decide)]
  simp only [k0_pay15, k0_pay14, k0_pay13, k0_pay12, k0_pay11, k0_pay10, k0_pay9, k0_pay8, k0_pay7, k0_pay6, k0_pay5, k0_pay4, k0_pay3, k0_pay2, k0_pay1, shapeCast_self, ld_full]
  rfl

theorem out8_at (i : S1024x64.Idx) : out0_8 (F := Ideal) x0 x1 x2 x3 x4 i = input' (x0 i) (x1 i) (Ideal.exp (x2 i)) (x3 i) (x4 i) := by
  unfold out0_8
  rw [View.canon_unit_zero (by decide)]
  simp only [k0_pay15, k0_pay14, k0_pay13, k0_pay12, k0_pay11, k0_pay10, k0_pay9, k0_pay8, k0_pay7, k0_pay6, k0_pay5, k0_pay4, k0_pay3, k0_pay2, k0_pay1, shapeCast_self, ld_full]
  rfl

section Run

variable (m : (ℓ : Loc nD τ sig) → Buf (Elt Ideal) ℓ) (c : Dev nD)

theorem win_at : ∀ t : Fin grid0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] := by decide +kernel

theorem blk_0 (t : Fin cfg0.N) : iblk m c 0 t = V m c main_v1 := by
  funext y
  obtain ⟨r, k, e⟩ : ∃ (r : Fin 1024) (k : Fin 64), y = ix2 r k := exists_ix2 y
  subst e
  blk_ext [iblk, win_at t]

theorem V_main_v1 : (V m c main_v1 : FVec Ideal S1024x64 .f32) = rep (m ((c.tc : Thread nD τ).loc main_arg0)) := by
  show StableHlo.after hostOps0 _ (Proc.devRef .tc main_v1) = _
  after_results_simp
  rfl

theorem blk_1 (t : Fin cfg0.N) : iblk m c 1 t = V m c main_v3 := by
  funext y
  obtain ⟨r, k, e⟩ : ∃ (r : Fin 1024) (k : Fin 64), y = ix2 r k := exists_ix2 y
  subst e
  blk_ext [iblk, win_at t]

theorem V_main_v3 : (V m c main_v3 : FVec Ideal S1024x64 .f32) = rep (m ((c.tc : Thread nD τ).loc main_arg1)) := by
  show StableHlo.after hostOps0 _ (Proc.devRef .tc main_v3) = _
  after_results_simp
  rfl

theorem blk_2 (t : Fin cfg0.N) : iblk m c 2 t = V m c main_v7 := by
  funext y
  obtain ⟨r, k, e⟩ : ∃ (r : Fin 1024) (k : Fin 64), y = ix2 r k := exists_ix2 y
  subst e
  blk_ext [iblk, win_at t]

theorem V_main_v7 : (V m c main_v7 : FVec Ideal S1024x64 .f32) = rep (across (m ((c.tc : Thread nD τ).loc main_arg2))) := by
  show StableHlo.after hostOps0 _ (Proc.devRef .tc main_v7) = _
  after_results_simp
  rfl

theorem blk_3 (t : Fin cfg0.N) : iblk m c 3 t = V m c main_v9 := by
  funext y
  obtain ⟨r, k, e⟩ : ∃ (r : Fin 1024) (k : Fin 64), y = ix2 r k := exists_ix2 y
  subst e
  blk_ext [iblk, win_at t]

theorem V_main_v9 : (V m c main_v9 : FVec Ideal S1024x64 .f32) = laid (m ((c.tc : Thread nD τ).loc main_arg3)) := by
  show StableHlo.after hostOps0 _ (Proc.devRef .tc main_v9) = _
  after_results_simp
  rfl

theorem blk_4 (t : Fin cfg0.N) : iblk m c 4 t = V m c main_v11 := by
  funext y
  obtain ⟨r, k, e⟩ : ∃ (r : Fin 1024) (k : Fin 64), y = ix2 r k := exists_ix2 y
  subst e
  blk_ext [iblk, win_at t]

theorem V_main_v11 : (V m c main_v11 : FVec Ideal S1024x64 .f32) = laid (m ((c.tc : Thread nD τ).loc main_arg4)) := by
  show StableHlo.after hostOps0 _ (Proc.devRef .tc main_v11) = _
  after_results_simp
  rfl

theorem emb_5 (t : Fin cfg0.N) (r : Fin 1024) (k : Fin 64) : ((cfg0.win 5).blk t).view.emb (ix2 r k) = (ix2 r k : S1024x64.Idx) := by
  blk_ext [win_at t]

theorem arr_5 : (dats m 0 c).arrAt 5 cfg0.N = out0_5 (F := Ideal) (V m c main_v1) (V m c main_v3) (V m c main_v7) (V m c main_v9) (V m c main_v11) := by
  refine (dats m 0 c).arrAt_eq_of_covers 5 _ (by decide +kernel) fun t hf y => ?_
  obtain ⟨r, k, e⟩ : ∃ (r : Fin 1024) (k : Fin 64), (win0 5).xinj (grid0.coords t) y = ix2 r k := exists_ix2 _
  have e' : y = ix2 r k := e
  rw [after0_5, blk_0, blk_1, blk_2, blk_3, blk_4, e]
  subst e'
  rw [emb_5 t]
  generalize out0_5 (V m c main_v1) (V m c main_v3) (V m c main_v7) (V m c main_v9) (V m c main_v11) = Z
  rfl

theorem res_5 : (dats m 0 c).arrAt 5 cfg0.N = coRe (m ((c.tc : Thread nD τ).loc main_arg0)) (m ((c.tc : Thread nD τ).loc main_arg1)) (m ((c.tc : Thread nD τ).loc main_arg2)) := by
  rw [arr_5, V_main_v1, V_main_v3, V_main_v7, V_main_v9, V_main_v11]
  exact funext fun i => out5_at _ _ _ _ _ i

theorem emb_6 (t : Fin cfg0.N) (r : Fin 1024) (k : Fin 64) : ((cfg0.win 6).blk t).view.emb (ix2 r k) = (ix2 r k : S1024x64.Idx) := by
  blk_ext [win_at t]

theorem arr_6 : (dats m 0 c).arrAt 6 cfg0.N = out0_6 (F := Ideal) (V m c main_v1) (V m c main_v3) (V m c main_v7) (V m c main_v9) (V m c main_v11) := by
  refine (dats m 0 c).arrAt_eq_of_covers 6 _ (by decide +kernel) fun t hf y => ?_
  obtain ⟨r, k, e⟩ : ∃ (r : Fin 1024) (k : Fin 64), (win0 6).xinj (grid0.coords t) y = ix2 r k := exists_ix2 _
  have e' : y = ix2 r k := e
  rw [after0_6, blk_0, blk_1, blk_2, blk_3, blk_4, e]
  subst e'
  rw [emb_6 t]
  generalize out0_6 (V m c main_v1) (V m c main_v3) (V m c main_v7) (V m c main_v9) (V m c main_v11) = Z
  rfl

theorem res_6 : (dats m 0 c).arrAt 6 cfg0.N = coIm (m ((c.tc : Thread nD τ).loc main_arg0)) (m ((c.tc : Thread nD τ).loc main_arg1)) (m ((c.tc : Thread nD τ).loc main_arg2)) := by
  rw [arr_6, V_main_v1, V_main_v3, V_main_v7, V_main_v9, V_main_v11]
  exact funext fun i => out6_at _ _ _ _ _ i

theorem emb_7 (t : Fin cfg0.N) (r : Fin 1024) (k : Fin 64) : ((cfg0.win 7).blk t).view.emb (ix2 r k) = (ix2 r k : S1024x64.Idx) := by
  blk_ext [win_at t]

theorem arr_7 : (dats m 0 c).arrAt 7 cfg0.N = out0_7 (F := Ideal) (V m c main_v1) (V m c main_v3) (V m c main_v7) (V m c main_v9) (V m c main_v11) := by
  refine (dats m 0 c).arrAt_eq_of_covers 7 _ (by decide +kernel) fun t hf y => ?_
  obtain ⟨r, k, e⟩ : ∃ (r : Fin 1024) (k : Fin 64), (win0 7).xinj (grid0.coords t) y = ix2 r k := exists_ix2 _
  have e' : y = ix2 r k := e
  rw [after0_7, blk_0, blk_1, blk_2, blk_3, blk_4, e]
  subst e'
  rw [emb_7 t]
  generalize out0_7 (V m c main_v1) (V m c main_v3) (V m c main_v7) (V m c main_v9) (V m c main_v11) = Z
  rfl

theorem res_7 : (dats m 0 c).arrAt 7 cfg0.N = inRe (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [arr_7, V_main_v1, V_main_v3, V_main_v7, V_main_v9, V_main_v11]
  exact funext fun i => out7_at _ _ _ _ _ i

theorem emb_8 (t : Fin cfg0.N) (r : Fin 1024) (k : Fin 64) : ((cfg0.win 8).blk t).view.emb (ix2 r k) = (ix2 r k : S1024x64.Idx) := by
  blk_ext [win_at t]

theorem arr_8 : (dats m 0 c).arrAt 8 cfg0.N = out0_8 (F := Ideal) (V m c main_v1) (V m c main_v3) (V m c main_v7) (V m c main_v9) (V m c main_v11) := by
  refine (dats m 0 c).arrAt_eq_of_covers 8 _ (by decide +kernel) fun t hf y => ?_
  obtain ⟨r, k, e⟩ : ∃ (r : Fin 1024) (k : Fin 64), (win0 8).xinj (grid0.coords t) y = ix2 r k := exists_ix2 _
  have e' : y = ix2 r k := e
  rw [after0_8, blk_0, blk_1, blk_2, blk_3, blk_4, e]
  subst e'
  rw [emb_8 t]
  generalize out0_8 (V m c main_v1) (V m c main_v3) (V m c main_v7) (V m c main_v9) (V m c main_v11) = Z
  rfl

theorem res_8 : (dats m 0 c).arrAt 8 cfg0.N = inIm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [arr_8, V_main_v1, V_main_v3, V_main_v7, V_main_v9, V_main_v11]
  exact funext fun i => out8_at _ _ _ _ _ i

end Run

/-- Every execution of the call leaves the four results and the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v12_0) = coRe (m ((c.tc : Thread nD τ).loc main_arg0)) (m ((c.tc : Thread nD τ).loc main_arg1)) (m ((c.tc : Thread nD τ).loc main_arg2))
      ∧ r.2.mem ((c.tc : Thread nD τ).loc main_v12_1) = coIm (m ((c.tc : Thread nD τ).loc main_arg0)) (m ((c.tc : Thread nD τ).loc main_arg1)) (m ((c.tc : Thread nD τ).loc main_arg2))
      ∧ r.2.mem ((c.tc : Thread nD τ).loc main_v12_2) = inRe (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v12_3) = inIm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 5).trans (res_5 m c),
    ((h c).1 6).trans (res_6 m c),
    ((h c).1 7).trans (res_7 m c),
    ((h c).1 8).trans (res_8 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) (run_main m ρ)

end Cert.Zoh

end
-- ==== Proof.ZohRef.lean ====
module

public import proofs.«01_k».proof.Proof.Gen.Reference10Ideal.Run
public import proofs.«01_k».proof.Proof.ZohKernel

/-! The reference of the zero-order hold: the same results, from whole arrays and repeated over the channels at the end. -/

@[expose] public section

set_option maxRecDepth 16384

noncomputable section

namespace Cert.Zoh

open Cert.Reference10Ideal Cert.Reference10Ideal.Gen Cert.Prep Idealize.ShloMosaic Idealize.ShloMosaic.TcCoe Idealize.SL.Sem

variable (x0 x1 : FVec Ideal S64x64 .f32) (x2 : FVec Ideal S64 .f32) (x3 x4 : FVec Ideal S64x64x16 .f32)

/-- The reference's four results. -/
def rRe : FVec Ideal S1024x64 .f32 := rep (mulf (rM x0 (rD x2)) (rC x1 (rD x2)))
def rIm : FVec Ideal S1024x64 .f32 := rep (mulf (rM x0 (rD x2)) (rS x1 (rD x2)))
def rIn : FVec Ideal S1024x64 .f32 :=
  rU (subf (mulf (rB3 (Host.divf (rE x0 x1 (rD x2)) (rN x0 x1))) x3) (mulf (rB3 (Host.divf (rF x0 x1 (rD x2)) (rN x0 x1))) x4))
def rIn' : FVec Ideal S1024x64 .f32 :=
  rU (addf (mulf (rB3 (Host.divf (rE x0 x1 (rD x2)) (rN x0 x1))) x4) (mulf (rB3 (Host.divf (rF x0 x1 (rD x2)) (rN x0 x1))) x3))

theorem coRe_eq : coRe x0 x1 x2 = rRe x0 x1 x2 := by
  funext i
  obtain ⟨g, c, n, rfl⟩ := exists_row i
  unfold coRe rRe
  rw [rep_at, rep_at, rep_at, rep_at, across_at, ← rD_at x2 g n]
  rfl

theorem coIm_eq : coIm x0 x1 x2 = rIm x0 x1 x2 := by
  funext i
  obtain ⟨g, c, n, rfl⟩ := exists_row i
  unfold coIm rIm
  rw [rep_at, rep_at, rep_at, rep_at, across_at, ← rD_at x2 g n]
  rfl

theorem inRe_eq : inRe x0 x1 x2 x3 x4 = rIn x0 x1 x2 x3 x4 := by
  funext i
  obtain ⟨g, c, n, rfl⟩ := exists_row i
  unfold inRe rIn
  rw [rU_at, rep_at, rep_at, rep_at, laid_at, laid_at, across_at, ← rD_at x2 g n]
  show _ = rB3 _ (ix3 g n c) * x3 (ix3 g n c) - rB3 _ (ix3 g n c) * x4 (ix3 g n c)
  rw [rB3_at, rB3_at]
  rfl

theorem inIm_eq : inIm x0 x1 x2 x3 x4 = rIn' x0 x1 x2 x3 x4 := by
  funext i
  obtain ⟨g, c, n, rfl⟩ := exists_row i
  unfold inIm rIn'
  rw [rU_at, rep_at, rep_at, rep_at, laid_at, laid_at, across_at, ← rD_at x2 g n]
  show _ = rB3 _ (ix3 g n c) * x4 (ix3 g n c) + rB3 _ (ix3 g n c) * x3 (ix3 g n c)
  rw [rB3_at, rB3_at]
  rfl

/-- The reference leaves the four results and its arguments unchanged. -/
theorem ref_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v41) = coRe (m ((c.tc : Thread nD τ).loc main_arg0)) (m ((c.tc : Thread nD τ).loc main_arg1)) (m ((c.tc : Thread nD τ).loc main_arg2))
      ∧ r.2.mem ((c.tc : Thread nD τ).loc main_v43) = coIm (m ((c.tc : Thread nD τ).loc main_arg0)) (m ((c.tc : Thread nD τ).loc main_arg1)) (m ((c.tc : Thread nD τ).loc main_arg2))
      ∧ r.2.mem ((c.tc : Thread nD τ).loc main_v45) = inRe (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v47) = inIm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => by
    obtain ⟨h0, h1, h2, h3, ha⟩ := h c
    refine ⟨h0.trans ?_, h1.trans ?_, h2.trans ?_, h3.trans ?_, ha⟩
    · rw [coRe_eq]; rfl
    · rw [coIm_eq]; rfl
    · rw [inRe_eq]; rfl
    · rw [inIm_eq]; rfl) (Value.run (F := Ideal) m ρ)

end Cert.Zoh

end
-- ==== Proof.Coefficients.lean ====
module

public import proofs.«01_k».proof.Defs
public import proofs.«01_k».proof.Proof.Gen.Kernel10.Frame
public import proofs.«01_k».proof.Proof.ZohRef
public import Idealize.ShloMosaic.Adequacy
public import Idealize.ShloMosaic.Init

/-! The claims about the state space's coefficients. -/

@[expose] public section

set_option maxRecDepth 16384

noncomputable section

namespace Cert.Proof

open Idealize.ShloMosaic Idealize.SL.Sem

/-- The zero-order hold forward: both programs leave the step's factor and the inputs'. -/
theorem hold : Cert.algebraic_Kernel10Ideal_Reference10Ideal := fun m ρ m' ρ' _ hag =>
  ⟨fun c => Cert.Zoh.coRe (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)),
    fun c => Cert.Zoh.coIm (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)),
    fun c => Cert.Zoh.inRe (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)),
    fun c => Cert.Zoh.inIm (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)),
    Cert.Zoh.kernel_run m ρ,
    (θ_run _ _ _).mono (fun _ h c => by
      obtain ⟨h0, h1, h2, h3, ha⟩ := h c
      refine ⟨h0.trans ?_, h1.trans ?_, h2.trans ?_, h3.trans ?_, ha⟩
      · rw [(hag c).1, (hag c).2.1, (hag c).2.2.1]
      · rw [(hag c).1, (hag c).2.1, (hag c).2.2.1]
      · rw [(hag c).1, (hag c).2.1, (hag c).2.2.1, (hag c).2.2.2.1, (hag c).2.2.2.2]
      · rw [(hag c).1, (hag c).2.1, (hag c).2.2.1, (hag c).2.2.2.1, (hag c).2.2.2.2]) (Cert.Zoh.ref_run m' ρ')⟩

theorem frame_kernel10 : Cert.quiescent_Kernel10 := fun m ρ _ => Cert.Kernel10.Gen.frame m ρ
theorem frame_kernel10Ideal : Cert.quiescent_Kernel10Ideal := fun m ρ _ => Cert.Kernel10Ideal.Gen.frame m ρ
theorem frame_reference10 : Cert.quiescent_Reference10Ideal := fun m ρ _ =>
  (θ_run Cert.Reference10Ideal.defs _ _).mono (fun r h => ⟨fun c => (h c).2.2.2.2, sem_eq_zero_of_no_sems (by decide) r.2⟩)
    (Cert.Reference10Ideal.Value.run (F := Ideal) m ρ)

end Cert.Proof

end
-- ==== Proof.OutKernel.lean ====
module

public import proofs.«01_k».proof.Proof.Gen.Kernel2Ideal.Frame
public import proofs.«01_k».proof.Proof.Products
public import Idealize.ShloMosaic.Lib.Pipeline.ValueKit
public import Idealize.ShloMosaic.Lib.Pipeline.ReadBack
public import Idealize.ShloMosaic.Lib.Pointwise

/-! What each product of the output layer leaves in its result, from the arrays it finds: the whole product as one sum,
    with the residual added where there is one. -/

@[expose] public section

set_option maxRecDepth 16384

noncomputable section

namespace Cert.Out

open Cert.Kernel2Ideal Cert.Kernel2Ideal.Gen Cert.Products Idealize.ShloMosaic Idealize.ShloMosaic.TcCoe Idealize.SL.Sem

variable (V : (c : Dev nD) → (b : Ref sig .tc) → Buf (Elt Ideal) ((c : Thread nD τ).loc b)) (c : Dev nD)

/-! ## Call 0 -/

theorem idx0 : ∀ t : Fin grid0.N, win0_0.index t = ![t.val / 2, 0] ∧ win0_1.index t = ![0, t.val % 2] ∧ win0_2.index t = ![t.val / 2, t.val % 2] ∧ win0_3.index t = ![t.val / 2, t.val % 2] ∧ win0_4.index t = ![t.val / 2, t.val % 2] := by decide +kernel

theorem blk0_0 (t : Fin cfg0.N) (ht : t.val < 8) (r : Fin 1024) (k : Fin 2048) : iblk0 V c 0 t (ix2 r k)
    = V c main_arg1 (ix2 (⟨t.val / 2 * 1024 + r.val, by omega⟩ : Fin 4096) k) := by
  blk_ext [iblk0, (idx0 t).1]

theorem blk0_1 (t : Fin cfg0.N) (ht : t.val < 8) (r : Fin 2048) (k : Fin 1024) : iblk0 V c 1 t (ix2 r k)
    = V c main_arg2 (ix2 r (⟨t.val % 2 * 1024 + k.val, by omega⟩ : Fin 2048)) := by
  blk_ext [iblk0, (idx0 t).2.1]

theorem blk0_2 (t : Fin cfg0.N) (ht : t.val < 8) (r : Fin 1024) (k : Fin 1024) : iblk0 V c 2 t (ix2 r k)
    = V c main_arg0 (ix2 (⟨t.val / 2 * 1024 + r.val, by omega⟩ : Fin 4096) (⟨t.val % 2 * 1024 + k.val, by omega⟩ : Fin 2048)) := by
  blk_ext [iblk0, (idx0 t).2.2.1]

theorem out0_3_eq (x0 : Vec Ideal S1024x2048 .bf16) (x1 : Vec Ideal S2048x1024 .bf16) (x2 : Vec Ideal S1024x1024 .f32) (r : Fin 1024) (k : Fin 1024) :
    out0_3 x0 x1 x2 (ix2 r k) = (∑ j : Fin 2048, x0 (ix2 r j) * x1 (ix2 j k)) + x2 (ix2 r k) := by
  unfold out0_3
  rw [View.canon_unit_zero (by decide)]
  unfold k0_pay1
  rw [View.ld_unit_zero (by decide), View.ld_unit_zero (by decide), View.ld_unit_zero (by decide)]
  pointwise

theorem val0_3 (t : Fin cfg0.N) (ht : t.val < 8) (r : Fin 1024) (k : Fin 1024) : out0_3 (iblk0 V c 0 t) (iblk0 V c 1 t) (iblk0 V c 2 t) (ix2 r k)
    = (fun i => nn (V c main_arg1) (V c main_arg2) i + V c main_arg0 i) (ix2 (⟨t.val / 2 * 1024 + r.val, by omega⟩ : Fin 4096) (⟨t.val % 2 * 1024 + k.val, by omega⟩ : Fin 2048)) := by
  rw [out0_3_eq, blk0_2 V c t ht]
  simp only [blk0_0 V c t ht, blk0_1 V c t ht]
  rfl

theorem emb0_3 (t : Fin cfg0.N) (ht : t.val < 8) (r : Fin 1024) (k : Fin 1024) : ((cfg0.win 3).blk t).view.emb (ix2 r k)
    = (ix2 (⟨t.val / 2 * 1024 + r.val, by omega⟩ : Fin 4096) (⟨t.val % 2 * 1024 + k.val, by omega⟩ : Fin 2048)) := by
  blk_ext [(idx0 t).2.2.2.1]

theorem arr0_3 : (dat0 V c).arrAt 3 cfg0.N = fun i => nn (V c main_arg1) (V c main_arg2) i + V c main_arg0 i := by
  refine (dat0 V c).arrAt_eq_of_covers 3 _ (by decide +kernel) fun t hf y => ?_
  obtain ⟨r, k, e⟩ : ∃ (r : Fin 1024) (k : Fin 1024), (win0 3).xinj (grid0.coords t) y = ix2 r k := exists_ix2 _
  have ht : t.val < 8 := t.isLt
  have e' : y = ix2 r k := e
  rw [after0_3, e]
  subst e'
  rw [val0_3 V c t ht, ← emb0_3 t ht]
  rfl

theorem out0_4_eq (x0 : Vec Ideal S1024x2048 .bf16) (x1 : Vec Ideal S2048x1024 .bf16) (x2 : Vec Ideal S1024x1024 .f32) (r : Fin 1024) (k : Fin 1024) :
    out0_4 x0 x1 x2 (ix2 r k) = (∑ j : Fin 2048, x0 (ix2 r j) * x1 (ix2 j k)) + x2 (ix2 r k) := by
  unfold out0_4
  rw [View.canon_unit_zero (by decide)]
  unfold k0_pay2 k0_pay1
  rw [View.ld_unit_zero (by decide), View.ld_unit_zero (by decide), View.ld_unit_zero (by decide)]
  pointwise

theorem val0_4 (t : Fin cfg0.N) (ht : t.val < 8) (r : Fin 1024) (k : Fin 1024) : out0_4 (iblk0 V c 0 t) (iblk0 V c 1 t) (iblk0 V c 2 t) (ix2 r k)
    = (fun i => nn (V c main_arg1) (V c main_arg2) i + V c main_arg0 i) (ix2 (⟨t.val / 2 * 1024 + r.val, by omega⟩ : Fin 4096) (⟨t.val % 2 * 1024 + k.val, by omega⟩ : Fin 2048)) := by
  rw [out0_4_eq, blk0_2 V c t ht]
  simp only [blk0_0 V c t ht, blk0_1 V c t ht]
  rfl

theorem emb0_4 (t : Fin cfg0.N) (ht : t.val < 8) (r : Fin 1024) (k : Fin 1024) : ((cfg0.win 4).blk t).view.emb (ix2 r k)
    = (ix2 (⟨t.val / 2 * 1024 + r.val, by omega⟩ : Fin 4096) (⟨t.val % 2 * 1024 + k.val, by omega⟩ : Fin 2048)) := by
  blk_ext [(idx0 t).2.2.2.2]

theorem arr0_4 : (dat0 V c).arrAt 4 cfg0.N = fun i => nn (V c main_arg1) (V c main_arg2) i + V c main_arg0 i := by
  refine (dat0 V c).arrAt_eq_of_covers 4 _ (by decide +kernel) fun t hf y => ?_
  obtain ⟨r, k, e⟩ : ∃ (r : Fin 1024) (k : Fin 1024), (win0 4).xinj (grid0.coords t) y = ix2 r k := exists_ix2 _
  have ht : t.val < 8 := t.isLt
  have e' : y = ix2 r k := e
  rw [after0_4, e]
  subst e'
  rw [val0_4 V c t ht, ← emb0_4 t ht]
  rfl

/-! ## Call 1 -/

theorem idx1 : ∀ t : Fin grid1.N, win1_0.index t = ![t.val, 0] ∧ win1_1.index t = ![0, 0] ∧ win1_2.index t = ![t.val, 0] := by decide +kernel

theorem blk1_0 (t : Fin cfg1.N) (ht : t.val < 4) (r : Fin 1024) (k : Fin 2048) : iblk1 V c 0 t (ix2 r k)
    = V c main_v0_1 (ix2 (⟨t.val * 1024 + r.val, by omega⟩ : Fin 4096) k) := by
  blk_ext [iblk1, (idx1 t).1]

theorem blk1_1 (t : Fin cfg1.N) (ht : t.val < 4) (r : Fin 2048) (k : Fin 2048) : iblk1 V c 1 t (ix2 r k)
    = V c main_arg3 (ix2 r k) := by
  blk_ext [iblk1, (idx1 t).2.1]

theorem out1_2_eq (x0 : Vec Ideal S1024x2048 .bf16) (x1 : Vec Ideal S2048x2048 .bf16) (r : Fin 1024) (k : Fin 2048) :
    out1_2 x0 x1 (ix2 r k) = (∑ j : Fin 2048, x0 (ix2 r j) * x1 (ix2 j k)) := by
  unfold out1_2
  rw [View.canon_unit_zero (by decide)]
  unfold k1_pay1
  rw [View.ld_unit_zero (by decide), View.ld_unit_zero (by decide)]
  pointwise

theorem val1_2 (t : Fin cfg1.N) (ht : t.val < 4) (r : Fin 1024) (k : Fin 2048) : out1_2 (iblk1 V c 0 t) (iblk1 V c 1 t) (ix2 r k)
    = (nn (V c main_v0_1) (V c main_arg3)) (ix2 (⟨t.val * 1024 + r.val, by omega⟩ : Fin 4096) k) := by
  rw [out1_2_eq]
  simp only [blk1_0 V c t ht, blk1_1 V c t ht]
  rfl

theorem emb1_2 (t : Fin cfg1.N) (ht : t.val < 4) (r : Fin 1024) (k : Fin 2048) : ((cfg1.win 2).blk t).view.emb (ix2 r k)
    = (ix2 (⟨t.val * 1024 + r.val, by omega⟩ : Fin 4096) k) := by
  blk_ext [(idx1 t).2.2]

theorem arr1_2 : (dat1 V c).arrAt 2 cfg1.N = nn (V c main_v0_1) (V c main_arg3) := by
  refine (dat1 V c).arrAt_eq_of_covers 2 _ (by decide +kernel) fun t hf y => ?_
  obtain ⟨r, k, e⟩ : ∃ (r : Fin 1024) (k : Fin 2048), (win1 2).xinj (grid1.coords t) y = ix2 r k := exists_ix2 _
  have ht : t.val < 4 := t.isLt
  have e' : y = ix2 r k := e
  rw [after1_2, e]
  subst e'
  rw [val1_2 V c t ht, ← emb1_2 t ht]
  rfl

/-! ## Call 2 -/

theorem idx2 : ∀ t : Fin grid2.N, win2_0.index t = ![t.val / 2, 0] ∧ win2_1.index t = ![t.val % 2, 0] ∧ win2_2.index t = ![t.val / 2, t.val % 2] ∧ win2_3.index t = ![t.val / 2, t.val % 2] ∧ win2_4.index t = ![t.val / 2, t.val % 2] := by decide +kernel

theorem blk2_0 (t : Fin cfg2.N) (ht : t.val < 8) (r : Fin 1024) (k : Fin 2048) : iblk2 V c 0 t (ix2 r k)
    = V c main_arg5 (ix2 (⟨t.val / 2 * 1024 + r.val, by omega⟩ : Fin 4096) k) := by
  blk_ext [iblk2, (idx2 t).1]

theorem blk2_1 (t : Fin cfg2.N) (ht : t.val < 8) (r : Fin 1024) (k : Fin 2048) : iblk2 V c 1 t (ix2 r k)
    = V c main_arg3 (ix2 (⟨t.val % 2 * 1024 + r.val, by omega⟩ : Fin 2048) k) := by
  blk_ext [iblk2, (idx2 t).2.1]

theorem blk2_2 (t : Fin cfg2.N) (ht : t.val < 8) (r : Fin 1024) (k : Fin 1024) : iblk2 V c 2 t (ix2 r k)
    = V c main_arg4 (ix2 (⟨t.val / 2 * 1024 + r.val, by omega⟩ : Fin 4096) (⟨t.val % 2 * 1024 + k.val, by omega⟩ : Fin 2048)) := by
  blk_ext [iblk2, (idx2 t).2.2.1]

theorem out2_3_eq (x0 : Vec Ideal S1024x2048 .bf16) (x1 : Vec Ideal S1024x2048 .bf16) (x2 : Vec Ideal S1024x1024 .f32) (r : Fin 1024) (k : Fin 1024) :
    out2_3 x0 x1 x2 (ix2 r k) = (∑ j : Fin 2048, x0 (ix2 r j) * x1 (ix2 k j)) + x2 (ix2 r k) := by
  unfold out2_3
  rw [View.canon_unit_zero (by decide)]
  unfold k2_pay1
  rw [View.ld_unit_zero (by decide), View.ld_unit_zero (by decide), View.ld_unit_zero (by decide)]
  pointwise

theorem val2_3 (t : Fin cfg2.N) (ht : t.val < 8) (r : Fin 1024) (k : Fin 1024) : out2_3 (iblk2 V c 0 t) (iblk2 V c 1 t) (iblk2 V c 2 t) (ix2 r k)
    = (fun i => nt (V c main_arg5) (V c main_arg3) i + V c main_arg4 i) (ix2 (⟨t.val / 2 * 1024 + r.val, by omega⟩ : Fin 4096) (⟨t.val % 2 * 1024 + k.val, by omega⟩ : Fin 2048)) := by
  rw [out2_3_eq, blk2_2 V c t ht]
  simp only [blk2_0 V c t ht, blk2_1 V c t ht]
  rfl

theorem emb2_3 (t : Fin cfg2.N) (ht : t.val < 8) (r : Fin 1024) (k : Fin 1024) : ((cfg2.win 3).blk t).view.emb (ix2 r k)
    = (ix2 (⟨t.val / 2 * 1024 + r.val, by omega⟩ : Fin 4096) (⟨t.val % 2 * 1024 + k.val, by omega⟩ : Fin 2048)) := by
  blk_ext [(idx2 t).2.2.2.1]

theorem arr2_3 : (dat2 V c).arrAt 3 cfg2.N = fun i => nt (V c main_arg5) (V c main_arg3) i + V c main_arg4 i := by
  refine (dat2 V c).arrAt_eq_of_covers 3 _ (by decide +kernel) fun t hf y => ?_
  obtain ⟨r, k, e⟩ : ∃ (r : Fin 1024) (k : Fin 1024), (win2 3).xinj (grid2.coords t) y = ix2 r k := exists_ix2 _
  have ht : t.val < 8 := t.isLt
  have e' : y = ix2 r k := e
  rw [after2_3, e]
  subst e'
  rw [val2_3 V c t ht, ← emb2_3 t ht]
  rfl

theorem out2_4_eq (x0 : Vec Ideal S1024x2048 .bf16) (x1 : Vec Ideal S1024x2048 .bf16) (x2 : Vec Ideal S1024x1024 .f32) (r : Fin 1024) (k : Fin 1024) :
    out2_4 x0 x1 x2 (ix2 r k) = (∑ j : Fin 2048, x0 (ix2 r j) * x1 (ix2 k j)) + x2 (ix2 r k) := by
  unfold out2_4
  rw [View.canon_unit_zero (by decide)]
  unfold k2_pay2 k2_pay1
  rw [View.ld_unit_zero (by decide), View.ld_unit_zero (by decide), View.ld_unit_zero (by decide)]
  pointwise

theorem val2_4 (t : Fin cfg2.N) (ht : t.val < 8) (r : Fin 1024) (k : Fin 1024) : out2_4 (iblk2 V c 0 t) (iblk2 V c 1 t) (iblk2 V c 2 t) (ix2 r k)
    = (fun i => nt (V c main_arg5) (V c main_arg3) i + V c main_arg4 i) (ix2 (⟨t.val / 2 * 1024 + r.val, by omega⟩ : Fin 4096) (⟨t.val % 2 * 1024 + k.val, by omega⟩ : Fin 2048)) := by
  rw [out2_4_eq, blk2_2 V c t ht]
  simp only [blk2_0 V c t ht, blk2_1 V c t ht]
  rfl

theorem emb2_4 (t : Fin cfg2.N) (ht : t.val < 8) (r : Fin 1024) (k : Fin 1024) : ((cfg2.win 4).blk t).view.emb (ix2 r k)
    = (ix2 (⟨t.val / 2 * 1024 + r.val, by omega⟩ : Fin 4096) (⟨t.val % 2 * 1024 + k.val, by omega⟩ : Fin 2048)) := by
  blk_ext [(idx2 t).2.2.2.2]

theorem arr2_4 : (dat2 V c).arrAt 4 cfg2.N = fun i => nt (V c main_arg5) (V c main_arg3) i + V c main_arg4 i := by
  refine (dat2 V c).arrAt_eq_of_covers 4 _ (by decide +kernel) fun t hf y => ?_
  obtain ⟨r, k, e⟩ : ∃ (r : Fin 1024) (k : Fin 1024), (win2 4).xinj (grid2.coords t) y = ix2 r k := exists_ix2 _
  have ht : t.val < 8 := t.isLt
  have e' : y = ix2 r k := e
  rw [after2_4, e]
  subst e'
  rw [val2_4 V c t ht, ← emb2_4 t ht]
  rfl

/-! ## Call 3 -/

theorem idx3 : ∀ t : Fin grid3.N, win3_0.index t = ![0, t.val / 2] ∧ win3_1.index t = ![0, t.val % 2] ∧ win3_2.index t = ![t.val / 2, t.val % 2] ∧ win3_3.index t = ![t.val / 2, t.val % 2] := by decide +kernel

theorem blk3_0 (t : Fin cfg3.N) (ht : t.val < 4) (r : Fin 4096) (k : Fin 1024) : iblk3 V c 0 t (ix2 r k)
    = V c main_v0_1 (ix2 r (⟨t.val / 2 * 1024 + k.val, by omega⟩ : Fin 2048)) := by
  blk_ext [iblk3, (idx3 t).1]

theorem blk3_1 (t : Fin cfg3.N) (ht : t.val < 4) (r : Fin 4096) (k : Fin 1024) : iblk3 V c 1 t (ix2 r k)
    = V c main_arg5 (ix2 r (⟨t.val % 2 * 1024 + k.val, by omega⟩ : Fin 2048)) := by
  blk_ext [iblk3, (idx3 t).2.1]

theorem out3_2_eq (x0 : Vec Ideal S4096x1024 .bf16) (x1 : Vec Ideal S4096x1024 .bf16) (r : Fin 1024) (k : Fin 1024) :
    out3_2 x0 x1 (ix2 r k) = (∑ j : Fin 4096, x0 (ix2 j r) * x1 (ix2 j k)) := by
  unfold out3_2
  rw [View.canon_unit_zero (by decide)]
  unfold k3_pay1
  rw [View.ld_unit_zero (by decide), View.ld_unit_zero (by decide)]
  pointwise

theorem val3_2 (t : Fin cfg3.N) (ht : t.val < 4) (r : Fin 1024) (k : Fin 1024) : out3_2 (iblk3 V c 0 t) (iblk3 V c 1 t) (ix2 r k)
    = (tn (V c main_v0_1) (V c main_arg5)) (ix2 (⟨t.val / 2 * 1024 + r.val, by omega⟩ : Fin 2048) (⟨t.val % 2 * 1024 + k.val, by omega⟩ : Fin 2048)) := by
  rw [out3_2_eq]
  simp only [blk3_0 V c t ht, blk3_1 V c t ht]
  rfl

theorem emb3_2 (t : Fin cfg3.N) (ht : t.val < 4) (r : Fin 1024) (k : Fin 1024) : ((cfg3.win 2).blk t).view.emb (ix2 r k)
    = (ix2 (⟨t.val / 2 * 1024 + r.val, by omega⟩ : Fin 2048) (⟨t.val % 2 * 1024 + k.val, by omega⟩ : Fin 2048)) := by
  blk_ext [(idx3 t).2.2.1]

theorem arr3_2 : (dat3 V c).arrAt 2 cfg3.N = tn (V c main_v0_1) (V c main_arg5) := by
  refine (dat3 V c).arrAt_eq_of_covers 2 _ (by decide +kernel) fun t hf y => ?_
  obtain ⟨r, k, e⟩ : ∃ (r : Fin 1024) (k : Fin 1024), (win3 2).xinj (grid3.coords t) y = ix2 r k := exists_ix2 _
  have ht : t.val < 4 := t.isLt
  have e' : y = ix2 r k := e
  rw [after3_2, e]
  subst e'
  rw [val3_2 V c t ht, ← emb3_2 t ht]
  rfl

theorem out3_3_eq (x0 : Vec Ideal S4096x1024 .bf16) (x1 : Vec Ideal S4096x1024 .bf16) (r : Fin 1024) (k : Fin 1024) :
    out3_3 x0 x1 (ix2 r k) = (∑ j : Fin 4096, x0 (ix2 j r) * x1 (ix2 j k)) := by
  unfold out3_3
  rw [View.canon_unit_zero (by decide)]
  unfold k3_pay2 k3_pay1
  rw [View.ld_unit_zero (by decide), View.ld_unit_zero (by decide)]
  pointwise

theorem val3_3 (t : Fin cfg3.N) (ht : t.val < 4) (r : Fin 1024) (k : Fin 1024) : out3_3 (iblk3 V c 0 t) (iblk3 V c 1 t) (ix2 r k)
    = (tn (V c main_v0_1) (V c main_arg5)) (ix2 (⟨t.val / 2 * 1024 + r.val, by omega⟩ : Fin 2048) (⟨t.val % 2 * 1024 + k.val, by omega⟩ : Fin 2048)) := by
  rw [out3_3_eq]
  simp only [blk3_0 V c t ht, blk3_1 V c t ht]
  rfl

theorem emb3_3 (t : Fin cfg3.N) (ht : t.val < 4) (r : Fin 1024) (k : Fin 1024) : ((cfg3.win 3).blk t).view.emb (ix2 r k)
    = (ix2 (⟨t.val / 2 * 1024 + r.val, by omega⟩ : Fin 2048) (⟨t.val % 2 * 1024 + k.val, by omega⟩ : Fin 2048)) := by
  blk_ext [(idx3 t).2.2.2]

theorem arr3_3 : (dat3 V c).arrAt 3 cfg3.N = tn (V c main_v0_1) (V c main_arg5) := by
  refine (dat3 V c).arrAt_eq_of_covers 3 _ (by decide +kernel) fun t hf y => ?_
  obtain ⟨r, k, e⟩ : ∃ (r : Fin 1024) (k : Fin 1024), (win3 3).xinj (grid3.coords t) y = ix2 r k := exists_ix2 _
  have ht : t.val < 4 := t.isLt
  have e' : y = ix2 r k := e
  rw [after3_3, e]
  subst e'
  rw [val3_3 V c t ht, ← emb3_3 t ht]
  rfl

/-! ## Call 4 -/

theorem idx4 : ∀ t : Fin grid4.N, win4_0.index t = ![t.val, 0] ∧ win4_1.index t = ![0, 0] ∧ win4_2.index t = ![t.val, 0] := by decide +kernel

theorem blk4_0 (t : Fin cfg4.N) (ht : t.val < 4) (r : Fin 1024) (k : Fin 2048) : iblk4 V c 0 t (ix2 r k)
    = V c main_v2_1 (ix2 (⟨t.val * 1024 + r.val, by omega⟩ : Fin 4096) k) := by
  blk_ext [iblk4, (idx4 t).1]

theorem blk4_1 (t : Fin cfg4.N) (ht : t.val < 4) (r : Fin 2048) (k : Fin 2048) : iblk4 V c 1 t (ix2 r k)
    = V c main_arg2 (ix2 r k) := by
  blk_ext [iblk4, (idx4 t).2.1]

theorem out4_2_eq (x0 : Vec Ideal S1024x2048 .bf16) (x1 : Vec Ideal S2048x2048 .bf16) (r : Fin 1024) (k : Fin 2048) :
    out4_2 x0 x1 (ix2 r k) = (∑ j : Fin 2048, x0 (ix2 r j) * x1 (ix2 k j)) := by
  unfold out4_2
  rw [View.canon_unit_zero (by decide)]
  unfold k4_pay1
  rw [View.ld_unit_zero (by decide), View.ld_unit_zero (by decide)]
  pointwise

theorem val4_2 (t : Fin cfg4.N) (ht : t.val < 4) (r : Fin 1024) (k : Fin 2048) : out4_2 (iblk4 V c 0 t) (iblk4 V c 1 t) (ix2 r k)
    = (nt (V c main_v2_1) (V c main_arg2)) (ix2 (⟨t.val * 1024 + r.val, by omega⟩ : Fin 4096) k) := by
  rw [out4_2_eq]
  simp only [blk4_0 V c t ht, blk4_1 V c t ht]
  rfl

theorem emb4_2 (t : Fin cfg4.N) (ht : t.val < 4) (r : Fin 1024) (k : Fin 2048) : ((cfg4.win 2).blk t).view.emb (ix2 r k)
    = (ix2 (⟨t.val * 1024 + r.val, by omega⟩ : Fin 4096) k) := by
  blk_ext [(idx4 t).2.2]

theorem arr4_2 : (dat4 V c).arrAt 2 cfg4.N = nt (V c main_v2_1) (V c main_arg2) := by
  refine (dat4 V c).arrAt_eq_of_covers 2 _ (by decide +kernel) fun t hf y => ?_
  obtain ⟨r, k, e⟩ : ∃ (r : Fin 1024) (k : Fin 2048), (win4 2).xinj (grid4.coords t) y = ix2 r k := exists_ix2 _
  have ht : t.val < 4 := t.isLt
  have e' : y = ix2 r k := e
  rw [after4_2, e]
  subst e'
  rw [val4_2 V c t ht, ← emb4_2 t ht]
  rfl

/-! ## Call 5 -/

theorem idx5 : ∀ t : Fin grid5.N, win5_0.index t = ![0, t.val / 2] ∧ win5_1.index t = ![0, t.val % 2] ∧ win5_2.index t = ![t.val / 2, t.val % 2] ∧ win5_3.index t = ![t.val / 2, t.val % 2] := by decide +kernel

theorem blk5_0 (t : Fin cfg5.N) (ht : t.val < 4) (r : Fin 4096) (k : Fin 1024) : iblk5 V c 0 t (ix2 r k)
    = V c main_arg1 (ix2 r (⟨t.val / 2 * 1024 + k.val, by omega⟩ : Fin 2048)) := by
  blk_ext [iblk5, (idx5 t).1]

theorem blk5_1 (t : Fin cfg5.N) (ht : t.val < 4) (r : Fin 4096) (k : Fin 1024) : iblk5 V c 1 t (ix2 r k)
    = V c main_v2_1 (ix2 r (⟨t.val % 2 * 1024 + k.val, by omega⟩ : Fin 2048)) := by
  blk_ext [iblk5, (idx5 t).2.1]

theorem out5_2_eq (x0 : Vec Ideal S4096x1024 .bf16) (x1 : Vec Ideal S4096x1024 .bf16) (r : Fin 1024) (k : Fin 1024) :
    out5_2 x0 x1 (ix2 r k) = (∑ j : Fin 4096, x0 (ix2 j r) * x1 (ix2 j k)) := by
  unfold out5_2
  rw [View.canon_unit_zero (by decide)]
  unfold k5_pay1
  rw [View.ld_unit_zero (by decide), View.ld_unit_zero (by decide)]
  pointwise

theorem val5_2 (t : Fin cfg5.N) (ht : t.val < 4) (r : Fin 1024) (k : Fin 1024) : out5_2 (iblk5 V c 0 t) (iblk5 V c 1 t) (ix2 r k)
    = (tn (V c main_arg1) (V c main_v2_1)) (ix2 (⟨t.val / 2 * 1024 + r.val, by omega⟩ : Fin 2048) (⟨t.val % 2 * 1024 + k.val, by omega⟩ : Fin 2048)) := by
  rw [out5_2_eq]
  simp only [blk5_0 V c t ht, blk5_1 V c t ht]
  rfl

theorem emb5_2 (t : Fin cfg5.N) (ht : t.val < 4) (r : Fin 1024) (k : Fin 1024) : ((cfg5.win 2).blk t).view.emb (ix2 r k)
    = (ix2 (⟨t.val / 2 * 1024 + r.val, by omega⟩ : Fin 2048) (⟨t.val % 2 * 1024 + k.val, by omega⟩ : Fin 2048)) := by
  blk_ext [(idx5 t).2.2.1]

theorem arr5_2 : (dat5 V c).arrAt 2 cfg5.N = tn (V c main_arg1) (V c main_v2_1) := by
  refine (dat5 V c).arrAt_eq_of_covers 2 _ (by decide +kernel) fun t hf y => ?_
  obtain ⟨r, k, e⟩ : ∃ (r : Fin 1024) (k : Fin 1024), (win5 2).xinj (grid5.coords t) y = ix2 r k := exists_ix2 _
  have ht : t.val < 4 := t.isLt
  have e' : y = ix2 r k := e
  rw [after5_2, e]
  subst e'
  rw [val5_2 V c t ht, ← emb5_2 t ht]
  rfl

theorem out5_3_eq (x0 : Vec Ideal S4096x1024 .bf16) (x1 : Vec Ideal S4096x1024 .bf16) (r : Fin 1024) (k : Fin 1024) :
    out5_3 x0 x1 (ix2 r k) = (∑ j : Fin 4096, x0 (ix2 j r) * x1 (ix2 j k)) := by
  unfold out5_3
  rw [View.canon_unit_zero (by decide)]
  unfold k5_pay2 k5_pay1
  rw [View.ld_unit_zero (by decide), View.ld_unit_zero (by decide)]
  pointwise

theorem val5_3 (t : Fin cfg5.N) (ht : t.val < 4) (r : Fin 1024) (k : Fin 1024) : out5_3 (iblk5 V c 0 t) (iblk5 V c 1 t) (ix2 r k)
    = (tn (V c main_arg1) (V c main_v2_1)) (ix2 (⟨t.val / 2 * 1024 + r.val, by omega⟩ : Fin 2048) (⟨t.val % 2 * 1024 + k.val, by omega⟩ : Fin 2048)) := by
  rw [out5_3_eq]
  simp only [blk5_0 V c t ht, blk5_1 V c t ht]
  rfl

theorem emb5_3 (t : Fin cfg5.N) (ht : t.val < 4) (r : Fin 1024) (k : Fin 1024) : ((cfg5.win 3).blk t).view.emb (ix2 r k)
    = (ix2 (⟨t.val / 2 * 1024 + r.val, by omega⟩ : Fin 2048) (⟨t.val % 2 * 1024 + k.val, by omega⟩ : Fin 2048)) := by
  blk_ext [(idx5 t).2.2.2]

theorem arr5_3 : (dat5 V c).arrAt 3 cfg5.N = tn (V c main_arg1) (V c main_v2_1) := by
  refine (dat5 V c).arrAt_eq_of_covers 3 _ (by decide +kernel) fun t hf y => ?_
  obtain ⟨r, k, e⟩ : ∃ (r : Fin 1024) (k : Fin 1024), (win5 3).xinj (grid5.coords t) y = ix2 r k := exists_ix2 _
  have ht : t.val < 4 := t.isLt
  have e' : y = ix2 r k := e
  rw [after5_3, e]
  subst e'
  rw [val5_3 V c t ht, ← emb5_3 t ht]
  rfl

end Cert.Out

end
-- ==== Proof.OutRun.lean ====
module

public import proofs.«01_k».proof.Proof.OutKernel

/-! The chain of products as one run: every result as a sum over the arguments. -/

@[expose] public section

set_option maxRecDepth 16384

noncomputable section

namespace Cert.Out

open Cert.Kernel2Ideal Cert.Kernel2Ideal.Gen Cert.Products
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option backward.isDefEq.respectTransparency.types false in
/-- Every execution of the calls terminates and leaves each array at what the calls' fold gives. -/
theorem run_fold (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

/-- The residual stream after the output product, -/
def resid (xs cat : S4096x2048.Idx → EReal) (wout : S2048x2048.Idx → EReal) : S4096x2048.Idx → EReal := fun i => nn cat wout i + xs i
/-- and the gradient reaching it, from its own and from that of the embedding gate's argument. -/
def grad (wpg : S2048x2048.Idx → EReal) (dh2 dz : S4096x2048.Idx → EReal) : S4096x2048.Idx → EReal := fun i => nt dz wpg i + dh2 i

variable (m : (ℓ : Loc nD τ sig) → Buf (Elt Ideal) ℓ) (ρ : Dev nD → PrngReg) (c : Dev nD)

/-- An argument's contents at the start. -/
abbrev A (b : Ref sig .tc) : Buf (Elt Ideal) ((c.tc : Thread nD τ).loc b) := m ((c.tc : Thread nD τ).loc b)

theorem first_main_v0_0 : W1 m ρ c (Proc.devRef .tc main_v0_0) = resid (A m c main_arg0) (A m c main_arg1) (A m c main_arg2) := by
  refine (W1_arr m ρ c 3).trans ?_
  rw [arr0_3, show V0 m ρ c main_arg1 = A m c main_arg1 from rfl, show V0 m ρ c main_arg2 = A m c main_arg2 from rfl, show V0 m ρ c main_arg0 = A m c main_arg0 from rfl]
  try rfl

theorem at6_main_v0_0 : W6 m ρ c (Proc.devRef .tc main_v0_0) = resid (A m c main_arg0) (A m c main_arg1) (A m c main_arg2) :=
  (W6_of m ρ c main_v0_0 (by decide +kernel)).trans ((W5_of m ρ c main_v0_0 (by decide +kernel)).trans ((W4_of m ρ c main_v0_0 (by decide +kernel)).trans ((W3_of m ρ c main_v0_0 (by decide +kernel)).trans ((W2_of m ρ c main_v0_0 (by decide +kernel)).trans (first_main_v0_0 m ρ c)))))

theorem first_main_v0_1 : W1 m ρ c (Proc.devRef .tc main_v0_1) = resid (A m c main_arg0) (A m c main_arg1) (A m c main_arg2) := by
  refine (W1_arr m ρ c 4).trans ?_
  rw [arr0_4, show V0 m ρ c main_arg1 = A m c main_arg1 from rfl, show V0 m ρ c main_arg2 = A m c main_arg2 from rfl, show V0 m ρ c main_arg0 = A m c main_arg0 from rfl]
  try rfl

theorem at3_main_v0_1 : W3 m ρ c (Proc.devRef .tc main_v0_1) = resid (A m c main_arg0) (A m c main_arg1) (A m c main_arg2) :=
  (W3_of m ρ c main_v0_1 (by decide +kernel)).trans ((W2_of m ρ c main_v0_1 (by decide +kernel)).trans (first_main_v0_1 m ρ c))

theorem at6_main_v0_1 : W6 m ρ c (Proc.devRef .tc main_v0_1) = resid (A m c main_arg0) (A m c main_arg1) (A m c main_arg2) :=
  (W6_of m ρ c main_v0_1 (by decide +kernel)).trans ((W5_of m ρ c main_v0_1 (by decide +kernel)).trans ((W4_of m ρ c main_v0_1 (by decide +kernel)).trans (at3_main_v0_1 m ρ c)))

theorem first_main_v1 : W2 m ρ c (Proc.devRef .tc main_v1) = nn (resid (A m c main_arg0) (A m c main_arg1) (A m c main_arg2)) (A m c main_arg3) := by
  refine (W2_arr m ρ c 2).trans ?_
  rw [arr1_2, show V1 m ρ c main_v0_1 = _ from first_main_v0_1 m ρ c, show V1 m ρ c main_arg3 = A m c main_arg3 from W1_args m ρ c main_arg3 (by decide)]
  try rfl

theorem at6_main_v1 : W6 m ρ c (Proc.devRef .tc main_v1) = nn (resid (A m c main_arg0) (A m c main_arg1) (A m c main_arg2)) (A m c main_arg3) :=
  (W6_of m ρ c main_v1 (by decide +kernel)).trans ((W5_of m ρ c main_v1 (by decide +kernel)).trans ((W4_of m ρ c main_v1 (by decide +kernel)).trans ((W3_of m ρ c main_v1 (by decide +kernel)).trans (first_main_v1 m ρ c))))

theorem first_main_v2_0 : W3 m ρ c (Proc.devRef .tc main_v2_0) = grad (A m c main_arg3) (A m c main_arg4) (A m c main_arg5) := by
  refine (W3_arr m ρ c 3).trans ?_
  rw [arr2_3, show V2 m ρ c main_arg5 = A m c main_arg5 from W2_args m ρ c main_arg5 (by decide), show V2 m ρ c main_arg3 = A m c main_arg3 from W2_args m ρ c main_arg3 (by decide), show V2 m ρ c main_arg4 = A m c main_arg4 from W2_args m ρ c main_arg4 (by decide)]
  try rfl

theorem at6_main_v2_0 : W6 m ρ c (Proc.devRef .tc main_v2_0) = grad (A m c main_arg3) (A m c main_arg4) (A m c main_arg5) :=
  (W6_of m ρ c main_v2_0 (by decide +kernel)).trans ((W5_of m ρ c main_v2_0 (by decide +kernel)).trans ((W4_of m ρ c main_v2_0 (by decide +kernel)).trans (first_main_v2_0 m ρ c)))

theorem first_main_v2_1 : W3 m ρ c (Proc.devRef .tc main_v2_1) = grad (A m c main_arg3) (A m c main_arg4) (A m c main_arg5) := by
  refine (W3_arr m ρ c 4).trans ?_
  rw [arr2_4, show V2 m ρ c main_arg5 = A m c main_arg5 from W2_args m ρ c main_arg5 (by decide), show V2 m ρ c main_arg3 = A m c main_arg3 from W2_args m ρ c main_arg3 (by decide), show V2 m ρ c main_arg4 = A m c main_arg4 from W2_args m ρ c main_arg4 (by decide)]
  try rfl

theorem at4_main_v2_1 : W4 m ρ c (Proc.devRef .tc main_v2_1) = grad (A m c main_arg3) (A m c main_arg4) (A m c main_arg5) :=
  (W4_of m ρ c main_v2_1 (by decide +kernel)).trans (first_main_v2_1 m ρ c)

theorem at5_main_v2_1 : W5 m ρ c (Proc.devRef .tc main_v2_1) = grad (A m c main_arg3) (A m c main_arg4) (A m c main_arg5) :=
  (W5_of m ρ c main_v2_1 (by decide +kernel)).trans (at4_main_v2_1 m ρ c)

theorem at6_main_v2_1 : W6 m ρ c (Proc.devRef .tc main_v2_1) = grad (A m c main_arg3) (A m c main_arg4) (A m c main_arg5) :=
  (W6_of m ρ c main_v2_1 (by decide +kernel)).trans (at5_main_v2_1 m ρ c)

theorem first_main_v3_0 : W4 m ρ c (Proc.devRef .tc main_v3_0) = tn (resid (A m c main_arg0) (A m c main_arg1) (A m c main_arg2)) (A m c main_arg5) := by
  refine (W4_arr m ρ c 2).trans ?_
  rw [arr3_2, show V3 m ρ c main_v0_1 = _ from at3_main_v0_1 m ρ c, show V3 m ρ c main_arg5 = A m c main_arg5 from W3_args m ρ c main_arg5 (by decide)]
  try rfl

theorem at6_main_v3_0 : W6 m ρ c (Proc.devRef .tc main_v3_0) = tn (resid (A m c main_arg0) (A m c main_arg1) (A m c main_arg2)) (A m c main_arg5) :=
  (W6_of m ρ c main_v3_0 (by decide +kernel)).trans ((W5_of m ρ c main_v3_0 (by decide +kernel)).trans (first_main_v3_0 m ρ c))

theorem first_main_v3_1 : W4 m ρ c (Proc.devRef .tc main_v3_1) = tn (resid (A m c main_arg0) (A m c main_arg1) (A m c main_arg2)) (A m c main_arg5) := by
  refine (W4_arr m ρ c 3).trans ?_
  rw [arr3_3, show V3 m ρ c main_v0_1 = _ from at3_main_v0_1 m ρ c, show V3 m ρ c main_arg5 = A m c main_arg5 from W3_args m ρ c main_arg5 (by decide)]
  try rfl

theorem at6_main_v3_1 : W6 m ρ c (Proc.devRef .tc main_v3_1) = tn (resid (A m c main_arg0) (A m c main_arg1) (A m c main_arg2)) (A m c main_arg5) :=
  (W6_of m ρ c main_v3_1 (by decide +kernel)).trans ((W5_of m ρ c main_v3_1 (by decide +kernel)).trans (first_main_v3_1 m ρ c))

theorem first_main_v4 : W5 m ρ c (Proc.devRef .tc main_v4) = nt (grad (A m c main_arg3) (A m c main_arg4) (A m c main_arg5)) (A m c main_arg2) := by
  refine (W5_arr m ρ c 2).trans ?_
  rw [arr4_2, show V4 m ρ c main_v2_1 = _ from at4_main_v2_1 m ρ c, show V4 m ρ c main_arg2 = A m c main_arg2 from W4_args m ρ c main_arg2 (by decide)]
  try rfl

theorem at6_main_v4 : W6 m ρ c (Proc.devRef .tc main_v4) = nt (grad (A m c main_arg3) (A m c main_arg4) (A m c main_arg5)) (A m c main_arg2) :=
  (W6_of m ρ c main_v4 (by decide +kernel)).trans (first_main_v4 m ρ c)

theorem first_main_v5_0 : W6 m ρ c (Proc.devRef .tc main_v5_0) = tn (A m c main_arg1) (grad (A m c main_arg3) (A m c main_arg4) (A m c main_arg5)) := by
  refine (W6_arr m ρ c 2).trans ?_
  rw [arr5_2, show V5 m ρ c main_arg1 = A m c main_arg1 from W5_args m ρ c main_arg1 (by decide), show V5 m ρ c main_v2_1 = _ from at5_main_v2_1 m ρ c]
  try rfl

theorem first_main_v5_1 : W6 m ρ c (Proc.devRef .tc main_v5_1) = tn (A m c main_arg1) (grad (A m c main_arg3) (A m c main_arg4) (A m c main_arg5)) := by
  refine (W6_arr m ρ c 3).trans ?_
  rw [arr5_3, show V5 m ρ c main_arg1 = A m c main_arg1 from W5_args m ρ c main_arg1 (by decide), show V5 m ρ c main_v2_1 = _ from at5_main_v2_1 m ρ c]
  try rfl

/-- Every execution of the calls leaves each result at its sum and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = resid (A m c main_arg0) (A m c main_arg1) (A m c main_arg2)
      ∧ r.2.mem ((c.tc : Thread nD τ).loc main_v0_1) = resid (A m c main_arg0) (A m c main_arg1) (A m c main_arg2)
      ∧ r.2.mem ((c.tc : Thread nD τ).loc main_v1) = nn (resid (A m c main_arg0) (A m c main_arg1) (A m c main_arg2)) (A m c main_arg3)
      ∧ r.2.mem ((c.tc : Thread nD τ).loc main_v2_0) = grad (A m c main_arg3) (A m c main_arg4) (A m c main_arg5)
      ∧ r.2.mem ((c.tc : Thread nD τ).loc main_v2_1) = grad (A m c main_arg3) (A m c main_arg4) (A m c main_arg5)
      ∧ r.2.mem ((c.tc : Thread nD τ).loc main_v3_0) = tn (resid (A m c main_arg0) (A m c main_arg1) (A m c main_arg2)) (A m c main_arg5)
      ∧ r.2.mem ((c.tc : Thread nD τ).loc main_v3_1) = tn (resid (A m c main_arg0) (A m c main_arg1) (A m c main_arg2)) (A m c main_arg5)
      ∧ r.2.mem ((c.tc : Thread nD τ).loc main_v4) = nt (grad (A m c main_arg3) (A m c main_arg4) (A m c main_arg5)) (A m c main_arg2)
      ∧ r.2.mem ((c.tc : Thread nD τ).loc main_v5_0) = tn (A m c main_arg1) (grad (A m c main_arg3) (A m c main_arg4) (A m c main_arg5))
      ∧ r.2.mem ((c.tc : Thread nD τ).loc main_v5_1) = tn (A m c main_arg1) (grad (A m c main_arg3) (A m c main_arg4) (A m c main_arg5))
      ∧ r.2.mem ((c.tc : Thread nD τ).loc main_arg0) = A m c main_arg0
      ∧ r.2.mem ((c.tc : Thread nD τ).loc main_arg1) = A m c main_arg1
      ∧ r.2.mem ((c.tc : Thread nD τ).loc main_arg2) = A m c main_arg2
      ∧ r.2.mem ((c.tc : Thread nD τ).loc main_arg3) = A m c main_arg3
      ∧ r.2.mem ((c.tc : Thread nD τ).loc main_arg4) = A m c main_arg4
      ∧ r.2.mem ((c.tc : Thread nD τ).loc main_arg5) = A m c main_arg5) :=
  (θ_run defs _ _).mono (fun _ h c => ⟨(h c _ (mem_uc main_v0_0 (by decide))).trans (at6_main_v0_0 m ρ c),
    (h c _ (mem_uc main_v0_1 (by decide))).trans (at6_main_v0_1 m ρ c),
    (h c _ (mem_uc main_v1 (by decide))).trans (at6_main_v1 m ρ c),
    (h c _ (mem_uc main_v2_0 (by decide))).trans (at6_main_v2_0 m ρ c),
    (h c _ (mem_uc main_v2_1 (by decide))).trans (at6_main_v2_1 m ρ c),
    (h c _ (mem_uc main_v3_0 (by decide))).trans (at6_main_v3_0 m ρ c),
    (h c _ (mem_uc main_v3_1 (by decide))).trans (at6_main_v3_1 m ρ c),
    (h c _ (mem_uc main_v4 (by decide))).trans (at6_main_v4 m ρ c),
    (h c _ (mem_uc main_v5_0 (by decide))).trans (first_main_v5_0 m ρ c),
    (h c _ (mem_uc main_v5_1 (by decide))).trans (first_main_v5_1 m ρ c),
    (h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c)⟩) (run_fold m ρ)

end Cert.Out

end
-- ==== Proof.OutRef.lean ====
module

public import proofs.«01_k».proof.Proof.Gen.Reference2Ideal.Run
public import proofs.«01_k».proof.Proof.OutRun
public import Idealize.ShloMosaic.Lib.Pointwise

/-! What the reference of the output products leaves: the same sums. -/

@[expose] public section

set_option maxRecDepth 16384

noncomputable section

namespace Cert.Out.Ref

open Cert.Reference2Ideal Cert.Reference2Ideal.Gen Cert.Products Cert.Out Idealize.ShloMosaic Idealize.ShloMosaic.TcCoe Idealize.SL.Sem

/-- An argument's contents at the start. -/
abbrev A (m : (ℓ : Loc nD τ sig) → Buf (Elt Ideal) ℓ) (c : Dev nD) (b : Ref sig .tc) : Buf (Elt Ideal) ((c.tc : Thread nD τ).loc b) := m ((c.tc : Thread nD τ).loc b)

theorem dot_nn (l : FVec Ideal S4096x2048 .f32) (r : FVec Ideal S2048x2048 .f32) :
    Host.dotGeneral dot_S4096x2048_S2048x2048_S4096x2048_1_0_0_1_n_n none l r = nn l r := by
  funext i
  obtain ⟨a, b, rfl⟩ : ∃ (a : Fin 4096) (b : Fin 2048), i = ix2 a b := exists_ix2 (R := 4096) (C := 2048) i
  unfold nn
  pointwise

theorem dot_nt (l : FVec Ideal S4096x2048 .f32) (r : FVec Ideal S2048x2048 .f32) :
    Host.dotGeneral dot_S4096x2048_S2048x2048_S4096x2048_1_1_0_0_n_n none l r = nt l r := by
  funext i
  obtain ⟨a, b, rfl⟩ : ∃ (a : Fin 4096) (b : Fin 2048), i = ix2 a b := exists_ix2 (R := 4096) (C := 2048) i
  unfold nt
  pointwise

theorem dot_tn (l : FVec Ideal S4096x2048 .f32) (r : FVec Ideal S4096x2048 .f32) :
    Host.dotGeneral dot_S4096x2048_S4096x2048_S2048x2048_0_0_1_1_n_n none l r = tn l r := by
  funext i
  obtain ⟨a, b, rfl⟩ : ∃ (a : Fin 2048) (b : Fin 2048), i = ix2 a b := exists_ix2 (R := 2048) (C := 2048) i
  unfold tn
  pointwise

/-- The transpose of a product of columns against columns is that product with the factors exchanged. -/
theorem transpose_tn (l r : FVec Ideal S4096x2048 .f32) :
    (transpose S2048x2048 [1, 0] (tn l r : FVec Ideal S2048x2048 .f32) transposes_S2048x2048_S2048x2048_1_0 : FVec Ideal S2048x2048 .f32) = tn r l := by
  funext i
  obtain ⟨a, b, rfl⟩ : ∃ (a : Fin 2048) (b : Fin 2048), i = ix2 a b := exists_ix2 (R := 2048) (C := 2048) i
  unfold tn
  pointwise
  exact Finset.sum_congr rfl fun k _ => mul_comm _ _

theorem resid_eq (xs cat : FVec Ideal S4096x2048 .f32) (w : FVec Ideal S2048x2048 .f32) :
    (addf xs (nn cat w : FVec Ideal S4096x2048 .f32) : FVec Ideal S4096x2048 .f32) = resid xs cat w :=
  funext fun i => add_comm (xs i) (nn cat w i)

theorem grad_eq (w : FVec Ideal S2048x2048 .f32) (dh2 dz : FVec Ideal S4096x2048 .f32) :
    (addf dh2 (nt dz w : FVec Ideal S4096x2048 .f32) : FVec Ideal S4096x2048 .f32) = grad w dh2 dz :=
  funext fun i => add_comm (dh2 i) (nt dz w i)

theorem cast_same (x : FVec Ideal S4096x2048 .f32) : (shapeCast S4096x2048 x shapeCasts_S4096x2048_S4096x2048 : FVec Ideal S4096x2048 .f32) = x := by
  funext i
  obtain ⟨a, b, rfl⟩ : ∃ (a : Fin 4096) (b : Fin 2048), i = ix2 a b := exists_ix2 (R := 4096) (C := 2048) i
  pointwise

variable (xs dh2 : FVec Ideal S4096x2048 .f32) (cat dz : FVec Ideal S4096x2048 .bf16) (wout wpg : FVec Ideal S2048x2048 .bf16)

theorem out_h : (addf xs (Host.dotGeneral dot_S4096x2048_S2048x2048_S4096x2048_1_0_0_1_n_n none (extf .f32 cat bitsLt_bf16_f32) (extf .f32 wout bitsLt_bf16_f32)) : FVec Ideal S4096x2048 .f32) = resid xs cat wout :=
  (congrArg (addf xs) (dot_nn _ _)).trans (resid_eq _ _ _)

theorem out_z : (Host.dotGeneral dot_S4096x2048_S2048x2048_S4096x2048_1_0_0_1_n_n none (addf xs (Host.dotGeneral dot_S4096x2048_S2048x2048_S4096x2048_1_0_0_1_n_n none (extf .f32 cat bitsLt_bf16_f32) (extf .f32 wout bitsLt_bf16_f32)) : FVec Ideal S4096x2048 .f32) (extf .f32 wpg bitsLt_bf16_f32) : FVec Ideal S4096x2048 .f32) = nn (resid xs cat wout) wpg :=
  (dot_nn _ _).trans (congrArg (fun x => nn x wpg) (out_h xs cat wout))

theorem out_dh : (addf dh2 (Host.dotGeneral dot_S4096x2048_S2048x2048_S4096x2048_1_1_0_0_n_n none (extf .f32 dz bitsLt_bf16_f32) (extf .f32 wpg bitsLt_bf16_f32)) : FVec Ideal S4096x2048 .f32) = grad wpg dh2 dz :=
  (congrArg (addf dh2) (dot_nt _ _)).trans (grad_eq _ _ _)

theorem out_dh_cast : (shapeCast S4096x2048 (addf dh2 (Host.dotGeneral dot_S4096x2048_S2048x2048_S4096x2048_1_1_0_0_n_n none (extf .f32 dz bitsLt_bf16_f32) (extf .f32 wpg bitsLt_bf16_f32)) : FVec Ideal S4096x2048 .f32) shapeCasts_S4096x2048_S4096x2048 : FVec Ideal S4096x2048 .f32) = grad wpg dh2 dz := (cast_same _).trans (out_dh dh2 dz wpg)

theorem out_dcat : (Host.dotGeneral dot_S4096x2048_S2048x2048_S4096x2048_1_1_0_0_n_n none (shapeCast S4096x2048 (addf dh2 (Host.dotGeneral dot_S4096x2048_S2048x2048_S4096x2048_1_1_0_0_n_n none (extf .f32 dz bitsLt_bf16_f32) (extf .f32 wpg bitsLt_bf16_f32)) : FVec Ideal S4096x2048 .f32) shapeCasts_S4096x2048_S4096x2048 : FVec Ideal S4096x2048 .f32) (extf .f32 wout bitsLt_bf16_f32) : FVec Ideal S4096x2048 .f32) = nt (grad wpg dh2 dz) wout :=
  (dot_nt _ _).trans (congrArg (fun x => nt x wout) (out_dh_cast dh2 dz wpg))

theorem out_gwout : (transpose S2048x2048 [1, 0] (Host.dotGeneral dot_S4096x2048_S4096x2048_S2048x2048_0_0_1_1_n_n none (shapeCast S4096x2048 (addf dh2 (Host.dotGeneral dot_S4096x2048_S2048x2048_S4096x2048_1_1_0_0_n_n none (extf .f32 dz bitsLt_bf16_f32) (extf .f32 wpg bitsLt_bf16_f32)) : FVec Ideal S4096x2048 .f32) shapeCasts_S4096x2048_S4096x2048 : FVec Ideal S4096x2048 .f32) (extf .f32 cat bitsLt_bf16_f32) : FVec Ideal S2048x2048 .f32) transposes_S2048x2048_S2048x2048_1_0 : FVec Ideal S2048x2048 .f32) = tn cat (grad wpg dh2 dz) := by
  rw [dot_tn]
  exact (transpose_tn _ _).trans (congrArg (fun x => tn cat x) (out_dh_cast dh2 dz wpg))

theorem out_gwpg : (transpose S2048x2048 [1, 0] (Host.dotGeneral dot_S4096x2048_S4096x2048_S2048x2048_0_0_1_1_n_n none (extf .f32 dz bitsLt_bf16_f32) (addf xs (Host.dotGeneral dot_S4096x2048_S2048x2048_S4096x2048_1_0_0_1_n_n none (extf .f32 cat bitsLt_bf16_f32) (extf .f32 wout bitsLt_bf16_f32)) : FVec Ideal S4096x2048 .f32) : FVec Ideal S2048x2048 .f32) transposes_S2048x2048_S2048x2048_1_0 : FVec Ideal S2048x2048 .f32) = tn (resid xs cat wout) dz := by
  rw [dot_tn]
  exact (transpose_tn _ _).trans (congrArg (fun x => tn x dz) (out_h xs cat wout))

/-- The reference leaves each result at its sum and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v4) = resid (A m c main_arg0) (A m c main_arg1) (A m c main_arg2)
      ∧ r.2.mem ((c.tc : Thread nD τ).loc main_v5) = nn (resid (A m c main_arg0) (A m c main_arg1) (A m c main_arg2)) (A m c main_arg3)
      ∧ r.2.mem ((c.tc : Thread nD τ).loc main_v10) = grad (A m c main_arg3) (A m c main_arg4) (A m c main_arg5)
      ∧ r.2.mem ((c.tc : Thread nD τ).loc main_v14) = nt (grad (A m c main_arg3) (A m c main_arg4) (A m c main_arg5)) (A m c main_arg2)
      ∧ r.2.mem ((c.tc : Thread nD τ).loc main_v13) = tn (A m c main_arg1) (grad (A m c main_arg3) (A m c main_arg4) (A m c main_arg5))
      ∧ r.2.mem ((c.tc : Thread nD τ).loc main_v15) = tn (A m c main_arg1) (grad (A m c main_arg3) (A m c main_arg4) (A m c main_arg5))
      ∧ r.2.mem ((c.tc : Thread nD τ).loc main_v8) = tn (resid (A m c main_arg0) (A m c main_arg1) (A m c main_arg2)) (A m c main_arg5)
      ∧ r.2.mem ((c.tc : Thread nD τ).loc main_v16) = tn (resid (A m c main_arg0) (A m c main_arg1) (A m c main_arg2)) (A m c main_arg5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => by
    obtain ⟨h0, h1, h2, h3, h4, h5, h6, h7, ha⟩ := h c
    refine ⟨h0.trans ?_, h1.trans ?_, h2.trans ?_, h3.trans ?_, h4.trans ?_, h5.trans ?_, h6.trans ?_, h7.trans ?_, ha⟩
    · exact out_h _ _ _
    · exact out_z _ _ _ _
    · exact out_dh _ _ _
    · exact out_dcat _ _ _ _
    · exact out_gwout _ _ _ _
    · exact out_gwout _ _ _ _
    · exact out_gwpg _ _ _ _
    · exact out_gwpg _ _ _ _
    ) (Value.run (F := Ideal) m ρ)

end Cert.Out.Ref

end
-- ==== Proof.GluKernel.lean ====
module

public import proofs.«01_k».proof.Proof.Gen.Kernel3Ideal.Frame
public import proofs.«01_k».proof.Proof.Products
public import Idealize.ShloMosaic.Lib.Pipeline.ValueKit
public import Idealize.ShloMosaic.Lib.Pipeline.ReadBack
public import Idealize.ShloMosaic.Lib.Pointwise

/-! What each product of the gated linear unit leaves in its result, from the arrays it finds. -/

@[expose] public section

set_option maxRecDepth 16384

noncomputable section

namespace Cert.Glu

open Cert.Kernel3Ideal Cert.Kernel3Ideal.Gen Cert.Products Idealize.ShloMosaic Idealize.ShloMosaic.TcCoe Idealize.SL.Sem

variable (V : (c : Dev nD) → (b : Ref sig .tc) → Buf (Elt Ideal) ((c : Thread nD τ).loc b)) (c : Dev nD)

/-! ## Call 0 -/

theorem idx0 : ∀ t : Fin grid0.N, win0_0.index t = ![t.val, 0] ∧ win0_1.index t = ![0, 0] ∧ win0_2.index t = ![t.val, 0] := by decide +kernel

theorem blk0_0 (t : Fin cfg0.N) (ht : t.val < 4) (r : Fin 1024) (k : Fin 1024) : iblk0 V c 0 t (ix2 r k)
    = V c main_arg0 (ix2 (⟨t.val * 1024 + r.val, by omega⟩ : Fin 4096) k) := by
  blk_ext [iblk0, (idx0 t).1]

theorem blk0_1 (t : Fin cfg0.N) (ht : t.val < 4) (r : Fin 1024) (k : Fin 2048) : iblk0 V c 1 t (ix2 r k)
    = V c main_arg1 (ix2 r k) := by
  blk_ext [iblk0, (idx0 t).2.1]

theorem out0_2_eq (x0 : Vec Ideal S1024x1024 .bf16) (x1 : Vec Ideal S1024x2048 .bf16) (r : Fin 1024) (k : Fin 2048) :
    out0_2 x0 x1 (ix2 r k) = (∑ j : Fin 1024, x0 (ix2 r j) * x1 (ix2 j k)) := by
  unfold out0_2
  rw [View.canon_unit_zero (by decide)]
  unfold k0_pay1
  rw [View.ld_unit_zero (by decide), View.ld_unit_zero (by decide)]
  pointwise

theorem val0_2 (t : Fin cfg0.N) (ht : t.val < 4) (r : Fin 1024) (k : Fin 2048) : out0_2 (iblk0 V c 0 t) (iblk0 V c 1 t) (ix2 r k)
    = (nn (V c main_arg0) (V c main_arg1)) (ix2 (⟨t.val * 1024 + r.val, by omega⟩ : Fin 4096) k) := by
  rw [out0_2_eq]
  simp only [blk0_0 V c t ht, blk0_1 V c t ht]
  rfl

theorem emb0_2 (t : Fin cfg0.N) (ht : t.val < 4) (r : Fin 1024) (k : Fin 2048) : ((cfg0.win 2).blk t).view.emb (ix2 r k)
    = (ix2 (⟨t.val * 1024 + r.val, by omega⟩ : Fin 4096) k) := by
  blk_ext [(idx0 t).2.2]

theorem arr0_2 : (dat0 V c).arrAt 2 cfg0.N = nn (V c main_arg0) (V c main_arg1) := by
  refine (dat0 V c).arrAt_eq_of_covers 2 _ (by decide +kernel) fun t hf y => ?_
  obtain ⟨r, k, e⟩ : ∃ (r : Fin 1024) (k : Fin 2048), (win0 2).xinj (grid0.coords t) y = ix2 r k := exists_ix2 _
  have ht : t.val < 4 := t.isLt
  have e' : y = ix2 r k := e
  rw [after0_2, e]
  subst e'
  rw [val0_2 V c t ht, ← emb0_2 t ht]
  rfl

/-! ## Call 1 -/

theorem idx1 : ∀ t : Fin grid1.N, win1_0.index t = ![t.val, 0] ∧ win1_1.index t = ![0, 0] ∧ win1_2.index t = ![t.val, 0] := by decide +kernel

theorem blk1_0 (t : Fin cfg1.N) (ht : t.val < 4) (r : Fin 1024) (k : Fin 2048) : iblk1 V c 0 t (ix2 r k)
    = V c main_arg2 (ix2 (⟨t.val * 1024 + r.val, by omega⟩ : Fin 4096) k) := by
  blk_ext [iblk1, (idx1 t).1]

theorem blk1_1 (t : Fin cfg1.N) (ht : t.val < 4) (r : Fin 1024) (k : Fin 2048) : iblk1 V c 1 t (ix2 r k)
    = V c main_arg1 (ix2 r k) := by
  blk_ext [iblk1, (idx1 t).2.1]

theorem out1_2_eq (x0 : Vec Ideal S1024x2048 .bf16) (x1 : Vec Ideal S1024x2048 .bf16) (r : Fin 1024) (k : Fin 1024) :
    out1_2 x0 x1 (ix2 r k) = (∑ j : Fin 2048, x0 (ix2 r j) * x1 (ix2 k j)) := by
  unfold out1_2
  rw [View.canon_unit_zero (by decide)]
  unfold k1_pay1
  rw [View.ld_unit_zero (by decide), View.ld_unit_zero (by decide)]
  pointwise

theorem val1_2 (t : Fin cfg1.N) (ht : t.val < 4) (r : Fin 1024) (k : Fin 1024) : out1_2 (iblk1 V c 0 t) (iblk1 V c 1 t) (ix2 r k)
    = (nt (V c main_arg2) (V c main_arg1)) (ix2 (⟨t.val * 1024 + r.val, by omega⟩ : Fin 4096) k) := by
  rw [out1_2_eq]
  simp only [blk1_0 V c t ht, blk1_1 V c t ht]
  rfl

theorem emb1_2 (t : Fin cfg1.N) (ht : t.val < 4) (r : Fin 1024) (k : Fin 1024) : ((cfg1.win 2).blk t).view.emb (ix2 r k)
    = (ix2 (⟨t.val * 1024 + r.val, by omega⟩ : Fin 4096) k) := by
  blk_ext [(idx1 t).2.2]

theorem arr1_2 : (dat1 V c).arrAt 2 cfg1.N = nt (V c main_arg2) (V c main_arg1) := by
  refine (dat1 V c).arrAt_eq_of_covers 2 _ (by decide +kernel) fun t hf y => ?_
  obtain ⟨r, k, e⟩ : ∃ (r : Fin 1024) (k : Fin 1024), (win1 2).xinj (grid1.coords t) y = ix2 r k := exists_ix2 _
  have ht : t.val < 4 := t.isLt
  have e' : y = ix2 r k := e
  rw [after1_2, e]
  subst e'
  rw [val1_2 V c t ht, ← emb1_2 t ht]
  rfl

/-! ## Call 2 -/

theorem idx2 : ∀ t : Fin grid2.N, win2_0.index t = ![0, 0] ∧ win2_1.index t = ![0, t.val] ∧ win2_2.index t = ![t.val, 0, 0] ∧ win2_3.index t = ![t.val, 0, 0] := by decide +kernel

theorem blk2_0 (t : Fin cfg2.N) (ht : t.val < 4) (r : Fin 4096) (k : Fin 1024) : iblk2 V c 0 t (ix2 r k)
    = V c main_arg0 (ix2 r k) := by
  blk_ext [iblk2, (idx2 t).1]

theorem blk2_1 (t : Fin cfg2.N) (ht : t.val < 4) (r : Fin 4096) (k : Fin 512) : iblk2 V c 1 t (ix2 r k)
    = V c main_arg2 (ix2 r (⟨t.val * 512 + k.val, by omega⟩ : Fin 2048)) := by
  blk_ext [iblk2, (idx2 t).2.1]

theorem out2_2_eq (x0 : Vec Ideal S4096x1024 .bf16) (x1 : Vec Ideal S4096x512 .bf16) (r : Fin 1024) (k : Fin 512) :
    out2_2 x0 x1 (ix3 0 r k) = (∑ j : Fin 4096, x0 (ix2 j r) * x1 (ix2 j k)) := by
  unfold out2_2
  rw [View.canon_unit_zero (by decide)]
  unfold k2_pay2 k2_pay1
  rw [View.ld_unit_zero (by decide), View.ld_unit_zero (by decide)]
  pointwise

theorem val2_2 (t : Fin cfg2.N) (ht : t.val < 4) (r : Fin 1024) (k : Fin 512) : out2_2 (iblk2 V c 0 t) (iblk2 V c 1 t) (ix3 0 r k)
    = (slabs 4 512 rfl (tn (V c main_arg0) (V c main_arg2))) (ix3 (⟨t.val, by omega⟩ : Fin 4) r k) := by
  rw [out2_2_eq]
  simp only [blk2_0 V c t ht, blk2_1 V c t ht]
  rfl

theorem emb2_2 (t : Fin cfg2.N) (ht : t.val < 4) (r : Fin 1024) (k : Fin 512) : ((cfg2.win 2).blk t).view.emb (ix3 0 r k)
    = (ix3 (⟨t.val, by omega⟩ : Fin 4) r k) := by
  blk_ext [(idx2 t).2.2.1]

theorem arr2_2 : (dat2 V c).arrAt 2 cfg2.N = slabs 4 512 rfl (tn (V c main_arg0) (V c main_arg2)) := by
  refine (dat2 V c).arrAt_eq_of_covers 2 _ (by decide +kernel) fun t hf y => ?_
  obtain ⟨z, r, k, e⟩ : ∃ (z : Fin 1) (r : Fin 1024) (k : Fin 512), (win2 2).xinj (grid2.coords t) y = ix3 z r k := exists_ix3 _
  obtain rfl : z = 0 := Subsingleton.elim _ _
  have ht : t.val < 4 := t.isLt
  have e' : y = ix3 0 r k := e
  rw [after2_2, e]
  subst e'
  rw [val2_2 V c t ht, ← emb2_2 t ht]
  rfl

theorem out2_3_eq (x0 : Vec Ideal S4096x1024 .bf16) (x1 : Vec Ideal S4096x512 .bf16) (r : Fin 1024) (k : Fin 512) :
    out2_3 x0 x1 (ix3 0 r k) = (∑ j : Fin 4096, x0 (ix2 j r) * x1 (ix2 j k)) := by
  unfold out2_3
  rw [View.canon_unit_zero (by decide)]
  unfold k2_pay3 k2_pay1
  rw [View.ld_unit_zero (by decide), View.ld_unit_zero (by decide)]
  pointwise

theorem val2_3 (t : Fin cfg2.N) (ht : t.val < 4) (r : Fin 1024) (k : Fin 512) : out2_3 (iblk2 V c 0 t) (iblk2 V c 1 t) (ix3 0 r k)
    = (slabs 4 512 rfl (tn (V c main_arg0) (V c main_arg2))) (ix3 (⟨t.val, by omega⟩ : Fin 4) r k) := by
  rw [out2_3_eq]
  simp only [blk2_0 V c t ht, blk2_1 V c t ht]
  rfl

theorem emb2_3 (t : Fin cfg2.N) (ht : t.val < 4) (r : Fin 1024) (k : Fin 512) : ((cfg2.win 3).blk t).view.emb (ix3 0 r k)
    = (ix3 (⟨t.val, by omega⟩ : Fin 4) r k) := by
  blk_ext [(idx2 t).2.2.2]

theorem arr2_3 : (dat2 V c).arrAt 3 cfg2.N = slabs 4 512 rfl (tn (V c main_arg0) (V c main_arg2)) := by
  refine (dat2 V c).arrAt_eq_of_covers 3 _ (by decide +kernel) fun t hf y => ?_
  obtain ⟨z, r, k, e⟩ : ∃ (z : Fin 1) (r : Fin 1024) (k : Fin 512), (win2 3).xinj (grid2.coords t) y = ix3 z r k := exists_ix3 _
  obtain rfl : z = 0 := Subsingleton.elim _ _
  have ht : t.val < 4 := t.isLt
  have e' : y = ix3 0 r k := e
  rw [after2_3, e]
  subst e'
  rw [val2_3 V c t ht, ← emb2_3 t ht]
  rfl

end Cert.Glu

end
-- ==== Proof.GluRun.lean ====
module

public import proofs.«01_k».proof.Proof.GluKernel

/-! The three products as one run: every result as a sum over the arguments. -/

@[expose] public section

set_option maxRecDepth 16384

noncomputable section

namespace Cert.Glu

open Cert.Kernel3Ideal Cert.Kernel3Ideal.Gen Cert.Products
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option backward.isDefEq.respectTransparency.types false in
/-- Every execution of the calls terminates and leaves each array at what the calls' fold gives. -/
theorem run_fold (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

variable (m : (ℓ : Loc nD τ sig) → Buf (Elt Ideal) ℓ) (ρ : Dev nD → PrngReg) (c : Dev nD)

theorem first_main_v0 : W1 m ρ c (Proc.devRef .tc main_v0) = nn (m ((c.tc : Thread nD τ).loc main_arg0)) (m ((c.tc : Thread nD τ).loc main_arg1)) := by
  refine (W1_arr m ρ c 2).trans ?_
  rw [arr0_2, show V0 m ρ c main_arg0 = m ((c.tc : Thread nD τ).loc main_arg0) from rfl, show V0 m ρ c main_arg1 = m ((c.tc : Thread nD τ).loc main_arg1) from rfl]
  try rfl

theorem at2_main_v0 : W2 m ρ c (Proc.devRef .tc main_v0) = nn (m ((c.tc : Thread nD τ).loc main_arg0)) (m ((c.tc : Thread nD τ).loc main_arg1)) :=
  (W2_of m ρ c main_v0 (by decide +kernel)).trans (first_main_v0 m ρ c)

theorem at3_main_v0 : W3 m ρ c (Proc.devRef .tc main_v0) = nn (m ((c.tc : Thread nD τ).loc main_arg0)) (m ((c.tc : Thread nD τ).loc main_arg1)) :=
  (W3_of m ρ c main_v0 (by decide +kernel)).trans (at2_main_v0 m ρ c)

theorem first_main_v1 : W2 m ρ c (Proc.devRef .tc main_v1) = nt (m ((c.tc : Thread nD τ).loc main_arg2)) (m ((c.tc : Thread nD τ).loc main_arg1)) := by
  refine (W2_arr m ρ c 2).trans ?_
  rw [arr1_2, show V1 m ρ c main_arg2 = m ((c.tc : Thread nD τ).loc main_arg2) from W1_args m ρ c main_arg2 (by decide), show V1 m ρ c main_arg1 = m ((c.tc : Thread nD τ).loc main_arg1) from W1_args m ρ c main_arg1 (by decide)]
  try rfl

theorem at3_main_v1 : W3 m ρ c (Proc.devRef .tc main_v1) = nt (m ((c.tc : Thread nD τ).loc main_arg2)) (m ((c.tc : Thread nD τ).loc main_arg1)) :=
  (W3_of m ρ c main_v1 (by decide +kernel)).trans (first_main_v1 m ρ c)

theorem first_main_v2_0 : W3 m ρ c (Proc.devRef .tc main_v2_0) = slabs 4 512 rfl (tn (m ((c.tc : Thread nD τ).loc main_arg0)) (m ((c.tc : Thread nD τ).loc main_arg2))) := by
  refine (W3_arr m ρ c 2).trans ?_
  rw [arr2_2, show V2 m ρ c main_arg0 = m ((c.tc : Thread nD τ).loc main_arg0) from W2_args m ρ c main_arg0 (by decide), show V2 m ρ c main_arg2 = m ((c.tc : Thread nD τ).loc main_arg2) from W2_args m ρ c main_arg2 (by decide)]
  try rfl

theorem first_main_v2_1 : W3 m ρ c (Proc.devRef .tc main_v2_1) = slabs 4 512 rfl (tn (m ((c.tc : Thread nD τ).loc main_arg0)) (m ((c.tc : Thread nD τ).loc main_arg2))) := by
  refine (W3_arr m ρ c 3).trans ?_
  rw [arr2_3, show V2 m ρ c main_arg0 = m ((c.tc : Thread nD τ).loc main_arg0) from W2_args m ρ c main_arg0 (by decide), show V2 m ρ c main_arg2 = m ((c.tc : Thread nD τ).loc main_arg2) from W2_args m ρ c main_arg2 (by decide)]
  try rfl

/-- Every execution of the calls leaves each result at its sum and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0) = nn (m ((c.tc : Thread nD τ).loc main_arg0)) (m ((c.tc : Thread nD τ).loc main_arg1))
      ∧ r.2.mem ((c.tc : Thread nD τ).loc main_v1) = nt (m ((c.tc : Thread nD τ).loc main_arg2)) (m ((c.tc : Thread nD τ).loc main_arg1))
      ∧ r.2.mem ((c.tc : Thread nD τ).loc main_v2_0) = slabs 4 512 rfl (tn (m ((c.tc : Thread nD τ).loc main_arg0)) (m ((c.tc : Thread nD τ).loc main_arg2)))
      ∧ r.2.mem ((c.tc : Thread nD τ).loc main_v2_1) = slabs 4 512 rfl (tn (m ((c.tc : Thread nD τ).loc main_arg0)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c _ (mem_uc main_v0 (by decide))).trans (at3_main_v0 m ρ c),
    (h c _ (mem_uc main_v1 (by decide))).trans (at3_main_v1 m ρ c),
    (h c _ (mem_uc main_v2_0 (by decide))).trans (first_main_v2_0 m ρ c),
    (h c _ (mem_uc main_v2_1 (by decide))).trans (first_main_v2_1 m ρ c),
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c)⟩) (run_fold m ρ)

end Cert.Glu

end
-- ==== Proof.GluRef.lean ====
module

public import proofs.«01_k».proof.Proof.Gen.Reference3Ideal.Run
public import proofs.«01_k».proof.Proof.GluRun
public import Idealize.ShloMosaic.Lib.Pointwise

/-! What the reference of the gate products leaves: the same sums. -/

@[expose] public section

set_option maxRecDepth 16384

noncomputable section

namespace Cert.Glu.Ref

open Cert.Reference3Ideal Cert.Reference3Ideal.Gen Cert.Products Cert.Glu Idealize.ShloMosaic Idealize.ShloMosaic.TcCoe Idealize.SL.Sem

theorem dot_nn (l : FVec Ideal S4096x1024 .f32) (r : FVec Ideal S1024x2048 .f32) :
    Host.dotGeneral dot_S4096x1024_S1024x2048_S4096x2048_1_0_0_1_n_n none l r = nn l r := by
  funext i
  obtain ⟨a, b, rfl⟩ : ∃ (a : Fin 4096) (b : Fin 2048), i = ix2 a b := exists_ix2 (R := 4096) (C := 2048) i
  unfold nn
  pointwise

theorem dot_nt (l : FVec Ideal S4096x2048 .f32) (r : FVec Ideal S1024x2048 .f32) :
    Host.dotGeneral dot_S4096x2048_S1024x2048_S4096x1024_1_1_0_0_n_n none l r = nt l r := by
  funext i
  obtain ⟨a, b, rfl⟩ : ∃ (a : Fin 4096) (b : Fin 1024), i = ix2 a b := exists_ix2 (R := 4096) (C := 1024) i
  unfold nt
  pointwise

theorem dot_tn (l : FVec Ideal S4096x2048 .f32) (r : FVec Ideal S4096x1024 .f32) :
    Host.dotGeneral dot_S4096x2048_S4096x1024_S2048x1024_0_0_1_1_n_n none l r = tn l r := by
  funext i
  obtain ⟨a, b, rfl⟩ : ∃ (a : Fin 2048) (b : Fin 1024), i = ix2 a b := exists_ix2 (R := 2048) (C := 1024) i
  unfold tn
  pointwise

/-- The gradient by chip: the transposed product cut into slabs is the product with the factors exchanged, cut into slabs. -/
theorem slabs_tn (d : FVec Ideal S4096x2048 .f32) (a : FVec Ideal S4096x1024 .f32) :
    (transpose S4x1024x512 [1, 0, 2] (shapeCast S1024x4x512 (transpose S1024x2048 [1, 0] (Host.dotGeneral dot_S4096x2048_S4096x1024_S2048x1024_0_0_1_1_n_n none d a : FVec Ideal S2048x1024 .f32) transposes_S2048x1024_S1024x2048_1_0 : FVec Ideal S1024x2048 .f32) shapeCasts_S1024x2048_S1024x4x512 : FVec Ideal S1024x4x512 .f32) transposes_S1024x4x512_S4x1024x512_1_0_2 : FVec Ideal S4x1024x512 .f32) = slabs 4 512 rfl (tn a d) := by
  funext i
  obtain ⟨s, r, k, rfl⟩ : ∃ (s : Fin 4) (r : Fin 1024) (k : Fin 512), i = ix3 s r k := exists_ix3 (A := 4) (B := 1024) (C := 512) i
  rw [dot_tn]
  unfold slabs tn
  pointwise
  exact Finset.sum_congr rfl fun k _ => mul_comm _ _

/-- The reference leaves each result at its sum and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v2) = nn (m ((c.tc : Thread nD τ).loc main_arg0)) (m ((c.tc : Thread nD τ).loc main_arg1))
      ∧ r.2.mem ((c.tc : Thread nD τ).loc main_v6) = nt (m ((c.tc : Thread nD τ).loc main_arg2)) (m ((c.tc : Thread nD τ).loc main_arg1))
      ∧ r.2.mem ((c.tc : Thread nD τ).loc main_v8) = slabs 4 512 rfl (tn (m ((c.tc : Thread nD τ).loc main_arg0)) (m ((c.tc : Thread nD τ).loc main_arg2)))
      ∧ r.2.mem ((c.tc : Thread nD τ).loc main_v9) = slabs 4 512 rfl (tn (m ((c.tc : Thread nD τ).loc main_arg0)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => by
    obtain ⟨h0, h1, h2, h3, ha⟩ := h c
    refine ⟨h0.trans ?_, h1.trans ?_, h2.trans ?_, h3.trans ?_, ha⟩
    · exact dot_nn _ _
    · exact dot_nt _ _
    · exact slabs_tn _ _
    · exact slabs_tn _ _
    ) (Value.run (F := Ideal) m ρ)

end Cert.Glu.Ref

end
-- ==== Proof.InKernel.lean ====
module

public import proofs.«01_k».proof.Proof.Gen.Kernel4Ideal.Frame
public import proofs.«01_k».proof.Proof.Products
public import Idealize.ShloMosaic.Lib.Pipeline.ValueKit
public import Idealize.ShloMosaic.Lib.Pipeline.ReadBack
public import Idealize.ShloMosaic.Lib.Pointwise

/-! What each gradient of the input product leaves in its result, from the arrays it finds. -/

@[expose] public section

set_option maxRecDepth 16384

noncomputable section

namespace Cert.In

open Cert.Kernel4Ideal Cert.Kernel4Ideal.Gen Cert.Products Idealize.ShloMosaic Idealize.ShloMosaic.TcCoe Idealize.SL.Sem

variable (V : (c : Dev nD) → (b : Ref sig .tc) → Buf (Elt Ideal) ((c : Thread nD τ).loc b)) (c : Dev nD)

/-! ## Call 0 -/

theorem idx0 : ∀ t : Fin grid0.N, win0_0.index t = ![0, t.val / 4] ∧ win0_1.index t = ![0, t.val % 4] ∧ win0_2.index t = ![t.val % 4, t.val / 4, 0] ∧ win0_3.index t = ![t.val % 4, t.val / 4, 0] := by decide +kernel

theorem blk0_0 (t : Fin cfg0.N) (ht : t.val < 8) (r : Fin 4096) (k : Fin 1024) : iblk0 V c 0 t (ix2 r k)
    = V c main_arg0 (ix2 r (⟨t.val / 4 * 1024 + k.val, by omega⟩ : Fin 2048)) := by
  blk_ext [iblk0, (idx0 t).1]

theorem blk0_1 (t : Fin cfg0.N) (ht : t.val < 8) (r : Fin 4096) (k : Fin 1024) : iblk0 V c 1 t (ix2 r k)
    = V c main_arg2 (ix2 r (⟨t.val % 4 * 1024 + k.val, by omega⟩ : Fin 4096)) := by
  blk_ext [iblk0, (idx0 t).2.1]

theorem out0_2_eq (x0 : Vec Ideal S4096x1024 .bf16) (x1 : Vec Ideal S4096x1024 .bf16) (r : Fin 1024) (k : Fin 1024) :
    out0_2 x0 x1 (ix3 0 r k) = (∑ j : Fin 4096, x0 (ix2 j r) * x1 (ix2 j k)) := by
  unfold out0_2
  rw [View.canon_unit_zero (by decide)]
  unfold k0_pay2 k0_pay1
  rw [View.ld_unit_zero (by decide), View.ld_unit_zero (by decide)]
  pointwise

theorem val0_2 (t : Fin cfg0.N) (ht : t.val < 8) (r : Fin 1024) (k : Fin 1024) : out0_2 (iblk0 V c 0 t) (iblk0 V c 1 t) (ix3 0 r k)
    = (slabs 4 1024 rfl (tn (V c main_arg0) (V c main_arg2))) (ix3 (⟨t.val % 4, by omega⟩ : Fin 4) (⟨t.val / 4 * 1024 + r.val, by omega⟩ : Fin 2048) k) := by
  rw [out0_2_eq]
  simp only [blk0_0 V c t ht, blk0_1 V c t ht]
  rfl

theorem emb0_2 (t : Fin cfg0.N) (ht : t.val < 8) (r : Fin 1024) (k : Fin 1024) : ((cfg0.win 2).blk t).view.emb (ix3 0 r k)
    = (ix3 (⟨t.val % 4, by omega⟩ : Fin 4) (⟨t.val / 4 * 1024 + r.val, by omega⟩ : Fin 2048) k) := by
  blk_ext [(idx0 t).2.2.1]

theorem arr0_2 : (dat0 V c).arrAt 2 cfg0.N = slabs 4 1024 rfl (tn (V c main_arg0) (V c main_arg2)) := by
  refine (dat0 V c).arrAt_eq_of_covers 2 _ (by decide +kernel) fun t hf y => ?_
  obtain ⟨z, r, k, e⟩ : ∃ (z : Fin 1) (r : Fin 1024) (k : Fin 1024), (win0 2).xinj (grid0.coords t) y = ix3 z r k := exists_ix3 _
  obtain rfl : z = 0 := Subsingleton.elim _ _
  have ht : t.val < 8 := t.isLt
  have e' : y = ix3 0 r k := e
  rw [after0_2, e]
  subst e'
  rw [val0_2 V c t ht, ← emb0_2 t ht]
  rfl

theorem out0_3_eq (x0 : Vec Ideal S4096x1024 .bf16) (x1 : Vec Ideal S4096x1024 .bf16) (r : Fin 1024) (k : Fin 1024) :
    out0_3 x0 x1 (ix3 0 r k) = (∑ j : Fin 4096, x0 (ix2 j r) * x1 (ix2 j k)) := by
  unfold out0_3
  rw [View.canon_unit_zero (by decide)]
  unfold k0_pay3 k0_pay1
  rw [View.ld_unit_zero (by decide), View.ld_unit_zero (by decide)]
  pointwise

theorem val0_3 (t : Fin cfg0.N) (ht : t.val < 8) (r : Fin 1024) (k : Fin 1024) : out0_3 (iblk0 V c 0 t) (iblk0 V c 1 t) (ix3 0 r k)
    = (slabs 4 1024 rfl (tn (V c main_arg0) (V c main_arg2))) (ix3 (⟨t.val % 4, by omega⟩ : Fin 4) (⟨t.val / 4 * 1024 + r.val, by omega⟩ : Fin 2048) k) := by
  rw [out0_3_eq]
  simp only [blk0_0 V c t ht, blk0_1 V c t ht]
  rfl

theorem emb0_3 (t : Fin cfg0.N) (ht : t.val < 8) (r : Fin 1024) (k : Fin 1024) : ((cfg0.win 3).blk t).view.emb (ix3 0 r k)
    = (ix3 (⟨t.val % 4, by omega⟩ : Fin 4) (⟨t.val / 4 * 1024 + r.val, by omega⟩ : Fin 2048) k) := by
  blk_ext [(idx0 t).2.2.2]

theorem arr0_3 : (dat0 V c).arrAt 3 cfg0.N = slabs 4 1024 rfl (tn (V c main_arg0) (V c main_arg2)) := by
  refine (dat0 V c).arrAt_eq_of_covers 3 _ (by decide +kernel) fun t hf y => ?_
  obtain ⟨z, r, k, e⟩ : ∃ (z : Fin 1) (r : Fin 1024) (k : Fin 1024), (win0 3).xinj (grid0.coords t) y = ix3 z r k := exists_ix3 _
  obtain rfl : z = 0 := Subsingleton.elim _ _
  have ht : t.val < 8 := t.isLt
  have e' : y = ix3 0 r k := e
  rw [after0_3, e]
  subst e'
  rw [val0_3 V c t ht, ← emb0_3 t ht]
  rfl

/-! ## Call 1 -/

theorem idx1 : ∀ t : Fin grid1.N, win1_0.index t = ![t.val / 2, 0] ∧ win1_1.index t = ![t.val % 2, 0] ∧ win1_2.index t = ![t.val / 2, t.val % 2] := by decide +kernel

theorem blk1_0 (t : Fin cfg1.N) (ht : t.val < 8) (r : Fin 1024) (k : Fin 4096) : iblk1 V c 0 t (ix2 r k)
    = V c main_arg2 (ix2 (⟨t.val / 2 * 1024 + r.val, by omega⟩ : Fin 4096) k) := by
  blk_ext [iblk1, (idx1 t).1]

theorem blk1_1 (t : Fin cfg1.N) (ht : t.val < 8) (r : Fin 1024) (k : Fin 4096) : iblk1 V c 1 t (ix2 r k)
    = V c main_arg1 (ix2 (⟨t.val % 2 * 1024 + r.val, by omega⟩ : Fin 2048) k) := by
  blk_ext [iblk1, (idx1 t).2.1]

theorem out1_2_eq (x0 : Vec Ideal S1024x4096 .bf16) (x1 : Vec Ideal S1024x4096 .bf16) (r : Fin 1024) (k : Fin 1024) :
    out1_2 x0 x1 (ix2 r k) = (∑ j : Fin 4096, x0 (ix2 r j) * x1 (ix2 k j)) := by
  unfold out1_2
  rw [View.canon_unit_zero (by decide)]
  unfold k1_pay1
  rw [View.ld_unit_zero (by decide), View.ld_unit_zero (by decide)]
  pointwise

theorem val1_2 (t : Fin cfg1.N) (ht : t.val < 8) (r : Fin 1024) (k : Fin 1024) : out1_2 (iblk1 V c 0 t) (iblk1 V c 1 t) (ix2 r k)
    = (nt (V c main_arg2) (V c main_arg1)) (ix2 (⟨t.val / 2 * 1024 + r.val, by omega⟩ : Fin 4096) (⟨t.val % 2 * 1024 + k.val, by omega⟩ : Fin 2048)) := by
  rw [out1_2_eq]
  simp only [blk1_0 V c t ht, blk1_1 V c t ht]
  rfl

theorem emb1_2 (t : Fin cfg1.N) (ht : t.val < 8) (r : Fin 1024) (k : Fin 1024) : ((cfg1.win 2).blk t).view.emb (ix2 r k)
    = (ix2 (⟨t.val / 2 * 1024 + r.val, by omega⟩ : Fin 4096) (⟨t.val % 2 * 1024 + k.val, by omega⟩ : Fin 2048)) := by
  blk_ext [(idx1 t).2.2]

theorem arr1_2 : (dat1 V c).arrAt 2 cfg1.N = nt (V c main_arg2) (V c main_arg1) := by
  refine (dat1 V c).arrAt_eq_of_covers 2 _ (by decide +kernel) fun t hf y => ?_
  obtain ⟨r, k, e⟩ : ∃ (r : Fin 1024) (k : Fin 1024), (win1 2).xinj (grid1.coords t) y = ix2 r k := exists_ix2 _
  have ht : t.val < 8 := t.isLt
  have e' : y = ix2 r k := e
  rw [after1_2, e]
  subst e'
  rw [val1_2 V c t ht, ← emb1_2 t ht]
  rfl

end Cert.In

end
-- ==== Proof.InRun.lean ====
module

public import proofs.«01_k».proof.Proof.InKernel

/-! The two products as one run: every result as a sum over the arguments. -/

@[expose] public section

set_option maxRecDepth 16384

noncomputable section

namespace Cert.In

open Cert.Kernel4Ideal Cert.Kernel4Ideal.Gen Cert.Products
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option backward.isDefEq.respectTransparency.types false in
/-- Every execution of the calls terminates and leaves each array at what the calls' fold gives. -/
theorem run_fold (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      ∀ b ∈ Pipeline.ucRefs τ sig, r.2.mem (((c : Thread nD τ)).1, b) = W2 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => h)

variable (m : (ℓ : Loc nD τ sig) → Buf (Elt Ideal) ℓ) (ρ : Dev nD → PrngReg) (c : Dev nD)

theorem first_main_v0_0 : W1 m ρ c (Proc.devRef .tc main_v0_0) = slabs 4 1024 rfl (tn (m ((c.tc : Thread nD τ).loc main_arg0)) (m ((c.tc : Thread nD τ).loc main_arg2))) := by
  refine (W1_arr m ρ c 2).trans ?_
  rw [arr0_2, show V0 m ρ c main_arg0 = m ((c.tc : Thread nD τ).loc main_arg0) from rfl, show V0 m ρ c main_arg2 = m ((c.tc : Thread nD τ).loc main_arg2) from rfl]
  try rfl

theorem at2_main_v0_0 : W2 m ρ c (Proc.devRef .tc main_v0_0) = slabs 4 1024 rfl (tn (m ((c.tc : Thread nD τ).loc main_arg0)) (m ((c.tc : Thread nD τ).loc main_arg2))) :=
  (W2_of m ρ c main_v0_0 (by decide +kernel)).trans (first_main_v0_0 m ρ c)

theorem first_main_v0_1 : W1 m ρ c (Proc.devRef .tc main_v0_1) = slabs 4 1024 rfl (tn (m ((c.tc : Thread nD τ).loc main_arg0)) (m ((c.tc : Thread nD τ).loc main_arg2))) := by
  refine (W1_arr m ρ c 3).trans ?_
  rw [arr0_3, show V0 m ρ c main_arg0 = m ((c.tc : Thread nD τ).loc main_arg0) from rfl, show V0 m ρ c main_arg2 = m ((c.tc : Thread nD τ).loc main_arg2) from rfl]
  try rfl

theorem at2_main_v0_1 : W2 m ρ c (Proc.devRef .tc main_v0_1) = slabs 4 1024 rfl (tn (m ((c.tc : Thread nD τ).loc main_arg0)) (m ((c.tc : Thread nD τ).loc main_arg2))) :=
  (W2_of m ρ c main_v0_1 (by decide +kernel)).trans (first_main_v0_1 m ρ c)

theorem first_main_v1 : W2 m ρ c (Proc.devRef .tc main_v1) = nt (m ((c.tc : Thread nD τ).loc main_arg2)) (m ((c.tc : Thread nD τ).loc main_arg1)) := by
  refine (W2_arr m ρ c 2).trans ?_
  rw [arr1_2, show V1 m ρ c main_arg2 = m ((c.tc : Thread nD τ).loc main_arg2) from W1_args m ρ c main_arg2 (by decide), show V1 m ρ c main_arg1 = m ((c.tc : Thread nD τ).loc main_arg1) from W1_args m ρ c main_arg1 (by decide)]
  try rfl

/-- Every execution of the calls leaves each result at its sum and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = slabs 4 1024 rfl (tn (m ((c.tc : Thread nD τ).loc main_arg0)) (m ((c.tc : Thread nD τ).loc main_arg2)))
      ∧ r.2.mem ((c.tc : Thread nD τ).loc main_v0_1) = slabs 4 1024 rfl (tn (m ((c.tc : Thread nD τ).loc main_arg0)) (m ((c.tc : Thread nD τ).loc main_arg2)))
      ∧ r.2.mem ((c.tc : Thread nD τ).loc main_v1) = nt (m ((c.tc : Thread nD τ).loc main_arg2)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c _ (mem_uc main_v0_0 (by decide))).trans (at2_main_v0_0 m ρ c),
    (h c _ (mem_uc main_v0_1 (by decide))).trans (at2_main_v0_1 m ρ c),
    (h c _ (mem_uc main_v1 (by decide))).trans (first_main_v1 m ρ c),
    (h c _ (mem_uc main_arg0 (by decide))).trans (W2_main_arg0 m ρ c),
    (h c _ (mem_uc main_arg1 (by decide))).trans (W2_main_arg1 m ρ c),
    (h c _ (mem_uc main_arg2 (by decide))).trans (W2_main_arg2 m ρ c)⟩) (run_fold m ρ)

end Cert.In

end
-- ==== Proof.InRef.lean ====
module

public import proofs.«01_k».proof.Proof.Gen.Reference4Ideal.Run
public import proofs.«01_k».proof.Proof.InRun
public import Idealize.ShloMosaic.Lib.Pointwise

/-! What the reference of the input products leaves: the same sums. -/

@[expose] public section

set_option maxRecDepth 16384

noncomputable section

namespace Cert.In.Ref

open Cert.Reference4Ideal Cert.Reference4Ideal.Gen Cert.Products Cert.In Idealize.ShloMosaic Idealize.ShloMosaic.TcCoe Idealize.SL.Sem

theorem dot_nt (l : FVec Ideal S4096x4096 .f32) (r : FVec Ideal S2048x4096 .f32) :
    Host.dotGeneral dot_S4096x4096_S2048x4096_S4096x2048_1_1_0_0_n_n none l r = nt l r := by
  funext i
  obtain ⟨a, b, rfl⟩ : ∃ (a : Fin 4096) (b : Fin 2048), i = ix2 a b := exists_ix2 (R := 4096) (C := 2048) i
  unfold nt
  pointwise

theorem dot_tn (l : FVec Ideal S4096x4096 .f32) (r : FVec Ideal S4096x2048 .f32) :
    Host.dotGeneral dot_S4096x4096_S4096x2048_S4096x2048_0_0_1_1_n_n none l r = tn l r := by
  funext i
  obtain ⟨a, b, rfl⟩ : ∃ (a : Fin 4096) (b : Fin 2048), i = ix2 a b := exists_ix2 (R := 4096) (C := 2048) i
  unfold tn
  pointwise

/-- The gradient by chip: the transposed product cut into slabs is the product with the factors exchanged, cut into slabs. -/
theorem slabs_tn (d : FVec Ideal S4096x4096 .f32) (a : FVec Ideal S4096x2048 .f32) :
    (transpose S4x2048x1024 [1, 0, 2] (shapeCast S2048x4x1024 (transpose S2048x4096 [1, 0] (Host.dotGeneral dot_S4096x4096_S4096x2048_S4096x2048_0_0_1_1_n_n none d a : FVec Ideal S4096x2048 .f32) transposes_S4096x2048_S2048x4096_1_0 : FVec Ideal S2048x4096 .f32) shapeCasts_S2048x4096_S2048x4x1024 : FVec Ideal S2048x4x1024 .f32) transposes_S2048x4x1024_S4x2048x1024_1_0_2 : FVec Ideal S4x2048x1024 .f32) = slabs 4 1024 rfl (tn a d) := by
  funext i
  obtain ⟨s, r, k, rfl⟩ : ∃ (s : Fin 4) (r : Fin 2048) (k : Fin 1024), i = ix3 s r k := exists_ix3 (A := 4) (B := 2048) (C := 1024) i
  rw [dot_tn]
  unfold slabs tn
  pointwise
  exact Finset.sum_congr rfl fun k _ => mul_comm _ _

/-- The reference leaves each result at its sum and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v6) = nt (m ((c.tc : Thread nD τ).loc main_arg2)) (m ((c.tc : Thread nD τ).loc main_arg1))
      ∧ r.2.mem ((c.tc : Thread nD τ).loc main_v8) = slabs 4 1024 rfl (tn (m ((c.tc : Thread nD τ).loc main_arg0)) (m ((c.tc : Thread nD τ).loc main_arg2)))
      ∧ r.2.mem ((c.tc : Thread nD τ).loc main_v9) = slabs 4 1024 rfl (tn (m ((c.tc : Thread nD τ).loc main_arg0)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => by
    obtain ⟨h0, h1, h2, ha⟩ := h c
    refine ⟨h0.trans ?_, h1.trans ?_, h2.trans ?_, ha⟩
    · exact dot_nt _ _
    · exact slabs_tn _ _
    · exact slabs_tn _ _
    ) (Value.run (F := Ideal) m ρ)

end Cert.In.Ref

end
-- ==== Proof.Linear.lean ====
module

public import proofs.«01_k».proof.Defs
public import proofs.«01_k».proof.Proof.Gen.Kernel2.Frame
public import proofs.«01_k».proof.Proof.Gen.Kernel3.Frame
public import proofs.«01_k».proof.Proof.Gen.Kernel4.Frame
public import proofs.«01_k».proof.Proof.OutRef
public import proofs.«01_k».proof.Proof.GluRef
public import proofs.«01_k».proof.Proof.InRef
public import Idealize.ShloMosaic.Adequacy
public import Idealize.ShloMosaic.Init

/-! The linear layers of the block: each kernel's chain of products agrees with its reference, and both end at rest. -/

@[expose] public section

noncomputable section

namespace Cert.Proof

open Idealize.ShloMosaic Idealize.SL.Sem Cert.Products

open Cert.Kernel2Ideal in
/-- The output product with its residual, the embedding gate's product, and the gradients of both. -/
theorem out_products : Cert.algebraic_Kernel2Ideal_Reference2Ideal := fun m ρ m' ρ' _ hag =>
  ⟨fun c => Cert.Out.resid (Cert.Out.A m c main_arg0) (Cert.Out.A m c main_arg1) (Cert.Out.A m c main_arg2),
    fun c => nn (Cert.Out.resid (Cert.Out.A m c main_arg0) (Cert.Out.A m c main_arg1) (Cert.Out.A m c main_arg2)) (Cert.Out.A m c main_arg3),
    fun c => Cert.Out.grad (Cert.Out.A m c main_arg3) (Cert.Out.A m c main_arg4) (Cert.Out.A m c main_arg5),
    fun c => nt (Cert.Out.grad (Cert.Out.A m c main_arg3) (Cert.Out.A m c main_arg4) (Cert.Out.A m c main_arg5)) (Cert.Out.A m c main_arg2),
    fun c => tn (Cert.Out.A m c main_arg1) (Cert.Out.grad (Cert.Out.A m c main_arg3) (Cert.Out.A m c main_arg4) (Cert.Out.A m c main_arg5)),
    fun c => tn (Cert.Out.A m c main_arg1) (Cert.Out.grad (Cert.Out.A m c main_arg3) (Cert.Out.A m c main_arg4) (Cert.Out.A m c main_arg5)),
    fun c => tn (Cert.Out.resid (Cert.Out.A m c main_arg0) (Cert.Out.A m c main_arg1) (Cert.Out.A m c main_arg2)) (Cert.Out.A m c main_arg5),
    fun c => tn (Cert.Out.resid (Cert.Out.A m c main_arg0) (Cert.Out.A m c main_arg1) (Cert.Out.A m c main_arg2)) (Cert.Out.A m c main_arg5),
    (θ_run _ _ _).mono (fun _ h c => by
      obtain ⟨k0, k1, k2, k3, k4, k5, k6, k7, k8, k9, ha⟩ := h c
      exact ⟨k0, k2, k3, k7, k8, k9, k5, k6, ha⟩) (Cert.Out.run m ρ),
    (θ_run _ _ _).mono (fun _ h c => by
      obtain ⟨h0, h1, h2, h3, h4, h5, h6, h7, ha⟩ := h c
      refine ⟨h0.trans ?_, h1.trans ?_, h2.trans ?_, h3.trans ?_, h4.trans ?_, h5.trans ?_, h6.trans ?_, h7.trans ?_, ha⟩
      all_goals try simp only [Cert.Out.Ref.A]
      · rw [(hag c).1, (hag c).2.1, (hag c).2.2.1]
      · rw [(hag c).1, (hag c).2.1, (hag c).2.2.1, (hag c).2.2.2.1]
      · rw [(hag c).2.2.2.1, (hag c).2.2.2.2.1, (hag c).2.2.2.2.2]
      · rw [(hag c).2.2.1, (hag c).2.2.2.1, (hag c).2.2.2.2.1, (hag c).2.2.2.2.2]
      · rw [(hag c).2.1, (hag c).2.2.2.1, (hag c).2.2.2.2.1, (hag c).2.2.2.2.2]
      · rw [(hag c).2.1, (hag c).2.2.2.1, (hag c).2.2.2.2.1, (hag c).2.2.2.2.2]
      · rw [(hag c).1, (hag c).2.1, (hag c).2.2.1, (hag c).2.2.2.2.2]
      · rw [(hag c).1, (hag c).2.1, (hag c).2.2.1, (hag c).2.2.2.2.2]
      ) (Cert.Out.Ref.run m' ρ')⟩

theorem frame_kernel2 : Cert.quiescent_Kernel2 := fun m ρ _ => Cert.Kernel2.Gen.frame m ρ
theorem frame_kernel2Ideal : Cert.quiescent_Kernel2Ideal := fun m ρ _ => Cert.Kernel2Ideal.Gen.frame m ρ
theorem frame_reference2 : Cert.quiescent_Reference2Ideal := fun m ρ _ =>
  (θ_run Cert.Reference2Ideal.defs _ _).mono (fun r h => ⟨fun c => (h c).2.2.2.2.2.2.2.2, sem_eq_zero_of_no_sems (by decide) r.2⟩)
    (Cert.Reference2Ideal.Value.run (F := Ideal) m ρ)

/-- The gated unit's product and the gradients of its two factors. -/
theorem glu_products : Cert.algebraic_Kernel3Ideal_Reference3Ideal := fun m ρ m' ρ' _ hag =>
  ⟨fun c => nn (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    fun c => nt (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg1)),
    fun c => slabs 4 512 rfl (tn (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg2))),
    fun c => slabs 4 512 rfl (tn (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg2))),
    (θ_run _ _ _).mono (fun _ h c => by
      obtain ⟨k0, k1, k2, k3, ha⟩ := h c
      exact ⟨k0, k1, k2, k3, ha⟩) (Cert.Glu.run m ρ),
    (θ_run _ _ _).mono (fun _ h c => by
      obtain ⟨h0, h1, h2, h3, ha⟩ := h c
      refine ⟨h0.trans ?_, h1.trans ?_, h2.trans ?_, h3.trans ?_, ha⟩
      · rw [(hag c).1, (hag c).2.1]
      · rw [(hag c).2.1, (hag c).2.2]
      · rw [(hag c).1, (hag c).2.2]
      · rw [(hag c).1, (hag c).2.2]
      ) (Cert.Glu.Ref.run m' ρ')⟩

theorem frame_kernel3 : Cert.quiescent_Kernel3 := fun m ρ _ => Cert.Kernel3.Gen.frame m ρ
theorem frame_kernel3Ideal : Cert.quiescent_Kernel3Ideal := fun m ρ _ => Cert.Kernel3Ideal.Gen.frame m ρ
theorem frame_reference3 : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

/-- The gradients of the two factors of the input product. -/
theorem in_products : Cert.algebraic_Kernel4Ideal_Reference4Ideal := fun m ρ m' ρ' _ hag =>
  ⟨fun c => nt (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg1)),
    fun c => slabs 4 1024 rfl (tn (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg2))),
    fun c => slabs 4 1024 rfl (tn (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg2))),
    (θ_run _ _ _).mono (fun _ h c => by
      obtain ⟨k0, k1, k2, ha⟩ := h c
      exact ⟨k2, k0, k1, ha⟩) (Cert.In.run m ρ),
    (θ_run _ _ _).mono (fun _ h c => by
      obtain ⟨h0, h1, h2, ha⟩ := h c
      refine ⟨h0.trans ?_, h1.trans ?_, h2.trans ?_, ha⟩
      · rw [(hag c).2.1, (hag c).2.2]
      · rw [(hag c).1, (hag c).2.2]
      · rw [(hag c).1, (hag c).2.2]
      ) (Cert.In.Ref.run m' ρ')⟩

theorem frame_kernel4 : Cert.quiescent_Kernel4 := fun m ρ _ => Cert.Kernel4.Gen.frame m ρ
theorem frame_kernel4Ideal : Cert.quiescent_Kernel4Ideal := fun m ρ _ => Cert.Kernel4Ideal.Gen.frame m ρ
theorem frame_reference4 : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

end Cert.Proof

end
-- ==== Proof.lean ====
module

public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Gen.Pre_finite_gates
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Pre_finite_prep
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Pre_finite_mixer
public import proofs.«01_k».proof.Proof.Gen.Kernel6
public import proofs.«01_k».proof.Proof.Gen.Kernel6Ideal
public import proofs.«01_k».proof.Proof.Gen.Kernel6Ideal.Frame.RunC
public import proofs.«01_k».proof.Proof.Gen.Reference6Ideal
public import proofs.«01_k».proof.Proof.Gen.Reference6Ideal.Run
public import proofs.«01_k».proof.Proof.Gen.Pre_finite_norm
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Pre_finite_inputs
public import proofs.«01_k».proof.Proof.PoolRef
public import proofs.«01_k».proof.Proof.PoolPre
public import proofs.«01_k».proof.Proof.Same
public import proofs.«01_k».proof.Proof.NormValue
public import proofs.«01_k».proof.Proof.NormKernel
public import proofs.«01_k».proof.Proof.NormRef
public import proofs.«01_k».proof.Proof.NormPre
public import proofs.«01_k».proof.Proof.GateKernel
public import proofs.«01_k».proof.Proof.GateRef
public import proofs.«01_k».proof.Proof.GatePre
public import proofs.«01_k».proof.Proof.Mixer
public import proofs.«01_k».proof.Proof.State
public import proofs.«01_k».proof.Proof.Optimiser
public import proofs.«01_k».proof.Proof.Coefficients
public import proofs.«01_k».proof.Proof.Linear
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ _ => Cert.Kernel.Gen.frame m ρ
theorem frame_kernelIdeal : Cert.quiescent_KernelIdeal := fun m ρ _ => Cert.KernelIdeal.Gen.frame m ρ
theorem frame_kernelIdeal_finite : Cert.quiescent_KernelIdeal_pre_finite_inputs := fun m ρ _ => Cert.KernelIdeal.Gen.frame m ρ
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_reference_finite : Cert.quiescent_ReferenceIdeal_pre_finite_inputs := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The gradient of the pooling mixer's input: both programs leave the windowed sum. -/
theorem pool : Cert.algebraic_KernelIdeal_ReferenceIdeal_pre_finite_inputs := fun m ρ m' ρ' hp hag =>
  ⟨fun c => Cert.Pool.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run _ _ _).mono (fun _ h c => ⟨(h c).1.trans (Cert.Pool.arr m c), (h c).2⟩) (Cert.KernelIdeal.Value.run_blocks m ρ),
    (θ_run _ _ _).mono (fun _ h c => ⟨(h c).1.trans (by
      refine (Cert.Pool.res_eq m' c).trans ?_
      obtain ⟨⟨d, hd⟩, ⟨w, hw⟩⟩ := Cert.Pool.finite_inputs _ _ (hp c)
      show _ = Cert.Pool.G _ _
      rw [(hag c).1, (hag c).2, hd, hw]
      exact Cert.Pool.ref_eq d w), (h c).2⟩) (Cert.ReferenceIdeal.Value.run m' ρ')⟩

theorem frame_kernel5Ideal : Cert.quiescent_Kernel5Ideal := fun m ρ _ => Cert.Kernel5Ideal.Gen.Half.frame m ρ
theorem frame_kernel5Ideal_finite : Cert.quiescent_Kernel5Ideal_pre_finite_gates := fun m ρ _ => Cert.Kernel5Ideal.Gen.Half.frame m ρ
theorem frame_reference5 : Cert.quiescent_Reference5Ideal := fun m ρ _ =>
  (θ_run Cert.Reference5Ideal.defs _ _).mono (fun r h => ⟨fun c => (h c).2.2.2.2.2, sem_eq_zero_of_no_sems (by decide) r.2⟩)
    (Cert.Gate.ref_run m ρ)
theorem frame_reference5_finite : Cert.quiescent_Reference5Ideal_pre_finite_gates := fun m ρ _ =>
  (θ_run Cert.Reference5Ideal.defs _ _).mono (fun r h => ⟨fun c => (h c).2.2.2.2.2, sem_eq_zero_of_no_sems (by decide) r.2⟩)
    (Cert.Gate.ref_run m ρ)

open Cert.Gate in
/-- The gradients of the gates: both programs leave the gradients of the pooled rows, of the three gates' rows, of the
    rows under the linear unit, and of the pooling's scale. -/
theorem gates : Cert.algebraic_Kernel5Ideal_Reference5Ideal_pre_finite_gates := fun m ρ m' ρ' hp hag =>
  ⟨fun c => gMix (aD m c) (aP m c) (aS m c), fun c => gPool (aD m c) (aU m c) (aP m c) (aS m c),
    fun c => gSsm (aD m c) (aH m c) (aP m c), fun c => gGlu (aD m c) (aH m c) (aP m c), fun c => gScale (aD m c) (aU m c) (aP m c),
    Cert.Gate.run_blocks m ρ,
    (θ_run _ _ _).mono (fun _ h c => by
      obtain ⟨hd, hu, hh, hs⟩ := finite_gates _ _ _ _ _ (hp c)
      obtain ⟨h1, h2, h3, h4, h5, h6⟩ := h c
      obtain ⟨e0, e1, e2, e3, e4⟩ := hag c
      rw [e0, e2, e4] at h1
      rw [e0, e1, e2, e4] at h2
      rw [e0, e2, e3] at h3 h4
      rw [e0, e1, e2] at h5
      exact ⟨h1.trans (rMix_eq _ _ _), h2.trans (rPool_eq _ _ _ _ hd hu hs), h3.trans (rSsm_eq _ _ _ hd hh),
        h4.trans (rGlu_eq _ _ _), h5.trans (rScale_eq _ _ _), h6⟩) (ref_run m' ρ')⟩

theorem frame_kernel6Ideal : Cert.quiescent_Kernel6Ideal := fun m ρ _ => Cert.Kernel6Ideal.Gen.frame m ρ
theorem frame_kernel6Ideal_finite : Cert.quiescent_Kernel6Ideal_pre_finite_norm := fun m ρ _ => Cert.Kernel6Ideal.Gen.frame m ρ
theorem frame_reference6 : Cert.quiescent_Reference6Ideal := fun m ρ _ =>
  (θ_run Cert.Reference6Ideal.defs _ _).mono (fun r h => ⟨fun c => (h c).2.2, sem_eq_zero_of_no_sems (by decide) r.2⟩)
    (Cert.Norm.ref_run m ρ)
theorem frame_reference6_finite : Cert.quiescent_Reference6Ideal_pre_finite_norm := fun m ρ _ =>
  (θ_run Cert.Reference6Ideal.defs _ _).mono (fun r h => ⟨fun c => (h c).2.2, sem_eq_zero_of_no_sems (by decide) r.2⟩)
    (Cert.Norm.ref_run m ρ)

/-- The gradients of the first norm: both programs leave the rows' gradient and the gain's. -/
theorem norm : Cert.algebraic_Kernel6Ideal_Reference6Ideal_pre_finite_norm := fun m ρ m' ρ' hp hag =>
  ⟨fun c => Cert.Norm.dx (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3)),
    fun c => Cert.Norm.dgain (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1)),
    (θ_run _ _ _).mono (fun _ h c => ⟨(h c).1.trans (Cert.Norm.arr_rows m c), (h c).2.1.trans (Cert.Norm.arr_gain m c), (h c).2.2⟩)
      (Cert.Kernel6Ideal.Value.run_blocks m ρ),
    (θ_run _ _ _).mono (fun _ h c => ⟨(h c).1.trans (by
      obtain ⟨hx, hd, hg⟩ := Cert.Norm.finite_norm _ _ _ _ (hp c)
      rw [(hag c).1, (hag c).2.1, (hag c).2.2.1, (hag c).2.2.2]
      exact Cert.Norm.refX_eq _ _ _ _ hx hd hg), (h c).2.1.trans (by
      rw [(hag c).1, (hag c).2.1]
      exact Cert.Norm.refS_eq _ _), (h c).2.2⟩) (Cert.Norm.ref_run m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_finite_inputs.Gen.facts, Cert.Pre_finite_gates.Gen.facts, Cert.Pre_finite_norm.Gen.facts, Cert.Pre_finite_mixer.Gen.facts, Cert.Pre_finite_prep.Gen.facts,
  frame_kernel, frame_kernelIdeal, frame_kernelIdeal_finite, frame_reference, frame_reference_finite,
  frame_kernel2, frame_kernel2Ideal, frame_reference2, frame_kernel3, frame_kernel3Ideal, frame_reference3,
  frame_kernel4, frame_kernel4Ideal, frame_reference4,
  frame_kernel5, frame_kernel5Ideal, frame_kernel5Ideal_finite, frame_reference5, frame_reference5_finite,
  frame_kernel6, frame_kernel6Ideal, frame_kernel6Ideal_finite, frame_reference6, frame_reference6_finite,
  frame_kernel7, frame_kernel7Ideal, frame_kernel7Ideal_finite, frame_reference7, frame_reference7_finite,
  frame_kernel8, frame_kernel8Ideal, frame_kernel8Ideal_finite, frame_reference8, frame_reference8_finite,
  frame_kernel9, frame_kernel9Ideal, frame_reference9, frame_kernel10, frame_kernel10Ideal, frame_reference10,
  trivial, pool, trivial, out_products, trivial, glu_products, trivial, in_products, trivial, gates, trivial, norm,
  trivial, mixer, trivial, state, trivial, adamw, trivial, hold⟩

end Cert.Proof

end
